-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_v173) = v1 c
          ∧ r.2.mem ((c.tc : Thread Cert.ReferenceIdeal.nD Cert.ReferenceIdeal.τ).loc Cert.ReferenceIdeal.main_v174) = v2 c
          ∧ r.2.mem ((c.tc : Thread Cert.ReferenceIdeal.nD Cert.ReferenceIdeal.τ).loc Cert.ReferenceIdeal.main_v177) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_v8) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v3_0)) (v1 : (c : Dev Cert.Kernel14Ideal.nD) → Buf (Elt Ideal) ((c.tc : Thread Cert.Kernel14Ideal.nD Cert.Kernel14Ideal.τ).loc Cert.Kernel14Ideal.main_v3_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3_0) = v0 c
          ∧ r.2.mem ((c.tc : Thread Cert.Kernel14Ideal.nD Cert.Kernel14Ideal.τ).loc Cert.Kernel14Ideal.main_v3_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_v17) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v3_0)) (v1 : (c : Dev Cert.Kernel15Ideal.nD) → Buf (Elt Ideal) ((c.tc : Thread Cert.Kernel15Ideal.nD Cert.Kernel15Ideal.τ).loc Cert.Kernel15Ideal.main_v3_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v3_0) = v0 c
          ∧ r.2.mem ((c.tc : Thread Cert.Kernel15Ideal.nD Cert.Kernel15Ideal.τ).loc Cert.Kernel15Ideal.main_v3_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_v15) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v3_0)) (v1 : (c : Dev Cert.Kernel16Ideal.nD) → Buf (Elt Ideal) ((c.tc : Thread Cert.Kernel16Ideal.nD Cert.Kernel16Ideal.τ).loc Cert.Kernel16Ideal.main_v3_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v3_0) = v0 c
          ∧ r.2.mem ((c.tc : Thread Cert.Kernel16Ideal.nD Cert.Kernel16Ideal.τ).loc Cert.Kernel16Ideal.main_v3_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_v15) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v0) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v3_0)) (v1 : (c : Dev Cert.Kernel19Ideal.nD) → Buf (Elt Ideal) ((c.tc : Thread Cert.Kernel19Ideal.nD Cert.Kernel19Ideal.τ).loc Cert.Kernel19Ideal.main_v3_1)) (v2 : (c : Dev Cert.Kernel19Ideal.nD) → Buf (Elt Ideal) ((c.tc : Thread Cert.Kernel19Ideal.nD Cert.Kernel19Ideal.τ).loc Cert.Kernel19Ideal.main_v3_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v3_0) = v0 c
          ∧ r.2.mem ((c.tc : Thread Cert.Kernel19Ideal.nD Cert.Kernel19Ideal.τ).loc Cert.Kernel19Ideal.main_v3_1) = v1 c
          ∧ r.2.mem ((c.tc : Thread Cert.Kernel19Ideal.nD Cert.Kernel19Ideal.τ).loc Cert.Kernel19Ideal.main_v3_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_v3) = v1 c
          ∧ r.2.mem ((c.tc : Thread Cert.Reference19Ideal.nD Cert.Reference19Ideal.τ).loc Cert.Reference19Ideal.main_v6) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v1_0)) (v1 : (c : Dev Cert.Kernel21Ideal.nD) → Buf (Elt Ideal) ((c.tc : Thread Cert.Kernel21Ideal.nD Cert.Kernel21Ideal.τ).loc Cert.Kernel21Ideal.main_v1_1)) (v2 : (c : Dev Cert.Kernel21Ideal.nD) → Buf (Elt Ideal) ((c.tc : Thread Cert.Kernel21Ideal.nD Cert.Kernel21Ideal.τ).loc Cert.Kernel21Ideal.main_v1_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v1_0) = v0 c
          ∧ r.2.mem ((c.tc : Thread Cert.Kernel21Ideal.nD Cert.Kernel21Ideal.τ).loc Cert.Kernel21Ideal.main_v1_1) = v1 c
          ∧ r.2.mem ((c.tc : Thread Cert.Kernel21Ideal.nD Cert.Kernel21Ideal.τ).loc Cert.Kernel21Ideal.main_v1_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v36) = v0 c
          ∧ r.2.mem ((c.tc : Thread Cert.Reference21Ideal.nD Cert.Reference21Ideal.τ).loc Cert.Reference21Ideal.main_v39) = v1 c
          ∧ r.2.mem ((c.tc : Thread Cert.Reference21Ideal.nD Cert.Reference21Ideal.τ).loc Cert.Reference21Ideal.main_v40) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v13) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v79) = v0 c
          ∧ r.2.mem ((c.tc : Thread Cert.Reference23Ideal.nD Cert.Reference23Ideal.τ).loc Cert.Reference23Ideal.main_v76) = v1 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v31) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v1_0)) (v1 : (c : Dev Cert.Kernel25Ideal.nD) → Buf (Elt Ideal) ((c.tc : Thread Cert.Kernel25Ideal.nD Cert.Kernel25Ideal.τ).loc Cert.Kernel25Ideal.main_v1_1)) (v2 : (c : Dev Cert.Kernel25Ideal.nD) → Buf (Elt Ideal) ((c.tc : Thread Cert.Kernel25Ideal.nD Cert.Kernel25Ideal.τ).loc Cert.Kernel25Ideal.main_v1_2)) (v3 : (c : Dev Cert.Kernel25Ideal.nD) → Buf (Elt Ideal) ((c.tc : Thread Cert.Kernel25Ideal.nD Cert.Kernel25Ideal.τ).loc Cert.Kernel25Ideal.main_v1_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v1_0) = v0 c
          ∧ r.2.mem ((c.tc : Thread Cert.Kernel25Ideal.nD Cert.Kernel25Ideal.τ).loc Cert.Kernel25Ideal.main_v1_1) = v1 c
          ∧ r.2.mem ((c.tc : Thread Cert.Kernel25Ideal.nD Cert.Kernel25Ideal.τ).loc Cert.Kernel25Ideal.main_v1_2) = v2 c
          ∧ r.2.mem ((c.tc : Thread Cert.Kernel25Ideal.nD Cert.Kernel25Ideal.τ).loc Cert.Kernel25Ideal.main_v1_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v1) = v0 c
          ∧ r.2.mem ((c.tc : Thread Cert.Reference25Ideal.nD Cert.Reference25Ideal.τ).loc Cert.Reference25Ideal.main_v25) = v1 c
          ∧ r.2.mem ((c.tc : Thread Cert.Reference25Ideal.nD Cert.Reference25Ideal.τ).loc Cert.Reference25Ideal.main_v6) = v2 c
          ∧ r.2.mem ((c.tc : Thread Cert.Reference25Ideal.nD Cert.Reference25Ideal.τ).loc Cert.Reference25Ideal.main_v12) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
-- ==== Pre_finite.lean ====
abbrev S4x2048x4608 : Shape := ⟨3, ![4, 2048, 4608]⟩
abbrev S8x128x256 : Shape := ⟨3, ![8, 128, 256]⟩
abbrev S4x2048x512 : Shape := ⟨3, ![4, 2048, 512]⟩
abbrev S_ : Shape := ⟨0, ![]⟩

class Facts : Prop where
  bcast_S_S4x2048x4608 : S_.BroadcastsInDim S4x2048x4608 (![] : Fin 0 → Fin S4x2048x4608.rank)
  bcast_S_S8x128x256 : S_.BroadcastsInDim S8x128x256 (![] : Fin 0 → Fin S8x128x256.rank)
  bcast_S_S4x2048x512 : S_.BroadcastsInDim S4x2048x512 (![] : Fin 0 → Fin S4x2048x512.rank)

variable [Facts]

def fn {F : FTy → Type} [FloatOps F] (main_arg0 : FVec F S4x2048x4608 .f32) (main_arg1 : FVec F S8x128x256 .f32) (main_arg2 : FVec F S4x2048x512 .f32) (main_arg3 : FVec F S4x2048x512 .f32) : IVec S4x2048x4608 1 × IVec S8x128x256 1 × IVec S4x2048x512 1 × IVec S4x2048x512 1 :=
  let main_v0 : FVec F S4x2048x4608 .f32 := Host.absf main_arg0
  let main_cst : FVec F S_ .f32 := constant S_ .f32 0x7F800000#32
  let main_v1 : FVec F S4x2048x4608 .f32 := broadcastInDim S4x2048x4608 ![] bcast_S_S4x2048x4608 main_cst
  let main_v2 : IVec S4x2048x4608 1 := cmpf .olt main_v0 main_v1
  let main_v3 : FVec F S8x128x256 .f32 := Host.absf main_arg1
  let main_cst_0 : FVec F S_ .f32 := constant S_ .f32 0x7F800000#32
  let main_v4 : FVec F S8x128x256 .f32 := broadcastInDim S8x128x256 ![] bcast_S_S8x128x256 main_cst_0
  let main_v5 : IVec S8x128x256 1 := cmpf .olt main_v3 main_v4
  let main_v6 : FVec F S4x2048x512 .f32 := Host.absf main_arg2
  let main_cst_1 : FVec F S_ .f32 := constant S_ .f32 0x7F800000#32
  let main_v7 : FVec F S4x2048x512 .f32 := broadcastInDim S4x2048x512 ![] bcast_S_S4x2048x512 main_cst_1
  let main_v8 : IVec S4x2048x512 1 := cmpf .olt main_v6 main_v7
  let main_v9 : FVec F S4x2048x512 .f32 := Host.absf main_arg3
  let main_cst_2 : FVec F S_ .f32 := constant S_ .f32 0x7F800000#32
  let main_v10 : FVec F S4x2048x512 .f32 := broadcastInDim S4x2048x512 ![] bcast_S_S4x2048x512 main_cst_2
  let main_v11 : IVec S4x2048x512 1 := cmpf .olt main_v9 main_v10
  (main_v2, main_v5, main_v8, main_v11)
-- ==== Kernel.lean ====
abbrev S4x2048x4608 : Shape := ⟨3, ![4, 2048, 4608]⟩
abbrev S8x128x256 : Shape := ⟨3, ![8, 128, 256]⟩
abbrev S4x2048x512 : Shape := ⟨3, ![4, 2048, 512]⟩
abbrev S4x2x128x256 : Shape := ⟨4, ![4, 2, 128, 256]⟩
abbrev S4x128x2x256 : Shape := ⟨4, ![4, 128, 2, 256]⟩
abbrev S4x128x512 : Shape := ⟨3, ![4, 128, 512]⟩
abbrev S1x128x512 : Shape := ⟨3, ![1, 128, 512]⟩
abbrev S128x512 : Shape := ⟨2, ![128, 512]⟩
abbrev S1x128x128 : Shape := ⟨3, ![1, 128, 128]⟩
abbrev S128x128 : Shape := ⟨2, ![128, 128]⟩
abbrev S256x128 : Shape := ⟨2, ![256, 128]⟩
abbrev S512x128 : Shape := ⟨2, ![512, 128]⟩
abbrev S128x256 : Shape := ⟨2, ![128, 256]⟩
abbrev S128 : Shape := ⟨1, ![128]⟩
abbrev S128x1 : Shape := ⟨2, ![128, 1]⟩

abbrev nBuf : Space → Nat
  | .hbm => 11
  | .vmem => 24
  | .smem => 0
  | _ => 0

abbrev bufTy : (tb : Table) → Fin (tcTables nBuf tb) → BufTy
  | .hbm, ⟨0, _⟩ => ⟨S4x2048x4608, .f32⟩
  | .hbm, ⟨1, _⟩ => ⟨S8x128x256, .f32⟩
  | .hbm, ⟨2, _⟩ => ⟨S4x2048x512, .f32⟩
  | .hbm, ⟨3, _⟩ => ⟨S4x2048x512, .f32⟩
  | .hbm, ⟨4, _⟩ => ⟨S4x2x128x256, .f32⟩
  | .hbm, ⟨5, _⟩ => ⟨S4x128x2x256, .f32⟩
  | .hbm, ⟨6, _⟩ => ⟨S4x128x512, .f32⟩
  | .hbm, ⟨7, _⟩ => ⟨S4x2048x512, .f32⟩
  | .hbm, ⟨8, _⟩ => ⟨S4x2048x512, .f32⟩
  | .hbm, ⟨9, _⟩ => ⟨S4x2048x512, .f32⟩
  | .hbm, ⟨10, _⟩ => ⟨S4x128x512, .f32⟩
  | .local _ .vmem, ⟨0, _⟩ => ⟨S1x128x512, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1x128x512, .f32⟩
  | .local _ .vmem, ⟨7, _⟩ => ⟨S1x128x512, .f32⟩
  | .local _ .vmem, ⟨8, _⟩ => ⟨S1x128x512, .f32⟩
  | .local _ .vmem, ⟨9, _⟩ => ⟨S1x128x512, .f32⟩
  | .local _ .vmem, ⟨10, _⟩ => ⟨S4x128x512, .f32⟩
  | .local _ .vmem, ⟨11, _⟩ => ⟨S1x128x512, .f32⟩
  | .local _ .vmem, ⟨12, _⟩ => ⟨S1x128x512, .f32⟩
  | .local _ .vmem, ⟨13, _⟩ => ⟨S1x128x512, .f32⟩
  | .local _ .vmem, ⟨14, _⟩ => ⟨S1x128x512, .f32⟩
  | .local _ .vmem, ⟨15, _⟩ => ⟨S1x128x512, .f32⟩
  | .local _ .vmem, ⟨16, _⟩ => ⟨S1x128x512, .f32⟩
  | .local _ .vmem, ⟨17, _⟩ => ⟨S1x128x512, .f32⟩
  | .local _ .vmem, ⟨18, _⟩ => ⟨S1x128x512, .f32⟩
  | .local _ .vmem, ⟨19, _⟩ => ⟨S1x128x512, .f32⟩
  | .local _ .vmem, ⟨20, _⟩ => ⟨S1x128x512, .f32⟩
  | .local _ .vmem, ⟨21, _⟩ => ⟨S4x128x512, .f32⟩
  | .local _ .vmem, ⟨22, _⟩ => ⟨S128x512, .f32⟩
  | .local _ .vmem, ⟨23, _⟩ => ⟨S128x512, .f32⟩
  | _, _ => ⟨S4x2048x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21

abbrev nD : Nat := 1
abbrev τ : Topo := Topo.v7x

variable {F : FTy → Type} [FloatOps F]

abbrev grid0 : Pipeline.Grid := ⟨3, ![4, 1, 17], ![false, false, false]⟩

def k0_cond3 (i : grid0.Coords) : BitVec 1 :=
  let arg2 : BitVec 32 := BitVec.ofNat 32 (i 2).val
  let c16_i32 : BitVec 32 := 16#32
  let v10 : BitVec 1 := Scalar.cmpi .slt arg2 c16_i32
  let v11 : BitVec 32 := Scalar.extui v10
  let c0_i32_5 : BitVec 32 := 0#32
  let v12 : BitVec 1 := Scalar.cmpi .ne v11 c0_i32_5
  v12

def k0_off1 (i : grid0.Coords) (c0_i32_30 : BitVec 32) : Fin 3 → Nat :=
  let arg1 : BitVec 32 := BitVec.ofNat 32 (i 1).val
  let c4_i32 : BitVec 32 := 4#32
  let v61 : BitVec 32 := Scalar.muli arg1 c4_i32
  let v62 : BitVec 32 := Scalar.addi v61 c0_i32_30
  let v63 : Index := Scalar.indexCast v62
  let c0_31 : Index := 0#32
  let c0_32 : Index := 0#32
  ![v63.toNat, 0, 0]
def k0_cond4 (i : grid0.Coords) : BitVec 1 :=
  let arg2 : BitVec 32 := BitVec.ofNat 32 (i 2).val
  let c16_i32_6 : BitVec 32 := 16#32
  let v13 : BitVec 1 := Scalar.cmpi .eq arg2 c16_i32_6
  let v14 : BitVec 32 := Scalar.extui v13
  let c0_i32_7 : BitVec 32 := 0#32
  let v15 : BitVec 1 := Scalar.cmpi .ne v14 c0_i32_7
  v15

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let arg2 : BitVec 32 := BitVec.ofNat 32 (i 2).val
  let c0_i32_1 : BitVec 32 := 0#32
  let v3 : BitVec 1 := Scalar.cmpi .eq arg2 c0_i32_1
  let v4 : BitVec 1 := Scalar.andi v2 v3
  let v5 : BitVec 32 := Scalar.extui v4
  let c0_i32_2 : BitVec 32 := 0#32
  let v6 : BitVec 1 := Scalar.cmpi .ne v5 c0_i32_2
  v6

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.minsi arg2 c15_i32
  let c0_i32 : BitVec 32 := 0#32
  let v1 : BitVec 32 := Scalar.addi c0_i32 arg1
  let c0_i32_0 : BitVec 32 := 0#32
  ![arg0.toNat, v0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let c15_i32 : BitVec 32 := 15#32
  let v1 : BitVec 32 := Scalar.maxsi c0_i32 v0
  let v2 : BitVec 32 := Scalar.minsi c15_i32 v1
  let c1_i32_0 : BitVec 32 := 1#32
  let v3 : BitVec 32 := Scalar.addi c1_i32_0 arg1
  let c0_i32_1 : BitVec 32 := 0#32
  ![arg0.toNat, v2.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.minsi arg2 c15_i32
  let c1_i32 : BitVec 32 := 1#32
  let v1 : BitVec 32 := Scalar.addi c1_i32 arg1
  let c0_i32 : BitVec 32 := 0#32
  ![arg0.toNat, v0.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let c15_i32 : BitVec 32 := 15#32
  let v1 : BitVec 32 := Scalar.maxsi c0_i32 v0
  let v2 : BitVec 32 := Scalar.minsi c15_i32 v1
  let c2_i32 : BitVec 32 := 2#32
  let v3 : BitVec 32 := Scalar.addi c2_i32 arg1
  let c0_i32_0 : BitVec 32 := 0#32
  ![arg0.toNat, v2.toNat, v3.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.minsi arg2 c15_i32
  let c2_i32 : BitVec 32 := 2#32
  let v1 : BitVec 32 := Scalar.addi c2_i32 arg1
  let c0_i32 : BitVec 32 := 0#32
  ![arg0.toNat, v0.toNat, v1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.minsi arg2 c15_i32
  let c0_i32 : BitVec 32 := 0#32
  ![arg0.toNat, v0.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.minsi arg2 c15_i32
  let c0_i32 : BitVec 32 := 0#32
  ![arg0.toNat, v0.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.minsi arg2 c15_i32
  let c0_i32 : BitVec 32 := 0#32
  ![arg0.toNat, v0.toNat, arg1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  ![arg0.toNat, v2.toNat, arg1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  ![arg0.toNat, v2.toNat, arg1.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S4x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 1 → Memref sig .tc .vmem S4x128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]
-- ==== KernelIdeal.lean ====
variable {F : FTy → Type} [FloatOps F] [Named F]
def κ : String → Option EReal := fun
  | "mask" => some ⊥
  | _ => none
-- ==== ReferenceIdeal.lean ====
abbrev S4x2048x4608 : Shape := ⟨3, ![4, 2048, 4608]⟩
abbrev S8x128x256 : Shape := ⟨3, ![8, 128, 256]⟩
abbrev S4x2048x512 : Shape := ⟨3, ![4, 2048, 512]⟩
abbrev S4x2048x3x3x8x64 : Shape := ⟨6, ![4, 2048, 3, 3, 8, 64]⟩
abbrev S4x2048x1x1x8x64 : Shape := ⟨6, ![4, 2048, 1, 1, 8, 64]⟩
abbrev S4x2048x8x64 : Shape := ⟨4, ![4, 2048, 8, 64]⟩
abbrev S4x2048x1x8x64 : Shape := ⟨5, ![4, 2048, 1, 8, 64]⟩
abbrev S4x1x2048x8x64 : Shape := ⟨5, ![4, 1, 2048, 8, 64]⟩
abbrev S4x1x16x128x8x64 : Shape := ⟨6, ![4, 1, 16, 128, 8, 64]⟩
abbrev S4x1x1x128x8x64 : Shape := ⟨6, ![4, 1, 1, 128, 8, 64]⟩
abbrev S_ : Shape := ⟨0, ![]⟩
abbrev S4x1x15x128x8x64 : Shape := ⟨6, ![4, 1, 15, 128, 8, 64]⟩
abbrev S4x1x16x256x8x64 : Shape := ⟨6, ![4, 1, 16, 256, 8, 64]⟩
abbrev S4x1x16x8x128x256 : Shape := ⟨6, ![4, 1, 16, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S1x1x1x8x128x256 : Shape := ⟨6, ![1, 1, 1, 8, 128, 256]⟩
abbrev S16 : Shape := ⟨1, ![16]⟩
abbrev S16x1 : Shape := ⟨2, ![16, 1]⟩
abbrev S16x256 : Shape := ⟨2, ![16, 256]⟩
abbrev S1x128x256 : Shape := ⟨3, ![1, 128, 256]⟩
abbrev S16x1x256 : Shape := ⟨3, ![16, 1, 256]⟩
abbrev S16x128x256 : Shape := ⟨3, ![16, 128, 256]⟩
abbrev S16x1x128x256 : Shape := ⟨4, ![16, 1, 128, 256]⟩
abbrev S4x1x16x8x128 : Shape := ⟨5, ![4, 1, 16, 8, 128]⟩
abbrev S4x1x16x8x128x1 : Shape := ⟨6, ![4, 1, 16, 8, 128, 1]⟩
abbrev S4x1x16x8x64x128 : Shape := ⟨6, ![4, 1, 16, 8, 64, 128]⟩
abbrev S4x1x16x128x8 : Shape := ⟨5, ![4, 1, 16, 128, 8]⟩
abbrev S4x1x16x128x8x1 : Shape := ⟨6, ![4, 1, 16, 128, 8, 1]⟩
abbrev S4x1x2048x8 : Shape := ⟨4, ![4, 1, 2048, 8]⟩
abbrev S4x2048x1x8 : Shape := ⟨4, ![4, 2048, 1, 8]⟩
abbrev S4x2048x8 : Shape := ⟨3, ![4, 2048, 8]⟩
abbrev S4x2048x8x1 : Shape := ⟨4, ![4, 2048, 8, 1]⟩
abbrev S4x16x128x8 : Shape := ⟨4, ![4, 16, 128, 8]⟩
abbrev S4x1x16x8x64x256 : Shape := ⟨6, ![4, 1, 16, 8, 64, 256]⟩
abbrev S4x16x8x128 : Shape := ⟨4, ![4, 16, 8, 128]⟩
abbrev S1x8x128x256 : Shape := ⟨4, ![1, 8, 128, 256]⟩
abbrev S4x1x16x8x256x64 : Shape := ⟨6, ![4, 1, 16, 8, 256, 64]⟩
abbrev S4x1x16x8x128x64 : Shape := ⟨6, ![4, 1, 16, 8, 128, 64]⟩
abbrev S4x2x128x256 : Shape := ⟨4, ![4, 2, 128, 256]⟩
abbrev S4x128x2x256 : Shape := ⟨4, ![4, 128, 2, 256]⟩
abbrev S4x128x512 : Shape := ⟨3, ![4, 128, 512]⟩

abbrev nBuf : Space → Nat
  | .hbm => 216
  | .vmem => 0
  | .smem => 0
  | _ => 0

abbrev hbmTy0_0 (i : Nat) : BufTy := match i % 128 with
  | 0 => ⟨S4x2048x4608, .f32⟩
  | 1 => ⟨S8x128x256, .f32⟩
  | 2 => ⟨S4x2048x512, .f32⟩
  | 3 => ⟨S4x2048x512, .f32⟩
  | 4 => ⟨S4x2048x3x3x8x64, .f32⟩
  | 5 => ⟨S4x2048x1x1x8x64, .f32⟩
  | 6 => ⟨S4x2048x8x64, .f32⟩
  | 7 => ⟨S4x2048x1x1x8x64, .f32⟩
  | 8 => ⟨S4x2048x8x64, .f32⟩
  | 9 => ⟨S4x2048x1x1x8x64, .f32⟩
  | 10 => ⟨S4x2048x8x64, .f32⟩
  | 11 => ⟨S4x2048x1x8x64, .f32⟩
  | 12 => ⟨S4x1x2048x8x64, .f32⟩
  | 13 => ⟨S4x1x16x128x8x64, .f32⟩
  | 14 => ⟨S4x2048x1x8x64, .f32⟩
  | 15 => ⟨S4x1x2048x8x64, .f32⟩
  | 16 => ⟨S4x1x16x128x8x64, .f32⟩
  | 17 => ⟨S4x1x1x128x8x64, .f32⟩
  | 18 => ⟨S_, .f32⟩
  | 19 => ⟨S4x1x1x128x8x64, .f32⟩
  | 20 => ⟨S4x1x15x128x8x64, .f32⟩
  | 21 => ⟨S4x1x16x128x8x64, .f32⟩
  | 22 => ⟨S_, .f32⟩
  | 23 => ⟨S4x1x1x128x8x64, .f32⟩
  | 24 => ⟨S4x1x16x256x8x64, .f32⟩
  | 25 => ⟨S4x2048x1x8x64, .f32⟩
  | 26 => ⟨S4x1x2048x8x64, .f32⟩
  | 27 => ⟨S4x1x16x128x8x64, .f32⟩
  | 28 => ⟨S4x1x1x128x8x64, .f32⟩
  | 29 => ⟨S_, .f32⟩
  | 30 => ⟨S4x1x1x128x8x64, .f32⟩
  | 31 => ⟨S4x1x15x128x8x64, .f32⟩
  | 32 => ⟨S4x1x16x128x8x64, .f32⟩
  | 33 => ⟨S_, .f32⟩
  | 34 => ⟨S4x1x1x128x8x64, .f32⟩
  | 35 => ⟨S4x1x16x256x8x64, .f32⟩
  | 36 => ⟨S4x1x16x8x128x256, .f32⟩
  | 37 => ⟨S_, .f32⟩
  | 38 => ⟨S4x1x16x8x128x256, .f32⟩
  | 39 => ⟨S4x1x16x8x128x256, .f32⟩
  | 40 => ⟨S128, .i32⟩
  | 41 => ⟨S128x1, .i32⟩
  | 42 => ⟨S256, .i32⟩
  | 43 => ⟨S1x256, .i32⟩
  | 44 => ⟨S_, .i32⟩
  | 45 => ⟨S128x1, .i32⟩
  | 46 => ⟨S128x1, .i32⟩
  | 47 => ⟨S128x256, .i32⟩
  | 48 => ⟨S128x256, .i32⟩
  | 49 => ⟨S128x256, .i32⟩
  | 50 => ⟨S1x1x1x8x128x256, .f32⟩
  | 51 => ⟨S4x1x16x8x128x256, .f32⟩
  | 52 => ⟨S4x1x16x8x128x256, .f32⟩
  | 53 => ⟨S16, .i32⟩
  | 54 => ⟨S16x1, .i32⟩
  | 55 => ⟨S_, .i32⟩
  | 56 => ⟨S16x1, .i32⟩
  | 57 => ⟨S16x1, .i32⟩
  | 58 => ⟨S16x256, .i32⟩
  | 59 => ⟨S16x256, .i32⟩
  | 60 => ⟨S16x256, .i32⟩
  | 61 => ⟨S_, .i32⟩
  | 62 => ⟨S16x256, .i32⟩
  | 63 => ⟨S16x256, .i32⟩
  | 64 => ⟨S_, .i32⟩
  | 65 => ⟨S128x256, .i32⟩
  | 66 => ⟨S128x256, .i1⟩
  | 67 => ⟨S_, .i32⟩
  | 68 => ⟨S128x256, .i32⟩
  | 69 => ⟨S128x256, .i1⟩
  | 70 => ⟨S128x256, .i1⟩
  | 71 => ⟨S1x128x256, .i1⟩
  | 72 => ⟨S_, .i32⟩
  | 73 => ⟨S16x256, .i32⟩
  | 74 => ⟨S16x256, .i1⟩
  | 75 => ⟨S16x1x256, .i1⟩
  | 76 => ⟨S16x128x256, .i1⟩
  | 77 => ⟨S16x128x256, .i1⟩
  | 78 => ⟨S16x128x256, .i1⟩
  | 79 => ⟨S16x1x128x256, .i1⟩
  | 80 => ⟨S_, .f32⟩
  | 81 => ⟨S_, .f32⟩
  | 82 => ⟨S4x1x16x8x128x256, .i1⟩
  | 83 => ⟨S4x1x16x8x128x256, .f32⟩
  | 84 => ⟨S4x1x16x8x128x256, .f32⟩
  | 85 => ⟨S_, .f32⟩
  | 86 => ⟨S4x1x16x8x128x256, .f32⟩
  | 87 => ⟨S_, .f32⟩
  | 88 => ⟨S4x1x16x8x128, .f32⟩
  | 89 => ⟨S4x1x16x8x128x1, .f32⟩
  | 90 => ⟨S4x1x16x8x128x256, .f32⟩
  | 91 => ⟨S4x1x16x8x128x256, .i1⟩
  | 92 => ⟨S4x1x16x8x128x256, .f32⟩
  | 93 => ⟨S_, .f32⟩
  | 94 => ⟨S4x1x16x8x128, .f32⟩
  | 95 => ⟨S4x1x16x8x128x1, .f32⟩
  | 96 => ⟨S4x1x16x8x128x256, .f32⟩
  | 97 => ⟨S4x1x16x8x128x256, .f32⟩
  | 98 => ⟨S4x1x16x8x128x256, .f32⟩
  | 99 => ⟨S_, .f32⟩
  | 100 => ⟨S4x1x16x8x128, .f32⟩
  | 101 => ⟨S4x1x16x8x64x128, .f32⟩
  | 102 => ⟨S4x1x16x128x8x64, .f32⟩
  | 103 => ⟨S4x1x16x128x8, .f32⟩
  | 104 => ⟨S4x1x16x128x8x1, .f32⟩
  | 105 => ⟨S4x1x16x128x8x64, .f32⟩
  | 106 => ⟨S4x1x16x128x8x64, .f32⟩
  | 107 => ⟨S4x1x16x128x8x1, .f32⟩
  | 108 => ⟨S_, .f32⟩
  | 109 => ⟨S4x1x16x128x8x1, .f32⟩
  | 110 => ⟨S4x1x16x128x8x1, .f32⟩
  | 111 => ⟨S4x1x16x8x128, .f32⟩
  | 112 => ⟨S4x1x16x8x128, .f32⟩
  | 113 => ⟨S4x1x16x8x128, .f32⟩
  | 114 => ⟨S4x1x2048x8x64, .f32⟩
  | 115 => ⟨S4x2048x1x8x64, .f32⟩
  | 116 => ⟨S4x2048x8x64, .f32⟩
  | 117 => ⟨S4x1x16x128x8, .f32⟩
  | 118 => ⟨S4x1x2048x8, .f32⟩
  | 119 => ⟨S4x2048x1x8, .f32⟩
  | 120 => ⟨S4x2048x8, .f32⟩
  | 121 => ⟨S4x2048x8x1, .f32⟩
  | 122 => ⟨S4x2048x8x64, .f32⟩
  | 123 => ⟨S4x2048x8x64, .f32⟩
  | 124 => ⟨S4x2048x8x64, .f32⟩
  | 125 => ⟨S_, .f32⟩
  | 126 => ⟨S4x2048x8, .f32⟩
  | 127 => ⟨S4x2048x8x1, .f32⟩
  | _ => ⟨S4x2048x4608, .f32⟩

abbrev hbmTy0_1 (i : Nat) : BufTy := match i % 128 with
  | 0 => ⟨S_, .f32⟩
  | 1 => ⟨S4x2048x8, .f32⟩
  | 2 => ⟨S4x2048x1x8, .f32⟩
  | 3 => ⟨S4x1x2048x8, .f32⟩
  | 4 => ⟨S4x1x16x128x8, .f32⟩
  | 5 => ⟨S4x1x16x8x128, .f32⟩
  | 6 => ⟨S4x2048x1x8x64, .f32⟩
  | 7 => ⟨S4x1x2048x8x64, .f32⟩
  | 8 => ⟨S4x1x16x128x8x64, .f32⟩
  | 9 => ⟨S4x1x16x8x128, .f32⟩
  | 10 => ⟨S4x1x16x8x128x1, .f32⟩
  | 11 => ⟨S4x1x16x128x8x64, .f32⟩
  | 12 => ⟨S4x1x16x128x8x64, .f32⟩
  | 13 => ⟨S4x1x16x128x8x64, .f32⟩
  | 14 => ⟨S_, .f32⟩
  | 15 => ⟨S4x1x16x128x8, .f32⟩
  | 16 => ⟨S4x1x16x128x8x1, .f32⟩
  | 17 => ⟨S4x1x16x128x8x1, .f32⟩
  | 18 => ⟨S4x1x16x128x8x64, .f32⟩
  | 19 => ⟨S4x1x16x128x8x64, .f32⟩
  | 20 => ⟨S_, .f32⟩
  | 21 => ⟨S4x16x128x8, .f32⟩
  | 22 => ⟨S4x1x16x128x8, .f32⟩
  | 23 => ⟨S4x1x16x8x128, .f32⟩
  | 24 => ⟨S4x1x16x8x128, .f32⟩
  | 25 => ⟨S4x1x16x8x64x128, .f32⟩
  | 26 => ⟨S4x1x16x8x128x256, .f32⟩
  | 27 => ⟨S4x1x16x8x64x256, .f32⟩
  | 28 => ⟨S4x1x16x256x8x64, .f32⟩
  | 29 => ⟨S4x1x16x8x128x256, .f32⟩
  | 30 => ⟨S4x1x16x8x128x256, .f32⟩
  | 31 => ⟨S4x1x16x8x128x256, .f32⟩
  | 32 => ⟨S4x1x16x8x128x256, .f32⟩
  | 33 => ⟨S_, .f32⟩
  | 34 => ⟨S4x1x16x8x128, .f32⟩
  | 35 => ⟨S4x1x16x8x128x1, .f32⟩
  | 36 => ⟨S4x1x16x8x128x1, .f32⟩
  | 37 => ⟨S_, .f32⟩
  | 38 => ⟨S4x16x8x128, .f32⟩
  | 39 => ⟨S4x1x16x8x128, .f32⟩
  | 40 => ⟨S4x1x16x8x128, .f32⟩
  | 41 => ⟨S4x1x16x8x128x256, .f32⟩
  | 42 => ⟨S4x1x16x8x128x256, .f32⟩
  | 43 => ⟨S4x1x16x8x128x256, .f32⟩
  | 44 => ⟨S_, .f32⟩
  | 45 => ⟨S4x1x16x8x128x256, .f32⟩
  | 46 => ⟨S4x1x16x8x128x256, .f32⟩
  | 47 => ⟨S_, .f32⟩
  | 48 => ⟨S1x8x128x256, .f32⟩
  | 49 => ⟨S1x1x1x8x128x256, .f32⟩
  | 50 => ⟨S_, .f32⟩
  | 51 => ⟨S8x128x256, .f32⟩
  | 52 => ⟨S_, .f32⟩
  | 53 => ⟨S4x1x16x8x128x256, .f32⟩
  | 54 => ⟨S4x1x16x8x128x256, .f32⟩
  | 55 => ⟨S4x1x16x8x256x64, .f32⟩
  | 56 => ⟨S4x1x16x256x8x64, .f32⟩
  | 57 => ⟨S4x1x16x8x128x64, .f32⟩
  | 58 => ⟨S4x1x16x128x8x64, .f32⟩
  | 59 => ⟨S4x1x16x128x8x64, .f32⟩
  | 60 => ⟨S4x1x16x128x8x64, .f32⟩
  | 61 => ⟨S4x1x1x128x8x64, .f32⟩
  | 62 => ⟨S4x1x15x128x8x64, .f32⟩
  | 63 => ⟨S_, .f32⟩
  | 64 => ⟨S4x1x16x128x8x64, .f32⟩
  | 65 => ⟨S4x1x16x128x8x64, .f32⟩
  | 66 => ⟨S4x1x2048x8x64, .f32⟩
  | 67 => ⟨S4x2048x1x8x64, .f32⟩
  | 68 => ⟨S4x2048x8x64, .f32⟩
  | 69 => ⟨S4x1x16x128x8x64, .f32⟩
  | 70 => ⟨S4x1x16x128x8x64, .f32⟩
  | 71 => ⟨S4x1x1x128x8x64, .f32⟩
  | 72 => ⟨S4x1x15x128x8x64, .f32⟩
  | 73 => ⟨S_, .f32⟩
  | 74 => ⟨S4x1x16x128x8x64, .f32⟩
  | 75 => ⟨S4x1x16x128x8x64, .f32⟩
  | 76 => ⟨S4x1x2048x8x64, .f32⟩
  | 77 => ⟨S4x2048x1x8x64, .f32⟩
  | 78 => ⟨S4x2048x8x64, .f32⟩
  | 79 => ⟨S4x1x2048x8x64, .f32⟩
  | 80 => ⟨S4x2048x1x8x64, .f32⟩
  | 81 => ⟨S4x2048x8x64, .f32⟩
  | 82 => ⟨S4x2048x512, .f32⟩
  | 83 => ⟨S4x2048x512, .f32⟩
  | 84 => ⟨S4x2048x512, .f32⟩
  | 85 => ⟨S4x2x128x256, .f32⟩
  | 86 => ⟨S4x128x2x256, .f32⟩
  | 87 => ⟨S4x128x512, .f32⟩
  | _ => ⟨S4x2048x4608, .f32⟩

abbrev hbmTy (i : Nat) : BufTy := match i / 128 with
  | 0 => hbmTy0_0 i
  | 1 => hbmTy0_1 i
  | _ => ⟨S4x2048x4608, .f32⟩

abbrev bufTy : (tb : Table) → Fin (tcTables nBuf tb) → BufTy
  | .hbm, ⟨i, _⟩ => hbmTy i
  | _, _ => ⟨S4x2048x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_c : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_c_4 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_c_5 : Ref sig .tc := ⟨.hbm, 61, rfl⟩
abbrev main_v50 : Ref sig .tc := ⟨.hbm, 62, rfl⟩
abbrev main_v51 : Ref sig .tc := ⟨.hbm, 63, rfl⟩
abbrev main_c_6 : Ref sig .tc := ⟨.hbm, 64, rfl⟩
abbrev main_v52 : Ref sig .tc := ⟨.hbm, 65, rfl⟩
abbrev main_v53 : Ref sig .tc := ⟨.hbm, 66, rfl⟩
abbrev main_c_7 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_c_8 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_9 : Ref sig .tc := ⟨.hbm, 80, rfl⟩
abbrev main_call0_v0 : Ref sig .tc := ⟨.hbm, 81, rfl⟩
abbrev main_v65_1 : Ref sig .tc := ⟨.hbm, 82, rfl⟩
abbrev main_call0_v2 : Ref sig .tc := ⟨.hbm, 83, rfl⟩
abbrev main_v65_0 : Ref sig .tc := ⟨.hbm, 84, rfl⟩
abbrev main_call0_cst : Ref sig .tc := ⟨.hbm, 85, rfl⟩
abbrev main_v65_2 : Ref sig .tc := ⟨.hbm, 86, rfl⟩
abbrev main_cst_10 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_11 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_12 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_13 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_cst_14 : Ref sig .tc := ⟨.hbm, 125, rfl⟩
abbrev main_v100 : Ref sig .tc := ⟨.hbm, 126, rfl⟩
abbrev main_v101 : Ref sig .tc := ⟨.hbm, 127, rfl⟩
abbrev main_cst_15 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_cst_16 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_cst_17 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_cst_18 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_cst_19 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_call1_cst : Ref sig .tc := ⟨.hbm, 172, rfl⟩
abbrev main_call1_v0 : Ref sig .tc := ⟨.hbm, 173, rfl⟩
abbrev main_v141 : Ref sig .tc := ⟨.hbm, 174, rfl⟩
abbrev main_cst_20 : Ref sig .tc := ⟨.hbm, 175, rfl⟩
abbrev main_v142 : Ref sig .tc := ⟨.hbm, 176, rfl⟩
abbrev main_v143 : Ref sig .tc := ⟨.hbm, 177, rfl⟩
abbrev main_cst_21 : Ref sig .tc := ⟨.hbm, 178, rfl⟩
abbrev main_v144 : Ref sig .tc := ⟨.hbm, 179, rfl⟩
abbrev main_cst_22 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_cst_23 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_cst_24 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩

abbrev nD : Nat := 1
abbrev τ : Topo := Topo.v7x

variable {F : FTy → Type} [FloatOps F]

def κ : String → Option EReal := fun
  | "mask" => some ⊥
  | _ => none
-- ==== Kernel2.lean ====
abbrev S8192x3072 : Shape := ⟨2, ![8192, 3072]⟩
abbrev S3072x1024 : Shape := ⟨2, ![3072, 1024]⟩
abbrev S8192x1024 : Shape := ⟨2, ![8192, 1024]⟩
abbrev S512x1024 : Shape := ⟨2, ![512, 1024]⟩
abbrev S1536x1024 : Shape := ⟨2, ![1536, 1024]⟩
abbrev S512x1536 : Shape := ⟨2, ![512, 1536]⟩

abbrev nBuf : Space → Nat
  | .hbm => 10
  | .vmem => 12
  | .smem => 0
  | _ => 0

abbrev bufTy : (tb : Table) → Fin (tcTables nBuf tb) → BufTy
  | .hbm, ⟨0, _⟩ => ⟨S8192x3072, .f32⟩
  | .hbm, ⟨1, _⟩ => ⟨S8192x3072, .f32⟩
  | .hbm, ⟨2, _⟩ => ⟨S3072x1024, .f32⟩
  | .hbm, ⟨3, _⟩ => ⟨S8192x1024, .f32⟩
  | .hbm, ⟨4, _⟩ => ⟨S8192x1024, .bf16⟩
  | .hbm, ⟨5, _⟩ => ⟨S3072x1024, .bf16⟩
  | .hbm, ⟨6, _⟩ => ⟨S8192x3072, .bf16⟩
  | .hbm, ⟨7, _⟩ => ⟨S8192x3072, .bf16⟩
  | .hbm, ⟨8, _⟩ => ⟨S8192x3072, .bf16⟩
  | .hbm, ⟨9, _⟩ => ⟨S8192x3072, .bf16⟩
  | .local _ .vmem, ⟨0, _⟩ => ⟨S512x1024, .bf16⟩
  | .local _ .vmem, ⟨1, _⟩ => ⟨S512x1024, .bf16⟩
  | .local _ .vmem, ⟨2, _⟩ => ⟨S1536x1024, .bf16⟩
  | .local _ .vmem, ⟨3, _⟩ => ⟨S1536x1024, .bf16⟩
  | .local _ .vmem, ⟨4, _⟩ => ⟨S512x1536, .bf16⟩
  | .local _ .vmem, ⟨5, _⟩ => ⟨S512x1536, .bf16⟩
  | .local _ .vmem, ⟨6, _⟩ => ⟨S512x1536, .bf16⟩
  | .local _ .vmem, ⟨7, _⟩ => ⟨S512x1536, .bf16⟩
  | .local _ .vmem, ⟨8, _⟩ => ⟨S512x1536, .bf16⟩
  | .local _ .vmem, ⟨9, _⟩ => ⟨S512x1536, .bf16⟩
  | .local _ .vmem, ⟨10, _⟩ => ⟨S512x1536, .bf16⟩
  | .local _ .vmem, ⟨11, _⟩ => ⟨S512x1536, .bf16⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8192x3072 : Shape := ⟨2, ![8192, 3072]⟩
abbrev S3072x1024 : Shape := ⟨2, ![3072, 1024]⟩
abbrev S8192x1024 : Shape := ⟨2, ![8192, 1024]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x3072, .f32⟩
  | .hbm, ⟨2, _⟩ => ⟨S3072x1024, .f32⟩
  | .hbm, ⟨3, _⟩ => ⟨S8192x1024, .f32⟩
  | .hbm, ⟨4, _⟩ => ⟨S8192x3072, .f32⟩
  | .hbm, ⟨5, _⟩ => ⟨S8192x3072, .f32⟩
  | .hbm, ⟨6, _⟩ => ⟨S_, .f32⟩
  | .hbm, ⟨7, _⟩ => ⟨S8192x3072, .f32⟩
  | .hbm, ⟨8, _⟩ => ⟨S8192x3072, .f32⟩
  | .hbm, ⟨9, _⟩ => ⟨S_, .f32⟩
  | .hbm, ⟨10, _⟩ => ⟨S8192x3072, .f32⟩
  | .hbm, ⟨11, _⟩ => ⟨S8192x3072, .f32⟩
  | .hbm, ⟨12, _⟩ => ⟨S_, .f32⟩
  | .hbm, ⟨13, _⟩ => ⟨S8192x3072, .f32⟩
  | .hbm, ⟨14, _⟩ => ⟨S8192x3072, .f32⟩
  | .hbm, ⟨15, _⟩ => ⟨S8192x3072, .f32⟩
  | .hbm, ⟨16, _⟩ => ⟨S8192x3072, .f32⟩
  | .hbm, ⟨17, _⟩ => ⟨S8192x3072, .f32⟩
  | .hbm, ⟨18, _⟩ => ⟨S8192x1024, .f32⟩
  | .hbm, ⟨19, _⟩ => ⟨S8192x3072, .f32⟩
  | .hbm, ⟨20, _⟩ => ⟨S8192x3072, .f32⟩
  | .hbm, ⟨21, _⟩ => ⟨S8192x3072, .f32⟩
  | .hbm, ⟨22, _⟩ => ⟨S8192x3072, .f32⟩
  | .hbm, ⟨23, _⟩ => ⟨S8192x3072, .f32⟩
  | .hbm, ⟨24, _⟩ => ⟨S8192x3072, .f32⟩
  | .hbm, ⟨25, _⟩ => ⟨S8192x3072, .f32⟩
  | .hbm, ⟨26, _⟩ => ⟨S8192x3072, .bf16⟩
  | .hbm, ⟨27, _⟩ => ⟨S8192x3072, .bf16⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩

abbrev nD : Nat := 1
abbrev τ : Topo := Topo.v7x

variable {F : FTy → Type} [FloatOps F]
-- ==== Kernel3.lean ====
abbrev S8192x3072 : Shape := ⟨2, ![8192, 3072]⟩
abbrev S3072x1024 : Shape := ⟨2, ![3072, 1024]⟩
abbrev S8192x1024 : Shape := ⟨2, ![8192, 1024]⟩
abbrev S2048x1536 : Shape := ⟨2, ![2048, 1536]⟩
abbrev S2048x1024 : Shape := ⟨2, ![2048, 1024]⟩
abbrev S1536x1024 : Shape := ⟨2, ![1536, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x3072, .f32⟩
  | .hbm, ⟨1, _⟩ => ⟨S3072x1024, .f32⟩
  | .hbm, ⟨2, _⟩ => ⟨S8192x1024, .f32⟩
  | .hbm, ⟨3, _⟩ => ⟨S8192x3072, .bf16⟩
  | .hbm, ⟨4, _⟩ => ⟨S8192x1024, .bf16⟩
  | .hbm, ⟨5, _⟩ => ⟨S3072x1024, .f32⟩
  | .local _ .vmem, ⟨0, _⟩ => ⟨S2048x1536, .bf16⟩
  | .local _ .vmem, ⟨1, _⟩ => ⟨S2048x1536, .bf16⟩
  | .local _ .vmem, ⟨2, _⟩ => ⟨S2048x1024, .bf16⟩
  | .local _ .vmem, ⟨3, _⟩ => ⟨S2048x1024, .bf16⟩
  | .local _ .vmem, ⟨4, _⟩ => ⟨S1536x1024, .f32⟩
  | .local _ .vmem, ⟨5, _⟩ => ⟨S1536x1024, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x3072 : Shape := ⟨2, ![8192, 3072]⟩
abbrev S3072x1024 : Shape := ⟨2, ![3072, 1024]⟩
abbrev S8192x1024 : Shape := ⟨2, ![8192, 1024]⟩
abbrev S1024x3072 : Shape := ⟨2, ![1024, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S3072x1024, .f32⟩
  | .hbm, ⟨2, _⟩ => ⟨S8192x1024, .f32⟩
  | .hbm, ⟨3, _⟩ => ⟨S8192x1024, .f32⟩
  | .hbm, ⟨4, _⟩ => ⟨S1024x3072, .f32⟩
  | .hbm, ⟨5, _⟩ => ⟨S3072x1024, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel4.lean ====
abbrev S8192x1024 : Shape := ⟨2, ![8192, 1024]⟩
abbrev S1024x3072 : Shape := ⟨2, ![1024, 3072]⟩
abbrev S8192x3072 : Shape := ⟨2, ![8192, 3072]⟩
abbrev S512x3072 : Shape := ⟨2, ![512, 3072]⟩
abbrev S512x1024 : Shape := ⟨2, ![512, 1024]⟩

abbrev nBuf : Space → Nat
  | .hbm => 10
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S1024x3072, .f32⟩
  | .hbm, ⟨3, _⟩ => ⟨S8192x3072, .f32⟩
  | .hbm, ⟨4, _⟩ => ⟨S8192x3072, .f32⟩
  | .hbm, ⟨5, _⟩ => ⟨S8192x3072, .bf16⟩
  | .hbm, ⟨6, _⟩ => ⟨S1024x3072, .bf16⟩
  | .hbm, ⟨7, _⟩ => ⟨S8192x3072, .bf16⟩
  | .hbm, ⟨8, _⟩ => ⟨S1024x3072, .bf16⟩
  | .hbm, ⟨9, _⟩ => ⟨S8192x1024, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S512x3072, .bf16⟩
  | .local _ .vmem, ⟨4, _⟩ => ⟨S512x3072, .bf16⟩
  | .local _ .vmem, ⟨5, _⟩ => ⟨S1024x3072, .bf16⟩
  | .local _ .vmem, ⟨6, _⟩ => ⟨S512x1024, .f32⟩
  | .local _ .vmem, ⟨7, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S1024x3072, .f32⟩
  | .hbm, ⟨3, _⟩ => ⟨S8192x3072, .f32⟩
  | .hbm, ⟨4, _⟩ => ⟨S8192x3072, .f32⟩
  | .hbm, ⟨5, _⟩ => ⟨S8192x3072, .f32⟩
  | .hbm, ⟨6, _⟩ => ⟨S8192x3072, .f32⟩
  | .hbm, ⟨7, _⟩ => ⟨S8192x1024, .f32⟩
  | .hbm, ⟨8, _⟩ => ⟨S8192x1024, .f32⟩
  | .hbm, ⟨9, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Kernel5.lean ====
abbrev S8192x1024 : Shape := ⟨2, ![8192, 1024]⟩
abbrev S1024x3072 : Shape := ⟨2, ![1024, 3072]⟩
abbrev S8192x3072 : Shape := ⟨2, ![8192, 3072]⟩
abbrev S2048x1024 : Shape := ⟨2, ![2048, 1024]⟩
abbrev S2048x1536 : Shape := ⟨2, ![2048, 1536]⟩
abbrev S1024x1536 : Shape := ⟨2, ![1024, 1536]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x3072, .f32⟩
  | .hbm, ⟨3, _⟩ => ⟨S8192x1024, .bf16⟩
  | .hbm, ⟨4, _⟩ => ⟨S8192x3072, .bf16⟩
  | .hbm, ⟨5, _⟩ => ⟨S1024x3072, .f32⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .f32⟩
  | .local _ .vmem, ⟨5, _⟩ => ⟨S1024x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S1024x3072 : Shape := ⟨2, ![1024, 3072]⟩
abbrev S8192x3072 : Shape := ⟨2, ![8192, 3072]⟩
abbrev S3072x1024 : Shape := ⟨2, ![3072, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x3072, .f32⟩
  | .hbm, ⟨3, _⟩ => ⟨S8192x3072, .f32⟩
  | .hbm, ⟨4, _⟩ => ⟨S3072x1024, .f32⟩
  | .hbm, ⟨5, _⟩ => ⟨S1024x3072, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel6.lean ====
abbrev S8192x1024 : Shape := ⟨2, ![8192, 1024]⟩
abbrev S1024x4608 : Shape := ⟨2, ![1024, 4608]⟩
abbrev S8192x4608 : Shape := ⟨2, ![8192, 4608]⟩
abbrev S2048x1024 : Shape := ⟨2, ![2048, 1024]⟩
abbrev S2048x1536 : Shape := ⟨2, ![2048, 1536]⟩
abbrev S1024x1536 : Shape := ⟨2, ![1024, 1536]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x4608, .f32⟩
  | .hbm, ⟨2, _⟩ => ⟨S8192x4608, .f32⟩
  | .hbm, ⟨3, _⟩ => ⟨S8192x1024, .bf16⟩
  | .hbm, ⟨4, _⟩ => ⟨S8192x4608, .bf16⟩
  | .hbm, ⟨5, _⟩ => ⟨S1024x4608, .f32⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .f32⟩
  | .local _ .vmem, ⟨5, _⟩ => ⟨S1024x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S1024x4608 : Shape := ⟨2, ![1024, 4608]⟩
abbrev S8192x4608 : Shape := ⟨2, ![8192, 4608]⟩
abbrev S4608x1024 : Shape := ⟨2, ![4608, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4608, .f32⟩
  | .hbm, ⟨2, _⟩ => ⟨S8192x4608, .f32⟩
  | .hbm, ⟨3, _⟩ => ⟨S8192x4608, .f32⟩
  | .hbm, ⟨4, _⟩ => ⟨S4608x1024, .f32⟩
  | .hbm, ⟨5, _⟩ => ⟨S1024x4608, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel7.lean ====
abbrev S8192x1024 : Shape := ⟨2, ![8192, 1024]⟩
abbrev S1024x4224 : Shape := ⟨2, ![1024, 4224]⟩
abbrev S8192x4224 : Shape := ⟨2, ![8192, 4224]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x4224, .f32⟩
  | .hbm, ⟨2, _⟩ => ⟨S8192x4224, .f32⟩
  | .hbm, ⟨3, _⟩ => ⟨S8192x1024, .bf16⟩
  | .hbm, ⟨4, _⟩ => ⟨S8192x4224, .bf16⟩
  | .hbm, ⟨5, _⟩ => ⟨S1024x4224, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S1024x4224 : Shape := ⟨2, ![1024, 4224]⟩
abbrev S8192x4224 : Shape := ⟨2, ![8192, 4224]⟩
abbrev S4224x1024 : Shape := ⟨2, ![4224, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4224, .f32⟩
  | .hbm, ⟨2, _⟩ => ⟨S8192x4224, .f32⟩
  | .hbm, ⟨3, _⟩ => ⟨S8192x4224, .f32⟩
  | .hbm, ⟨4, _⟩ => ⟨S4224x1024, .f32⟩
  | .hbm, ⟨5, _⟩ => ⟨S1024x4224, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel8.lean ====
abbrev S8192x512 : Shape := ⟨2, ![8192, 512]⟩
abbrev S512x1024 : Shape := ⟨2, ![512, 1024]⟩
abbrev S8192x1024 : Shape := ⟨2, ![8192, 1024]⟩
abbrev S2048x512 : Shape := ⟨2, ![2048, 512]⟩
abbrev S2048x1024 : Shape := ⟨2, ![2048, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x512, .bf16⟩
  | .hbm, ⟨4, _⟩ => ⟨S8192x1024, .bf16⟩
  | .hbm, ⟨5, _⟩ => ⟨S512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x1024, .f32⟩
  | .hbm, ⟨4, _⟩ => ⟨S1024x512, .f32⟩
  | .hbm, ⟨5, _⟩ => ⟨S512x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel9.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S8192x1024, .bf16⟩
  | .hbm, ⟨5, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel10.lean ====
abbrev S8192x1024 : Shape := ⟨2, ![8192, 1024]⟩
abbrev S1024x4608 : Shape := ⟨2, ![1024, 4608]⟩
abbrev S8192x4608 : Shape := ⟨2, ![8192, 4608]⟩
abbrev S512x4608 : Shape := ⟨2, ![512, 4608]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x4608, .f32⟩
  | .hbm, ⟨2, _⟩ => ⟨S8192x4608, .f32⟩
  | .hbm, ⟨3, _⟩ => ⟨S8192x4608, .bf16⟩
  | .hbm, ⟨4, _⟩ => ⟨S1024x4608, .bf16⟩
  | .hbm, ⟨5, _⟩ => ⟨S8192x1024, .f32⟩
  | .local _ .vmem, ⟨0, _⟩ => ⟨S512x4608, .bf16⟩
  | .local _ .vmem, ⟨1, _⟩ => ⟨S512x4608, .bf16⟩
  | .local _ .vmem, ⟨2, _⟩ => ⟨S1024x4608, .bf16⟩
  | .local _ .vmem, ⟨3, _⟩ => ⟨S512x1024, .f32⟩
  | .local _ .vmem, ⟨4, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x4608 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S8192x1024 : Shape := ⟨2, ![8192, 1024]⟩
abbrev S1024x4608 : Shape := ⟨2, ![1024, 4608]⟩
abbrev S8192x4608 : Shape := ⟨2, ![8192, 4608]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4608, .f32⟩
  | .hbm, ⟨2, _⟩ => ⟨S8192x4608, .f32⟩
  | .hbm, ⟨3, _⟩ => ⟨S8192x4608, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel11.lean ====
abbrev S8192x1024 : Shape := ⟨2, ![8192, 1024]⟩
abbrev S1024x4224 : Shape := ⟨2, ![1024, 4224]⟩
abbrev S8192x4224 : Shape := ⟨2, ![8192, 4224]⟩
abbrev S512x4224 : Shape := ⟨2, ![512, 4224]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x4224, .f32⟩
  | .hbm, ⟨2, _⟩ => ⟨S8192x4224, .f32⟩
  | .hbm, ⟨3, _⟩ => ⟨S8192x4224, .bf16⟩
  | .hbm, ⟨4, _⟩ => ⟨S1024x4224, .bf16⟩
  | .hbm, ⟨5, _⟩ => ⟨S8192x1024, .f32⟩
  | .local _ .vmem, ⟨0, _⟩ => ⟨S512x4224, .bf16⟩
  | .local _ .vmem, ⟨1, _⟩ => ⟨S512x4224, .bf16⟩
  | .local _ .vmem, ⟨2, _⟩ => ⟨S1024x4224, .bf16⟩
  | .local _ .vmem, ⟨3, _⟩ => ⟨S512x1024, .f32⟩
  | .local _ .vmem, ⟨4, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4224 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x4224 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S8192x1024 : Shape := ⟨2, ![8192, 1024]⟩
abbrev S1024x4224 : Shape := ⟨2, ![1024, 4224]⟩
abbrev S8192x4224 : Shape := ⟨2, ![8192, 4224]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4224, .f32⟩
  | .hbm, ⟨2, _⟩ => ⟨S8192x4224, .f32⟩
  | .hbm, ⟨3, _⟩ => ⟨S8192x4224, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel12.lean ====
abbrev S8192x512 : Shape := ⟨2, ![8192, 512]⟩
abbrev S512x1024 : Shape := ⟨2, ![512, 1024]⟩
abbrev S8192x1024 : Shape := ⟨2, ![8192, 1024]⟩
abbrev S512x512 : Shape := ⟨2, ![512, 512]⟩

abbrev nBuf : Space → Nat
  | .hbm => 6
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x1024, .bf16⟩
  | .hbm, ⟨4, _⟩ => ⟨S512x1024, .bf16⟩
  | .hbm, ⟨5, _⟩ => ⟨S8192x512, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x512, .f32⟩
  | .local _ .vmem, ⟨4, _⟩ => ⟨S512x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x1024, .f32⟩
  | .hbm, ⟨4, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel13.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel14.lean ====
abbrev S8192x1024 : Shape := ⟨2, ![8192, 1024]⟩
abbrev S8192x3072 : Shape := ⟨2, ![8192, 3072]⟩
abbrev S3072x1024 : Shape := ⟨2, ![3072, 1024]⟩
abbrev S1024 : Shape := ⟨1, ![1024]⟩
abbrev S1x1024 : Shape := ⟨2, ![1, 1024]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S3072x1024, .f32⟩
  | .hbm, ⟨3, _⟩ => ⟨S1024, .f32⟩
  | .hbm, ⟨4, _⟩ => ⟨S8192x3072, .bf16⟩
  | .hbm, ⟨5, _⟩ => ⟨S3072x1024, .bf16⟩
  | .hbm, ⟨6, _⟩ => ⟨S1x1024, .f32⟩
  | .hbm, ⟨7, _⟩ => ⟨S8192x1024, .f32⟩
  | .hbm, ⟨8, _⟩ => ⟨S8192x1024, .bf16⟩
  | .local _ .vmem, ⟨0, _⟩ => ⟨S512x3072, .bf16⟩
  | .local _ .vmem, ⟨1, _⟩ => ⟨S512x3072, .bf16⟩
  | .local _ .vmem, ⟨2, _⟩ => ⟨S3072x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference14Ideal.lean ====
abbrev S8192x1024 : Shape := ⟨2, ![8192, 1024]⟩
abbrev S8192x3072 : Shape := ⟨2, ![8192, 3072]⟩
abbrev S3072x1024 : Shape := ⟨2, ![3072, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S3072x1024, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel15.lean ====
abbrev S8192x1024 : Shape := ⟨2, ![8192, 1024]⟩
abbrev S8192x512 : Shape := ⟨2, ![8192, 512]⟩
abbrev S512x1024 : Shape := ⟨2, ![512, 1024]⟩
abbrev S1024 : Shape := ⟨1, ![1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S512x1024, .f32⟩
  | .hbm, ⟨3, _⟩ => ⟨S1024, .f32⟩
  | .hbm, ⟨4, _⟩ => ⟨S8192x512, .bf16⟩
  | .hbm, ⟨5, _⟩ => ⟨S512x1024, .bf16⟩
  | .hbm, ⟨6, _⟩ => ⟨S1x1024, .f32⟩
  | .hbm, ⟨7, _⟩ => ⟨S8192x1024, .f32⟩
  | .hbm, ⟨8, _⟩ => ⟨S8192x1024, .bf16⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference15Ideal.lean ====
abbrev S8192x1024 : Shape := ⟨2, ![8192, 1024]⟩
abbrev S8192x512 : Shape := ⟨2, ![8192, 512]⟩
abbrev S512x1024 : Shape := ⟨2, ![512, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S512x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel16.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S8192x1024, .bf16⟩
  | .hbm, ⟨5, _⟩ => ⟨S1024x1024, .bf16⟩
  | .hbm, ⟨6, _⟩ => ⟨S1x1024, .f32⟩
  | .hbm, ⟨7, _⟩ => ⟨S8192x1024, .f32⟩
  | .hbm, ⟨8, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference16Ideal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel17.lean ====
abbrev S8192x1024 : Shape := ⟨2, ![8192, 1024]⟩
abbrev S1024x4608 : Shape := ⟨2, ![1024, 4608]⟩
abbrev S8192x4608 : Shape := ⟨2, ![8192, 4608]⟩
abbrev S512x1024 : Shape := ⟨2, ![512, 1024]⟩
abbrev S1024x1536 : Shape := ⟨2, ![1024, 1536]⟩
abbrev S512x1536 : Shape := ⟨2, ![512, 1536]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x4608, .f32⟩
  | .hbm, ⟨2, _⟩ => ⟨S8192x1024, .bf16⟩
  | .hbm, ⟨3, _⟩ => ⟨S1024x4608, .bf16⟩
  | .hbm, ⟨4, _⟩ => ⟨S8192x4608, .f32⟩
  | .local _ .vmem, ⟨0, _⟩ => ⟨S512x1024, .bf16⟩
  | .local _ .vmem, ⟨1, _⟩ => ⟨S512x1024, .bf16⟩
  | .local _ .vmem, ⟨2, _⟩ => ⟨S1024x1536, .bf16⟩
  | .local _ .vmem, ⟨3, _⟩ => ⟨S1024x1536, .bf16⟩
  | .local _ .vmem, ⟨4, _⟩ => ⟨S512x1536, .f32⟩
  | .local _ .vmem, ⟨5, _⟩ => ⟨S512x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference17Ideal.lean ====
abbrev S8192x1024 : Shape := ⟨2, ![8192, 1024]⟩
abbrev S1024x4608 : Shape := ⟨2, ![1024, 4608]⟩
abbrev S8192x4608 : Shape := ⟨2, ![8192, 4608]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4608, .f32⟩
  | .hbm, ⟨2, _⟩ => ⟨S8192x4608, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel18.lean ====
abbrev S8192x1024 : Shape := ⟨2, ![8192, 1024]⟩
abbrev S1024x4224 : Shape := ⟨2, ![1024, 4224]⟩
abbrev S8192x4224 : Shape := ⟨2, ![8192, 4224]⟩
abbrev S512x1024 : Shape := ⟨2, ![512, 1024]⟩
abbrev S1024x1408 : Shape := ⟨2, ![1024, 1408]⟩
abbrev S512x1408 : Shape := ⟨2, ![512, 1408]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x4224, .f32⟩
  | .hbm, ⟨2, _⟩ => ⟨S8192x1024, .bf16⟩
  | .hbm, ⟨3, _⟩ => ⟨S1024x4224, .bf16⟩
  | .hbm, ⟨4, _⟩ => ⟨S8192x4224, .f32⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S512x1408, .f32⟩
  | .local _ .vmem, ⟨5, _⟩ => ⟨S512x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference18Ideal.lean ====
abbrev S8192x1024 : Shape := ⟨2, ![8192, 1024]⟩
abbrev S1024x4224 : Shape := ⟨2, ![1024, 4224]⟩
abbrev S8192x4224 : Shape := ⟨2, ![8192, 4224]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4224, .f32⟩
  | .hbm, ⟨2, _⟩ => ⟨S8192x4224, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel19.lean ====
abbrev S8192x1024 : Shape := ⟨2, ![8192, 1024]⟩
abbrev S1024x3072 : Shape := ⟨2, ![1024, 3072]⟩
abbrev S8192x3072 : Shape := ⟨2, ![8192, 3072]⟩
abbrev S512x1024 : Shape := ⟨2, ![512, 1024]⟩
abbrev S1024x1536 : Shape := ⟨2, ![1024, 1536]⟩
abbrev S512x1536 : Shape := ⟨2, ![512, 1536]⟩

abbrev nBuf : Space → Nat
  | .hbm => 9
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S1024x3072, .f32⟩
  | .hbm, ⟨3, _⟩ => ⟨S8192x1024, .bf16⟩
  | .hbm, ⟨4, _⟩ => ⟨S1024x3072, .bf16⟩
  | .hbm, ⟨5, _⟩ => ⟨S1024x3072, .bf16⟩
  | .hbm, ⟨6, _⟩ => ⟨S8192x3072, .bf16⟩
  | .hbm, ⟨7, _⟩ => ⟨S8192x3072, .bf16⟩
  | .hbm, ⟨8, _⟩ => ⟨S8192x3072, .bf16⟩
  | .local _ .vmem, ⟨0, _⟩ => ⟨S512x1024, .bf16⟩
  | .local _ .vmem, ⟨1, _⟩ => ⟨S512x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .bf16⟩
  | .local _ .vmem, ⟨5, _⟩ => ⟨S1024x1536, .bf16⟩
  | .local _ .vmem, ⟨6, _⟩ => ⟨S512x1536, .bf16⟩
  | .local _ .vmem, ⟨7, _⟩ => ⟨S512x1536, .bf16⟩
  | .local _ .vmem, ⟨8, _⟩ => ⟨S512x1536, .bf16⟩
  | .local _ .vmem, ⟨9, _⟩ => ⟨S512x1536, .bf16⟩
  | .local _ .vmem, ⟨10, _⟩ => ⟨S512x1536, .bf16⟩
  | .local _ .vmem, ⟨11, _⟩ => ⟨S512x1536, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference19Ideal.lean ====
abbrev S8192x1024 : Shape := ⟨2, ![8192, 1024]⟩
abbrev S1024x3072 : Shape := ⟨2, ![1024, 3072]⟩
abbrev S8192x3072 : Shape := ⟨2, ![8192, 3072]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S1024x3072, .f32⟩
  | .hbm, ⟨3, _⟩ => ⟨S8192x3072, .f32⟩
  | .hbm, ⟨4, _⟩ => ⟨S8192x3072, .f32⟩
  | .hbm, ⟨5, _⟩ => ⟨S8192x3072, .bf16⟩
  | .hbm, ⟨6, _⟩ => ⟨S8192x3072, .bf16⟩
  | .hbm, ⟨7, _⟩ => ⟨S8192x3072, .f32⟩
  | .hbm, ⟨8, _⟩ => ⟨S8192x3072, .f32⟩
  | .hbm, ⟨9, _⟩ => ⟨S_, .f32⟩
  | .hbm, ⟨10, _⟩ => ⟨S8192x3072, .f32⟩
  | .hbm, ⟨11, _⟩ => ⟨S8192x3072, .f32⟩
  | .hbm, ⟨12, _⟩ => ⟨S_, .f32⟩
  | .hbm, ⟨13, _⟩ => ⟨S8192x3072, .f32⟩
  | .hbm, ⟨14, _⟩ => ⟨S8192x3072, .f32⟩
  | .hbm, ⟨15, _⟩ => ⟨S8192x3072, .f32⟩
  | .hbm, ⟨16, _⟩ => ⟨S8192x3072, .f32⟩
  | .hbm, ⟨17, _⟩ => ⟨S8192x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Kernel20.lean ====
abbrev S8192x1024 : Shape := ⟨2, ![8192, 1024]⟩
abbrev S8192x3072 : Shape := ⟨2, ![8192, 3072]⟩
abbrev S3072x1024 : Shape := ⟨2, ![3072, 1024]⟩
abbrev S512x3072 : Shape := ⟨2, ![512, 3072]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S3072x1024, .f32⟩
  | .hbm, ⟨3, _⟩ => ⟨S8192x3072, .bf16⟩
  | .hbm, ⟨4, _⟩ => ⟨S3072x1024, .bf16⟩
  | .hbm, ⟨5, _⟩ => ⟨S8192x1024, .f32⟩
  | .local _ .vmem, ⟨0, _⟩ => ⟨S512x3072, .bf16⟩
  | .local _ .vmem, ⟨1, _⟩ => ⟨S512x3072, .bf16⟩
  | .local _ .vmem, ⟨2, _⟩ => ⟨S3072x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference20Ideal.lean ====
abbrev S8192x1024 : Shape := ⟨2, ![8192, 1024]⟩
abbrev S8192x3072 : Shape := ⟨2, ![8192, 3072]⟩
abbrev S3072x1024 : Shape := ⟨2, ![3072, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S3072x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel21.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference21Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S8192x1024, .bf16⟩
  | .hbm, ⟨54, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_8 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel22.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference22Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel23.lean ====
abbrev S4x2048x4224 : Shape := ⟨3, ![4, 2048, 4224]⟩
abbrev S4x1024 : Shape := ⟨2, ![4, 1024]⟩
abbrev S4x2048x1024 : Shape := ⟨3, ![4, 2048, 1024]⟩
abbrev S1x2048x512 : Shape := ⟨3, ![1, 2048, 512]⟩
abbrev S4x512 : Shape := ⟨2, ![4, 512]⟩
abbrev S2048x512 : Shape := ⟨2, ![2048, 512]⟩
abbrev S1x512 : Shape := ⟨2, ![1, 512]⟩
abbrev S512 : Shape := ⟨1, ![512]⟩

abbrev nBuf : Space → Nat
  | .hbm => 5
  | .vmem => 10
  | .smem => 0
  | _ => 0

abbrev bufTy : (tb : Table) → Fin (tcTables nBuf tb) → BufTy
  | .hbm, ⟨0, _⟩ => ⟨S4x2048x4224, .f32⟩
  | .hbm, ⟨1, _⟩ => ⟨S4x1024, .f32⟩
  | .hbm, ⟨2, _⟩ => ⟨S4x2048x1024, .f32⟩
  | .hbm, ⟨3, _⟩ => ⟨S4x2048x1024, .bf16⟩
  | .hbm, ⟨4, _⟩ => ⟨S4x1024, .f32⟩
  | .local _ .vmem, ⟨0, _⟩ => ⟨S1x2048x512, .f32⟩
  | .local _ .vmem, ⟨1, _⟩ => ⟨S1x2048x512, .f32⟩
  | .local _ .vmem, ⟨2, _⟩ => ⟨S4x512, .f32⟩
  | .local _ .vmem, ⟨3, _⟩ => ⟨S4x512, .f32⟩
  | .local _ .vmem, ⟨4, _⟩ => ⟨S1x2048x512, .f32⟩
  | .local _ .vmem, ⟨5, _⟩ => ⟨S1x2048x512, .f32⟩
  | .local _ .vmem, ⟨6, _⟩ => ⟨S1x2048x512, .bf16⟩
  | .local _ .vmem, ⟨7, _⟩ => ⟨S1x2048x512, .bf16⟩
  | .local _ .vmem, ⟨8, _⟩ => ⟨S4x512, .f32⟩
  | .local _ .vmem, ⟨9, _⟩ => ⟨S4x512, .f32⟩
  | _, _ => ⟨S4x2048x4224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![arg1.toNat, c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference23Ideal.lean ====
abbrev S4x2048x4224 : Shape := ⟨3, ![4, 2048, 4224]⟩
abbrev S4x1024 : Shape := ⟨2, ![4, 1024]⟩
abbrev S4x2048x1024 : Shape := ⟨3, ![4, 2048, 1024]⟩
abbrev S_ : Shape := ⟨0, ![]⟩
abbrev S4x3x1024 : Shape := ⟨3, ![4, 3, 1024]⟩
abbrev S4x2051x1024 : Shape := ⟨3, ![4, 2051, 1024]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 102
  | .vmem => 0
  | .smem => 0
  | _ => 0

abbrev bufTy : (tb : Table) → Fin (tcTables nBuf tb) → BufTy
  | .hbm, ⟨0, _⟩ => ⟨S4x2048x4224, .f32⟩
  | .hbm, ⟨1, _⟩ => ⟨S4x1024, .f32⟩
  | .hbm, ⟨2, _⟩ => ⟨S4x2048x1024, .f32⟩
  | .hbm, ⟨3, _⟩ => ⟨S4x2048x1024, .f32⟩
  | .hbm, ⟨4, _⟩ => ⟨S_, .f32⟩
  | .hbm, ⟨5, _⟩ => ⟨S4x3x1024, .f32⟩
  | .hbm, ⟨6, _⟩ => ⟨S4x2051x1024, .f32⟩
  | .hbm, ⟨7, _⟩ => ⟨S_, .f32⟩
  | .hbm, ⟨8, _⟩ => ⟨S4x3x1024, .f32⟩
  | .hbm, ⟨9, _⟩ => ⟨S1x1024, .f32⟩
  | .hbm, ⟨10, _⟩ => ⟨S1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S_, .f32⟩
  | .hbm, ⟨16, _⟩ => ⟨S4x2048x1024, .f32⟩
  | .hbm, ⟨17, _⟩ => ⟨S4x2048x1024, .f32⟩
  | .hbm, ⟨18, _⟩ => ⟨S1x1024, .f32⟩
  | .hbm, ⟨19, _⟩ => ⟨S1024, .f32⟩
  | .hbm, ⟨20, _⟩ => ⟨S4x2048x1024, .f32⟩
  | .hbm, ⟨21, _⟩ => ⟨S1x1x1024, .f32⟩
  | .hbm, ⟨22, _⟩ => ⟨S4x2048x1024, .f32⟩
  | .hbm, ⟨23, _⟩ => ⟨S4x2048x1024, .f32⟩
  | .hbm, ⟨24, _⟩ => ⟨S4x2048x1024, .f32⟩
  | .hbm, ⟨25, _⟩ => ⟨S1x1024, .f32⟩
  | .hbm, ⟨26, _⟩ => ⟨S1024, .f32⟩
  | .hbm, ⟨27, _⟩ => ⟨S4x2048x1024, .f32⟩
  | .hbm, ⟨28, _⟩ => ⟨S1x1x1024, .f32⟩
  | .hbm, ⟨29, _⟩ => ⟨S4x2048x1024, .f32⟩
  | .hbm, ⟨30, _⟩ => ⟨S4x2048x1024, .f32⟩
  | .hbm, ⟨31, _⟩ => ⟨S4x2048x1024, .f32⟩
  | .hbm, ⟨32, _⟩ => ⟨S1x1024, .f32⟩
  | .hbm, ⟨33, _⟩ => ⟨S1024, .f32⟩
  | .hbm, ⟨34, _⟩ => ⟨S4x2048x1024, .f32⟩
  | .hbm, ⟨35, _⟩ => ⟨S1x1x1024, .f32⟩
  | .hbm, ⟨36, _⟩ => ⟨S4x2048x1024, .f32⟩
  | .hbm, ⟨37, _⟩ => ⟨S4x2048x1024, .f32⟩
  | .hbm, ⟨38, _⟩ => ⟨S4x2048x1024, .f32⟩
  | .hbm, ⟨39, _⟩ => ⟨S4x2048x1024, .f32⟩
  | .hbm, ⟨40, _⟩ => ⟨S4x2048x1024, .f32⟩
  | .hbm, ⟨41, _⟩ => ⟨S4x2048x1024, .f32⟩
  | .hbm, ⟨42, _⟩ => ⟨S4x2048x1024, .f32⟩
  | .hbm, ⟨43, _⟩ => ⟨S4x2048x1024, .f32⟩
  | .hbm, ⟨44, _⟩ => ⟨S_, .f32⟩
  | .hbm, ⟨45, _⟩ => ⟨S1024, .f32⟩
  | .hbm, ⟨46, _⟩ => ⟨S1x1x1024, .f32⟩
  | .hbm, ⟨47, _⟩ => ⟨S_, .f32⟩
  | .hbm, ⟨48, _⟩ => ⟨S1024, .f32⟩
  | .hbm, ⟨49, _⟩ => ⟨S_, .f32⟩
  | .hbm, ⟨50, _⟩ => ⟨S4x2051x1024, .f32⟩
  | .hbm, ⟨51, _⟩ => ⟨S1x1024, .f32⟩
  | .hbm, ⟨52, _⟩ => ⟨S_, .f32⟩
  | .hbm, ⟨53, _⟩ => ⟨S4x1024, .f32⟩
  | .hbm, ⟨54, _⟩ => ⟨S4x2048x1024, .f32⟩
  | .hbm, ⟨55, _⟩ => ⟨S4x2048x1024, .f32⟩
  | .hbm, ⟨56, _⟩ => ⟨S4x2048x1024, .f32⟩
  | .hbm, ⟨57, _⟩ => ⟨S_, .f32⟩
  | .hbm, ⟨58, _⟩ => ⟨S1024, .f32⟩
  | .hbm, ⟨59, _⟩ => ⟨S1x1x1024, .f32⟩
  | .hbm, ⟨60, _⟩ => ⟨S_, .f32⟩
  | .hbm, ⟨61, _⟩ => ⟨S1024, .f32⟩
  | .hbm, ⟨62, _⟩ => ⟨S_, .f32⟩
  | .hbm, ⟨63, _⟩ => ⟨S4x2051x1024, .f32⟩
  | .hbm, ⟨64, _⟩ => ⟨S4x2051x1024, .f32⟩
  | .hbm, ⟨65, _⟩ => ⟨S1x1024, .f32⟩
  | .hbm, ⟨66, _⟩ => ⟨S_, .f32⟩
  | .hbm, ⟨67, _⟩ => ⟨S4x1024, .f32⟩
  | .hbm, ⟨68, _⟩ => ⟨S4x1024, .f32⟩
  | .hbm, ⟨69, _⟩ => ⟨S4x2048x1024, .f32⟩
  | .hbm, ⟨70, _⟩ => ⟨S4x2048x1024, .f32⟩
  | .hbm, ⟨71, _⟩ => ⟨S4x2048x1024, .f32⟩
  | .hbm, ⟨72, _⟩ => ⟨S_, .f32⟩
  | .hbm, ⟨73, _⟩ => ⟨S1024, .f32⟩
  | .hbm, ⟨74, _⟩ => ⟨S1x1x1024, .f32⟩
  | .hbm, ⟨75, _⟩ => ⟨S_, .f32⟩
  | .hbm, ⟨76, _⟩ => ⟨S1024, .f32⟩
  | .hbm, ⟨77, _⟩ => ⟨S_, .f32⟩
  | .hbm, ⟨78, _⟩ => ⟨S4x2051x1024, .f32⟩
  | .hbm, ⟨79, _⟩ => ⟨S4x2051x1024, .f32⟩
  | .hbm, ⟨80, _⟩ => ⟨S1x1024, .f32⟩
  | .hbm, ⟨81, _⟩ => ⟨S_, .f32⟩
  | .hbm, ⟨82, _⟩ => ⟨S4x1024, .f32⟩
  | .hbm, ⟨83, _⟩ => ⟨S4x1024, .f32⟩
  | .hbm, ⟨84, _⟩ => ⟨S4x2048x1024, .f32⟩
  | .hbm, ⟨85, _⟩ => ⟨S4x2048x1024, .f32⟩
  | .hbm, ⟨86, _⟩ => ⟨S4x2048x1024, .f32⟩
  | .hbm, ⟨87, _⟩ => ⟨S_, .f32⟩
  | .hbm, ⟨88, _⟩ => ⟨S1024, .f32⟩
  | .hbm, ⟨89, _⟩ => ⟨S1x1x1024, .f32⟩
  | .hbm, ⟨90, _⟩ => ⟨S_, .f32⟩
  | .hbm, ⟨91, _⟩ => ⟨S1024, .f32⟩
  | .hbm, ⟨92, _⟩ => ⟨S_, .f32⟩
  | .hbm, ⟨93, _⟩ => ⟨S4x2051x1024, .f32⟩
  | .hbm, ⟨94, _⟩ => ⟨S4x2051x1024, .f32⟩
  | .hbm, ⟨95, _⟩ => ⟨S1x1024, .f32⟩
  | .hbm, ⟨96, _⟩ => ⟨S_, .f32⟩
  | .hbm, ⟨97, _⟩ => ⟨S4x1024, .f32⟩
  | .hbm, ⟨98, _⟩ => ⟨S4x1024, .f32⟩
  | .hbm, ⟨99, _⟩ => ⟨S4x3x1024, .f32⟩
  | .hbm, ⟨100, _⟩ => ⟨S4x2048x1024, .f32⟩
  | .hbm, ⟨101, _⟩ => ⟨S4x2048x1024, .bf16⟩
  | _, _ => ⟨S4x2048x4224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_2 : Ref sig .tc := ⟨.hbm, 44, rfl⟩
abbrev main_v38 : Ref sig .tc := ⟨.hbm, 45, rfl⟩
abbrev main_v39 : Ref sig .tc := ⟨.hbm, 46, rfl⟩
abbrev main_cst_3 : Ref sig .tc := ⟨.hbm, 47, rfl⟩
abbrev main_v40 : Ref sig .tc := ⟨.hbm, 48, rfl⟩
abbrev main_cst_4 : Ref sig .tc := ⟨.hbm, 49, rfl⟩
abbrev main_v41 : Ref sig .tc := ⟨.hbm, 50, rfl⟩
abbrev main_v42 : Ref sig .tc := ⟨.hbm, 51, rfl⟩
abbrev main_cst_5 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_6 : Ref sig .tc := ⟨.hbm, 57, rfl⟩
abbrev main_v47 : Ref sig .tc := ⟨.hbm, 58, rfl⟩
abbrev main_v48 : Ref sig .tc := ⟨.hbm, 59, rfl⟩
abbrev main_cst_7 : Ref sig .tc := ⟨.hbm, 60, rfl⟩
abbrev main_v49 : Ref sig .tc := ⟨.hbm, 61, rfl⟩
abbrev main_cst_8 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_10 : Ref sig .tc := ⟨.hbm, 72, rfl⟩
abbrev main_v58 : Ref sig .tc := ⟨.hbm, 73, rfl⟩
abbrev main_v59 : Ref sig .tc := ⟨.hbm, 74, rfl⟩
abbrev main_cst_11 : Ref sig .tc := ⟨.hbm, 75, rfl⟩
abbrev main_v60 : Ref sig .tc := ⟨.hbm, 76, rfl⟩
abbrev main_cst_12 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_13 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_14 : Ref sig .tc := ⟨.hbm, 87, rfl⟩
abbrev main_v69 : Ref sig .tc := ⟨.hbm, 88, rfl⟩
abbrev main_v70 : Ref sig .tc := ⟨.hbm, 89, rfl⟩
abbrev main_cst_15 : Ref sig .tc := ⟨.hbm, 90, rfl⟩
abbrev main_v71 : Ref sig .tc := ⟨.hbm, 91, rfl⟩
abbrev main_cst_16 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_17 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩

abbrev nD : Nat := 1
abbrev τ : Topo := Topo.v7x

variable {F : FTy → Type} [FloatOps F]
-- ==== Kernel24.lean ====
abbrev S4x2048x4224 : Shape := ⟨3, ![4, 2048, 4224]⟩
abbrev S4x3072 : Shape := ⟨2, ![4, 3072]⟩
abbrev S4x2048x3072 : Shape := ⟨3, ![4, 2048, 3072]⟩
abbrev S1x2048x512 : Shape := ⟨3, ![1, 2048, 512]⟩
abbrev S4x512 : Shape := ⟨2, ![4, 512]⟩
abbrev S2048x512 : Shape := ⟨2, ![2048, 512]⟩
abbrev S1x512 : Shape := ⟨2, ![1, 512]⟩

abbrev nBuf : Space → Nat
  | .hbm => 3
  | .vmem => 6
  | .smem => 0
  | _ => 0

abbrev bufTy : (tb : Table) → Fin (tcTables nBuf tb) → BufTy
  | .hbm, ⟨0, _⟩ => ⟨S4x2048x4224, .f32⟩
  | .hbm, ⟨1, _⟩ => ⟨S4x3072, .f32⟩
  | .hbm, ⟨2, _⟩ => ⟨S4x2048x3072, .f32⟩
  | .local _ .vmem, ⟨0, _⟩ => ⟨S1x2048x512, .f32⟩
  | .local _ .vmem, ⟨1, _⟩ => ⟨S1x2048x512, .f32⟩
  | .local _ .vmem, ⟨2, _⟩ => ⟨S4x512, .f32⟩
  | .local _ .vmem, ⟨3, _⟩ => ⟨S4x512, .f32⟩
  | .local _ .vmem, ⟨4, _⟩ => ⟨S1x2048x512, .f32⟩
  | .local _ .vmem, ⟨5, _⟩ => ⟨S1x2048x512, .f32⟩
  | _, _ => ⟨S4x2048x4224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 6], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference24Ideal.lean ====
abbrev S4x2048x4224 : Shape := ⟨3, ![4, 2048, 4224]⟩
abbrev S4x3072 : Shape := ⟨2, ![4, 3072]⟩
abbrev S4x2048x3072 : Shape := ⟨3, ![4, 2048, 3072]⟩
abbrev S_ : Shape := ⟨0, ![]⟩
abbrev S4x3x3072 : Shape := ⟨3, ![4, 3, 3072]⟩
abbrev S4x2051x3072 : Shape := ⟨3, ![4, 2051, 3072]⟩
abbrev S1x3072 : Shape := ⟨2, ![1, 3072]⟩
abbrev S3072 : Shape := ⟨1, ![3072]⟩
abbrev S1x1x3072 : Shape := ⟨3, ![1, 1, 3072]⟩

abbrev nBuf : Space → Nat
  | .hbm => 36
  | .vmem => 0
  | .smem => 0
  | _ => 0

abbrev bufTy : (tb : Table) → Fin (tcTables nBuf tb) → BufTy
  | .hbm, ⟨0, _⟩ => ⟨S4x2048x4224, .f32⟩
  | .hbm, ⟨1, _⟩ => ⟨S4x3072, .f32⟩
  | .hbm, ⟨2, _⟩ => ⟨S4x2048x3072, .f32⟩
  | .hbm, ⟨3, _⟩ => ⟨S_, .f32⟩
  | .hbm, ⟨4, _⟩ => ⟨S4x3x3072, .f32⟩
  | .hbm, ⟨5, _⟩ => ⟨S4x2051x3072, .f32⟩
  | .hbm, ⟨6, _⟩ => ⟨S1x3072, .f32⟩
  | .hbm, ⟨7, _⟩ => ⟨S3072, .f32⟩
  | .hbm, ⟨8, _⟩ => ⟨S4x2048x3072, .f32⟩
  | .hbm, ⟨9, _⟩ => ⟨S1x1x3072, .f32⟩
  | .hbm, ⟨10, _⟩ => ⟨S4x2048x3072, .f32⟩
  | .hbm, ⟨11, _⟩ => ⟨S4x2048x3072, .f32⟩
  | .hbm, ⟨12, _⟩ => ⟨S_, .f32⟩
  | .hbm, ⟨13, _⟩ => ⟨S4x2048x3072, .f32⟩
  | .hbm, ⟨14, _⟩ => ⟨S4x2048x3072, .f32⟩
  | .hbm, ⟨15, _⟩ => ⟨S1x3072, .f32⟩
  | .hbm, ⟨16, _⟩ => ⟨S3072, .f32⟩
  | .hbm, ⟨17, _⟩ => ⟨S4x2048x3072, .f32⟩
  | .hbm, ⟨18, _⟩ => ⟨S1x1x3072, .f32⟩
  | .hbm, ⟨19, _⟩ => ⟨S4x2048x3072, .f32⟩
  | .hbm, ⟨20, _⟩ => ⟨S4x2048x3072, .f32⟩
  | .hbm, ⟨21, _⟩ => ⟨S4x2048x3072, .f32⟩
  | .hbm, ⟨22, _⟩ => ⟨S1x3072, .f32⟩
  | .hbm, ⟨23, _⟩ => ⟨S3072, .f32⟩
  | .hbm, ⟨24, _⟩ => ⟨S4x2048x3072, .f32⟩
  | .hbm, ⟨25, _⟩ => ⟨S1x1x3072, .f32⟩
  | .hbm, ⟨26, _⟩ => ⟨S4x2048x3072, .f32⟩
  | .hbm, ⟨27, _⟩ => ⟨S4x2048x3072, .f32⟩
  | .hbm, ⟨28, _⟩ => ⟨S4x2048x3072, .f32⟩
  | .hbm, ⟨29, _⟩ => ⟨S1x3072, .f32⟩
  | .hbm, ⟨30, _⟩ => ⟨S3072, .f32⟩
  | .hbm, ⟨31, _⟩ => ⟨S4x2048x3072, .f32⟩
  | .hbm, ⟨32, _⟩ => ⟨S1x1x3072, .f32⟩
  | .hbm, ⟨33, _⟩ => ⟨S4x2048x3072, .f32⟩
  | .hbm, ⟨34, _⟩ => ⟨S4x2048x3072, .f32⟩
  | .hbm, ⟨35, _⟩ => ⟨S4x2048x3072, .f32⟩
  | _, _ => ⟨S4x2048x4224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩

abbrev nD : Nat := 1
abbrev τ : Topo := Topo.v7x

variable {F : FTy → Type} [FloatOps F]
-- ==== Kernel25.lean ====
abbrev S4x8x1024x384 : Shape := ⟨4, ![4, 8, 1024, 384]⟩
abbrev S8x1024x352 : Shape := ⟨3, ![8, 1024, 352]⟩
abbrev S4x1x256x384 : Shape := ⟨4, ![4, 1, 256, 384]⟩
abbrev S1x256x352 : Shape := ⟨3, ![1, 256, 352]⟩
abbrev S1x1x256x384 : Shape := ⟨4, ![1, 1, 256, 384]⟩
abbrev S256x384 : Shape := ⟨2, ![256, 384]⟩
abbrev S256x352 : Shape := ⟨2, ![256, 352]⟩

abbrev nBuf : Space → Nat
  | .hbm => 9
  | .vmem => 16
  | .smem => 0
  | _ => 0

abbrev bufTy : (tb : Table) → Fin (tcTables nBuf tb) → BufTy
  | .hbm, ⟨0, _⟩ => ⟨S4x8x1024x384, .f32⟩
  | .hbm, ⟨1, _⟩ => ⟨S8x1024x352, .f32⟩
  | .hbm, ⟨2, _⟩ => ⟨S8x1024x352, .f32⟩
  | .hbm, ⟨3, _⟩ => ⟨S8x1024x352, .f32⟩
  | .hbm, ⟨4, _⟩ => ⟨S4x8x1024x384, .bf16⟩
  | .hbm, ⟨5, _⟩ => ⟨S8x1024x352, .f32⟩
  | .hbm, ⟨6, _⟩ => ⟨S8x1024x352, .f32⟩
  | .hbm, ⟨7, _⟩ => ⟨S8x1024x352, .f32⟩
  | .hbm, ⟨8, _⟩ => ⟨S8x1024x352, .f32⟩
  | .local _ .vmem, ⟨0, _⟩ => ⟨S4x1x256x384, .bf16⟩
  | .local _ .vmem, ⟨1, _⟩ => ⟨S4x1x256x384, .bf16⟩
  | .local _ .vmem, ⟨2, _⟩ => ⟨S1x256x352, .f32⟩
  | .local _ .vmem, ⟨3, _⟩ => ⟨S1x256x352, .f32⟩
  | .local _ .vmem, ⟨4, _⟩ => ⟨S1x256x352, .f32⟩
  | .local _ .vmem, ⟨5, _⟩ => ⟨S1x256x352, .f32⟩
  | .local _ .vmem, ⟨6, _⟩ => ⟨S1x256x352, .f32⟩
  | .local _ .vmem, ⟨7, _⟩ => ⟨S1x256x352, .f32⟩
  | .local _ .vmem, ⟨8, _⟩ => ⟨S1x256x352, .f32⟩
  | .local _ .vmem, ⟨9, _⟩ => ⟨S1x256x352, .f32⟩
  | .local _ .vmem, ⟨10, _⟩ => ⟨S1x256x352, .f32⟩
  | .local _ .vmem, ⟨11, _⟩ => ⟨S1x256x352, .f32⟩
  | .local _ .vmem, ⟨12, _⟩ => ⟨S1x256x352, .f32⟩
  | .local _ .vmem, ⟨13, _⟩ => ⟨S1x256x352, .f32⟩
  | .local _ .vmem, ⟨14, _⟩ => ⟨S1x256x352, .f32⟩
  | .local _ .vmem, ⟨15, _⟩ => ⟨S1x256x352, .f32⟩
  | _, _ => ⟨S4x8x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x1x256x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x352 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference25Ideal.lean ====
abbrev S4x8x1024x384 : Shape := ⟨4, ![4, 8, 1024, 384]⟩
abbrev S8x1024x352 : Shape := ⟨3, ![8, 1024, 352]⟩
abbrev S_ : Shape := ⟨0, ![]⟩
abbrev S8x1024x384 : Shape := ⟨3, ![8, 1024, 384]⟩

abbrev nBuf : Space → Nat
  | .hbm => 40
  | .vmem => 0
  | .smem => 0
  | _ => 0

abbrev bufTy : (tb : Table) → Fin (tcTables nBuf tb) → BufTy
  | .hbm, ⟨0, _⟩ => ⟨S4x8x1024x384, .f32⟩
  | .hbm, ⟨1, _⟩ => ⟨S8x1024x352, .f32⟩
  | .hbm, ⟨2, _⟩ => ⟨S8x1024x352, .f32⟩
  | .hbm, ⟨3, _⟩ => ⟨S8x1024x352, .f32⟩
  | .hbm, ⟨4, _⟩ => ⟨S_, .f32⟩
  | .hbm, ⟨5, _⟩ => ⟨S8x1024x384, .f32⟩
  | .hbm, ⟨6, _⟩ => ⟨S8x1024x352, .f32⟩
  | .hbm, ⟨7, _⟩ => ⟨S_, .f32⟩
  | .hbm, ⟨8, _⟩ => ⟨S8x1024x352, .f32⟩
  | .hbm, ⟨9, _⟩ => ⟨S8x1024x352, .f32⟩
  | .hbm, ⟨10, _⟩ => ⟨S_, .f32⟩
  | .hbm, ⟨11, _⟩ => ⟨S8x1024x352, .f32⟩
  | .hbm, ⟨12, _⟩ => ⟨S8x1024x352, .f32⟩
  | .hbm, ⟨13, _⟩ => ⟨S8x1024x352, .f32⟩
  | .hbm, ⟨14, _⟩ => ⟨S_, .f32⟩
  | .hbm, ⟨15, _⟩ => ⟨S8x1024x352, .f32⟩
  | .hbm, ⟨16, _⟩ => ⟨S8x1024x352, .f32⟩
  | .hbm, ⟨17, _⟩ => ⟨S8x1024x352, .f32⟩
  | .hbm, ⟨18, _⟩ => ⟨S_, .f32⟩
  | .hbm, ⟨19, _⟩ => ⟨S8x1024x352, .f32⟩
  | .hbm, ⟨20, _⟩ => ⟨S8x1024x352, .f32⟩
  | .hbm, ⟨21, _⟩ => ⟨S8x1024x352, .f32⟩
  | .hbm, ⟨22, _⟩ => ⟨S_, .f32⟩
  | .hbm, ⟨23, _⟩ => ⟨S8x1024x352, .f32⟩
  | .hbm, ⟨24, _⟩ => ⟨S8x1024x352, .f32⟩
  | .hbm, ⟨25, _⟩ => ⟨S_, .f32⟩
  | .hbm, ⟨26, _⟩ => ⟨S8x1024x352, .f32⟩
  | .hbm, ⟨27, _⟩ => ⟨S8x1024x352, .f32⟩
  | .hbm, ⟨28, _⟩ => ⟨S8x1024x352, .f32⟩
  | .hbm, ⟨29, _⟩ => ⟨S_, .f32⟩
  | .hbm, ⟨30, _⟩ => ⟨S8x1024x352, .f32⟩
  | .hbm, ⟨31, _⟩ => ⟨S8x1024x352, .f32⟩
  | .hbm, ⟨32, _⟩ => ⟨S8x1024x352, .f32⟩
  | .hbm, ⟨33, _⟩ => ⟨S_, .f32⟩
  | .hbm, ⟨34, _⟩ => ⟨S8x1024x352, .f32⟩
  | .hbm, ⟨35, _⟩ => ⟨S8x1024x352, .f32⟩
  | .hbm, ⟨36, _⟩ => ⟨S8x1024x352, .f32⟩
  | .hbm, ⟨37, _⟩ => ⟨S_, .f32⟩
  | .hbm, ⟨38, _⟩ => ⟨S8x1024x352, .f32⟩
  | .hbm, ⟨39, _⟩ => ⟨S8x1024x352, .f32⟩
  | _, _ => ⟨S4x8x1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Proof.Attn.Base.lean ====
module

public import proofs.«01_k».proof.Proof.Gen.KernelIdeal.Skeleton
public import proofs.«01_k».proof.Proof.Gen.KernelIdeal.Frame
public import Idealize.ShloMosaic.Lib.Claim

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 68 = 0 :=
  (fun t => by
    have ht : t.val < 68 := Nat.lt_of_lt_of_eq t.isLt N_0
    have e0 : (grid0.coords t 0).val = t.val / 17 % 4 := Pipeline.Grid.coords_val t 0 (by decide) rfl
    have e1 : (grid0.coords t 1).val = t.val / 17 % 1 := Pipeline.Grid.coords_val t 1 (by decide) rfl
    have e2 : (grid0.coords t 2).val = t.val / 1 % 17 := Pipeline.Grid.coords_val t 2 (by decide) rfl
    simp only [cond0_0, k0_cond1, e0, e1, e2]
    word_cmp
   : ∀ t : Fin grid0.N, cond0_0 (grid0.coords t) ↔ t.val % 68 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 2).val) 0#32)) 0#32) = 1#1
/-- It holds at the points ≡ 0 (mod 17) — by arithmetic of the point. -/
theorem hcond0_1 : ∀ t : Fin cfg0.N, cond0_1 (grid0.coords t) ↔ t.val % 17 = 0 :=
  (fun t => by
    have ht : t.val < 68 := Nat.lt_of_lt_of_eq t.isLt N_0
    have e0 : (grid0.coords t 0).val = t.val / 17 % 4 := Pipeline.Grid.coords_val t 0 (by decide) rfl
    have e1 : (grid0.coords t 1).val = t.val / 17 % 1 := Pipeline.Grid.coords_val t 1 (by decide) rfl
    have e2 : (grid0.coords t 2).val = t.val / 1 % 17 := Pipeline.Grid.coords_val t 2 (by decide) rfl
    simp only [cond0_1, e0, e1, e2]
    word_cmp
   : ∀ t : Fin grid0.N, cond0_1 (grid0.coords t) ↔ t.val % 17 = 0)

/-- The condition of the body's `scf.if` 2 (`k0_h3`), from the grid coordinates (the skeleton's scalar
    chain substituted). -/
abbrev cond0_2 (i : grid0.Coords) : Prop := k0_cond3 i = 1#1
/-- It holds at the points whose coordinates have i2 ≤ 15 — decided over the grid. -/
theorem hcond0_2 : ∀ t : Fin cfg0.N, cond0_2 (grid0.coords t) ↔ t.val % 17 ≤ 15 :=
  (by decide +kernel : ∀ t : Fin grid0.N, cond0_2 (grid0.coords t) ↔ t.val % 17 ≤ 15)

/-- The condition of the body's `scf.if` 3 (`k0_h4`), from the grid coordinates (the skeleton's scalar
    chain substituted). -/
abbrev cond0_3 (i : grid0.Coords) : Prop := k0_cond4 i = 1#1
/-- It holds at the points ≡ 16 (mod 17) — by arithmetic of the point. -/
theorem hcond0_3 : ∀ t : Fin cfg0.N, cond0_3 (grid0.coords t) ↔ t.val % 17 = 16 :=
  (fun t => by
    have ht : t.val < 68 := Nat.lt_of_lt_of_eq t.isLt N_0
    have e0 : (grid0.coords t 0).val = t.val / 17 % 4 := Pipeline.Grid.coords_val t 0 (by decide) rfl
    have e1 : (grid0.coords t 1).val = t.val / 17 % 1 := Pipeline.Grid.coords_val t 1 (by decide) rfl
    have e2 : (grid0.coords t 2).val = t.val / 1 % 17 := Pipeline.Grid.coords_val t 2 (by decide) rfl
    simp only [cond0_3, k0_cond4, e0, e1, e2]
    word_cmp
   : ∀ t : Fin grid0.N, cond0_3 (grid0.coords t) ↔ t.val % 17 = 16)

/-- Each window's current staging memref at point `t`, spelled as the pipeline passes it (`bodyAt0`), and its wholeness. -/
abbrev ms0_0 (t : Fin cfg0.N) : Memref sig .tc .vmem S1x128x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x128x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x128x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x128x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S4x128x512 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S128x512 .f32 := Memref.whole cc0_scratch0
abbrev scM0_1 : Memref sig .tc .vmem S128x512 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Attn

end
-- ==== Proof.Attn.Tail.lean ====
module

public import proofs.«01_k».proof.Proof.Attn.Base

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The part of the kernel's body after the carries and the bias gradient have been cleared: a block's work where
    there is a block, the last carry's store at the position after the last block. -/
noncomputable def tailProg (i : grid0.Coords) (arg3 : Memref sig .tc .vmem S1x128x512 .f32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x512 .f32) (harg7 : arg7.IsWhole) (arg8 : Memref sig .tc .vmem S4x128x512 .f32) (harg8 : arg8.IsWhole) (arg9 : Memref sig .tc .vmem S1x128x512 .f32) (harg9 : arg9.IsWhole) (arg10 : Memref sig .tc .vmem S1x128x512 .f32) (harg10 : arg10.IsWhole) (arg11 : Memref sig .tc .vmem S1x128x512 .f32) (harg11 : arg11.IsWhole) (arg12 : Memref sig .tc .vmem S1x128x512 .f32) (harg12 : arg12.IsWhole) (arg13 : Memref sig .tc .vmem S1x128x512 .f32) (harg13 : arg13.IsWhole) (arg14 : Memref sig .tc .vmem S4x128x512 .f32) (harg14 : arg14.IsWhole) (arg15 : Memref sig .tc .vmem S128x512 .f32) (harg15 : arg15.IsWhole) (arg16 : Memref sig .tc .vmem S128x512 .f32) (harg16 : arg16.IsWhole) :
    Prog (TpuEff nD τ sig (Elt F) Λ₀ .tc) PUnit := do
  let arg1 : BitVec 32 := BitVec.ofNat 32 (i 1).val
  let arg2 : BitVec 32 := BitVec.ofNat 32 (i 2).val
  if k0_h3 : k0_cond3 i = 1#1 then do
    let ⟨v48, v53, v54⟩ : Σ' (v48 : IVec S128x512 1) (v53 : FVec F S256x128 .f32), Vec F S1x128x128 .f32 ← k0_part1 i arg3 harg3 arg4 harg4 arg5 harg5 arg6 harg6 arg7 harg7 arg8 harg8 arg9 harg9 arg10 harg10 arg11 harg11 arg12 harg12 arg13 harg13 arg14 harg14 arg15 harg15 arg16 harg16 arg2
    let ⟨v58, v60, v81, v95⟩ : Σ' (v58 : FVec F S256x128 .f32) (v60 : FVec F S128x128 .f32) (v81 : FVec F S128x512 .f32), FVec F S128x512 .f32 ← k0_part2 i arg3 harg3 arg4 harg4 arg5 harg5 arg6 harg6 arg7 harg7 arg8 harg8 arg9 harg9 arg10 harg10 arg11 harg11 arg12 harg12 arg13 harg13 arg14 harg14 arg15 harg15 arg16 harg16 arg1 k0_h3 v48 v53 v54
    let ⟨v97, v106, v117, v122, v125, v127, v137, v138⟩ : Σ' (v97 : FVec F S128x512 .f32) (v106 : IVec S128x128 1) (v117 : FVec F S128x128 .f32) (v122 : FVec F S128x128 .f32) (v125 : FVec F S128x128 .f32) (v127 : FVec F S128x128 .f32) (v137 : FVec F S128x1 .f32), FVec F S128x1 .f32 ← k0_part3 i arg3 harg3 arg4 harg4 arg5 harg5 arg6 harg6 arg7 harg7 arg8 harg8 arg9 harg9 arg10 harg10 arg11 harg11 arg12 harg12 arg13 harg13 arg14 harg14 arg15 harg15 arg16 harg16 v58 v81 v95
    let ⟨v172, v184⟩ : Σ' (v172 : FVec F S256x128 .f32), FVec F S128x512 .f32 ← k0_part4 i arg3 harg3 arg4 harg4 arg5 harg5 arg6 harg6 arg7 harg7 arg8 harg8 arg9 harg9 arg10 harg10 arg11 harg11 arg12 harg12 arg13 harg13 arg14 harg14 arg15 harg15 arg16 harg16 v58 v97 v106 v117 v122 v125 v127 v137 v138
    let ⟨v209, v223⟩ : Σ' (v209 : FVec F S256x128 .f32), Vec F S128x128 .f32 ← k0_part5 i arg3 harg3 arg4 harg4 arg5 harg5 arg6 harg6 arg7 harg7 arg8 harg8 arg9 harg9 arg10 harg10 arg11 harg11 arg12 harg12 arg13 harg13 arg14 harg14 arg15 harg15 arg16 harg16 arg1 k0_h3 v48 v53 v60 v97 v184
    let ⟨v247, v252⟩ : Σ' (v247 : FVec F S256x128 .f32), FVec F S256x128 .f32 ← k0_part6 i arg3 harg3 arg4 harg4 arg5 harg5 arg6 harg6 arg7 harg7 arg8 harg8 arg9 harg9 arg10 harg10 arg11 harg11 arg12 harg12 arg13 harg13 arg14 harg14 arg15 harg15 arg16 harg16 v172 v209 v223
    let ⟨v254, v291, v294, v297⟩ : Σ' (v254 : FVec F S128x128 .f32) (v291 : FVec F S128x512 .f32) (v294 : FVec F S128x1 .f32), FVec F S128x1 .f32 ← k0_part7 i arg3 harg3 arg4 harg4 arg5 harg5 arg6 harg6 arg7 harg7 arg8 harg8 arg9 harg9 arg10 harg10 arg11 harg11 arg12 harg12 arg13 harg13 arg14 harg14 arg15 harg15 arg16 harg16 arg1 k0_h3 v48 v247
    let ⟨v331, v332, v337, v339, v340⟩ : Σ' (v331 : FVec F S128x1 .f32) (v332 : FVec F S128x1 .f32) (v337 : FVec F S128x128 .f32) (v339 : FVec F S128x128 .f32), FVec F S128x128 .f32 ← k0_part8 i arg3 harg3 arg4 harg4 arg5 harg5 arg6 harg6 arg7 harg7 arg8 harg8 arg9 harg9 arg10 harg10 arg11 harg11 arg12 harg12 arg13 harg13 arg14 harg14 arg15 harg15 arg16 harg16 v252 v291 v294 v297
    let ⟨v366, v381, v383, v384, v385⟩ : Σ' (v366 : FVec F S256x128 .f32) (v381 : FVec F S128x512 .f32) (v383 : FVec F S128x512 .f32) (v384 : IVec S256x128 32), IVec S256x128 32 ← k0_part9 i arg3 harg3 arg4 harg4 arg5 harg5 arg6 harg6 arg7 harg7 arg8 harg8 arg9 harg9 arg10 harg10 arg11 harg11 arg12 harg12 arg13 harg13 arg14 harg14 arg15 harg15 arg16 harg16 v48 v252 v291 v331 v332 v337 v339 v340
    let v403 : FVec F S256x128 .f32 ← k0_part10 i arg3 harg3 arg4 harg4 arg5 harg5 arg6 harg6 arg7 harg7 arg8 harg8 arg9 harg9 arg10 harg10 arg11 harg11 arg12 harg12 arg13 harg13 arg14 harg14 arg15 harg15 arg16 harg16 arg1 k0_h3 v247 v254 v381 v383 v384 v385
    let ⟨v441, v446, v448, v452⟩ : Σ' (v441 : FVec F S256x128 .f32) (v446 : FVec F S256x128 .f32) (v448 : FVec F S128x128 .f32), Vec F S1x128x512 .f32 ← k0_part11 i arg3 harg3 arg4 harg4 arg5 harg5 arg6 harg6 arg7 harg7 arg8 harg8 arg9 harg9 arg10 harg10 arg11 harg11 arg12 harg12 arg13 harg13 arg14 harg14 arg15 harg15 arg16 harg16 arg1 k0_h3 v366 v403
    let ⟨v485, v488, v491, v494, v497, v498⟩ : Σ' (v485 : FVec F S128x512 .f32) (v488 : FVec F S128x1 .f32) (v491 : FVec F S128x1 .f32) (v494 : IVec S128x128 1) (v497 : IVec S256x128 1), FVec F S256x128 .f32 ← k0_part12 i arg3 harg3 arg4 harg4 arg5 harg5 arg6 harg6 arg7 harg7 arg8 harg8 arg9 harg9 arg10 harg10 arg11 harg11 arg12 harg12 arg13 harg13 arg14 harg14 arg15 harg15 arg16 harg16 v48 v441 v448 v452
    let ⟨v531, v539, v540, v541, c64_i32_238⟩ : Σ' (v531 : FVec F S128x128 .f32) (v539 : FVec F S128x1 .f32) (v540 : FVec F S128x1 .f32) (v541 : IVec S256x128 32), BitVec 32 ← k0_part13 i arg3 harg3 arg4 harg4 arg5 harg5 arg6 harg6 arg7 harg7 arg8 harg8 arg9 harg9 arg10 harg10 arg11 harg11 arg12 harg12 arg13 harg13 arg14 harg14 arg15 harg15 arg16 harg16 v446 v485 v488 v491 v494 v497 v498
    let ⟨v560, v575, v577, v586, v587⟩ : Σ' (v560 : FVec F S256x128 .f32) (v575 : FVec F S128x512 .f32) (v577 : FVec F S128x512 .f32) (v586 : FVec F S128x512 .bf16), FVec F S512x128 .bf16 ← k0_part14 i arg3 harg3 arg4 harg4 arg5 harg5 arg6 harg6 arg7 harg7 arg8 harg8 arg9 harg9 arg10 harg10 arg11 harg11 arg12 harg12 arg13 harg13 arg14 harg14 arg15 harg15 arg16 harg16 v48 v441 v446 v485 v531 v539 v540 v541 c64_i32_238
    let ⟨v597, v622⟩ : Σ' (v597 : FVec F S256x128 .f32), FVec F S1x128x128 .f32 ← k0_part15 i arg3 harg3 arg4 harg4 arg5 harg5 arg6 harg6 arg7 harg7 arg8 harg8 arg9 harg9 arg10 harg10 arg11 harg11 arg12 harg12 arg13 harg13 arg14 harg14 arg15 harg15 arg16 harg16 arg1 k0_h3 v448 v560 v575 v577 v586 v587
    let ⟨v635, v640, v642, v647, v650, v652, v653⟩ : Σ' (v635 : FVec F S256x128 .f32) (v640 : FVec F S256x128 .f32) (v642 : FVec F S128x128 .f32) (v647 : FVec F S128x512 .f32) (v650 : IVec S256x128 1) (v652 : FVec F S256x128 .f32), FVec F S256x128 .f32 ← k0_part16 i arg3 harg3 arg4 harg4 arg5 harg5 arg6 harg6 arg7 harg7 arg8 harg8 arg9 harg9 arg10 harg10 arg11 harg11 arg12 harg12 arg13 harg13 arg14 harg14 arg15 harg15 arg16 harg16 arg1 k0_h3 v560 v597 v622
    let ⟨v679, v682, v685, v688, v699, v700⟩ : Σ' (v679 : FVec F S128x512 .f32) (v682 : FVec F S128x1 .f32) (v685 : FVec F S128x1 .f32) (v688 : IVec S128x128 1) (v699 : FVec F S128x128 .f32), FVec F S128x1 .f32 ← k0_part17 i arg3 harg3 arg4 harg4 arg5 harg5 arg6 harg6 arg7 harg7 arg8 harg8 arg9 harg9 arg10 harg10 arg11 harg11 arg12 harg12 arg13 harg13 arg14 harg14 arg15 harg15 arg16 harg16 v48 v635 v640 v642 v647 v650 v652 v653
    let ⟨v725, v733, v734, v742, v743⟩ : Σ' (v725 : FVec F S128x128 .f32) (v733 : FVec F S128x1 .f32) (v734 : FVec F S128x1 .f32) (v742 : FVec F S512x128 .f32), FVec F S128x128 .bf16 ← k0_part18 i arg3 harg3 arg4 harg4 arg5 harg5 arg6 harg6 arg7 harg7 arg8 harg8 arg9 harg9 arg10 harg10 arg11 harg11 arg12 harg12 arg13 harg13 arg14 harg14 arg15 harg15 arg16 harg16 v640 v682 v685 v688 v699 v700
    let ⟨v754, v769, v782, v785, v788⟩ : Σ' (v754 : FVec F S256x128 .f32) (v769 : FVec F S128x512 .f32) (v782 : FVec F S128x128 .f32) (v785 : FVec F S512x128 .f32), IVec S256x128 1 ← k0_part19 i arg3 harg3 arg4 harg4 arg5 harg5 arg6 harg6 arg7 harg7 arg8 harg8 arg9 harg9 arg10 harg10 arg11 harg11 arg12 harg12 arg13 harg13 arg14 harg14 arg15 harg15 arg16 harg16 v48 v635 v642 v679 v725 v733 v734 v742 v743
    let v821 : FVec F S128x128 .f32 ← k0_part20 i arg3 harg3 arg4 harg4 arg5 harg5 arg6 harg6 arg7 harg7 arg8 harg8 arg9 harg9 arg10 harg10 arg11 harg11 arg12 harg12 arg13 harg13 arg14 harg14 arg15 harg15 arg16 harg16 arg1 k0_h3 v754 v769 v782 v785 v788
    let v822 : Vec F S128x128 .f32 ← Prog.lift (.load arg16 (Rect.unit (s := S128x512) ![0, 384] S128x128.size inb_S128x512_S128x128_0_384).toLoadRect (View.loadsAt_vmem h_S128x128))

    Prog.lift (.store arg16 (Rect.unit (s := S128x512) ![0, 384] S128x128.size inb_S128x512_S128x128_0_384) (k0_pay4 v821) Finset.univ (View.stores_vmem_bits_univ h_S128x128 rfl) (.inl rfl))
    pure ⟨⟩
  else do
    pure ⟨⟩

  if k0_h4 : k0_cond4 i = 1#1 then do
    let v16 : Vec F S128x512 .f32 ← Prog.lift (.load arg15 (Rect.unit (s := S128x512) ![0, 0] S128x512.size inb_S128x512_S128x512_0_0).toLoadRect (View.loadsAt_vmem h_S128x512))
    let v17 : Vec F S1x128x512 .f32 ← Prog.lift (.load arg12 (Rect.unit (s := S1x128x512) ![0, 0, 0] S1x128x512.size inb_S1x128x512_S1x128x512_0_0_0).toLoadRect (View.loadsAt_vmem h_S1x128x512))

    Prog.lift (.store arg12 (Rect.unit (s := S1x128x512) ![0, 0, 0] S1x128x512.size inb_S1x128x512_S1x128x512_0_0_0) (k0_pay5 v16) Finset.univ (View.stores_vmem_bits_univ h_S1x128x512 rfl) (.inl rfl))
    let v20 : Vec F S128x512 .f32 ← Prog.lift (.load arg16 (Rect.unit (s := S128x512) ![0, 0] S128x512.size inb_S128x512_S128x512_0_0).toLoadRect (View.loadsAt_vmem h_S128x512))
    let v21 : Vec F S1x128x512 .f32 ← Prog.lift (.load arg13 (Rect.unit (s := S1x128x512) ![0, 0, 0] S1x128x512.size inb_S1x128x512_S1x128x512_0_0_0).toLoadRect (View.loadsAt_vmem h_S1x128x512))

    Prog.lift (.store arg13 (Rect.unit (s := S1x128x512) ![0, 0, 0] S1x128x512.size inb_S1x128x512_S1x128x512_0_0_0) (k0_pay6 v20) Finset.univ (View.stores_vmem_bits_univ h_S1x128x512 rfl) (.inl rfl))
    pure ⟨⟩
  else do
    pure ⟨⟩
  pure ⟨⟩

/-- The kernel's body is the clearing of the bias gradient and of the carries, then `tailProg`. -/
theorem cc0_eq_tail (i : grid0.Coords) (arg3 : Memref sig .tc .vmem S1x128x512 .f32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x512 .f32) (harg7 : arg7.IsWhole) (arg8 : Memref sig .tc .vmem S4x128x512 .f32) (harg8 : arg8.IsWhole) (arg9 : Memref sig .tc .vmem S1x128x512 .f32) (harg9 : arg9.IsWhole) (arg10 : Memref sig .tc .vmem S1x128x512 .f32) (harg10 : arg10.IsWhole) (arg11 : Memref sig .tc .vmem S1x128x512 .f32) (harg11 : arg11.IsWhole) (arg12 : Memref sig .tc .vmem S1x128x512 .f32) (harg12 : arg12.IsWhole) (arg13 : Memref sig .tc .vmem S1x128x512 .f32) (harg13 : arg13.IsWhole) (arg14 : Memref sig .tc .vmem S4x128x512 .f32) (harg14 : arg14.IsWhole) (arg15 : Memref sig .tc .vmem S128x512 .f32) (harg15 : arg15.IsWhole) (arg16 : Memref sig .tc .vmem S128x512 .f32) (harg16 : arg16.IsWhole) :
    cc0_attn_bwd (F := F) i arg3 harg3 arg4 harg4 arg5 harg5 arg6 harg6 arg7 harg7 arg8 harg8 arg9 harg9 arg10 harg10 arg11 harg11 arg12 harg12 arg13 harg13 arg14 harg14 arg15 harg15 arg16 harg16 = (do

  let arg1 : BitVec 32 := BitVec.ofNat 32 (i 1).val
  let arg2 : BitVec 32 := BitVec.ofNat 32 (i 2).val

  if k0_h1 : k0_cond1 i = 1#1 then do
    let v17 : Vec F S4x128x512 .f32 ← Prog.lift (.load arg14 (Rect.unit (s := S4x128x512) ![0, 0, 0] S4x128x512.size inb_S4x128x512_S4x128x512_0_0_0).toLoadRect (View.loadsAt_vmem h_S4x128x512))
    Prog.lift (.store arg14 (Rect.unit (s := S4x128x512) ![0, 0, 0] S4x128x512.size inb_S4x128x512_S4x128x512_0_0_0) (k0_pay1 (F := F)) Finset.univ (View.stores_vmem_bits_univ h_S4x128x512 rfl) (.inl rfl))
    pure ⟨⟩
  else do
    pure ⟨⟩
  let v7 : BitVec 1 := Scalar.cmpi .eq arg2 0#32
  let v8 : BitVec 32 := Scalar.extui v7
  let v9 : BitVec 1 := Scalar.cmpi .ne v8 0#32
  if k0_h2 : v9 = 1#1 then do
    let v17 : Vec F S128x512 .f32 ← Prog.lift (.load arg15 (Rect.unit (s := S128x512) ![0, 0] S128x512.size inb_S128x512_S128x512_0_0).toLoadRect (View.loadsAt_vmem h_S128x512))

    Prog.lift (.store arg15 (Rect.unit (s := S128x512) ![0, 0] S128x512.size inb_S128x512_S128x512_0_0) (k0_pay2 (F := F)) Finset.univ (View.stores_vmem_bits_univ h_S128x512 rfl) (.inl rfl))
    let v21 : Vec F S128x512 .f32 ← Prog.lift (.load arg16 (Rect.unit (s := S128x512) ![0, 0] S128x512.size inb_S128x512_S128x512_0_0).toLoadRect (View.loadsAt_vmem h_S128x512))

    Prog.lift (.store arg16 (Rect.unit (s := S128x512) ![0, 0] S128x512.size inb_S128x512_S128x512_0_0) (k0_pay3 (F := F)) Finset.univ (View.stores_vmem_bits_univ h_S128x512 rfl) (.inl rfl))
    pure ⟨⟩
  else do
    pure ⟨⟩
  tailProg i arg3 harg3 arg4 harg4 arg5 harg5 arg6 harg6 arg7 harg7 arg8 harg8 arg9 harg9 arg10 harg10 arg11 harg11 arg12 harg12 arg13 harg13 arg14 harg14 arg15 harg15 arg16 harg16) := rfl

set_option maxHeartbeats 2000000 in
/-- The block's work at a point that has a block: from the inputs' blocks, the bias gradient so far (`xo11`) and the
    carries the position before left (`xs0`, `xs1`), the body runs to the continuation with every output's and both
    carries' stores as lists of pieces, which the run finds. -/
noncomputable def tailRun (c : Dev nD) (i : grid0.Coords) (arg3 : Memref sig .tc .vmem S1x128x512 .f32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x512 .f32) (harg7 : arg7.IsWhole) (arg8 : Memref sig .tc .vmem S4x128x512 .f32) (harg8 : arg8.IsWhole) (arg9 : Memref sig .tc .vmem S1x128x512 .f32) (harg9 : arg9.IsWhole) (arg10 : Memref sig .tc .vmem S1x128x512 .f32) (harg10 : arg10.IsWhole) (arg11 : Memref sig .tc .vmem S1x128x512 .f32) (harg11 : arg11.IsWhole) (arg12 : Memref sig .tc .vmem S1x128x512 .f32) (harg12 : arg12.IsWhole) (arg13 : Memref sig .tc .vmem S1x128x512 .f32) (harg13 : arg13.IsWhole) (arg14 : Memref sig .tc .vmem S4x128x512 .f32) (harg14 : arg14.IsWhole) (arg15 : Memref sig .tc .vmem S128x512 .f32) (harg15 : arg15.IsWhole) (arg16 : Memref sig .tc .vmem S128x512 .f32) (harg16 : arg16.IsWhole) (hc2 : cond0_2 i) (hc3 : ¬cond0_3 i)
    (x0 : Vec F S1x128x512 .f32) (x1 : Vec F S1x128x512 .f32) (x2 : Vec F S1x128x512 .f32) (x3 : Vec F S1x128x512 .f32) (x4 : Vec F S1x128x512 .f32) (x5 : Vec F S4x128x512 .f32) (x6 : Vec F S1x128x512 .f32) (x7 : Vec F S1x128x512 .f32) (xo11 : Vec F S4x128x512 .f32) (xs0 : Vec F S128x512 .f32) (xs1 : Vec F S128x512 .f32) :
    Σ' (L8 : List (View.Piece (Elt F) S1x128x512 .f32)), Σ' (L9 : List (View.Piece (Elt F) S1x128x512 .f32)), Σ' (L10 : List (View.Piece (Elt F) S1x128x512 .f32)), Σ' (L11 : List (View.Piece (Elt F) S4x128x512 .f32)), Σ' (LS0 : List (View.Piece (Elt F) S128x512 .f32)), { LS1 : List (View.Piece (Elt F) S128x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xo11 ∗ owns (c : Thread nD τ) arg15 fullShare xs0 ∗ owns (c : Thread nD τ) arg16 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f L11) ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1)) -∗ K ⟨⟩))
          ⊢ wp frame (wpE (defs₀ (F := F)) Variants.none c none) E (tailProg i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, fun E K => ?run⟩
  case run =>
    unfold tailProg
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg14.eq_unread hf11; obtain rfl := harg15.eq_unread hfs0; obtain rfl := harg16.eq_unread hfs1
    sl_exec (disch := first | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    isplitl [H9]; · iexists _; iexact H9
    isplitl [H10]; · iexists _; iexact H10
    isplitl [H11]; · iexists _; iexact H11
    isplitl [HS0]; · iexists _; iexact HS0
    iexists _; iexact HS1

end Cert.KernelIdeal.Attn

end
-- ==== Proof.Attn.Pair.lean ====
module

public import proofs.«01_k».proof.Proof.Attn.Base

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The work of one block on one pair of heads

A pair of heads lies in 128 neighbouring lanes. `ok` says which keys a query sees, `k1`, `v1` are the previous block's
keys and values, `k2`, `v2` the current block's, `q` the queries, `d` the gradient of the output, `l` the gradient of
the log of the denominator, `b` the bias. -/

section Pair

variable (ok : IVec S128x512 1) (k1 k2 v1 v2 q d l : Vec F S1x128x128 .f32) (b : Vec F S1x128x512 .f32)

/-- The masked scores of the two heads, side by side. -/
abbrev pS : FVec F S128x512 .f32 := k0_pay11 ok (k0_pay8 k1 k2) q b
/-- Their row maxima. -/
abbrev pM : FVec F S128x512 .f32 := k0_pay12 ok (k0_pay8 k1 k2) q b
/-- The exponentials of the scores above their row maximum. -/
abbrev pP : FVec F S128x512 .f32 := k0_pay13 (pS ok k1 k2 q b) (pM ok k1 k2 q b)
/-- The gradient of the exponentials. -/
abbrev pG : FVec F S128x512 .f32 :=
  k0_pay27 (k0_pay9 v1 v2) k0_pay16 (k0_pay17 (k0_pay9 v1 v2) (pS ok k1 k2 q b) (pM ok k1 k2 q b))
    (k0_pay18 (pS ok k1 k2 q b) (pM ok k1 k2 q b)) (k0_pay19 (pS ok k1 k2 q b) (pM ok k1 k2 q b)) (k0_pay20 d)
    (k0_pay23 (pS ok k1 k2 q b) (pM ok k1 k2 q b) l) (k0_pay24 (pS ok k1 k2 q b) (pM ok k1 k2 q b) l)
/-- The gradient of the queries. -/
abbrev pDQ : FVec F S1x128x128 .f32 :=
  k0_pay31 ok (k0_pay8 k1 k2) (pP ok k1 k2 q b) (pG ok k1 k2 v1 v2 q d l b)
/-- The gradient of the keys: the previous block's rows, then the current block's. -/
abbrev pDK : FVec F S256x128 .f32 :=
  k0_pay30 ok (k0_pay10 q) (pP ok k1 k2 q b) (pG ok k1 k2 v1 v2 q d l b)
/-- The gradient of the values, likewise. -/
abbrev pDV : FVec F S256x128 .f32 :=
  k0_pay26 (pP ok k1 k2 q b) (k0_pay18 (pS ok k1 k2 q b) (pM ok k1 k2 q b)) (k0_pay20 d)
/-- The sum of the bias' gradient `a` so far and this block's. -/
abbrev pDB (a : Vec F S1x128x512 .f32) : FVec F S1x128x512 .f32 :=
  k0_pay32 ok (pP ok k1 k2 q b) (pG ok k1 k2 v1 v2 q d l b) a

end Pair

/-- Row `n` lanes on: the 128 lanes of a pair. -/
abbrev lanes (n : ℕ) (h : ∀ a, (![0, 0, n] : Fin 3 → ℕ) a + S1x128x128.size a ≤ S1x128x512.size a) :
    Rect S1x128x512 := Rect.unit (s := S1x128x512) ![0, 0, n] S1x128x128.size h
/-- The same lanes of a carry. -/
abbrev clanes (n : ℕ) (h : ∀ a, (![0, n] : Fin 2 → ℕ) a + S128x128.size a ≤ S128x512.size a) :
    Rect S128x512 := Rect.unit (s := S128x512) ![0, n] S128x128.size h
/-- The pair's plane of the bias. -/
abbrev plane (i : grid0.Coords) (hc2 : cond0_2 i) (p : Fin 4) : Rect S4x128x512 :=
  Rect.unit (s := S4x128x512) (k0_off1 i (BitVec.ofNat 32 p.val)) S1x128x512.size (k0_off1_inb i hc2 p)

section Block

variable (i : grid0.Coords) (hc2 : cond0_2 i)
    (x0 x1 x2 x3 x4 : Vec F S1x128x512 .f32) (x5 : Vec F S4x128x512 .f32) (x6 x7 : Vec F S1x128x512 .f32)
    (xo11 : Vec F S4x128x512 .f32) (xs0 xs1 : Vec F S128x512 .f32)

/-- The keys a query of the block sees. -/
abbrev ok (i : grid0.Coords) : IVec S128x512 1 := k0_pay7 (BitVec.ofNat 32 (i 2).val)

/-- What is stored of the queries' gradient. -/
def P8 : List (View.Piece (Elt F) S1x128x512 .f32) :=
   [⟨lanes 384 inb_S1x128x512_S1x128x128_0_0_384, pDQ (ok i) (View.ld x1 (lanes 384 inb_S1x128x512_S1x128x128_0_0_384)) (View.ld x2 (lanes 384 inb_S1x128x512_S1x128x128_0_0_384)) (View.ld x3 (lanes 384 inb_S1x128x512_S1x128x128_0_0_384)) (View.ld x4 (lanes 384 inb_S1x128x512_S1x128x128_0_0_384)) (View.ld x0 (lanes 384 inb_S1x128x512_S1x128x128_0_0_384)) (View.ld x6 (lanes 384 inb_S1x128x512_S1x128x128_0_0_384)) (View.ld x7 (lanes 384 inb_S1x128x512_S1x128x128_0_0_384)) (View.ld x5 (plane i hc2 3))⟩,
    ⟨lanes 256 inb_S1x128x512_S1x128x128_0_0_256, pDQ (ok i) (View.ld x1 (lanes 256 inb_S1x128x512_S1x128x128_0_0_256)) (View.ld x2 (lanes 256 inb_S1x128x512_S1x128x128_0_0_256)) (View.ld x3 (lanes 256 inb_S1x128x512_S1x128x128_0_0_256)) (View.ld x4 (lanes 256 inb_S1x128x512_S1x128x128_0_0_256)) (View.ld x0 (lanes 256 inb_S1x128x512_S1x128x128_0_0_256)) (View.ld x6 (lanes 256 inb_S1x128x512_S1x128x128_0_0_256)) (View.ld x7 (lanes 256 inb_S1x128x512_S1x128x128_0_0_256)) (View.ld x5 (plane i hc2 2))⟩,
    ⟨lanes 128 inb_S1x128x512_S1x128x128_0_0_128, pDQ (ok i) (View.ld x1 (lanes 128 inb_S1x128x512_S1x128x128_0_0_128)) (View.ld x2 (lanes 128 inb_S1x128x512_S1x128x128_0_0_128)) (View.ld x3 (lanes 128 inb_S1x128x512_S1x128x128_0_0_128)) (View.ld x4 (lanes 128 inb_S1x128x512_S1x128x128_0_0_128)) (View.ld x0 (lanes 128 inb_S1x128x512_S1x128x128_0_0_128)) (View.ld x6 (lanes 128 inb_S1x128x512_S1x128x128_0_0_128)) (View.ld x7 (lanes 128 inb_S1x128x512_S1x128x128_0_0_128)) (View.ld x5 (plane i hc2 1))⟩,
    ⟨lanes 0 inb_S1x128x512_S1x128x128_0_0_0, pDQ (ok i) (View.ld x1 (lanes 0 inb_S1x128x512_S1x128x128_0_0_0)) (View.ld x2 (lanes 0 inb_S1x128x512_S1x128x128_0_0_0)) (View.ld x3 (lanes 0 inb_S1x128x512_S1x128x128_0_0_0)) (View.ld x4 (lanes 0 inb_S1x128x512_S1x128x128_0_0_0)) (View.ld x0 (lanes 0 inb_S1x128x512_S1x128x128_0_0_0)) (View.ld x6 (lanes 0 inb_S1x128x512_S1x128x128_0_0_0)) (View.ld x7 (lanes 0 inb_S1x128x512_S1x128x128_0_0_0)) (View.ld x5 (plane i hc2 0))⟩]

/-- What is stored of the keys' gradient: the carry and the previous block's rows. -/
def P9 : List (View.Piece (Elt F) S1x128x512 .f32) :=
   [⟨lanes 384 inb_S1x128x512_S1x128x128_0_0_384, k0_pay33 (pDK (ok i) (View.ld x1 (lanes 384 inb_S1x128x512_S1x128x128_0_0_384)) (View.ld x2 (lanes 384 inb_S1x128x512_S1x128x128_0_0_384)) (View.ld x3 (lanes 384 inb_S1x128x512_S1x128x128_0_0_384)) (View.ld x4 (lanes 384 inb_S1x128x512_S1x128x128_0_0_384)) (View.ld x0 (lanes 384 inb_S1x128x512_S1x128x128_0_0_384)) (View.ld x6 (lanes 384 inb_S1x128x512_S1x128x128_0_0_384)) (View.ld x7 (lanes 384 inb_S1x128x512_S1x128x128_0_0_384)) (View.ld x5 (plane i hc2 3))) (View.ld xs0 (clanes 384 inb_S128x512_S128x128_0_384))⟩,
    ⟨lanes 256 inb_S1x128x512_S1x128x128_0_0_256, k0_pay33 (pDK (ok i) (View.ld x1 (lanes 256 inb_S1x128x512_S1x128x128_0_0_256)) (View.ld x2 (lanes 256 inb_S1x128x512_S1x128x128_0_0_256)) (View.ld x3 (lanes 256 inb_S1x128x512_S1x128x128_0_0_256)) (View.ld x4 (lanes 256 inb_S1x128x512_S1x128x128_0_0_256)) (View.ld x0 (lanes 256 inb_S1x128x512_S1x128x128_0_0_256)) (View.ld x6 (lanes 256 inb_S1x128x512_S1x128x128_0_0_256)) (View.ld x7 (lanes 256 inb_S1x128x512_S1x128x128_0_0_256)) (View.ld x5 (plane i hc2 2))) (View.ld xs0 (clanes 256 inb_S128x512_S128x128_0_256))⟩,
    ⟨lanes 128 inb_S1x128x512_S1x128x128_0_0_128, k0_pay33 (pDK (ok i) (View.ld x1 (lanes 128 inb_S1x128x512_S1x128x128_0_0_128)) (View.ld x2 (lanes 128 inb_S1x128x512_S1x128x128_0_0_128)) (View.ld x3 (lanes 128 inb_S1x128x512_S1x128x128_0_0_128)) (View.ld x4 (lanes 128 inb_S1x128x512_S1x128x128_0_0_128)) (View.ld x0 (lanes 128 inb_S1x128x512_S1x128x128_0_0_128)) (View.ld x6 (lanes 128 inb_S1x128x512_S1x128x128_0_0_128)) (View.ld x7 (lanes 128 inb_S1x128x512_S1x128x128_0_0_128)) (View.ld x5 (plane i hc2 1))) (View.ld xs0 (clanes 128 inb_S128x512_S128x128_0_128))⟩,
    ⟨lanes 0 inb_S1x128x512_S1x128x128_0_0_0, k0_pay33 (pDK (ok i) (View.ld x1 (lanes 0 inb_S1x128x512_S1x128x128_0_0_0)) (View.ld x2 (lanes 0 inb_S1x128x512_S1x128x128_0_0_0)) (View.ld x3 (lanes 0 inb_S1x128x512_S1x128x128_0_0_0)) (View.ld x4 (lanes 0 inb_S1x128x512_S1x128x128_0_0_0)) (View.ld x0 (lanes 0 inb_S1x128x512_S1x128x128_0_0_0)) (View.ld x6 (lanes 0 inb_S1x128x512_S1x128x128_0_0_0)) (View.ld x7 (lanes 0 inb_S1x128x512_S1x128x128_0_0_0)) (View.ld x5 (plane i hc2 0))) (View.ld xs0 (clanes 0 inb_S128x512_S128x128_0_0))⟩]

/-- What is stored of the values' gradient, likewise. -/
def P10 : List (View.Piece (Elt F) S1x128x512 .f32) :=
   [⟨lanes 384 inb_S1x128x512_S1x128x128_0_0_384, k0_pay34 (pDV (ok i) (View.ld x1 (lanes 384 inb_S1x128x512_S1x128x128_0_0_384)) (View.ld x2 (lanes 384 inb_S1x128x512_S1x128x128_0_0_384)) (View.ld x0 (lanes 384 inb_S1x128x512_S1x128x128_0_0_384)) (View.ld x6 (lanes 384 inb_S1x128x512_S1x128x128_0_0_384)) (View.ld x5 (plane i hc2 3))) (View.ld xs1 (clanes 384 inb_S128x512_S128x128_0_384))⟩,
    ⟨lanes 256 inb_S1x128x512_S1x128x128_0_0_256, k0_pay34 (pDV (ok i) (View.ld x1 (lanes 256 inb_S1x128x512_S1x128x128_0_0_256)) (View.ld x2 (lanes 256 inb_S1x128x512_S1x128x128_0_0_256)) (View.ld x0 (lanes 256 inb_S1x128x512_S1x128x128_0_0_256)) (View.ld x6 (lanes 256 inb_S1x128x512_S1x128x128_0_0_256)) (View.ld x5 (plane i hc2 2))) (View.ld xs1 (clanes 256 inb_S128x512_S128x128_0_256))⟩,
    ⟨lanes 128 inb_S1x128x512_S1x128x128_0_0_128, k0_pay34 (pDV (ok i) (View.ld x1 (lanes 128 inb_S1x128x512_S1x128x128_0_0_128)) (View.ld x2 (lanes 128 inb_S1x128x512_S1x128x128_0_0_128)) (View.ld x0 (lanes 128 inb_S1x128x512_S1x128x128_0_0_128)) (View.ld x6 (lanes 128 inb_S1x128x512_S1x128x128_0_0_128)) (View.ld x5 (plane i hc2 1))) (View.ld xs1 (clanes 128 inb_S128x512_S128x128_0_128))⟩,
    ⟨lanes 0 inb_S1x128x512_S1x128x128_0_0_0, k0_pay34 (pDV (ok i) (View.ld x1 (lanes 0 inb_S1x128x512_S1x128x128_0_0_0)) (View.ld x2 (lanes 0 inb_S1x128x512_S1x128x128_0_0_0)) (View.ld x0 (lanes 0 inb_S1x128x512_S1x128x128_0_0_0)) (View.ld x6 (lanes 0 inb_S1x128x512_S1x128x128_0_0_0)) (View.ld x5 (plane i hc2 0))) (View.ld xs1 (clanes 0 inb_S128x512_S128x128_0_0))⟩]

/-- What is stored of the bias' gradient. -/
def P11 : List (View.Piece (Elt F) S4x128x512 .f32) :=
   [⟨plane i hc2 3, pDB (ok i) (View.ld x1 (lanes 384 inb_S1x128x512_S1x128x128_0_0_384)) (View.ld x2 (lanes 384 inb_S1x128x512_S1x128x128_0_0_384)) (View.ld x3 (lanes 384 inb_S1x128x512_S1x128x128_0_0_384)) (View.ld x4 (lanes 384 inb_S1x128x512_S1x128x128_0_0_384)) (View.ld x0 (lanes 384 inb_S1x128x512_S1x128x128_0_0_384)) (View.ld x6 (lanes 384 inb_S1x128x512_S1x128x128_0_0_384)) (View.ld x7 (lanes 384 inb_S1x128x512_S1x128x128_0_0_384)) (View.ld x5 (plane i hc2 3)) (View.ld xo11 (plane i hc2 3))⟩,
    ⟨plane i hc2 2, pDB (ok i) (View.ld x1 (lanes 256 inb_S1x128x512_S1x128x128_0_0_256)) (View.ld x2 (lanes 256 inb_S1x128x512_S1x128x128_0_0_256)) (View.ld x3 (lanes 256 inb_S1x128x512_S1x128x128_0_0_256)) (View.ld x4 (lanes 256 inb_S1x128x512_S1x128x128_0_0_256)) (View.ld x0 (lanes 256 inb_S1x128x512_S1x128x128_0_0_256)) (View.ld x6 (lanes 256 inb_S1x128x512_S1x128x128_0_0_256)) (View.ld x7 (lanes 256 inb_S1x128x512_S1x128x128_0_0_256)) (View.ld x5 (plane i hc2 2)) (View.ld xo11 (plane i hc2 2))⟩,
    ⟨plane i hc2 1, pDB (ok i) (View.ld x1 (lanes 128 inb_S1x128x512_S1x128x128_0_0_128)) (View.ld x2 (lanes 128 inb_S1x128x512_S1x128x128_0_0_128)) (View.ld x3 (lanes 128 inb_S1x128x512_S1x128x128_0_0_128)) (View.ld x4 (lanes 128 inb_S1x128x512_S1x128x128_0_0_128)) (View.ld x0 (lanes 128 inb_S1x128x512_S1x128x128_0_0_128)) (View.ld x6 (lanes 128 inb_S1x128x512_S1x128x128_0_0_128)) (View.ld x7 (lanes 128 inb_S1x128x512_S1x128x128_0_0_128)) (View.ld x5 (plane i hc2 1)) (View.ld xo11 (plane i hc2 1))⟩,
    ⟨plane i hc2 0, pDB (ok i) (View.ld x1 (lanes 0 inb_S1x128x512_S1x128x128_0_0_0)) (View.ld x2 (lanes 0 inb_S1x128x512_S1x128x128_0_0_0)) (View.ld x3 (lanes 0 inb_S1x128x512_S1x128x128_0_0_0)) (View.ld x4 (lanes 0 inb_S1x128x512_S1x128x128_0_0_0)) (View.ld x0 (lanes 0 inb_S1x128x512_S1x128x128_0_0_0)) (View.ld x6 (lanes 0 inb_S1x128x512_S1x128x128_0_0_0)) (View.ld x7 (lanes 0 inb_S1x128x512_S1x128x128_0_0_0)) (View.ld x5 (plane i hc2 0)) (View.ld xo11 (plane i hc2 0))⟩]

/-- What is carried of the keys' gradient: the current block's rows. -/
def PS0 : List (View.Piece (Elt F) S128x512 .f32) :=
   [⟨clanes 384 inb_S128x512_S128x128_0_384, k0_pay35 (pDK (ok i) (View.ld x1 (lanes 384 inb_S1x128x512_S1x128x128_0_0_384)) (View.ld x2 (lanes 384 inb_S1x128x512_S1x128x128_0_0_384)) (View.ld x3 (lanes 384 inb_S1x128x512_S1x128x128_0_0_384)) (View.ld x4 (lanes 384 inb_S1x128x512_S1x128x128_0_0_384)) (View.ld x0 (lanes 384 inb_S1x128x512_S1x128x128_0_0_384)) (View.ld x6 (lanes 384 inb_S1x128x512_S1x128x128_0_0_384)) (View.ld x7 (lanes 384 inb_S1x128x512_S1x128x128_0_0_384)) (View.ld x5 (plane i hc2 3)))⟩,
    ⟨clanes 256 inb_S128x512_S128x128_0_256, k0_pay35 (pDK (ok i) (View.ld x1 (lanes 256 inb_S1x128x512_S1x128x128_0_0_256)) (View.ld x2 (lanes 256 inb_S1x128x512_S1x128x128_0_0_256)) (View.ld x3 (lanes 256 inb_S1x128x512_S1x128x128_0_0_256)) (View.ld x4 (lanes 256 inb_S1x128x512_S1x128x128_0_0_256)) (View.ld x0 (lanes 256 inb_S1x128x512_S1x128x128_0_0_256)) (View.ld x6 (lanes 256 inb_S1x128x512_S1x128x128_0_0_256)) (View.ld x7 (lanes 256 inb_S1x128x512_S1x128x128_0_0_256)) (View.ld x5 (plane i hc2 2)))⟩,
    ⟨clanes 128 inb_S128x512_S128x128_0_128, k0_pay35 (pDK (ok i) (View.ld x1 (lanes 128 inb_S1x128x512_S1x128x128_0_0_128)) (View.ld x2 (lanes 128 inb_S1x128x512_S1x128x128_0_0_128)) (View.ld x3 (lanes 128 inb_S1x128x512_S1x128x128_0_0_128)) (View.ld x4 (lanes 128 inb_S1x128x512_S1x128x128_0_0_128)) (View.ld x0 (lanes 128 inb_S1x128x512_S1x128x128_0_0_128)) (View.ld x6 (lanes 128 inb_S1x128x512_S1x128x128_0_0_128)) (View.ld x7 (lanes 128 inb_S1x128x512_S1x128x128_0_0_128)) (View.ld x5 (plane i hc2 1)))⟩,
    ⟨clanes 0 inb_S128x512_S128x128_0_0, k0_pay35 (pDK (ok i) (View.ld x1 (lanes 0 inb_S1x128x512_S1x128x128_0_0_0)) (View.ld x2 (lanes 0 inb_S1x128x512_S1x128x128_0_0_0)) (View.ld x3 (lanes 0 inb_S1x128x512_S1x128x128_0_0_0)) (View.ld x4 (lanes 0 inb_S1x128x512_S1x128x128_0_0_0)) (View.ld x0 (lanes 0 inb_S1x128x512_S1x128x128_0_0_0)) (View.ld x6 (lanes 0 inb_S1x128x512_S1x128x128_0_0_0)) (View.ld x7 (lanes 0 inb_S1x128x512_S1x128x128_0_0_0)) (View.ld x5 (plane i hc2 0)))⟩]

/-- What is carried of the values' gradient, likewise. -/
def PS1 : List (View.Piece (Elt F) S128x512 .f32) :=
   [⟨clanes 384 inb_S128x512_S128x128_0_384, k0_pay36 (pDV (ok i) (View.ld x1 (lanes 384 inb_S1x128x512_S1x128x128_0_0_384)) (View.ld x2 (lanes 384 inb_S1x128x512_S1x128x128_0_0_384)) (View.ld x0 (lanes 384 inb_S1x128x512_S1x128x128_0_0_384)) (View.ld x6 (lanes 384 inb_S1x128x512_S1x128x128_0_0_384)) (View.ld x5 (plane i hc2 3)))⟩,
    ⟨clanes 256 inb_S128x512_S128x128_0_256, k0_pay36 (pDV (ok i) (View.ld x1 (lanes 256 inb_S1x128x512_S1x128x128_0_0_256)) (View.ld x2 (lanes 256 inb_S1x128x512_S1x128x128_0_0_256)) (View.ld x0 (lanes 256 inb_S1x128x512_S1x128x128_0_0_256)) (View.ld x6 (lanes 256 inb_S1x128x512_S1x128x128_0_0_256)) (View.ld x5 (plane i hc2 2)))⟩,
    ⟨clanes 128 inb_S128x512_S128x128_0_128, k0_pay36 (pDV (ok i) (View.ld x1 (lanes 128 inb_S1x128x512_S1x128x128_0_0_128)) (View.ld x2 (lanes 128 inb_S1x128x512_S1x128x128_0_0_128)) (View.ld x0 (lanes 128 inb_S1x128x512_S1x128x128_0_0_128)) (View.ld x6 (lanes 128 inb_S1x128x512_S1x128x128_0_0_128)) (View.ld x5 (plane i hc2 1)))⟩,
    ⟨clanes 0 inb_S128x512_S128x128_0_0, k0_pay36 (pDV (ok i) (View.ld x1 (lanes 0 inb_S1x128x512_S1x128x128_0_0_0)) (View.ld x2 (lanes 0 inb_S1x128x512_S1x128x128_0_0_0)) (View.ld x0 (lanes 0 inb_S1x128x512_S1x128x128_0_0_0)) (View.ld x6 (lanes 0 inb_S1x128x512_S1x128x128_0_0_0)) (View.ld x5 (plane i hc2 0)))⟩]

end Block

end Cert.KernelIdeal.Attn

end
-- ==== Proof.Attn.TailEq.lean ====
module

public import proofs.«01_k».proof.Proof.Attn.Tail
public import proofs.«01_k».proof.Proof.Attn.Pair

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The stores the body's part makes are the block's work -/

set_option maxHeartbeats 4000000 in
theorem tail_P8 (c : Dev nD) (i : grid0.Coords) (arg3 : Memref sig .tc .vmem S1x128x512 .f32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x512 .f32) (harg7 : arg7.IsWhole) (arg8 : Memref sig .tc .vmem S4x128x512 .f32) (harg8 : arg8.IsWhole) (arg9 : Memref sig .tc .vmem S1x128x512 .f32) (harg9 : arg9.IsWhole) (arg10 : Memref sig .tc .vmem S1x128x512 .f32) (harg10 : arg10.IsWhole) (arg11 : Memref sig .tc .vmem S1x128x512 .f32) (harg11 : arg11.IsWhole) (arg12 : Memref sig .tc .vmem S1x128x512 .f32) (harg12 : arg12.IsWhole) (arg13 : Memref sig .tc .vmem S1x128x512 .f32) (harg13 : arg13.IsWhole) (arg14 : Memref sig .tc .vmem S4x128x512 .f32) (harg14 : arg14.IsWhole) (arg15 : Memref sig .tc .vmem S128x512 .f32) (harg15 : arg15.IsWhole) (arg16 : Memref sig .tc .vmem S128x512 .f32) (harg16 : arg16.IsWhole) (hc2 : cond0_2 i) (hc3 : ¬cond0_3 i)
    (x0 : Vec F S1x128x512 .f32) (x1 : Vec F S1x128x512 .f32) (x2 : Vec F S1x128x512 .f32) (x3 : Vec F S1x128x512 .f32) (x4 : Vec F S1x128x512 .f32) (x5 : Vec F S4x128x512 .f32) (x6 : Vec F S1x128x512 .f32) (x7 : Vec F S1x128x512 .f32) (xo11 : Vec F S4x128x512 .f32) (xs0 : Vec F S128x512 .f32) (xs1 : Vec F S128x512 .f32) :
   (tailRun c i arg3 harg3 arg4 harg4 arg5 harg5 arg6 harg6 arg7 harg7 arg8 harg8 arg9 harg9 arg10 harg10 arg11 harg11 arg12 harg12 arg13 harg13 arg14 harg14 arg15 harg15 arg16 harg16 hc2 hc3 x0 x1 x2 x3 x4 x5 x6 x7 xo11 xs0 xs1).1 = P8 i hc2 x0 x1 x2 x3 x4 x5 x6 x7 := by
  have e : P8 i hc2 x0 x1 x2 x3 x4 x5 x6 x7 = P8 i hc2 (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5)) (arg9.view.read (Elt F) (harg9.unread x6)) (arg10.view.read (Elt F) (harg10.unread x7)) := by
    simp only [Memref.IsWhole.read_unread]
  rw [e]
  rfl

set_option maxHeartbeats 4000000 in
theorem tail_P9 (c : Dev nD) (i : grid0.Coords) (arg3 : Memref sig .tc .vmem S1x128x512 .f32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x512 .f32) (harg7 : arg7.IsWhole) (arg8 : Memref sig .tc .vmem S4x128x512 .f32) (harg8 : arg8.IsWhole) (arg9 : Memref sig .tc .vmem S1x128x512 .f32) (harg9 : arg9.IsWhole) (arg10 : Memref sig .tc .vmem S1x128x512 .f32) (harg10 : arg10.IsWhole) (arg11 : Memref sig .tc .vmem S1x128x512 .f32) (harg11 : arg11.IsWhole) (arg12 : Memref sig .tc .vmem S1x128x512 .f32) (harg12 : arg12.IsWhole) (arg13 : Memref sig .tc .vmem S1x128x512 .f32) (harg13 : arg13.IsWhole) (arg14 : Memref sig .tc .vmem S4x128x512 .f32) (harg14 : arg14.IsWhole) (arg15 : Memref sig .tc .vmem S128x512 .f32) (harg15 : arg15.IsWhole) (arg16 : Memref sig .tc .vmem S128x512 .f32) (harg16 : arg16.IsWhole) (hc2 : cond0_2 i) (hc3 : ¬cond0_3 i)
    (x0 : Vec F S1x128x512 .f32) (x1 : Vec F S1x128x512 .f32) (x2 : Vec F S1x128x512 .f32) (x3 : Vec F S1x128x512 .f32) (x4 : Vec F S1x128x512 .f32) (x5 : Vec F S4x128x512 .f32) (x6 : Vec F S1x128x512 .f32) (x7 : Vec F S1x128x512 .f32) (xo11 : Vec F S4x128x512 .f32) (xs0 : Vec F S128x512 .f32) (xs1 : Vec F S128x512 .f32) :
   (tailRun c i arg3 harg3 arg4 harg4 arg5 harg5 arg6 harg6 arg7 harg7 arg8 harg8 arg9 harg9 arg10 harg10 arg11 harg11 arg12 harg12 arg13 harg13 arg14 harg14 arg15 harg15 arg16 harg16 hc2 hc3 x0 x1 x2 x3 x4 x5 x6 x7 xo11 xs0 xs1).2.1 = P9 i hc2 x0 x1 x2 x3 x4 x5 x6 x7 xs0 := by
  have e : P9 i hc2 x0 x1 x2 x3 x4 x5 x6 x7 xs0 = P9 i hc2 (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5)) (arg9.view.read (Elt F) (harg9.unread x6)) (arg10.view.read (Elt F) (harg10.unread x7)) (arg15.view.read (Elt F) (harg15.unread xs0)) := by
    simp only [Memref.IsWhole.read_unread]
  rw [e]
  rfl

set_option maxHeartbeats 4000000 in
theorem tail_P10 (c : Dev nD) (i : grid0.Coords) (arg3 : Memref sig .tc .vmem S1x128x512 .f32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x512 .f32) (harg7 : arg7.IsWhole) (arg8 : Memref sig .tc .vmem S4x128x512 .f32) (harg8 : arg8.IsWhole) (arg9 : Memref sig .tc .vmem S1x128x512 .f32) (harg9 : arg9.IsWhole) (arg10 : Memref sig .tc .vmem S1x128x512 .f32) (harg10 : arg10.IsWhole) (arg11 : Memref sig .tc .vmem S1x128x512 .f32) (harg11 : arg11.IsWhole) (arg12 : Memref sig .tc .vmem S1x128x512 .f32) (harg12 : arg12.IsWhole) (arg13 : Memref sig .tc .vmem S1x128x512 .f32) (harg13 : arg13.IsWhole) (arg14 : Memref sig .tc .vmem S4x128x512 .f32) (harg14 : arg14.IsWhole) (arg15 : Memref sig .tc .vmem S128x512 .f32) (harg15 : arg15.IsWhole) (arg16 : Memref sig .tc .vmem S128x512 .f32) (harg16 : arg16.IsWhole) (hc2 : cond0_2 i) (hc3 : ¬cond0_3 i)
    (x0 : Vec F S1x128x512 .f32) (x1 : Vec F S1x128x512 .f32) (x2 : Vec F S1x128x512 .f32) (x3 : Vec F S1x128x512 .f32) (x4 : Vec F S1x128x512 .f32) (x5 : Vec F S4x128x512 .f32) (x6 : Vec F S1x128x512 .f32) (x7 : Vec F S1x128x512 .f32) (xo11 : Vec F S4x128x512 .f32) (xs0 : Vec F S128x512 .f32) (xs1 : Vec F S128x512 .f32) :
   (tailRun c i arg3 harg3 arg4 harg4 arg5 harg5 arg6 harg6 arg7 harg7 arg8 harg8 arg9 harg9 arg10 harg10 arg11 harg11 arg12 harg12 arg13 harg13 arg14 harg14 arg15 harg15 arg16 harg16 hc2 hc3 x0 x1 x2 x3 x4 x5 x6 x7 xo11 xs0 xs1).2.2.1 = P10 i hc2 x0 x1 x2 x5 x6 xs1 := by
  have e : P10 i hc2 x0 x1 x2 x5 x6 xs1 = P10 i hc2 (arg3.view.read (Elt F) (harg3.unread x0)) (arg4.view.read (Elt F) (harg4.unread x1)) (arg5.view.read (Elt F) (harg5.unread x2)) (arg8.view.read (Elt F) (harg8.unread x5)) (arg9.view.read (Elt F) (harg9.unread x6)) (arg16.view.read (Elt F) (harg16.unread xs1)) := by
    simp only [Memref.IsWhole.read_unread]
  rw [e]
  rfl

set_option maxHeartbeats 4000000 in
theorem tail_P11 (c : Dev nD) (i : grid0.Coords) (arg3 : Memref sig .tc .vmem S1x128x512 .f32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x512 .f32) (harg7 : arg7.IsWhole) (arg8 : Memref sig .tc .vmem S4x128x512 .f32) (harg8 : arg8.IsWhole) (arg9 : Memref sig .tc .vmem S1x128x512 .f32) (harg9 : arg9.IsWhole) (arg10 : Memref sig .tc .vmem S1x128x512 .f32) (harg10 : arg10.IsWhole) (arg11 : Memref sig .tc .vmem S1x128x512 .f32) (harg11 : arg11.IsWhole) (arg12 : Memref sig .tc .vmem S1x128x512 .f32) (harg12 : arg12.IsWhole) (arg13 : Memref sig .tc .vmem S1x128x512 .f32) (harg13 : arg13.IsWhole) (arg14 : Memref sig .tc .vmem S4x128x512 .f32) (harg14 : arg14.IsWhole) (arg15 : Memref sig .tc .vmem S128x512 .f32) (harg15 : arg15.IsWhole) (arg16 : Memref sig .tc .vmem S128x512 .f32) (harg16 : arg16.IsWhole) (hc2 : cond0_2 i) (hc3 : ¬cond0_3 i)
    (x0 : Vec F S1x128x512 .f32) (x1 : Vec F S1x128x512 .f32) (x2 : Vec F S1x128x512 .f32) (x3 : Vec F S1x128x512 .f32) (x4 : Vec F S1x128x512 .f32) (x5 : Vec F S4x128x512 .f32) (x6 : Vec F S1x128x512 .f32) (x7 : Vec F S1x128x512 .f32) (xo11 : Vec F S4x128x512 .f32) (xs0 : Vec F S128x512 .f32) (xs1 : Vec F S128x512 .f32) :
   (tailRun c i arg3 harg3 arg4 harg4 arg5 harg5 arg6 harg6 arg7 harg7 arg8 harg8 arg9 harg9 arg10 harg10 arg11 harg11 arg12 harg12 arg13 harg13 arg14 harg14 arg15 harg15 arg16 harg16 hc2 hc3 x0 x1 x2 x3 x4 x5 x6 x7 xo11 xs0 xs1).2.2.2.1 = P11 i hc2 x0 x1 x2 x3 x4 x5 x6 x7 xo11 := by
  have e : P11 i hc2 x0 x1 x2 x3 x4 x5 x6 x7 xo11 = P11 i hc2 (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5)) (arg9.view.read (Elt F) (harg9.unread x6)) (arg10.view.read (Elt F) (harg10.unread x7)) (arg14.view.read (Elt F) (harg14.unread xo11)) := by
    simp only [Memref.IsWhole.read_unread]
  rw [e]
  rfl

set_option maxHeartbeats 4000000 in
theorem tail_PS0 (c : Dev nD) (i : grid0.Coords) (arg3 : Memref sig .tc .vmem S1x128x512 .f32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x512 .f32) (harg7 : arg7.IsWhole) (arg8 : Memref sig .tc .vmem S4x128x512 .f32) (harg8 : arg8.IsWhole) (arg9 : Memref sig .tc .vmem S1x128x512 .f32) (harg9 : arg9.IsWhole) (arg10 : Memref sig .tc .vmem S1x128x512 .f32) (harg10 : arg10.IsWhole) (arg11 : Memref sig .tc .vmem S1x128x512 .f32) (harg11 : arg11.IsWhole) (arg12 : Memref sig .tc .vmem S1x128x512 .f32) (harg12 : arg12.IsWhole) (arg13 : Memref sig .tc .vmem S1x128x512 .f32) (harg13 : arg13.IsWhole) (arg14 : Memref sig .tc .vmem S4x128x512 .f32) (harg14 : arg14.IsWhole) (arg15 : Memref sig .tc .vmem S128x512 .f32) (harg15 : arg15.IsWhole) (arg16 : Memref sig .tc .vmem S128x512 .f32) (harg16 : arg16.IsWhole) (hc2 : cond0_2 i) (hc3 : ¬cond0_3 i)
    (x0 : Vec F S1x128x512 .f32) (x1 : Vec F S1x128x512 .f32) (x2 : Vec F S1x128x512 .f32) (x3 : Vec F S1x128x512 .f32) (x4 : Vec F S1x128x512 .f32) (x5 : Vec F S4x128x512 .f32) (x6 : Vec F S1x128x512 .f32) (x7 : Vec F S1x128x512 .f32) (xo11 : Vec F S4x128x512 .f32) (xs0 : Vec F S128x512 .f32) (xs1 : Vec F S128x512 .f32) :
   (tailRun c i arg3 harg3 arg4 harg4 arg5 harg5 arg6 harg6 arg7 harg7 arg8 harg8 arg9 harg9 arg10 harg10 arg11 harg11 arg12 harg12 arg13 harg13 arg14 harg14 arg15 harg15 arg16 harg16 hc2 hc3 x0 x1 x2 x3 x4 x5 x6 x7 xo11 xs0 xs1).2.2.2.2.1 = PS0 i hc2 x0 x1 x2 x3 x4 x5 x6 x7 := by
  have e : PS0 i hc2 x0 x1 x2 x3 x4 x5 x6 x7 = PS0 i hc2 (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5)) (arg9.view.read (Elt F) (harg9.unread x6)) (arg10.view.read (Elt F) (harg10.unread x7)) := by
    simp only [Memref.IsWhole.read_unread]
  rw [e]
  rfl

set_option maxHeartbeats 4000000 in
theorem tail_PS1 (c : Dev nD) (i : grid0.Coords) (arg3 : Memref sig .tc .vmem S1x128x512 .f32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x512 .f32) (harg7 : arg7.IsWhole) (arg8 : Memref sig .tc .vmem S4x128x512 .f32) (harg8 : arg8.IsWhole) (arg9 : Memref sig .tc .vmem S1x128x512 .f32) (harg9 : arg9.IsWhole) (arg10 : Memref sig .tc .vmem S1x128x512 .f32) (harg10 : arg10.IsWhole) (arg11 : Memref sig .tc .vmem S1x128x512 .f32) (harg11 : arg11.IsWhole) (arg12 : Memref sig .tc .vmem S1x128x512 .f32) (harg12 : arg12.IsWhole) (arg13 : Memref sig .tc .vmem S1x128x512 .f32) (harg13 : arg13.IsWhole) (arg14 : Memref sig .tc .vmem S4x128x512 .f32) (harg14 : arg14.IsWhole) (arg15 : Memref sig .tc .vmem S128x512 .f32) (harg15 : arg15.IsWhole) (arg16 : Memref sig .tc .vmem S128x512 .f32) (harg16 : arg16.IsWhole) (hc2 : cond0_2 i) (hc3 : ¬cond0_3 i)
    (x0 : Vec F S1x128x512 .f32) (x1 : Vec F S1x128x512 .f32) (x2 : Vec F S1x128x512 .f32) (x3 : Vec F S1x128x512 .f32) (x4 : Vec F S1x128x512 .f32) (x5 : Vec F S4x128x512 .f32) (x6 : Vec F S1x128x512 .f32) (x7 : Vec F S1x128x512 .f32) (xo11 : Vec F S4x128x512 .f32) (xs0 : Vec F S128x512 .f32) (xs1 : Vec F S128x512 .f32) :
   (tailRun c i arg3 harg3 arg4 harg4 arg5 harg5 arg6 harg6 arg7 harg7 arg8 harg8 arg9 harg9 arg10 harg10 arg11 harg11 arg12 harg12 arg13 harg13 arg14 harg14 arg15 harg15 arg16 harg16 hc2 hc3 x0 x1 x2 x3 x4 x5 x6 x7 xo11 xs0 xs1).2.2.2.2.2.1 = PS1 i hc2 x0 x1 x2 x5 x6 := by
  have e : PS1 i hc2 x0 x1 x2 x5 x6 = PS1 i hc2 (arg3.view.read (Elt F) (harg3.unread x0)) (arg4.view.read (Elt F) (harg4.unread x1)) (arg5.view.read (Elt F) (harg5.unread x2)) (arg8.view.read (Elt F) (harg8.unread x5)) (arg9.view.read (Elt F) (harg9.unread x6)) := by
    simp only [Memref.IsWhole.read_unread]
  rw [e]
  rfl

end Cert.KernelIdeal.Attn

end
-- ==== Proof.Attn.Body.lean ====
module

public import proofs.«01_k».proof.Proof.Attn.TailEq
public import Idealize.ShloMosaic.Lib.Pipeline.Value

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What a block's work leaves in the outputs and the carries -/

section Covers

variable (i : grid0.Coords) (hc2 : cond0_2 i)
    (x0 x1 x2 x3 x4 : Vec F S1x128x512 .f32) (x5 : Vec F S4x128x512 .f32) (x6 x7 : Vec F S1x128x512 .f32)
    (xo11 : Vec F S4x128x512 .f32) (xs0 xs1 : Vec F S128x512 .f32)

theorem cover8 (y : S1x128x512.Idx) : ∃ pc ∈ P8 i hc2 x0 x1 x2 x3 x4 x5 x6 x7, y ∈ pc.1.set :=
  View.cover_of_tiledL (P8 i hc2 x0 x1 x2 x3 x4 x5 x6 x7) S1x128x128.size (by sl_kernel_rfl) y

theorem cover9 (y : S1x128x512.Idx) : ∃ pc ∈ P9 i hc2 x0 x1 x2 x3 x4 x5 x6 x7 xs0, y ∈ pc.1.set :=
  View.cover_of_tiledL (P9 i hc2 x0 x1 x2 x3 x4 x5 x6 x7 xs0) S1x128x128.size (by sl_kernel_rfl) y

theorem cover10 (y : S1x128x512.Idx) : ∃ pc ∈ P10 i hc2 x0 x1 x2 x5 x6 xs1, y ∈ pc.1.set :=
  View.cover_of_tiledL (P10 i hc2 x0 x1 x2 x5 x6 xs1) S1x128x128.size (by sl_kernel_rfl) y

theorem coverS0 (y : S128x512.Idx) : ∃ pc ∈ PS0 i hc2 x0 x1 x2 x3 x4 x5 x6 x7, y ∈ pc.1.set :=
  View.cover_of_tiledL (PS0 i hc2 x0 x1 x2 x3 x4 x5 x6 x7) S128x128.size (by sl_kernel_rfl) y

theorem coverS1 (y : S128x512.Idx) : ∃ pc ∈ PS1 i hc2 x0 x1 x2 x5 x6, y ∈ pc.1.set :=
  View.cover_of_tiledL (PS1 i hc2 x0 x1 x2 x5 x6) S128x128.size (by sl_kernel_rfl) y

theorem plane_off (p : Fin 4) : k0_off1 i (BitVec.ofNat 32 p.val) = ![p.val, 0, 0] := by
  have h1 : (i 1).val = 0 := by have := (i 1).isLt; have h : (i 1).val < 1 := this; omega
  rw [k0_off1_eq i p, h1]; simp

theorem mem_plane (p : Fin 4) (y : S4x128x512.Idx) (h : (y 0).val = p.val) : y ∈ (plane i hc2 p).set := by
  rw [Rect.mem_set_unit]
  intro a
  rw [plane_off i p]
  match a with
  | ⟨0, _⟩ => exact ⟨Nat.le_of_eq h.symm, by show (y 0).val < p.val + 1; omega⟩
  | ⟨1, _⟩ => exact ⟨Nat.zero_le _, by show (y 1).val < 0 + 128; have := (y 1).isLt; have e : S4x128x512.size 1 = 128 := rfl; omega⟩
  | ⟨2, _⟩ => exact ⟨Nat.zero_le _, by show (y 2).val < 0 + 512; have := (y 2).isLt; have e : S4x128x512.size 2 = 512 := rfl; omega⟩

theorem cover11 (y : S4x128x512.Idx) : ∃ pc ∈ P11 i hc2 x0 x1 x2 x3 x4 x5 x6 x7 xo11, y ∈ pc.1.set := by
  have h := (y 0).isLt
  have e : S4x128x512.size 0 = 4 := rfl
  have h4 : (y 0).val = 3 ∨ (y 0).val = 2 ∨ (y 0).val = 1 ∨ (y 0).val = 0 := by omega
  unfold P11
  rcases h4 with h4 | h4 | h4 | h4
  · exact ⟨_, List.mem_cons_self, mem_plane i hc2 3 y h4⟩
  · exact ⟨_, List.mem_cons_of_mem _ List.mem_cons_self, mem_plane i hc2 2 y h4⟩
  · exact ⟨_, List.mem_cons_of_mem _ (List.mem_cons_of_mem _ List.mem_cons_self), mem_plane i hc2 1 y h4⟩
  · exact ⟨_, List.mem_cons_of_mem _ (List.mem_cons_of_mem _ (List.mem_cons_of_mem _ List.mem_cons_self)), mem_plane i hc2 0 y h4⟩

/-- The queries' gradient of a block. -/
def B8 : Vec F S1x128x512 .f32 := View.canon (P8 i hc2 x0 x1 x2 x3 x4 x5 x6 x7)

/-- The keys' gradient of the block before, over the carry. -/
def B9 : Vec F S1x128x512 .f32 := View.canon (P9 i hc2 x0 x1 x2 x3 x4 x5 x6 x7 xs0)

/-- The values' gradient of the block before, over the carry. -/
def B10 : Vec F S1x128x512 .f32 := View.canon (P10 i hc2 x0 x1 x2 x5 x6 xs1)

/-- The bias' gradient, over what it was. -/
def B11 : Vec F S4x128x512 .f32 := View.canon (P11 i hc2 x0 x1 x2 x3 x4 x5 x6 x7 xo11)

/-- The keys' gradient carried on. -/
def BS0 : Vec F S128x512 .f32 := View.canon (PS0 i hc2 x0 x1 x2 x3 x4 x5 x6 x7)

/-- The values' gradient carried on. -/
def BS1 : Vec F S128x512 .f32 := View.canon (PS1 i hc2 x0 x1 x2 x5 x6)

end Covers

set_option maxHeartbeats 2000000 in
/-- A block's work, with what it leaves named. -/
theorem tail_wp (c : Dev nD) (i : grid0.Coords) (arg3 : Memref sig .tc .vmem S1x128x512 .f32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x512 .f32) (harg7 : arg7.IsWhole) (arg8 : Memref sig .tc .vmem S4x128x512 .f32) (harg8 : arg8.IsWhole) (arg9 : Memref sig .tc .vmem S1x128x512 .f32) (harg9 : arg9.IsWhole) (arg10 : Memref sig .tc .vmem S1x128x512 .f32) (harg10 : arg10.IsWhole) (arg11 : Memref sig .tc .vmem S1x128x512 .f32) (harg11 : arg11.IsWhole) (arg12 : Memref sig .tc .vmem S1x128x512 .f32) (harg12 : arg12.IsWhole) (arg13 : Memref sig .tc .vmem S1x128x512 .f32) (harg13 : arg13.IsWhole) (arg14 : Memref sig .tc .vmem S4x128x512 .f32) (harg14 : arg14.IsWhole) (arg15 : Memref sig .tc .vmem S128x512 .f32) (harg15 : arg15.IsWhole) (arg16 : Memref sig .tc .vmem S128x512 .f32) (harg16 : arg16.IsWhole) (hc2 : cond0_2 i) (hc3 : ¬cond0_3 i)
    (x0 : Vec F S1x128x512 .f32) (x1 : Vec F S1x128x512 .f32) (x2 : Vec F S1x128x512 .f32) (x3 : Vec F S1x128x512 .f32) (x4 : Vec F S1x128x512 .f32) (x5 : Vec F S4x128x512 .f32) (x6 : Vec F S1x128x512 .f32) (x7 : Vec F S1x128x512 .f32) (xo11 : Vec F S4x128x512 .f32) (xs0 : Vec F S128x512 .f32) (xs1 : Vec F S128x512 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xo11 ∗ owns (c : Thread nD τ) arg15 fullShare xs0 ∗ owns (c : Thread nD τ) arg16 fullShare xs1 ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare (B8 i hc2 x0 x1 x2 x3 x4 x5 x6 x7) ∗ owns (c : Thread nD τ) arg12 fullShare (B9 i hc2 x0 x1 x2 x3 x4 x5 x6 x7 xs0) ∗ owns (c : Thread nD τ) arg13 fullShare (B10 i hc2 x0 x1 x2 x5 x6 xs1) ∗ owns (c : Thread nD τ) arg14 fullShare (B11 i hc2 x0 x1 x2 x3 x4 x5 x6 x7 xo11) ∗ owns (c : Thread nD τ) arg15 fullShare (BS0 i hc2 x0 x1 x2 x3 x4 x5 x6 x7) ∗ owns (c : Thread nD τ) arg16 fullShare (BS1 i hc2 x0 x1 x2 x5 x6)) -∗ K ⟨⟩))
      ⊢ wp frame (wpE (defs₀ (F := F)) Variants.none c none) E (tailProg i arg3 harg3 arg4 harg4 arg5 harg5 arg6 harg6 arg7 harg7 arg8 harg8 arg9 harg9 arg10 harg10 arg11 harg11 arg12 harg12 arg13 harg13 arg14 harg14 arg15 harg15 arg16 harg16) K := by
  iintro ⟨H0, H1, H2, H3, H4, H5, H6, H7, H8, H9, H10, H11, HS0, HS1, Hk⟩
  iapply ((tailRun c i arg3 harg3 arg4 harg4 arg5 harg5 arg6 harg6 arg7 harg7 arg8 harg8 arg9 harg9 arg10 harg10 arg11 harg11 arg12 harg12 arg13 harg13 arg14 harg14 arg15 harg15 arg16 harg16 hc2 hc3 x0 x1 x2 x3 x4 x5 x6 x7 xo11 xs0 xs1).2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  iintro ⟨H0, H1, H2, H3, H4, H5, H6, H7, ⟨%e8, H8⟩, ⟨%e9, H9⟩, ⟨%e10, H10⟩, ⟨%e11, H11⟩, ⟨%es0, HS0⟩, ⟨%es1, HS1⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro
    rw [tail_P8 c i arg3 harg3 arg4 harg4 arg5 harg5 arg6 harg6 arg7 harg7 arg8 harg8 arg9 harg9 arg10 harg10 arg11 harg11 arg12 harg12 arg13 harg13 arg14 harg14 arg15 harg15 arg16 harg16 hc2 hc3 x0 x1 x2 x3 x4 x5 x6 x7 xo11 xs0 xs1]
    exact View.read_writes_eq_canon _ _ _ (cover8 i hc2 x0 x1 x2 x3 x4 x5 x6 x7)
  isplitl [H9]
  · unfold owns; iexists _; isplitr
    swap; · iexact H9
    ipureintro
    rw [tail_P9 c i arg3 harg3 arg4 harg4 arg5 harg5 arg6 harg6 arg7 harg7 arg8 harg8 arg9 harg9 arg10 harg10 arg11 harg11 arg12 harg12 arg13 harg13 arg14 harg14 arg15 harg15 arg16 harg16 hc2 hc3 x0 x1 x2 x3 x4 x5 x6 x7 xo11 xs0 xs1]
    exact View.read_writes_eq_canon _ _ _ (cover9 i hc2 x0 x1 x2 x3 x4 x5 x6 x7 xs0)
  isplitl [H10]
  · unfold owns; iexists _; isplitr
    swap; · iexact H10
    ipureintro
    rw [tail_P10 c i arg3 harg3 arg4 harg4 arg5 harg5 arg6 harg6 arg7 harg7 arg8 harg8 arg9 harg9 arg10 harg10 arg11 harg11 arg12 harg12 arg13 harg13 arg14 harg14 arg15 harg15 arg16 harg16 hc2 hc3 x0 x1 x2 x3 x4 x5 x6 x7 xo11 xs0 xs1]
    exact View.read_writes_eq_canon _ _ _ (cover10 i hc2 x0 x1 x2 x5 x6 xs1)
  isplitl [H11]
  · unfold owns; iexists _; isplitr
    swap; · iexact H11
    ipureintro
    rw [tail_P11 c i arg3 harg3 arg4 harg4 arg5 harg5 arg6 harg6 arg7 harg7 arg8 harg8 arg9 harg9 arg10 harg10 arg11 harg11 arg12 harg12 arg13 harg13 arg14 harg14 arg15 harg15 arg16 harg16 hc2 hc3 x0 x1 x2 x3 x4 x5 x6 x7 xo11 xs0 xs1]
    exact View.read_writes_eq_canon _ _ _ (cover11 i hc2 x0 x1 x2 x3 x4 x5 x6 x7 xo11)
  isplitl [HS0]
  · unfold owns; iexists _; isplitr
    swap; · iexact HS0
    ipureintro
    rw [tail_PS0 c i arg3 harg3 arg4 harg4 arg5 harg5 arg6 harg6 arg7 harg7 arg8 harg8 arg9 harg9 arg10 harg10 arg11 harg11 arg12 harg12 arg13 harg13 arg14 harg14 arg15 harg15 arg16 harg16 hc2 hc3 x0 x1 x2 x3 x4 x5 x6 x7 xo11 xs0 xs1]
    exact View.read_writes_eq_canon _ _ _ (coverS0 i hc2 x0 x1 x2 x3 x4 x5 x6 x7)
  unfold owns; iexists _; isplitr
  swap; · iexact HS1
  ipureintro
  rw [tail_PS1 c i arg3 harg3 arg4 harg4 arg5 harg5 arg6 harg6 arg7 harg7 arg8 harg8 arg9 harg9 arg10 harg10 arg11 harg11 arg12 harg12 arg13 harg13 arg14 harg14 arg15 harg15 arg16 harg16 hc2 hc3 x0 x1 x2 x3 x4 x5 x6 x7 xo11 xs0 xs1]
  exact View.read_writes_eq_canon _ _ _ (coverS1 i hc2 x0 x1 x2 x5 x6)

set_option maxHeartbeats 2000000 in
/-- The body at a point inside a sequence. -/
theorem run_B (c : Dev nD) (i : grid0.Coords) (arg3 : Memref sig .tc .vmem S1x128x512 .f32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x512 .f32) (harg7 : arg7.IsWhole) (arg8 : Memref sig .tc .vmem S4x128x512 .f32) (harg8 : arg8.IsWhole) (arg9 : Memref sig .tc .vmem S1x128x512 .f32) (harg9 : arg9.IsWhole) (arg10 : Memref sig .tc .vmem S1x128x512 .f32) (harg10 : arg10.IsWhole) (arg11 : Memref sig .tc .vmem S1x128x512 .f32) (harg11 : arg11.IsWhole) (arg12 : Memref sig .tc .vmem S1x128x512 .f32) (harg12 : arg12.IsWhole) (arg13 : Memref sig .tc .vmem S1x128x512 .f32) (harg13 : arg13.IsWhole) (arg14 : Memref sig .tc .vmem S4x128x512 .f32) (harg14 : arg14.IsWhole) (arg15 : Memref sig .tc .vmem S128x512 .f32) (harg15 : arg15.IsWhole) (arg16 : Memref sig .tc .vmem S128x512 .f32) (harg16 : arg16.IsWhole) (hc0 : ¬cond0_0 i) (hc1 : ¬cond0_1 i) (hc2 : cond0_2 i) (hc3 : ¬cond0_3 i)
    (x0 : Vec F S1x128x512 .f32) (x1 : Vec F S1x128x512 .f32) (x2 : Vec F S1x128x512 .f32) (x3 : Vec F S1x128x512 .f32) (x4 : Vec F S1x128x512 .f32) (x5 : Vec F S4x128x512 .f32) (x6 : Vec F S1x128x512 .f32) (x7 : Vec F S1x128x512 .f32) (xo11 : Vec F S4x128x512 .f32) (xs0 : Vec F S128x512 .f32) (xs1 : Vec F S128x512 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xo11 ∗ owns (c : Thread nD τ) arg15 fullShare xs0 ∗ owns (c : Thread nD τ) arg16 fullShare xs1 ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare (B8 i hc2 x0 x1 x2 x3 x4 x5 x6 x7) ∗ owns (c : Thread nD τ) arg12 fullShare (B9 i hc2 x0 x1 x2 x3 x4 x5 x6 x7 xs0) ∗ owns (c : Thread nD τ) arg13 fullShare (B10 i hc2 x0 x1 x2 x5 x6 xs1) ∗ owns (c : Thread nD τ) arg14 fullShare (B11 i hc2 x0 x1 x2 x3 x4 x5 x6 x7 xo11) ∗ owns (c : Thread nD τ) arg15 fullShare (BS0 i hc2 x0 x1 x2 x3 x4 x5 x6 x7) ∗ owns (c : Thread nD τ) arg16 fullShare (BS1 i hc2 x0 x1 x2 x5 x6)) -∗ K ⟨⟩))
      ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12 arg13 harg13 arg14 harg14 arg15 harg15 arg16 harg16) K := by
  rw [cc0_eq_tail]
  simp only [dif_neg hc0, dif_neg hc1, pure_bind]
  exact tail_wp c i arg3 harg3 arg4 harg4 arg5 harg5 arg6 harg6 arg7 harg7 arg8 harg8 arg9 harg9 arg10 harg10 arg11 harg11 arg12 harg12 arg13 harg13 arg14 harg14 arg15 harg15 arg16 harg16 hc2 hc3 x0 x1 x2 x3 x4 x5 x6 x7 xo11 xs0 xs1 E K

theorem zero2 : (![0, 0] : Fin 2 → ℕ) = fun _ => 0 := by funext a; fin_cases a <;> rfl
theorem zero3 : (![0, 0, 0] : Fin 3 → ℕ) = fun _ => 0 := by funext a; fin_cases a <;> rfl

/-- A buffer stored whole holds what was stored. -/
theorem read_store_whole {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e) :
    v.read (Elt F) (v.writes (Elt F) f [(⟨Rect.unit off S.size inb, w⟩ : View.Piece (Elt F) S e)]) = w :=
  (View.read_writes_eq_canon _ _ _ fun y => ⟨_, List.mem_singleton_self _, View.mem_set_unit_zero h inb y⟩).trans
    (View.canon_unit_zero h inb w)

set_option maxHeartbeats 2000000 in
/-- The body at the first point of a later sequence: the carries start at zero. -/
theorem run_D (c : Dev nD) (i : grid0.Coords) (arg3 : Memref sig .tc .vmem S1x128x512 .f32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x512 .f32) (harg7 : arg7.IsWhole) (arg8 : Memref sig .tc .vmem S4x128x512 .f32) (harg8 : arg8.IsWhole) (arg9 : Memref sig .tc .vmem S1x128x512 .f32) (harg9 : arg9.IsWhole) (arg10 : Memref sig .tc .vmem S1x128x512 .f32) (harg10 : arg10.IsWhole) (arg11 : Memref sig .tc .vmem S1x128x512 .f32) (harg11 : arg11.IsWhole) (arg12 : Memref sig .tc .vmem S1x128x512 .f32) (harg12 : arg12.IsWhole) (arg13 : Memref sig .tc .vmem S1x128x512 .f32) (harg13 : arg13.IsWhole) (arg14 : Memref sig .tc .vmem S4x128x512 .f32) (harg14 : arg14.IsWhole) (arg15 : Memref sig .tc .vmem S128x512 .f32) (harg15 : arg15.IsWhole) (arg16 : Memref sig .tc .vmem S128x512 .f32) (harg16 : arg16.IsWhole) (hc0 : ¬cond0_0 i) (hc1 : cond0_1 i) (hc2 : cond0_2 i) (hc3 : ¬cond0_3 i)
    (x0 : Vec F S1x128x512 .f32) (x1 : Vec F S1x128x512 .f32) (x2 : Vec F S1x128x512 .f32) (x3 : Vec F S1x128x512 .f32) (x4 : Vec F S1x128x512 .f32) (x5 : Vec F S4x128x512 .f32) (x6 : Vec F S1x128x512 .f32) (x7 : Vec F S1x128x512 .f32) (xo11 : Vec F S4x128x512 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xo11 ∗ (∃ d, owns (c : Thread nD τ) arg15 fullShare d) ∗ (∃ d, owns (c : Thread nD τ) arg16 fullShare d) ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare (B8 i hc2 x0 x1 x2 x3 x4 x5 x6 x7) ∗ owns (c : Thread nD τ) arg12 fullShare (B9 i hc2 x0 x1 x2 x3 x4 x5 x6 x7 (k0_pay2 (F := F))) ∗ owns (c : Thread nD τ) arg13 fullShare (B10 i hc2 x0 x1 x2 x5 x6 (k0_pay3 (F := F))) ∗ owns (c : Thread nD τ) arg14 fullShare (B11 i hc2 x0 x1 x2 x3 x4 x5 x6 x7 xo11) ∗ owns (c : Thread nD τ) arg15 fullShare (BS0 i hc2 x0 x1 x2 x3 x4 x5 x6 x7) ∗ owns (c : Thread nD τ) arg16 fullShare (BS1 i hc2 x0 x1 x2 x5 x6)) -∗ K ⟨⟩))
      ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12 arg13 harg13 arg14 harg14 arg15 harg15 arg16 harg16) K := by
  rw [cc0_eq_tail]
  unfold owns
  iintro ⟨H0, H1, H2, H3, H4, H5, H6, H7, H8, H9, H10, H11, ⟨%ds0, %fs0, -, HS0⟩, ⟨%ds1, %fs1, -, HS1⟩, Hk⟩
  generalize hT : tailProg (F := F) i arg3 harg3 arg4 harg4 arg5 harg5 arg6 harg6 arg7 harg7 arg8 harg8 arg9 harg9 arg10 harg10 arg11 harg11 arg12 harg12 arg13 harg13 arg14 harg14 arg15 harg15 arg16 harg16 = T
  sl_exec (disch := first | sl_exact hc0 | sl_exact hc1)
  subst hT
  iapply (tail_wp c i arg3 harg3 arg4 harg4 arg5 harg5 arg6 harg6 arg7 harg7 arg8 harg8 arg9 harg9 arg10 harg10 arg11 harg11 arg12 harg12 arg13 harg13 arg14 harg14 arg15 harg15 arg16 harg16 hc2 hc3 x0 x1 x2 x3 x4 x5 x6 x7 xo11 (k0_pay2 (F := F)) (k0_pay3 (F := F)) E K)
  isplitl [H0]; · unfold owns; iexact H0
  isplitl [H1]; · unfold owns; iexact H1
  isplitl [H2]; · unfold owns; iexact H2
  isplitl [H3]; · unfold owns; iexact H3
  isplitl [H4]; · unfold owns; iexact H4
  isplitl [H5]; · unfold owns; iexact H5
  isplitl [H6]; · unfold owns; iexact H6
  isplitl [H7]; · unfold owns; iexact H7
  isplitl [H8]; · iexact H8
  isplitl [H9]; · iexact H9
  isplitl [H10]; · iexact H10
  isplitl [H11]; · unfold owns; iexact H11
  isplitl [HS0]
  · unfold owns; iexists _; isplitr
    swap; · iexact HS0
    ipureintro
    exact read_store_whole _ _ zero2 _ _
  isplitl [HS1]
  · unfold owns; iexists _; isplitr
    swap; · iexact HS1
    ipureintro
    exact read_store_whole _ _ zero2 _ _
  iexact Hk

set_option maxHeartbeats 2000000 in
/-- The body at the first point: the bias' gradient starts at zero too. -/
theorem run_A (c : Dev nD) (i : grid0.Coords) (arg3 : Memref sig .tc .vmem S1x128x512 .f32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x512 .f32) (harg7 : arg7.IsWhole) (arg8 : Memref sig .tc .vmem S4x128x512 .f32) (harg8 : arg8.IsWhole) (arg9 : Memref sig .tc .vmem S1x128x512 .f32) (harg9 : arg9.IsWhole) (arg10 : Memref sig .tc .vmem S1x128x512 .f32) (harg10 : arg10.IsWhole) (arg11 : Memref sig .tc .vmem S1x128x512 .f32) (harg11 : arg11.IsWhole) (arg12 : Memref sig .tc .vmem S1x128x512 .f32) (harg12 : arg12.IsWhole) (arg13 : Memref sig .tc .vmem S1x128x512 .f32) (harg13 : arg13.IsWhole) (arg14 : Memref sig .tc .vmem S4x128x512 .f32) (harg14 : arg14.IsWhole) (arg15 : Memref sig .tc .vmem S128x512 .f32) (harg15 : arg15.IsWhole) (arg16 : Memref sig .tc .vmem S128x512 .f32) (harg16 : arg16.IsWhole) (hc0 : cond0_0 i) (hc1 : cond0_1 i) (hc2 : cond0_2 i) (hc3 : ¬cond0_3 i)
    (x0 : Vec F S1x128x512 .f32) (x1 : Vec F S1x128x512 .f32) (x2 : Vec F S1x128x512 .f32) (x3 : Vec F S1x128x512 .f32) (x4 : Vec F S1x128x512 .f32) (x5 : Vec F S4x128x512 .f32) (x6 : Vec F S1x128x512 .f32) (x7 : Vec F S1x128x512 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare (B8 i hc2 x0 x1 x2 x3 x4 x5 x6 x7) ∗ owns (c : Thread nD τ) arg12 fullShare (B9 i hc2 x0 x1 x2 x3 x4 x5 x6 x7 (k0_pay2 (F := F))) ∗ owns (c : Thread nD τ) arg13 fullShare (B10 i hc2 x0 x1 x2 x5 x6 (k0_pay3 (F := F))) ∗ owns (c : Thread nD τ) arg14 fullShare (B11 i hc2 x0 x1 x2 x3 x4 x5 x6 x7 (k0_pay1 (F := F))) ∗ owns (c : Thread nD τ) arg15 fullShare (BS0 i hc2 x0 x1 x2 x3 x4 x5 x6 x7) ∗ owns (c : Thread nD τ) arg16 fullShare (BS1 i hc2 x0 x1 x2 x5 x6)) -∗ K ⟨⟩))
      ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12 arg13 harg13 arg14 harg14 arg15 harg15 arg16 harg16) K := by
  rw [cc0_eq_tail]
  unfold owns
  iintro ⟨H0, H1, H2, H3, H4, H5, H6, H7, H8, H9, H10, ⟨%d11, %f11, -, H11⟩, ⟨%ds0, %fs0, -, HS0⟩, ⟨%ds1, %fs1, -, HS1⟩, Hk⟩
  generalize hT : tailProg (F := F) i arg3 harg3 arg4 harg4 arg5 harg5 arg6 harg6 arg7 harg7 arg8 harg8 arg9 harg9 arg10 harg10 arg11 harg11 arg12 harg12 arg13 harg13 arg14 harg14 arg15 harg15 arg16 harg16 = T
  sl_exec (disch := first | sl_exact hc0 | sl_exact hc1)
  subst hT
  iapply (tail_wp c i arg3 harg3 arg4 harg4 arg5 harg5 arg6 harg6 arg7 harg7 arg8 harg8 arg9 harg9 arg10 harg10 arg11 harg11 arg12 harg12 arg13 harg13 arg14 harg14 arg15 harg15 arg16 harg16 hc2 hc3 x0 x1 x2 x3 x4 x5 x6 x7 (k0_pay1 (F := F)) (k0_pay2 (F := F)) (k0_pay3 (F := F)) E K)
  isplitl [H0]; · unfold owns; iexact H0
  isplitl [H1]; · unfold owns; iexact H1
  isplitl [H2]; · unfold owns; iexact H2
  isplitl [H3]; · unfold owns; iexact H3
  isplitl [H4]; · unfold owns; iexact H4
  isplitl [H5]; · unfold owns; iexact H5
  isplitl [H6]; · unfold owns; iexact H6
  isplitl [H7]; · unfold owns; iexact H7
  isplitl [H8]; · iexact H8
  isplitl [H9]; · iexact H9
  isplitl [H10]; · iexact H10
  isplitl [H11]
  · unfold owns; iexists _; isplitr
    swap; · iexact H11
    ipureintro
    exact read_store_whole _ _ zero3 _ _
  isplitl [HS0]
  · unfold owns; iexists _; isplitr
    swap; · iexact HS0
    ipureintro
    exact read_store_whole _ _ zero2 _ _
  isplitl [HS1]
  · unfold owns; iexists _; isplitr
    swap; · iexact HS1
    ipureintro
    exact read_store_whole _ _ zero2 _ _
  iexact Hk

set_option maxHeartbeats 2000000 in
/-- The body at the position after a sequence's last block: the last carries are stored. -/
theorem run_C (c : Dev nD) (i : grid0.Coords) (arg3 : Memref sig .tc .vmem S1x128x512 .f32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x512 .f32) (harg7 : arg7.IsWhole) (arg8 : Memref sig .tc .vmem S4x128x512 .f32) (harg8 : arg8.IsWhole) (arg9 : Memref sig .tc .vmem S1x128x512 .f32) (harg9 : arg9.IsWhole) (arg10 : Memref sig .tc .vmem S1x128x512 .f32) (harg10 : arg10.IsWhole) (arg11 : Memref sig .tc .vmem S1x128x512 .f32) (harg11 : arg11.IsWhole) (arg12 : Memref sig .tc .vmem S1x128x512 .f32) (harg12 : arg12.IsWhole) (arg13 : Memref sig .tc .vmem S1x128x512 .f32) (harg13 : arg13.IsWhole) (arg14 : Memref sig .tc .vmem S4x128x512 .f32) (harg14 : arg14.IsWhole) (arg15 : Memref sig .tc .vmem S128x512 .f32) (harg15 : arg15.IsWhole) (arg16 : Memref sig .tc .vmem S128x512 .f32) (harg16 : arg16.IsWhole) (hc0 : ¬cond0_0 i) (hc1 : ¬cond0_1 i) (hc2 : ¬cond0_2 i) (hc3 : cond0_3 i)
    (x0 : Vec F S1x128x512 .f32) (x1 : Vec F S1x128x512 .f32) (x2 : Vec F S1x128x512 .f32) (x3 : Vec F S1x128x512 .f32) (x4 : Vec F S1x128x512 .f32) (x5 : Vec F S4x128x512 .f32) (x6 : Vec F S1x128x512 .f32) (x7 : Vec F S1x128x512 .f32) (xo8 : Vec F S1x128x512 .f32) (xo11 : Vec F S4x128x512 .f32) (xs0 : Vec F S128x512 .f32) (xs1 : Vec F S128x512 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xo8 ∗ (∃ d, owns (c : Thread nD τ) arg12 fullShare d) ∗ (∃ d, owns (c : Thread nD τ) arg13 fullShare d) ∗ owns (c : Thread nD τ) arg14 fullShare xo11 ∗ owns (c : Thread nD τ) arg15 fullShare xs0 ∗ owns (c : Thread nD τ) arg16 fullShare xs1 ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xo8 ∗ owns (c : Thread nD τ) arg12 fullShare (k0_pay5 xs0) ∗ owns (c : Thread nD τ) arg13 fullShare (k0_pay6 xs1) ∗ owns (c : Thread nD τ) arg14 fullShare xo11 ∗ owns (c : Thread nD τ) arg15 fullShare xs0 ∗ owns (c : Thread nD τ) arg16 fullShare xs1) -∗ K ⟨⟩))
      ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_attn_bwd_eq_skeleton]; unfold cc0_attn_bwd_skel
  unfold owns
  iintro ⟨H0, H1, H2, H3, H4, H5, H6, H7, H8, ⟨%d9, %f9, -, H9⟩, ⟨%d10, %f10, -, H10⟩, H11, ⟨%fs0, %hfs0, HS0⟩, ⟨%fs1, %hfs1, HS1⟩, Hk⟩
  obtain rfl := harg15.eq_unread hfs0; obtain rfl := harg16.eq_unread hfs1
  sl_exec (disch := first | sl_exact hc0 | sl_exact hc1 | sl_exact hc2 | sl_exact hc3)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists _; isplitr
    swap; · iexact H9
    ipureintro
    refine (read_store_whole _ _ zero3 _ _).trans (congrArg k0_pay5 ?_)
    exact (View.ld_unit_zero zero2 _ _).trans (harg15.read_unread xs0)
  isplitl [H10]
  · iexists _; isplitr
    swap; · iexact H10
    ipureintro
    refine (read_store_whole _ _ zero3 _ _).trans (congrArg k0_pay6 ?_)
    exact (View.ld_unit_zero zero2 _ _).trans (harg16.read_unread xs1)
  isplitl [H11]; · iexact H11
  isplitl [HS0]
  · iexists _; isplitr; · ipureintro; exact harg15.read_unread _
    iexact HS0
  iexists _; isplitr; · ipureintro; exact harg16.read_unread _
  iexact HS1

end Cert.KernelIdeal.Attn

end
-- ==== Proof.Attn.Run.lean ====
module

public import proofs.«01_k».proof.Proof.Attn.Body
public import proofs.«01_k».proof.Proof.Gen.KernelIdeal.Frame

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the outputs and the carries hold after each position -/

/-- The outputs' buffers (the gradients of the queries, keys, values, bias) and the two carries. -/
abbrev State (F : FTy → Type) := Vec F S1x128x512 .f32 × Vec F S1x128x512 .f32 × Vec F S1x128x512 .f32 × Vec F S4x128x512 .f32 × Vec F S128x512 .f32 × Vec F S128x512 .f32

/-- What position `t` makes of what the position before left: at the position after a sequence's last block the carries
    are stored; elsewhere the block's work, over zero carries at a sequence's first block and a zero bias gradient at the
    very first. -/
def step (c : Dev nD) (t : Fin cfg0.N) (s : State F) : State F :=
  if h : t.val % 17 ≤ 15 then
    (B8 (grid0.coords t) ((hcond0_2 t).mpr h) (iblk m c 0 t) (iblk m c 1 t) (iblk m c 2 t) (iblk m c 3 t) (iblk m c 4 t) (iblk m c 5 t) (iblk m c 6 t) (iblk m c 7 t),
    B9 (grid0.coords t) ((hcond0_2 t).mpr h) (iblk m c 0 t) (iblk m c 1 t) (iblk m c 2 t) (iblk m c 3 t) (iblk m c 4 t) (iblk m c 5 t) (iblk m c 6 t) (iblk m c 7 t) (if t.val % 17 = 0 then k0_pay2 else s.2.2.2.2.1),
    B10 (grid0.coords t) ((hcond0_2 t).mpr h) (iblk m c 0 t) (iblk m c 1 t) (iblk m c 2 t) (iblk m c 5 t) (iblk m c 6 t) (if t.val % 17 = 0 then k0_pay3 else s.2.2.2.2.2),
    B11 (grid0.coords t) ((hcond0_2 t).mpr h) (iblk m c 0 t) (iblk m c 1 t) (iblk m c 2 t) (iblk m c 3 t) (iblk m c 4 t) (iblk m c 5 t) (iblk m c 6 t) (iblk m c 7 t) (if t.val % 68 = 0 then k0_pay1 else s.2.2.2.1),
    BS0 (grid0.coords t) ((hcond0_2 t).mpr h) (iblk m c 0 t) (iblk m c 1 t) (iblk m c 2 t) (iblk m c 3 t) (iblk m c 4 t) (iblk m c 5 t) (iblk m c 6 t) (iblk m c 7 t),
    BS1 (grid0.coords t) ((hcond0_2 t).mpr h) (iblk m c 0 t) (iblk m c 1 t) (iblk m c 2 t) (iblk m c 5 t) (iblk m c 6 t))
  else (s.1, k0_pay5 s.2.2.2.2.1, k0_pay6 s.2.2.2.2.2, s.2.2.2.1, s.2.2.2.2.1, s.2.2.2.2.2)

/-- After position `n`. -/
def outs (c : Dev nD) : (n : ℕ) → n < cfg0.N → State F
  | 0, hn => step m c ⟨0, hn⟩ (k0_pay5 k0_pay2, k0_pay5 k0_pay2, k0_pay5 k0_pay2, k0_pay1, k0_pay2, k0_pay3)
  | n + 1, hn => step m c ⟨n + 1, hn⟩ (outs c n (Nat.lt_of_succ_lt hn))

/-- After the position before `t`. -/
abbrev prev (c : Dev nD) (t : Fin cfg0.N) : State F := outs m c (t.val - 1) (Nat.lt_of_le_of_lt (Nat.sub_le _ _) t.isLt)

theorem outs_pos (c : Dev nD) (t : Fin cfg0.N) (h0 : t.val ≠ 0) : outs m c t.val t.isLt = step m c t (prev m c t) := by
  obtain ⟨n, hn⟩ := t
  cases n with
  | zero => exact absurd rfl h0
  | succ n => rfl

theorem outs_A (c : Dev nD) (t : Fin cfg0.N) (h0 : t.val % 68 = 0) (h1 : t.val % 17 = 0) (h : t.val % 17 ≤ 15) :
    outs m c t.val t.isLt = (B8 (grid0.coords t) ((hcond0_2 t).mpr h) (iblk m c 0 t) (iblk m c 1 t) (iblk m c 2 t) (iblk m c 3 t) (iblk m c 4 t) (iblk m c 5 t) (iblk m c 6 t) (iblk m c 7 t),
    B9 (grid0.coords t) ((hcond0_2 t).mpr h) (iblk m c 0 t) (iblk m c 1 t) (iblk m c 2 t) (iblk m c 3 t) (iblk m c 4 t) (iblk m c 5 t) (iblk m c 6 t) (iblk m c 7 t) k0_pay2,
    B10 (grid0.coords t) ((hcond0_2 t).mpr h) (iblk m c 0 t) (iblk m c 1 t) (iblk m c 2 t) (iblk m c 5 t) (iblk m c 6 t) k0_pay3,
    B11 (grid0.coords t) ((hcond0_2 t).mpr h) (iblk m c 0 t) (iblk m c 1 t) (iblk m c 2 t) (iblk m c 3 t) (iblk m c 4 t) (iblk m c 5 t) (iblk m c 6 t) (iblk m c 7 t) k0_pay1,
    BS0 (grid0.coords t) ((hcond0_2 t).mpr h) (iblk m c 0 t) (iblk m c 1 t) (iblk m c 2 t) (iblk m c 3 t) (iblk m c 4 t) (iblk m c 5 t) (iblk m c 6 t) (iblk m c 7 t),
    BS1 (grid0.coords t) ((hcond0_2 t).mpr h) (iblk m c 0 t) (iblk m c 1 t) (iblk m c 2 t) (iblk m c 5 t) (iblk m c 6 t)) := by
  have hN : t.val < 68 := lt_of_lt_of_eq t.isLt (show cfg0.N = 68 from N_0)
  obtain ⟨n, hn⟩ := t
  cases n with
  | zero => unfold outs step; rw [dif_pos h]; rfl
  | succ n => exfalso; dsimp only at h0 hN; omega

theorem outs_D (c : Dev nD) (t : Fin cfg0.N) (h0 : ¬t.val % 68 = 0) (h1 : t.val % 17 = 0) (h : t.val % 17 ≤ 15) :
    outs m c t.val t.isLt = (B8 (grid0.coords t) ((hcond0_2 t).mpr h) (iblk m c 0 t) (iblk m c 1 t) (iblk m c 2 t) (iblk m c 3 t) (iblk m c 4 t) (iblk m c 5 t) (iblk m c 6 t) (iblk m c 7 t),
    B9 (grid0.coords t) ((hcond0_2 t).mpr h) (iblk m c 0 t) (iblk m c 1 t) (iblk m c 2 t) (iblk m c 3 t) (iblk m c 4 t) (iblk m c 5 t) (iblk m c 6 t) (iblk m c 7 t) k0_pay2,
    B10 (grid0.coords t) ((hcond0_2 t).mpr h) (iblk m c 0 t) (iblk m c 1 t) (iblk m c 2 t) (iblk m c 5 t) (iblk m c 6 t) k0_pay3,
    B11 (grid0.coords t) ((hcond0_2 t).mpr h) (iblk m c 0 t) (iblk m c 1 t) (iblk m c 2 t) (iblk m c 3 t) (iblk m c 4 t) (iblk m c 5 t) (iblk m c 6 t) (iblk m c 7 t) (prev m c t).2.2.2.1,
    BS0 (grid0.coords t) ((hcond0_2 t).mpr h) (iblk m c 0 t) (iblk m c 1 t) (iblk m c 2 t) (iblk m c 3 t) (iblk m c 4 t) (iblk m c 5 t) (iblk m c 6 t) (iblk m c 7 t),
    BS1 (grid0.coords t) ((hcond0_2 t).mpr h) (iblk m c 0 t) (iblk m c 1 t) (iblk m c 2 t) (iblk m c 5 t) (iblk m c 6 t)) := by
  rw [outs_pos m c t (fun e => h0 (by rw [e])), step, dif_pos h, if_pos h1, if_pos h1, if_neg h0]

theorem outs_B (c : Dev nD) (t : Fin cfg0.N) (h1 : ¬t.val % 17 = 0) (h : t.val % 17 ≤ 15) :
    outs m c t.val t.isLt = (B8 (grid0.coords t) ((hcond0_2 t).mpr h) (iblk m c 0 t) (iblk m c 1 t) (iblk m c 2 t) (iblk m c 3 t) (iblk m c 4 t) (iblk m c 5 t) (iblk m c 6 t) (iblk m c 7 t),
    B9 (grid0.coords t) ((hcond0_2 t).mpr h) (iblk m c 0 t) (iblk m c 1 t) (iblk m c 2 t) (iblk m c 3 t) (iblk m c 4 t) (iblk m c 5 t) (iblk m c 6 t) (iblk m c 7 t) (prev m c t).2.2.2.2.1,
    B10 (grid0.coords t) ((hcond0_2 t).mpr h) (iblk m c 0 t) (iblk m c 1 t) (iblk m c 2 t) (iblk m c 5 t) (iblk m c 6 t) (prev m c t).2.2.2.2.2,
    B11 (grid0.coords t) ((hcond0_2 t).mpr h) (iblk m c 0 t) (iblk m c 1 t) (iblk m c 2 t) (iblk m c 3 t) (iblk m c 4 t) (iblk m c 5 t) (iblk m c 6 t) (iblk m c 7 t) (prev m c t).2.2.2.1,
    BS0 (grid0.coords t) ((hcond0_2 t).mpr h) (iblk m c 0 t) (iblk m c 1 t) (iblk m c 2 t) (iblk m c 3 t) (iblk m c 4 t) (iblk m c 5 t) (iblk m c 6 t) (iblk m c 7 t),
    BS1 (grid0.coords t) ((hcond0_2 t).mpr h) (iblk m c 0 t) (iblk m c 1 t) (iblk m c 2 t) (iblk m c 5 t) (iblk m c 6 t)) := by
  rw [outs_pos m c t (fun e => h1 (by rw [e])), step, dif_pos h, if_neg h1, if_neg h1, if_neg (by omega)]

theorem outs_C (c : Dev nD) (t : Fin cfg0.N) (h : ¬t.val % 17 ≤ 15) :
    outs m c t.val t.isLt = ((prev m c t).1, k0_pay5 (prev m c t).2.2.2.2.1, k0_pay6 (prev m c t).2.2.2.2.2, (prev m c t).2.2.2.1, (prev m c t).2.2.2.2.1, (prev m c t).2.2.2.2.2) := by
  rw [outs_pos m c t (fun e => h (by rw [e]; decide)), step, dif_neg h]

/-- The region's invariant before position `n`: the carries at anything before the first, then at what the position
    before left. -/
def PhiS (c : Dev nD) : (n : ℕ) → n ≤ cfg0.N → sProp 𝕄
  | 0, _ => Pipeline.ΦA spec0 c
  | n + 1, hn => iprop(iprop(owns (c : Thread nD τ) scM0_0 fullShare ((outs m c n hn).2.2.2.2.1) ∗ owns (c : Thread nD τ) scM0_1 fullShare ((outs m c n hn).2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outs m c n hn).2.2.2.2.1) ∗ owns (c : Thread nD τ) scM0_1 fullShare ((outs m c n hn).2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outs m c (n - 1) (by omega)).2.2.2.2.1) ∗ owns (c : Thread nD τ) scM0_1 fullShare ((outs m c (n - 1) (by omega)).2.2.2.2.2)) ∗ (∃ r, prngReg c r)) := by
  cases n with
  | zero => exact absurd rfl hz
  | succ n => rfl

/-- The pipeline's proof data: the inputs' buffers at their blocks, the outputs' and the carries at `outs`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outs m c t.val t.isLt).1
    | ⟨9, _⟩ => (outs m c t.val t.isLt).2.1
    | ⟨10, _⟩ => (outs m c t.val t.isLt).2.2.1
    | ⟨11, _⟩ => (outs m c t.val t.isLt).2.2.2.1
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outs m c t.val t.isLt).1 := by dsimp only [dats]
theorem after0_9 (c : Dev nD) (t : Fin cfg0.N) : (dats m 0 c).after 9 t = (outs m c t.val t.isLt).2.1 := by dsimp only [dats]
theorem after0_10 (c : Dev nD) (t : Fin cfg0.N) : (dats m 0 c).after 10 t = (outs m c t.val t.isLt).2.2.1 := by dsimp only [dats]
theorem after0_11 (c : Dev nD) (t : Fin cfg0.N) : (dats m 0 c).after 11 t = (outs m c t.val t.isLt).2.2.2.1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- The queries' gradient is written back after every block. -/
theorem flush0_8 : ∀ t : Fin cfg0.N, (cfg0.win 8).flush t = true ↔ t.val % 17 ≠ 15 :=
  (by decide +kernel : ∀ t : Fin grid0.N, win0_8.flush t = true ↔ t.val % 17 ≠ 15)
/-- The keys' and the values' gradients are written back from a sequence's second position on. -/
theorem flush0_9 : ∀ t : Fin cfg0.N, (cfg0.win 9).flush t = true ↔ t.val % 17 ≠ 0 :=
  (by decide +kernel : ∀ t : Fin grid0.N, win0_9.flush t = true ↔ t.val % 17 ≠ 0)
theorem flush0_10 : ∀ t : Fin cfg0.N, (cfg0.win 10).flush t = true ↔ t.val % 17 ≠ 0 :=
  (by decide +kernel : ∀ t : Fin grid0.N, win0_10.flush t = true ↔ t.val % 17 ≠ 0)

/-- The positions at which the body stores nothing into an output: the one after a sequence's last block stores no query
    gradient and no bias gradient. -/
theorem idle0_8 : ∀ t : Fin cfg0.N, cfg0.idle 8 (cfg0.grid.coords t) = decide (t.val % 17 = 16) :=
  (by decide +kernel : ∀ t : Fin grid0.N, idle0 8 (grid0.coords t) = decide (t.val % 17 = 16))
theorem idle0_9 : ∀ t : Fin cfg0.N, cfg0.idle 9 (cfg0.grid.coords t) = false :=
  (by decide +kernel : ∀ t : Fin grid0.N, idle0 9 (grid0.coords t) = false)
theorem idle0_10 : ∀ t : Fin cfg0.N, cfg0.idle 10 (cfg0.grid.coords t) = false :=
  (by decide +kernel : ∀ t : Fin grid0.N, idle0 10 (grid0.coords t) = false)
theorem idle0_11 : ∀ t : Fin cfg0.N, cfg0.idle 11 (cfg0.grid.coords t) = decide (t.val % 17 = 16) :=
  (by decide +kernel : ∀ t : Fin grid0.N, idle0 11 (grid0.coords t) = decide (t.val % 17 = 16))

/-- What an output's buffer holds after a position that stores into it and does not write it back. -/
theorem before_live (c : Dev nD) (w : Fin cfg0.W) (hw : (cfg0.win w).isOut = true) (t : Fin cfg0.N) (ht : t.val ≠ 0)
    (hfl : (cfg0.win w).flush ⟨t.val - 1, Nat.lt_of_le_of_lt (Nat.sub_le _ _) t.isLt⟩ = false)
    (hl : cfg0.idle w (cfg0.grid.coords ⟨t.val - 1, Nat.lt_of_le_of_lt (Nat.sub_le _ _) t.isLt⟩) = false)
    (hclip : ∀ (i : cfg0.grid.Coords) a, (cfg0.win w).clip i a = none) (d) :
    (dats m 0 c).before w t d = (dats m 0 c).after w ⟨t.val - 1, Nat.lt_of_le_of_lt (Nat.sub_le _ _) t.isLt⟩ := by
  rw [Dat.before_of_pos _ w t ht ((cfg0.win w).fetch_out hw t), hfl, if_neg Bool.false_ne_true]
  unfold Dat.left; rw [hl]; dsimp only; unfold Dat.kept
  rw [Pipeline.fill_of_clip_none (cfg := cfg0) w _ (hclip _) d ((dats m 0 c).after w _), Window.fill_cut]

/-- At the position after a sequence's last block the queries' gradient is still the last block's. -/
theorem before0_8_C (c : Dev nD) (t : Fin cfg0.N) (h : ¬t.val % 17 ≤ 15) (d) :
    (dats m 0 c).before 8 t d = (prev m c t).1 := by
  have hN : t.val < 68 := lt_of_lt_of_eq t.isLt (show cfg0.N = 68 from N_0)
  rw [before_live m c 8 rfl t (by omega) (Bool.eq_false_iff.mpr fun h => by have := (flush0_8 _).mp h; dsimp only at this; omega)
    (by rw [idle0_8, decide_eq_false_iff_not]; dsimp only; omega) (fun _ _ => rfl), after0_8]

/-- The bias' gradient stays in its buffer from the first position on. -/
theorem before0_11_live (c : Dev nD) (t : Fin cfg0.N) (h0 : ¬t.val % 68 = 0) (h1 : ¬t.val % 17 = 0) (d) :
    (dats m 0 c).before 11 t d = (prev m c t).2.2.2.1 := by
  have hN : t.val < 68 := lt_of_lt_of_eq t.isLt (show cfg0.N = 68 from N_0)
  rw [before_live m c 11 rfl t (by omega) (Bool.eq_false_iff.mpr fun h => by have := (flush0_11 _).mp h; dsimp only at this; omega)
    (by rw [idle0_11, decide_eq_false_iff_not]; dsimp only; omega) (fun _ _ => rfl), after0_11]

theorem before0_11 (c : Dev nD) (t : Fin cfg0.N) (h0 : ¬t.val % 68 = 0) (d) :
    (dats m 0 c).before 11 t d = (prev m c t).2.2.2.1 := by
  have hN : t.val < 68 := lt_of_lt_of_eq t.isLt (show cfg0.N = 68 from N_0)
  by_cases h1 : t.val % 17 = 0
  · rw [Dat.before_of_pos _ 11 t (by omega) ((cfg0.win 11).fetch_out rfl t),
      show (cfg0.win 11).flush ⟨t.val - 1, Nat.lt_of_le_of_lt (Nat.sub_le _ _) t.isLt⟩ = false from
        Bool.eq_false_iff.mpr fun h => by have := (flush0_11 _).mp h; dsimp only at this; omega, if_neg Bool.false_ne_true]
    unfold Dat.left
    rw [idle0_11, show decide ((⟨t.val - 1, Nat.lt_of_le_of_lt (Nat.sub_le _ _) t.isLt⟩ : Fin cfg0.N).val % 17 = 16) = true from
      decide_eq_true (by dsimp only; omega)]
    dsimp only
    rw [before0_11_live m c _ (by dsimp only; omega) (by dsimp only; omega)]
    exact (congrArg (fun s : State F => s.2.2.2.1)
      (outs_C m c ⟨t.val - 1, Nat.lt_of_le_of_lt (Nat.sub_le _ _) t.isLt⟩ (by dsimp only; omega))).symm
  · exact before0_11_live m c t h0 h1 d

/-! ### What the body has to leave in each buffer -/

theorem leaves0_0 (c : Dev nD) (t : Fin cfg0.N) :
    (dats m 0 c).leavesExact 0 t = owns (c : Thread nD τ) (ms0_0 t) fullShare ((dats m 0 c).after 0 t) := by
  unfold Dat.leavesExact; rw [show cfg0.idle 0 (cfg0.grid.coords t) = false from rfl]
theorem leaves0_1 (c : Dev nD) (t : Fin cfg0.N) :
    (dats m 0 c).leavesExact 1 t = owns (c : Thread nD τ) (ms0_1 t) fullShare ((dats m 0 c).after 1 t) := by
  unfold Dat.leavesExact; rw [show cfg0.idle 1 (cfg0.grid.coords t) = false from rfl]
theorem leaves0_2 (c : Dev nD) (t : Fin cfg0.N) :
    (dats m 0 c).leavesExact 2 t = owns (c : Thread nD τ) (ms0_2 t) fullShare ((dats m 0 c).after 2 t) := by
  unfold Dat.leavesExact; rw [show cfg0.idle 2 (cfg0.grid.coords t) = false from rfl]
theorem leaves0_3 (c : Dev nD) (t : Fin cfg0.N) :
    (dats m 0 c).leavesExact 3 t = owns (c : Thread nD τ) (ms0_3 t) fullShare ((dats m 0 c).after 3 t) := by
  unfold Dat.leavesExact; rw [show cfg0.idle 3 (cfg0.grid.coords t) = false from rfl]
theorem leaves0_4 (c : Dev nD) (t : Fin cfg0.N) :
    (dats m 0 c).leavesExact 4 t = owns (c : Thread nD τ) (ms0_4 t) fullShare ((dats m 0 c).after 4 t) := by
  unfold Dat.leavesExact; rw [show cfg0.idle 4 (cfg0.grid.coords t) = false from rfl]
theorem leaves0_5 (c : Dev nD) (t : Fin cfg0.N) :
    (dats m 0 c).leavesExact 5 t = owns (c : Thread nD τ) (ms0_5 t) fullShare ((dats m 0 c).after 5 t) := by
  unfold Dat.leavesExact; rw [show cfg0.idle 5 (cfg0.grid.coords t) = false from rfl]
theorem leaves0_6 (c : Dev nD) (t : Fin cfg0.N) :
    (dats m 0 c).leavesExact 6 t = owns (c : Thread nD τ) (ms0_6 t) fullShare ((dats m 0 c).after 6 t) := by
  unfold Dat.leavesExact; rw [show cfg0.idle 6 (cfg0.grid.coords t) = false from rfl]
theorem leaves0_7 (c : Dev nD) (t : Fin cfg0.N) :
    (dats m 0 c).leavesExact 7 t = owns (c : Thread nD τ) (ms0_7 t) fullShare ((dats m 0 c).after 7 t) := by
  unfold Dat.leavesExact; rw [show cfg0.idle 7 (cfg0.grid.coords t) = false from rfl]
theorem leaves0_9 (c : Dev nD) (t : Fin cfg0.N) :
    (dats m 0 c).leavesExact 9 t = owns (c : Thread nD τ) (ms0_9 t) fullShare ((dats m 0 c).after 9 t) := by
  unfold Dat.leavesExact; rw [idle0_9 t]
theorem leaves0_10 (c : Dev nD) (t : Fin cfg0.N) :
    (dats m 0 c).leavesExact 10 t = owns (c : Thread nD τ) (ms0_10 t) fullShare ((dats m 0 c).after 10 t) := by
  unfold Dat.leavesExact; rw [idle0_10 t]
theorem leaves0_8 (c : Dev nD) (t : Fin cfg0.N) :
    (dats m 0 c).leavesExact 8 t = owns (c : Thread nD τ) (ms0_8 t) fullShare ((dats m 0 c).after 8 t) := by
  unfold Dat.leavesExact; rw [idle0_8 t]
  by_cases h : t.val % 17 = 16
  · rw [decide_eq_true h, show (cfg0.win 8).flush t = true from (flush0_8 t).mpr (by omega)]
  · rw [decide_eq_false h]
theorem leaves0_11 (c : Dev nD) (t : Fin cfg0.N) :
    owns (c : Thread nD τ) (ms0_11 t) fullShare ((dats m 0 c).after 11 t) ⊢ (dats m 0 c).leavesExact 11 t := by
  unfold Dat.leavesExact; rw [idle0_11 t]
  by_cases h : t.val % 17 = 16
  · rw [decide_eq_true h]
    by_cases hf : (cfg0.win 11).flush t = true
    · rw [hf]
    · rw [Bool.eq_false_iff.mpr hf]
      dsimp only
      iintro H
      iexists (fun _ => (dats m 0 c).after 11 t (fun a => ⟨0, by fin_cases a <;> decide⟩))
      rw [before0_11 m c t (by omega), after0_11, outs_C m c t (by omega)]
      iexact H
  · rw [decide_eq_false h]

/-! ## The body at every position -/

/-- What the body is called with at position `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 4800000 in
/-- The body turns the one into the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    leaves0_0, leaves0_1, leaves0_2, leaves0_3, leaves0_4, leaves0_5, leaves0_6, leaves0_7, leaves0_8, leaves0_9, leaves0_10,
    after0_0, after0_1, after0_2, after0_3, after0_4, after0_5, after0_6, after0_7, after0_8, after0_9, after0_10]
  rw [show (dats m 0 c).Φ t.succ = PhiS m c (t.val + 1) t.isLt from rfl, PhiS_succ]
  have hN : t.val < 68 := lt_of_lt_of_eq t.isLt (show cfg0.N = 68 from N_0)
  by_cases h2 : t.val % 17 ≤ 15
  · have h3 : ¬t.val % 17 = 16 := by omega
    by_cases h1 : t.val % 17 = 0
    · by_cases h0 : t.val % 68 = 0
      · have hz : t.val = 0 := by omega
        rw [PhiS_castSucc m c t, PhiS_zero m c _ _ hz, PhiA0_eq, outs_A m c t h0 h1 h2]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply (run_A c (grid0.coords t) _ _ _ _ _ _ _ _ _ _ _ _ _ _ _ _ _ _ _ _ _ _ _ _ _ _ _ _ ((hcond0_0 t).mpr h0) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t)  Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        isplitl [H11]; · iexists _; iexact H11
        isplitl [HS0]; · iexact HS0
        isplitl [HS1]; · iexact HS1
        iintro ⟨H0, H1, H2, H3, H4, H5, H6, H7, H8, H9, H10, H11, HS0, HS1⟩
        isplitl [HS0 HS1 Hg]
        · isplitl [HS0 HS1]
          · isplitl [HS0]; · iexact HS0
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iapply (leaves0_11 m c t)
        rw [after0_11, outs_A m c t h0 h1 h2]
        iexact H11
      · have hz : t.val ≠ 0 := fun e => h0 (by rw [e])
        rw [PhiS_castSucc m c t, PhiS_pos m c _ _ hz]
        rw [outs_D m c t h0 h1 h2]
        simp only [before0_11 m c t h0]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply (run_D c (grid0.coords t) _ _ _ _ _ _ _ _ _ _ _ _ _ _ _ _ _ _ _ _ _ _ _ _ _ _ _ _ (fun h => h0 ((hcond0_0 t).mp h)) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        isplitl [H11]; · iexact H11
        isplitl [HS0]; · iexists _; iexact HS0
        isplitl [HS1]; · iexists _; iexact HS1
        iintro ⟨H0, H1, H2, H3, H4, H5, H6, H7, H8, H9, H10, H11, HS0, HS1⟩
        isplitl [HS0 HS1 Hg]
        · isplitl [HS0 HS1]
          · isplitl [HS0]; · iexact HS0
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iapply (leaves0_11 m c t)
        rw [after0_11, outs_D m c t h0 h1 h2]
        iexact H11
    · have hz : t.val ≠ 0 := fun e => h1 (by rw [e])
      have h0 : ¬t.val % 68 = 0 := by omega
      rw [PhiS_castSucc m c t, PhiS_pos m c _ _ hz]
      rw [outs_B m c t h1 h2]
      simp only [before0_11 m c t h0]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (run_B c (grid0.coords t) _ _ _ _ _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexact H11
      isplitl [HS0]; · iexact HS0
      isplitl [HS1]; · iexact HS1
      iintro ⟨H0, H1, H2, H3, H4, H5, H6, H7, H8, H9, H10, H11, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iapply (leaves0_11 m c t)
      rw [after0_11, outs_B m c t h1 h2]
      iexact H11
  · have h3 : t.val % 17 = 16 := by omega
    have h1 : ¬t.val % 17 = 0 := by omega
    have hz : t.val ≠ 0 := fun e => h1 (by rw [e])
    have h0 : ¬t.val % 68 = 0 := by omega
    rw [PhiS_castSucc m c t, PhiS_pos m c _ _ hz]
    rw [outs_C m c t h2]
    simp only [before0_11 m c t h0, before0_8_C m c t h2]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (run_C c (grid0.coords t) _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexact H11
    isplitl [HS0]; · iexact HS0
    isplitl [HS1]; · iexact HS1
    iintro ⟨H0, H1, H2, H3, H4, H5, H6, H7, H8, H9, H10, H11, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iapply (leaves0_11 m c t)
    rw [after0_11, outs_C m c t h2]
    iexact H11

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have hz : (Fin.last cfg0.N).val ≠ 0 := by rw [Fin.val_last]; have : cfg0.N = 68 := N_0; omega
  rw [show (dats m 0 c).Φ (Fin.last cfg0.N) = PhiS m c (Fin.last cfg0.N).val (Nat.le_of_lt_succ (Fin.last cfg0.N).isLt) from rfl, PhiS_pos m c _ _ hz, PhiA0_eq]
  iintro ⟨⟨HS0, HS1⟩, Hg⟩
  isplitl [HS0 HS1]
  · isplitl [HS0]; · iexists _; iexact HS0
    iexists _; iexact HS1
  iexact Hg

/-! ## The launch -/

set_option backward.isDefEq.respectTransparency.types false in
/-- Every execution ends, with every array of the pipeline at what the proof data says and every semaphore counter at
    zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: every execution ends, the arguments are as they were and every semaphore counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Attn

end
-- ==== Proof.Attn.Printed.lean ====
/-
  The printed kernel and the idealized one differ in one constant alone: the score of a key that is not looked at,
  a literal in the one and a named number in the other. Read at bit patterns, with every name standing for the literal
  printed beside it, the idealized program IS the printed one; so what is proved of the idealized program's run for any
  float values is proved of the printed one.
-/
module

public import proofs.«01_k».proof.Defs
public import proofs.«01_k».proof.Proof.Gen.Kernel.Frame
public import proofs.«01_k».proof.Proof.Attn.Run

@[expose] public section

noncomputable section

namespace Cert.Kernel.Attn

open Idealize.ShloMosaic Idealize.SL.Sem Cert.Kernel

/-- A named number of bit patterns: the literal printed beside the name. -/
local instance literal : Named Bits where
  named _ _ {φ} bits := Scalar.ofBits φ bits

/-- With names read as literals the two programs call one kernel. -/
theorem body_eq : (Cert.KernelIdeal.defs₀ (F := Bits)) = (Cert.Kernel.defs₀ (F := Bits)) := by
  unfold Cert.KernelIdeal.defs₀ Cert.Kernel.defs₀
  refine congrArg Defs.onTc (funext fun l => funext fun x => ?_)
  match l, x with
  | 0, (t, s) => rfl
  | ⟨_ + 1, h⟩, _ => exact absurd h (Nat.not_lt.2 (Nat.le_add_left _ _))

/-- So the two programs' tables of bodies are one. -/
theorem defs_eq : (Cert.KernelIdeal.defs (F := Bits)) = (Cert.Kernel.defs (F := Bits)) :=
  congrArg (Pipeline.defs (Cert.Kernel.pcfgs (F := Bits))) body_eq

/-- The printed kernel terminates without a fault, with its arguments unchanged and its counters at zero. -/
theorem frame : Cert.quiescent_Kernel (hKernel := Cert.Kernel.Gen.facts) := fun m ρ _ => by
  have h := Cert.KernelIdeal.Attn.frame (F := Bits) m ρ
  rw [defs_eq] at h
  exact h

end Cert.Kernel.Attn

end
-- ==== Proof.Consts.lean ====
/-
  The float constants of the programs, as the extended reals they denote.
-/
module

public import Idealize.ShloMosaic.PureOps.Ideal

@[expose] public section

noncomputable section

namespace Cert.Consts

open Idealize.ShloMosaic

/-- The literal `0.5`. -/
theorem half : Ideal.ofBits .f32 0x3F000000#32 = ((1 / 2 : ℝ) : EReal) := by
  simp [Ideal.ofBits, Ideal.ieee, -EReal.coe_mul]; norm_num

/-- The literal `0.125`. -/
theorem eighth : Ideal.ofBits .f32 0x3E000000#32 = ((1 / 8 : ℝ) : EReal) := by
  simp [Ideal.ofBits, Ideal.ieee, -EReal.coe_mul]; norm_num

end Cert.Consts

end
-- ==== Proof.Value.Row.lean ====
/-
  One query's row of the attention of one head, and its gradient, over the extended reals: the formulas that the kernel
  and the reference both come to.
-/
module

public import Idealize.ShloMosaic.PureOps.Ideal
public import Idealize.ShloMosaic.PureOps.Ideal.Laws

@[expose] public section

noncomputable section

namespace Cert.AttnRow

open Idealize.ShloMosaic

/-- What one query of one head reads: itself, the 256 keys and values of its two blocks, the bias, which keys it sees,
    and the gradients `d` of the output and `l` of the log of the denominator, the latter spread over the lanes. -/
structure Row where
  q : Fin 64 → EReal
  K : Fin 256 → Fin 64 → EReal
  V : Fin 256 → Fin 64 → EReal
  b : Fin 256 → EReal
  ok : Fin 256 → BitVec 1
  d : Fin 64 → EReal
  l : Fin 64 → EReal

namespace Row

variable (R : Row)

/-- The masked scores. -/
def s (k : Fin 256) : EReal := Scalar.select (R.ok k) ((∑ e, R.q e * R.K k e) * ((1 / 8 : ℝ) : EReal) + R.b k) ⊥
/-- Their maximum. -/
def mx : EReal := Finset.univ.fold max ⊥ R.s
/-- The exponentials of the scores above the maximum. -/
def p (k : Fin 256) : EReal := Ideal.exp (R.s k - R.mx)
/-- The denominator. -/
def den : EReal := ∑ k, R.p k
/-- The output before the division. -/
def ou (e : Fin 64) : EReal := ∑ k, R.p k * R.V k e
/-- The gradient of the denominator. -/
def dl : EReal := Ideal.div (∑ e, R.l e) R.den + ∑ e, (0 - R.d e * Ideal.div 1 (R.den * R.den) * R.ou e)
/-- The gradient of the exponentials. -/
def g (k : Fin 256) : EReal := (∑ e, Ideal.div (R.d e) R.den * R.V k e) + R.dl
/-- The gradient of the scores. -/
def ds (k : Fin 256) : EReal := Scalar.select (R.ok k) (R.g k * R.p k) 0
/-- The same before the scale of the scores. -/
def dsx (k : Fin 256) : EReal := R.ds k * ((1 / 8 : ℝ) : EReal)

/-- Where a key is not seen its exponential is zero. -/
theorem p_of_not_ok {k : Fin 256} (h : R.ok k = 0#1) : R.p k = 0 := by
  unfold p s
  rw [h]
  show Ideal.exp (⊥ - R.mx) = 0
  rw [sub_eq_add_neg, EReal.bot_add]
  rfl

theorem ds_of_not_ok {k : Fin 256} (h : R.ok k = 0#1) : R.ds k = 0 := by
  unfold ds; rw [h]; rfl

theorem dsx_of_not_ok {k : Fin 256} (h : R.ok k = 0#1) : R.dsx k = 0 := by
  unfold dsx; rw [R.ds_of_not_ok h, zero_mul]

/-- Two rows alike but for the keys and values that are not seen. -/
structure Alike (R T : Row) : Prop where
  q : R.q = T.q
  K : ∀ k, R.ok k ≠ 0#1 → R.K k = T.K k
  V : ∀ k, R.ok k ≠ 0#1 → R.V k = T.V k
  b : ∀ k, R.ok k ≠ 0#1 → R.b k = T.b k
  ok : R.ok = T.ok
  d : R.d = T.d
  l : R.l = T.l

variable {R} {T : Row} (h : Alike R T)
include h

theorem Alike.s_eq : R.s = T.s := by
  funext k
  unfold s
  rw [← h.ok, ← h.q]
  by_cases hk : R.ok k = 0#1
  · rw [hk]; rfl
  · rw [h.K k hk, h.b k hk]

theorem Alike.mx_eq : R.mx = T.mx := by unfold mx; rw [h.s_eq]

theorem Alike.p_eq : R.p = T.p := by funext k; unfold p; rw [h.s_eq, h.mx_eq]

theorem Alike.den_eq : R.den = T.den := by unfold den; rw [h.p_eq]

theorem Alike.ou_eq : R.ou = T.ou := by
  funext e
  unfold ou
  refine Finset.sum_congr rfl fun k _ => ?_
  rw [← h.p_eq]
  by_cases hk : R.ok k = 0#1
  · rw [R.p_of_not_ok hk, zero_mul, zero_mul]
  · rw [h.V k hk]

theorem Alike.dl_eq : R.dl = T.dl := by unfold dl; rw [h.den_eq, h.ou_eq, h.l, h.d]

theorem Alike.ds_eq : R.ds = T.ds := by
  funext k
  unfold ds g
  rw [← h.ok]
  by_cases hk : R.ok k = 0#1
  · rw [hk]; rfl
  · rw [h.V k hk, h.den_eq, h.d, h.dl_eq, h.p_eq]

theorem Alike.dsx_eq : R.dsx = T.dsx := by funext k; unfold dsx; rw [h.ds_eq]

/-- A row's part of the gradient of the query. -/
theorem Alike.dq_eq (e : Fin 64) : ∑ k, R.dsx k * R.K k e = ∑ k, T.dsx k * T.K k e := by
  refine Finset.sum_congr rfl fun k _ => ?_
  rw [← h.dsx_eq]
  by_cases hk : R.ok k = 0#1
  · rw [R.dsx_of_not_ok hk, zero_mul, zero_mul]
  · rw [h.K k hk]

end Row

end Cert.AttnRow

end
-- ==== Proof.Value.Pair.lean ====
/-
  What the kernel computes of one block on one pair of heads, entry by entry: the rows' formulas.
-/
module

public import proofs.«01_k».proof.Proof.Attn.Pair
public import proofs.«01_k».proof.Proof.Consts
public import proofs.«01_k».proof.Proof.Value.Row
public import Idealize.ShloMosaic.Lib.Pointwise
public import Idealize.ShloMosaic.Lib.IdealHost

@[expose] public section

set_option maxRecDepth 65536

noncomputable section

namespace Cert.KernelIdeal.AttnValue

open Cert.KernelIdeal Cert.KernelIdeal.Gen Cert.KernelIdeal.Attn
open Idealize.ShloMosaic Idealize.ShloMosaic.TcCoe Idealize.SL.Sem
open Cert.AttnRow (Row)

/-- Lane `e` of head `h` of a pair. -/
def lane (h : Fin 2) (e : Fin 64) : Fin 128 := ⟨h.val * 64 + e.val, by omega⟩
/-- Key `k`'s column of head `h` of a pair. -/
def col (h : Fin 2) (k : Fin 256) : Fin 512 := ⟨h.val * 256 + k.val, by omega⟩

theorem sum_lane (f : Fin 128 → EReal) : ∑ x, f x = (∑ e, f (lane 0 e)) + ∑ e, f (lane 1 e) :=
  (Fin.sum_univ_tiles (N := 128) 2 64 rfl f).trans (Fin.sum_univ_two fun h : Fin 2 => ∑ e, f (lane h e))
theorem sum_col (f : Fin 512 → EReal) : ∑ x, f x = (∑ k, f (col 0 k)) + ∑ k, f (col 1 k) :=
  (Fin.sum_univ_tiles (N := 512) 2 256 rfl f).trans (Fin.sum_univ_two fun h : Fin 2 => ∑ k, f (col h k))

/-- The named mask is minus infinity. -/
theorem mask_eq : Named.named (F := Ideal) (φ := .f32) κ "mask" 0xF149F2CA#32 = ⊥ := IdealRules.named_const.ideal_named_scalar _ _ _ _ rfl
/-- The maximum's start. -/
theorem start_eq : Ideal.ofBits .f32 0xFF800000#32 = ⊥ := by simp [Ideal.ofBits, Ideal.ieee]

theorem lane_val (h : Fin 2) (e : Fin 64) : (lane h e).val = h.val * 64 + e.val := rfl
theorem col_val (h : Fin 2) (k : Fin 256) : (col h k).val = h.val * 256 + k.val := rfl

theorem lt_lane (h : Fin 2) (e : Fin 64) : IntOp.cmpi .slt (BitVec.ofNat 32 (lane h e).val) 64#32 = if h = 0 then 1#1 else 0#1 := by
  have := e.isLt
  have hl := lane_val h e
  refine (WordCmp.cmpi_slt_ofNat (w := 32) (by omega) (by norm_num)).trans ?_
  rcases (show h = 0 ∨ h = 1 by omega) with rfl | rfl
  · rw [if_pos rfl, decide_eq_true (by rw [hl]; simp)]; rfl
  · rw [if_neg (by decide), decide_eq_false (by rw [hl]; simp)]; rfl

theorem lt_col (h : Fin 2) (k : Fin 256) : IntOp.cmpi .slt (BitVec.ofNat 32 (col h k).val) 256#32 = if h = 0 then 1#1 else 0#1 := by
  have := k.isLt
  have hl := col_val h k
  refine (WordCmp.cmpi_slt_ofNat (w := 32) (by omega) (by norm_num)).trans ?_
  rcases (show h = 0 ∨ h = 1 by omega) with rfl | rfl
  · rw [if_pos rfl, decide_eq_true (by rw [hl]; simp)]; rfl
  · rw [if_neg (by decide), decide_eq_false (by rw [hl]; simp)]; rfl

theorem select_one {α : Type} (a b : α) : Scalar.select 1#1 a b = a := rfl
theorem select_zero {α : Type} (a b : α) : Scalar.select 0#1 a b = b := rfl

variable (ok : IVec S128x512 1) (k1 k2 v1 v2 q d l : FVec Ideal S1x128x128 .f32) (b : FVec Ideal S1x128x512 .f32)

/-- The row of query `r` and head `h` of the pair. -/
def prow (h : Fin 2) (r : Fin 128) : Row where
  q e := q (ix3 0 r (lane h e))
  K k e := k0_pay8 (F := Ideal) k1 k2 (ix2 k (lane h e))
  V k e := k0_pay9 (F := Ideal) v1 v2 (ix2 k (lane h e))
  b k := b (ix3 0 r (col h k))
  ok k := ok (ix2 r (col h k))
  d e := d (ix3 0 r (lane h e))
  l e := l (ix3 0 r (lane h e))

/-- The columns of the two heads, as numbers below and from 256 on. -/
theorem col0_lt (k : Fin 256) : (col 0 k).val < 256 := by rw [col_val]; simp
theorem col1_lt (k : Fin 256) : ¬(col 1 k).val < 256 := by rw [col_val]; simp
theorem col0_mk (k : Fin 256) (h) : (⟨(col 0 k).val, h⟩ : Fin 256) = k := Fin.ext (by show (col 0 k).val = _; rw [col_val]; simp)
theorem col1_mk (k : Fin 256) (h) : (⟨(col 1 k).val - 256, h⟩ : Fin 256) = k := Fin.ext (by show (col 1 k).val - 256 = _; rw [col_val]; simp)
theorem mk_col0 (k : Fin 256) (h) : (⟨k.val, h⟩ : Fin 512) = col 0 k := Fin.ext (by rw [col_val]; simp)
theorem mk_col1 (k : Fin 256) (h) : (⟨256 + k.val, h⟩ : Fin 512) = col 1 k := Fin.ext (by rw [col_val]; simp)

theorem pS_apply (h : Fin 2) (r : Fin 128) (k : Fin 256) :
    pS (F := Ideal) ok k1 k2 q b (ix2 r (col h k)) = (prow ok k1 k2 v1 v2 q d l b h r).s k := by
  unfold Row.s
  show k0_pay11 (F := Ideal) ok (k0_pay8 k1 k2) q b (ix2 r (col h k)) = _
  pointwise [k0_pay11, k0_pay10]
  rw [mask_eq, sum_lane, Cert.Consts.eighth]
  rcases (show h = 0 ∨ h = 1 by omega) with rfl | rfl
  · simp only [lt_lane, dif_pos (col0_lt k), col0_mk, if_true, if_neg (show ¬(1 : Fin 2) = 0 by decide), select_one, select_zero, mul_zero, Finset.sum_const_zero, add_zero]
    rfl
  · simp only [lt_lane, dif_neg (col1_lt k), col1_mk, if_true, if_neg (show ¬(1 : Fin 2) = 0 by decide), select_one, select_zero, mul_zero, Finset.sum_const_zero, zero_add]
    rfl

theorem pM_apply (h : Fin 2) (r : Fin 128) (k : Fin 256) :
    pM (F := Ideal) ok k1 k2 q b (ix2 r (col h k)) = (prow ok k1 k2 v1 v2 q d l b h r).mx := by
  unfold Row.mx
  have e : ∀ h, (fun x => k0_pay11 (F := Ideal) ok (k0_pay8 k1 k2) q b (ix2 r (col h x))) = (prow ok k1 k2 v1 v2 q d l b h r).s :=
    fun h => funext fun x => pS_apply ok k1 k2 v1 v2 q d l b h r x
  show k0_pay12 (F := Ideal) ok (k0_pay8 k1 k2) q b (ix2 r (col h k)) = _
  pointwise [k0_pay12]
  rw [start_eq]
  simp only [mk_col0, mk_col1, lt_col, e]
  rcases (show h = 0 ∨ h = 1 by omega) with rfl | rfl <;> rfl

theorem pP_apply (h : Fin 2) (r : Fin 128) (k : Fin 256) :
    pP (F := Ideal) ok k1 k2 q b (ix2 r (col h k)) = (prow ok k1 k2 v1 v2 q d l b h r).p k := by
  show k0_pay13 (F := Ideal) (pS ok k1 k2 q b) (pM ok k1 k2 q b) (ix2 r (col h k)) = _
  have e1 := pS_apply ok k1 k2 v1 v2 q d l b h r k
  have e2 := pM_apply ok k1 k2 v1 v2 q d l b h r k
  generalize pM (F := Ideal) ok k1 k2 q b = M at *
  generalize pS (F := Ideal) ok k1 k2 q b = S at *
  pointwise [k0_pay13]
  rw [e1, e2]; rfl

/-- The denominators. -/
theorem den_apply (h : Fin 2) (r : Fin 128) (e : Fin 64) :
    k0_pay18 (F := Ideal) (pS ok k1 k2 q b) (pM ok k1 k2 q b) (ix2 r (lane h e)) = (prow ok k1 k2 v1 v2 q d l b h r).den := by
  unfold Row.den
  have E : ∀ h, (fun x => k0_pay13 (F := Ideal) (pS ok k1 k2 q b) (pM ok k1 k2 q b) (ix2 r (col h x))) = (prow ok k1 k2 v1 v2 q d l b h r).p :=
    fun h => funext fun x => pP_apply ok k1 k2 v1 v2 q d l b h r x
  generalize pM (F := Ideal) ok k1 k2 q b = M at *
  generalize pS (F := Ideal) ok k1 k2 q b = S at *
  pointwise [k0_pay18, k0_pay14, k0_pay15, k0_pay16]
  simp only [mk_col0, mk_col1, lt_lane, E]
  rcases (show h = 0 ∨ h = 1 by omega) with rfl | rfl <;> rfl

/-- The output before the division. -/
theorem ou_apply (h : Fin 2) (r : Fin 128) (e : Fin 64) :
    k0_pay17 (F := Ideal) (k0_pay9 v1 v2) (pS ok k1 k2 q b) (pM ok k1 k2 q b) (ix2 r (lane h e)) = (prow ok k1 k2 v1 v2 q d l b h r).ou e := by
  unfold Row.ou
  have E : ∀ h x, k0_pay13 (F := Ideal) (pS ok k1 k2 q b) (pM ok k1 k2 q b) (ix2 r (col h x)) = (prow ok k1 k2 v1 v2 q d l b h r).p x :=
    fun h x => pP_apply ok k1 k2 v1 v2 q d l b h r x
  generalize pM (F := Ideal) ok k1 k2 q b = M at *
  generalize pS (F := Ideal) ok k1 k2 q b = S at *
  pointwise [k0_pay17]
  simp only [mk_col0, mk_col1, lt_lane, E]
  rcases (show h = 0 ∨ h = 1 by omega) with rfl | rfl
  · simp only [if_true, select_one, Finset.sum_const_zero, add_zero]
    rfl
  · simp only [if_neg (show ¬(1 : Fin 2) = 0 by decide), select_zero, Finset.sum_const_zero, zero_add]
    rfl

/-- The reciprocal of the squared denominator. -/
theorem inv_apply (S M : FVec Ideal S128x512 .f32) (r x : Fin 128) :
    k0_pay19 (F := Ideal) S M (ix2 r x) = Ideal.div 1 (k0_pay18 (F := Ideal) S M (ix2 r x) * k0_pay18 (F := Ideal) S M (ix2 r x)) := by
  pointwise [k0_pay19]

/-- The denominators by head. -/
theorem den0_apply (r : Fin 128) :
    k0_pay14 (F := Ideal) (pS ok k1 k2 q b) (pM ok k1 k2 q b) (ix2 r 0) = (prow ok k1 k2 v1 v2 q d l b 0 r).den := by
  unfold Row.den
  have E : ∀ h, (fun x => k0_pay13 (F := Ideal) (pS ok k1 k2 q b) (pM ok k1 k2 q b) (ix2 r (col h x))) = (prow ok k1 k2 v1 v2 q d l b h r).p :=
    fun h => funext fun x => pP_apply ok k1 k2 v1 v2 q d l b h r x
  generalize pM (F := Ideal) ok k1 k2 q b = M at *
  generalize pS (F := Ideal) ok k1 k2 q b = S at *
  pointwise [k0_pay14]
  simp only [mk_col0, E]
theorem den1_apply (r : Fin 128) :
    k0_pay15 (F := Ideal) (pS ok k1 k2 q b) (pM ok k1 k2 q b) (ix2 r 0) = (prow ok k1 k2 v1 v2 q d l b 1 r).den := by
  unfold Row.den
  have E : ∀ h, (fun x => k0_pay13 (F := Ideal) (pS ok k1 k2 q b) (pM ok k1 k2 q b) (ix2 r (col h x))) = (prow ok k1 k2 v1 v2 q d l b h r).p :=
    fun h => funext fun x => pP_apply ok k1 k2 v1 v2 q d l b h r x
  generalize pM (F := Ideal) ok k1 k2 q b = M at *
  generalize pS (F := Ideal) ok k1 k2 q b = S at *
  pointwise [k0_pay15]
  simp only [mk_col1, E]

/-- The log-denominators' gradients over the denominators. -/
theorem l0_apply (r : Fin 128) :
    k0_pay24 (F := Ideal) (pS ok k1 k2 q b) (pM ok k1 k2 q b) l (ix2 r 0)
      = Ideal.div (∑ e, l (ix3 0 r (lane 0 e))) (prow ok k1 k2 v1 v2 q d l b 0 r).den := by
  rw [← den0_apply ok k1 k2 v1 v2 q d l b r]
  generalize pM (F := Ideal) ok k1 k2 q b = M
  generalize pS (F := Ideal) ok k1 k2 q b = S
  pointwise [k0_pay24, k0_pay21, k0_pay22, k0_pay16]
  rw [sum_lane]
  simp only [lt_lane, if_true, if_neg (show ¬(1 : Fin 2) = 0 by decide), select_one, select_zero, Finset.sum_const_zero, add_zero]
theorem l1_apply (r : Fin 128) :
    k0_pay23 (F := Ideal) (pS ok k1 k2 q b) (pM ok k1 k2 q b) l (ix2 r 0)
      = Ideal.div (∑ e, l (ix3 0 r (lane 1 e))) (prow ok k1 k2 v1 v2 q d l b 1 r).den := by
  rw [← den1_apply ok k1 k2 v1 v2 q d l b r]
  generalize pM (F := Ideal) ok k1 k2 q b = M
  generalize pS (F := Ideal) ok k1 k2 q b = S
  pointwise [k0_pay23, k0_pay21, k0_pay22, k0_pay16]
  rw [sum_lane]
  simp only [lt_lane, if_true, if_neg (show ¬(1 : Fin 2) = 0 by decide), select_one, select_zero, Finset.sum_const_zero, zero_add]

theorem half_apply (r : Fin 128) (h : Fin 2) (e : Fin 64) : k0_pay16 (ix2 r (lane h e)) = if h = 0 then 1#1 else 0#1 := by
  rw [← lt_lane h e]
  pointwise [k0_pay16]

/-- The output's gradient. -/
theorem d_apply (r x : Fin 128) : k0_pay20 (F := Ideal) d (ix2 r x) = d (ix3 0 r x) := by
  pointwise [k0_pay20]

theorem pG_apply (h : Fin 2) (r : Fin 128) (k : Fin 256) :
    pG (F := Ideal) ok k1 k2 v1 v2 q d l b (ix2 r (col h k)) = (prow ok k1 k2 v1 v2 q d l b h r).g k := by
  have e1 := fun h => den_apply ok k1 k2 v1 v2 q d l b h r
  have e2 := fun h => ou_apply ok k1 k2 v1 v2 q d l b h r
  have e3 := l0_apply ok k1 k2 v1 v2 q d l b r
  have e4 := l1_apply ok k1 k2 v1 v2 q d l b r
  have e5 : ∀ x, k0_pay19 (F := Ideal) (pS ok k1 k2 q b) (pM ok k1 k2 q b) (ix2 r x) = _ := fun x => inv_apply _ _ r x
  have e6 := fun x => d_apply d r x
  have e7 := half_apply r
  show k0_pay27 (F := Ideal) (k0_pay9 v1 v2) k0_pay16 (k0_pay17 (k0_pay9 v1 v2) (pS ok k1 k2 q b) (pM ok k1 k2 q b))
    (k0_pay18 (pS ok k1 k2 q b) (pM ok k1 k2 q b)) (k0_pay19 (pS ok k1 k2 q b) (pM ok k1 k2 q b)) (k0_pay20 d)
    (k0_pay23 (pS ok k1 k2 q b) (pM ok k1 k2 q b) l) (k0_pay24 (pS ok k1 k2 q b) (pM ok k1 k2 q b) l) (ix2 r (col h k)) = _
  generalize k0_pay18 (F := Ideal) (pS ok k1 k2 q b) (pM ok k1 k2 q b) = w18 at *
  generalize k0_pay17 (F := Ideal) (k0_pay9 v1 v2) (pS ok k1 k2 q b) (pM ok k1 k2 q b) = w17 at *
  generalize k0_pay19 (F := Ideal) (pS ok k1 k2 q b) (pM ok k1 k2 q b) = w19 at *
  generalize k0_pay23 (F := Ideal) (pS ok k1 k2 q b) (pM ok k1 k2 q b) l = w23 at *
  generalize k0_pay24 (F := Ideal) (pS ok k1 k2 q b) (pM ok k1 k2 q b) l = w24 at *
  generalize k0_pay20 (F := Ideal) d = w20 at *
  generalize k0_pay16 = w16 at *
  unfold Row.g Row.dl
  pointwise [k0_pay27, k0_pay25]
  simp only [sum_lane, Fintype.sum_unique, Fin.default_eq_zero, e1, e2, e3, e4, e5, e6, e7, lt_lane]
  rcases (show h = 0 ∨ h = 1 by omega) with rfl | rfl
  · simp only [dif_pos (col0_lt k), col0_mk, if_true, if_neg (show ¬(1 : Fin 2) = 0 by decide), select_one, select_zero, mul_zero, Finset.sum_const_zero, zero_add, add_zero]
    rfl
  · simp only [dif_neg (col1_lt k), col1_mk, if_true, if_neg (show ¬(1 : Fin 2) = 0 by decide), select_one, select_zero, mul_zero, Finset.sum_const_zero, zero_add, add_zero]
    rfl

/-- The gradient of the scores. -/
theorem ds_apply (h : Fin 2) (r : Fin 128) (k : Fin 256) :
    k0_pay28 (F := Ideal) ok (pP ok k1 k2 q b) (pG ok k1 k2 v1 v2 q d l b) (ix2 r (col h k)) = (prow ok k1 k2 v1 v2 q d l b h r).ds k := by
  have e1 := pG_apply ok k1 k2 v1 v2 q d l b h r k
  have e2 := pP_apply ok k1 k2 v1 v2 q d l b h r k
  generalize pG (F := Ideal) ok k1 k2 v1 v2 q d l b = G at *
  generalize pP (F := Ideal) ok k1 k2 q b = P at *
  pointwise [k0_pay28]
  rw [e1, e2]; rfl
theorem dsx_apply (h : Fin 2) (r : Fin 128) (k : Fin 256) :
    k0_pay29 (F := Ideal) ok (pP ok k1 k2 q b) (pG ok k1 k2 v1 v2 q d l b) (ix2 r (col h k)) = (prow ok k1 k2 v1 v2 q d l b h r).dsx k := by
  have e1 := ds_apply ok k1 k2 v1 v2 q d l b h r k
  generalize pG (F := Ideal) ok k1 k2 v1 v2 q d l b = G at *
  generalize pP (F := Ideal) ok k1 k2 q b = P at *
  pointwise [k0_pay29]
  rw [e1, Cert.Consts.eighth]; rfl

/-- The gradient of the queries. -/
theorem pDQ_apply (h : Fin 2) (r : Fin 128) (e : Fin 64) :
    pDQ (F := Ideal) ok k1 k2 v1 v2 q d l b (ix3 0 r (lane h e))
      = ∑ k, (prow ok k1 k2 v1 v2 q d l b h r).dsx k * (prow ok k1 k2 v1 v2 q d l b h r).K k e := by
  have e1 := fun h k => dsx_apply ok k1 k2 v1 v2 q d l b h r k
  show k0_pay31 (F := Ideal) ok (k0_pay8 k1 k2) (pP ok k1 k2 q b) (pG ok k1 k2 v1 v2 q d l b) (ix3 0 r (lane h e)) = _
  generalize pG (F := Ideal) ok k1 k2 v1 v2 q d l b = G at *
  generalize pP (F := Ideal) ok k1 k2 q b = P at *
  pointwise [k0_pay31]
  simp only [mk_col0, mk_col1, lt_lane, e1]
  rcases (show h = 0 ∨ h = 1 by omega) with rfl | rfl
  · simp only [if_true, select_one, Finset.sum_const_zero, add_zero]
    rfl
  · simp only [if_neg (show ¬(1 : Fin 2) = 0 by decide), select_zero, Finset.sum_const_zero, zero_add]
    rfl

/-- The gradient of the keys. -/
theorem pDK_apply (h : Fin 2) (k : Fin 256) (e : Fin 64) :
    pDK (F := Ideal) ok k1 k2 v1 v2 q d l b (ix2 k (lane h e))
      = ∑ r, (prow ok k1 k2 v1 v2 q d l b h r).dsx k * q (ix3 0 r (lane h e)) := by
  have e1 := fun h r => dsx_apply ok k1 k2 v1 v2 q d l b h r k
  show k0_pay30 (F := Ideal) ok (k0_pay10 q) (pP ok k1 k2 q b) (pG ok k1 k2 v1 v2 q d l b) (ix2 k (lane h e)) = _
  generalize pG (F := Ideal) ok k1 k2 v1 v2 q d l b = G at *
  generalize pP (F := Ideal) ok k1 k2 q b = P at *
  pointwise [k0_pay30, k0_pay10]
  simp only [mk_col0, mk_col1, lt_lane, e1]
  rcases (show h = 0 ∨ h = 1 by omega) with rfl | rfl <;> rfl

/-- The gradient of the values. -/
theorem pDV_apply (h : Fin 2) (k : Fin 256) (e : Fin 64) :
    pDV (F := Ideal) ok k1 k2 q d b (ix2 k (lane h e))
      = ∑ r, (prow ok k1 k2 v1 v2 q d l b h r).p k * Ideal.div (d (ix3 0 r (lane h e))) (prow ok k1 k2 v1 v2 q d l b h r).den := by
  have e1 := fun h r => pP_apply ok k1 k2 v1 v2 q d l b h r k
  have e2 := fun r => den_apply ok k1 k2 v1 v2 q d l b h r e
  have e6 := fun r x => d_apply d r x
  show k0_pay26 (F := Ideal) (pP ok k1 k2 q b) (k0_pay18 (pS ok k1 k2 q b) (pM ok k1 k2 q b)) (k0_pay20 d) (ix2 k (lane h e)) = _
  generalize k0_pay18 (F := Ideal) (pS ok k1 k2 q b) (pM ok k1 k2 q b) = w18 at *
  generalize k0_pay20 (F := Ideal) d = w20 at *
  generalize pP (F := Ideal) ok k1 k2 q b = P at *
  pointwise [k0_pay26, k0_pay25]
  simp only [mk_col0, mk_col1, lt_lane, e1, e2, e6]
  rcases (show h = 0 ∨ h = 1 by omega) with rfl | rfl <;> rfl

/-- The gradient of the bias. -/
theorem pDB_apply (a : FVec Ideal S1x128x512 .f32) (h : Fin 2) (r : Fin 128) (k : Fin 256) :
    pDB (F := Ideal) ok k1 k2 v1 v2 q d l b a (ix3 0 r (col h k))
      = a (ix3 0 r (col h k)) + (prow ok k1 k2 v1 v2 q d l b h r).ds k := by
  have e1 := ds_apply ok k1 k2 v1 v2 q d l b h r k
  show k0_pay32 (F := Ideal) ok (pP ok k1 k2 q b) (pG ok k1 k2 v1 v2 q d l b) a (ix3 0 r (col h k)) = _
  generalize pG (F := Ideal) ok k1 k2 v1 v2 q d l b = G at *
  generalize pP (F := Ideal) ok k1 k2 q b = P at *
  pointwise [k0_pay32]
  rw [e1]

end Cert.KernelIdeal.AttnValue
-- ==== Proof.Value.Pieces.lean ====
/-
  What the kernel leaves of one block's work, read place by place: each output is written in four pieces, one for each
  pair of heads.
-/
module

public import proofs.«01_k».proof.Proof.Attn.Run
public import proofs.«01_k».proof.Proof.Value.Pair
public import Idealize.ShloMosaic.Lib.Pipeline.ValueKit.Tiles

@[expose] public section

set_option maxRecDepth 65536

noncomputable section

namespace Cert.KernelIdeal.AttnValue

open Cert.KernelIdeal Cert.KernelIdeal.Gen Cert.KernelIdeal.Attn
open Idealize.ShloMosaic Idealize.ShloMosaic.TcCoe Idealize.SL.Sem
open Cert.AttnRow (Row)

/-- The lanes of pair `p`. -/
def L (p : Fin 4) (x : FVec Ideal S1x128x512 .f32) : FVec Ideal S1x128x128 .f32 :=
  fun y => x (ix3 0 (y 1) ⟨p.val * 128 + (y 2).val, by have h : (y 2).val < 128 := (y 2).isLt; omega⟩)
/-- The lanes of pair `p` of a carry. -/
def C (p : Fin 4) (x : FVec Ideal S128x512 .f32) : FVec Ideal S128x128 .f32 :=
  fun y => x (ix2 (y 0) ⟨p.val * 128 + (y 1).val, by have h : (y 1).val < 128 := (y 1).isLt; omega⟩)
/-- The plane of pair `p` of the bias. -/
def T (p : Fin 4) (x : FVec Ideal S4x128x512 .f32) : FVec Ideal S1x128x512 .f32 :=
  fun y => x (ix3 p (y 1) (y 2))

theorem ld_L (p : Fin 4) (n : ℕ) (hn : n = p.val * 128) (h) (x : FVec Ideal S1x128x512 .f32) :
    View.ld (Val := Elt Ideal) (e' := .f32) x (lanes n h) = L p x := by
  subst hn
  funext y
  refine View.ld_unit_apply_of (Val := Elt Ideal) (e := .f32) x _ _ _ y _ fun a => ?_
  match a with
  | ⟨0, _⟩ => show 0 = 0 + (y 0).val; have h : (y 0).val < 1 := (y 0).isLt; omega
  | ⟨1, _⟩ => show (y 1).val = 0 + (y 1).val; omega
  | ⟨2, _⟩ => rfl

theorem ld_C (p : Fin 4) (n : ℕ) (hn : n = p.val * 128) (h) (x : FVec Ideal S128x512 .f32) :
    View.ld (Val := Elt Ideal) (e' := .f32) x (clanes n h) = C p x := by
  subst hn
  funext y
  refine View.ld_unit_apply_of (Val := Elt Ideal) (e := .f32) x _ _ _ y _ fun a => ?_
  match a with
  | ⟨0, _⟩ => show (y 0).val = 0 + (y 0).val; omega
  | ⟨1, _⟩ => rfl

theorem ld_T (i : grid0.Coords) (hc2 : cond0_2 i) (p : Fin 4) (x : FVec Ideal S4x128x512 .f32) :
    View.ld (Val := Elt Ideal) (e' := .f32) x (plane i hc2 p) = T p x := by
  funext y
  refine View.ld_unit_apply_of (Val := Elt Ideal) (e := .f32) x _ _ _ y _ fun a => ?_
  have e := congrFun (plane_off i p) a
  match a, e with
  | ⟨0, _⟩, e => rw [e]; show p.val = p.val + (y 0).val; have h : (y 0).val < 1 := (y 0).isLt; omega
  | ⟨1, _⟩, e => rw [e]; show (y 1).val = 0 + (y 1).val; omega
  | ⟨2, _⟩, e => rw [e]; show (y 2).val = 0 + (y 2).val; omega

section Read

variable (w : Fin 4 → FVec Ideal S1x128x128 .f32) (u : Fin 4 → FVec Ideal S128x128 .f32)
  (v : Fin 4 → FVec Ideal S1x128x512 .f32)

theorem tile (p q : Fin 4) (n : ℕ) (hn : n = q.val * 128) (r e : Fin 128) :
    View.TileAt (Val := Elt Ideal) (S := S1x128x512) (e := .f32) (ix3 0 r ⟨p.val * 128 + e.val, by omega⟩) ![0, 0, n]
      S1x128x128.size (w q) (w p (ix3 0 r e)) := by
  subst hn
  intro x hx
  have h1 : r.val = 0 + (x 1).val := hx 1
  have h2 : p.val * 128 + e.val = q.val * 128 + (x 2).val := hx 2
  have h0 : (x 0).val < 1 := (x 0).isLt
  have h3 : (x 2).val < 128 := (x 2).isLt
  obtain rfl : p = q := Fin.ext (by omega)
  refine congrArg (w p) (funext fun a => Fin.ext ?_)
  match a with
  | ⟨0, _⟩ => show (x 0).val = 0; omega
  | ⟨1, _⟩ => show (x 1).val = r.val; omega
  | ⟨2, _⟩ => show (x 2).val = e.val; omega

theorem canon_L (h3 h2 h1 h0) (p : Fin 4) (r e : Fin 128)
    (hc : ∃ pc ∈ ([⟨lanes 384 h3, w 3⟩, ⟨lanes 256 h2, w 2⟩, ⟨lanes 128 h1, w 1⟩, ⟨lanes 0 h0, w 0⟩] : List (View.Piece (Elt Ideal) S1x128x512 .f32)),
      ix3 0 r ⟨p.val * 128 + e.val, by omega⟩ ∈ pc.1.set) :
    View.canon ([⟨lanes 384 h3, w 3⟩, ⟨lanes 256 h2, w 2⟩, ⟨lanes 128 h1, w 1⟩, ⟨lanes 0 h0, w 0⟩] : List (View.Piece (Elt Ideal) S1x128x512 .f32))
      (ix3 0 r ⟨p.val * 128 + e.val, by omega⟩) = w p (ix3 0 r e) :=
  View.canon_eq_of_allAt _ _ _ hc
    (View.allAt_cons_unit _ _ _ _ _ (tile w p 3 384 rfl r e) (View.allAt_cons_unit _ _ _ _ _ (tile w p 2 256 rfl r e)
      (View.allAt_cons_unit _ _ _ _ _ (tile w p 1 128 rfl r e) (View.allAt_cons_unit _ _ _ _ _ (tile w p 0 0 rfl r e)
        (View.allAt_nil _ _)))))

theorem ctile (p q : Fin 4) (n : ℕ) (hn : n = q.val * 128) (r e : Fin 128) :
    View.TileAt (Val := Elt Ideal) (S := S128x512) (e := .f32) (ix2 r ⟨p.val * 128 + e.val, by omega⟩) ![0, n]
      S128x128.size (u q) (u p (ix2 r e)) := by
  subst hn
  intro x hx
  have h1 : r.val = 0 + (x 0).val := hx 0
  have h2 : p.val * 128 + e.val = q.val * 128 + (x 1).val := hx 1
  have h3 : (x 1).val < 128 := (x 1).isLt
  obtain rfl : p = q := Fin.ext (by omega)
  refine congrArg (u p) (funext fun a => Fin.ext ?_)
  match a with
  | ⟨0, _⟩ => show (x 0).val = r.val; omega
  | ⟨1, _⟩ => show (x 1).val = e.val; omega

theorem canon_C (h3 h2 h1 h0) (p : Fin 4) (r e : Fin 128)
    (hc : ∃ pc ∈ ([⟨clanes 384 h3, u 3⟩, ⟨clanes 256 h2, u 2⟩, ⟨clanes 128 h1, u 1⟩, ⟨clanes 0 h0, u 0⟩] : List (View.Piece (Elt Ideal) S128x512 .f32)),
      ix2 r ⟨p.val * 128 + e.val, by omega⟩ ∈ pc.1.set) :
    View.canon ([⟨clanes 384 h3, u 3⟩, ⟨clanes 256 h2, u 2⟩, ⟨clanes 128 h1, u 1⟩, ⟨clanes 0 h0, u 0⟩] : List (View.Piece (Elt Ideal) S128x512 .f32))
      (ix2 r ⟨p.val * 128 + e.val, by omega⟩) = u p (ix2 r e) :=
  View.canon_eq_of_allAt _ _ _ hc
    (View.allAt_cons_unit _ _ _ _ _ (ctile u p 3 384 rfl r e) (View.allAt_cons_unit _ _ _ _ _ (ctile u p 2 256 rfl r e)
      (View.allAt_cons_unit _ _ _ _ _ (ctile u p 1 128 rfl r e) (View.allAt_cons_unit _ _ _ _ _ (ctile u p 0 0 rfl r e)
        (View.allAt_nil _ _)))))

theorem ptile (i : grid0.Coords) (p q : Fin 4) (r : Fin 128) (k : Fin 512) :
    View.TileAt (Val := Elt Ideal) (S := S4x128x512) (e := .f32) (ix3 p r k) (k0_off1 i (BitVec.ofNat 32 q.val))
      S1x128x512.size (v q) (v p (ix3 0 r k)) := by
  rw [plane_off i q]
  intro x hx
  have h0 : p.val = q.val + (x 0).val := hx 0
  have h1 : r.val = 0 + (x 1).val := hx 1
  have h2 : k.val = 0 + (x 2).val := hx 2
  have h3 : (x 0).val < 1 := (x 0).isLt
  obtain rfl : p = q := Fin.ext (by omega)
  refine congrArg (v p) (funext fun a => Fin.ext ?_)
  match a with
  | ⟨0, _⟩ => show (x 0).val = 0; omega
  | ⟨1, _⟩ => show (x 1).val = r.val; omega
  | ⟨2, _⟩ => show (x 2).val = k.val; omega

theorem canon_T (i : grid0.Coords) (hc2 : cond0_2 i) (p : Fin 4) (r : Fin 128) (k : Fin 512)
    (hc : ∃ pc ∈ ([⟨plane i hc2 3, v 3⟩, ⟨plane i hc2 2, v 2⟩, ⟨plane i hc2 1, v 1⟩, ⟨plane i hc2 0, v 0⟩] : List (View.Piece (Elt Ideal) S4x128x512 .f32)),
      ix3 p r k ∈ pc.1.set) :
    View.canon ([⟨plane i hc2 3, v 3⟩, ⟨plane i hc2 2, v 2⟩, ⟨plane i hc2 1, v 1⟩, ⟨plane i hc2 0, v 0⟩] : List (View.Piece (Elt Ideal) S4x128x512 .f32))
      (ix3 p r k) = v p (ix3 0 r k) :=
  View.canon_eq_of_allAt _ _ _ hc
    (View.allAt_cons_unit _ _ _ _ _ (ptile v i p 3 r k) (View.allAt_cons_unit _ _ _ _ _ (ptile v i p 2 r k)
      (View.allAt_cons_unit _ _ _ _ _ (ptile v i p 1 r k) (View.allAt_cons_unit _ _ _ _ _ (ptile v i p 0 r k)
        (View.allAt_nil _ _)))))

end Read

section Block

variable (i : grid0.Coords) (hc2 : cond0_2 i)
    (x0 x1 x2 x3 x4 : FVec Ideal S1x128x512 .f32) (x5 : FVec Ideal S4x128x512 .f32) (x6 x7 : FVec Ideal S1x128x512 .f32)
    (xo11 : FVec Ideal S4x128x512 .f32) (xs0 xs1 : FVec Ideal S128x512 .f32)

/-- The row of query `r` and head `h` of pair `p`. -/
abbrev brow (p : Fin 4) (h : Fin 2) (r : Fin 128) : Row :=
  prow (ok i) (L p x1) (L p x2) (L p x3) (L p x4) (L p x0) (L p x6) (L p x7) (T p x5) h r

/-- A lane of a head of a pair, among all lanes. -/
abbrev lane4 (p : Fin 4) (h : Fin 2) (e : Fin 64) : Fin 512 := ⟨p.val * 128 + (lane h e).val, by have := (lane h e).isLt; omega⟩

theorem B8_apply (p : Fin 4) (h : Fin 2) (r : Fin 128) (e : Fin 64) :
    B8 (F := Ideal) i hc2 x0 x1 x2 x3 x4 x5 x6 x7 (ix3 0 r (lane4 p h e))
      = ∑ k, (brow i x0 x1 x2 x3 x4 x5 x6 x7 p h r).dsx k * (brow i x0 x1 x2 x3 x4 x5 x6 x7 p h r).K k e := by
  have hc := cover8 (F := Ideal) i hc2 x0 x1 x2 x3 x4 x5 x6 x7
  unfold B8
  unfold P8 at hc ⊢
  simp only [ld_L 3 384 rfl, ld_L 2 256 rfl, ld_L 1 128 rfl, ld_L 0 0 rfl, ld_T] at hc ⊢
  refine (canon_L (fun p => pDQ (ok i) (L p x1) (L p x2) (L p x3) (L p x4) (L p x0) (L p x6) (L p x7) (T p x5)) _ _ _ _ p r (lane h e) (hc _)).trans ?_
  exact pDQ_apply (ok i) (L p x1) (L p x2) (L p x3) (L p x4) (L p x0) (L p x6) (L p x7) (T p x5) h r e

theorem B9_apply (p : Fin 4) (h : Fin 2) (r : Fin 128) (e : Fin 64) :
    B9 (F := Ideal) i hc2 x0 x1 x2 x3 x4 x5 x6 x7 xs0 (ix3 0 r (lane4 p h e))
      = xs0 (ix2 r (lane4 p h e))
        + ∑ x, (brow i x0 x1 x2 x3 x4 x5 x6 x7 p h x).dsx ⟨r, by omega⟩ * (brow i x0 x1 x2 x3 x4 x5 x6 x7 p h x).q e := by
  have hc := cover9 (F := Ideal) i hc2 x0 x1 x2 x3 x4 x5 x6 x7 xs0
  unfold B9
  unfold P9 at hc ⊢
  simp only [ld_L 3 384 rfl, ld_L 2 256 rfl, ld_L 1 128 rfl, ld_L 0 0 rfl, ld_T, ld_C 3 384 rfl, ld_C 2 256 rfl, ld_C 1 128 rfl, ld_C 0 0 rfl] at hc ⊢
  refine (canon_L (fun p => k0_pay33 (pDK (ok i) (L p x1) (L p x2) (L p x3) (L p x4) (L p x0) (L p x6) (L p x7) (T p x5)) (C p xs0)) _ _ _ _ p r (lane h e) (hc _)).trans ?_
  have hk := pDK_apply (ok i) (L p x1) (L p x2) (L p x3) (L p x4) (L p x0) (L p x6) (L p x7) (T p x5) h ⟨r, by omega⟩ e
  show k0_pay33 (F := Ideal) (pDK (ok i) (L p x1) (L p x2) (L p x3) (L p x4) (L p x0) (L p x6) (L p x7) (T p x5)) (C p xs0) (ix3 0 r (lane h e)) = _
  generalize pDK (F := Ideal) (ok i) (L p x1) (L p x2) (L p x3) (L p x4) (L p x0) (L p x6) (L p x7) (T p x5) = G at hk ⊢
  pointwise [k0_pay33]
  exact congrArg (_ + ·) hk

theorem B10_apply (p : Fin 4) (h : Fin 2) (r : Fin 128) (e : Fin 64) :
    B10 (F := Ideal) i hc2 x0 x1 x2 x5 x6 xs1 (ix3 0 r (lane4 p h e))
      = xs1 (ix2 r (lane4 p h e))
        + ∑ x, (brow i x0 x1 x2 x3 x4 x5 x6 x7 p h x).p ⟨r, by omega⟩
            * Ideal.div ((brow i x0 x1 x2 x3 x4 x5 x6 x7 p h x).d e) (brow i x0 x1 x2 x3 x4 x5 x6 x7 p h x).den := by
  have hc := cover10 (F := Ideal) i hc2 x0 x1 x2 x5 x6 xs1
  unfold B10
  unfold P10 at hc ⊢
  simp only [ld_L 3 384 rfl, ld_L 2 256 rfl, ld_L 1 128 rfl, ld_L 0 0 rfl, ld_T, ld_C 3 384 rfl, ld_C 2 256 rfl, ld_C 1 128 rfl, ld_C 0 0 rfl] at hc ⊢
  refine (canon_L (fun p => k0_pay34 (pDV (ok i) (L p x1) (L p x2) (L p x0) (L p x6) (T p x5)) (C p xs1)) _ _ _ _ p r (lane h e) (hc _)).trans ?_
  have hk := pDV_apply (ok i) (L p x1) (L p x2) (L p x3) (L p x4) (L p x0) (L p x6) (L p x7) (T p x5) h ⟨r, by omega⟩ e
  show k0_pay34 (F := Ideal) (pDV (ok i) (L p x1) (L p x2) (L p x0) (L p x6) (T p x5)) (C p xs1) (ix3 0 r (lane h e)) = _
  generalize pDV (F := Ideal) (ok i) (L p x1) (L p x2) (L p x0) (L p x6) (T p x5) = G at hk ⊢
  pointwise [k0_pay34]
  exact congrArg (_ + ·) hk

theorem B11_apply (p : Fin 4) (h : Fin 2) (r : Fin 128) (k : Fin 256) :
    B11 (F := Ideal) i hc2 x0 x1 x2 x3 x4 x5 x6 x7 xo11 (ix3 p r (col h k))
      = xo11 (ix3 p r (col h k)) + (brow i x0 x1 x2 x3 x4 x5 x6 x7 p h r).ds k := by
  have hc := cover11 (F := Ideal) i hc2 x0 x1 x2 x3 x4 x5 x6 x7 xo11
  unfold B11
  unfold P11 at hc ⊢
  simp only [ld_L 3 384 rfl, ld_L 2 256 rfl, ld_L 1 128 rfl, ld_L 0 0 rfl, ld_T] at hc ⊢
  refine (canon_T (fun p => pDB (ok i) (L p x1) (L p x2) (L p x3) (L p x4) (L p x0) (L p x6) (L p x7) (T p x5) (T p xo11)) i hc2 p r (col h k) (hc _)).trans ?_
  exact pDB_apply (ok i) (L p x1) (L p x2) (L p x3) (L p x4) (L p x0) (L p x6) (L p x7) (T p x5) (T p xo11) h r k

theorem BS0_apply (p : Fin 4) (h : Fin 2) (r : Fin 128) (e : Fin 64) :
    BS0 (F := Ideal) i hc2 x0 x1 x2 x3 x4 x5 x6 x7 (ix2 r (lane4 p h e))
      = ∑ x, (brow i x0 x1 x2 x3 x4 x5 x6 x7 p h x).dsx ⟨128 + r, by omega⟩ * (brow i x0 x1 x2 x3 x4 x5 x6 x7 p h x).q e := by
  have hc := coverS0 (F := Ideal) i hc2 x0 x1 x2 x3 x4 x5 x6 x7
  unfold BS0
  unfold PS0 at hc ⊢
  simp only [ld_L 3 384 rfl, ld_L 2 256 rfl, ld_L 1 128 rfl, ld_L 0 0 rfl, ld_T] at hc ⊢
  refine (canon_C (fun p => k0_pay35 (pDK (ok i) (L p x1) (L p x2) (L p x3) (L p x4) (L p x0) (L p x6) (L p x7) (T p x5))) _ _ _ _ p r (lane h e) (hc _)).trans ?_
  have hk := pDK_apply (ok i) (L p x1) (L p x2) (L p x3) (L p x4) (L p x0) (L p x6) (L p x7) (T p x5) h ⟨128 + r, by omega⟩ e
  show k0_pay35 (F := Ideal) (pDK (ok i) (L p x1) (L p x2) (L p x3) (L p x4) (L p x0) (L p x6) (L p x7) (T p x5)) (ix2 r (lane h e)) = _
  generalize pDK (F := Ideal) (ok i) (L p x1) (L p x2) (L p x3) (L p x4) (L p x0) (L p x6) (L p x7) (T p x5) = G at hk ⊢
  pointwise [k0_pay35]
  exact hk

theorem BS1_apply (p : Fin 4) (h : Fin 2) (r : Fin 128) (e : Fin 64) :
    BS1 (F := Ideal) i hc2 x0 x1 x2 x5 x6 (ix2 r (lane4 p h e))
      = ∑ x, (brow i x0 x1 x2 x3 x4 x5 x6 x7 p h x).p ⟨128 + r, by omega⟩
            * Ideal.div ((brow i x0 x1 x2 x3 x4 x5 x6 x7 p h x).d e) (brow i x0 x1 x2 x3 x4 x5 x6 x7 p h x).den := by
  have hc := coverS1 (F := Ideal) i hc2 x0 x1 x2 x5 x6
  unfold BS1
  unfold PS1 at hc ⊢
  simp only [ld_L 3 384 rfl, ld_L 2 256 rfl, ld_L 1 128 rfl, ld_L 0 0 rfl, ld_T] at hc ⊢
  refine (canon_C (fun p => k0_pay36 (pDV (ok i) (L p x1) (L p x2) (L p x0) (L p x6) (T p x5))) _ _ _ _ p r (lane h e) (hc _)).trans ?_
  have hk := pDV_apply (ok i) (L p x1) (L p x2) (L p x3) (L p x4) (L p x0) (L p x6) (L p x7) (T p x5) h ⟨128 + r, by omega⟩ e
  show k0_pay36 (F := Ideal) (pDV (ok i) (L p x1) (L p x2) (L p x0) (L p x6) (T p x5)) (ix2 r (lane h e)) = _
  generalize pDV (F := Ideal) (ok i) (L p x1) (L p x2) (L p x0) (L p x6) (T p x5) = G at hk ⊢
  pointwise [k0_pay36]
  exact hk

end Block

end Cert.KernelIdeal.AttnValue
-- ==== Proof.Value.Finite.lean ====
/-
  A row whose arrays hold no infinity, and which sees at least one key: its exponentials and its denominator are real
  numbers, the denominator is positive, and the gradient that flows through the maximum is zero.
-/
module

public import proofs.«01_k».proof.Proof.Value.Row

@[expose] public section

noncomputable section

namespace Cert.AttnRow

open Idealize.ShloMosaic

/-- An extended real that is a real number. -/
def IsReal (x : EReal) : Prop := ∃ r : ℝ, x = (r : EReal)

theorem isReal_of_abs_lt {x : EReal} (h : max x (-x) < ⊤) : IsReal x := by
  induction x using EReal.rec with
  | bot => simp at h
  | coe r => exact ⟨r, rfl⟩
  | top => simp at h

theorem coe_sum' {ι : Type*} (S : Finset ι) (f : ι → ℝ) : ∑ i ∈ S, (f i : EReal) = ((∑ i ∈ S, f i : ℝ) : EReal) := by
  classical
  induction S using Finset.induction_on with
  | empty => simp
  | insert a S ha ih => rw [Finset.sum_insert ha, Finset.sum_insert ha, ih, EReal.coe_add]

/-- A bit is zero or one. -/
theorem bit_cases (x : BitVec 1) : x = 0#1 ∨ x = 1#1 := by
  rcases (by decide : ∀ y : BitVec 1, y = 0#1 ∨ y = 1#1) x with h | h
  · exact Or.inl h
  · exact Or.inr h

namespace Row

/-- No element is infinite, and some key is seen. -/
structure Good (R : Row) : Prop where
  q : ∀ e, IsReal (R.q e)
  K : ∀ k e, IsReal (R.K k e)
  V : ∀ k e, IsReal (R.V k e)
  b : ∀ k, IsReal (R.b k)
  d : ∀ e, IsReal (R.d e)
  l : ∀ e, IsReal (R.l e)
  ok : ∃ k, R.ok k = 1#1

variable {R : Row} (G : R.Good)
include G

/-- The score of a seen key is a real number. -/
theorem Good.s_real {k : Fin 256} (hk : R.ok k = 1#1) : IsReal (R.s k) := by
  choose q hq using G.q
  choose K hK using G.K k
  obtain ⟨b, hb⟩ := G.b k
  refine ⟨(∑ e, q e * K e) * (1 / 8) + b, ?_⟩
  unfold s
  rw [hk, hb]
  show (∑ e, R.q e * R.K k e) * ((1 / 8 : ℝ) : EReal) + (b : EReal) = _
  simp only [hq, hK, ← EReal.coe_mul, coe_sum', ← EReal.coe_add]

/-- So is the maximum, and it is one of the scores. -/
theorem Good.mx_real : IsReal R.mx ∧ ∃ k, R.s k = R.mx := by
  obtain ⟨k0, h0⟩ := G.ok
  obtain ⟨k1, -, h1⟩ := Finset.exists_mem_eq_sup Finset.univ ⟨k0, Finset.mem_univ k0⟩ R.s
  have hm : R.mx = R.s k1 := h1
  refine ⟨?_, k1, hm.symm⟩
  rcases bit_cases (R.ok k1) with hk | hk
  · obtain ⟨x, hx⟩ := G.s_real h0
    have hle : R.s k0 ≤ R.mx := Finset.le_sup (f := R.s) (Finset.mem_univ k0)
    have hb : R.s k1 = ⊥ := by unfold s; rw [hk]; rfl
    rw [hm, hb, hx] at hle
    exact absurd hle (not_le.mpr (EReal.bot_lt_coe x))
  · rw [hm]; exact G.s_real hk

/-- The exponentials are real numbers with a positive sum. -/
theorem Good.p_real : ∃ p : Fin 256 → ℝ, (∀ k, R.p k = (p k : EReal)) ∧ 0 < ∑ k, p k := by
  obtain ⟨⟨m, hm⟩, -⟩ := G.mx_real
  have hp : ∀ k, ∃ x : ℝ, R.p k = (x : EReal) ∧ 0 ≤ x ∧ (R.ok k = 1#1 → 0 < x) := by
    intro k
    rcases bit_cases (R.ok k) with hk | hk
    · exact ⟨0, R.p_of_not_ok hk, le_refl _, fun h => absurd (hk.symm.trans h) (by decide)⟩
    · obtain ⟨x, hx⟩ := G.s_real hk
      refine ⟨Real.exp (x - m), ?_, (Real.exp_pos _).le, fun _ => Real.exp_pos _⟩
      unfold p
      rw [hx, hm, ← EReal.coe_sub]
      rfl
  choose p hp h0 h1 using hp
  obtain ⟨k0, hk⟩ := G.ok
  exact ⟨p, hp, Finset.sum_pos' (fun k _ => h0 k) ⟨k0, Finset.mem_univ _, h1 k0 hk⟩⟩

/-- A sum of negated terms of the gradient of the denominator. -/
theorem Good.neg_sum : -(∑ e, R.d e * Ideal.div 1 (R.den * R.den) * R.ou e)
    = ∑ e, (0 - R.d e * Ideal.div 1 (R.den * R.den) * R.ou e) := by
  obtain ⟨p, hp, hpos⟩ := G.p_real
  choose d hd using G.d
  choose V hV using G.V
  have hden : R.den = ((∑ k, p k : ℝ) : EReal) := by unfold den; simp only [hp, coe_sum']
  have hou : ∀ e, R.ou e = ((∑ k, p k * V k e : ℝ) : EReal) := by
    intro e; unfold ou; simp only [hp, hV, ← EReal.coe_mul, coe_sum']
  have h2 : (∑ k, p k) * (∑ k, p k) ≠ 0 := by positivity
  have hi : Ideal.div 1 (R.den * R.den) = ((1 / ((∑ k, p k) * (∑ k, p k)) : ℝ) : EReal) := by
    rw [hden, ← EReal.coe_mul, Ideal.div_coe h2, one_mul]
  simp only [hd, hi, hou, ← EReal.coe_mul, coe_sum', zero_sub, ← EReal.coe_neg, Finset.sum_neg_distrib]

/-- The gradient of the maximum: the part that comes straight from the log of the denominator is undone by the sum of
    the parts that come through the exponentials. -/
theorem Good.flow : (∑ e, R.l e) + ∑ k, -(R.g k * R.p k) = 0 := by
  obtain ⟨p, hp, hpos⟩ := G.p_real
  choose d hd using G.d
  choose l hl using G.l
  choose V hV using G.V
  set D := ∑ k, p k with hD
  have hden : R.den = (D : EReal) := by unfold den; simp only [hp, coe_sum']; rfl
  have hou : ∀ e, R.ou e = ((∑ k, p k * V k e : ℝ) : EReal) := by
    intro e; unfold ou; simp only [hp, hV, ← EReal.coe_mul, coe_sum']
  have h1 : D ≠ 0 := hpos.ne'
  have h2 : D * D ≠ 0 := mul_ne_zero h1 h1
  have hi : Ideal.div 1 (R.den * R.den) = ((1 / (D * D) : ℝ) : EReal) := by
    rw [hden, ← EReal.coe_mul, Ideal.div_coe h2, one_mul]
  set L := ∑ e, l e with hL
  have hdl : R.dl = ((L * (1 / D) + ∑ e, (0 - d e * (1 / (D * D)) * (∑ k, p k * V k e)) : ℝ) : EReal) := by
    unfold dl
    rw [hi]
    simp only [hd, hl, hou, coe_sum', zero_sub]
    rw [hden, Ideal.div_coe h1]
    simp only [← EReal.coe_mul, ← EReal.coe_neg, coe_sum', ← EReal.coe_add]
    rfl
  set W := L * (1 / D) + ∑ e, (0 - d e * (1 / (D * D)) * (∑ k, p k * V k e)) with hW
  have hg : ∀ k, R.g k = (((∑ e, d e * (1 / D) * V k e) + W : ℝ) : EReal) := by
    intro k
    unfold g
    rw [hdl, hden]
    simp only [hd, hV, Ideal.div_coe h1, ← EReal.coe_mul, coe_sum', ← EReal.coe_add]
  have key : L + ∑ k, -(((∑ e, d e * (1 / D) * V k e) + W) * p k) = 0 := by
    have e1 : ∑ k, -(((∑ e, d e * (1 / D) * V k e) + W) * p k)
        = -((∑ e, d e * (1 / D) * ∑ k, p k * V k e) + W * D) := by
      rw [Finset.sum_neg_distrib]
      congr 1
      simp only [add_mul, Finset.sum_add_distrib, ← Finset.mul_sum, ← hD]
      congr 1
      simp only [Finset.sum_mul, Finset.mul_sum]
      rw [Finset.sum_comm]
      refine Finset.sum_congr rfl fun e _ => Finset.sum_congr rfl fun k _ => ?_
      ring
    have e2 : W * D = L - ∑ e, d e * (1 / D) * ∑ k, p k * V k e := by
      rw [hW, add_mul]
      have e3 : (∑ e, (0 - d e * (1 / (D * D)) * (∑ k, p k * V k e))) * D
          = -∑ e, d e * (1 / D) * ∑ k, p k * V k e := by
        rw [Finset.sum_mul, ← Finset.sum_neg_distrib]
        refine Finset.sum_congr rfl fun e _ => ?_
        field_simp
        ring
      rw [e3, mul_assoc, one_div_mul_cancel h1, mul_one]
      ring
    rw [e1, e2]
    ring
  simp only [hl, hg, hp, coe_sum', ← EReal.coe_mul, ← EReal.coe_neg, ← EReal.coe_add]
  rw [← hL, key]
  rfl

/-- The gradient of the maximum, shared out over the keys that reach it, is zero. -/
theorem Good.share (k : Fin 256) :
    Ideal.div 0 (∑ j, (if R.s j = R.mx then (1 : EReal) else 0)) * (if R.s k = R.mx then (1 : EReal) else 0) = 0 := by
  obtain ⟨-, k1, h1⟩ := G.mx_real
  have hc : ∑ j, (if R.s j = R.mx then (1 : EReal) else 0)
      = ((∑ j, (if R.s j = R.mx then (1 : ℝ) else 0) : ℝ) : EReal) := by
    rw [← coe_sum']
    refine Finset.sum_congr rfl fun j _ => ?_
    split <;> rfl
  have hpos : 0 < ∑ j, (if R.s j = R.mx then (1 : ℝ) else 0) :=
    Finset.sum_pos' (fun j _ => by split <;> norm_num) ⟨k1, Finset.mem_univ _, by rw [if_pos h1]; norm_num⟩
  rw [hc, Ideal.div_coe hpos.ne', zero_mul, zero_mul]

end Row

end Cert.AttnRow

end
-- ==== Proof.Value.Sums.lean ====
module

public import Idealize.ShloMosaic.Lib.Pointwise
public import Idealize.ShloMosaic.Lib.IdealHost

@[expose] public section

/-!
Reductions of arrays of six axes, read at one place of the result: along the last axis, along a pair of axes of
which both have one place, and along the two axes that the bias gradient is added over.
-/

open Idealize.ShloMosaic

namespace Cert.Sums

variable {n0 n1 n2 n3 n4 n5 : Nat}

/-- The places that lose their last coordinate to become a given one. -/
theorem last_iff (h : (⟨6, ![n0, n1, n2, n3, n4, n5]⟩ : Shape).ReducesTo [5] ⟨5, ![n0, n1, n2, n3, n4]⟩)
    (a : Fin n0) (b : Fin n1) (c : Fin n2) (d : Fin n3) (e : Fin n4)
    (i : (⟨6, ![n0, n1, n2, n3, n4, n5]⟩ : Shape).Idx) :
    h.drop i = ix5 a b c d e ↔ ∃ k : Fin n5, ix6 a b c d e k = i := by
  constructor
  · intro g
    refine ⟨i 5, ?_⟩
    funext x; apply Fin.ext
    match x with
    | ⟨0, _⟩ => exact (congrArg Fin.val (congrFun g ⟨0, (by decide : 0 < 5)⟩)).symm
    | ⟨1, _⟩ => exact (congrArg Fin.val (congrFun g ⟨1, (by decide : 1 < 5)⟩)).symm
    | ⟨2, _⟩ => exact (congrArg Fin.val (congrFun g ⟨2, (by decide : 2 < 5)⟩)).symm
    | ⟨3, _⟩ => exact (congrArg Fin.val (congrFun g ⟨3, (by decide : 3 < 5)⟩)).symm
    | ⟨4, _⟩ => exact (congrArg Fin.val (congrFun g ⟨4, (by decide : 4 < 5)⟩)).symm
    | ⟨5, _⟩ => rfl
  · rintro ⟨k, rfl⟩
    funext x; apply Fin.ext
    match x with
    | ⟨0, _⟩ => rfl
    | ⟨1, _⟩ => rfl
    | ⟨2, _⟩ => rfl
    | ⟨3, _⟩ => rfl
    | ⟨4, _⟩ => rfl

/-- A host sum along the last axis. -/
theorem sum_last (h : (⟨6, ![n0, n1, n2, n3, n4, n5]⟩ : Shape).ReducesTo [5] ⟨5, ![n0, n1, n2, n3, n4]⟩)
    (v : (⟨6, ![n0, n1, n2, n3, n4, n5]⟩ : Shape).Idx → EReal) (z : EReal)
    (a : Fin n0) (b : Fin n1) (c : Fin n2) (d : Fin n3) (e : Fin n4) :
    Ideal.hostReduceAdd h v z (ix5 a b c d e) = z + ∑ k : Fin n5, v (ix6 a b c d e k) :=
  congrArg (z + ·) (Finset.sum_filter_eq_sum_of_fiber _ (fun k : Fin n5 => ix6 a b c d e k)
    (fun x y g => show x = y from congrFun g 5) (last_iff h a b c d e) v)

/-- A maximum along the last axis. -/
theorem max_last (h : (⟨6, ![n0, n1, n2, n3, n4, n5]⟩ : Shape).ReducesTo [5] ⟨5, ![n0, n1, n2, n3, n4]⟩)
    (v : (⟨6, ![n0, n1, n2, n3, n4, n5]⟩ : Shape).Idx → EReal) (z : EReal)
    (a : Fin n0) (b : Fin n1) (c : Fin n2) (d : Fin n3) (e : Fin n4) :
    (Finset.univ.filter (fun i => h.drop i = ix5 a b c d e)).fold max z v
      = Finset.univ.fold max z (fun k : Fin n5 => v (ix6 a b c d e k)) :=
  Finset.fold_filter_eq_fold_of_fiber max _ (fun k : Fin n5 => ix6 a b c d e k)
    (fun x y g => show x = y from congrFun g 5) (last_iff h a b c d e) z v

/-- The one place that loses two coordinates, each of a single value, to become a given one. -/
theorem units_iff (h : (⟨6, ![n0, 1, n2, n3, n4, 1]⟩ : Shape).ReducesTo [1, 5] ⟨4, ![n0, n2, n3, n4]⟩)
    (a : Fin n0) (c : Fin n2) (d : Fin n3) (e : Fin n4)
    (i : (⟨6, ![n0, 1, n2, n3, n4, 1]⟩ : Shape).Idx) :
    h.drop i = ix4 a c d e ↔ ∃ k : Fin 1, ix6 a (0 : Fin 1) c d e k = i := by
  constructor
  · intro g
    refine ⟨i 5, ?_⟩
    funext x; apply Fin.ext
    match x with
    | ⟨0, _⟩ => exact (congrArg Fin.val (congrFun g ⟨0, (by decide : 0 < 4)⟩)).symm
    | ⟨1, _⟩ => exact (Nat.lt_one_iff.mp (i 1).isLt).symm
    | ⟨2, _⟩ => exact (congrArg Fin.val (congrFun g ⟨1, (by decide : 1 < 4)⟩)).symm
    | ⟨3, _⟩ => exact (congrArg Fin.val (congrFun g ⟨2, (by decide : 2 < 4)⟩)).symm
    | ⟨4, _⟩ => exact (congrArg Fin.val (congrFun g ⟨3, (by decide : 3 < 4)⟩)).symm
    | ⟨5, _⟩ => rfl
  · rintro ⟨k, rfl⟩
    funext x; apply Fin.ext
    match x with
    | ⟨0, _⟩ => rfl
    | ⟨1, _⟩ => rfl
    | ⟨2, _⟩ => rfl
    | ⟨3, _⟩ => rfl

/-- A host sum along two axes of one place each. -/
theorem sum_units (h : (⟨6, ![n0, 1, n2, n3, n4, 1]⟩ : Shape).ReducesTo [1, 5] ⟨4, ![n0, n2, n3, n4]⟩)
    (v : (⟨6, ![n0, 1, n2, n3, n4, 1]⟩ : Shape).Idx → EReal) (z : EReal)
    (a : Fin n0) (c : Fin n2) (d : Fin n3) (e : Fin n4) :
    Ideal.hostReduceAdd h v z (ix4 a c d e) = z + v (ix6 a 0 c d e 0) :=
  congrArg (z + ·) ((Finset.sum_filter_eq_sum_of_fiber _ (fun k : Fin 1 => ix6 a (0 : Fin 1) c d e k)
    (fun x y g => show x = y from congrFun g 5) (units_iff h a c d e) v).trans (Fin.sum_univ_one _))

/-- The places that lose the first and the third coordinate to become a given one. -/
theorem outer_iff (h : (⟨6, ![n0, 1, n2, n3, n4, n5]⟩ : Shape).ReducesTo [0, 2] ⟨4, ![1, n3, n4, n5]⟩)
    (c : Fin n3) (d : Fin n4) (e : Fin n5)
    (i : (⟨6, ![n0, 1, n2, n3, n4, n5]⟩ : Shape).Idx) :
    h.drop i = ix4 (0 : Fin 1) c d e ↔ ∃ k : Fin n0 × Fin n2, ix6 k.1 (0 : Fin 1) k.2 c d e = i := by
  constructor
  · intro g
    refine ⟨(i 0, i 2), ?_⟩
    funext x; apply Fin.ext
    match x with
    | ⟨0, _⟩ => rfl
    | ⟨1, _⟩ => exact (Nat.lt_one_iff.mp (i 1).isLt).symm
    | ⟨2, _⟩ => rfl
    | ⟨3, _⟩ => exact (congrArg Fin.val (congrFun g ⟨1, (by decide : 1 < 4)⟩)).symm
    | ⟨4, _⟩ => exact (congrArg Fin.val (congrFun g ⟨2, (by decide : 2 < 4)⟩)).symm
    | ⟨5, _⟩ => exact (congrArg Fin.val (congrFun g ⟨3, (by decide : 3 < 4)⟩)).symm
  · rintro ⟨k, rfl⟩
    funext x; apply Fin.ext
    match x with
    | ⟨0, _⟩ => rfl
    | ⟨1, _⟩ => rfl
    | ⟨2, _⟩ => rfl
    | ⟨3, _⟩ => rfl

/-- A host sum over the first and the third axis. -/
theorem sum_outer (h : (⟨6, ![n0, 1, n2, n3, n4, n5]⟩ : Shape).ReducesTo [0, 2] ⟨4, ![1, n3, n4, n5]⟩)
    (v : (⟨6, ![n0, 1, n2, n3, n4, n5]⟩ : Shape).Idx → EReal) (z : EReal)
    (c : Fin n3) (d : Fin n4) (e : Fin n5) :
    Ideal.hostReduceAdd h v z (ix4 (0 : Fin 1) c d e) = z + ∑ a : Fin n0, ∑ b : Fin n2, v (ix6 a 0 b c d e) :=
  congrArg (z + ·) ((Finset.sum_filter_eq_sum_of_fiber _ (fun k : Fin n0 × Fin n2 => ix6 k.1 (0 : Fin 1) k.2 c d e)
    (fun x y g => Prod.ext (show x.1 = y.1 from congrFun g 0) (show x.2 = y.2 from congrFun g 2)) (outer_iff h c d e) v).trans
      (Fintype.sum_prod_type _))

/-- The one place that loses three leading coordinates of a single value to become a given one. -/
theorem lead_iff (h : (⟨6, ![1, 1, 1, n3, n4, n5]⟩ : Shape).ReducesTo [0, 1, 2] ⟨3, ![n3, n4, n5]⟩)
    (c : Fin n3) (d : Fin n4) (e : Fin n5)
    (i : (⟨6, ![1, 1, 1, n3, n4, n5]⟩ : Shape).Idx) :
    h.drop i = ix3 c d e ↔ ∃ k : Fin 1, ix6 k (0 : Fin 1) (0 : Fin 1) c d e = i := by
  constructor
  · intro g
    refine ⟨i 0, ?_⟩
    funext x; apply Fin.ext
    match x with
    | ⟨0, _⟩ => rfl
    | ⟨1, _⟩ => exact (Nat.lt_one_iff.mp (i 1).isLt).symm
    | ⟨2, _⟩ => exact (Nat.lt_one_iff.mp (i 2).isLt).symm
    | ⟨3, _⟩ => exact (congrArg Fin.val (congrFun g ⟨0, (by decide : 0 < 3)⟩)).symm
    | ⟨4, _⟩ => exact (congrArg Fin.val (congrFun g ⟨1, (by decide : 1 < 3)⟩)).symm
    | ⟨5, _⟩ => exact (congrArg Fin.val (congrFun g ⟨2, (by decide : 2 < 3)⟩)).symm
  · rintro ⟨k, rfl⟩
    funext x; apply Fin.ext
    match x with
    | ⟨0, _⟩ => rfl
    | ⟨1, _⟩ => rfl
    | ⟨2, _⟩ => rfl

/-- A host sum over three leading axes of one place each. -/
theorem sum_lead (h : (⟨6, ![1, 1, 1, n3, n4, n5]⟩ : Shape).ReducesTo [0, 1, 2] ⟨3, ![n3, n4, n5]⟩)
    (v : (⟨6, ![1, 1, 1, n3, n4, n5]⟩ : Shape).Idx → EReal) (z : EReal)
    (c : Fin n3) (d : Fin n4) (e : Fin n5) :
    Ideal.hostReduceAdd h v z (ix3 c d e) = z + v (ix6 0 0 0 c d e) :=
  congrArg (z + ·) ((Finset.sum_filter_eq_sum_of_fiber _ (fun k : Fin 1 => ix6 k (0 : Fin 1) (0 : Fin 1) c d e)
    (fun x y g => show x = y from congrFun g 0) (lead_iff h c d e) v).trans (Fin.sum_univ_one _))

end Cert.Sums
-- ==== Proof.Value.Reference.lean ====
module

public import proofs.«01_k».proof.Proof.Gen.ReferenceIdeal.Run
public import proofs.«01_k».proof.Proof.Consts
public import proofs.«01_k».proof.Proof.Value.Finite
public import proofs.«01_k».proof.Proof.Value.Sums
public import Idealize.ShloMosaic.Lib.Pointwise
public import Idealize.ShloMosaic.Lib.IdealHost

@[expose] public section

set_option maxRecDepth 65536

noncomputable section

namespace Cert.ReferenceIdeal.AttnValue

open Cert.ReferenceIdeal Cert.ReferenceIdeal.Gen Cert.ReferenceIdeal.Value
open Idealize.ShloMosaic Idealize.ShloMosaic.TcCoe Idealize.SL.Sem
open Cert.AttnRow (Row)

variable (V0 : Valuation τ sig (Elt Ideal))

abbrev a0 : FVec Ideal S4x2048x4608 .f32 := V0 (Proc.devRef .tc main_arg0)
abbrev a1 : FVec Ideal S8x128x256 .f32 := V0 (Proc.devRef .tc main_arg1)
abbrev a2 : FVec Ideal S4x2048x512 .f32 := V0 (Proc.devRef .tc main_arg2)
abbrev a3 : FVec Ideal S4x2048x512 .f32 := V0 (Proc.devRef .tc main_arg3)
abbrev w9 : FVec Ideal S4x1x16x128x8x64 .f32 := res_main_v9 V0
abbrev w18 : FVec Ideal S4x1x16x256x8x64 .f32 := res_main_v18 V0
abbrev w27 : FVec Ideal S4x1x16x256x8x64 .f32 := res_main_v27 V0
abbrev w65 : IVec S4x1x16x8x128x256 1 := res_main_v65_1 V0
abbrev w650 : FVec Ideal S4x1x16x8x128x256 .f32 := res_main_v65_0 V0
abbrev w66 : FVec Ideal S4x1x16x8x128 .f32 := res_main_v66 V0
abbrev w70 : FVec Ideal S4x1x16x8x128x256 .f32 := res_main_v70 V0
abbrev w75 : FVec Ideal S4x1x16x8x128x256 .f32 := res_main_v75 V0
abbrev w76 : FVec Ideal S4x1x16x8x128 .f32 := res_main_v76 V0
abbrev w78 : FVec Ideal S4x1x16x128x8x64 .f32 := res_main_v78 V0
abbrev w80 : FVec Ideal S4x1x16x128x8x1 .f32 := res_main_v80 V0
abbrev w106 : FVec Ideal S4x1x16x8x128 .f32 := res_main_v106 V0
abbrev w109 : FVec Ideal S4x1x16x128x8x64 .f32 := res_main_v109 V0
abbrev w124 : FVec Ideal S4x1x16x8x64x128 .f32 := res_main_v124 V0
abbrev w127 : FVec Ideal S4x1x16x256x8x64 .f32 := res_main_v127 V0
abbrev w130 : FVec Ideal S4x1x16x8x128x256 .f32 := res_main_v130 V0
abbrev w141 : FVec Ideal S4x1x16x8x128x256 .f32 := res_main_v141 V0
abbrev w146 : FVec Ideal S4x1x16x8x128x256 .f32 := res_main_v146 V0
abbrev w148 : FVec Ideal S4x1x16x256x8x64 .f32 := res_main_v148 V0

/-- The row of one query of the reference. -/
def rrow (b : Fin 4) (n : Fin 16) (h : Fin 8) (r : Fin 128) : Row where
  q e := a0 V0 (ix3 b ⟨n * 128 + r, by omega⟩ ⟨h * 64 + e, by omega⟩)
  K k e := w18 V0 (ix6 b 0 n k h e)
  V k e := w27 V0 (ix6 b 0 n k h e)
  b k := a1 V0 (ix3 h r k)
  ok k := w65 V0 (ix6 b 0 n h r k)
  d e := a2 V0 (ix3 b ⟨n * 128 + r, by omega⟩ ⟨h * 64 + e, by omega⟩)
  l e := a3 V0 (ix3 b ⟨n * 128 + r, by omega⟩ ⟨h * 64 + e, by omega⟩)

variable (b : Fin 4) (n : Fin 16) (h : Fin 8) (r : Fin 128)

theorem w18_first (k : Fin 256) (e : Fin 64) (hk : k.val < 128) (hn : n.val < 1) :
    w18 V0 (ix6 b 0 n k h e) = 0 := by
  pointwise [res_main_v18, res_main_v12, res_main_v0]
  rw [dif_pos hk, dif_pos hn]

theorem w18_prev (k : Fin 256) (e : Fin 64) (hk : k.val < 128) (hn : ¬ n.val < 1) :
    w18 V0 (ix6 b 0 n k h e) = a0 V0 (ix3 b ⟨(n - 1) * 128 + k, by omega⟩ ⟨512 + h * 64 + e, by omega⟩) := by
  pointwise [res_main_v18, res_main_v12, res_main_v0]
  rw [dif_pos hk, dif_neg hn]

theorem w18_cur (k : Fin 256) (e : Fin 64) (hk : ¬ k.val < 128) :
    w18 V0 (ix6 b 0 n k h e) = a0 V0 (ix3 b ⟨n * 128 + (k - 128), by omega⟩ ⟨512 + h * 64 + e, by omega⟩) := by
  pointwise [res_main_v18, res_main_v12, res_main_v0]
  rw [dif_neg hk]

theorem w27_first (k : Fin 256) (e : Fin 64) (hk : k.val < 128) (hn : n.val < 1) :
    w27 V0 (ix6 b 0 n k h e) = 0 := by
  pointwise [res_main_v27, res_main_v21, res_main_v0]
  rw [dif_pos hk, dif_pos hn]

theorem w27_prev (k : Fin 256) (e : Fin 64) (hk : k.val < 128) (hn : ¬ n.val < 1) :
    w27 V0 (ix6 b 0 n k h e) = a0 V0 (ix3 b ⟨(n - 1) * 128 + k, by omega⟩ ⟨1024 + h * 64 + e, by omega⟩) := by
  pointwise [res_main_v27, res_main_v21, res_main_v0]
  rw [dif_pos hk, dif_neg hn]

theorem w27_cur (k : Fin 256) (e : Fin 64) (hk : ¬ k.val < 128) :
    w27 V0 (ix6 b 0 n k h e) = a0 V0 (ix3 b ⟨n * 128 + (k - 128), by omega⟩ ⟨1024 + h * 64 + e, by omega⟩) := by
  pointwise [res_main_v27, res_main_v21, res_main_v0]
  rw [dif_neg hk]

theorem w9_eq (e : Fin 64) : w9 V0 (ix6 b 0 n r h e) = (rrow V0 b n h r).q e := by
  pointwise [res_main_v9, res_main_v0]
  rfl

/-- The start of a maximum. -/
theorem start_eq : Ideal.ofBits .f32 0xFF800000#32 = ⊥ := by simp [Ideal.ofBits, Ideal.ieee]

theorem w650_eq (k : Fin 256) : w650 V0 (ix6 b 0 n h r k) = (rrow V0 b n h r).s k := by
  pointwise [res_main_v65_0]
  show Scalar.select (w65 V0 (ix6 b 0 n h r k))
      ((∑ x, w9 V0 (ix6 b 0 n r h x) * w18 V0 (ix6 b 0 n k h x)) * Ideal.ofBits FTy.f32 0x3E000000#32
        + a1 V0 (ix3 h r k)) (Ideal.ofBits .f32 0xFF800000#32) = _
  rw [Consts.eighth, start_eq]
  simp only [w9_eq]
  rfl

theorem w66_eq : w66 V0 (ix5 b 0 n h r) = (rrow V0 b n h r).mx := by
  pointwise [res_main_v66]
  refine (Sums.max_last _ (w650 V0) _ b 0 n h r).trans ?_
  rw [start_eq]
  exact congrArg (Finset.univ.fold max ⊥) (funext fun k => w650_eq V0 b n h r k)

theorem w70_eq (k : Fin 256) : w70 V0 (ix6 b 0 n h r k)
    = if (rrow V0 b n h r).s k = (rrow V0 b n h r).mx then 1 else 0 := by
  pointwise [res_main_v70]
  show FloatOps.uitofp FTy.f32
      (BitVec.ofBool (decide (w650 V0 (ix6 b 0 n h r k) = w66 V0 (ix5 b 0 n h r)))) = _
  rw [w650_eq, w66_eq]
  by_cases hs : (rrow V0 b n h r).s k = (rrow V0 b n h r).mx
  · rw [if_pos hs, decide_eq_true hs]
    show (((1#1 : BitVec 1).toNat : ℝ) : EReal) = 1
    norm_num
  · rw [if_neg hs, decide_eq_false hs]
    show (((0#1 : BitVec 1).toNat : ℝ) : EReal) = 0
    norm_num

theorem w75_eq (k : Fin 256) : w75 V0 (ix6 b 0 n h r k) = (rrow V0 b n h r).p k := by
  pointwise [res_main_v75, res_main_v72]
  show Ideal.exp (w650 V0 (ix6 b 0 n h r k) - w66 V0 (ix5 b 0 n h r)) = _
  rw [w650_eq, w66_eq]
  rfl

theorem w76_eq : w76 V0 (ix5 b 0 n h r) = (rrow V0 b n h r).den := by
  pointwise [res_main_v76]
  rw [Sums.sum_last, zero_add]
  exact Finset.sum_congr rfl fun k _ => w75_eq V0 b n h r k

theorem w78_eq (e : Fin 64) : w78 V0 (ix6 b 0 n r h e) = (rrow V0 b n h r).ou e := by
  pointwise [res_main_v78]
  exact Finset.sum_congr rfl fun k _ => (mul_comm _ _).trans (congrArg (· * _) (w75_eq V0 b n h r k))

theorem w80_eq : w80 V0 (ix6 b 0 n r h 0) = (rrow V0 b n h r).den := by
  pointwise [res_main_v80]
  exact w76_eq V0 b n h r

theorem w109_eq (e : Fin 64) : w109 V0 (ix6 b 0 n r h e) = (rrow V0 b n h r).d e := by
  pointwise [res_main_v109]
  rfl

theorem w106_eq : w106 V0 (ix5 b 0 n h r) = ∑ e, (rrow V0 b n h r).l e := by
  pointwise [res_main_v106]
  rw [Fin.sum_univ_one]
  rfl

theorem w124_eq (e : Fin 64) : w124 V0 (ix6 b 0 n h e r)
    = Ideal.div ((rrow V0 b n h r).d e) (rrow V0 b n h r).den := by
  pointwise [res_main_v124]
  show Ideal.div (w109 V0 (ix6 b 0 n r h e)) (w80 V0 (ix6 b 0 n r h 0)) = _
  rw [w109_eq, w80_eq]

theorem w127_eq (k : Fin 256) (e : Fin 64) : w127 V0 (ix6 b 0 n k h e)
    = ∑ r, (rrow V0 b n h r).p k * Ideal.div ((rrow V0 b n h r).d e) (rrow V0 b n h r).den := by
  pointwise [res_main_v127]
  refine Finset.sum_congr rfl fun r _ => ?_
  show w124 V0 (ix6 b 0 n h e r) * w75 V0 (ix6 b 0 n h r k) = _
  rw [w124_eq, w75_eq, mul_comm]

theorem w130_eq (G : (rrow V0 b n h r).Good) (k : Fin 256) : w130 V0 (ix6 b 0 n h r k)
    = (rrow V0 b n h r).g k * (rrow V0 b n h r).p k := by
  pointwise [res_main_v130]
  rw [Sums.sum_units]
  pointwise []
  rw [Sums.sum_last]
  pointwise []
  show (∑ x, w124 V0 (ix6 b 0 n h x r) * w27 V0 (ix6 b 0 n k h x) +
        (Ideal.div (w106 V0 (ix5 b 0 n h r)) (w76 V0 (ix5 b 0 n h r)) +
          -∑ x, w109 V0 (ix6 b 0 n r h x) *
                  Ideal.div 1 (w80 V0 (ix6 b 0 n r h 0) * w80 V0 (ix6 b 0 n r h 0)) *
                w78 V0 (ix6 b 0 n r h x))) * w75 V0 (ix6 b 0 n h r k) = _
  simp only [w124_eq, w106_eq, w76_eq, w109_eq, w80_eq, w78_eq, w75_eq]
  rw [G.neg_sum]
  rfl

theorem w141_eq (G : (rrow V0 b n h r).Good) (k : Fin 256) : w141 V0 (ix6 b 0 n h r k)
    = (rrow V0 b n h r).ds k := by
  pointwise [res_main_v141]
  rw [Sums.sum_units, Sums.sum_last]
  pointwise []
  rw [Sums.sum_last]
  pointwise []
  show Scalar.select (w65 V0 (ix6 b 0 n h r k))
      (w130 V0 (ix6 b 0 n h r k) +
        Ideal.div (w106 V0 (ix5 b 0 n h r) + ∑ x, -w130 V0 (ix6 b 0 n h r x))
            (∑ k, w70 V0 (ix6 b 0 n h r k)) * w70 V0 (ix6 b 0 n h r k)) 0 = _
  simp only [w130_eq V0 b n h r G, w106_eq, w70_eq]
  rw [G.flow, G.share, add_zero]
  rfl

theorem w146_eq (G : (rrow V0 b n h r).Good) (k : Fin 256) : w146 V0 (ix6 b 0 n h r k)
    = (rrow V0 b n h r).dsx k := by
  pointwise [res_main_v146]
  show w141 V0 (ix6 b 0 n h r k) * Ideal.ofBits FTy.f32 0x3E000000#32 = _
  rw [w141_eq V0 b n h r G, Consts.eighth]
  rfl

theorem w148_eq (G : ∀ r, (rrow V0 b n h r).Good) (k : Fin 256) (e : Fin 64) : w148 V0 (ix6 b 0 n k h e)
    = ∑ r, (rrow V0 b n h r).dsx k * (rrow V0 b n h r).q e := by
  pointwise [res_main_v148]
  refine Finset.sum_congr rfl fun r _ => ?_
  show w146 V0 (ix6 b 0 n h r k) * w9 V0 (ix6 b 0 n r h e) = _
  rw [w146_eq V0 b n h r (G r)]
  rw [w9_eq]

end Cert.ReferenceIdeal.AttnValue
-- ==== Proof.Value.Seen.lean ====
/-
  Which keys a query sees, as the kernel and as the reference compute it in words of 32 bits.
-/
module

public import Idealize.ShloMosaic.Lib.WordCmp
public import Idealize.ShloMosaic.Lib.Routing.Words
public import Idealize.ShloMosaic.Lib.Pointwise

@[expose] public section

namespace Cert.Seen

open Idealize.ShloMosaic

/-- A difference of two small words, as a signed number. -/
theorem diff_int {a b : Nat} (ha : a < 1048576) (hb : b < 1048576) :
    (IntOp.subi (BitVec.ofNat 32 a) (BitVec.ofNat 32 b)).toInt = (a : Int) - b := by
  show (BitVec.ofNat 32 a - BitVec.ofNat 32 b).toInt = _
  rw [BitVec.toInt_sub, WordCmp.toInt_ofNat_of_lt (by norm_num; omega), WordCmp.toInt_ofNat_of_lt (by norm_num; omega),
    Int.bmod_eq_of_le (by norm_num; omega) (by norm_num; omega)]

/-- The window: the key lies at most 128 places before the query, and not after it. -/
theorem near {r k : Nat} (hr : r < 128) (hk : k < 256) :
    IntOp.andi (IntOp.cmpi .sge (IntOp.subi (IntOp.addi (BitVec.ofNat 32 r) 128#32) (BitVec.ofNat 32 k)) 0#32)
      (IntOp.cmpi .sle (IntOp.subi (IntOp.addi (BitVec.ofNat 32 r) 128#32) (BitVec.ofNat 32 k)) 128#32)
      = BitVec.ofBool (decide (k ≤ r + 128) && decide (r ≤ k)) := by
  rw [show IntOp.addi (BitVec.ofNat 32 r) 128#32 = BitVec.ofNat 32 (r + 128) from BitVec.ofNat_add_ofNat _ _,
    WordCmp.cmpi_sge_eq, WordCmp.cmpi_sle_eq, diff_int (by omega) (by omega), WordCmp.andi_ofBool]
  congr 2
  · exact decide_eq_decide.mpr (by show (0 : Int) ≤ _ ↔ _; omega)
  · exact decide_eq_decide.mpr (by show _ ≤ (128 : Int) ↔ _; omega)

/-- The reference's third condition: the key is not before the array. -/
theorem inside {n k : Nat} (hn : n < 16) (hk : k < 256) :
    IntOp.cmpi .sge (IntOp.subi (IntOp.addi (IntOp.muli (BitVec.ofNat 32 n) 128#32) (BitVec.ofNat 32 k)) 128#32) 0#32
      = BitVec.ofBool (decide (128 ≤ k) || decide (n ≠ 0)) := by
  rw [show IntOp.muli (BitVec.ofNat 32 n) 128#32 = BitVec.ofNat 32 (n * 128) from (BitVec.ofNat_mul n 128).symm,
    show IntOp.addi (BitVec.ofNat 32 (n * 128)) (BitVec.ofNat 32 k) = BitVec.ofNat 32 (n * 128 + k) from BitVec.ofNat_add_ofNat _ _,
    WordCmp.cmpi_sge_eq, diff_int (b := 128) (by omega) (by omega), ← Bool.decide_or]
  congr 1
  exact decide_eq_decide.mpr (by show (0 : Int) ≤ _ ↔ _; omega)

/-- The kernel's key number: a column of the pair's table, without its head. -/
theorem key {c : Nat} (hc : c < 512) (w : BitVec 32) (hw : w = 256#32) :
    Scalar.select (IntOp.andi (IntOp.xori (IntOp.cmpi .slt (IntOp.remsi .vector (BitVec.ofNat 32 c) w) 0#32)
        (Scalar.cmpi .slt w 0#32)) (IntOp.cmpi .ne (IntOp.remsi .vector (BitVec.ofNat 32 c) w) 0#32))
      (IntOp.addi (IntOp.remsi .vector (BitVec.ofNat 32 c) w) w) (IntOp.remsi .vector (BitVec.ofNat 32 c) w)
      = BitVec.ofNat 32 (c % 256) := by
  subst hw
  have hm : c % 256 < 256 := Nat.mod_lt _ (by norm_num)
  rw [show IntOp.remsi .vector (BitVec.ofNat 32 c) 256#32 = BitVec.ofNat 32 (c % 256) from
    Routing.remsi_word .vector (by omega) (by norm_num) (by norm_num)]
  have h0 : IntOp.cmpi .slt (BitVec.ofNat 32 (c % 256)) 0#32 = 0#1 := by
    refine (WordCmp.cmpi_slt_ofNat (w := 32) (by omega) (by norm_num)).trans ?_
    simp
  have h1 : Scalar.cmpi .slt 256#32 0#32 = 0#1 := by decide
  rw [h0, h1]
  have h2 : ∀ y : BitVec 1, IntOp.andi (IntOp.xori 0#1 0#1) y = 0#1 := by decide
  rw [h2]
  rfl

/-- The kernel's third condition: the key is not before the array. -/
theorem inside' {j k : Nat} (hj : j < 17) (hk : k < 256) :
    IntOp.ori (IntOp.cmpi .sge (BitVec.ofNat 32 k) 128#32)
        (Scalar.xori (Scalar.cmpi .eq (BitVec.ofNat 32 j) 0#32) 1#1)
      = BitVec.ofBool (decide (128 ≤ k) || decide (j ≠ 0)) := by
  have h0 : IntOp.cmpi .sge (BitVec.ofNat 32 k) 128#32 = BitVec.ofBool (decide (128 ≤ k)) :=
    WordCmp.cmpi_sge_ofNat (w := 32) (by omega) (by norm_num)
  have h1 : Scalar.cmpi .eq (BitVec.ofNat 32 j) 0#32 = BitVec.ofBool (decide (j = 0)) := by
    refine (WordCmp.cmpi_eq_eq_toNat _ _).trans ?_
    rw [WordCmp.toNat_ofNat_of_lt (by omega)]
    rfl
  rw [h0, h1, show (1#1 : BitVec 1) = BitVec.ofBool true from rfl]
  show IntOp.ori _ (IntOp.xori _ _) = _
  rw [WordCmp.xori_ofBool, WordCmp.ori_ofBool]
  by_cases h : j = 0 <;> simp [h]

end Cert.Seen
-- ==== Proof.Value.Results.lean ====
/-
  The four results of the reference in terms of its rows.
-/
module

public import proofs.«01_k».proof.Proof.Value.Reference
public import proofs.«01_k».proof.Proof.Value.Seen

@[expose] public section

set_option maxRecDepth 65536

noncomputable section

namespace Cert.ReferenceIdeal.AttnValue

open Cert.ReferenceIdeal Cert.ReferenceIdeal.Gen Cert.ReferenceIdeal.Value
open Idealize.ShloMosaic Idealize.ShloMosaic.TcCoe Idealize.SL.Sem
open Cert.AttnRow (Row IsReal)

variable (V0 : Valuation τ sig (Elt Ideal))

abbrev gq : FVec Ideal S4x2048x512 .f32 := val4 V0 (Proc.devRef .tc main_v172)
abbrev gk : FVec Ideal S4x2048x512 .f32 := val4 V0 (Proc.devRef .tc main_v173)
abbrev gv : FVec Ideal S4x2048x512 .f32 := val4 V0 (Proc.devRef .tc main_v174)
abbrev gb : FVec Ideal S4x128x512 .f32 := val4 V0 (Proc.devRef .tc main_v177)

variable (b : Fin 4) (n : Fin 16) (h : Fin 8) (r : Fin 128)

/-- Whether query `r` of block `n` sees key `k` of its two blocks. -/
theorem w65_eq (k : Fin 256) : w65 V0 (ix6 b 0 n h r k)
    = BitVec.ofBool ((decide (k.val ≤ r.val + 128) && decide (r.val ≤ k.val)) && (decide (128 ≤ k.val) || decide (n.val ≠ 0))) := by
  pointwise [res_main_v65_1, res_main_v39, res_main_v34]
  rw [Seen.near r.isLt k.isLt, Seen.inside n.isLt k.isLt, WordCmp.andi_ofBool]

/-- With no infinite element every row is good: the query's own key is always seen. -/
theorem good (h0 : ∀ i, IsReal (a0 V0 i)) (h1 : ∀ i, IsReal (a1 V0 i)) (h2 : ∀ i, IsReal (a2 V0 i))
    (h3 : ∀ i, IsReal (a3 V0 i)) : (rrow V0 b n h r).Good where
  q e := h0 _
  K k e := by
    show IsReal (w18 V0 (ix6 b 0 n k h e))
    by_cases hk : k.val < 128
    · by_cases hn : n.val < 1
      · rw [w18_first V0 b n h k e hk hn]; exact ⟨0, rfl⟩
      · rw [w18_prev V0 b n h k e hk hn]; exact h0 _
    · rw [w18_cur V0 b n h k e hk]; exact h0 _
  V k e := by
    show IsReal (w27 V0 (ix6 b 0 n k h e))
    by_cases hk : k.val < 128
    · by_cases hn : n.val < 1
      · rw [w27_first V0 b n h k e hk hn]; exact ⟨0, rfl⟩
      · rw [w27_prev V0 b n h k e hk hn]; exact h0 _
    · rw [w27_cur V0 b n h k e hk]; exact h0 _
  b k := h1 _
  d e := h2 _
  l e := h3 _
  ok := ⟨⟨128 + r.val, by omega⟩, by
    show w65 V0 _ = _
    rw [w65_eq, decide_eq_true (show 128 + r.val ≤ r.val + 128 by omega), decide_eq_true (show r.val ≤ 128 + r.val by omega),
      decide_eq_true (show 128 ≤ 128 + r.val by omega)]
    rfl⟩

theorem gq_eq (G : (rrow V0 b n h r).Good) (e : Fin 64) :
    gq V0 (ix3 b ⟨n * 128 + r, by omega⟩ ⟨h * 64 + e, by omega⟩)
      = ∑ k, (rrow V0 b n h r).dsx k * (rrow V0 b n h r).K k e := by
  rw [show gq V0 = _ from val4_main_v172 V0]
  pointwise []
  exact Finset.sum_congr rfl fun k _ => congrArg (· * _) (w146_eq V0 b n h r G k)

theorem gk_eq (G : ∀ n r, (rrow V0 b n h r).Good) (e : Fin 64) :
    gk V0 (ix3 b ⟨n * 128 + r, by omega⟩ ⟨h * 64 + e, by omega⟩)
      = (∑ x, (rrow V0 b n h x).dsx ⟨128 + r, by omega⟩ * (rrow V0 b n h x).q e)
        + if hn : n.val < 15 then
            ∑ x, (rrow V0 b ⟨1 + n, by omega⟩ h x).dsx ⟨r, by omega⟩ * (rrow V0 b ⟨1 + n, by omega⟩ h x).q e
          else 0 := by
  rw [show gk V0 = _ from val4_main_v173 V0]
  pointwise [res_main_v160]
  refine congrArg₂ (· + ·) (w148_eq V0 b n h (G n) _ e) ?_
  split_ifs with hn
  · exact w148_eq V0 b _ h (G _) _ e
  · rfl

theorem gv_eq (e : Fin 64) :
    gv V0 (ix3 b ⟨n * 128 + r, by omega⟩ ⟨h * 64 + e, by omega⟩)
      = (∑ x, (rrow V0 b n h x).p ⟨128 + r, by omega⟩ * Ideal.div ((rrow V0 b n h x).d e) (rrow V0 b n h x).den)
        + if hn : n.val < 15 then
            ∑ x, (rrow V0 b ⟨1 + n, by omega⟩ h x).p ⟨r, by omega⟩
              * Ideal.div ((rrow V0 b ⟨1 + n, by omega⟩ h x).d e) (rrow V0 b ⟨1 + n, by omega⟩ h x).den
          else 0 := by
  rw [show gv V0 = _ from val4_main_v174 V0]
  pointwise [res_main_v151]
  refine congrArg₂ (· + ·) (w127_eq V0 b n h _ e) ?_
  split_ifs with hn
  · exact w127_eq V0 b _ h _ e
  · rfl

theorem gb_eq (p : Fin 4) (f : Fin 2) (k : Fin 256)
    (G : ∀ b n, (rrow V0 b n ⟨p * 2 + f, by omega⟩ r).Good) :
    gb V0 (ix3 p r ⟨f * 256 + k, by omega⟩) = ∑ b, ∑ n, (rrow V0 b n ⟨p * 2 + f, by omega⟩ r).ds k := by
  rw [show gb V0 = _ from val4_main_v177 V0]
  pointwise []
  rw [Sums.sum_lead]
  pointwise []
  rw [Sums.sum_outer, zero_add]
  exact Finset.sum_congr rfl fun b _ => Finset.sum_congr rfl fun n _ => w141_eq V0 b n _ r (G b n) k

end Cert.ReferenceIdeal.AttnValue
-- ==== Proof.Value.Blocks.lean ====
/-
  What the kernel's blocks hold at each position: the rows of one block of 128 queries, of that block's keys and values
  and of the block before it.
-/
module

public import proofs.«01_k».proof.Proof.Value.Pieces
public import proofs.«01_k».proof.Proof.Value.Results

@[expose] public section

set_option maxRecDepth 131072

noncomputable section

namespace Cert.KernelIdeal.AttnValue

open Cert.KernelIdeal Cert.KernelIdeal.Gen Cert.KernelIdeal.Attn
open Idealize.ShloMosaic Idealize.ShloMosaic.TcCoe Idealize.SL.Sem
open Cert.AttnRow (Row)
open Cert.ReferenceIdeal.AttnValue (a0 a1 a2 a3 rrow w18_prev w18_cur w27_prev w27_cur w65_eq)

/-- Which blocks each position reads and writes. -/
theorem places : ∀ t : Fin cfg0.N, win0_0.index t = ![t.val / 17, min (t.val % 17) 15, 0]
    ∧ win0_1.index t = ![t.val / 17, t.val % 17 - 1, 1] ∧ win0_2.index t = ![t.val / 17, min (t.val % 17) 15, 1]
    ∧ win0_3.index t = ![t.val / 17, t.val % 17 - 1, 2] ∧ win0_4.index t = ![t.val / 17, min (t.val % 17) 15, 2]
    ∧ win0_5.index t = ![0, 0, 0] ∧ win0_6.index t = ![t.val / 17, min (t.val % 17) 15, 0]
    ∧ win0_7.index t = ![t.val / 17, min (t.val % 17) 15, 0] ∧ win0_8.index t = ![t.val / 17, min (t.val % 17) 15, 0]
    ∧ win0_9.index t = ![t.val / 17, t.val % 17 - 1, 0] ∧ win0_10.index t = ![t.val / 17, t.val % 17 - 1, 0]
    ∧ win0_11.index t = ![0, 0, 0] :=
  (by decide +kernel : ∀ t : Fin grid0.N, _)

variable (m : (ℓ : Loc nD τ sig) → Buf (Elt Ideal) ℓ) (c : Dev nD)

/-- The packed projections, the bias, the output's gradient, the denominators' gradient. -/
abbrev A0 : FVec Ideal S4x2048x4608 .f32 := m ((c : Thread nD τ).loc main_arg0)
abbrev A1 : FVec Ideal S8x128x256 .f32 := m ((c : Thread nD τ).loc main_arg1)
abbrev A2 : FVec Ideal S4x2048x512 .f32 := m ((c : Thread nD τ).loc main_arg2)
abbrev A3 : FVec Ideal S4x2048x512 .f32 := m ((c : Thread nD τ).loc main_arg3)

/-- The position of block `n` of sequence `b`. -/
def pos (b : Fin 4) (n : ℕ) (hn : n < 17) : Fin cfg0.N := ⟨b.val * 17 + n, by have hN : cfg0.N = 68 := N_0; omega⟩

theorem pos_div (b : Fin 4) (n : ℕ) (hn : n < 17) : (pos b n hn).val / 17 = b.val := by
  show (b.val * 17 + n) / 17 = b.val; omega
theorem pos_mod (b : Fin 4) (n : ℕ) (hn : n < 17) : (pos b n hn).val % 17 = n := by
  show (b.val * 17 + n) % 17 = n; omega

/-- The position at which block `n` is worked on. -/
abbrev wpos (b : Fin 4) (n : Fin 16) : Fin cfg0.N := pos b n.val (Nat.lt_succ_of_lt n.isLt)
theorem wpos_div (b : Fin 4) (n : Fin 16) : (wpos b n).val / 17 = b.val := pos_div b n.val _
theorem wpos_mod (b : Fin 4) (n : Fin 16) : (wpos b n).val % 17 = n.val := pos_mod b n.val _

theorem pos_coord (b : Fin 4) (n : ℕ) (hn : n < 17) : ((grid0.coords (pos b n hn)) 2).val = n := by
  have h : ((grid0.coords (pos b n hn)) 2).val = (pos b n hn).val / 1 % 17 := Pipeline.Grid.coords_val (pos b n hn) 2 (by decide) rfl
  refine h.trans ?_
  show (b.val * 17 + n) / 1 % 17 = n
  omega

/-- The bias table: a pair's two heads side by side. -/
theorem table (p : Fin 4) (h : Fin 2) (r : Fin 128) (k : Fin 256) :
    (V m c main_v2 : FVec Ideal S4x128x512 .f32) (ix3 p r (col h k)) = A1 m c (ix3 ⟨p.val * 2 + h.val, by omega⟩ r k) := by
  show (StableHlo.after hostOps0 (fun b => m (c, b)) main_v2 : FVec Ideal S4x128x512 .f32) (ix3 p r (col h k)) = _
  after_results
  pointwise []
  have h1 : (col h k).val = h.val * 256 + k.val := col_val h k
  have h2 : (col h k).val / 256 = h.val := by omega
  have h3 : (col h k).val % 256 = k.val := by omega
  simp only [h2, h3]

section Reads

variable (b : Fin 4) (n : Fin 16) (r : Fin 128) (x : Fin 512)

theorem block0 : (iblk m c 0 (wpos b n) : FVec Ideal S1x128x512 .f32) (ix3 0 r x)
    = A0 m c (ix3 b ⟨n.val * 128 + r.val, by omega⟩ ⟨x.val, by omega⟩) := by
  rw [show A0 m c = V m c main_arg0 from (V_main_arg0 m c).symm]
  show V m c main_arg0 (((cfg0.win 0).blk (wpos b n)).view.emb (ix3 0 r x)) = _
  have e := (places (wpos b n)).1
  rw [wpos_div, wpos_mod] at e
  refine congrArg _ (funext fun a => Fin.ext ?_)
  match a with
  | ⟨0, _⟩ => show win0_0.index _ (0 : Fin 3) * 1 + 1 * 0 = b.val; rw [e]; show b.val * 1 + 1 * 0 = b.val; omega
  | ⟨1, _⟩ => show win0_0.index _ (1 : Fin 3) * 128 + 1 * r.val = n.val * 128 + r.val; rw [e]; show (min n.val 15) * 128 + 1 * r.val = n.val * 128 + r.val; omega
  | ⟨2, _⟩ => show win0_0.index _ (2 : Fin 3) * 512 + 1 * x.val = x.val; rw [e]; show 0 * 512 + 1 * x.val = x.val; omega
theorem block1 : (iblk m c 1 (wpos b n) : FVec Ideal S1x128x512 .f32) (ix3 0 r x)
    = A0 m c (ix3 b ⟨(n.val - 1) * 128 + r.val, by omega⟩ ⟨512 + x.val, by omega⟩) := by
  rw [show A0 m c = V m c main_arg0 from (V_main_arg0 m c).symm]
  show V m c main_arg0 (((cfg0.win 1).blk (wpos b n)).view.emb (ix3 0 r x)) = _
  have e := (places (wpos b n)).2.1
  rw [wpos_div, wpos_mod] at e
  refine congrArg _ (funext fun a => Fin.ext ?_)
  match a with
  | ⟨0, _⟩ => show win0_1.index _ (0 : Fin 3) * 1 + 1 * 0 = b.val; rw [e]; show b.val * 1 + 1 * 0 = b.val; omega
  | ⟨1, _⟩ => show win0_1.index _ (1 : Fin 3) * 128 + 1 * r.val = (n.val - 1) * 128 + r.val; rw [e]; show (n.val - 1) * 128 + 1 * r.val = (n.val - 1) * 128 + r.val; omega
  | ⟨2, _⟩ => show win0_1.index _ (2 : Fin 3) * 512 + 1 * x.val = 512 + x.val; rw [e]; show 1 * 512 + 1 * x.val = 512 + x.val; omega
theorem block2 : (iblk m c 2 (wpos b n) : FVec Ideal S1x128x512 .f32) (ix3 0 r x)
    = A0 m c (ix3 b ⟨n.val * 128 + r.val, by omega⟩ ⟨512 + x.val, by omega⟩) := by
  rw [show A0 m c = V m c main_arg0 from (V_main_arg0 m c).symm]
  show V m c main_arg0 (((cfg0.win 2).blk (wpos b n)).view.emb (ix3 0 r x)) = _
  have e := (places (wpos b n)).2.2.1
  rw [wpos_div, wpos_mod] at e
  refine congrArg _ (funext fun a => Fin.ext ?_)
  match a with
  | ⟨0, _⟩ => show win0_2.index _ (0 : Fin 3) * 1 + 1 * 0 = b.val; rw [e]; show b.val * 1 + 1 * 0 = b.val; omega
  | ⟨1, _⟩ => show win0_2.index _ (1 : Fin 3) * 128 + 1 * r.val = n.val * 128 + r.val; rw [e]; show (min n.val 15) * 128 + 1 * r.val = n.val * 128 + r.val; omega
  | ⟨2, _⟩ => show win0_2.index _ (2 : Fin 3) * 512 + 1 * x.val = 512 + x.val; rw [e]; show 1 * 512 + 1 * x.val = 512 + x.val; omega
theorem block3 : (iblk m c 3 (wpos b n) : FVec Ideal S1x128x512 .f32) (ix3 0 r x)
    = A0 m c (ix3 b ⟨(n.val - 1) * 128 + r.val, by omega⟩ ⟨1024 + x.val, by omega⟩) := by
  rw [show A0 m c = V m c main_arg0 from (V_main_arg0 m c).symm]
  show V m c main_arg0 (((cfg0.win 3).blk (wpos b n)).view.emb (ix3 0 r x)) = _
  have e := (places (wpos b n)).2.2.2.1
  rw [wpos_div, wpos_mod] at e
  refine congrArg _ (funext fun a => Fin.ext ?_)
  match a with
  | ⟨0, _⟩ => show win0_3.index _ (0 : Fin 3) * 1 + 1 * 0 = b.val; rw [e]; show b.val * 1 + 1 * 0 = b.val; omega
  | ⟨1, _⟩ => show win0_3.index _ (1 : Fin 3) * 128 + 1 * r.val = (n.val - 1) * 128 + r.val; rw [e]; show (n.val - 1) * 128 + 1 * r.val = (n.val - 1) * 128 + r.val; omega
  | ⟨2, _⟩ => show win0_3.index _ (2 : Fin 3) * 512 + 1 * x.val = 1024 + x.val; rw [e]; show 2 * 512 + 1 * x.val = 1024 + x.val; omega
theorem block4 : (iblk m c 4 (wpos b n) : FVec Ideal S1x128x512 .f32) (ix3 0 r x)
    = A0 m c (ix3 b ⟨n.val * 128 + r.val, by omega⟩ ⟨1024 + x.val, by omega⟩) := by
  rw [show A0 m c = V m c main_arg0 from (V_main_arg0 m c).symm]
  show V m c main_arg0 (((cfg0.win 4).blk (wpos b n)).view.emb (ix3 0 r x)) = _
  have e := (places (wpos b n)).2.2.2.2.1
  rw [wpos_div, wpos_mod] at e
  refine congrArg _ (funext fun a => Fin.ext ?_)
  match a with
  | ⟨0, _⟩ => show win0_4.index _ (0 : Fin 3) * 1 + 1 * 0 = b.val; rw [e]; show b.val * 1 + 1 * 0 = b.val; omega
  | ⟨1, _⟩ => show win0_4.index _ (1 : Fin 3) * 128 + 1 * r.val = n.val * 128 + r.val; rw [e]; show (min n.val 15) * 128 + 1 * r.val = n.val * 128 + r.val; omega
  | ⟨2, _⟩ => show win0_4.index _ (2 : Fin 3) * 512 + 1 * x.val = 1024 + x.val; rw [e]; show 2 * 512 + 1 * x.val = 1024 + x.val; omega
theorem block6 : (iblk m c 6 (wpos b n) : FVec Ideal S1x128x512 .f32) (ix3 0 r x)
    = A2 m c (ix3 b ⟨n.val * 128 + r.val, by omega⟩ x) := by
  rw [show A2 m c = V m c main_arg2 from (V_main_arg2 m c).symm]
  show V m c main_arg2 (((cfg0.win 6).blk (wpos b n)).view.emb (ix3 0 r x)) = _
  have e := (places (wpos b n)).2.2.2.2.2.2.1
  rw [wpos_div, wpos_mod] at e
  refine congrArg _ (funext fun a => Fin.ext ?_)
  match a with
  | ⟨0, _⟩ => show win0_6.index _ (0 : Fin 3) * 1 + 1 * 0 = b.val; rw [e]; show b.val * 1 + 1 * 0 = b.val; omega
  | ⟨1, _⟩ => show win0_6.index _ (1 : Fin 3) * 128 + 1 * r.val = n.val * 128 + r.val; rw [e]; show (min n.val 15) * 128 + 1 * r.val = n.val * 128 + r.val; omega
  | ⟨2, _⟩ => show win0_6.index _ (2 : Fin 3) * 512 + 1 * x.val = x.val; rw [e]; show 0 * 512 + 1 * x.val = x.val; omega
theorem block7 : (iblk m c 7 (wpos b n) : FVec Ideal S1x128x512 .f32) (ix3 0 r x)
    = A3 m c (ix3 b ⟨n.val * 128 + r.val, by omega⟩ x) := by
  rw [show A3 m c = V m c main_arg3 from (V_main_arg3 m c).symm]
  show V m c main_arg3 (((cfg0.win 7).blk (wpos b n)).view.emb (ix3 0 r x)) = _
  have e := (places (wpos b n)).2.2.2.2.2.2.2.1
  rw [wpos_div, wpos_mod] at e
  refine congrArg _ (funext fun a => Fin.ext ?_)
  match a with
  | ⟨0, _⟩ => show win0_7.index _ (0 : Fin 3) * 1 + 1 * 0 = b.val; rw [e]; show b.val * 1 + 1 * 0 = b.val; omega
  | ⟨1, _⟩ => show win0_7.index _ (1 : Fin 3) * 128 + 1 * r.val = n.val * 128 + r.val; rw [e]; show (min n.val 15) * 128 + 1 * r.val = n.val * 128 + r.val; omega
  | ⟨2, _⟩ => show win0_7.index _ (2 : Fin 3) * 512 + 1 * x.val = x.val; rw [e]; show 0 * 512 + 1 * x.val = x.val; omega

theorem block5 (b : Fin 4) (n : Fin 16) (p : Fin 4) (r : Fin 128) (x : Fin 512) :
    (iblk m c 5 (wpos b n) : FVec Ideal S4x128x512 .f32) (ix3 p r x) = (V m c main_v2 : FVec Ideal S4x128x512 .f32) (ix3 p r x) := by
  show V m c main_v2 (((cfg0.win 5).blk (wpos b n)).view.emb (ix3 p r x)) = _
  have e := (places (wpos b n)).2.2.2.2.2.1
  refine congrArg _ (funext fun a => Fin.ext ?_)
  match a with
  | ⟨0, _⟩ => show win0_5.index _ (0 : Fin 3) * 4 + 1 * p.val = p.val; rw [e]; show 0 * 4 + 1 * p.val = p.val; omega
  | ⟨1, _⟩ => show win0_5.index _ (1 : Fin 3) * 128 + 1 * r.val = r.val; rw [e]; show 0 * 128 + 1 * r.val = r.val; omega
  | ⟨2, _⟩ => show win0_5.index _ (2 : Fin 3) * 512 + 1 * x.val = x.val; rw [e]; show 0 * 512 + 1 * x.val = x.val; omega

end Reads

/-- Which keys a query sees. -/
theorem seen (i : grid0.Coords) (n : ℕ) (hn : n < 17) (hi : (i 2).val = n) (h : Fin 2) (r : Fin 128) (k : Fin 256) :
    ok i (ix2 r (col h k)) = BitVec.ofBool ((decide (k.val ≤ r.val + 128) && decide (r.val ≤ k.val)) && (decide (128 ≤ k.val) || decide (n ≠ 0))) := by
  unfold ok
  rw [hi]
  pointwise [k0_pay7]
  rw [Seen.key (col h k).isLt (Scalar.select (Scalar.cmpi .eq 256#32 0#32) 1#32 256#32) rfl, col_val, show (h.val * 256 + k.val) % 256 = k.val by omega, Seen.near r.isLt k.isLt,
    Seen.inside' hn k.isLt, WordCmp.andi_ofBool]

/-- The row the kernel forms at block `n` of sequence `b`. -/
abbrev krow (b : Fin 4) (n : Fin 16) (p : Fin 4) (h : Fin 2) (r : Fin 128) : Row :=
  brow (grid0.coords (wpos b n)) (iblk m c 0 (wpos b n)) (iblk m c 1 (wpos b n))
    (iblk m c 2 (wpos b n)) (iblk m c 3 (wpos b n)) (iblk m c 4 (wpos b n))
    (iblk m c 5 (wpos b n)) (iblk m c 6 (wpos b n)) (iblk m c 7 (wpos b n)) p h r

/-- A head of a pair. -/
abbrev head (p : Fin 4) (h : Fin 2) : Fin 8 := ⟨p.val * 2 + h.val, by omega⟩

/-- The two programs hold the same four arguments. -/
structure Same (V0 : Valuation Cert.ReferenceIdeal.τ Cert.ReferenceIdeal.sig (Elt Ideal)) : Prop where
  e0 : A0 m c = a0 V0
  e1 : A1 m c = a1 V0
  e2 : A2 m c = a2 V0
  e3 : A3 m c = a3 V0

/-- The row the kernel forms is the reference's. -/
theorem alike (V0) (E : Same m c V0) (b : Fin 4) (n : Fin 16) (p : Fin 4) (h : Fin 2) (r : Fin 128) :
    (krow m c b n p h r).Alike (rrow V0 b n (head p h) r) where
  q := by
    funext e
    refine (block0 m c b n r (lane4 p h e)).trans ?_
    rw [E.e0]
    exact congrArg (fun j => a0 V0 (ix3 b _ j)) (Fin.ext (by show p.val * 128 + (h.val * 64 + e.val) = (p.val * 2 + h.val) * 64 + e.val; omega))
  K k hk := by
    funext e
    show k0_pay8 (F := Ideal) (L p (iblk m c 1 (wpos b n))) (L p (iblk m c 2 (wpos b n))) (ix2 k (lane h e)) = Cert.ReferenceIdeal.AttnValue.w18 V0 (ix6 b 0 n k (head p h) e)
    have hk' : ok (grid0.coords (wpos b n)) (ix2 r (col h k)) ≠ 0#1 := hk
    rw [seen _ n.val (by omega) (pos_coord b n.val (Nat.lt_succ_of_lt n.isLt))] at hk'
    pointwise [k0_pay8]
    by_cases h1 : k.val < 128
    · have h2 : ¬ n.val < 1 := fun h2 => hk' (by
        rw [show n.val = 0 by omega, decide_eq_false (show ¬ 128 ≤ k.val by omega)]; simp)
      rw [dif_pos h1, w18_prev V0 b n (head p h) k e h1 h2]
      refine (block1 m c b n ⟨k.val, h1⟩ (lane4 p h e)).trans ?_
      rw [E.e0]
      exact congrArg (fun j => a0 V0 (ix3 b _ j)) (Fin.ext (by show 512 + (p.val * 128 + (h.val * 64 + e.val)) = 512 + (p.val * 2 + h.val) * 64 + e.val; omega))
    · rw [dif_neg h1, w18_cur V0 b n (head p h) k e h1]
      refine (block2 m c b n ⟨k.val - 128, by omega⟩ (lane4 p h e)).trans ?_
      rw [E.e0]
      exact congrArg (fun j => a0 V0 (ix3 b _ j)) (Fin.ext (by show 512 + (p.val * 128 + (h.val * 64 + e.val)) = 512 + (p.val * 2 + h.val) * 64 + e.val; omega))
  V k hk := by
    funext e
    show k0_pay9 (F := Ideal) (L p (iblk m c 3 (wpos b n))) (L p (iblk m c 4 (wpos b n))) (ix2 k (lane h e)) = Cert.ReferenceIdeal.AttnValue.w27 V0 (ix6 b 0 n k (head p h) e)
    have hk' : ok (grid0.coords (wpos b n)) (ix2 r (col h k)) ≠ 0#1 := hk
    rw [seen _ n.val (by omega) (pos_coord b n.val (Nat.lt_succ_of_lt n.isLt))] at hk'
    pointwise [k0_pay9]
    by_cases h1 : k.val < 128
    · have h2 : ¬ n.val < 1 := fun h2 => hk' (by
        rw [show n.val = 0 by omega, decide_eq_false (show ¬ 128 ≤ k.val by omega)]; simp)
      rw [dif_pos h1, w27_prev V0 b n (head p h) k e h1 h2]
      refine (block3 m c b n ⟨k.val, h1⟩ (lane4 p h e)).trans ?_
      rw [E.e0]
      exact congrArg (fun j => a0 V0 (ix3 b _ j)) (Fin.ext (by show 1024 + (p.val * 128 + (h.val * 64 + e.val)) = 1024 + (p.val * 2 + h.val) * 64 + e.val; omega))
    · rw [dif_neg h1, w27_cur V0 b n (head p h) k e h1]
      refine (block4 m c b n ⟨k.val - 128, by omega⟩ (lane4 p h e)).trans ?_
      rw [E.e0]
      exact congrArg (fun j => a0 V0 (ix3 b _ j)) (Fin.ext (by show 1024 + (p.val * 128 + (h.val * 64 + e.val)) = 1024 + (p.val * 2 + h.val) * 64 + e.val; omega))
  b k hk := by
    refine (block5 m c b n p r (col h k)).trans ((table m c p h r k).trans ?_)
    rw [E.e1]; rfl
  ok := by
    funext k
    refine (seen _ n.val (by omega) (pos_coord b n.val (Nat.lt_succ_of_lt n.isLt)) h r k).trans ?_
    exact (w65_eq V0 b n (head p h) r k).symm
  d := by
    funext e
    refine (block6 m c b n r (lane4 p h e)).trans ?_
    rw [E.e2]
    exact congrArg (fun j => a2 V0 (ix3 b _ j)) (Fin.ext (by show p.val * 128 + (h.val * 64 + e.val) = (p.val * 2 + h.val) * 64 + e.val; omega))
  l := by
    funext e
    refine (block7 m c b n r (lane4 p h e)).trans ?_
    rw [E.e3]
    exact congrArg (fun j => a3 V0 (ix3 b _ j)) (Fin.ext (by show p.val * 128 + (h.val * 64 + e.val) = (p.val * 2 + h.val) * 64 + e.val; omega))

end Cert.KernelIdeal.AttnValue
-- ==== Proof.Value.State.lean ====
/-
  What the outputs' buffers hold at each position, in the reference's terms: the gradient of a block's queries, of the
  keys and values of the block before it, and the bias' gradient gathered so far.
-/
module

public import proofs.«01_k».proof.Proof.Value.Blocks

@[expose] public section

set_option maxRecDepth 131072

noncomputable section

namespace Cert.KernelIdeal.AttnValue

open Cert.KernelIdeal Cert.KernelIdeal.Gen Cert.KernelIdeal.Attn
open Idealize.ShloMosaic Idealize.ShloMosaic.TcCoe Idealize.SL.Sem
open Cert.AttnRow (Row)
open Cert.ReferenceIdeal.AttnValue (rrow gq gk gv gb gq_eq gk_eq gv_eq gb_eq)

variable (m : (ℓ : Loc nD τ sig) → Buf (Elt Ideal) ℓ) (c : Dev nD)

/-- At a position that works on a block, whatever the position before left. -/
theorem outs_work (t : Fin cfg0.N) (h : t.val % 17 ≤ 15) :
    outs m c t.val t.isLt = (B8 (F := Ideal) (grid0.coords t) ((hcond0_2 t).mpr h) (iblk m c 0 t) (iblk m c 1 t) (iblk m c 2 t) (iblk m c 3 t) (iblk m c 4 t) (iblk m c 5 t) (iblk m c 6 t) (iblk m c 7 t),
    B9 (F := Ideal) (grid0.coords t) ((hcond0_2 t).mpr h) (iblk m c 0 t) (iblk m c 1 t) (iblk m c 2 t) (iblk m c 3 t) (iblk m c 4 t) (iblk m c 5 t) (iblk m c 6 t) (iblk m c 7 t) (if t.val % 17 = 0 then k0_pay2 (F := Ideal) else (prev m c t).2.2.2.2.1),
    B10 (F := Ideal) (grid0.coords t) ((hcond0_2 t).mpr h) (iblk m c 0 t) (iblk m c 1 t) (iblk m c 2 t) (iblk m c 5 t) (iblk m c 6 t) (if t.val % 17 = 0 then k0_pay3 (F := Ideal) else (prev m c t).2.2.2.2.2),
    B11 (F := Ideal) (grid0.coords t) ((hcond0_2 t).mpr h) (iblk m c 0 t) (iblk m c 1 t) (iblk m c 2 t) (iblk m c 3 t) (iblk m c 4 t) (iblk m c 5 t) (iblk m c 6 t) (iblk m c 7 t) (if t.val % 68 = 0 then k0_pay1 (F := Ideal) else (prev m c t).2.2.2.1),
    BS0 (F := Ideal) (grid0.coords t) ((hcond0_2 t).mpr h) (iblk m c 0 t) (iblk m c 1 t) (iblk m c 2 t) (iblk m c 3 t) (iblk m c 4 t) (iblk m c 5 t) (iblk m c 6 t) (iblk m c 7 t),
    BS1 (F := Ideal) (grid0.coords t) ((hcond0_2 t).mpr h) (iblk m c 0 t) (iblk m c 1 t) (iblk m c 2 t) (iblk m c 5 t) (iblk m c 6 t)) := by
  by_cases h1 : t.val % 17 = 0
  · by_cases h0 : t.val % 68 = 0
    · rw [if_pos h1, if_pos h1, if_pos h0]; exact outs_A m c t h0 h1 h
    · rw [if_pos h1, if_pos h1, if_neg h0]; exact outs_D m c t h0 h1 h
  · rw [if_neg h1, if_neg h1, if_neg (by omega)]; exact outs_B m c t h1 h

theorem work_le (b : Fin 4) (n : Fin 16) : (wpos b n).val % 17 ≤ 15 := by rw [wpos_mod]; omega

/-- The position before. -/
theorem prev_eq (b : Fin 4) (n : ℕ) (hn : n + 1 < 17) :
    prev m c (pos b (n + 1) hn) = outs m c (pos b n (by omega)).val (pos b n (by omega)).isLt := by
  unfold prev
  congr 1

variable (V0 : Valuation Cert.ReferenceIdeal.τ Cert.ReferenceIdeal.sig (Elt Ideal)) (E : Same m c V0)
  (G : ∀ b n h r, (rrow V0 b n h r).Good)

/-- The sums a block adds to the keys' and the values' gradients: of its own rows over the key `k`. -/
abbrev sk (b : Fin 4) (n : Fin 16) (h : Fin 8) (k : Fin 256) (e : Fin 64) : EReal :=
  ∑ x, (rrow V0 b n h x).dsx k * (rrow V0 b n h x).q e
abbrev sv (b : Fin 4) (n : Fin 16) (h : Fin 8) (k : Fin 256) (e : Fin 64) : EReal :=
  ∑ x, (rrow V0 b n h x).p k * Ideal.div ((rrow V0 b n h x).d e) (rrow V0 b n h x).den

include E in
theorem sk_eq (b : Fin 4) (n : Fin 16) (p : Fin 4) (h : Fin 2) (k : Fin 256) (e : Fin 64) :
    ∑ x, (krow m c b n p h x).dsx k * (krow m c b n p h x).q e = sk V0 b n (head p h) k e :=
  Finset.sum_congr rfl fun x _ => by
    have A := alike m c V0 E b n p h x
    rw [A.dsx_eq, A.q]

include E in
theorem sv_eq (b : Fin 4) (n : Fin 16) (p : Fin 4) (h : Fin 2) (k : Fin 256) (e : Fin 64) :
    ∑ x, (krow m c b n p h x).p k * Ideal.div ((krow m c b n p h x).d e) (krow m c b n p h x).den = sv V0 b n (head p h) k e :=
  Finset.sum_congr rfl fun x _ => by
    have A := alike m c V0 E b n p h x
    rw [A.p_eq, A.d, A.den_eq]

section Entry

variable (b : Fin 4) (n : Fin 16) (p : Fin 4) (h : Fin 2) (r : Fin 128) (e : Fin 64)

include E G in
/-- The queries' gradient of a block. -/
theorem dq_work : (outs m c (wpos b n).val (wpos b n).isLt).1 (ix3 0 r (lane4 p h e))
    = gq V0 (ix3 b ⟨n * 128 + r, by omega⟩ ⟨(head p h).val * 64 + e, by omega⟩) := by
  rw [outs_work m c (wpos b n) (work_le b n), gq_eq V0 b n (head p h) r (G b n (head p h) r) e]
  refine (B8_apply (grid0.coords (wpos b n)) ((hcond0_2 (wpos b n)).mpr (work_le b n)) _ _ _ _ _ _ _ _ p h r e).trans ?_
  exact (alike m c V0 E b n p h r).dq_eq e

include E in
/-- The carries a block leaves. -/
theorem s0_work : (outs m c (wpos b n).val (wpos b n).isLt).2.2.2.2.1 (ix2 r (lane4 p h e))
    = sk V0 b n (head p h) ⟨128 + r, by omega⟩ e := by
  rw [outs_work m c (wpos b n) (work_le b n)]
  refine (BS0_apply (grid0.coords (wpos b n)) ((hcond0_2 (wpos b n)).mpr (work_le b n)) _ _ _ _ _ _ _ _ p h r e).trans ?_
  exact sk_eq m c V0 E b n p h _ e

include E in
theorem s1_work : (outs m c (wpos b n).val (wpos b n).isLt).2.2.2.2.2 (ix2 r (lane4 p h e))
    = sv V0 b n (head p h) ⟨128 + r, by omega⟩ e := by
  rw [outs_work m c (wpos b n) (work_le b n)]
  refine (BS1_apply (grid0.coords (wpos b n)) ((hcond0_2 (wpos b n)).mpr (work_le b n)) _ _ _ (iblk m c 3 (wpos b n)) (iblk m c 4 (wpos b n)) _ _ (iblk m c 7 (wpos b n)) p h r e).trans ?_
  exact sv_eq m c V0 E b n p h _ e

include E G in
/-- The keys' gradient of a block, complete one position later. -/
theorem dk_next : (outs m c (pos b (n.val + 1) (by omega)).val (pos b (n.val + 1) (by omega)).isLt).2.1 (ix3 0 r (lane4 p h e))
    = gk V0 (ix3 b ⟨n * 128 + r, by omega⟩ ⟨(head p h).val * 64 + e, by omega⟩) := by
  rw [gk_eq V0 b n (head p h) r (fun n r => G b n (head p h) r) e]
  by_cases hn : n.val < 15
  · rw [dif_pos hn]
    have hp := prev_eq m c b n.val (by omega)
    have hs := s0_work m c V0 E b n p h r e
    have hw := outs_work m c (wpos b ⟨n.val + 1, by omega⟩) (work_le b ⟨n.val + 1, by omega⟩)
    rw [if_neg (by rw [wpos_mod]; dsimp only; omega)] at hw
    refine (congrArg (fun s : State Ideal => s.2.1 (ix3 0 r (lane4 p h e))) hw).trans ?_
    refine (B9_apply (grid0.coords (wpos b ⟨n.val + 1, by omega⟩)) ((hcond0_2 (wpos b ⟨n.val + 1, by omega⟩)).mpr (work_le b ⟨n.val + 1, by omega⟩)) _ _ _ _ _ _ _ _ _ p h r e).trans ?_
    refine congrArg₂ (· + ·) ?_ ?_
    · refine (congrArg (fun s : State Ideal => s.2.2.2.2.1 (ix2 r (lane4 p h e))) hp).trans hs
    · have e1 : (⟨n.val + 1, by omega⟩ : Fin 16) = ⟨1 + n.val, by omega⟩ := Fin.ext (Nat.add_comm _ _)
      refine (sk_eq m c V0 E b ⟨n.val + 1, by omega⟩ p h _ e).trans ?_
      rw [e1]
  · rw [dif_neg hn, add_zero]
    have hp := prev_eq m c b n.val (by omega)
    have hs := s0_work m c V0 E b n p h r e
    rw [outs_C m c (pos b (n.val + 1) (by omega)) (by rw [pos_mod]; omega)]
    show k0_pay5 (F := Ideal) (prev m c (pos b (n.val + 1) (by omega))).2.2.2.2.1 (ix3 0 r (lane4 p h e)) = _
    rw [hp]
    generalize (outs m c (pos b n.val (by omega)).val (pos b n.val (by omega)).isLt) = s at hs ⊢
    pointwise [k0_pay5]
    exact hs

include E in
/-- The values' gradient likewise. -/
theorem dv_next : (outs m c (pos b (n.val + 1) (by omega)).val (pos b (n.val + 1) (by omega)).isLt).2.2.1 (ix3 0 r (lane4 p h e))
    = gv V0 (ix3 b ⟨n * 128 + r, by omega⟩ ⟨(head p h).val * 64 + e, by omega⟩) := by
  rw [gv_eq V0 b n (head p h) r e]
  by_cases hn : n.val < 15
  · rw [dif_pos hn]
    have hp := prev_eq m c b n.val (by omega)
    have hs := s1_work m c V0 E b n p h r e
    have hw := outs_work m c (wpos b ⟨n.val + 1, by omega⟩) (work_le b ⟨n.val + 1, by omega⟩)
    rw [if_neg (by rw [wpos_mod]; dsimp only; omega)] at hw
    refine (congrArg (fun s : State Ideal => s.2.2.1 (ix3 0 r (lane4 p h e))) hw).trans ?_
    rw [if_neg (by rw [wpos_mod]; dsimp only; omega)]
    refine (B10_apply (grid0.coords (wpos b ⟨n.val + 1, by omega⟩)) ((hcond0_2 (wpos b ⟨n.val + 1, by omega⟩)).mpr (work_le b ⟨n.val + 1, by omega⟩)) _ _ _ (iblk m c 3 (wpos b ⟨n.val + 1, by omega⟩)) (iblk m c 4 (wpos b ⟨n.val + 1, by omega⟩)) _ _ (iblk m c 7 (wpos b ⟨n.val + 1, by omega⟩)) _ p h r e).trans ?_
    refine congrArg₂ (· + ·) ?_ ?_
    · refine (congrArg (fun s : State Ideal => s.2.2.2.2.2 (ix2 r (lane4 p h e))) hp).trans hs
    · have e1 : (⟨n.val + 1, by omega⟩ : Fin 16) = ⟨1 + n.val, by omega⟩ := Fin.ext (Nat.add_comm _ _)
      refine (sv_eq m c V0 E b ⟨n.val + 1, by omega⟩ p h _ e).trans ?_
      rw [e1]
  · rw [dif_neg hn, add_zero]
    have hp := prev_eq m c b n.val (by omega)
    have hs := s1_work m c V0 E b n p h r e
    rw [outs_C m c (pos b (n.val + 1) (by omega)) (by rw [pos_mod]; omega)]
    show k0_pay6 (F := Ideal) (prev m c (pos b (n.val + 1) (by omega))).2.2.2.2.2 (ix3 0 r (lane4 p h e)) = _
    rw [hp]
    generalize (outs m c (pos b n.val (by omega)).val (pos b n.val (by omega)).isLt) = s at hs ⊢
    pointwise [k0_pay6]
    exact hs

end Entry

section Bias

variable (p : Fin 4) (h : Fin 2) (r : Fin 128) (k : Fin 256)

/-- What block `n` of sequence `b` adds to an entry of the bias' gradient. -/
def D (b n : ℕ) : EReal := if hb : b < 4 ∧ n < 16 then (rrow V0 ⟨b, hb.1⟩ ⟨n, hb.2⟩ (head p h) r).ds k else 0

/-- An entry of the bias' gradient gathered up to position `t`. -/
def upTo (t : ℕ) : EReal := (∑ b ∈ Finset.range (t / 17), ∑ n ∈ Finset.range 16, D V0 p h r k b n) + ∑ n ∈ Finset.range (min (t % 17 + 1) 16), D V0 p h r k (t / 17) n

/-- The bias' gradient a working position leaves. -/
theorem db_first (t : Fin cfg0.N) (hc : t.val % 17 ≤ 15) :
    (outs m c t.val t.isLt).2.2.2.1 = B11 (F := Ideal) (grid0.coords t) ((hcond0_2 t).mpr hc) (iblk m c 0 t) (iblk m c 1 t) (iblk m c 2 t) (iblk m c 3 t) (iblk m c 4 t) (iblk m c 5 t) (iblk m c 6 t) (iblk m c 7 t) (if t.val % 68 = 0 then k0_pay1 (F := Ideal) else (prev m c t).2.2.2.1) := by
  rw [outs_work m c t hc]

include E in
theorem db_work (b : Fin 4) (n : Fin 16) : (outs m c (wpos b n).val (wpos b n).isLt).2.2.2.1 (ix3 p r (col h k))
    = (if (wpos b n).val % 68 = 0 then 0 else (prev m c (wpos b n)).2.2.2.1 (ix3 p r (col h k))) + D V0 p h r k b.val n.val := by
  rw [db_first m c (wpos b n) (work_le b n)]
  refine (B11_apply (grid0.coords (wpos b n)) ((hcond0_2 (wpos b n)).mpr (work_le b n)) (iblk m c 0 (wpos b n)) (iblk m c 1 (wpos b n)) (iblk m c 2 (wpos b n)) (iblk m c 3 (wpos b n)) (iblk m c 4 (wpos b n)) (iblk m c 5 (wpos b n)) (iblk m c 6 (wpos b n)) (iblk m c 7 (wpos b n))
    (if (wpos b n).val % 68 = 0 then k0_pay1 (F := Ideal) else (prev m c (wpos b n)).2.2.2.1) p h r k).trans ?_
  refine congrArg₂ (· + ·) ?_ ?_
  · split
    · pointwise [k0_pay1]
    · rfl
  · unfold D
    rw [dif_pos ⟨b.isLt, n.isLt⟩]
    exact congrFun (alike m c V0 E b n p h r).ds_eq k

theorem upTo_next (t : ℕ) (ht : (t + 1) % 17 ≤ 15) :
    upTo V0 p h r k t + D V0 p h r k ((t + 1) / 17) ((t + 1) % 17) = upTo V0 p h r k (t + 1) := by
  unfold upTo
  by_cases h0 : (t + 1) % 17 = 0
  · have h1 : (t + 1) / 17 = t / 17 + 1 := by omega
    have h2 : min (t % 17 + 1) 16 = 16 := by omega
    have h3 : min (0 + 1) 16 = 1 := by omega
    rw [h0, h1, h2, h3, Finset.sum_range_succ (n := t / 17), Finset.sum_range_one]
  · have h1 : (t + 1) / 17 = t / 17 := by omega
    have h2 : min (t % 17 + 1) 16 = (t + 1) % 17 := by omega
    have h3 : min ((t + 1) % 17 + 1) 16 = (t + 1) % 17 + 1 := by omega
    rw [h1, h2, h3, Finset.sum_range_succ, add_assoc]

theorem upTo_stay (t : ℕ) (ht : ¬(t + 1) % 17 ≤ 15) : upTo V0 p h r k t = upTo V0 p h r k (t + 1) := by
  unfold upTo
  have h1 : (t + 1) / 17 = t / 17 := by omega
  have h2 : min (t % 17 + 1) 16 = 16 := by omega
  have h3 : min ((t + 1) % 17 + 1) 16 = 16 := by omega
  rw [h1, h2, h3]

include E in
/-- The bias' gradient at every position. -/
theorem db_at : ∀ (t : ℕ) (ht : t < cfg0.N), (outs m c t ht).2.2.2.1 (ix3 p r (col h k)) = upTo V0 p h r k t := by
  intro t
  have hN : cfg0.N = 68 := N_0
  induction t with
  | zero =>
    intro ht
    have hw := db_work m c V0 E p h r k 0 0
    refine (show _ = _ from hw).trans ?_
    rw [if_pos (by show (0 * 17 + 0) % 68 = 0; rfl), zero_add]
    unfold upTo
    simp
  | succ t ih =>
    intro ht
    by_cases h1 : (t + 1) % 17 ≤ 15
    · have hw := db_work m c V0 E p h r k ⟨(t + 1) / 17, by omega⟩ ⟨(t + 1) % 17, by omega⟩
      have he : wpos ⟨(t + 1) / 17, by omega⟩ ⟨(t + 1) % 17, by omega⟩ = (⟨t + 1, ht⟩ : Fin cfg0.N) := Fin.ext (by
        show (t + 1) / 17 * 17 + (t + 1) % 17 = t + 1; omega)
      rw [he] at hw
      refine (show _ = _ from hw).trans ?_
      rw [if_neg (by dsimp only; omega)]
      rw [show (prev m c ⟨t + 1, ht⟩).2.2.2.1 (ix3 p r (col h k)) = _ from ih (by omega)]
      exact upTo_next V0 p h r k t h1
    · have hw := outs_C m c ⟨t + 1, ht⟩ h1
      refine (congrArg (fun s : State Ideal => s.2.2.2.1 (ix3 p r (col h k))) hw).trans ?_
      exact (ih (by omega)).trans (upTo_stay V0 p h r k t h1)

include G in
/-- The whole gathered. -/
theorem upTo_last : upTo V0 p h r k 67 = gb V0 (ix3 p r ⟨h.val * 256 + k.val, by omega⟩) := by
  rw [gb_eq V0 r p h k (fun b n => G b n _ r)]
  unfold upTo
  rw [show 67 / 17 = 3 from rfl, show min (67 % 17 + 1) 16 = 16 from rfl,
    ← Finset.sum_range_succ (fun b => ∑ n ∈ Finset.range 16, D V0 p h r k b n) 3, Finset.sum_range]
  refine Finset.sum_congr rfl fun b _ => ?_
  rw [Finset.sum_range]
  refine Finset.sum_congr rfl fun n _ => ?_
  unfold D
  rw [dif_pos ⟨b.isLt, n.isLt⟩]

end Bias

end Cert.KernelIdeal.AttnValue
-- ==== Proof.Value.Final.lean ====
/-
  The four gradients after the run: each block of queries is written back once complete, each block of keys and values
  one position later, the bias' gradient at the end.
-/
module

public import proofs.«01_k».proof.Proof.Value.State
public import proofs.«01_k».proof.Defs
public import Idealize.ShloMosaic.Lib.Quiescent

@[expose] public section

set_option maxRecDepth 131072

noncomputable section

namespace Cert.KernelIdeal.AttnValue

open Cert.KernelIdeal Cert.KernelIdeal.Gen Cert.KernelIdeal.Attn
open Idealize.ShloMosaic Idealize.ShloMosaic.TcCoe Idealize.SL.Sem
open Cert.AttnRow (Row)
open Cert.ReferenceIdeal.AttnValue (rrow gq gk gv gb)

variable (m : (ℓ : Loc nD τ sig) → Buf (Elt Ideal) ℓ) (c : Dev nD)
variable (V0 : Valuation Cert.ReferenceIdeal.τ Cert.ReferenceIdeal.sig (Elt Ideal)) (E : Same m c V0)
  (G : ∀ b n h r, (rrow V0 b n h r).Good)

/-- A position in coordinates. -/
theorem eq_pos (t : Fin cfg0.N) : ∃ (b : Fin 4) (j : ℕ) (hj : j < 17), t = pos b j hj := by
  have hN : cfg0.N = 68 := N_0
  have ht := t.isLt
  exact ⟨⟨t.val / 17, by omega⟩, t.val % 17, by omega, Fin.ext (by show t.val = t.val / 17 * 17 + t.val % 17; omega)⟩

/-- A lane in coordinates: pair, head of the pair, component. -/
theorem eq_lane (x : Fin 512) : ∃ (p : Fin 4) (h : Fin 2) (e : Fin 64), x = lane4 p h e :=
  ⟨⟨x.val / 128, by omega⟩, ⟨x.val % 128 / 64, by omega⟩, ⟨x.val % 64, by omega⟩, Fin.ext (by
    show x.val = x.val / 128 * 128 + (x.val % 128 / 64 * 64 + x.val % 64); omega)⟩

/-- A column of the bias in coordinates. -/
theorem eq_col (x : Fin 512) : ∃ (h : Fin 2) (k : Fin 256), x = col h k :=
  ⟨⟨x.val / 256, by omega⟩, ⟨x.val % 256, by omega⟩, Fin.ext (by
    show x.val = x.val / 256 * 256 + x.val % 256; omega)⟩

include E G in
/-- The queries' gradient in its buffer; at the position after a sequence's last block it is still the last block's. -/
theorem dq_at (b : Fin 4) (j : ℕ) (hj : j < 17) (p : Fin 4) (h : Fin 2) (r : Fin 128) (e : Fin 64) :
    (outs m c (pos b j hj).val (pos b j hj).isLt).1 (ix3 0 r (lane4 p h e))
      = gq V0 (ix3 b ⟨min j 15 * 128 + r.val, by omega⟩ ⟨(head p h).val * 64 + e, by omega⟩) := by
  by_cases h15 : j ≤ 15
  · refine (dq_work m c V0 E G b ⟨j, by omega⟩ p h r e).trans ?_
    exact congrArg (fun y => gq V0 (ix3 b y _)) (Fin.ext (by show j * 128 + r.val = min j 15 * 128 + r.val; rw [Nat.min_eq_left h15]))
  · obtain rfl : j = 15 + 1 := by omega
    rw [outs_C m c (pos b (15 + 1) hj) (by rw [pos_mod]; omega)]
    show (prev m c (pos b (15 + 1) hj)).1 (ix3 0 r (lane4 p h e)) = _
    rw [prev_eq]
    exact dq_work m c V0 E G b ⟨15, by omega⟩ p h r e

theorem cut_8 (t : Fin cfg0.N) (X : FVec Ideal S1x128x512 .f32) (y : S1x128x512.Idx) :
    (show FVec Ideal S1x128x512 .f32 from (cfg0.win 8).cut (grid0.coords t) X) y = X y := rfl
theorem read_8 (t : Fin cfg0.N) (X : FVec Ideal S4x2048x512 .f32) (y : S1x128x512.Idx) :
    (show FVec Ideal S1x128x512 .f32 from ((cfg0.win 8).blk t).view.read (Elt Ideal) X) y = X (((cfg0.win 8).blk t).view.emb y) := rfl

include E G in
/-- What a position writes back of the queries' gradient is its block. -/
theorem flushed_8 (t : Fin cfg0.N) :
    (dats (F := Ideal) m 0 c).flushed 8 t = ((cfg0.win 8).blk t).view.read (Elt Ideal) (gq V0) := by
  show (cfg0.win 8).cut (grid0.coords t) ((dats (F := Ideal) m 0 c).after 8 t) = _
  rw [after0_8]
  obtain ⟨b, j, hj, rfl⟩ := eq_pos t
  refine funext fun (y : S1x128x512.Idx) => ?_
  obtain ⟨p, h, e, hx⟩ := eq_lane (y 2)
  have hy : y = ix3 0 (y 1) (lane4 p h e) := funext fun a => by
    match a with
    | ⟨0, _⟩ => exact Fin.ext (by show (y 0).val = 0; have h : (y 0).val < 1 := (y 0).isLt; omega)
    | ⟨1, _⟩ => rfl
    | ⟨2, _⟩ => exact hx
  refine (cut_8 (pos b j hj) _ y).trans (Eq.trans ?_ (read_8 (pos b j hj) (gq V0) y).symm)
  have hi := (places (pos b j hj)).2.2.2.2.2.2.2.2.1
  rw [pos_div, pos_mod] at hi
  have h0 : (y 0).val < 1 := (y 0).isLt
  refine (congrArg (outs (F := Ideal) m c (pos b j hj).val (pos b j hj).isLt).1 hy).trans ?_
  refine (dq_at m c V0 E G b j hj p h (y 1) e).trans ?_
  refine congrArg (gq V0) (funext fun a => Fin.ext ?_)
  match a with
  | ⟨0, _⟩ => show b.val = win0_8.index (pos b j hj) (0 : Fin 3) * 1 + 1 * (y 0).val; rw [hi]; show b.val = b.val * 1 + 1 * (y 0).val; omega
  | ⟨1, _⟩ => show min j 15 * 128 + (y 1).val = win0_8.index (pos b j hj) (1 : Fin 3) * 128 + 1 * (y 1).val; rw [hi]; show min j 15 * 128 + (y 1).val = min j 15 * 128 + 1 * (y 1).val; omega
  | ⟨2, _⟩ =>
    show (p.val * 2 + h.val) * 64 + e.val = win0_8.index (pos b j hj) (2 : Fin 3) * 512 + 1 * (y 2).val
    rw [hi, hx]; show (p.val * 2 + h.val) * 64 + e.val = 0 * 512 + 1 * (p.val * 128 + (h.val * 64 + e.val)); omega

theorem covered_8 (i : S4x2048x512.Idx) : ∃ t : Fin cfg0.N, (cfg0.win 8).flush t = true ∧ i ∈ ((cfg0.win 8).blk t).view.set := by
  have h0 : (i 0).val < 4 := (i 0).isLt
  have h1 : (i 1).val < 2048 := (i 1).isLt
  have h2 : (i 2).val < 512 := (i 2).isLt
  have hj : (if (i 1).val / 128 = 15 then 16 else (i 1).val / 128) < 17 := by split <;> omega
  refine ⟨pos ⟨(i 0).val, h0⟩ (if (i 1).val / 128 = 15 then 16 else (i 1).val / 128) hj, (flush0_8 _).mpr (by rw [pos_mod]; split <;> omega), ?_⟩
  show i ∈ ((View.whole main_v3_0).slice (win0_8.rect (pos ⟨(i 0).val, h0⟩ (if (i 1).val / 128 = 15 then 16 else (i 1).val / 128) hj))).set
  rw [View.set_slice_whole, Rect.mem_set_unit]
  have e := (places (pos ⟨(i 0).val, h0⟩ (if (i 1).val / 128 = 15 then 16 else (i 1).val / 128) hj)).2.2.2.2.2.2.2.2.1
  rw [pos_div, pos_mod] at e
  have hm : min (if (i 1).val / 128 = 15 then 16 else (i 1).val / 128) 15 = (i 1).val / 128 := by split <;> omega
  intro a
  match a with
  | ⟨0, _⟩ =>
    show win0_8.index (pos ⟨(i 0).val, h0⟩ (if (i 1).val / 128 = 15 then 16 else (i 1).val / 128) hj) (0 : Fin 3) * 1 ≤ (i 0).val ∧ (i 0).val < win0_8.index (pos ⟨(i 0).val, h0⟩ (if (i 1).val / 128 = 15 then 16 else (i 1).val / 128) hj) (0 : Fin 3) * 1 + 1
    rw [e]; show (i 0).val * 1 ≤ (i 0).val ∧ (i 0).val < (i 0).val * 1 + 1; omega
  | ⟨1, _⟩ =>
    show win0_8.index (pos ⟨(i 0).val, h0⟩ (if (i 1).val / 128 = 15 then 16 else (i 1).val / 128) hj) (1 : Fin 3) * 128 ≤ (i 1).val ∧ (i 1).val < win0_8.index (pos ⟨(i 0).val, h0⟩ (if (i 1).val / 128 = 15 then 16 else (i 1).val / 128) hj) (1 : Fin 3) * 128 + 128
    rw [e]; show (min (if (i 1).val / 128 = 15 then 16 else (i 1).val / 128) 15) * 128 ≤ (i 1).val ∧ (i 1).val < (min (if (i 1).val / 128 = 15 then 16 else (i 1).val / 128) 15) * 128 + 128; rw [hm]; omega
  | ⟨2, _⟩ =>
    show win0_8.index (pos ⟨(i 0).val, h0⟩ (if (i 1).val / 128 = 15 then 16 else (i 1).val / 128) hj) (2 : Fin 3) * 512 ≤ (i 2).val ∧ (i 2).val < win0_8.index (pos ⟨(i 0).val, h0⟩ (if (i 1).val / 128 = 15 then 16 else (i 1).val / 128) hj) (2 : Fin 3) * 512 + 512
    rw [e]; show 0 * 512 ≤ (i 2).val ∧ (i 2).val < 0 * 512 + 512; omega

include E G in
/-- The queries' gradient after the run is the reference's. -/
theorem final_8 : (dats (F := Ideal) m 0 c).arrAt 8 cfg0.N = gq V0 :=
  (dats (F := Ideal) m 0 c).arrAt_eq_of_cover 8 _ (fun t _ => flushed_8 m c V0 E G t) covered_8

theorem cut_9 (t : Fin cfg0.N) (X : FVec Ideal S1x128x512 .f32) (y : S1x128x512.Idx) :
    (show FVec Ideal S1x128x512 .f32 from (cfg0.win 9).cut (grid0.coords t) X) y = X y := rfl
theorem read_9 (t : Fin cfg0.N) (X : FVec Ideal S4x2048x512 .f32) (y : S1x128x512.Idx) :
    (show FVec Ideal S1x128x512 .f32 from ((cfg0.win 9).blk t).view.read (Elt Ideal) X) y = X (((cfg0.win 9).blk t).view.emb y) := rfl

include E G in
/-- What a position writes back of the keys' gradient is its block. -/
theorem flushed_9 (t : Fin cfg0.N) (hf : (cfg0.win 9).flush t = true) :
    (dats (F := Ideal) m 0 c).flushed 9 t = ((cfg0.win 9).blk t).view.read (Elt Ideal) (gk V0) := by
  show (cfg0.win 9).cut (grid0.coords t) ((dats (F := Ideal) m 0 c).after 9 t) = _
  rw [after0_9]
  obtain ⟨b, j, hj, rfl⟩ := eq_pos t
  have h0 : j ≠ 0 := fun h0 => (flush0_9 _).mp hf (by rw [pos_mod]; exact h0)
  obtain ⟨n, rfl⟩ : ∃ n, j = n + 1 := ⟨j - 1, by omega⟩
  refine funext fun (y : S1x128x512.Idx) => ?_
  obtain ⟨p, h, e, hx⟩ := eq_lane (y 2)
  have hy : y = ix3 0 (y 1) (lane4 p h e) := funext fun a => by
    match a with
    | ⟨0, _⟩ => exact Fin.ext (by show (y 0).val = 0; have h : (y 0).val < 1 := (y 0).isLt; omega)
    | ⟨1, _⟩ => rfl
    | ⟨2, _⟩ => exact hx
  refine (cut_9 (pos b (n + 1) hj) _ y).trans (Eq.trans ?_ (read_9 (pos b (n + 1) hj) (gk V0) y).symm)
  have hi := (places (pos b (n + 1) hj)).2.2.2.2.2.2.2.2.2.1
  rw [pos_div, pos_mod] at hi
  have h0 : (y 0).val < 1 := (y 0).isLt
  refine (congrArg (outs (F := Ideal) m c (pos b (n + 1) hj).val (pos b (n + 1) hj).isLt).2.1 hy).trans ?_
  refine (dk_next m c V0 E G b ⟨n, by omega⟩ p h (y 1) e).trans ?_
  refine congrArg (gk V0) (funext fun a => Fin.ext ?_)
  match a with
  | ⟨0, _⟩ => show b.val = win0_9.index (pos b (n + 1) hj) (0 : Fin 3) * 1 + 1 * (y 0).val; rw [hi]; show b.val = b.val * 1 + 1 * (y 0).val; omega
  | ⟨1, _⟩ => show n * 128 + (y 1).val = win0_9.index (pos b (n + 1) hj) (1 : Fin 3) * 128 + 1 * (y 1).val; rw [hi]; show n * 128 + (y 1).val = (n + 1 - 1) * 128 + 1 * (y 1).val; omega
  | ⟨2, _⟩ =>
    show (p.val * 2 + h.val) * 64 + e.val = win0_9.index (pos b (n + 1) hj) (2 : Fin 3) * 512 + 1 * (y 2).val
    rw [hi, hx]; show (p.val * 2 + h.val) * 64 + e.val = 0 * 512 + 1 * (p.val * 128 + (h.val * 64 + e.val)); omega

theorem covered_9 (i : S4x2048x512.Idx) : ∃ t : Fin cfg0.N, (cfg0.win 9).flush t = true ∧ i ∈ ((cfg0.win 9).blk t).view.set := by
  have h0 : (i 0).val < 4 := (i 0).isLt
  have h1 : (i 1).val < 2048 := (i 1).isLt
  have h2 : (i 2).val < 512 := (i 2).isLt
  have hj : ((i 1).val / 128 + 1) < 17 := by omega
  refine ⟨pos ⟨(i 0).val, h0⟩ ((i 1).val / 128 + 1) hj, (flush0_9 _).mpr (by rw [pos_mod]; omega), ?_⟩
  show i ∈ ((View.whole main_v3_1).slice (win0_9.rect (pos ⟨(i 0).val, h0⟩ ((i 1).val / 128 + 1) hj))).set
  rw [View.set_slice_whole, Rect.mem_set_unit]
  have e := (places (pos ⟨(i 0).val, h0⟩ ((i 1).val / 128 + 1) hj)).2.2.2.2.2.2.2.2.2.1
  rw [pos_div, pos_mod] at e
  have hm : ((i 1).val / 128 + 1) - 1 = (i 1).val / 128 := by omega
  intro a
  match a with
  | ⟨0, _⟩ =>
    show win0_9.index (pos ⟨(i 0).val, h0⟩ ((i 1).val / 128 + 1) hj) (0 : Fin 3) * 1 ≤ (i 0).val ∧ (i 0).val < win0_9.index (pos ⟨(i 0).val, h0⟩ ((i 1).val / 128 + 1) hj) (0 : Fin 3) * 1 + 1
    rw [e]; show (i 0).val * 1 ≤ (i 0).val ∧ (i 0).val < (i 0).val * 1 + 1; omega
  | ⟨1, _⟩ =>
    show win0_9.index (pos ⟨(i 0).val, h0⟩ ((i 1).val / 128 + 1) hj) (1 : Fin 3) * 128 ≤ (i 1).val ∧ (i 1).val < win0_9.index (pos ⟨(i 0).val, h0⟩ ((i 1).val / 128 + 1) hj) (1 : Fin 3) * 128 + 128
    rw [e]; show (((i 1).val / 128 + 1) - 1) * 128 ≤ (i 1).val ∧ (i 1).val < (((i 1).val / 128 + 1) - 1) * 128 + 128; rw [hm]; omega
  | ⟨2, _⟩ =>
    show win0_9.index (pos ⟨(i 0).val, h0⟩ ((i 1).val / 128 + 1) hj) (2 : Fin 3) * 512 ≤ (i 2).val ∧ (i 2).val < win0_9.index (pos ⟨(i 0).val, h0⟩ ((i 1).val / 128 + 1) hj) (2 : Fin 3) * 512 + 512
    rw [e]; show 0 * 512 ≤ (i 2).val ∧ (i 2).val < 0 * 512 + 512; omega

include E G in
/-- The keys' gradient after the run is the reference's. -/
theorem final_9 : (dats (F := Ideal) m 0 c).arrAt 9 cfg0.N = gk V0 :=
  (dats (F := Ideal) m 0 c).arrAt_eq_of_cover 9 _ (fun t hf => flushed_9 m c V0 E G t hf) covered_9

theorem cut_10 (t : Fin cfg0.N) (X : FVec Ideal S1x128x512 .f32) (y : S1x128x512.Idx) :
    (show FVec Ideal S1x128x512 .f32 from (cfg0.win 10).cut (grid0.coords t) X) y = X y := rfl
theorem read_10 (t : Fin cfg0.N) (X : FVec Ideal S4x2048x512 .f32) (y : S1x128x512.Idx) :
    (show FVec Ideal S1x128x512 .f32 from ((cfg0.win 10).blk t).view.read (Elt Ideal) X) y = X (((cfg0.win 10).blk t).view.emb y) := rfl

include E in
/-- What a position writes back of the values' gradient is its block. -/
theorem flushed_10 (t : Fin cfg0.N) (hf : (cfg0.win 10).flush t = true) :
    (dats (F := Ideal) m 0 c).flushed 10 t = ((cfg0.win 10).blk t).view.read (Elt Ideal) (gv V0) := by
  show (cfg0.win 10).cut (grid0.coords t) ((dats (F := Ideal) m 0 c).after 10 t) = _
  rw [after0_10]
  obtain ⟨b, j, hj, rfl⟩ := eq_pos t
  have h0 : j ≠ 0 := fun h0 => (flush0_10 _).mp hf (by rw [pos_mod]; exact h0)
  obtain ⟨n, rfl⟩ : ∃ n, j = n + 1 := ⟨j - 1, by omega⟩
  refine funext fun (y : S1x128x512.Idx) => ?_
  obtain ⟨p, h, e, hx⟩ := eq_lane (y 2)
  have hy : y = ix3 0 (y 1) (lane4 p h e) := funext fun a => by
    match a with
    | ⟨0, _⟩ => exact Fin.ext (by show (y 0).val = 0; have h : (y 0).val < 1 := (y 0).isLt; omega)
    | ⟨1, _⟩ => rfl
    | ⟨2, _⟩ => exact hx
  refine (cut_10 (pos b (n + 1) hj) _ y).trans (Eq.trans ?_ (read_10 (pos b (n + 1) hj) (gv V0) y).symm)
  have hi := (places (pos b (n + 1) hj)).2.2.2.2.2.2.2.2.2.2.1
  rw [pos_div, pos_mod] at hi
  have h0 : (y 0).val < 1 := (y 0).isLt
  refine (congrArg (outs (F := Ideal) m c (pos b (n + 1) hj).val (pos b (n + 1) hj).isLt).2.2.1 hy).trans ?_
  refine (dv_next m c V0 E b ⟨n, by omega⟩ p h (y 1) e).trans ?_
  refine congrArg (gv V0) (funext fun a => Fin.ext ?_)
  match a with
  | ⟨0, _⟩ => show b.val = win0_10.index (pos b (n + 1) hj) (0 : Fin 3) * 1 + 1 * (y 0).val; rw [hi]; show b.val = b.val * 1 + 1 * (y 0).val; omega
  | ⟨1, _⟩ => show n * 128 + (y 1).val = win0_10.index (pos b (n + 1) hj) (1 : Fin 3) * 128 + 1 * (y 1).val; rw [hi]; show n * 128 + (y 1).val = (n + 1 - 1) * 128 + 1 * (y 1).val; omega
  | ⟨2, _⟩ =>
    show (p.val * 2 + h.val) * 64 + e.val = win0_10.index (pos b (n + 1) hj) (2 : Fin 3) * 512 + 1 * (y 2).val
    rw [hi, hx]; show (p.val * 2 + h.val) * 64 + e.val = 0 * 512 + 1 * (p.val * 128 + (h.val * 64 + e.val)); omega

theorem covered_10 (i : S4x2048x512.Idx) : ∃ t : Fin cfg0.N, (cfg0.win 10).flush t = true ∧ i ∈ ((cfg0.win 10).blk t).view.set := by
  have h0 : (i 0).val < 4 := (i 0).isLt
  have h1 : (i 1).val < 2048 := (i 1).isLt
  have h2 : (i 2).val < 512 := (i 2).isLt
  have hj : ((i 1).val / 128 + 1) < 17 := by omega
  refine ⟨pos ⟨(i 0).val, h0⟩ ((i 1).val / 128 + 1) hj, (flush0_10 _).mpr (by rw [pos_mod]; omega), ?_⟩
  show i ∈ ((View.whole main_v3_2).slice (win0_10.rect (pos ⟨(i 0).val, h0⟩ ((i 1).val / 128 + 1) hj))).set
  rw [View.set_slice_whole, Rect.mem_set_unit]
  have e := (places (pos ⟨(i 0).val, h0⟩ ((i 1).val / 128 + 1) hj)).2.2.2.2.2.2.2.2.2.2.1
  rw [pos_div, pos_mod] at e
  have hm : ((i 1).val / 128 + 1) - 1 = (i 1).val / 128 := by omega
  intro a
  match a with
  | ⟨0, _⟩ =>
    show win0_10.index (pos ⟨(i 0).val, h0⟩ ((i 1).val / 128 + 1) hj) (0 : Fin 3) * 1 ≤ (i 0).val ∧ (i 0).val < win0_10.index (pos ⟨(i 0).val, h0⟩ ((i 1).val / 128 + 1) hj) (0 : Fin 3) * 1 + 1
    rw [e]; show (i 0).val * 1 ≤ (i 0).val ∧ (i 0).val < (i 0).val * 1 + 1; omega
  | ⟨1, _⟩ =>
    show win0_10.index (pos ⟨(i 0).val, h0⟩ ((i 1).val / 128 + 1) hj) (1 : Fin 3) * 128 ≤ (i 1).val ∧ (i 1).val < win0_10.index (pos ⟨(i 0).val, h0⟩ ((i 1).val / 128 + 1) hj) (1 : Fin 3) * 128 + 128
    rw [e]; show (((i 1).val / 128 + 1) - 1) * 128 ≤ (i 1).val ∧ (i 1).val < (((i 1).val / 128 + 1) - 1) * 128 + 128; rw [hm]; omega
  | ⟨2, _⟩ =>
    show win0_10.index (pos ⟨(i 0).val, h0⟩ ((i 1).val / 128 + 1) hj) (2 : Fin 3) * 512 ≤ (i 2).val ∧ (i 2).val < win0_10.index (pos ⟨(i 0).val, h0⟩ ((i 1).val / 128 + 1) hj) (2 : Fin 3) * 512 + 512
    rw [e]; show 0 * 512 ≤ (i 2).val ∧ (i 2).val < 0 * 512 + 512; omega

include E in
/-- The values' gradient after the run is the reference's. -/
theorem final_10 : (dats (F := Ideal) m 0 c).arrAt 10 cfg0.N = gv V0 :=
  (dats (F := Ideal) m 0 c).arrAt_eq_of_cover 10 _ (fun t hf => flushed_10 m c V0 E t hf) covered_10

theorem cut_11 (t : Fin cfg0.N) (X : FVec Ideal S4x128x512 .f32) (y : S4x128x512.Idx) :
    (show FVec Ideal S4x128x512 .f32 from (cfg0.win 11).cut (grid0.coords t) X) y = X y := rfl
theorem read_11 (t : Fin cfg0.N) (X : FVec Ideal S4x128x512 .f32) (y : S4x128x512.Idx) :
    (show FVec Ideal S4x128x512 .f32 from ((cfg0.win 11).blk t).view.read (Elt Ideal) X) y = X (((cfg0.win 11).blk t).view.emb y) := rfl

include E G in
/-- What is written back of the bias' gradient is all of it. -/
theorem flushed_11 (t : Fin cfg0.N) (hf : (cfg0.win 11).flush t = true) :
    (dats (F := Ideal) m 0 c).flushed 11 t = ((cfg0.win 11).blk t).view.read (Elt Ideal) (gb V0) := by
  have hN : cfg0.N = 68 := N_0
  have ht : t.val = 67 := by have := (flush0_11 t).mp hf; have := t.isLt; omega
  show (cfg0.win 11).cut (grid0.coords t) ((dats (F := Ideal) m 0 c).after 11 t) = _
  rw [after0_11]
  refine funext fun (y : S4x128x512.Idx) => ?_
  obtain ⟨h, k, hx⟩ := eq_col (y 2)
  have hy : y = ix3 (y 0) (y 1) (col h k) := funext fun a => by
    match a with
    | ⟨0, _⟩ => rfl
    | ⟨1, _⟩ => rfl
    | ⟨2, _⟩ => exact hx
  refine (cut_11 t _ y).trans (Eq.trans ?_ (read_11 t (gb V0) y).symm)
  have hi := (places t).2.2.2.2.2.2.2.2.2.2.2
  refine (congrArg (outs (F := Ideal) m c t.val t.isLt).2.2.2.1 hy).trans ?_
  refine (db_at m c V0 E (y 0) h (y 1) k t.val t.isLt).trans ?_
  rw [ht]
  refine (upTo_last V0 G (y 0) h (y 1) k).trans ?_
  refine congrArg (gb V0) (funext fun a => Fin.ext ?_)
  match a with
  | ⟨0, _⟩ => show (y 0).val = win0_11.index t (0 : Fin 3) * 4 + 1 * (y 0).val; rw [hi]; show (y 0).val = 0 * 4 + 1 * (y 0).val; omega
  | ⟨1, _⟩ => show (y 1).val = win0_11.index t (1 : Fin 3) * 128 + 1 * (y 1).val; rw [hi]; show (y 1).val = 0 * 128 + 1 * (y 1).val; omega
  | ⟨2, _⟩ =>
    show h.val * 256 + k.val = win0_11.index t (2 : Fin 3) * 512 + 1 * (y 2).val
    rw [hi, hx]; show h.val * 256 + k.val = 0 * 512 + 1 * (h.val * 256 + k.val); omega

/-- The very last position. -/
abbrev lastPos : Fin cfg0.N := pos 3 16 (by omega)

theorem covered_11 (i : S4x128x512.Idx) : ∃ t : Fin cfg0.N, (cfg0.win 11).flush t = true ∧ i ∈ ((cfg0.win 11).blk t).view.set := by
  have h0 : (i 0).val < 4 := (i 0).isLt
  have h1 : (i 1).val < 128 := (i 1).isLt
  have h2 : (i 2).val < 512 := (i 2).isLt
  refine ⟨lastPos, (flush0_11 _).mpr (by show (3 * 17 + 16) % 68 = 67; rfl), ?_⟩
  show i ∈ ((View.whole main_v3_3).slice (win0_11.rect lastPos)).set
  rw [View.set_slice_whole, Rect.mem_set_unit]
  have e := (places lastPos).2.2.2.2.2.2.2.2.2.2.2
  intro a
  match a with
  | ⟨0, _⟩ =>
    show win0_11.index lastPos (0 : Fin 3) * 4 ≤ (i 0).val ∧ (i 0).val < win0_11.index lastPos (0 : Fin 3) * 4 + 4
    rw [e]; show 0 * 4 ≤ (i 0).val ∧ (i 0).val < 0 * 4 + 4; omega
  | ⟨1, _⟩ =>
    show win0_11.index lastPos (1 : Fin 3) * 128 ≤ (i 1).val ∧ (i 1).val < win0_11.index lastPos (1 : Fin 3) * 128 + 128
    rw [e]; show 0 * 128 ≤ (i 1).val ∧ (i 1).val < 0 * 128 + 128; omega
  | ⟨2, _⟩ =>
    show win0_11.index lastPos (2 : Fin 3) * 512 ≤ (i 2).val ∧ (i 2).val < win0_11.index lastPos (2 : Fin 3) * 512 + 512
    rw [e]; show 0 * 512 ≤ (i 2).val ∧ (i 2).val < 0 * 512 + 512; omega

include E G in
/-- The bias' gradient after the run is the reference's. -/
theorem final_11 : (dats (F := Ideal) m 0 c).arrAt 11 cfg0.N = gb V0 :=
  (dats (F := Ideal) m 0 c).arrAt_eq_of_cover 11 _ (fun t hf => flushed_11 m c V0 E G t hf) covered_11

end Cert.KernelIdeal.AttnValue
-- ==== Proof.Value.Result.lean ====
/-
  The claim of values: with no infinite element among the four arguments the kernel's four gradients are the
  reference's.
-/
module

public import proofs.«01_k».proof.Proof.Value.Final

@[expose] public section

set_option maxRecDepth 131072

noncomputable section

namespace Cert.Proof.Attention

open Idealize.ShloMosaic Idealize.ShloMosaic.TcCoe Idealize.SL.Sem Idealize.ShloMosaic.StableHlo
open Cert.AttnRow (IsReal isReal_of_abs_lt)
open Cert.KernelIdeal.AttnValue

/-- The shape relations the precondition's operations take. -/
theorem factsFinite : Cert.Pre_finite.Facts where
  bcast_S_S4x2048x4608 := by decide
  bcast_S_S8x128x256 := by decide
  bcast_S_S4x2048x512 := by decide

theorem top_eq : Ideal.ofBits .f32 0x7F800000#32 = ⊤ := by simp [Ideal.ofBits, Ideal.ieee]

/-- An element whose absolute value is found below infinity is real. -/
theorem real_of {S : Shape} (x : FVec Ideal S .f32) (z : FVec Ideal S .f32) (hz : ∀ i, z i = Ideal.ofBits .f32 0x7F800000#32)
    (h : cmpf .olt (Host.absf x) z = fun _ => 1#1) (i : S.Idx) : IsReal (x i) := by
  have hi : BitVec.ofBool (decide (max (x i) (-(x i)) < z i)) = 1#1 := congrFun h i
  rw [hz, top_eq] at hi
  by_cases hx : max (x i) (-(x i)) < ⊤
  · exact isReal_of_abs_lt hx
  · rw [decide_eq_false hx] at hi
    exact absurd hi (by decide)

open Cert.KernelIdeal Cert.KernelIdeal.Gen in
/-- The run with each gradient's array named, the arguments unchanged. -/
theorem run_arrays (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3_0) = (Cert.KernelIdeal.Attn.dats (F := Ideal) m 0 c).arrAt 8 cfg0.N
      ∧ r.2.mem ((c : Thread nD τ).loc main_v3_1) = (Cert.KernelIdeal.Attn.dats (F := Ideal) m 0 c).arrAt 9 cfg0.N
      ∧ r.2.mem ((c : Thread nD τ).loc main_v3_2) = (Cert.KernelIdeal.Attn.dats (F := Ideal) m 0 c).arrAt 10 cfg0.N
      ∧ r.2.mem ((c : Thread nD τ).loc main_v3_3) = (Cert.KernelIdeal.Attn.dats (F := Ideal) m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h.1 c).1 8, (h.1 c).1 9, (h.1 c).1 10, (h.1 c).1 11, h.2.1 c⟩)
    (θ_run_and (Cert.KernelIdeal.Attn.run_main m ρ) (Cert.KernelIdeal.Attn.frame m ρ))

open Cert.ReferenceIdeal Cert.ReferenceIdeal.Gen Cert.ReferenceIdeal.Value Cert.ReferenceIdeal.AttnValue in
/-- The reference's run with its results by name, the arguments unchanged. -/
theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v172) = gq (launchContents m c)
      ∧ r.2.mem ((c : Thread nD τ).loc main_v173) = gk (launchContents m c)
      ∧ r.2.mem ((c : Thread nD τ).loc main_v174) = gv (launchContents m c)
      ∧ r.2.mem ((c : Thread nD τ).loc main_v177) = gb (launchContents m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono
    (fun _ h c => ⟨(h c).1.trans (val4_main_v172 _).symm, (h c).2.1.trans (val4_main_v173 _).symm,
      (h c).2.2.1.trans (val4_main_v174 _).symm, (h c).2.2.2.1.trans (val4_main_v177 _).symm, (h c).2.2.2.2⟩)
    (Cert.ReferenceIdeal.Value.run (F := Ideal) m ρ)

/-- With the arrays the same and the precondition kept every row is good. -/
theorem same_good (m : (ℓ : Loc Cert.KernelIdeal.nD Cert.KernelIdeal.τ Cert.KernelIdeal.sig) → Buf (Elt Ideal) ℓ) (c : Dev Cert.KernelIdeal.nD)
    (V0 : Valuation Cert.ReferenceIdeal.τ Cert.ReferenceIdeal.sig (Elt Ideal)) (E : Same m c V0)
    (hpre : letI := factsFinite; Cert.Pre_KernelIdeal_finite m) (b : Fin 4) (n : Fin 16) (h : Fin 8) (r : Fin 128) :
    (Cert.ReferenceIdeal.AttnValue.rrow V0 b n h r).Good := by
  have r0 : ∀ i, IsReal (A0 m c i) := real_of (A0 m c) _ (fun _ => rfl) (hpre c).1
  have r1 : ∀ i, IsReal (A1 m c i) := real_of (A1 m c) _ (fun _ => rfl) (hpre c).2.1
  have r2 : ∀ i, IsReal (A2 m c i) := real_of (A2 m c) _ (fun _ => rfl) (hpre c).2.2.1
  have r3 : ∀ i, IsReal (A3 m c i) := real_of (A3 m c) _ (fun _ => rfl) (hpre c).2.2.2
  rw [E.e0] at r0
  rw [E.e1] at r1
  rw [E.e2] at r2
  rw [E.e3] at r3
  exact Cert.ReferenceIdeal.AttnValue.good _ b n h r r0 r1 r2 r3

open Cert.ReferenceIdeal.AttnValue in
/-- Over the extended reals the kernel computes the reference's four gradients, no element of the arguments being
    infinite. -/
theorem algebraic : Cert.algebraic_KernelIdeal_ReferenceIdeal_pre_finite (hKernelIdeal := Cert.KernelIdeal.Gen.facts)
    (hReferenceIdeal := Cert.ReferenceIdeal.Gen.facts) (hPre_finite := factsFinite) := by
  intro m ρ m' ρ' hpre hagree
  have E : ∀ c : Dev Cert.KernelIdeal.nD, Same m c (launchContents m' c) := fun c =>
    ⟨(hagree c).1.symm, (hagree c).2.1.symm, (hagree c).2.2.1.symm, (hagree c).2.2.2.symm⟩
  have G := fun c => same_good m c _ (E c) hpre
  refine ⟨fun c => gq (launchContents m' c), fun c => gk (launchContents m' c), fun c => gv (launchContents m' c),
    fun c => gb (launchContents m' c), ?_, run_results m' ρ'⟩
  exact (θ_run Cert.KernelIdeal.defs _ _).mono
    (fun _ h c => ⟨(h c).1.trans (final_8 m c _ (E c) (G c)), (h c).2.1.trans (final_9 m c _ (E c) (G c)),
      (h c).2.2.1.trans (final_10 m c _ (E c)), (h c).2.2.2.1.trans (final_11 m c _ (E c) (G c)), (h c).2.2.2.2⟩)
    (run_arrays m ρ)

end Cert.Proof.Attention

end
-- ==== Proof.Ffn.Gates.lean ====
/-
  The gradients of the two gates of the feed-forward block, `silu(gate) * up`, from the gradient of the down projection's
  result. The kernel computes the logistic function as `(tanh(x/2) + 1) / 2` and its derivative as
  `(1 + tanh(x/2)) (1 - tanh(x/2)) / 4`; the reference computes `1 / (1 + exp(-x))` and its derivative by its own value.
-/
module

public import proofs.«01_k».proof.Defs
public import proofs.«01_k».proof.Proof.Gen.Kernel2.Frame
public import proofs.«01_k».proof.Proof.Gen.Kernel2Ideal.Value
public import proofs.«01_k».proof.Proof.Gen.Reference2Ideal.Run
public import proofs.«01_k».proof.Proof.Consts
public import Idealize.ShloMosaic.Lib.Quiescent
public import Idealize.ShloMosaic.Lib.Pointwise

@[expose] public section

set_option maxRecDepth 65536

noncomputable section

/-! ## The logistic function by the hyperbolic tangent -/

namespace Cert.Logistic

open Idealize.ShloMosaic

/-- Over the reals the logistic function is half of one plus the hyperbolic tangent of half the argument. -/
theorem real_eq (x : ℝ) : (1 + Real.exp (-x))⁻¹ = 1 / 2 * (Real.tanh (1 / 2 * x) + 1) := by
  rw [Real.tanh_eq_sinh_div_cosh, Real.sinh_eq, Real.cosh_eq]
  have h1 : 0 < Real.exp (1 / 2 * x) := Real.exp_pos _
  have h2 : 0 < Real.exp (-(1 / 2 * x)) := Real.exp_pos _
  have h3 : Real.exp (-x) = Real.exp (-(1 / 2 * x)) * Real.exp (-(1 / 2 * x)) := by rw [← Real.exp_add]; congr 1; ring
  have h4 : Real.exp (1 / 2 * x) * Real.exp (-(1 / 2 * x)) = 1 := by rw [← Real.exp_add]; simp
  rw [h3]
  generalize Real.exp (1 / 2 * x) = a at *
  generalize Real.exp (-(1 / 2 * x)) = b at *
  have h5 : a + b ≠ 0 := by positivity
  have h6 : 1 + b * b ≠ 0 := by positivity
  field_simp
  nlinarith

/-- The hyperbolic tangent of half an extended real is a real number, and the logistic function of the number is half of one
    plus it. -/
theorem exists_tanh (x : EReal) : ∃ t : ℝ, Ideal.tanh (((1 / 2 : ℝ) : EReal) * x) = (t : EReal) ∧ Ideal.logistic x = ((1 / 2 * (t + 1) : ℝ) : EReal) := by
  induction x with
  | bot =>
    refine ⟨-1, ?_, ?_⟩
    · rw [EReal.coe_mul_bot_of_pos (by norm_num)]; show (-1 : EReal) = _; norm_num
    · rw [Ideal.logistic_bot]; norm_num
  | top =>
    refine ⟨1, ?_, ?_⟩
    · rw [EReal.coe_mul_top_of_pos (by norm_num)]; show (1 : EReal) = _; norm_num
    · rw [Ideal.logistic_top]; norm_num
  | coe r =>
    refine ⟨Real.tanh (1 / 2 * r), ?_, ?_⟩
    · rw [← EReal.coe_mul]; rfl
    · rw [Ideal.logistic_coe, real_eq]

/-- The kernel's logistic function is the reference's. -/
theorem value_eq (x : EReal) : ((1 / 2 : ℝ) : EReal) * (Ideal.tanh (((1 / 2 : ℝ) : EReal) * x) + 1) = Ideal.logistic x := by
  obtain ⟨t, e1, e2⟩ := exists_tanh x
  rw [e1, e2, ← EReal.coe_one, ← EReal.coe_add, ← EReal.coe_mul]

/-- The kernel's product with the derivative of the logistic function is the reference's. -/
theorem deriv_eq (x w : EReal) : ((1 / 2 : ℝ) : EReal) * (((1 / 2 : ℝ) : EReal) * w
      * ((1 + Ideal.tanh (((1 / 2 : ℝ) : EReal) * x)) * (1 - Ideal.tanh (((1 / 2 : ℝ) : EReal) * x))))
    = w * (Ideal.logistic x * (1 - Ideal.logistic x)) := by
  obtain ⟨t, e1, e2⟩ := exists_tanh x
  rw [e1, e2, ← EReal.coe_one, ← EReal.coe_add, ← EReal.coe_sub, ← EReal.coe_sub, ← EReal.coe_mul, ← EReal.coe_mul,
    mul_comm (((1 / 2 : ℝ) : EReal)) w, mul_assoc w, ← mul_assoc (((1 / 2 : ℝ) : EReal)) w, mul_comm (((1 / 2 : ℝ) : EReal)) w, mul_assoc w,
    ← EReal.coe_mul, ← EReal.coe_mul]
  congr 2; ring

/-- The gradient of `silu(g) * u` in `g`, for the gradient `d` of the product. -/
def gateGrad (d g u : EReal) : EReal :=
  d * u * Ideal.logistic g + g * (d * u) * (Ideal.logistic g * (1 - Ideal.logistic g))

/-- The gradient of `silu(g) * u` in `u`, for the gradient `d` of the product. -/
def upGrad (d g : EReal) : EReal := g * Ideal.logistic g * d

end Cert.Logistic

/-! ## The kernel -/

namespace Cert.Kernel2Ideal.Result

open Cert.Kernel2Ideal Cert.Kernel2Ideal.Gen Cert.Kernel2Ideal.Value
open Idealize.ShloMosaic Idealize.ShloMosaic.TcCoe Idealize.SL.Sem

variable (m : (ℓ : Loc nD τ sig) → Buf (Elt Ideal) ℓ)

/-- The gate, the up projection, the down projection's weight and the gradient of its result. -/
abbrev gate (c : Dev nD) : FVec Ideal S8192x3072 .f32 := m ((c : Thread nD τ).loc main_arg0)
abbrev up (c : Dev nD) : FVec Ideal S8192x3072 .f32 := m ((c : Thread nD τ).loc main_arg1)
abbrev wdown (c : Dev nD) : FVec Ideal S3072x1024 .f32 := m ((c : Thread nD τ).loc main_arg2)
abbrev ct (c : Dev nD) : FVec Ideal S8192x1024 .f32 := m ((c : Thread nD τ).loc main_arg3)

/-- The four blocks a grid point reads. -/
abbrev blk0 (c : Dev nD) (t : Fin cfg0.N) : FVec Ideal S512x1024 .bf16 := iblk m c 0 t
abbrev blk1 (c : Dev nD) (t : Fin cfg0.N) : FVec Ideal S1536x1024 .bf16 := iblk m c 1 t
abbrev blk2 (c : Dev nD) (t : Fin cfg0.N) : FVec Ideal S512x1536 .bf16 := iblk m c 2 t
abbrev blk3 (c : Dev nD) (t : Fin cfg0.N) : FVec Ideal S512x1536 .bf16 := iblk m c 3 t

/-- The gradient of the product of the gates in a block. -/
theorem dprod_apply (x : FVec Ideal S512x1024 .bf16) (y : FVec Ideal S1536x1024 .bf16) (i : S512x1536.Idx) :
    k0_pay1 (F := Ideal) x y i = ∑ k : Fin 1024, x (ix2 (i 0) k) * y (ix2 (i 1) k) := by
  pointwise [k0_pay1]

/-- What the body computes for the gate's gradient. -/
theorem body4_apply (x : FVec Ideal S512x1024 .bf16) (y : FVec Ideal S1536x1024 .bf16) (g u : FVec Ideal S512x1536 .bf16)
    (i : S512x1536.Idx) :
    k0_pay5 (F := Ideal) x y g u i = Logistic.gateGrad (∑ k : Fin 1024, x (ix2 (i 0) k) * y (ix2 (i 1) k)) (g i) (u i) := by
  rw [← dprod_apply]
  unfold Logistic.gateGrad
  rw [← Logistic.deriv_eq, ← Logistic.value_eq, ← Consts.half]
  generalize hd : k0_pay1 (F := Ideal) x y = d
  pointwise [k0_pay5, k0_pay4, k0_pay3, k0_pay2, hd]

/-- What the body computes for the up projection's gradient. -/
theorem body5_apply (x : FVec Ideal S512x1024 .bf16) (y : FVec Ideal S1536x1024 .bf16) (g : FVec Ideal S512x1536 .bf16)
    (i : S512x1536.Idx) :
    k0_pay6 (F := Ideal) x y g i = Logistic.upGrad (∑ k : Fin 1024, x (ix2 (i 0) k) * y (ix2 (i 1) k)) (g i) := by
  rw [← dprod_apply]
  unfold Logistic.upGrad
  rw [← Logistic.value_eq, ← Consts.half]
  generalize hd : k0_pay1 (F := Ideal) x y = d
  pointwise [k0_pay6, k0_pay4, k0_pay3, k0_pay2, hd]

theorem hz : (![0, 0] : Fin 2 → Nat) = fun _ => 0 := funext fun a => by fin_cases a <;> rfl

/-- The blocks the body leaves are its two stores'. -/
theorem out4_eq (x : FVec Ideal S512x1024 .bf16) (y : FVec Ideal S1536x1024 .bf16) (g u : FVec Ideal S512x1536 .bf16) :
    out0_4 (F := Ideal) x y g u = k0_pay5 (F := Ideal) x y g u := by
  unfold out0_4
  rw [View.canon_unit_zero hz]
  simp only [View.ld_unit_zero (S := S512x1024) hz, View.ld_unit_zero (S := S1536x1024) hz, View.ld_unit_zero (S := S512x1536) hz]
theorem out5_eq (x : FVec Ideal S512x1024 .bf16) (y : FVec Ideal S1536x1024 .bf16) (g u : FVec Ideal S512x1536 .bf16) :
    out0_5 (F := Ideal) x y g u = k0_pay6 (F := Ideal) x y g := by
  unfold out0_5
  rw [View.canon_unit_zero hz]
  simp only [View.ld_unit_zero (S := S512x1024) hz, View.ld_unit_zero (S := S1536x1024) hz, View.ld_unit_zero (S := S512x1536) hz]

/-- What the inputs hold when the blocks are fetched: the arguments (the cast of a float is itself). -/
theorem entry0 (c : Dev nD) : V m c main_v0 = ct m c := by
  show StableHlo.after hostOps0 (fun b => m (c, b)) main_v0 = _
  after_results; rfl
theorem entry1 (c : Dev nD) : V m c main_v1 = wdown m c := by
  show StableHlo.after hostOps0 (fun b => m (c, b)) main_v1 = _
  after_results; rfl
theorem entry2 (c : Dev nD) : V m c main_v2 = gate m c := by
  show StableHlo.after hostOps0 (fun b => m (c, b)) main_v2 = _
  after_results; rfl
theorem entry3 (c : Dev nD) : V m c main_v3 = up m c := by
  show StableHlo.after hostOps0 (fun b => m (c, b)) main_v3 = _
  after_results; rfl

/-- Which blocks a grid point reads and writes. -/
theorem places : ∀ t : Fin cfg0.N, win0_0.index t = ![t.val % 16, 0] ∧ win0_1.index t = ![t.val / 16, 0]
    ∧ win0_2.index t = ![t.val % 16, t.val / 16] ∧ win0_3.index t = ![t.val % 16, t.val / 16]
    ∧ win0_4.index t = ![t.val % 16, t.val / 16] ∧ win0_5.index t = ![t.val % 16, t.val / 16] :=
  (by decide +kernel : ∀ t : Fin grid0.N, _)

/-- A token of a block is a token of the whole, and a column of a block a column of the whole. -/
theorem row_lt (t : Fin cfg0.N) (r : Fin 512) : t.val % 16 * 512 + r.val < 8192 := by omega
theorem col_lt (t : Fin cfg0.N) (s : Fin 1536) : t.val / 16 * 1536 + s.val < 3072 := by
  have := t.isLt; have hN : cfg0.N = 32 := N_0; omega

/-- The blocks at a grid point, in the arguments' own coordinates. -/
theorem block0 (c : Dev nD) (t : Fin cfg0.N) (r : Fin 512) (k : Fin 1024) :
    blk0 m c t (ix2 r k) = ct m c (ix2 ⟨t.val % 16 * 512 + r.val, row_lt t r⟩ k) := by
  rw [← entry0 m c]
  show V m c main_v0 (((cfg0.win 0).blk t).view.emb (ix2 r k)) = _
  have e := (places t).1
  refine congrArg _ (funext fun a => Fin.ext ?_)
  match a with
  | ⟨0, _⟩ => show win0_0.index t (0 : Fin 2) * 512 + 1 * r.val = _; rw [e]; show t.val % 16 * 512 + 1 * r.val = t.val % 16 * 512 + r.val; omega
  | ⟨1, _⟩ => show win0_0.index t (1 : Fin 2) * 1024 + 1 * k.val = _; rw [e]; show 0 * 1024 + 1 * k.val = k.val; omega
theorem block1 (c : Dev nD) (t : Fin cfg0.N) (s : Fin 1536) (k : Fin 1024) :
    blk1 m c t (ix2 s k) = wdown m c (ix2 ⟨t.val / 16 * 1536 + s.val, col_lt t s⟩ k) := by
  rw [← entry1 m c]
  show V m c main_v1 (((cfg0.win 1).blk t).view.emb (ix2 s k)) = _
  have e := (places t).2.1
  refine congrArg _ (funext fun a => Fin.ext ?_)
  match a with
  | ⟨0, _⟩ => show win0_1.index t (0 : Fin 2) * 1536 + 1 * s.val = _; rw [e]; show t.val / 16 * 1536 + 1 * s.val = t.val / 16 * 1536 + s.val; omega
  | ⟨1, _⟩ => show win0_1.index t (1 : Fin 2) * 1024 + 1 * k.val = _; rw [e]; show 0 * 1024 + 1 * k.val = k.val; omega
theorem block2 (c : Dev nD) (t : Fin cfg0.N) (i : S512x1536.Idx) :
    blk2 m c t i = gate m c (ix2 ⟨t.val % 16 * 512 + (i 0).val, row_lt t (i 0)⟩ ⟨t.val / 16 * 1536 + (i 1).val, col_lt t (i 1)⟩) := by
  rw [← entry2 m c]
  show V m c main_v2 (((cfg0.win 2).blk t).view.emb i) = _
  have e := (places t).2.2.1
  refine congrArg _ (funext fun a => Fin.ext ?_)
  match a with
  | ⟨0, _⟩ => show win0_2.index t (0 : Fin 2) * 512 + 1 * (i 0).val = _; rw [e]; show t.val % 16 * 512 + 1 * (i 0).val = t.val % 16 * 512 + (i 0).val; omega
  | ⟨1, _⟩ => show win0_2.index t (1 : Fin 2) * 1536 + 1 * (i 1).val = _; rw [e]; show t.val / 16 * 1536 + 1 * (i 1).val = t.val / 16 * 1536 + (i 1).val; omega
theorem block3 (c : Dev nD) (t : Fin cfg0.N) (i : S512x1536.Idx) :
    blk3 m c t i = up m c (ix2 ⟨t.val % 16 * 512 + (i 0).val, row_lt t (i 0)⟩ ⟨t.val / 16 * 1536 + (i 1).val, col_lt t (i 1)⟩) := by
  rw [← entry3 m c]
  show V m c main_v3 (((cfg0.win 3).blk t).view.emb i) = _
  have e := (places t).2.2.2.1
  refine congrArg _ (funext fun a => Fin.ext ?_)
  match a with
  | ⟨0, _⟩ => show win0_3.index t (0 : Fin 2) * 512 + 1 * (i 0).val = _; rw [e]; show t.val % 16 * 512 + 1 * (i 0).val = t.val % 16 * 512 + (i 0).val; omega
  | ⟨1, _⟩ => show win0_3.index t (1 : Fin 2) * 1536 + 1 * (i 1).val = _; rw [e]; show t.val / 16 * 1536 + 1 * (i 1).val = t.val / 16 * 1536 + (i 1).val; omega

/-- The gradient of the product of the gates, entry by entry. -/
def dprod (c : Dev nD) (i : S8192x3072.Idx) : EReal := ∑ k : Fin 1024, ct m c (ix2 (i 0) k) * wdown m c (ix2 (i 1) k)

/-- The two results, entry by entry. -/
def dgate (c : Dev nD) : FVec Ideal S8192x3072 .bf16 := fun i => Logistic.gateGrad (dprod m c i) (gate m c i) (up m c i)
def dup (c : Dev nD) : FVec Ideal S8192x3072 .bf16 := fun i => Logistic.upGrad (dprod m c i) (gate m c i)

/-- A block's gradient of the product of the gates is that of the whole, at the block's place. -/
theorem dprod_block (c : Dev nD) (t : Fin cfg0.N) (i : S512x1536.Idx) :
    (∑ k : Fin 1024, blk0 m c t (ix2 (i 0) k) * blk1 m c t (ix2 (i 1) k))
      = dprod m c (ix2 ⟨t.val % 16 * 512 + (i 0).val, row_lt t (i 0)⟩ ⟨t.val / 16 * 1536 + (i 1).val, col_lt t (i 1)⟩) :=
  Finset.sum_congr rfl fun k _ => congrArg₂ _ (block0 m c t (i 0) k) (block1 m c t (i 1) k)

/-- Where a grid point's blocks of the results lie. -/
theorem place4 (t : Fin cfg0.N) (y : S512x1536.Idx) : ((cfg0.win 4).blk t).view.emb y
    = (ix2 ⟨t.val % 16 * 512 + (y 0).val, row_lt t (y 0)⟩ ⟨t.val / 16 * 1536 + (y 1).val, col_lt t (y 1)⟩ : S8192x3072.Idx) := by
  have e := (places t).2.2.2.2.1
  refine funext fun a => Fin.ext ?_
  match a with
  | ⟨0, _⟩ => show win0_4.index t (0 : Fin 2) * 512 + 1 * (y 0).val = _; rw [e]; show t.val % 16 * 512 + 1 * (y 0).val = t.val % 16 * 512 + (y 0).val; omega
  | ⟨1, _⟩ => show win0_4.index t (1 : Fin 2) * 1536 + 1 * (y 1).val = _; rw [e]; show t.val / 16 * 1536 + 1 * (y 1).val = t.val / 16 * 1536 + (y 1).val; omega
theorem place5 (t : Fin cfg0.N) (y : S512x1536.Idx) : ((cfg0.win 5).blk t).view.emb y
    = (ix2 ⟨t.val % 16 * 512 + (y 0).val, row_lt t (y 0)⟩ ⟨t.val / 16 * 1536 + (y 1).val, col_lt t (y 1)⟩ : S8192x3072.Idx) := by
  have e := (places t).2.2.2.2.2
  refine funext fun a => Fin.ext ?_
  match a with
  | ⟨0, _⟩ => show win0_5.index t (0 : Fin 2) * 512 + 1 * (y 0).val = _; rw [e]; show t.val % 16 * 512 + 1 * (y 0).val = t.val % 16 * 512 + (y 0).val; omega
  | ⟨1, _⟩ => show win0_5.index t (1 : Fin 2) * 1536 + 1 * (y 1).val = _; rw [e]; show t.val / 16 * 1536 + 1 * (y 1).val = t.val / 16 * 1536 + (y 1).val; omega

/-- What a grid point writes back is its block of the gate's gradient … -/
theorem flushed4_eq (c : Dev nD) (t : Fin cfg0.N) : (dats m 0 c).flushed 4 t = ((cfg0.win 4).blk t).view.read (Elt Ideal) (dgate m c) := by
  rw [flushed4]
  refine (congrArg ((cfg0.win 4).cut (grid0.coords t)) (out4_eq (blk0 m c t) (blk1 m c t) (blk2 m c t) (blk3 m c t))).trans ?_
  funext y
  refine (body4_apply (blk0 m c t) (blk1 m c t) (blk2 m c t) (blk3 m c t) y).trans ?_
  show _ = dgate m c (((cfg0.win 4).blk t).view.emb y)
  rw [place4, dprod_block, block2, block3]
  rfl

/-- … and its block of the up projection's. -/
theorem flushed5_eq (c : Dev nD) (t : Fin cfg0.N) : (dats m 0 c).flushed 5 t = ((cfg0.win 5).blk t).view.read (Elt Ideal) (dup m c) := by
  rw [flushed5]
  refine (congrArg ((cfg0.win 5).cut (grid0.coords t)) (out5_eq (blk0 m c t) (blk1 m c t) (blk2 m c t) (blk3 m c t))).trans ?_
  funext y
  refine (body5_apply (blk0 m c t) (blk1 m c t) (blk2 m c t) y).trans ?_
  show _ = dup m c (((cfg0.win 5).blk t).view.emb y)
  rw [place5, dprod_block, block2]
  rfl

/-- Every entry is in some grid point's block. -/
theorem covered4 (i : S8192x3072.Idx) : ∃ t : Fin cfg0.N, (cfg0.win 4).flush t = true ∧ i ∈ ((cfg0.win 4).blk t).view.set := by
  have h0 : (i 0).val < 8192 := (i 0).isLt
  have h1 : (i 1).val < 3072 := (i 1).isLt
  have hN : cfg0.N = 32 := N_0
  have ht : (i 1).val / 1536 * 16 + (i 0).val / 512 < cfg0.N := by omega
  refine ⟨⟨(i 1).val / 1536 * 16 + (i 0).val / 512, ht⟩, flush0_4 _, ?_⟩
  have e := (places ⟨(i 1).val / 1536 * 16 + (i 0).val / 512, ht⟩).2.2.2.2.1
  generalize ht' : (⟨(i 1).val / 1536 * 16 + (i 0).val / 512, ht⟩ : Fin cfg0.N) = t at e
  have hv : t.val = (i 1).val / 1536 * 16 + (i 0).val / 512 := by rw [← ht']
  show i ∈ ((View.whole main_v4_0).slice (win0_4.rect t)).set
  rw [View.set_slice_whole, Rect.mem_set_unit]
  intro a
  match a with
  | ⟨0, _⟩ =>
    show win0_4.index t (0 : Fin 2) * 512 ≤ (i 0).val ∧ (i 0).val < win0_4.index t (0 : Fin 2) * 512 + 512
    rw [e]; show t.val % 16 * 512 ≤ (i 0).val ∧ (i 0).val < t.val % 16 * 512 + 512; omega
  | ⟨1, _⟩ =>
    show win0_4.index t (1 : Fin 2) * 1536 ≤ (i 1).val ∧ (i 1).val < win0_4.index t (1 : Fin 2) * 1536 + 1536
    rw [e]; show t.val / 16 * 1536 ≤ (i 1).val ∧ (i 1).val < t.val / 16 * 1536 + 1536; omega
theorem covered5 (i : S8192x3072.Idx) : ∃ t : Fin cfg0.N, (cfg0.win 5).flush t = true ∧ i ∈ ((cfg0.win 5).blk t).view.set := by
  have h0 : (i 0).val < 8192 := (i 0).isLt
  have h1 : (i 1).val < 3072 := (i 1).isLt
  have hN : cfg0.N = 32 := N_0
  have ht : (i 1).val / 1536 * 16 + (i 0).val / 512 < cfg0.N := by omega
  refine ⟨⟨(i 1).val / 1536 * 16 + (i 0).val / 512, ht⟩, flush0_5 _, ?_⟩
  have e := (places ⟨(i 1).val / 1536 * 16 + (i 0).val / 512, ht⟩).2.2.2.2.2
  generalize ht' : (⟨(i 1).val / 1536 * 16 + (i 0).val / 512, ht⟩ : Fin cfg0.N) = t at e
  have hv : t.val = (i 1).val / 1536 * 16 + (i 0).val / 512 := by rw [← ht']
  show i ∈ ((View.whole main_v4_1).slice (win0_5.rect t)).set
  rw [View.set_slice_whole, Rect.mem_set_unit]
  intro a
  match a with
  | ⟨0, _⟩ =>
    show win0_5.index t (0 : Fin 2) * 512 ≤ (i 0).val ∧ (i 0).val < win0_5.index t (0 : Fin 2) * 512 + 512
    rw [e]; show t.val % 16 * 512 ≤ (i 0).val ∧ (i 0).val < t.val % 16 * 512 + 512; omega
  | ⟨1, _⟩ =>
    show win0_5.index t (1 : Fin 2) * 1536 ≤ (i 1).val ∧ (i 1).val < win0_5.index t (1 : Fin 2) * 1536 + 1536
    rw [e]; show t.val / 16 * 1536 ≤ (i 1).val ∧ (i 1).val < t.val / 16 * 1536 + 1536; omega

/-- The arrays after the run are the two gradients. -/
theorem final4 (c : Dev nD) : (dats m 0 c).arrAt 4 cfg0.N = dgate m c :=
  (dats m 0 c).arrAt_eq_of_cover 4 _ (fun t _ => flushed4_eq m c t) covered4
theorem final5 (c : Dev nD) : (dats m 0 c).arrAt 5 cfg0.N = dup m c :=
  (dats m 0 c).arrAt_eq_of_cover 5 _ (fun t _ => flushed5_eq m c t) covered5

end Cert.Kernel2Ideal.Result

/-! ## The reference -/

namespace Cert.Reference2Ideal.Result

open Cert.Reference2Ideal Cert.Reference2Ideal.Gen
open Idealize.ShloMosaic

/-- The reference's gradient of the gate at an index. -/
theorem gate_apply (gate up : FVec Ideal S8192x3072 .f32) (wd : FVec Ideal S3072x1024 .f32) (ct : FVec Ideal S8192x1024 .f32) (i : S8192x3072.Idx) :
    (truncf .bf16 (addf (mulf (mulf (Host.dotGeneral dot_S8192x1024_S3072x1024_S8192x3072_1_1_0_0_n_n none ct wd) up) (Host.divf (broadcastInDim S8192x3072 ![] bcast_S_S8192x3072 (constant S_ .f32 0x3F800000#32)) (addf (broadcastInDim S8192x3072 ![] bcast_S_S8192x3072 (constant S_ .f32 0x3F800000#32)) (Host.exp (Host.negf gate))))) (mulf (mulf gate (mulf (Host.dotGeneral dot_S8192x1024_S3072x1024_S8192x3072_1_1_0_0_n_n none ct wd) up)) (mulf (Host.divf (broadcastInDim S8192x3072 ![] bcast_S_S8192x3072 (constant S_ .f32 0x3F800000#32)) (addf (broadcastInDim S8192x3072 ![] bcast_S_S8192x3072 (constant S_ .f32 0x3F800000#32)) (Host.exp (Host.negf gate)))) (subf (broadcastInDim S8192x3072 ![] bcast_S_S8192x3072 (constant S_ .f32 0x3F800000#32)) (Host.divf (broadcastInDim S8192x3072 ![] bcast_S_S8192x3072 (constant S_ .f32 0x3F800000#32)) (addf (broadcastInDim S8192x3072 ![] bcast_S_S8192x3072 (constant S_ .f32 0x3F800000#32)) (Host.exp (Host.negf gate)))))))) bitsLt_bf16_f32 : FVec Ideal S8192x3072 .bf16) i
      = Logistic.gateGrad (∑ k : Fin 1024, ct (ix2 (i 0) k) * wd (ix2 (i 1) k)) (gate i) (up i) := by
  unfold Logistic.gateGrad Ideal.logistic
  pointwise

/-- The reference's gradient of the up projection at an index. -/
theorem up_apply (gate : FVec Ideal S8192x3072 .f32) (wd : FVec Ideal S3072x1024 .f32) (ct : FVec Ideal S8192x1024 .f32) (i : S8192x3072.Idx) :
    (truncf .bf16 (mulf (mulf gate (Host.divf (broadcastInDim S8192x3072 ![] bcast_S_S8192x3072 (constant S_ .f32 0x3F800000#32)) (addf (broadcastInDim S8192x3072 ![] bcast_S_S8192x3072 (constant S_ .f32 0x3F800000#32)) (Host.exp (Host.negf gate))))) (Host.dotGeneral dot_S8192x1024_S3072x1024_S8192x3072_1_1_0_0_n_n none ct wd)) bitsLt_bf16_f32 : FVec Ideal S8192x3072 .bf16) i
      = Logistic.upGrad (∑ k : Fin 1024, ct (ix2 (i 0) k) * wd (ix2 (i 1) k)) (gate i) := by
  unfold Logistic.upGrad Ideal.logistic
  pointwise

end Cert.Reference2Ideal.Result

/-! ## The claims -/

namespace Cert.Proof.Gates

open Idealize.ShloMosaic Idealize.ShloMosaic.TcCoe Idealize.SL.Sem

/-- The kernel terminates without a fault, with its arguments unchanged and its counters at zero. -/
theorem frame_kernel : Cert.quiescent_Kernel2 (hKernel2 := Cert.Kernel2.Gen.facts) := fun m ρ _ => Cert.Kernel2.Gen.frame m ρ

/-- The same of the idealized kernel. -/
theorem frame_kernelIdeal : Cert.quiescent_Kernel2Ideal (hKernel2Ideal := Cert.Kernel2Ideal.Gen.facts) := fun m ρ _ => Cert.Kernel2Ideal.Gen.frame m ρ

/-- The same of the reference. -/
theorem frame_referenceIdeal : Cert.quiescent_Reference2Ideal (hReference2Ideal := Cert.Reference2Ideal.Gen.facts) := fun m ρ _ =>
  (θ_run Cert.Reference2Ideal.defs _ _).mono
    (fun r h => ⟨fun c => (h c).2.2, sem_eq_zero_of_no_sems (by decide) r.2⟩)
    (Cert.Reference2Ideal.Value.run (F := Ideal) m ρ)

/-- Over the extended reals the kernel computes the reference's two gradients. -/
theorem algebraic : Cert.algebraic_Kernel2Ideal_Reference2Ideal (hKernel2Ideal := Cert.Kernel2Ideal.Gen.facts) (hReference2Ideal := Cert.Reference2Ideal.Gen.facts) := by
  intro m ρ m' ρ' _ hagree
  refine ⟨_, _, Cert.Kernel2Ideal.Value.run_blocks (F := Ideal) m ρ, ?_⟩
  refine (θ_run Cert.Reference2Ideal.defs _ _).mono (fun _ h c => ⟨(h c).1.trans ?_, (h c).2.1.trans ?_, (h c).2.2⟩)
    (Cert.Reference2Ideal.Value.run (F := Ideal) m' ρ')
  · rw [(hagree c).1, (hagree c).2.1, (hagree c).2.2.1, (hagree c).2.2.2, Cert.Kernel2Ideal.Result.final4]
    funext i
    exact Cert.Reference2Ideal.Result.gate_apply _ _ _ _ i
  · rw [(hagree c).1, (hagree c).2.2.1, (hagree c).2.2.2, Cert.Kernel2Ideal.Result.final5]
    funext i
    exact Cert.Reference2Ideal.Result.up_apply _ _ _ i

end Cert.Proof.Gates

end
-- ==== Proof.Ffn.DownWeight.lean ====
/-
  The gradient of the down projection's weight: the product of a transposed matrix and a matrix, cut along the tokens into four blocks of 2048 rows whose
  products are added up in the result's block. The sum over the four blocks is the sum over all tokens.
-/
module

public import proofs.«01_k».proof.Defs
public import proofs.«01_k».proof.Proof.Gen.Kernel3.Frame
public import proofs.«01_k».proof.Proof.Gen.Kernel3Ideal.Value
public import proofs.«01_k».proof.Proof.Gen.Reference3Ideal.Run
public import Idealize.ShloMosaic.Lib.Quiescent
public import Idealize.ShloMosaic.Lib.Pointwise

@[expose] public section

set_option maxRecDepth 65536

noncomputable section

namespace Cert.Kernel3Ideal.Result

open Cert.Kernel3Ideal Cert.Kernel3Ideal.Gen Cert.Kernel3Ideal.Value
open Idealize.ShloMosaic Idealize.ShloMosaic.TcCoe Idealize.SL.Sem

variable (m : (ℓ : Loc nD τ sig) → Buf (Elt Ideal) ℓ)

/-- The first matrix. -/
abbrev arr0 (c : Dev nD) : FVec Ideal S8192x3072 .f32 := m ((c : Thread nD τ).loc main_arg0)

/-- The second matrix. -/
abbrev arr1 (c : Dev nD) : FVec Ideal S8192x1024 .f32 := m ((c : Thread nD τ).loc main_arg2)

/-- The first input's block at a grid point. -/
abbrev blk0 (c : Dev nD) (t : Fin cfg0.N) : FVec Ideal S2048x1536 .bf16 := iblk m c 0 t

/-- The second input's block at a grid point. -/
abbrev blk1 (c : Dev nD) (t : Fin cfg0.N) : FVec Ideal S2048x1024 .bf16 := iblk m c 1 t

/-- The kernel's result. -/
abbrev res (c : Dev nD) : FVec Ideal S3072x1024 .f32 := G2 m c

/-- The block the accumulator starts from is zero. -/
theorem zero_apply (i : S1536x1024.Idx) : k0_pay1 (F := Ideal) i = 0 := by
  pointwise [k0_pay1]

/-- A step adds, at each place of the block, the products of the two input blocks' rows. -/
theorem step_apply (acc : FVec Ideal S1536x1024 .f32) (x : FVec Ideal S2048x1536 .bf16) (y : FVec Ideal S2048x1024 .bf16)
    (i : S1536x1024.Idx) :
    k0_pay2 (F := Ideal) acc x y i = acc i + ∑ k : Fin 2048, x (ix2 k (i 0)) * y (ix2 k (i 1)) := by
  pointwise [k0_pay2]

/-- What the first input holds when the blocks are fetched: the first matrix (the cast of a float is itself). -/
theorem entry0 (c : Dev nD) : V m c main_v0 = arr0 m c := by
  show StableHlo.after hostOps0 (fun b => m (c, b)) main_v0 = _
  after_results; rfl

/-- What the second input holds when the blocks are fetched: the second matrix. -/
theorem entry1 (c : Dev nD) : V m c main_v1 = arr1 m c := by
  show StableHlo.after hostOps0 (fun b => m (c, b)) main_v1 = _
  after_results; rfl

/-- Which blocks a grid point reads. -/
theorem places : ∀ t : Fin cfg0.N, win0_0.index t (0 : Fin 2) = t.val % 4 ∧ win0_0.index t (1 : Fin 2) = t.val / 4
    ∧ win0_1.index t (0 : Fin 2) = t.val % 4 ∧ win0_1.index t (1 : Fin 2) = 0 :=
  (by decide +kernel : ∀ t : Fin grid0.N, _)

/-- The first input's block at a grid point, in the first matrix's own coordinates. -/
theorem block0 (c : Dev nD) (t : Fin cfg0.N) (k : Fin 2048) (r : Fin 1536) (h0 : t.val % 4 * 2048 + k.val < 8192)
    (h1 : (t.val / 4) * 1536 + r.val < 3072) :
    blk0 m c t (ix2 k r) = arr0 m c (ix2 ⟨t.val % 4 * 2048 + k.val, h0⟩ ⟨(t.val / 4) * 1536 + r.val, h1⟩) := by
  rw [← entry0 m c]
  show V m c main_v0 (((cfg0.win 0).blk t).view.emb (ix2 k r)) = _
  obtain ⟨e0, e1, -, -⟩ := places t
  refine congrArg _ (funext fun a => Fin.ext ?_)
  match a with
  | ⟨0, _⟩ => show win0_0.index t (0 : Fin 2) * 2048 + 1 * k.val = _; rw [e0]; show _ = t.val % 4 * 2048 + k.val; omega
  | ⟨1, _⟩ => show win0_0.index t (1 : Fin 2) * 1536 + 1 * r.val = _; rw [e1]; show _ = (t.val / 4) * 1536 + r.val; omega

/-- The second input's block at a grid point, in the second matrix's own coordinates. -/
theorem block1 (c : Dev nD) (t : Fin cfg0.N) (k : Fin 2048) (r : Fin 1024) (h0 : t.val % 4 * 2048 + k.val < 8192)
    (h1 : 0 * 1024 + r.val < 1024) :
    blk1 m c t (ix2 k r) = arr1 m c (ix2 ⟨t.val % 4 * 2048 + k.val, h0⟩ ⟨0 * 1024 + r.val, h1⟩) := by
  rw [← entry1 m c]
  show V m c main_v1 (((cfg0.win 1).blk t).view.emb (ix2 k r)) = _
  obtain ⟨-, -, e0, e1⟩ := places t
  refine congrArg _ (funext fun a => Fin.ext ?_)
  match a with
  | ⟨0, _⟩ => show win0_1.index t (0 : Fin 2) * 2048 + 1 * k.val = _; rw [e0]; show _ = t.val % 4 * 2048 + k.val; omega
  | ⟨1, _⟩ => show win0_1.index t (1 : Fin 2) * 1024 + 1 * r.val = _; rw [e1]; show _ = 0 * 1024 + r.val; omega

/-- What grid point `n` adds at a place of its block: the products over its 2048 rows. -/
def part (c : Dev nD) (n : ℕ) (i : S1536x1024.Idx) : EReal :=
  if h : n < cfg0.N then ∑ k : Fin 2048, blk0 m c ⟨n, h⟩ (ix2 k (i 0)) * blk1 m c ⟨n, h⟩ (ix2 k (i 1))
  else 0

/-- The block written back is the sum of what its four grid points add. -/
theorem sum_parts (c : Dev nD) (b : ℕ) (h : b + 3 < cfg0.N) (i : S1536x1024.Idx) :
    Pipeline.accAt (reset2 m c) (step2 m c) b 3 h i = ∑ s ∈ Finset.range 4, part m c (b + s) i := by
  refine (Pipeline.accAt_add_apply (β := EReal) (reset2 m c) (step2 m c) (fun _ => 0) (part m c) b 3 ?_ ?_ 3 le_rfl h i).trans (zero_add _)
  · intro hb i
    unfold part; rw [dif_pos hb]
    exact (step_apply _ _ _ i).trans (by rw [zero_apply])
  · intro n hn acc i _ _
    unfold part; rw [dif_pos hn]
    exact step_apply _ _ _ i

/-- The result of the kernel at an index, as one sum over all tokens. -/
theorem result_apply (c : Dev nD) (i : S3072x1024.Idx) :
    res m c i = ∑ k : Fin 8192, arr0 m c (ix2 k (i 0))
      * arr1 m c (ix2 k (i 1)) := by
  have hN : cfg0.N = 8 := N_0
  have hi0 : (i 0).val < 3072 := (i 0).isLt
  have hi1 : (i 1).val < 1024 := (i 1).isLt
  have hr : run2Of i < 2 := by show 1 * ((i 0).val / 1536 - 0) + 1 * ((i 1).val / 1024 - 0) < 2; omega
  unfold res G2
  rw [dif_pos (by omega), sum_parts, Finset.sum_range, Fin.sum_univ_tiles (N := 8192) 4 2048 rfl]
  refine Finset.sum_congr rfl fun s _ => ?_
  have hs : s.val < 4 := s.isLt
  have e4 : (4 * run2Of i + s.val) % 4 = s.val := by omega
  have e5 : (4 * run2Of i + s.val) / 4 = run2Of i := by omega
  unfold part; rw [dif_pos (by omega)]
  refine Finset.sum_congr rfl fun k _ => ?_
  have hk : k.val < 2048 := k.isLt
  refine congrArg₂ _ ((block0 m c _ k _ ?_ ?_).trans (congrArg _ (funext fun a => Fin.ext ?_)))
    ((block1 m c _ k _ ?_ ?_).trans (congrArg _ (funext fun a => Fin.ext ?_)))
  · show (4 * run2Of i + s.val) % 4 * 2048 + k.val < 8192; omega
  · show ((4 * run2Of i + s.val) / 4) * 1536 + (i 0).val % 1536 < 3072; rw [e5]; show (1 * ((i 0).val / 1536 - 0) + 1 * ((i 1).val / 1024 - 0)) * 1536 + _ < _; omega
  · match a with
    | ⟨0, _⟩ => show (4 * run2Of i + s.val) % 4 * 2048 + k.val = s.val * 2048 + k.val; omega
    | ⟨1, _⟩ => show ((4 * run2Of i + s.val) / 4) * 1536 + (i 0).val % 1536 = (i 0).val; rw [e5]; show (1 * ((i 0).val / 1536 - 0) + 1 * ((i 1).val / 1024 - 0)) * 1536 + _ = _; omega
  · show (4 * run2Of i + s.val) % 4 * 2048 + k.val < 8192; omega
  · show 0 * 1024 + (i 1).val % 1024 < 1024; omega
  · match a with
    | ⟨0, _⟩ => show (4 * run2Of i + s.val) % 4 * 2048 + k.val = s.val * 2048 + k.val; omega
    | ⟨1, _⟩ => show 0 * 1024 + (i 1).val % 1024 = (i 1).val; omega

end Cert.Kernel3Ideal.Result

namespace Cert.Reference3Ideal.Result

open Cert.Reference3Ideal Cert.Reference3Ideal.Gen
open Idealize.ShloMosaic

/-- The reference's result at an index: the same sum, its two factors in the other order. -/
theorem result_apply (x : FVec Ideal S8192x3072 .f32) (y : FVec Ideal S8192x1024 .f32) (i : S3072x1024.Idx) :
    transpose S3072x1024 [1, 0] (Host.dotGeneral dot_S8192x1024_S8192x3072_S1024x3072_0_0_1_1_n_n none y x) transposes_S1024x3072_S3072x1024_1_0 i
      = ∑ k : Fin 8192, x (ix2 k (i 0)) * y (ix2 k (i 1)) := by
  pointwise
  refine Finset.sum_congr rfl fun k _ => mul_comm _ _

end Cert.Reference3Ideal.Result

namespace Cert.Proof.DownWeight

open Idealize.ShloMosaic Idealize.ShloMosaic.TcCoe Idealize.SL.Sem

/-- The kernel terminates without a fault, with its arguments unchanged and its counters at zero. -/
theorem frame_kernel : Cert.quiescent_Kernel3 (hKernel3 := Cert.Kernel3.Gen.facts) := fun m ρ _ => Cert.Kernel3.Gen.frame m ρ

/-- The same of the idealized kernel. -/
theorem frame_kernelIdeal : Cert.quiescent_Kernel3Ideal (hKernel3Ideal := Cert.Kernel3Ideal.Gen.facts) := fun m ρ _ => Cert.Kernel3Ideal.Gen.frame m ρ

/-- The same of the reference. -/
theorem frame_referenceIdeal : Cert.quiescent_Reference3Ideal (hReference3Ideal := Cert.Reference3Ideal.Gen.facts) := fun m ρ _ =>
  (θ_run Cert.Reference3Ideal.defs _ _).mono
    (fun r h => ⟨fun c => (h c).2, sem_eq_zero_of_no_sems (by decide) r.2⟩)
    (Cert.Reference3Ideal.Value.run (F := Ideal) m ρ)

/-- Over the extended reals the kernel computes the reference's matrix. -/
theorem algebraic : Cert.algebraic_Kernel3Ideal_Reference3Ideal (hKernel3Ideal := Cert.Kernel3Ideal.Gen.facts) (hReference3Ideal := Cert.Reference3Ideal.Gen.facts) := by
  intro m ρ m' ρ' _ hagree
  refine ⟨_, Cert.Kernel3Ideal.Value.run (F := Ideal) m ρ, ?_⟩
  refine (θ_run Cert.Reference3Ideal.defs _ _).mono (fun _ h c => ⟨(h c).1.trans ?_, (h c).2⟩)
    (Cert.Reference3Ideal.Value.run (F := Ideal) m' ρ')
  rw [(hagree c).1, (hagree c).2.2]
  funext i
  exact (Cert.Reference3Ideal.Result.result_apply _ _ i).trans (Cert.Kernel3Ideal.Result.result_apply m c i).symm

end Cert.Proof.DownWeight

end
-- ==== Proof.Ffn.Input.lean ====
/-
  The gradient of the feed-forward block's input: the sum of two products with transposed weights, computed 512 tokens
  at a time. The kernel adds the gate's product and the up projection's product in the other order than the reference.
-/
module

public import proofs.«01_k».proof.Defs
public import proofs.«01_k».proof.Proof.Gen.Kernel4.Frame
public import proofs.«01_k».proof.Proof.Gen.Kernel4Ideal.Value
public import proofs.«01_k».proof.Proof.Gen.Reference4Ideal.Run
public import Idealize.ShloMosaic.Lib.Quiescent
public import Idealize.ShloMosaic.Lib.Pointwise

@[expose] public section

set_option maxRecDepth 65536

noncomputable section

namespace Cert.Kernel4Ideal.Result

open Cert.Kernel4Ideal Cert.Kernel4Ideal.Gen Cert.Kernel4Ideal.Value
open Idealize.ShloMosaic Idealize.ShloMosaic.TcCoe Idealize.SL.Sem

variable (m : (ℓ : Loc nD τ sig) → Buf (Elt Ideal) ℓ)

/-- The gate projection's weight. -/
abbrev wgate (c : Dev nD) : FVec Ideal S1024x3072 .f32 := m ((c : Thread nD τ).loc main_arg1)

/-- The up projection's weight. -/
abbrev wup (c : Dev nD) : FVec Ideal S1024x3072 .f32 := m ((c : Thread nD τ).loc main_arg2)

/-- The gradient of the gate projection's result. -/
abbrev dgate (c : Dev nD) : FVec Ideal S8192x3072 .f32 := m ((c : Thread nD τ).loc main_arg3)

/-- The gradient of the up projection's result. -/
abbrev dup (c : Dev nD) : FVec Ideal S8192x3072 .f32 := m ((c : Thread nD τ).loc main_arg4)

/-- The four blocks a grid point reads. -/
abbrev blk0 (c : Dev nD) (t : Fin cfg0.N) : FVec Ideal S512x3072 .bf16 := iblk m c 0 t
abbrev blk1 (c : Dev nD) (t : Fin cfg0.N) : FVec Ideal S1024x3072 .bf16 := iblk m c 1 t
abbrev blk2 (c : Dev nD) (t : Fin cfg0.N) : FVec Ideal S512x3072 .bf16 := iblk m c 2 t
abbrev blk3 (c : Dev nD) (t : Fin cfg0.N) : FVec Ideal S1024x3072 .bf16 := iblk m c 3 t

/-- What the body computes of its four blocks: at each place, two rows' products with two rows. -/
theorem body_apply (x : FVec Ideal S512x3072 .bf16) (y : FVec Ideal S1024x3072 .bf16) (u : FVec Ideal S512x3072 .bf16)
    (v : FVec Ideal S1024x3072 .bf16) (i : S512x1024.Idx) :
    k0_pay1 (F := Ideal) x y u v i = (∑ k : Fin 3072, x (ix2 (i 0) k) * y (ix2 (i 1) k)) + ∑ k : Fin 3072, u (ix2 (i 0) k) * v (ix2 (i 1) k) := by
  pointwise [k0_pay1]

/-- The block the body leaves is its one store's. -/
theorem out_apply (x : FVec Ideal S512x3072 .bf16) (y : FVec Ideal S1024x3072 .bf16) (u : FVec Ideal S512x3072 .bf16)
    (v : FVec Ideal S1024x3072 .bf16) : out0_4 (F := Ideal) x y u v = k0_pay1 (F := Ideal) x y u v := by
  have hz : (![0, 0] : Fin 2 → Nat) = fun _ => 0 := funext fun a => by fin_cases a <;> rfl
  unfold out0_4
  rw [View.canon_unit_zero hz]
  simp only [View.ld_unit_zero (S := S512x3072) hz, View.ld_unit_zero (S := S1024x3072) hz]

/-- What the inputs hold when the blocks are fetched: the arguments (the cast of a float is itself). -/
theorem entry0 (c : Dev nD) : V m c main_v0 = dgate m c := by
  show StableHlo.after hostOps0 (fun b => m (c, b)) main_v0 = _
  after_results; rfl
theorem entry1 (c : Dev nD) : V m c main_v1 = wgate m c := by
  show StableHlo.after hostOps0 (fun b => m (c, b)) main_v1 = _
  after_results; rfl
theorem entry2 (c : Dev nD) : V m c main_v2 = dup m c := by
  show StableHlo.after hostOps0 (fun b => m (c, b)) main_v2 = _
  after_results; rfl
theorem entry3 (c : Dev nD) : V m c main_v3 = wup m c := by
  show StableHlo.after hostOps0 (fun b => m (c, b)) main_v3 = _
  after_results; rfl

/-- Which blocks a grid point reads and writes. -/
theorem places : ∀ t : Fin cfg0.N, win0_0.index t = ![t.val, 0] ∧ win0_1.index t = ![0, 0] ∧ win0_2.index t = ![t.val, 0]
    ∧ win0_3.index t = ![0, 0] ∧ win0_4.index t = ![t.val, 0] :=
  (by decide +kernel : ∀ t : Fin grid0.N, _)

/-- A token of a block is a token of the whole. -/
theorem row_lt (t : Fin cfg0.N) (r : Fin 512) : t.val * 512 + r.val < 8192 := by
  have := t.isLt; have hN : cfg0.N = 16 := N_0; omega

/-- The two gradients' blocks at a grid point, in the gradients' own coordinates. -/
theorem block0 (c : Dev nD) (t : Fin cfg0.N) (r : Fin 512) (k : Fin 3072) :
    blk0 m c t (ix2 r k) = dgate m c (ix2 ⟨t.val * 512 + r.val, row_lt t r⟩ k) := by
  rw [← entry0 m c]
  show V m c main_v0 (((cfg0.win 0).blk t).view.emb (ix2 r k)) = _
  have e := (places t).1
  refine congrArg _ (funext fun a => Fin.ext ?_)
  match a with
  | ⟨0, _⟩ => show win0_0.index t (0 : Fin 2) * 512 + 1 * r.val = _; rw [e]; show t.val * 512 + 1 * r.val = t.val * 512 + r.val; omega
  | ⟨1, _⟩ => show win0_0.index t (1 : Fin 2) * 3072 + 1 * k.val = _; rw [e]; show 0 * 3072 + 1 * k.val = k.val; omega
theorem block2 (c : Dev nD) (t : Fin cfg0.N) (r : Fin 512) (k : Fin 3072) :
    blk2 m c t (ix2 r k) = dup m c (ix2 ⟨t.val * 512 + r.val, row_lt t r⟩ k) := by
  rw [← entry2 m c]
  show V m c main_v2 (((cfg0.win 2).blk t).view.emb (ix2 r k)) = _
  have e := (places t).2.2.1
  refine congrArg _ (funext fun a => Fin.ext ?_)
  match a with
  | ⟨0, _⟩ => show win0_2.index t (0 : Fin 2) * 512 + 1 * r.val = _; rw [e]; show t.val * 512 + 1 * r.val = t.val * 512 + r.val; omega
  | ⟨1, _⟩ => show win0_2.index t (1 : Fin 2) * 3072 + 1 * k.val = _; rw [e]; show 0 * 3072 + 1 * k.val = k.val; omega

/-- The two weights' blocks are the weights. -/
theorem block1 (c : Dev nD) (t : Fin cfg0.N) (r : Fin 1024) (k : Fin 3072) : blk1 m c t (ix2 r k) = wgate m c (ix2 r k) := by
  rw [← entry1 m c]
  show V m c main_v1 (((cfg0.win 1).blk t).view.emb (ix2 r k)) = _
  have e := (places t).2.1
  refine congrArg _ (funext fun a => Fin.ext ?_)
  match a with
  | ⟨0, _⟩ => show win0_1.index t (0 : Fin 2) * 1024 + 1 * r.val = _; rw [e]; show 0 * 1024 + 1 * r.val = r.val; omega
  | ⟨1, _⟩ => show win0_1.index t (1 : Fin 2) * 3072 + 1 * k.val = _; rw [e]; show 0 * 3072 + 1 * k.val = k.val; omega
theorem block3 (c : Dev nD) (t : Fin cfg0.N) (r : Fin 1024) (k : Fin 3072) : blk3 m c t (ix2 r k) = wup m c (ix2 r k) := by
  rw [← entry3 m c]
  show V m c main_v3 (((cfg0.win 3).blk t).view.emb (ix2 r k)) = _
  have e := (places t).2.2.2.1
  refine congrArg _ (funext fun a => Fin.ext ?_)
  match a with
  | ⟨0, _⟩ => show win0_3.index t (0 : Fin 2) * 1024 + 1 * r.val = _; rw [e]; show 0 * 1024 + 1 * r.val = r.val; omega
  | ⟨1, _⟩ => show win0_3.index t (1 : Fin 2) * 3072 + 1 * k.val = _; rw [e]; show 0 * 3072 + 1 * k.val = k.val; omega

/-- The gradient of the input, entry by entry. -/
def grad (c : Dev nD) : FVec Ideal S8192x1024 .f32 := fun i =>
  (∑ k : Fin 3072, dgate m c (ix2 (i 0) k) * wgate m c (ix2 (i 1) k)) + ∑ k : Fin 3072, dup m c (ix2 (i 0) k) * wup m c (ix2 (i 1) k)

/-- What a grid point writes back is its block of the gradient. -/
theorem flushed_eq (c : Dev nD) (t : Fin cfg0.N) :
    (dats m 0 c).flushed 4 t = ((cfg0.win 4).blk t).view.read (Elt Ideal) (grad m c) := by
  rw [flushed4]
  refine (congrArg ((cfg0.win 4).cut (grid0.coords t)) (out_apply (blk0 m c t) (blk1 m c t) (blk2 m c t) (blk3 m c t))).trans ?_
  funext y
  have e := (places t).2.2.2.2
  have e0 : ((cfg0.win 4).blk t).view.emb y (0 : Fin 2) = (⟨t.val * 512 + (y 0).val, row_lt t (y 0)⟩ : Fin 8192) := Fin.ext (by
    show win0_4.index t (0 : Fin 2) * 512 + 1 * (y 0).val = _; rw [e]; show t.val * 512 + 1 * (y 0).val = t.val * 512 + (y 0).val; omega)
  have e1 : ((cfg0.win 4).blk t).view.emb y (1 : Fin 2) = (y 1 : Fin 1024) := Fin.ext (by
    show win0_4.index t (1 : Fin 2) * 1024 + 1 * (y 1).val = _; rw [e]; show 0 * 1024 + 1 * (y 1).val = (y 1).val; omega)
  refine (body_apply (blk0 m c t) (blk1 m c t) (blk2 m c t) (blk3 m c t) y).trans ?_
  show _ = grad m c (((cfg0.win 4).blk t).view.emb y)
  unfold grad
  rw [e0, e1]
  refine congrArg₂ _ (Finset.sum_congr rfl fun k _ => ?_) (Finset.sum_congr rfl fun k _ => ?_)
  · exact congrArg₂ _ (block0 m c t (y 0) k) (block1 m c t (y 1) k)
  · exact congrArg₂ _ (block2 m c t (y 0) k) (block3 m c t (y 1) k)

/-- Every entry is in the block of the grid point that computes its 512 tokens. -/
theorem covered (i : S8192x1024.Idx) : ∃ t : Fin cfg0.N, (cfg0.win 4).flush t = true ∧ i ∈ ((cfg0.win 4).blk t).view.set := by
  have h0 : (i 0).val < 8192 := (i 0).isLt
  have h1 : (i 1).val < 1024 := (i 1).isLt
  have hN : cfg0.N = 16 := N_0
  have ht : (i 0).val / 512 < cfg0.N := by omega
  refine ⟨⟨(i 0).val / 512, ht⟩, flush0_4 _, ?_⟩
  show i ∈ ((View.whole main_v4).slice (win0_4.rect ⟨(i 0).val / 512, ht⟩)).set
  rw [View.set_slice_whole, Rect.mem_set_unit]
  have e := (places ⟨(i 0).val / 512, ht⟩).2.2.2.2
  intro a
  match a with
  | ⟨0, _⟩ =>
    show win0_4.index ⟨(i 0).val / 512, ht⟩ (0 : Fin 2) * 512 ≤ (i 0).val ∧ (i 0).val < win0_4.index ⟨(i 0).val / 512, ht⟩ (0 : Fin 2) * 512 + 512
    rw [e]; show (i 0).val / 512 * 512 ≤ (i 0).val ∧ (i 0).val < (i 0).val / 512 * 512 + 512; omega
  | ⟨1, _⟩ =>
    show win0_4.index ⟨(i 0).val / 512, ht⟩ (1 : Fin 2) * 1024 ≤ (i 1).val ∧ (i 1).val < win0_4.index ⟨(i 0).val / 512, ht⟩ (1 : Fin 2) * 1024 + 1024
    rw [e]; show 0 * 1024 ≤ (i 1).val ∧ (i 1).val < 0 * 1024 + 1024; omega

/-- The array after the run is the gradient: the blocks of 512 tokens tile it. -/
theorem final (c : Dev nD) : (dats m 0 c).arrAt 4 cfg0.N = grad m c :=
  (dats m 0 c).arrAt_eq_of_cover 4 _ (fun t _ => flushed_eq m c t) covered

end Cert.Kernel4Ideal.Result

namespace Cert.Reference4Ideal.Result

open Cert.Reference4Ideal Cert.Reference4Ideal.Gen
open Idealize.ShloMosaic

/-- The reference's result at an index. -/
theorem result_apply (wg wu : FVec Ideal S1024x3072 .f32) (dg du : FVec Ideal S8192x3072 .f32) (i : S8192x1024.Idx) :
    addf (Host.dotGeneral dot_S8192x3072_S1024x3072_S8192x1024_1_1_0_0_n_n none du wu)
        (Host.dotGeneral dot_S8192x3072_S1024x3072_S8192x1024_1_1_0_0_n_n none dg wg) i
      = (∑ k : Fin 3072, dg (ix2 (i 0) k) * wg (ix2 (i 1) k)) + ∑ k : Fin 3072, du (ix2 (i 0) k) * wu (ix2 (i 1) k) := by
  pointwise
  exact add_comm _ _

end Cert.Reference4Ideal.Result

namespace Cert.Proof.Input

open Idealize.ShloMosaic Idealize.ShloMosaic.TcCoe Idealize.SL.Sem

/-- The kernel terminates without a fault, with its arguments unchanged and its counters at zero. -/
theorem frame_kernel : Cert.quiescent_Kernel4 (hKernel4 := Cert.Kernel4.Gen.facts) := fun m ρ _ => Cert.Kernel4.Gen.frame m ρ

/-- The same of the idealized kernel. -/
theorem frame_kernelIdeal : Cert.quiescent_Kernel4Ideal (hKernel4Ideal := Cert.Kernel4Ideal.Gen.facts) := fun m ρ _ => Cert.Kernel4Ideal.Gen.frame m ρ

/-- The same of the reference. -/
theorem frame_referenceIdeal : Cert.quiescent_Reference4Ideal (hReference4Ideal := Cert.Reference4Ideal.Gen.facts) := fun m ρ _ =>
  (θ_run Cert.Reference4Ideal.defs _ _).mono
    (fun r h => ⟨fun c => (h c).2, sem_eq_zero_of_no_sems (by decide) r.2⟩)
    (Cert.Reference4Ideal.Value.run (F := Ideal) m ρ)

/-- Over the extended reals the kernel computes the reference's gradient. -/
theorem algebraic : Cert.algebraic_Kernel4Ideal_Reference4Ideal (hKernel4Ideal := Cert.Kernel4Ideal.Gen.facts) (hReference4Ideal := Cert.Reference4Ideal.Gen.facts) := by
  intro m ρ m' ρ' _ hagree
  refine ⟨_, Cert.Kernel4Ideal.Value.run_blocks (F := Ideal) m ρ, ?_⟩
  refine (θ_run Cert.Reference4Ideal.defs _ _).mono (fun _ h c => ⟨(h c).1.trans ?_, (h c).2⟩)
    (Cert.Reference4Ideal.Value.run (F := Ideal) m' ρ')
  rw [(hagree c).2.1, (hagree c).2.2.1, (hagree c).2.2.2.1, (hagree c).2.2.2.2, Cert.Kernel4Ideal.Result.final]
  funext i
  exact Cert.Reference4Ideal.Result.result_apply _ _ _ _ i

end Cert.Proof.Input

end
-- ==== Proof.Ffn.GateWeight.lean ====
/-
  The gradient of the gate projection's weight (and, called with the other gradient, of the up projection's): the product of a transposed matrix and a matrix, cut along the tokens into four blocks of 2048 rows whose
  products are added up in the result's block. The sum over the four blocks is the sum over all tokens.
-/
module

public import proofs.«01_k».proof.Defs
public import proofs.«01_k».proof.Proof.Gen.Kernel5.Frame
public import proofs.«01_k».proof.Proof.Gen.Kernel5Ideal.Value
public import proofs.«01_k».proof.Proof.Gen.Reference5Ideal.Run
public import Idealize.ShloMosaic.Lib.Quiescent
public import Idealize.ShloMosaic.Lib.Pointwise

@[expose] public section

set_option maxRecDepth 65536

noncomputable section

namespace Cert.Kernel5Ideal.Result

open Cert.Kernel5Ideal Cert.Kernel5Ideal.Gen Cert.Kernel5Ideal.Value
open Idealize.ShloMosaic Idealize.ShloMosaic.TcCoe Idealize.SL.Sem

variable (m : (ℓ : Loc nD τ sig) → Buf (Elt Ideal) ℓ)

/-- The first matrix. -/
abbrev arr0 (c : Dev nD) : FVec Ideal S8192x1024 .f32 := m ((c : Thread nD τ).loc main_arg0)

/-- The second matrix. -/
abbrev arr1 (c : Dev nD) : FVec Ideal S8192x3072 .f32 := m ((c : Thread nD τ).loc main_arg2)

/-- The first input's block at a grid point. -/
abbrev blk0 (c : Dev nD) (t : Fin cfg0.N) : FVec Ideal S2048x1024 .bf16 := iblk m c 0 t

/-- The second input's block at a grid point. -/
abbrev blk1 (c : Dev nD) (t : Fin cfg0.N) : FVec Ideal S2048x1536 .bf16 := iblk m c 1 t

/-- The kernel's result. -/
abbrev res (c : Dev nD) : FVec Ideal S1024x3072 .f32 := G2 m c

/-- The block the accumulator starts from is zero. -/
theorem zero_apply (i : S1024x1536.Idx) : k0_pay1 (F := Ideal) i = 0 := by
  pointwise [k0_pay1]

/-- A step adds, at each place of the block, the products of the two input blocks' rows. -/
theorem step_apply (acc : FVec Ideal S1024x1536 .f32) (x : FVec Ideal S2048x1024 .bf16) (y : FVec Ideal S2048x1536 .bf16)
    (i : S1024x1536.Idx) :
    k0_pay2 (F := Ideal) acc x y i = acc i + ∑ k : Fin 2048, x (ix2 k (i 0)) * y (ix2 k (i 1)) := by
  pointwise [k0_pay2]

/-- What the first input holds when the blocks are fetched: the first matrix (the cast of a float is itself). -/
theorem entry0 (c : Dev nD) : V m c main_v0 = arr0 m c := by
  show StableHlo.after hostOps0 (fun b => m (c, b)) main_v0 = _
  after_results; rfl

/-- What the second input holds when the blocks are fetched: the second matrix. -/
theorem entry1 (c : Dev nD) : V m c main_v1 = arr1 m c := by
  show StableHlo.after hostOps0 (fun b => m (c, b)) main_v1 = _
  after_results; rfl

/-- Which blocks a grid point reads. -/
theorem places : ∀ t : Fin cfg0.N, win0_0.index t (0 : Fin 2) = t.val % 4 ∧ win0_0.index t (1 : Fin 2) = 0
    ∧ win0_1.index t (0 : Fin 2) = t.val % 4 ∧ win0_1.index t (1 : Fin 2) = t.val / 4 :=
  (by decide +kernel : ∀ t : Fin grid0.N, _)

/-- The first input's block at a grid point, in the first matrix's own coordinates. -/
theorem block0 (c : Dev nD) (t : Fin cfg0.N) (k : Fin 2048) (r : Fin 1024) (h0 : t.val % 4 * 2048 + k.val < 8192)
    (h1 : 0 * 1024 + r.val < 1024) :
    blk0 m c t (ix2 k r) = arr0 m c (ix2 ⟨t.val % 4 * 2048 + k.val, h0⟩ ⟨0 * 1024 + r.val, h1⟩) := by
  rw [← entry0 m c]
  show V m c main_v0 (((cfg0.win 0).blk t).view.emb (ix2 k r)) = _
  obtain ⟨e0, e1, -, -⟩ := places t
  refine congrArg _ (funext fun a => Fin.ext ?_)
  match a with
  | ⟨0, _⟩ => show win0_0.index t (0 : Fin 2) * 2048 + 1 * k.val = _; rw [e0]; show _ = t.val % 4 * 2048 + k.val; omega
  | ⟨1, _⟩ => show win0_0.index t (1 : Fin 2) * 1024 + 1 * r.val = _; rw [e1]; show _ = 0 * 1024 + r.val; omega

/-- The second input's block at a grid point, in the second matrix's own coordinates. -/
theorem block1 (c : Dev nD) (t : Fin cfg0.N) (k : Fin 2048) (r : Fin 1536) (h0 : t.val % 4 * 2048 + k.val < 8192)
    (h1 : (t.val / 4) * 1536 + r.val < 3072) :
    blk1 m c t (ix2 k r) = arr1 m c (ix2 ⟨t.val % 4 * 2048 + k.val, h0⟩ ⟨(t.val / 4) * 1536 + r.val, h1⟩) := by
  rw [← entry1 m c]
  show V m c main_v1 (((cfg0.win 1).blk t).view.emb (ix2 k r)) = _
  obtain ⟨-, -, e0, e1⟩ := places t
  refine congrArg _ (funext fun a => Fin.ext ?_)
  match a with
  | ⟨0, _⟩ => show win0_1.index t (0 : Fin 2) * 2048 + 1 * k.val = _; rw [e0]; show _ = t.val % 4 * 2048 + k.val; omega
  | ⟨1, _⟩ => show win0_1.index t (1 : Fin 2) * 1536 + 1 * r.val = _; rw [e1]; show _ = (t.val / 4) * 1536 + r.val; omega

/-- What grid point `n` adds at a place of its block: the products over its 2048 rows. -/
def part (c : Dev nD) (n : ℕ) (i : S1024x1536.Idx) : EReal :=
  if h : n < cfg0.N then ∑ k : Fin 2048, blk0 m c ⟨n, h⟩ (ix2 k (i 0)) * blk1 m c ⟨n, h⟩ (ix2 k (i 1))
  else 0

/-- The block written back is the sum of what its four grid points add. -/
theorem sum_parts (c : Dev nD) (b : ℕ) (h : b + 3 < cfg0.N) (i : S1024x1536.Idx) :
    Pipeline.accAt (reset2 m c) (step2 m c) b 3 h i = ∑ s ∈ Finset.range 4, part m c (b + s) i := by
  refine (Pipeline.accAt_add_apply (β := EReal) (reset2 m c) (step2 m c) (fun _ => 0) (part m c) b 3 ?_ ?_ 3 le_rfl h i).trans (zero_add _)
  · intro hb i
    unfold part; rw [dif_pos hb]
    exact (step_apply _ _ _ i).trans (by rw [zero_apply])
  · intro n hn acc i _ _
    unfold part; rw [dif_pos hn]
    exact step_apply _ _ _ i

/-- The result of the kernel at an index, as one sum over all tokens. -/
theorem result_apply (c : Dev nD) (i : S1024x3072.Idx) :
    res m c i = ∑ k : Fin 8192, arr0 m c (ix2 k (i 0))
      * arr1 m c (ix2 k (i 1)) := by
  have hN : cfg0.N = 8 := N_0
  have hi0 : (i 0).val < 1024 := (i 0).isLt
  have hi1 : (i 1).val < 3072 := (i 1).isLt
  have hr : run2Of i < 2 := by show 2 * ((i 0).val / 1024 - 0) + 1 * ((i 1).val / 1536 - 0) < 2; omega
  unfold res G2
  rw [dif_pos (by omega), sum_parts, Finset.sum_range, Fin.sum_univ_tiles (N := 8192) 4 2048 rfl]
  refine Finset.sum_congr rfl fun s _ => ?_
  have hs : s.val < 4 := s.isLt
  have e4 : (4 * run2Of i + s.val) % 4 = s.val := by omega
  have e5 : (4 * run2Of i + s.val) / 4 = run2Of i := by omega
  unfold part; rw [dif_pos (by omega)]
  refine Finset.sum_congr rfl fun k _ => ?_
  have hk : k.val < 2048 := k.isLt
  refine congrArg₂ _ ((block0 m c _ k _ ?_ ?_).trans (congrArg _ (funext fun a => Fin.ext ?_)))
    ((block1 m c _ k _ ?_ ?_).trans (congrArg _ (funext fun a => Fin.ext ?_)))
  · show (4 * run2Of i + s.val) % 4 * 2048 + k.val < 8192; omega
  · show 0 * 1024 + (i 0).val % 1024 < 1024; omega
  · match a with
    | ⟨0, _⟩ => show (4 * run2Of i + s.val) % 4 * 2048 + k.val = s.val * 2048 + k.val; omega
    | ⟨1, _⟩ => show 0 * 1024 + (i 0).val % 1024 = (i 0).val; omega
  · show (4 * run2Of i + s.val) % 4 * 2048 + k.val < 8192; omega
  · show ((4 * run2Of i + s.val) / 4) * 1536 + (i 1).val % 1536 < 3072; rw [e5]; show (2 * ((i 0).val / 1024 - 0) + 1 * ((i 1).val / 1536 - 0)) * 1536 + _ < _; omega
  · match a with
    | ⟨0, _⟩ => show (4 * run2Of i + s.val) % 4 * 2048 + k.val = s.val * 2048 + k.val; omega
    | ⟨1, _⟩ => show ((4 * run2Of i + s.val) / 4) * 1536 + (i 1).val % 1536 = (i 1).val; rw [e5]; show (2 * ((i 0).val / 1024 - 0) + 1 * ((i 1).val / 1536 - 0)) * 1536 + _ = _; omega

end Cert.Kernel5Ideal.Result

namespace Cert.Reference5Ideal.Result

open Cert.Reference5Ideal Cert.Reference5Ideal.Gen
open Idealize.ShloMosaic

/-- The reference's result at an index: the same sum, its two factors in the other order. -/
theorem result_apply (x : FVec Ideal S8192x1024 .f32) (y : FVec Ideal S8192x3072 .f32) (i : S1024x3072.Idx) :
    transpose S1024x3072 [1, 0] (Host.dotGeneral dot_S8192x3072_S8192x1024_S3072x1024_0_0_1_1_n_n none y x) transposes_S3072x1024_S1024x3072_1_0 i
      = ∑ k : Fin 8192, x (ix2 k (i 0)) * y (ix2 k (i 1)) := by
  pointwise
  refine Finset.sum_congr rfl fun k _ => mul_comm _ _

end Cert.Reference5Ideal.Result

namespace Cert.Proof.GateWeight

open Idealize.ShloMosaic Idealize.ShloMosaic.TcCoe Idealize.SL.Sem

/-- The kernel terminates without a fault, with its arguments unchanged and its counters at zero. -/
theorem frame_kernel : Cert.quiescent_Kernel5 (hKernel5 := Cert.Kernel5.Gen.facts) := fun m ρ _ => Cert.Kernel5.Gen.frame m ρ

/-- The same of the idealized kernel. -/
theorem frame_kernelIdeal : Cert.quiescent_Kernel5Ideal (hKernel5Ideal := Cert.Kernel5Ideal.Gen.facts) := fun m ρ _ => Cert.Kernel5Ideal.Gen.frame m ρ

/-- The same of the reference. -/
theorem frame_referenceIdeal : Cert.quiescent_Reference5Ideal (hReference5Ideal := Cert.Reference5Ideal.Gen.facts) := fun m ρ _ =>
  (θ_run Cert.Reference5Ideal.defs _ _).mono
    (fun r h => ⟨fun c => (h c).2, sem_eq_zero_of_no_sems (by decide) r.2⟩)
    (Cert.Reference5Ideal.Value.run (F := Ideal) m ρ)

/-- Over the extended reals the kernel computes the reference's matrix. -/
theorem algebraic : Cert.algebraic_Kernel5Ideal_Reference5Ideal (hKernel5Ideal := Cert.Kernel5Ideal.Gen.facts) (hReference5Ideal := Cert.Reference5Ideal.Gen.facts) := by
  intro m ρ m' ρ' _ hagree
  refine ⟨_, Cert.Kernel5Ideal.Value.run (F := Ideal) m ρ, ?_⟩
  refine (θ_run Cert.Reference5Ideal.defs _ _).mono (fun _ h c => ⟨(h c).1.trans ?_, (h c).2⟩)
    (Cert.Reference5Ideal.Value.run (F := Ideal) m' ρ')
  rw [(hagree c).1, (hagree c).2.2]
  funext i
  exact (Cert.Reference5Ideal.Result.result_apply _ _ i).trans (Cert.Kernel5Ideal.Result.result_apply m c i).symm

end Cert.Proof.GateWeight

end
-- ==== Proof.Mixer.AttnInWeight.lean ====
/-
  The gradient of the attention's projection's weight: the product of a transposed matrix and a matrix, cut along the tokens
  into four blocks of 2048 rows whose products are added up in the result's block. The sum over the four blocks is the
  sum over all tokens.
-/
module

public import proofs.«01_k».proof.Defs
public import proofs.«01_k».proof.Proof.Gen.Kernel6.Frame
public import proofs.«01_k».proof.Proof.Gen.Kernel6Ideal.Value
public import proofs.«01_k».proof.Proof.Gen.Reference6Ideal.Run
public import Idealize.ShloMosaic.Lib.Quiescent
public import Idealize.ShloMosaic.Lib.Pointwise

@[expose] public section

set_option maxRecDepth 65536

noncomputable section

namespace Cert.Kernel6Ideal.Result

open Cert.Kernel6Ideal Cert.Kernel6Ideal.Gen Cert.Kernel6Ideal.Value
open Idealize.ShloMosaic Idealize.ShloMosaic.TcCoe Idealize.SL.Sem

variable (m : (ℓ : Loc nD τ sig) → Buf (Elt Ideal) ℓ)

/-- The first matrix. -/
abbrev arr0 (c : Dev nD) : FVec Ideal S8192x1024 .f32 := m ((c : Thread nD τ).loc main_arg0)

/-- The second matrix. -/
abbrev arr1 (c : Dev nD) : FVec Ideal S8192x4608 .f32 := m ((c : Thread nD τ).loc main_arg2)

/-- The first input's block at a grid point. -/
abbrev blk0 (c : Dev nD) (t : Fin cfg0.N) : FVec Ideal S2048x1024 .bf16 := iblk m c 0 t

/-- The second input's block at a grid point. -/
abbrev blk1 (c : Dev nD) (t : Fin cfg0.N) : FVec Ideal S2048x1536 .bf16 := iblk m c 1 t

/-- The kernel's result. -/
abbrev res (c : Dev nD) : FVec Ideal S1024x4608 .f32 := G2 m c

/-- The block the accumulator starts from is zero. -/
theorem zero_apply (i : S1024x1536.Idx) : k0_pay1 (F := Ideal) i = 0 := by
  pointwise [k0_pay1]

/-- A step adds, at each place of the block, the products of the two input blocks' rows. -/
theorem step_apply (acc : FVec Ideal S1024x1536 .f32) (x : FVec Ideal S2048x1024 .bf16) (y : FVec Ideal S2048x1536 .bf16)
    (i : S1024x1536.Idx) :
    k0_pay2 (F := Ideal) acc x y i = acc i + ∑ k : Fin 2048, x (ix2 k (i 0)) * y (ix2 k (i 1)) := by
  pointwise [k0_pay2]

/-- What the first input holds when the blocks are fetched: the first matrix (the cast of a float is itself). -/
theorem entry0 (c : Dev nD) : V m c main_v0 = arr0 m c := by
  show StableHlo.after hostOps0 (fun b => m (c, b)) main_v0 = _
  after_results; rfl

/-- What the second input holds when the blocks are fetched: the second matrix. -/
theorem entry1 (c : Dev nD) : V m c main_v1 = arr1 m c := by
  show StableHlo.after hostOps0 (fun b => m (c, b)) main_v1 = _
  after_results; rfl

/-- Which blocks a grid point reads. -/
theorem places : ∀ t : Fin cfg0.N, win0_0.index t (0 : Fin 2) = t.val % 4 ∧ win0_0.index t (1 : Fin 2) = 0
    ∧ win0_1.index t (0 : Fin 2) = t.val % 4 ∧ win0_1.index t (1 : Fin 2) = t.val / 4 :=
  (by decide +kernel : ∀ t : Fin grid0.N, _)

/-- The first input's block at a grid point, in the first matrix's own coordinates. -/
theorem block0 (c : Dev nD) (t : Fin cfg0.N) (k : Fin 2048) (r : Fin 1024) (h0 : t.val % 4 * 2048 + k.val < 8192)
    (h1 : 0 * 1024 + r.val < 1024) :
    blk0 m c t (ix2 k r) = arr0 m c (ix2 ⟨t.val % 4 * 2048 + k.val, h0⟩ ⟨0 * 1024 + r.val, h1⟩) := by
  rw [← entry0 m c]
  show V m c main_v0 (((cfg0.win 0).blk t).view.emb (ix2 k r)) = _
  obtain ⟨e0, e1, -, -⟩ := places t
  refine congrArg _ (funext fun a => Fin.ext ?_)
  match a with
  | ⟨0, _⟩ => show win0_0.index t (0 : Fin 2) * 2048 + 1 * k.val = _; rw [e0]; show _ = t.val % 4 * 2048 + k.val; omega
  | ⟨1, _⟩ => show win0_0.index t (1 : Fin 2) * 1024 + 1 * r.val = _; rw [e1]; show _ = 0 * 1024 + r.val; omega

/-- The second input's block at a grid point, in the second matrix's own coordinates. -/
theorem block1 (c : Dev nD) (t : Fin cfg0.N) (k : Fin 2048) (r : Fin 1536) (h0 : t.val % 4 * 2048 + k.val < 8192)
    (h1 : (t.val / 4) * 1536 + r.val < 4608) :
    blk1 m c t (ix2 k r) = arr1 m c (ix2 ⟨t.val % 4 * 2048 + k.val, h0⟩ ⟨(t.val / 4) * 1536 + r.val, h1⟩) := by
  rw [← entry1 m c]
  show V m c main_v1 (((cfg0.win 1).blk t).view.emb (ix2 k r)) = _
  obtain ⟨-, -, e0, e1⟩ := places t
  refine congrArg _ (funext fun a => Fin.ext ?_)
  match a with
  | ⟨0, _⟩ => show win0_1.index t (0 : Fin 2) * 2048 + 1 * k.val = _; rw [e0]; show _ = t.val % 4 * 2048 + k.val; omega
  | ⟨1, _⟩ => show win0_1.index t (1 : Fin 2) * 1536 + 1 * r.val = _; rw [e1]; show _ = (t.val / 4) * 1536 + r.val; omega

/-- What grid point `n` adds at a place of its block: the products over its 2048 rows. -/
def part (c : Dev nD) (n : ℕ) (i : S1024x1536.Idx) : EReal :=
  if h : n < cfg0.N then ∑ k : Fin 2048, blk0 m c ⟨n, h⟩ (ix2 k (i 0)) * blk1 m c ⟨n, h⟩ (ix2 k (i 1))
  else 0

/-- The block written back is the sum of what its four grid points add. -/
theorem sum_parts (c : Dev nD) (b : ℕ) (h : b + 3 < cfg0.N) (i : S1024x1536.Idx) :
    Pipeline.accAt (reset2 m c) (step2 m c) b 3 h i = ∑ s ∈ Finset.range 4, part m c (b + s) i := by
  refine (Pipeline.accAt_add_apply (β := EReal) (reset2 m c) (step2 m c) (fun _ => 0) (part m c) b 3 ?_ ?_ 3 le_rfl h i).trans (zero_add _)
  · intro hb i
    unfold part; rw [dif_pos hb]
    exact (step_apply _ _ _ i).trans (by rw [zero_apply])
  · intro n hn acc i _ _
    unfold part; rw [dif_pos hn]
    exact step_apply _ _ _ i

/-- The result of the kernel at an index, as one sum over all tokens. -/
theorem result_apply (c : Dev nD) (i : S1024x4608.Idx) :
    res m c i = ∑ k : Fin 8192, arr0 m c (ix2 k (i 0))
      * arr1 m c (ix2 k (i 1)) := by
  have hN : cfg0.N = 12 := N_0
  have hi0 : (i 0).val < 1024 := (i 0).isLt
  have hi1 : (i 1).val < 4608 := (i 1).isLt
  have hr : run2Of i < 3 := by show 3 * ((i 0).val / 1024 - 0) + 1 * ((i 1).val / 1536 - 0) < 3; omega
  unfold res G2
  rw [dif_pos (by omega), sum_parts, Finset.sum_range, Fin.sum_univ_tiles (N := 8192) 4 2048 rfl]
  refine Finset.sum_congr rfl fun s _ => ?_
  have hs : s.val < 4 := s.isLt
  have e4 : (4 * run2Of i + s.val) % 4 = s.val := by omega
  have e5 : (4 * run2Of i + s.val) / 4 = run2Of i := by omega
  unfold part; rw [dif_pos (by omega)]
  refine Finset.sum_congr rfl fun k _ => ?_
  have hk : k.val < 2048 := k.isLt
  refine congrArg₂ _ ((block0 m c _ k _ ?_ ?_).trans (congrArg _ (funext fun a => Fin.ext ?_)))
    ((block1 m c _ k _ ?_ ?_).trans (congrArg _ (funext fun a => Fin.ext ?_)))
  · show (4 * run2Of i + s.val) % 4 * 2048 + k.val < 8192; omega
  · show 0 * 1024 + (i 0).val % 1024 < 1024; omega
  · match a with
    | ⟨0, _⟩ => show (4 * run2Of i + s.val) % 4 * 2048 + k.val = s.val * 2048 + k.val; omega
    | ⟨1, _⟩ => show 0 * 1024 + (i 0).val % 1024 = (i 0).val; omega
  · show (4 * run2Of i + s.val) % 4 * 2048 + k.val < 8192; omega
  · show ((4 * run2Of i + s.val) / 4) * 1536 + (i 1).val % 1536 < 4608; rw [e5]; show (3 * ((i 0).val / 1024 - 0) + 1 * ((i 1).val / 1536 - 0)) * 1536 + _ < _; omega
  · match a with
    | ⟨0, _⟩ => show (4 * run2Of i + s.val) % 4 * 2048 + k.val = s.val * 2048 + k.val; omega
    | ⟨1, _⟩ => show ((4 * run2Of i + s.val) / 4) * 1536 + (i 1).val % 1536 = (i 1).val; rw [e5]; show (3 * ((i 0).val / 1024 - 0) + 1 * ((i 1).val / 1536 - 0)) * 1536 + _ = _; omega

end Cert.Kernel6Ideal.Result

namespace Cert.Reference6Ideal.Result

open Cert.Reference6Ideal Cert.Reference6Ideal.Gen
open Idealize.ShloMosaic

/-- The reference's result at an index: the same sum, its two factors in the other order. -/
theorem result_apply (x : FVec Ideal S8192x1024 .f32) (y : FVec Ideal S8192x4608 .f32) (i : S1024x4608.Idx) :
    transpose S1024x4608 [1, 0] (Host.dotGeneral dot_S8192x4608_S8192x1024_S4608x1024_0_0_1_1_n_n none y x) transposes_S4608x1024_S1024x4608_1_0 i
      = ∑ k : Fin 8192, x (ix2 k (i 0)) * y (ix2 k (i 1)) := by
  pointwise
  refine Finset.sum_congr rfl fun k _ => mul_comm _ _

end Cert.Reference6Ideal.Result

namespace Cert.Proof.AttnInWeight

open Idealize.ShloMosaic Idealize.ShloMosaic.TcCoe Idealize.SL.Sem

/-- The kernel terminates without a fault, with its arguments unchanged and its counters at zero. -/
theorem frame_kernel : Cert.quiescent_Kernel6 (hKernel6 := Cert.Kernel6.Gen.facts) := fun m ρ _ => Cert.Kernel6.Gen.frame m ρ

/-- The same of the idealized kernel. -/
theorem frame_kernelIdeal : Cert.quiescent_Kernel6Ideal (hKernel6Ideal := Cert.Kernel6Ideal.Gen.facts) := fun m ρ _ => Cert.Kernel6Ideal.Gen.frame m ρ

/-- The same of the reference. -/
theorem frame_referenceIdeal : Cert.quiescent_Reference6Ideal (hReference6Ideal := Cert.Reference6Ideal.Gen.facts) := fun m ρ _ =>
  (θ_run Cert.Reference6Ideal.defs _ _).mono
    (fun r h => ⟨fun c => (h c).2, sem_eq_zero_of_no_sems (by decide) r.2⟩)
    (Cert.Reference6Ideal.Value.run (F := Ideal) m ρ)

/-- Over the extended reals the kernel computes the reference's matrix. -/
theorem algebraic : Cert.algebraic_Kernel6Ideal_Reference6Ideal (hKernel6Ideal := Cert.Kernel6Ideal.Gen.facts) (hReference6Ideal := Cert.Reference6Ideal.Gen.facts) := by
  intro m ρ m' ρ' _ hagree
  refine ⟨_, Cert.Kernel6Ideal.Value.run (F := Ideal) m ρ, ?_⟩
  refine (θ_run Cert.Reference6Ideal.defs _ _).mono (fun _ h c => ⟨(h c).1.trans ?_, (h c).2⟩)
    (Cert.Reference6Ideal.Value.run (F := Ideal) m' ρ')
  rw [(hagree c).1, (hagree c).2.2]
  funext i
  exact (Cert.Reference6Ideal.Result.result_apply _ _ i).trans (Cert.Kernel6Ideal.Result.result_apply m c i).symm

end Cert.Proof.AttnInWeight

end
-- ==== Proof.Mixer.DeltaInWeight.lean ====
/-
  The gradient of the delta net's projection's weight: the product of a transposed matrix and a matrix, cut along the tokens
  into four blocks of 2048 rows whose products are added up in the result's block. The sum over the four blocks is the
  sum over all tokens.
-/
module

public import proofs.«01_k».proof.Defs
public import proofs.«01_k».proof.Proof.Gen.Kernel7.Frame
public import proofs.«01_k».proof.Proof.Gen.Kernel7Ideal.Value
public import proofs.«01_k».proof.Proof.Gen.Reference7Ideal.Run
public import Idealize.ShloMosaic.Lib.Quiescent
public import Idealize.ShloMosaic.Lib.Pointwise

@[expose] public section

set_option maxRecDepth 65536

noncomputable section

namespace Cert.Kernel7Ideal.Result

open Cert.Kernel7Ideal Cert.Kernel7Ideal.Gen Cert.Kernel7Ideal.Value
open Idealize.ShloMosaic Idealize.ShloMosaic.TcCoe Idealize.SL.Sem

variable (m : (ℓ : Loc nD τ sig) → Buf (Elt Ideal) ℓ)

/-- The first matrix. -/
abbrev arr0 (c : Dev nD) : FVec Ideal S8192x1024 .f32 := m ((c : Thread nD τ).loc main_arg0)

/-- The second matrix. -/
abbrev arr1 (c : Dev nD) : FVec Ideal S8192x4224 .f32 := m ((c : Thread nD τ).loc main_arg2)

/-- The first input's block at a grid point. -/
abbrev blk0 (c : Dev nD) (t : Fin cfg0.N) : FVec Ideal S2048x1024 .bf16 := iblk m c 0 t

/-- The second input's block at a grid point. -/
abbrev blk1 (c : Dev nD) (t : Fin cfg0.N) : FVec Ideal S2048x1408 .bf16 := iblk m c 1 t

/-- The kernel's result. -/
abbrev res (c : Dev nD) : FVec Ideal S1024x4224 .f32 := G2 m c

/-- The block the accumulator starts from is zero. -/
theorem zero_apply (i : S1024x1408.Idx) : k0_pay1 (F := Ideal) i = 0 := by
  pointwise [k0_pay1]

/-- A step adds, at each place of the block, the products of the two input blocks' rows. -/
theorem step_apply (acc : FVec Ideal S1024x1408 .f32) (x : FVec Ideal S2048x1024 .bf16) (y : FVec Ideal S2048x1408 .bf16)
    (i : S1024x1408.Idx) :
    k0_pay2 (F := Ideal) acc x y i = acc i + ∑ k : Fin 2048, x (ix2 k (i 0)) * y (ix2 k (i 1)) := by
  pointwise [k0_pay2]

/-- What the first input holds when the blocks are fetched: the first matrix (the cast of a float is itself). -/
theorem entry0 (c : Dev nD) : V m c main_v0 = arr0 m c := by
  show StableHlo.after hostOps0 (fun b => m (c, b)) main_v0 = _
  after_results; rfl

/-- What the second input holds when the blocks are fetched: the second matrix. -/
theorem entry1 (c : Dev nD) : V m c main_v1 = arr1 m c := by
  show StableHlo.after hostOps0 (fun b => m (c, b)) main_v1 = _
  after_results; rfl

/-- Which blocks a grid point reads. -/
theorem places : ∀ t : Fin cfg0.N, win0_0.index t (0 : Fin 2) = t.val % 4 ∧ win0_0.index t (1 : Fin 2) = 0
    ∧ win0_1.index t (0 : Fin 2) = t.val % 4 ∧ win0_1.index t (1 : Fin 2) = t.val / 4 :=
  (by decide +kernel : ∀ t : Fin grid0.N, _)

/-- The first input's block at a grid point, in the first matrix's own coordinates. -/
theorem block0 (c : Dev nD) (t : Fin cfg0.N) (k : Fin 2048) (r : Fin 1024) (h0 : t.val % 4 * 2048 + k.val < 8192)
    (h1 : 0 * 1024 + r.val < 1024) :
    blk0 m c t (ix2 k r) = arr0 m c (ix2 ⟨t.val % 4 * 2048 + k.val, h0⟩ ⟨0 * 1024 + r.val, h1⟩) := by
  rw [← entry0 m c]
  show V m c main_v0 (((cfg0.win 0).blk t).view.emb (ix2 k r)) = _
  obtain ⟨e0, e1, -, -⟩ := places t
  refine congrArg _ (funext fun a => Fin.ext ?_)
  match a with
  | ⟨0, _⟩ => show win0_0.index t (0 : Fin 2) * 2048 + 1 * k.val = _; rw [e0]; show _ = t.val % 4 * 2048 + k.val; omega
  | ⟨1, _⟩ => show win0_0.index t (1 : Fin 2) * 1024 + 1 * r.val = _; rw [e1]; show _ = 0 * 1024 + r.val; omega

/-- The second input's block at a grid point, in the second matrix's own coordinates. -/
theorem block1 (c : Dev nD) (t : Fin cfg0.N) (k : Fin 2048) (r : Fin 1408) (h0 : t.val % 4 * 2048 + k.val < 8192)
    (h1 : (t.val / 4) * 1408 + r.val < 4224) :
    blk1 m c t (ix2 k r) = arr1 m c (ix2 ⟨t.val % 4 * 2048 + k.val, h0⟩ ⟨(t.val / 4) * 1408 + r.val, h1⟩) := by
  rw [← entry1 m c]
  show V m c main_v1 (((cfg0.win 1).blk t).view.emb (ix2 k r)) = _
  obtain ⟨-, -, e0, e1⟩ := places t
  refine congrArg _ (funext fun a => Fin.ext ?_)
  match a with
  | ⟨0, _⟩ => show win0_1.index t (0 : Fin 2) * 2048 + 1 * k.val = _; rw [e0]; show _ = t.val % 4 * 2048 + k.val; omega
  | ⟨1, _⟩ => show win0_1.index t (1 : Fin 2) * 1408 + 1 * r.val = _; rw [e1]; show _ = (t.val / 4) * 1408 + r.val; omega

/-- What grid point `n` adds at a place of its block: the products over its 2048 rows. -/
def part (c : Dev nD) (n : ℕ) (i : S1024x1408.Idx) : EReal :=
  if h : n < cfg0.N then ∑ k : Fin 2048, blk0 m c ⟨n, h⟩ (ix2 k (i 0)) * blk1 m c ⟨n, h⟩ (ix2 k (i 1))
  else 0

/-- The block written back is the sum of what its four grid points add. -/
theorem sum_parts (c : Dev nD) (b : ℕ) (h : b + 3 < cfg0.N) (i : S1024x1408.Idx) :
    Pipeline.accAt (reset2 m c) (step2 m c) b 3 h i = ∑ s ∈ Finset.range 4, part m c (b + s) i := by
  refine (Pipeline.accAt_add_apply (β := EReal) (reset2 m c) (step2 m c) (fun _ => 0) (part m c) b 3 ?_ ?_ 3 le_rfl h i).trans (zero_add _)
  · intro hb i
    unfold part; rw [dif_pos hb]
    exact (step_apply _ _ _ i).trans (by rw [zero_apply])
  · intro n hn acc i _ _
    unfold part; rw [dif_pos hn]
    exact step_apply _ _ _ i

/-- The result of the kernel at an index, as one sum over all tokens. -/
theorem result_apply (c : Dev nD) (i : S1024x4224.Idx) :
    res m c i = ∑ k : Fin 8192, arr0 m c (ix2 k (i 0))
      * arr1 m c (ix2 k (i 1)) := by
  have hN : cfg0.N = 12 := N_0
  have hi0 : (i 0).val < 1024 := (i 0).isLt
  have hi1 : (i 1).val < 4224 := (i 1).isLt
  have hr : run2Of i < 3 := by show 3 * ((i 0).val / 1024 - 0) + 1 * ((i 1).val / 1408 - 0) < 3; omega
  unfold res G2
  rw [dif_pos (by omega), sum_parts, Finset.sum_range, Fin.sum_univ_tiles (N := 8192) 4 2048 rfl]
  refine Finset.sum_congr rfl fun s _ => ?_
  have hs : s.val < 4 := s.isLt
  have e4 : (4 * run2Of i + s.val) % 4 = s.val := by omega
  have e5 : (4 * run2Of i + s.val) / 4 = run2Of i := by omega
  unfold part; rw [dif_pos (by omega)]
  refine Finset.sum_congr rfl fun k _ => ?_
  have hk : k.val < 2048 := k.isLt
  refine congrArg₂ _ ((block0 m c _ k _ ?_ ?_).trans (congrArg _ (funext fun a => Fin.ext ?_)))
    ((block1 m c _ k _ ?_ ?_).trans (congrArg _ (funext fun a => Fin.ext ?_)))
  · show (4 * run2Of i + s.val) % 4 * 2048 + k.val < 8192; omega
  · show 0 * 1024 + (i 0).val % 1024 < 1024; omega
  · match a with
    | ⟨0, _⟩ => show (4 * run2Of i + s.val) % 4 * 2048 + k.val = s.val * 2048 + k.val; omega
    | ⟨1, _⟩ => show 0 * 1024 + (i 0).val % 1024 = (i 0).val; omega
  · show (4 * run2Of i + s.val) % 4 * 2048 + k.val < 8192; omega
  · show ((4 * run2Of i + s.val) / 4) * 1408 + (i 1).val % 1408 < 4224; rw [e5]; show (3 * ((i 0).val / 1024 - 0) + 1 * ((i 1).val / 1408 - 0)) * 1408 + _ < _; omega
  · match a with
    | ⟨0, _⟩ => show (4 * run2Of i + s.val) % 4 * 2048 + k.val = s.val * 2048 + k.val; omega
    | ⟨1, _⟩ => show ((4 * run2Of i + s.val) / 4) * 1408 + (i 1).val % 1408 = (i 1).val; rw [e5]; show (3 * ((i 0).val / 1024 - 0) + 1 * ((i 1).val / 1408 - 0)) * 1408 + _ = _; omega

end Cert.Kernel7Ideal.Result

namespace Cert.Reference7Ideal.Result

open Cert.Reference7Ideal Cert.Reference7Ideal.Gen
open Idealize.ShloMosaic

/-- The reference's result at an index: the same sum, its two factors in the other order. -/
theorem result_apply (x : FVec Ideal S8192x1024 .f32) (y : FVec Ideal S8192x4224 .f32) (i : S1024x4224.Idx) :
    transpose S1024x4224 [1, 0] (Host.dotGeneral dot_S8192x4224_S8192x1024_S4224x1024_0_0_1_1_n_n none y x) transposes_S4224x1024_S1024x4224_1_0 i
      = ∑ k : Fin 8192, x (ix2 k (i 0)) * y (ix2 k (i 1)) := by
  pointwise
  refine Finset.sum_congr rfl fun k _ => mul_comm _ _

end Cert.Reference7Ideal.Result

namespace Cert.Proof.DeltaInWeight

open Idealize.ShloMosaic Idealize.ShloMosaic.TcCoe Idealize.SL.Sem

/-- The kernel terminates without a fault, with its arguments unchanged and its counters at zero. -/
theorem frame_kernel : Cert.quiescent_Kernel7 (hKernel7 := Cert.Kernel7.Gen.facts) := fun m ρ _ => Cert.Kernel7.Gen.frame m ρ

/-- The same of the idealized kernel. -/
theorem frame_kernelIdeal : Cert.quiescent_Kernel7Ideal (hKernel7Ideal := Cert.Kernel7Ideal.Gen.facts) := fun m ρ _ => Cert.Kernel7Ideal.Gen.frame m ρ

/-- The same of the reference. -/
theorem frame_referenceIdeal : Cert.quiescent_Reference7Ideal (hReference7Ideal := Cert.Reference7Ideal.Gen.facts) := fun m ρ _ =>
  (θ_run Cert.Reference7Ideal.defs _ _).mono
    (fun r h => ⟨fun c => (h c).2, sem_eq_zero_of_no_sems (by decide) r.2⟩)
    (Cert.Reference7Ideal.Value.run (F := Ideal) m ρ)

/-- Over the extended reals the kernel computes the reference's matrix. -/
theorem algebraic : Cert.algebraic_Kernel7Ideal_Reference7Ideal (hKernel7Ideal := Cert.Kernel7Ideal.Gen.facts) (hReference7Ideal := Cert.Reference7Ideal.Gen.facts) := by
  intro m ρ m' ρ' _ hagree
  refine ⟨_, Cert.Kernel7Ideal.Value.run (F := Ideal) m ρ, ?_⟩
  refine (θ_run Cert.Reference7Ideal.defs _ _).mono (fun _ h c => ⟨(h c).1.trans ?_, (h c).2⟩)
    (Cert.Reference7Ideal.Value.run (F := Ideal) m' ρ')
  rw [(hagree c).1, (hagree c).2.2]
  funext i
  exact (Cert.Reference7Ideal.Result.result_apply _ _ i).trans (Cert.Kernel7Ideal.Result.result_apply m c i).symm

end Cert.Proof.DeltaInWeight

end
-- ==== Proof.Mixer.AttnOutWeight.lean ====
/-
  The gradient of the attention's output weight: the product of a transposed matrix and a matrix, cut along the tokens
  into four blocks of 2048 rows whose products are added up in the result's block. The sum over the four blocks is the
  sum over all tokens.
-/
module

public import proofs.«01_k».proof.Defs
public import proofs.«01_k».proof.Proof.Gen.Kernel8.Frame
public import proofs.«01_k».proof.Proof.Gen.Kernel8Ideal.Value
public import proofs.«01_k».proof.Proof.Gen.Reference8Ideal.Run
public import Idealize.ShloMosaic.Lib.Quiescent
public import Idealize.ShloMosaic.Lib.Pointwise

@[expose] public section

set_option maxRecDepth 65536

noncomputable section

namespace Cert.Kernel8Ideal.Result

open Cert.Kernel8Ideal Cert.Kernel8Ideal.Gen Cert.Kernel8Ideal.Value
open Idealize.ShloMosaic Idealize.ShloMosaic.TcCoe Idealize.SL.Sem

variable (m : (ℓ : Loc nD τ sig) → Buf (Elt Ideal) ℓ)

/-- The first matrix. -/
abbrev arr0 (c : Dev nD) : FVec Ideal S8192x512 .f32 := m ((c : Thread nD τ).loc main_arg0)

/-- The second matrix. -/
abbrev arr1 (c : Dev nD) : FVec Ideal S8192x1024 .f32 := m ((c : Thread nD τ).loc main_arg2)

/-- The first input's block at a grid point. -/
abbrev blk0 (c : Dev nD) (t : Fin cfg0.N) : FVec Ideal S2048x512 .bf16 := iblk m c 0 t

/-- The second input's block at a grid point. -/
abbrev blk1 (c : Dev nD) (t : Fin cfg0.N) : FVec Ideal S2048x1024 .bf16 := iblk m c 1 t

/-- The kernel's result. -/
abbrev res (c : Dev nD) : FVec Ideal S512x1024 .f32 := G2 m c

/-- The block the accumulator starts from is zero. -/
theorem zero_apply (i : S512x1024.Idx) : k0_pay1 (F := Ideal) i = 0 := by
  pointwise [k0_pay1]

/-- A step adds, at each place of the block, the products of the two input blocks' rows. -/
theorem step_apply (acc : FVec Ideal S512x1024 .f32) (x : FVec Ideal S2048x512 .bf16) (y : FVec Ideal S2048x1024 .bf16)
    (i : S512x1024.Idx) :
    k0_pay2 (F := Ideal) acc x y i = acc i + ∑ k : Fin 2048, x (ix2 k (i 0)) * y (ix2 k (i 1)) := by
  pointwise [k0_pay2]

/-- What the first input holds when the blocks are fetched: the first matrix (the cast of a float is itself). -/
theorem entry0 (c : Dev nD) : V m c main_v0 = arr0 m c := by
  show StableHlo.after hostOps0 (fun b => m (c, b)) main_v0 = _
  after_results; rfl

/-- What the second input holds when the blocks are fetched: the second matrix. -/
theorem entry1 (c : Dev nD) : V m c main_v1 = arr1 m c := by
  show StableHlo.after hostOps0 (fun b => m (c, b)) main_v1 = _
  after_results; rfl

/-- Which blocks a grid point reads. -/
theorem places : ∀ t : Fin cfg0.N, win0_0.index t (0 : Fin 2) = t.val % 4 ∧ win0_0.index t (1 : Fin 2) = 0
    ∧ win0_1.index t (0 : Fin 2) = t.val % 4 ∧ win0_1.index t (1 : Fin 2) = t.val / 4 :=
  (by decide +kernel : ∀ t : Fin grid0.N, _)

/-- The first input's block at a grid point, in the first matrix's own coordinates. -/
theorem block0 (c : Dev nD) (t : Fin cfg0.N) (k : Fin 2048) (r : Fin 512) (h0 : t.val % 4 * 2048 + k.val < 8192)
    (h1 : 0 * 512 + r.val < 512) :
    blk0 m c t (ix2 k r) = arr0 m c (ix2 ⟨t.val % 4 * 2048 + k.val, h0⟩ ⟨0 * 512 + r.val, h1⟩) := by
  rw [← entry0 m c]
  show V m c main_v0 (((cfg0.win 0).blk t).view.emb (ix2 k r)) = _
  obtain ⟨e0, e1, -, -⟩ := places t
  refine congrArg _ (funext fun a => Fin.ext ?_)
  match a with
  | ⟨0, _⟩ => show win0_0.index t (0 : Fin 2) * 2048 + 1 * k.val = _; rw [e0]; show _ = t.val % 4 * 2048 + k.val; omega
  | ⟨1, _⟩ => show win0_0.index t (1 : Fin 2) * 512 + 1 * r.val = _; rw [e1]; show _ = 0 * 512 + r.val; omega

/-- The second input's block at a grid point, in the second matrix's own coordinates. -/
theorem block1 (c : Dev nD) (t : Fin cfg0.N) (k : Fin 2048) (r : Fin 1024) (h0 : t.val % 4 * 2048 + k.val < 8192)
    (h1 : (t.val / 4) * 1024 + r.val < 1024) :
    blk1 m c t (ix2 k r) = arr1 m c (ix2 ⟨t.val % 4 * 2048 + k.val, h0⟩ ⟨(t.val / 4) * 1024 + r.val, h1⟩) := by
  rw [← entry1 m c]
  show V m c main_v1 (((cfg0.win 1).blk t).view.emb (ix2 k r)) = _
  obtain ⟨-, -, e0, e1⟩ := places t
  refine congrArg _ (funext fun a => Fin.ext ?_)
  match a with
  | ⟨0, _⟩ => show win0_1.index t (0 : Fin 2) * 2048 + 1 * k.val = _; rw [e0]; show _ = t.val % 4 * 2048 + k.val; omega
  | ⟨1, _⟩ => show win0_1.index t (1 : Fin 2) * 1024 + 1 * r.val = _; rw [e1]; show _ = (t.val / 4) * 1024 + r.val; omega

/-- What grid point `n` adds at a place of its block: the products over its 2048 rows. -/
def part (c : Dev nD) (n : ℕ) (i : S512x1024.Idx) : EReal :=
  if h : n < cfg0.N then ∑ k : Fin 2048, blk0 m c ⟨n, h⟩ (ix2 k (i 0)) * blk1 m c ⟨n, h⟩ (ix2 k (i 1))
  else 0

/-- The block written back is the sum of what its four grid points add. -/
theorem sum_parts (c : Dev nD) (b : ℕ) (h : b + 3 < cfg0.N) (i : S512x1024.Idx) :
    Pipeline.accAt (reset2 m c) (step2 m c) b 3 h i = ∑ s ∈ Finset.range 4, part m c (b + s) i := by
  refine (Pipeline.accAt_add_apply (β := EReal) (reset2 m c) (step2 m c) (fun _ => 0) (part m c) b 3 ?_ ?_ 3 le_rfl h i).trans (zero_add _)
  · intro hb i
    unfold part; rw [dif_pos hb]
    exact (step_apply _ _ _ i).trans (by rw [zero_apply])
  · intro n hn acc i _ _
    unfold part; rw [dif_pos hn]
    exact step_apply _ _ _ i

/-- The result of the kernel at an index, as one sum over all tokens. -/
theorem result_apply (c : Dev nD) (i : S512x1024.Idx) :
    res m c i = ∑ k : Fin 8192, arr0 m c (ix2 k (i 0))
      * arr1 m c (ix2 k (i 1)) := by
  have hN : cfg0.N = 4 := N_0
  have hi0 : (i 0).val < 512 := (i 0).isLt
  have hi1 : (i 1).val < 1024 := (i 1).isLt
  have hr : run2Of i < 1 := by show 1 * ((i 0).val / 512 - 0) + 1 * ((i 1).val / 1024 - 0) < 1; omega
  unfold res G2
  rw [dif_pos (by omega), sum_parts, Finset.sum_range, Fin.sum_univ_tiles (N := 8192) 4 2048 rfl]
  refine Finset.sum_congr rfl fun s _ => ?_
  have hs : s.val < 4 := s.isLt
  have e4 : (4 * run2Of i + s.val) % 4 = s.val := by omega
  have e5 : (4 * run2Of i + s.val) / 4 = run2Of i := by omega
  unfold part; rw [dif_pos (by omega)]
  refine Finset.sum_congr rfl fun k _ => ?_
  have hk : k.val < 2048 := k.isLt
  refine congrArg₂ _ ((block0 m c _ k _ ?_ ?_).trans (congrArg _ (funext fun a => Fin.ext ?_)))
    ((block1 m c _ k _ ?_ ?_).trans (congrArg _ (funext fun a => Fin.ext ?_)))
  · show (4 * run2Of i + s.val) % 4 * 2048 + k.val < 8192; omega
  · show 0 * 512 + (i 0).val % 512 < 512; omega
  · match a with
    | ⟨0, _⟩ => show (4 * run2Of i + s.val) % 4 * 2048 + k.val = s.val * 2048 + k.val; omega
    | ⟨1, _⟩ => show 0 * 512 + (i 0).val % 512 = (i 0).val; omega
  · show (4 * run2Of i + s.val) % 4 * 2048 + k.val < 8192; omega
  · show ((4 * run2Of i + s.val) / 4) * 1024 + (i 1).val % 1024 < 1024; rw [e5]; show (1 * ((i 0).val / 512 - 0) + 1 * ((i 1).val / 1024 - 0)) * 1024 + _ < _; omega
  · match a with
    | ⟨0, _⟩ => show (4 * run2Of i + s.val) % 4 * 2048 + k.val = s.val * 2048 + k.val; omega
    | ⟨1, _⟩ => show ((4 * run2Of i + s.val) / 4) * 1024 + (i 1).val % 1024 = (i 1).val; rw [e5]; show (1 * ((i 0).val / 512 - 0) + 1 * ((i 1).val / 1024 - 0)) * 1024 + _ = _; omega

end Cert.Kernel8Ideal.Result

namespace Cert.Reference8Ideal.Result

open Cert.Reference8Ideal Cert.Reference8Ideal.Gen
open Idealize.ShloMosaic

/-- The reference's result at an index: the same sum, its two factors in the other order. -/
theorem result_apply (x : FVec Ideal S8192x512 .f32) (y : FVec Ideal S8192x1024 .f32) (i : S512x1024.Idx) :
    transpose S512x1024 [1, 0] (Host.dotGeneral dot_S8192x1024_S8192x512_S1024x512_0_0_1_1_n_n none y x) transposes_S1024x512_S512x1024_1_0 i
      = ∑ k : Fin 8192, x (ix2 k (i 0)) * y (ix2 k (i 1)) := by
  pointwise
  refine Finset.sum_congr rfl fun k _ => mul_comm _ _

end Cert.Reference8Ideal.Result

namespace Cert.Proof.AttnOutWeight

open Idealize.ShloMosaic Idealize.ShloMosaic.TcCoe Idealize.SL.Sem

/-- The kernel terminates without a fault, with its arguments unchanged and its counters at zero. -/
theorem frame_kernel : Cert.quiescent_Kernel8 (hKernel8 := Cert.Kernel8.Gen.facts) := fun m ρ _ => Cert.Kernel8.Gen.frame m ρ

/-- The same of the idealized kernel. -/
theorem frame_kernelIdeal : Cert.quiescent_Kernel8Ideal (hKernel8Ideal := Cert.Kernel8Ideal.Gen.facts) := fun m ρ _ => Cert.Kernel8Ideal.Gen.frame m ρ

/-- The same of the reference. -/
theorem frame_referenceIdeal : Cert.quiescent_Reference8Ideal (hReference8Ideal := Cert.Reference8Ideal.Gen.facts) := fun m ρ _ =>
  (θ_run Cert.Reference8Ideal.defs _ _).mono
    (fun r h => ⟨fun c => (h c).2, sem_eq_zero_of_no_sems (by decide) r.2⟩)
    (Cert.Reference8Ideal.Value.run (F := Ideal) m ρ)

/-- Over the extended reals the kernel computes the reference's matrix. -/
theorem algebraic : Cert.algebraic_Kernel8Ideal_Reference8Ideal (hKernel8Ideal := Cert.Kernel8Ideal.Gen.facts) (hReference8Ideal := Cert.Reference8Ideal.Gen.facts) := by
  intro m ρ m' ρ' _ hagree
  refine ⟨_, Cert.Kernel8Ideal.Value.run (F := Ideal) m ρ, ?_⟩
  refine (θ_run Cert.Reference8Ideal.defs _ _).mono (fun _ h c => ⟨(h c).1.trans ?_, (h c).2⟩)
    (Cert.Reference8Ideal.Value.run (F := Ideal) m' ρ')
  rw [(hagree c).1, (hagree c).2.2]
  funext i
  exact (Cert.Reference8Ideal.Result.result_apply _ _ i).trans (Cert.Kernel8Ideal.Result.result_apply m c i).symm

end Cert.Proof.AttnOutWeight

end
-- ==== Proof.Mixer.DeltaOutWeight.lean ====
/-
  The gradient of the delta net's output weight: the product of a transposed matrix and a matrix, cut along the tokens
  into four blocks of 2048 rows whose products are added up in the result's block. The sum over the four blocks is the
  sum over all tokens.
-/
module

public import proofs.«01_k».proof.Defs
public import proofs.«01_k».proof.Proof.Gen.Kernel9.Frame
public import proofs.«01_k».proof.Proof.Gen.Kernel9Ideal.Value
public import proofs.«01_k».proof.Proof.Gen.Reference9Ideal.Run
public import Idealize.ShloMosaic.Lib.Quiescent
public import Idealize.ShloMosaic.Lib.Pointwise

@[expose] public section

set_option maxRecDepth 65536

noncomputable section

namespace Cert.Kernel9Ideal.Result

open Cert.Kernel9Ideal Cert.Kernel9Ideal.Gen Cert.Kernel9Ideal.Value
open Idealize.ShloMosaic Idealize.ShloMosaic.TcCoe Idealize.SL.Sem

variable (m : (ℓ : Loc nD τ sig) → Buf (Elt Ideal) ℓ)

/-- The first matrix. -/
abbrev arr0 (c : Dev nD) : FVec Ideal S8192x1024 .f32 := m ((c : Thread nD τ).loc main_arg0)

/-- The second matrix. -/
abbrev arr1 (c : Dev nD) : FVec Ideal S8192x1024 .f32 := m ((c : Thread nD τ).loc main_arg2)

/-- The first input's block at a grid point. -/
abbrev blk0 (c : Dev nD) (t : Fin cfg0.N) : FVec Ideal S2048x1024 .bf16 := iblk m c 0 t

/-- The second input's block at a grid point. -/
abbrev blk1 (c : Dev nD) (t : Fin cfg0.N) : FVec Ideal S2048x1024 .bf16 := iblk m c 1 t

/-- The kernel's result. -/
abbrev res (c : Dev nD) : FVec Ideal S1024x1024 .f32 := G2 m c

/-- The block the accumulator starts from is zero. -/
theorem zero_apply (i : S1024x1024.Idx) : k0_pay1 (F := Ideal) i = 0 := by
  pointwise [k0_pay1]

/-- A step adds, at each place of the block, the products of the two input blocks' rows. -/
theorem step_apply (acc : FVec Ideal S1024x1024 .f32) (x : FVec Ideal S2048x1024 .bf16) (y : FVec Ideal S2048x1024 .bf16)
    (i : S1024x1024.Idx) :
    k0_pay2 (F := Ideal) acc x y i = acc i + ∑ k : Fin 2048, x (ix2 k (i 0)) * y (ix2 k (i 1)) := by
  pointwise [k0_pay2]

/-- What the first input holds when the blocks are fetched: the first matrix (the cast of a float is itself). -/
theorem entry0 (c : Dev nD) : V m c main_v0 = arr0 m c := by
  show StableHlo.after hostOps0 (fun b => m (c, b)) main_v0 = _
  after_results; rfl

/-- What the second input holds when the blocks are fetched: the second matrix. -/
theorem entry1 (c : Dev nD) : V m c main_v1 = arr1 m c := by
  show StableHlo.after hostOps0 (fun b => m (c, b)) main_v1 = _
  after_results; rfl

/-- Which blocks a grid point reads. -/
theorem places : ∀ t : Fin cfg0.N, win0_0.index t (0 : Fin 2) = t.val % 4 ∧ win0_0.index t (1 : Fin 2) = 0
    ∧ win0_1.index t (0 : Fin 2) = t.val % 4 ∧ win0_1.index t (1 : Fin 2) = t.val / 4 :=
  (by decide +kernel : ∀ t : Fin grid0.N, _)

/-- The first input's block at a grid point, in the first matrix's own coordinates. -/
theorem block0 (c : Dev nD) (t : Fin cfg0.N) (k : Fin 2048) (r : Fin 1024) (h0 : t.val % 4 * 2048 + k.val < 8192)
    (h1 : 0 * 1024 + r.val < 1024) :
    blk0 m c t (ix2 k r) = arr0 m c (ix2 ⟨t.val % 4 * 2048 + k.val, h0⟩ ⟨0 * 1024 + r.val, h1⟩) := by
  rw [← entry0 m c]
  show V m c main_v0 (((cfg0.win 0).blk t).view.emb (ix2 k r)) = _
  obtain ⟨e0, e1, -, -⟩ := places t
  refine congrArg _ (funext fun a => Fin.ext ?_)
  match a with
  | ⟨0, _⟩ => show win0_0.index t (0 : Fin 2) * 2048 + 1 * k.val = _; rw [e0]; show _ = t.val % 4 * 2048 + k.val; omega
  | ⟨1, _⟩ => show win0_0.index t (1 : Fin 2) * 1024 + 1 * r.val = _; rw [e1]; show _ = 0 * 1024 + r.val; omega

/-- The second input's block at a grid point, in the second matrix's own coordinates. -/
theorem block1 (c : Dev nD) (t : Fin cfg0.N) (k : Fin 2048) (r : Fin 1024) (h0 : t.val % 4 * 2048 + k.val < 8192)
    (h1 : (t.val / 4) * 1024 + r.val < 1024) :
    blk1 m c t (ix2 k r) = arr1 m c (ix2 ⟨t.val % 4 * 2048 + k.val, h0⟩ ⟨(t.val / 4) * 1024 + r.val, h1⟩) := by
  rw [← entry1 m c]
  show V m c main_v1 (((cfg0.win 1).blk t).view.emb (ix2 k r)) = _
  obtain ⟨-, -, e0, e1⟩ := places t
  refine congrArg _ (funext fun a => Fin.ext ?_)
  match a with
  | ⟨0, _⟩ => show win0_1.index t (0 : Fin 2) * 2048 + 1 * k.val = _; rw [e0]; show _ = t.val % 4 * 2048 + k.val; omega
  | ⟨1, _⟩ => show win0_1.index t (1 : Fin 2) * 1024 + 1 * r.val = _; rw [e1]; show _ = (t.val / 4) * 1024 + r.val; omega

/-- What grid point `n` adds at a place of its block: the products over its 2048 rows. -/
def part (c : Dev nD) (n : ℕ) (i : S1024x1024.Idx) : EReal :=
  if h : n < cfg0.N then ∑ k : Fin 2048, blk0 m c ⟨n, h⟩ (ix2 k (i 0)) * blk1 m c ⟨n, h⟩ (ix2 k (i 1))
  else 0

/-- The block written back is the sum of what its four grid points add. -/
theorem sum_parts (c : Dev nD) (b : ℕ) (h : b + 3 < cfg0.N) (i : S1024x1024.Idx) :
    Pipeline.accAt (reset2 m c) (step2 m c) b 3 h i = ∑ s ∈ Finset.range 4, part m c (b + s) i := by
  refine (Pipeline.accAt_add_apply (β := EReal) (reset2 m c) (step2 m c) (fun _ => 0) (part m c) b 3 ?_ ?_ 3 le_rfl h i).trans (zero_add _)
  · intro hb i
    unfold part; rw [dif_pos hb]
    exact (step_apply _ _ _ i).trans (by rw [zero_apply])
  · intro n hn acc i _ _
    unfold part; rw [dif_pos hn]
    exact step_apply _ _ _ i

/-- The result of the kernel at an index, as one sum over all tokens. -/
theorem result_apply (c : Dev nD) (i : S1024x1024.Idx) :
    res m c i = ∑ k : Fin 8192, arr0 m c (ix2 k (i 0))
      * arr1 m c (ix2 k (i 1)) := by
  have hN : cfg0.N = 4 := N_0
  have hi0 : (i 0).val < 1024 := (i 0).isLt
  have hi1 : (i 1).val < 1024 := (i 1).isLt
  have hr : run2Of i < 1 := by show 1 * ((i 0).val / 1024 - 0) + 1 * ((i 1).val / 1024 - 0) < 1; omega
  unfold res G2
  rw [dif_pos (by omega), sum_parts, Finset.sum_range, Fin.sum_univ_tiles (N := 8192) 4 2048 rfl]
  refine Finset.sum_congr rfl fun s _ => ?_
  have hs : s.val < 4 := s.isLt
  have e4 : (4 * run2Of i + s.val) % 4 = s.val := by omega
  have e5 : (4 * run2Of i + s.val) / 4 = run2Of i := by omega
  unfold part; rw [dif_pos (by omega)]
  refine Finset.sum_congr rfl fun k _ => ?_
  have hk : k.val < 2048 := k.isLt
  refine congrArg₂ _ ((block0 m c _ k _ ?_ ?_).trans (congrArg _ (funext fun a => Fin.ext ?_)))
    ((block1 m c _ k _ ?_ ?_).trans (congrArg _ (funext fun a => Fin.ext ?_)))
  · show (4 * run2Of i + s.val) % 4 * 2048 + k.val < 8192; omega
  · show 0 * 1024 + (i 0).val % 1024 < 1024; omega
  · match a with
    | ⟨0, _⟩ => show (4 * run2Of i + s.val) % 4 * 2048 + k.val = s.val * 2048 + k.val; omega
    | ⟨1, _⟩ => show 0 * 1024 + (i 0).val % 1024 = (i 0).val; omega
  · show (4 * run2Of i + s.val) % 4 * 2048 + k.val < 8192; omega
  · show ((4 * run2Of i + s.val) / 4) * 1024 + (i 1).val % 1024 < 1024; rw [e5]; show (1 * ((i 0).val / 1024 - 0) + 1 * ((i 1).val / 1024 - 0)) * 1024 + _ < _; omega
  · match a with
    | ⟨0, _⟩ => show (4 * run2Of i + s.val) % 4 * 2048 + k.val = s.val * 2048 + k.val; omega
    | ⟨1, _⟩ => show ((4 * run2Of i + s.val) / 4) * 1024 + (i 1).val % 1024 = (i 1).val; rw [e5]; show (1 * ((i 0).val / 1024 - 0) + 1 * ((i 1).val / 1024 - 0)) * 1024 + _ = _; omega

end Cert.Kernel9Ideal.Result

namespace Cert.Reference9Ideal.Result

open Cert.Reference9Ideal Cert.Reference9Ideal.Gen
open Idealize.ShloMosaic

/-- The reference's result at an index: the same sum, its two factors in the other order. -/
theorem result_apply (x : FVec Ideal S8192x1024 .f32) (y : FVec Ideal S8192x1024 .f32) (i : S1024x1024.Idx) :
    transpose S1024x1024 [1, 0] (Host.dotGeneral dot_S8192x1024_S8192x1024_S1024x1024_0_0_1_1_n_n none y x) transposes_S1024x1024_S1024x1024_1_0 i
      = ∑ k : Fin 8192, x (ix2 k (i 0)) * y (ix2 k (i 1)) := by
  pointwise
  refine Finset.sum_congr rfl fun k _ => mul_comm _ _

end Cert.Reference9Ideal.Result

namespace Cert.Proof.DeltaOutWeight

open Idealize.ShloMosaic Idealize.ShloMosaic.TcCoe Idealize.SL.Sem

/-- The kernel terminates without a fault, with its arguments unchanged and its counters at zero. -/
theorem frame_kernel : Cert.quiescent_Kernel9 (hKernel9 := Cert.Kernel9.Gen.facts) := fun m ρ _ => Cert.Kernel9.Gen.frame m ρ

/-- The same of the idealized kernel. -/
theorem frame_kernelIdeal : Cert.quiescent_Kernel9Ideal (hKernel9Ideal := Cert.Kernel9Ideal.Gen.facts) := fun m ρ _ => Cert.Kernel9Ideal.Gen.frame m ρ

/-- The same of the reference. -/
theorem frame_referenceIdeal : Cert.quiescent_Reference9Ideal (hReference9Ideal := Cert.Reference9Ideal.Gen.facts) := fun m ρ _ =>
  (θ_run Cert.Reference9Ideal.defs _ _).mono
    (fun r h => ⟨fun c => (h c).2, sem_eq_zero_of_no_sems (by decide) r.2⟩)
    (Cert.Reference9Ideal.Value.run (F := Ideal) m ρ)

/-- Over the extended reals the kernel computes the reference's matrix. -/
theorem algebraic : Cert.algebraic_Kernel9Ideal_Reference9Ideal (hKernel9Ideal := Cert.Kernel9Ideal.Gen.facts) (hReference9Ideal := Cert.Reference9Ideal.Gen.facts) := by
  intro m ρ m' ρ' _ hagree
  refine ⟨_, Cert.Kernel9Ideal.Value.run (F := Ideal) m ρ, ?_⟩
  refine (θ_run Cert.Reference9Ideal.defs _ _).mono (fun _ h c => ⟨(h c).1.trans ?_, (h c).2⟩)
    (Cert.Reference9Ideal.Value.run (F := Ideal) m' ρ')
  rw [(hagree c).1, (hagree c).2.2]
  funext i
  exact (Cert.Reference9Ideal.Result.result_apply _ _ i).trans (Cert.Kernel9Ideal.Result.result_apply m c i).symm

end Cert.Proof.DeltaOutWeight

end
-- ==== Proof.Mixer.AttnInput.lean ====
/-
  The gradient of the attention's input: the product with the transposed weight, 512 tokens at a time.
-/
module

public import proofs.«01_k».proof.Defs
public import proofs.«01_k».proof.Proof.Gen.Kernel10.Frame
public import proofs.«01_k».proof.Proof.Gen.Kernel10Ideal.Value
public import proofs.«01_k».proof.Proof.Gen.Reference10Ideal.Run
public import Idealize.ShloMosaic.Lib.Quiescent
public import Idealize.ShloMosaic.Lib.Pointwise

@[expose] public section

set_option maxRecDepth 65536

noncomputable section

namespace Cert.Kernel10Ideal.Result

open Cert.Kernel10Ideal Cert.Kernel10Ideal.Gen Cert.Kernel10Ideal.Value
open Idealize.ShloMosaic Idealize.ShloMosaic.TcCoe Idealize.SL.Sem

variable (m : (ℓ : Loc nD τ sig) → Buf (Elt Ideal) ℓ)

/-- The weight. -/
abbrev wt (c : Dev nD) : FVec Ideal S1024x4608 .f32 := m ((c : Thread nD τ).loc main_arg1)

/-- The gradient of the product. -/
abbrev ct (c : Dev nD) : FVec Ideal S8192x4608 .f32 := m ((c : Thread nD τ).loc main_arg2)

/-- The blocks a grid point reads. -/
abbrev blk0 (c : Dev nD) (t : Fin cfg0.N) : FVec Ideal S512x4608 .bf16 := iblk m c 0 t
abbrev blk1 (c : Dev nD) (t : Fin cfg0.N) : FVec Ideal S1024x4608 .bf16 := iblk m c 1 t

/-- What the body computes of its blocks: at each place, a row's product with a row. -/
theorem body_apply (x : FVec Ideal S512x4608 .bf16) (y : FVec Ideal S1024x4608 .bf16) (i : S512x1024.Idx) :
    k0_pay1 (F := Ideal) x y i = ∑ k : Fin 4608, x (ix2 (i 0) k) * y (ix2 (i 1) k) := by
  pointwise [k0_pay1]

/-- The block the body leaves is its one store's. -/
theorem out_2 (x : FVec Ideal S512x4608 .bf16) (y : FVec Ideal S1024x4608 .bf16) :
    out0_2 (F := Ideal) x y = k0_pay1 (F := Ideal) x y := by
  have hz : (![0, 0] : Fin 2 → Nat) = fun _ => 0 := funext fun a => by fin_cases a <;> rfl
  unfold out0_2
  rw [View.canon_unit_zero hz]
  simp only [View.ld_unit_zero (S := S512x4608) hz, View.ld_unit_zero (S := S1024x4608) hz]

/-- What the inputs hold when the blocks are fetched: the arguments (the cast of a float is itself). -/
theorem entry0 (c : Dev nD) : V m c main_v0 = ct m c := by
  show StableHlo.after hostOps0 (fun b => m (c, b)) main_v0 = _
  after_results; rfl
theorem entry1 (c : Dev nD) : V m c main_v1 = wt m c := by
  show StableHlo.after hostOps0 (fun b => m (c, b)) main_v1 = _
  after_results; rfl

/-- Which blocks a grid point reads and writes. -/
theorem index0 : ∀ t : Fin cfg0.N, win0_0.index t = ![t.val % 16, 0] := (by decide +kernel : ∀ t : Fin grid0.N, _)
theorem index1 : ∀ t : Fin cfg0.N, win0_1.index t = ![t.val / 16, 0] := (by decide +kernel : ∀ t : Fin grid0.N, _)
theorem index2 : ∀ t : Fin cfg0.N, win0_2.index t = ![t.val % 16, t.val / 16] := (by decide +kernel : ∀ t : Fin grid0.N, _)

/-- A token of a block is a token of the whole. -/
theorem row_lt (t : Fin cfg0.N) (r : Fin 512) : t.val % 16 * 512 + r.val < 8192 := by omega

/-- A column of a block is a column of the whole. -/
theorem col_lt (t : Fin cfg0.N) (k : Fin 1024) : t.val / 16 * 1024 + k.val < 1024 := by
  have := t.isLt; have hN : cfg0.N = 16 := N_0; omega

/-- The blocks in the arrays' own coordinates. -/
theorem block0 (c : Dev nD) (t : Fin cfg0.N) (r : Fin 512) (k : Fin 4608) :
    blk0 m c t (ix2 r k) = ct m c (ix2 ⟨t.val % 16 * 512 + r.val, row_lt t r⟩ k) := by
  rw [← entry0 m c]
  show V m c main_v0 (((cfg0.win 0).blk t).view.emb (ix2 r k)) = _
  have e := index0 t
  refine congrArg _ (funext fun a => Fin.ext ?_)
  match a with
  | ⟨0, _⟩ => show win0_0.index t (0 : Fin 2) * 512 + 1 * r.val = _; rw [e]; show t.val % 16 * 512 + 1 * r.val = t.val % 16 * 512 + r.val; omega
  | ⟨1, _⟩ => show win0_0.index t (1 : Fin 2) * 4608 + 1 * k.val = _; rw [e]; show 0 * 4608 + 1 * k.val = k.val; omega
theorem block1 (c : Dev nD) (t : Fin cfg0.N) (r : Fin 1024) (k : Fin 4608) :
    blk1 m c t (ix2 r k) = wt m c (ix2 ⟨t.val / 16 * 1024 + r.val, col_lt t r⟩ k) := by
  rw [← entry1 m c]
  show V m c main_v1 (((cfg0.win 1).blk t).view.emb (ix2 r k)) = _
  have e := index1 t
  refine congrArg _ (funext fun a => Fin.ext ?_)
  match a with
  | ⟨0, _⟩ => show win0_1.index t (0 : Fin 2) * 1024 + 1 * r.val = _; rw [e]; show t.val / 16 * 1024 + 1 * r.val = t.val / 16 * 1024 + r.val; omega
  | ⟨1, _⟩ => show win0_1.index t (1 : Fin 2) * 4608 + 1 * k.val = _; rw [e]; show 0 * 4608 + 1 * k.val = k.val; omega

/-- The gradient, entry by entry. -/
def grad (c : Dev nD) : FVec Ideal S8192x1024 .f32 := fun i => ∑ k : Fin 4608, ct m c (ix2 (i 0) k) * wt m c (ix2 (i 1) k)

theorem body_2 (c : Dev nD) (t : Fin cfg0.N) (y : S512x1024.Idx) :
    k0_pay1 (F := Ideal) (blk0 m c t) (blk1 m c t) y
      = grad m c (ix2 ⟨t.val % 16 * 512 + (y 0).val, row_lt t (y 0)⟩ ⟨t.val / 16 * 1024 + (y 1).val, col_lt t (y 1)⟩) :=
  (body_apply (blk0 m c t) (blk1 m c t) y).trans
    (Finset.sum_congr rfl fun k _ => congrArg₂ _ (block0 m c t (y 0) k) (block1 m c t (y 1) k))

/-- What a grid point writes back is its block of the gradient. -/
theorem flushed_2 (c : Dev nD) (t : Fin cfg0.N) :
    (dats m 0 c).flushed 2 t = ((cfg0.win 2).blk t).view.read (Elt Ideal) (grad m c) := by
  rw [flushed2]
  refine (congrArg ((cfg0.win 2).cut (grid0.coords t)) (out_2 (blk0 m c t) (blk1 m c t))).trans ?_
  funext y
  have e := index2 t
  have e0 : ((cfg0.win 2).blk t).view.emb y (0 : Fin 2) = (⟨t.val % 16 * 512 + (y 0).val, row_lt t (y 0)⟩ : Fin 8192) := Fin.ext (by
    show win0_2.index t (0 : Fin 2) * 512 + 1 * (y 0).val = _; rw [e]; show t.val % 16 * 512 + 1 * (y 0).val = t.val % 16 * 512 + (y 0).val; omega)
  have e1 : ((cfg0.win 2).blk t).view.emb y (1 : Fin 2) = (⟨t.val / 16 * 1024 + (y 1).val, col_lt t (y 1)⟩ : Fin 1024) := Fin.ext (by
    show win0_2.index t (1 : Fin 2) * 1024 + 1 * (y 1).val = _; rw [e]; show t.val / 16 * 1024 + 1 * (y 1).val = t.val / 16 * 1024 + (y 1).val; omega)
  show _ = grad m c (((cfg0.win 2).blk t).view.emb y)
  rw [eq_ix2 (((cfg0.win 2).blk t).view.emb y), e0, e1]
  exact body_2 m c t y

/-- Every entry is in the block of the grid point that computes it. -/
theorem covered_2 (i : S8192x1024.Idx) : ∃ t : Fin cfg0.N, (cfg0.win 2).flush t = true ∧ i ∈ ((cfg0.win 2).blk t).view.set := by
  have h0 : (i 0).val < 8192 := (i 0).isLt
  have h1 : (i 1).val < 1024 := (i 1).isLt
  have hN : cfg0.N = 16 := N_0
  obtain ⟨n, hn⟩ : ∃ n, n = (i 1).val / 1024 * 16 + (i 0).val / 512 := ⟨_, rfl⟩
  have ht : n < cfg0.N := by omega
  have d0 : n % 16 = (i 0).val / 512 := by omega
  have d1 : n / 16 = (i 1).val / 1024 := by omega
  refine ⟨⟨n, ht⟩, flush0_2 _, ?_⟩
  show i ∈ ((View.whole main_v2).slice (win0_2.rect ⟨n, ht⟩)).set
  rw [View.set_slice_whole, Rect.mem_set_unit]
  have e := index2 ⟨n, ht⟩
  intro a
  match a with
  | ⟨0, _⟩ =>
    show win0_2.index ⟨n, ht⟩ (0 : Fin 2) * 512 ≤ (i 0).val ∧ (i 0).val < win0_2.index ⟨n, ht⟩ (0 : Fin 2) * 512 + 512
    rw [e]; show n % 16 * 512 ≤ (i 0).val ∧ (i 0).val < n % 16 * 512 + 512; rw [d0]; omega
  | ⟨1, _⟩ =>
    show win0_2.index ⟨n, ht⟩ (1 : Fin 2) * 1024 ≤ (i 1).val ∧ (i 1).val < win0_2.index ⟨n, ht⟩ (1 : Fin 2) * 1024 + 1024
    rw [e]; show n / 16 * 1024 ≤ (i 1).val ∧ (i 1).val < n / 16 * 1024 + 1024; rw [d1]; omega

/-- The array after the run: the blocks tile it. -/
theorem final_2 (c : Dev nD) : (dats m 0 c).arrAt 2 cfg0.N = grad m c :=
  (dats m 0 c).arrAt_eq_of_cover 2 _ (fun t _ => flushed_2 m c t) covered_2

end Cert.Kernel10Ideal.Result

namespace Cert.Reference10Ideal.Result

open Cert.Reference10Ideal Cert.Reference10Ideal.Gen
open Idealize.ShloMosaic

/-- The reference's result at an index. -/
theorem result_apply (w : FVec Ideal S1024x4608 .f32) (x : FVec Ideal S8192x4608 .f32) (i : S8192x1024.Idx) :
    Host.dotGeneral dot_S8192x4608_S1024x4608_S8192x1024_1_1_0_0_n_n none x w i
      = ∑ k : Fin 4608, x (ix2 (i 0) k) * w (ix2 (i 1) k) := by
  pointwise

end Cert.Reference10Ideal.Result

namespace Cert.Proof.AttnInput

open Idealize.ShloMosaic Idealize.ShloMosaic.TcCoe Idealize.SL.Sem

/-- The kernel terminates without a fault, with its arguments unchanged and its counters at zero. -/
theorem frame_kernel : Cert.quiescent_Kernel10 (hKernel10 := Cert.Kernel10.Gen.facts) := fun m ρ _ => Cert.Kernel10.Gen.frame m ρ

/-- The same of the idealized kernel. -/
theorem frame_kernelIdeal : Cert.quiescent_Kernel10Ideal (hKernel10Ideal := Cert.Kernel10Ideal.Gen.facts) := fun m ρ _ => Cert.Kernel10Ideal.Gen.frame m ρ

/-- The same of the reference. -/
theorem frame_referenceIdeal : Cert.quiescent_Reference10Ideal (hReference10Ideal := Cert.Reference10Ideal.Gen.facts) := fun m ρ _ =>
  (θ_run Cert.Reference10Ideal.defs _ _).mono
    (fun r h => ⟨fun c => (h c).2, sem_eq_zero_of_no_sems (by decide) r.2⟩)
    (Cert.Reference10Ideal.Value.run (F := Ideal) m ρ)

/-- Over the extended reals the kernel computes the reference's values. -/
theorem algebraic : Cert.algebraic_Kernel10Ideal_Reference10Ideal (hKernel10Ideal := Cert.Kernel10Ideal.Gen.facts) (hReference10Ideal := Cert.Reference10Ideal.Gen.facts) := by
  intro m ρ m' ρ' _ hagree
  refine ⟨_, Cert.Kernel10Ideal.Value.run_blocks (F := Ideal) m ρ, ?_⟩
  refine (θ_run Cert.Reference10Ideal.defs _ _).mono (fun _ h c => ⟨(h c).1.trans ?_, (h c).2⟩)
    (Cert.Reference10Ideal.Value.run (F := Ideal) m' ρ')
  · rw [(hagree c).2.1, (hagree c).2.2, Cert.Kernel10Ideal.Result.final_2]
    funext i
    exact Cert.Reference10Ideal.Result.result_apply _ _ i

end Cert.Proof.AttnInput

end
-- ==== Proof.Mixer.DeltaInput.lean ====
/-
  The gradient of the delta net's input: the product with the transposed weight, 512 tokens at a time.
-/
module

public import proofs.«01_k».proof.Defs
public import proofs.«01_k».proof.Proof.Gen.Kernel11.Frame
public import proofs.«01_k».proof.Proof.Gen.Kernel11Ideal.Value
public import proofs.«01_k».proof.Proof.Gen.Reference11Ideal.Run
public import Idealize.ShloMosaic.Lib.Quiescent
public import Idealize.ShloMosaic.Lib.Pointwise

@[expose] public section

set_option maxRecDepth 65536

noncomputable section

namespace Cert.Kernel11Ideal.Result

open Cert.Kernel11Ideal Cert.Kernel11Ideal.Gen Cert.Kernel11Ideal.Value
open Idealize.ShloMosaic Idealize.ShloMosaic.TcCoe Idealize.SL.Sem

variable (m : (ℓ : Loc nD τ sig) → Buf (Elt Ideal) ℓ)

/-- The weight. -/
abbrev wt (c : Dev nD) : FVec Ideal S1024x4224 .f32 := m ((c : Thread nD τ).loc main_arg1)

/-- The gradient of the product. -/
abbrev ct (c : Dev nD) : FVec Ideal S8192x4224 .f32 := m ((c : Thread nD τ).loc main_arg2)

/-- The blocks a grid point reads. -/
abbrev blk0 (c : Dev nD) (t : Fin cfg0.N) : FVec Ideal S512x4224 .bf16 := iblk m c 0 t
abbrev blk1 (c : Dev nD) (t : Fin cfg0.N) : FVec Ideal S1024x4224 .bf16 := iblk m c 1 t

/-- What the body computes of its blocks: at each place, a row's product with a row. -/
theorem body_apply (x : FVec Ideal S512x4224 .bf16) (y : FVec Ideal S1024x4224 .bf16) (i : S512x1024.Idx) :
    k0_pay1 (F := Ideal) x y i = ∑ k : Fin 4224, x (ix2 (i 0) k) * y (ix2 (i 1) k) := by
  pointwise [k0_pay1]

/-- The block the body leaves is its one store's. -/
theorem out_2 (x : FVec Ideal S512x4224 .bf16) (y : FVec Ideal S1024x4224 .bf16) :
    out0_2 (F := Ideal) x y = k0_pay1 (F := Ideal) x y := by
  have hz : (![0, 0] : Fin 2 → Nat) = fun _ => 0 := funext fun a => by fin_cases a <;> rfl
  unfold out0_2
  rw [View.canon_unit_zero hz]
  simp only [View.ld_unit_zero (S := S512x4224) hz, View.ld_unit_zero (S := S1024x4224) hz]

/-- What the inputs hold when the blocks are fetched: the arguments (the cast of a float is itself). -/
theorem entry0 (c : Dev nD) : V m c main_v0 = ct m c := by
  show StableHlo.after hostOps0 (fun b => m (c, b)) main_v0 = _
  after_results; rfl
theorem entry1 (c : Dev nD) : V m c main_v1 = wt m c := by
  show StableHlo.after hostOps0 (fun b => m (c, b)) main_v1 = _
  after_results; rfl

/-- Which blocks a grid point reads and writes. -/
theorem index0 : ∀ t : Fin cfg0.N, win0_0.index t = ![t.val % 16, 0] := (by decide +kernel : ∀ t : Fin grid0.N, _)
theorem index1 : ∀ t : Fin cfg0.N, win0_1.index t = ![t.val / 16, 0] := (by decide +kernel : ∀ t : Fin grid0.N, _)
theorem index2 : ∀ t : Fin cfg0.N, win0_2.index t = ![t.val % 16, t.val / 16] := (by decide +kernel : ∀ t : Fin grid0.N, _)

/-- A token of a block is a token of the whole. -/
theorem row_lt (t : Fin cfg0.N) (r : Fin 512) : t.val % 16 * 512 + r.val < 8192 := by omega

/-- A column of a block is a column of the whole. -/
theorem col_lt (t : Fin cfg0.N) (k : Fin 1024) : t.val / 16 * 1024 + k.val < 1024 := by
  have := t.isLt; have hN : cfg0.N = 16 := N_0; omega

/-- The blocks in the arrays' own coordinates. -/
theorem block0 (c : Dev nD) (t : Fin cfg0.N) (r : Fin 512) (k : Fin 4224) :
    blk0 m c t (ix2 r k) = ct m c (ix2 ⟨t.val % 16 * 512 + r.val, row_lt t r⟩ k) := by
  rw [← entry0 m c]
  show V m c main_v0 (((cfg0.win 0).blk t).view.emb (ix2 r k)) = _
  have e := index0 t
  refine congrArg _ (funext fun a => Fin.ext ?_)
  match a with
  | ⟨0, _⟩ => show win0_0.index t (0 : Fin 2) * 512 + 1 * r.val = _; rw [e]; show t.val % 16 * 512 + 1 * r.val = t.val % 16 * 512 + r.val; omega
  | ⟨1, _⟩ => show win0_0.index t (1 : Fin 2) * 4224 + 1 * k.val = _; rw [e]; show 0 * 4224 + 1 * k.val = k.val; omega
theorem block1 (c : Dev nD) (t : Fin cfg0.N) (r : Fin 1024) (k : Fin 4224) :
    blk1 m c t (ix2 r k) = wt m c (ix2 ⟨t.val / 16 * 1024 + r.val, col_lt t r⟩ k) := by
  rw [← entry1 m c]
  show V m c main_v1 (((cfg0.win 1).blk t).view.emb (ix2 r k)) = _
  have e := index1 t
  refine congrArg _ (funext fun a => Fin.ext ?_)
  match a with
  | ⟨0, _⟩ => show win0_1.index t (0 : Fin 2) * 1024 + 1 * r.val = _; rw [e]; show t.val / 16 * 1024 + 1 * r.val = t.val / 16 * 1024 + r.val; omega
  | ⟨1, _⟩ => show win0_1.index t (1 : Fin 2) * 4224 + 1 * k.val = _; rw [e]; show 0 * 4224 + 1 * k.val = k.val; omega

/-- The gradient, entry by entry. -/
def grad (c : Dev nD) : FVec Ideal S8192x1024 .f32 := fun i => ∑ k : Fin 4224, ct m c (ix2 (i 0) k) * wt m c (ix2 (i 1) k)

theorem body_2 (c : Dev nD) (t : Fin cfg0.N) (y : S512x1024.Idx) :
    k0_pay1 (F := Ideal) (blk0 m c t) (blk1 m c t) y
      = grad m c (ix2 ⟨t.val % 16 * 512 + (y 0).val, row_lt t (y 0)⟩ ⟨t.val / 16 * 1024 + (y 1).val, col_lt t (y 1)⟩) :=
  (body_apply (blk0 m c t) (blk1 m c t) y).trans
    (Finset.sum_congr rfl fun k _ => congrArg₂ _ (block0 m c t (y 0) k) (block1 m c t (y 1) k))

/-- What a grid point writes back is its block of the gradient. -/
theorem flushed_2 (c : Dev nD) (t : Fin cfg0.N) :
    (dats m 0 c).flushed 2 t = ((cfg0.win 2).blk t).view.read (Elt Ideal) (grad m c) := by
  rw [flushed2]
  refine (congrArg ((cfg0.win 2).cut (grid0.coords t)) (out_2 (blk0 m c t) (blk1 m c t))).trans ?_
  funext y
  have e := index2 t
  have e0 : ((cfg0.win 2).blk t).view.emb y (0 : Fin 2) = (⟨t.val % 16 * 512 + (y 0).val, row_lt t (y 0)⟩ : Fin 8192) := Fin.ext (by
    show win0_2.index t (0 : Fin 2) * 512 + 1 * (y 0).val = _; rw [e]; show t.val % 16 * 512 + 1 * (y 0).val = t.val % 16 * 512 + (y 0).val; omega)
  have e1 : ((cfg0.win 2).blk t).view.emb y (1 : Fin 2) = (⟨t.val / 16 * 1024 + (y 1).val, col_lt t (y 1)⟩ : Fin 1024) := Fin.ext (by
    show win0_2.index t (1 : Fin 2) * 1024 + 1 * (y 1).val = _; rw [e]; show t.val / 16 * 1024 + 1 * (y 1).val = t.val / 16 * 1024 + (y 1).val; omega)
  show _ = grad m c (((cfg0.win 2).blk t).view.emb y)
  rw [eq_ix2 (((cfg0.win 2).blk t).view.emb y), e0, e1]
  exact body_2 m c t y

/-- Every entry is in the block of the grid point that computes it. -/
theorem covered_2 (i : S8192x1024.Idx) : ∃ t : Fin cfg0.N, (cfg0.win 2).flush t = true ∧ i ∈ ((cfg0.win 2).blk t).view.set := by
  have h0 : (i 0).val < 8192 := (i 0).isLt
  have h1 : (i 1).val < 1024 := (i 1).isLt
  have hN : cfg0.N = 16 := N_0
  obtain ⟨n, hn⟩ : ∃ n, n = (i 1).val / 1024 * 16 + (i 0).val / 512 := ⟨_, rfl⟩
  have ht : n < cfg0.N := by omega
  have d0 : n % 16 = (i 0).val / 512 := by omega
  have d1 : n / 16 = (i 1).val / 1024 := by omega
  refine ⟨⟨n, ht⟩, flush0_2 _, ?_⟩
  show i ∈ ((View.whole main_v2).slice (win0_2.rect ⟨n, ht⟩)).set
  rw [View.set_slice_whole, Rect.mem_set_unit]
  have e := index2 ⟨n, ht⟩
  intro a
  match a with
  | ⟨0, _⟩ =>
    show win0_2.index ⟨n, ht⟩ (0 : Fin 2) * 512 ≤ (i 0).val ∧ (i 0).val < win0_2.index ⟨n, ht⟩ (0 : Fin 2) * 512 + 512
    rw [e]; show n % 16 * 512 ≤ (i 0).val ∧ (i 0).val < n % 16 * 512 + 512; rw [d0]; omega
  | ⟨1, _⟩ =>
    show win0_2.index ⟨n, ht⟩ (1 : Fin 2) * 1024 ≤ (i 1).val ∧ (i 1).val < win0_2.index ⟨n, ht⟩ (1 : Fin 2) * 1024 + 1024
    rw [e]; show n / 16 * 1024 ≤ (i 1).val ∧ (i 1).val < n / 16 * 1024 + 1024; rw [d1]; omega

/-- The array after the run: the blocks tile it. -/
theorem final_2 (c : Dev nD) : (dats m 0 c).arrAt 2 cfg0.N = grad m c :=
  (dats m 0 c).arrAt_eq_of_cover 2 _ (fun t _ => flushed_2 m c t) covered_2

end Cert.Kernel11Ideal.Result

namespace Cert.Reference11Ideal.Result

open Cert.Reference11Ideal Cert.Reference11Ideal.Gen
open Idealize.ShloMosaic

/-- The reference's result at an index. -/
theorem result_apply (w : FVec Ideal S1024x4224 .f32) (x : FVec Ideal S8192x4224 .f32) (i : S8192x1024.Idx) :
    Host.dotGeneral dot_S8192x4224_S1024x4224_S8192x1024_1_1_0_0_n_n none x w i
      = ∑ k : Fin 4224, x (ix2 (i 0) k) * w (ix2 (i 1) k) := by
  pointwise

end Cert.Reference11Ideal.Result

namespace Cert.Proof.DeltaInput

open Idealize.ShloMosaic Idealize.ShloMosaic.TcCoe Idealize.SL.Sem

/-- The kernel terminates without a fault, with its arguments unchanged and its counters at zero. -/
theorem frame_kernel : Cert.quiescent_Kernel11 (hKernel11 := Cert.Kernel11.Gen.facts) := fun m ρ _ => Cert.Kernel11.Gen.frame m ρ

/-- The same of the idealized kernel. -/
theorem frame_kernelIdeal : Cert.quiescent_Kernel11Ideal (hKernel11Ideal := Cert.Kernel11Ideal.Gen.facts) := fun m ρ _ => Cert.Kernel11Ideal.Gen.frame m ρ

/-- The same of the reference. -/
theorem frame_referenceIdeal : Cert.quiescent_Reference11Ideal (hReference11Ideal := Cert.Reference11Ideal.Gen.facts) := fun m ρ _ =>
  (θ_run Cert.Reference11Ideal.defs _ _).mono
    (fun r h => ⟨fun c => (h c).2, sem_eq_zero_of_no_sems (by decide) r.2⟩)
    (Cert.Reference11Ideal.Value.run (F := Ideal) m ρ)

/-- Over the extended reals the kernel computes the reference's values. -/
theorem algebraic : Cert.algebraic_Kernel11Ideal_Reference11Ideal (hKernel11Ideal := Cert.Kernel11Ideal.Gen.facts) (hReference11Ideal := Cert.Reference11Ideal.Gen.facts) := by
  intro m ρ m' ρ' _ hagree
  refine ⟨_, Cert.Kernel11Ideal.Value.run_blocks (F := Ideal) m ρ, ?_⟩
  refine (θ_run Cert.Reference11Ideal.defs _ _).mono (fun _ h c => ⟨(h c).1.trans ?_, (h c).2⟩)
    (Cert.Reference11Ideal.Value.run (F := Ideal) m' ρ')
  · rw [(hagree c).2.1, (hagree c).2.2, Cert.Kernel11Ideal.Result.final_2]
    funext i
    exact Cert.Reference11Ideal.Result.result_apply _ _ i

end Cert.Proof.DeltaInput

end
-- ==== Proof.Mixer.AttnMerged.lean ====
/-
  The gradient of the attention's merged output: the product with the transposed output weight, 512 tokens at a time.
-/
module

public import proofs.«01_k».proof.Defs
public import proofs.«01_k».proof.Proof.Gen.Kernel12.Frame
public import proofs.«01_k».proof.Proof.Gen.Kernel12Ideal.Value
public import proofs.«01_k».proof.Proof.Gen.Reference12Ideal.Run
public import Idealize.ShloMosaic.Lib.Quiescent
public import Idealize.ShloMosaic.Lib.Pointwise

@[expose] public section

set_option maxRecDepth 65536

noncomputable section

namespace Cert.Kernel12Ideal.Result

open Cert.Kernel12Ideal Cert.Kernel12Ideal.Gen Cert.Kernel12Ideal.Value
open Idealize.ShloMosaic Idealize.ShloMosaic.TcCoe Idealize.SL.Sem

variable (m : (ℓ : Loc nD τ sig) → Buf (Elt Ideal) ℓ)

/-- The weight. -/
abbrev wt (c : Dev nD) : FVec Ideal S512x1024 .f32 := m ((c : Thread nD τ).loc main_arg1)

/-- The gradient of the product. -/
abbrev ct (c : Dev nD) : FVec Ideal S8192x1024 .f32 := m ((c : Thread nD τ).loc main_arg2)

/-- The blocks a grid point reads. -/
abbrev blk0 (c : Dev nD) (t : Fin cfg0.N) : FVec Ideal S512x1024 .bf16 := iblk m c 0 t
abbrev blk1 (c : Dev nD) (t : Fin cfg0.N) : FVec Ideal S512x1024 .bf16 := iblk m c 1 t

/-- What the body computes of its blocks: at each place, a row's product with a row. -/
theorem body_apply (x : FVec Ideal S512x1024 .bf16) (y : FVec Ideal S512x1024 .bf16) (i : S512x512.Idx) :
    k0_pay1 (F := Ideal) x y i = ∑ k : Fin 1024, x (ix2 (i 0) k) * y (ix2 (i 1) k) := by
  pointwise [k0_pay1]

/-- The block the body leaves is its one store's. -/
theorem out_2 (x : FVec Ideal S512x1024 .bf16) (y : FVec Ideal S512x1024 .bf16) :
    out0_2 (F := Ideal) x y = k0_pay1 (F := Ideal) x y := by
  have hz : (![0, 0] : Fin 2 → Nat) = fun _ => 0 := funext fun a => by fin_cases a <;> rfl
  unfold out0_2
  rw [View.canon_unit_zero hz]
  simp only [View.ld_unit_zero (S := S512x1024) hz]

/-- What the inputs hold when the blocks are fetched: the arguments (the cast of a float is itself). -/
theorem entry0 (c : Dev nD) : V m c main_v0 = ct m c := by
  show StableHlo.after hostOps0 (fun b => m (c, b)) main_v0 = _
  after_results; rfl
theorem entry1 (c : Dev nD) : V m c main_v1 = wt m c := by
  show StableHlo.after hostOps0 (fun b => m (c, b)) main_v1 = _
  after_results; rfl

/-- Which blocks a grid point reads and writes. -/
theorem index0 : ∀ t : Fin cfg0.N, win0_0.index t = ![t.val % 16, 0] := (by decide +kernel : ∀ t : Fin grid0.N, _)
theorem index1 : ∀ t : Fin cfg0.N, win0_1.index t = ![t.val / 16, 0] := (by decide +kernel : ∀ t : Fin grid0.N, _)
theorem index2 : ∀ t : Fin cfg0.N, win0_2.index t = ![t.val % 16, t.val / 16] := (by decide +kernel : ∀ t : Fin grid0.N, _)

/-- A token of a block is a token of the whole. -/
theorem row_lt (t : Fin cfg0.N) (r : Fin 512) : t.val % 16 * 512 + r.val < 8192 := by omega

/-- A column of a block is a column of the whole. -/
theorem col_lt (t : Fin cfg0.N) (k : Fin 512) : t.val / 16 * 512 + k.val < 512 := by
  have := t.isLt; have hN : cfg0.N = 16 := N_0; omega

/-- The blocks in the arrays' own coordinates. -/
theorem block0 (c : Dev nD) (t : Fin cfg0.N) (r : Fin 512) (k : Fin 1024) :
    blk0 m c t (ix2 r k) = ct m c (ix2 ⟨t.val % 16 * 512 + r.val, row_lt t r⟩ k) := by
  rw [← entry0 m c]
  show V m c main_v0 (((cfg0.win 0).blk t).view.emb (ix2 r k)) = _
  have e := index0 t
  refine congrArg _ (funext fun a => Fin.ext ?_)
  match a with
  | ⟨0, _⟩ => show win0_0.index t (0 : Fin 2) * 512 + 1 * r.val = _; rw [e]; show t.val % 16 * 512 + 1 * r.val = t.val % 16 * 512 + r.val; omega
  | ⟨1, _⟩ => show win0_0.index t (1 : Fin 2) * 1024 + 1 * k.val = _; rw [e]; show 0 * 1024 + 1 * k.val = k.val; omega
theorem block1 (c : Dev nD) (t : Fin cfg0.N) (r : Fin 512) (k : Fin 1024) :
    blk1 m c t (ix2 r k) = wt m c (ix2 ⟨t.val / 16 * 512 + r.val, col_lt t r⟩ k) := by
  rw [← entry1 m c]
  show V m c main_v1 (((cfg0.win 1).blk t).view.emb (ix2 r k)) = _
  have e := index1 t
  refine congrArg _ (funext fun a => Fin.ext ?_)
  match a with
  | ⟨0, _⟩ => show win0_1.index t (0 : Fin 2) * 512 + 1 * r.val = _; rw [e]; show t.val / 16 * 512 + 1 * r.val = t.val / 16 * 512 + r.val; omega
  | ⟨1, _⟩ => show win0_1.index t (1 : Fin 2) * 1024 + 1 * k.val = _; rw [e]; show 0 * 1024 + 1 * k.val = k.val; omega

/-- The gradient, entry by entry. -/
def grad (c : Dev nD) : FVec Ideal S8192x512 .f32 := fun i => ∑ k : Fin 1024, ct m c (ix2 (i 0) k) * wt m c (ix2 (i 1) k)

theorem body_2 (c : Dev nD) (t : Fin cfg0.N) (y : S512x512.Idx) :
    k0_pay1 (F := Ideal) (blk0 m c t) (blk1 m c t) y
      = grad m c (ix2 ⟨t.val % 16 * 512 + (y 0).val, row_lt t (y 0)⟩ ⟨t.val / 16 * 512 + (y 1).val, col_lt t (y 1)⟩) :=
  (body_apply (blk0 m c t) (blk1 m c t) y).trans
    (Finset.sum_congr rfl fun k _ => congrArg₂ _ (block0 m c t (y 0) k) (block1 m c t (y 1) k))

/-- What a grid point writes back is its block of the gradient. -/
theorem flushed_2 (c : Dev nD) (t : Fin cfg0.N) :
    (dats m 0 c).flushed 2 t = ((cfg0.win 2).blk t).view.read (Elt Ideal) (grad m c) := by
  rw [flushed2]
  refine (congrArg ((cfg0.win 2).cut (grid0.coords t)) (out_2 (blk0 m c t) (blk1 m c t))).trans ?_
  funext y
  have e := index2 t
  have e0 : ((cfg0.win 2).blk t).view.emb y (0 : Fin 2) = (⟨t.val % 16 * 512 + (y 0).val, row_lt t (y 0)⟩ : Fin 8192) := Fin.ext (by
    show win0_2.index t (0 : Fin 2) * 512 + 1 * (y 0).val = _; rw [e]; show t.val % 16 * 512 + 1 * (y 0).val = t.val % 16 * 512 + (y 0).val; omega)
  have e1 : ((cfg0.win 2).blk t).view.emb y (1 : Fin 2) = (⟨t.val / 16 * 512 + (y 1).val, col_lt t (y 1)⟩ : Fin 512) := Fin.ext (by
    show win0_2.index t (1 : Fin 2) * 512 + 1 * (y 1).val = _; rw [e]; show t.val / 16 * 512 + 1 * (y 1).val = t.val / 16 * 512 + (y 1).val; omega)
  show _ = grad m c (((cfg0.win 2).blk t).view.emb y)
  rw [eq_ix2 (((cfg0.win 2).blk t).view.emb y), e0, e1]
  exact body_2 m c t y

/-- Every entry is in the block of the grid point that computes it. -/
theorem covered_2 (i : S8192x512.Idx) : ∃ t : Fin cfg0.N, (cfg0.win 2).flush t = true ∧ i ∈ ((cfg0.win 2).blk t).view.set := by
  have h0 : (i 0).val < 8192 := (i 0).isLt
  have h1 : (i 1).val < 512 := (i 1).isLt
  have hN : cfg0.N = 16 := N_0
  obtain ⟨n, hn⟩ : ∃ n, n = (i 1).val / 512 * 16 + (i 0).val / 512 := ⟨_, rfl⟩
  have ht : n < cfg0.N := by omega
  have d0 : n % 16 = (i 0).val / 512 := by omega
  have d1 : n / 16 = (i 1).val / 512 := by omega
  refine ⟨⟨n, ht⟩, flush0_2 _, ?_⟩
  show i ∈ ((View.whole main_v2).slice (win0_2.rect ⟨n, ht⟩)).set
  rw [View.set_slice_whole, Rect.mem_set_unit]
  have e := index2 ⟨n, ht⟩
  intro a
  match a with
  | ⟨0, _⟩ =>
    show win0_2.index ⟨n, ht⟩ (0 : Fin 2) * 512 ≤ (i 0).val ∧ (i 0).val < win0_2.index ⟨n, ht⟩ (0 : Fin 2) * 512 + 512
    rw [e]; show n % 16 * 512 ≤ (i 0).val ∧ (i 0).val < n % 16 * 512 + 512; rw [d0]; omega
  | ⟨1, _⟩ =>
    show win0_2.index ⟨n, ht⟩ (1 : Fin 2) * 512 ≤ (i 1).val ∧ (i 1).val < win0_2.index ⟨n, ht⟩ (1 : Fin 2) * 512 + 512
    rw [e]; show n / 16 * 512 ≤ (i 1).val ∧ (i 1).val < n / 16 * 512 + 512; rw [d1]; omega

/-- The array after the run: the blocks tile it. -/
theorem final_2 (c : Dev nD) : (dats m 0 c).arrAt 2 cfg0.N = grad m c :=
  (dats m 0 c).arrAt_eq_of_cover 2 _ (fun t _ => flushed_2 m c t) covered_2

end Cert.Kernel12Ideal.Result

namespace Cert.Reference12Ideal.Result

open Cert.Reference12Ideal Cert.Reference12Ideal.Gen
open Idealize.ShloMosaic

/-- The reference's result at an index. -/
theorem result_apply (w : FVec Ideal S512x1024 .f32) (x : FVec Ideal S8192x1024 .f32) (i : S8192x512.Idx) :
    Host.dotGeneral dot_S8192x1024_S512x1024_S8192x512_1_1_0_0_n_n none x w i
      = ∑ k : Fin 1024, x (ix2 (i 0) k) * w (ix2 (i 1) k) := by
  pointwise

end Cert.Reference12Ideal.Result

namespace Cert.Proof.AttnMerged

open Idealize.ShloMosaic Idealize.ShloMosaic.TcCoe Idealize.SL.Sem

/-- The kernel terminates without a fault, with its arguments unchanged and its counters at zero. -/
theorem frame_kernel : Cert.quiescent_Kernel12 (hKernel12 := Cert.Kernel12.Gen.facts) := fun m ρ _ => Cert.Kernel12.Gen.frame m ρ

/-- The same of the idealized kernel. -/
theorem frame_kernelIdeal : Cert.quiescent_Kernel12Ideal (hKernel12Ideal := Cert.Kernel12Ideal.Gen.facts) := fun m ρ _ => Cert.Kernel12Ideal.Gen.frame m ρ

/-- The same of the reference. -/
theorem frame_referenceIdeal : Cert.quiescent_Reference12Ideal (hReference12Ideal := Cert.Reference12Ideal.Gen.facts) := fun m ρ _ =>
  (θ_run Cert.Reference12Ideal.defs _ _).mono
    (fun r h => ⟨fun c => (h c).2, sem_eq_zero_of_no_sems (by decide) r.2⟩)
    (Cert.Reference12Ideal.Value.run (F := Ideal) m ρ)

/-- Over the extended reals the kernel computes the reference's values. -/
theorem algebraic : Cert.algebraic_Kernel12Ideal_Reference12Ideal (hKernel12Ideal := Cert.Kernel12Ideal.Gen.facts) (hReference12Ideal := Cert.Reference12Ideal.Gen.facts) := by
  intro m ρ m' ρ' _ hagree
  refine ⟨_, Cert.Kernel12Ideal.Value.run_blocks (F := Ideal) m ρ, ?_⟩
  refine (θ_run Cert.Reference12Ideal.defs _ _).mono (fun _ h c => ⟨(h c).1.trans ?_, (h c).2⟩)
    (Cert.Reference12Ideal.Value.run (F := Ideal) m' ρ')
  · rw [(hagree c).2.1, (hagree c).2.2, Cert.Kernel12Ideal.Result.final_2]
    funext i
    exact Cert.Reference12Ideal.Result.result_apply _ _ i

end Cert.Proof.AttnMerged

end
-- ==== Proof.Mixer.DeltaOutput.lean ====
/-
  The gradient of the delta net's output: the product with the transposed output weight, 512 tokens at a time.
-/
module

public import proofs.«01_k».proof.Defs
public import proofs.«01_k».proof.Proof.Gen.Kernel13.Frame
public import proofs.«01_k».proof.Proof.Gen.Kernel13Ideal.Value
public import proofs.«01_k».proof.Proof.Gen.Reference13Ideal.Run
public import Idealize.ShloMosaic.Lib.Quiescent
public import Idealize.ShloMosaic.Lib.Pointwise

@[expose] public section

set_option maxRecDepth 65536

noncomputable section

namespace Cert.Kernel13Ideal.Result

open Cert.Kernel13Ideal Cert.Kernel13Ideal.Gen Cert.Kernel13Ideal.Value
open Idealize.ShloMosaic Idealize.ShloMosaic.TcCoe Idealize.SL.Sem

variable (m : (ℓ : Loc nD τ sig) → Buf (Elt Ideal) ℓ)

/-- The weight. -/
abbrev wt (c : Dev nD) : FVec Ideal S1024x1024 .f32 := m ((c : Thread nD τ).loc main_arg1)

/-- The gradient of the product. -/
abbrev ct (c : Dev nD) : FVec Ideal S8192x1024 .f32 := m ((c : Thread nD τ).loc main_arg2)

/-- The blocks a grid point reads. -/
abbrev blk0 (c : Dev nD) (t : Fin cfg0.N) : FVec Ideal S512x1024 .bf16 := iblk m c 0 t
abbrev blk1 (c : Dev nD) (t : Fin cfg0.N) : FVec Ideal S1024x1024 .bf16 := iblk m c 1 t

/-- What the body computes of its blocks: at each place, a row's product with a row. -/
theorem body_apply (x : FVec Ideal S512x1024 .bf16) (y : FVec Ideal S1024x1024 .bf16) (i : S512x1024.Idx) :
    k0_pay1 (F := Ideal) x y i = ∑ k : Fin 1024, x (ix2 (i 0) k) * y (ix2 (i 1) k) := by
  pointwise [k0_pay1]

/-- The block the body leaves is its one store's. -/
theorem out_2 (x : FVec Ideal S512x1024 .bf16) (y : FVec Ideal S1024x1024 .bf16) :
    out0_2 (F := Ideal) x y = k0_pay1 (F := Ideal) x y := by
  have hz : (![0, 0] : Fin 2 → Nat) = fun _ => 0 := funext fun a => by fin_cases a <;> rfl
  unfold out0_2
  rw [View.canon_unit_zero hz]
  simp only [View.ld_unit_zero (S := S512x1024) hz, View.ld_unit_zero (S := S1024x1024) hz]

/-- What the inputs hold when the blocks are fetched: the arguments (the cast of a float is itself). -/
theorem entry0 (c : Dev nD) : V m c main_v0 = ct m c := by
  show StableHlo.after hostOps0 (fun b => m (c, b)) main_v0 = _
  after_results; rfl
theorem entry1 (c : Dev nD) : V m c main_v1 = wt m c := by
  show StableHlo.after hostOps0 (fun b => m (c, b)) main_v1 = _
  after_results; rfl

/-- Which blocks a grid point reads and writes. -/
theorem index0 : ∀ t : Fin cfg0.N, win0_0.index t = ![t.val % 16, 0] := (by decide +kernel : ∀ t : Fin grid0.N, _)
theorem index1 : ∀ t : Fin cfg0.N, win0_1.index t = ![t.val / 16, 0] := (by decide +kernel : ∀ t : Fin grid0.N, _)
theorem index2 : ∀ t : Fin cfg0.N, win0_2.index t = ![t.val % 16, t.val / 16] := (by decide +kernel : ∀ t : Fin grid0.N, _)

/-- A token of a block is a token of the whole. -/
theorem row_lt (t : Fin cfg0.N) (r : Fin 512) : t.val % 16 * 512 + r.val < 8192 := by omega

/-- A column of a block is a column of the whole. -/
theorem col_lt (t : Fin cfg0.N) (k : Fin 1024) : t.val / 16 * 1024 + k.val < 1024 := by
  have := t.isLt; have hN : cfg0.N = 16 := N_0; omega

/-- The blocks in the arrays' own coordinates. -/
theorem block0 (c : Dev nD) (t : Fin cfg0.N) (r : Fin 512) (k : Fin 1024) :
    blk0 m c t (ix2 r k) = ct m c (ix2 ⟨t.val % 16 * 512 + r.val, row_lt t r⟩ k) := by
  rw [← entry0 m c]
  show V m c main_v0 (((cfg0.win 0).blk t).view.emb (ix2 r k)) = _
  have e := index0 t
  refine congrArg _ (funext fun a => Fin.ext ?_)
  match a with
  | ⟨0, _⟩ => show win0_0.index t (0 : Fin 2) * 512 + 1 * r.val = _; rw [e]; show t.val % 16 * 512 + 1 * r.val = t.val % 16 * 512 + r.val; omega
  | ⟨1, _⟩ => show win0_0.index t (1 : Fin 2) * 1024 + 1 * k.val = _; rw [e]; show 0 * 1024 + 1 * k.val = k.val; omega
theorem block1 (c : Dev nD) (t : Fin cfg0.N) (r : Fin 1024) (k : Fin 1024) :
    blk1 m c t (ix2 r k) = wt m c (ix2 ⟨t.val / 16 * 1024 + r.val, col_lt t r⟩ k) := by
  rw [← entry1 m c]
  show V m c main_v1 (((cfg0.win 1).blk t).view.emb (ix2 r k)) = _
  have e := index1 t
  refine congrArg _ (funext fun a => Fin.ext ?_)
  match a with
  | ⟨0, _⟩ => show win0_1.index t (0 : Fin 2) * 1024 + 1 * r.val = _; rw [e]; show t.val / 16 * 1024 + 1 * r.val = t.val / 16 * 1024 + r.val; omega
  | ⟨1, _⟩ => show win0_1.index t (1 : Fin 2) * 1024 + 1 * k.val = _; rw [e]; show 0 * 1024 + 1 * k.val = k.val; omega

/-- The gradient, entry by entry. -/
def grad (c : Dev nD) : FVec Ideal S8192x1024 .bf16 := fun i => ∑ k : Fin 1024, ct m c (ix2 (i 0) k) * wt m c (ix2 (i 1) k)

theorem body_2 (c : Dev nD) (t : Fin cfg0.N) (y : S512x1024.Idx) :
    k0_pay1 (F := Ideal) (blk0 m c t) (blk1 m c t) y
      = grad m c (ix2 ⟨t.val % 16 * 512 + (y 0).val, row_lt t (y 0)⟩ ⟨t.val / 16 * 1024 + (y 1).val, col_lt t (y 1)⟩) :=
  (body_apply (blk0 m c t) (blk1 m c t) y).trans
    (Finset.sum_congr rfl fun k _ => congrArg₂ _ (block0 m c t (y 0) k) (block1 m c t (y 1) k))

/-- What a grid point writes back is its block of the gradient. -/
theorem flushed_2 (c : Dev nD) (t : Fin cfg0.N) :
    (dats m 0 c).flushed 2 t = ((cfg0.win 2).blk t).view.read (Elt Ideal) (grad m c) := by
  rw [flushed2]
  refine (congrArg ((cfg0.win 2).cut (grid0.coords t)) (out_2 (blk0 m c t) (blk1 m c t))).trans ?_
  funext y
  have e := index2 t
  have e0 : ((cfg0.win 2).blk t).view.emb y (0 : Fin 2) = (⟨t.val % 16 * 512 + (y 0).val, row_lt t (y 0)⟩ : Fin 8192) := Fin.ext (by
    show win0_2.index t (0 : Fin 2) * 512 + 1 * (y 0).val = _; rw [e]; show t.val % 16 * 512 + 1 * (y 0).val = t.val % 16 * 512 + (y 0).val; omega)
  have e1 : ((cfg0.win 2).blk t).view.emb y (1 : Fin 2) = (⟨t.val / 16 * 1024 + (y 1).val, col_lt t (y 1)⟩ : Fin 1024) := Fin.ext (by
    show win0_2.index t (1 : Fin 2) * 1024 + 1 * (y 1).val = _; rw [e]; show t.val / 16 * 1024 + 1 * (y 1).val = t.val / 16 * 1024 + (y 1).val; omega)
  show _ = grad m c (((cfg0.win 2).blk t).view.emb y)
  rw [eq_ix2 (((cfg0.win 2).blk t).view.emb y), e0, e1]
  exact body_2 m c t y

/-- Every entry is in the block of the grid point that computes it. -/
theorem covered_2 (i : S8192x1024.Idx) : ∃ t : Fin cfg0.N, (cfg0.win 2).flush t = true ∧ i ∈ ((cfg0.win 2).blk t).view.set := by
  have h0 : (i 0).val < 8192 := (i 0).isLt
  have h1 : (i 1).val < 1024 := (i 1).isLt
  have hN : cfg0.N = 16 := N_0
  obtain ⟨n, hn⟩ : ∃ n, n = (i 1).val / 1024 * 16 + (i 0).val / 512 := ⟨_, rfl⟩
  have ht : n < cfg0.N := by omega
  have d0 : n % 16 = (i 0).val / 512 := by omega
  have d1 : n / 16 = (i 1).val / 1024 := by omega
  refine ⟨⟨n, ht⟩, flush0_2 _, ?_⟩
  show i ∈ ((View.whole main_v2).slice (win0_2.rect ⟨n, ht⟩)).set
  rw [View.set_slice_whole, Rect.mem_set_unit]
  have e := index2 ⟨n, ht⟩
  intro a
  match a with
  | ⟨0, _⟩ =>
    show win0_2.index ⟨n, ht⟩ (0 : Fin 2) * 512 ≤ (i 0).val ∧ (i 0).val < win0_2.index ⟨n, ht⟩ (0 : Fin 2) * 512 + 512
    rw [e]; show n % 16 * 512 ≤ (i 0).val ∧ (i 0).val < n % 16 * 512 + 512; rw [d0]; omega
  | ⟨1, _⟩ =>
    show win0_2.index ⟨n, ht⟩ (1 : Fin 2) * 1024 ≤ (i 1).val ∧ (i 1).val < win0_2.index ⟨n, ht⟩ (1 : Fin 2) * 1024 + 1024
    rw [e]; show n / 16 * 1024 ≤ (i 1).val ∧ (i 1).val < n / 16 * 1024 + 1024; rw [d1]; omega

/-- The array after the run: the blocks tile it. -/
theorem final_2 (c : Dev nD) : (dats m 0 c).arrAt 2 cfg0.N = grad m c :=
  (dats m 0 c).arrAt_eq_of_cover 2 _ (fun t _ => flushed_2 m c t) covered_2

end Cert.Kernel13Ideal.Result

namespace Cert.Reference13Ideal.Result

open Cert.Reference13Ideal Cert.Reference13Ideal.Gen
open Idealize.ShloMosaic

/-- The reference's result at an index. -/
theorem result_apply (w : FVec Ideal S1024x1024 .f32) (x : FVec Ideal S8192x1024 .f32) (i : S8192x1024.Idx) :
    truncf .bf16 (Host.dotGeneral dot_S8192x1024_S1024x1024_S8192x1024_1_1_0_0_n_n none x w) bitsLt_bf16_f32 i
      = ∑ k : Fin 1024, x (ix2 (i 0) k) * w (ix2 (i 1) k) := by
  pointwise

end Cert.Reference13Ideal.Result

namespace Cert.Proof.DeltaOutput

open Idealize.ShloMosaic Idealize.ShloMosaic.TcCoe Idealize.SL.Sem

/-- The kernel terminates without a fault, with its arguments unchanged and its counters at zero. -/
theorem frame_kernel : Cert.quiescent_Kernel13 (hKernel13 := Cert.Kernel13.Gen.facts) := fun m ρ _ => Cert.Kernel13.Gen.frame m ρ

/-- The same of the idealized kernel. -/
theorem frame_kernelIdeal : Cert.quiescent_Kernel13Ideal (hKernel13Ideal := Cert.Kernel13Ideal.Gen.facts) := fun m ρ _ => Cert.Kernel13Ideal.Gen.frame m ρ

/-- The same of the reference. -/
theorem frame_referenceIdeal : Cert.quiescent_Reference13Ideal (hReference13Ideal := Cert.Reference13Ideal.Gen.facts) := fun m ρ _ =>
  (θ_run Cert.Reference13Ideal.defs _ _).mono
    (fun r h => ⟨fun c => (h c).2, sem_eq_zero_of_no_sems (by decide) r.2⟩)
    (Cert.Reference13Ideal.Value.run (F := Ideal) m ρ)

/-- Over the extended reals the kernel computes the reference's values. -/
theorem algebraic : Cert.algebraic_Kernel13Ideal_Reference13Ideal (hKernel13Ideal := Cert.Kernel13Ideal.Gen.facts) (hReference13Ideal := Cert.Reference13Ideal.Gen.facts) := by
  intro m ρ m' ρ' _ hagree
  refine ⟨_, Cert.Kernel13Ideal.Value.run_blocks (F := Ideal) m ρ, ?_⟩
  refine (θ_run Cert.Reference13Ideal.defs _ _).mono (fun _ h c => ⟨(h c).1.trans ?_, (h c).2⟩)
    (Cert.Reference13Ideal.Value.run (F := Ideal) m' ρ')
  · rw [(hagree c).2.1, (hagree c).2.2, Cert.Kernel13Ideal.Result.final_2]
    funext i
    exact Cert.Reference13Ideal.Result.result_apply _ _ i

end Cert.Proof.DeltaOutput

end
-- ==== Proof.Mixer.FfnDown.lean ====
/-
  The feed-forward block's down projection: half of the product is added to the residual and the rows are normalised.
-/
module

public import proofs.«01_k».proof.Defs
public import proofs.«01_k».proof.Proof.Gen.Kernel14.Frame
public import proofs.«01_k».proof.Proof.Gen.Kernel14Ideal.Value
public import proofs.«01_k».proof.Proof.Gen.Reference14Ideal.Run
public import Idealize.ShloMosaic.Lib.Quiescent
public import Idealize.ShloMosaic.Lib.Pointwise

@[expose] public section

set_option maxRecDepth 65536

noncomputable section

namespace Cert.Kernel14Ideal.Result

open Cert.Kernel14Ideal Cert.Kernel14Ideal.Gen Cert.Kernel14Ideal.Value
open Idealize.ShloMosaic Idealize.ShloMosaic.TcCoe Idealize.SL.Sem

variable (m : (ℓ : Loc nD τ sig) → Buf (Elt Ideal) ℓ)

/-- The residual, the tokens' rows, the weight and the next normalisation's weight. -/
abbrev resid (c : Dev nD) : FVec Ideal S8192x1024 .f32 := m ((c : Thread nD τ).loc main_arg0)
abbrev rows (c : Dev nD) : FVec Ideal S8192x3072 .f32 := m ((c : Thread nD τ).loc main_arg1)
abbrev wt (c : Dev nD) : FVec Ideal S3072x1024 .f32 := m ((c : Thread nD τ).loc main_arg2)
abbrev gain (c : Dev nD) : FVec Ideal S1024 .f32 := m ((c : Thread nD τ).loc main_arg3)

/-- The blocks a grid point reads. -/
abbrev blk0 (c : Dev nD) (t : Fin cfg0.N) : FVec Ideal S512x3072 .bf16 := iblk m c 0 t
abbrev blk1 (c : Dev nD) (t : Fin cfg0.N) : FVec Ideal S3072x1024 .bf16 := iblk m c 1 t
abbrev blk2 (c : Dev nD) (t : Fin cfg0.N) : FVec Ideal S512x1024 .f32 := iblk m c 2 t
abbrev blk3 (c : Dev nD) (t : Fin cfg0.N) : FVec Ideal S1x1024 .f32 := iblk m c 3 t

/-- A row divided by the root of its mean square and multiplied by the weight, at one column. -/
def normed (f : Fin 1024 → EReal) (g : EReal) (k : Fin 1024) : EReal :=
  f k * Ideal.rsqrt (Ideal.div (∑ j : Fin 1024, f j * f j) (Ideal.ofBits .f32 0x44800000#32) + Ideal.ofBits .f32 0x358637BD#32) * g

/-- What the body computes of its blocks: at each place, the residual and a row's product with a column … -/
theorem body4_apply (x : FVec Ideal S512x3072 .bf16) (y : FVec Ideal S3072x1024 .bf16) (r : FVec Ideal S512x1024 .f32) (i : S512x1024.Idx) :
    k0_pay1 (F := Ideal) x y r i = r i + Ideal.ofBits .f32 0x3F000000#32 * ∑ k : Fin 3072, x (ix2 (i 0) k) * y (ix2 k (i 1)) := by
  pointwise [k0_pay1]

/-- … and the same row normalised. -/
theorem body5_apply (x : FVec Ideal S512x3072 .bf16) (y : FVec Ideal S3072x1024 .bf16) (r : FVec Ideal S512x1024 .f32) (g : FVec Ideal S1x1024 .f32) (i : S512x1024.Idx) :
    k0_pay2 (F := Ideal) x y r g i = normed (fun k => k0_pay1 (F := Ideal) x y r (ix2 (i 0) k)) (g (ix2 0 (i 1))) (i 1) := by
  generalize hd : k0_pay1 (F := Ideal) x y r = d
  unfold normed
  pointwise [k0_pay2, hd]

/-- The blocks the body leaves are its two stores'. -/
theorem out_4 (x : FVec Ideal S512x3072 .bf16) (y : FVec Ideal S3072x1024 .bf16) (r : FVec Ideal S512x1024 .f32) (g : FVec Ideal S1x1024 .f32) :
    out0_4 (F := Ideal) x y r g = k0_pay1 (F := Ideal) x y r := by
  have hz : (![0, 0] : Fin 2 → Nat) = fun _ => 0 := funext fun a => by fin_cases a <;> rfl
  unfold out0_4
  rw [View.canon_unit_zero hz]
  simp only [View.ld_unit_zero (S := S512x3072) hz, View.ld_unit_zero (S := S3072x1024) hz, View.ld_unit_zero (S := S512x1024) hz, View.ld_unit_zero (S := S1x1024) hz]

theorem out_5 (x : FVec Ideal S512x3072 .bf16) (y : FVec Ideal S3072x1024 .bf16) (r : FVec Ideal S512x1024 .f32) (g : FVec Ideal S1x1024 .f32) :
    out0_5 (F := Ideal) x y r g = k0_pay2 (F := Ideal) x y r g := by
  have hz : (![0, 0] : Fin 2 → Nat) = fun _ => 0 := funext fun a => by fin_cases a <;> rfl
  unfold out0_5
  rw [View.canon_unit_zero hz]
  simp only [View.ld_unit_zero (S := S512x3072) hz, View.ld_unit_zero (S := S3072x1024) hz, View.ld_unit_zero (S := S512x1024) hz, View.ld_unit_zero (S := S1x1024) hz]

/-- What the inputs hold when the blocks are fetched: the arguments (the cast of a float is itself). -/
theorem entry0 (c : Dev nD) : V m c main_v0 = rows m c := by
  show StableHlo.after hostOps0 (fun b => m (c, b)) main_v0 = _
  after_results; rfl
theorem entry1 (c : Dev nD) : V m c main_v1 = wt m c := by
  show StableHlo.after hostOps0 (fun b => m (c, b)) main_v1 = _
  after_results; rfl
theorem entry2 (c : Dev nD) : V m c main_arg0 = resid m c := by
  show StableHlo.after hostOps0 (fun b => m (c, b)) main_arg0 = _
  after_results
theorem entry3 (c : Dev nD) : V m c main_v2 = broadcastInDim S1x1024 ![1] bcast_S1024_S1x1024_1 (gain m c) := by
  show StableHlo.after hostOps0 (fun b => m (c, b)) main_v2 = _
  after_results
theorem gain_apply (g : FVec Ideal S1024 .f32) (z : Fin 1) (k : Fin 1024) : broadcastInDim S1x1024 ![1] bcast_S1024_S1x1024_1 g (ix2 z k) = g (ix1 k) := by
  pointwise

/-- Which blocks a grid point reads and writes. -/
theorem index0 : ∀ t : Fin cfg0.N, win0_0.index t = ![t.val % 16, 0] := (by decide +kernel : ∀ t : Fin grid0.N, _)
theorem index1 : ∀ t : Fin cfg0.N, win0_1.index t = ![0, t.val / 16] := (by decide +kernel : ∀ t : Fin grid0.N, _)
theorem index2 : ∀ t : Fin cfg0.N, win0_2.index t = ![t.val % 16, t.val / 16] := (by decide +kernel : ∀ t : Fin grid0.N, _)
theorem index3 : ∀ t : Fin cfg0.N, win0_3.index t = ![0, t.val / 16] := (by decide +kernel : ∀ t : Fin grid0.N, _)
theorem index4 : ∀ t : Fin cfg0.N, win0_4.index t = ![t.val % 16, t.val / 16] := (by decide +kernel : ∀ t : Fin grid0.N, _)
theorem index5 : ∀ t : Fin cfg0.N, win0_5.index t = ![t.val % 16, t.val / 16] := (by decide +kernel : ∀ t : Fin grid0.N, _)

/-- A token of a block is a token of the whole. -/
theorem row_lt (t : Fin cfg0.N) (r : Fin 512) : t.val % 16 * 512 + r.val < 8192 := by omega

/-- A column of a block is a column of the whole. -/
theorem col_lt (t : Fin cfg0.N) (k : Fin 1024) : t.val / 16 * 1024 + k.val < 1024 := by
  have := t.isLt; have hN : cfg0.N = 16 := N_0; omega

/-- The blocks in the arrays' own coordinates. -/
theorem block0 (c : Dev nD) (t : Fin cfg0.N) (r : Fin 512) (k : Fin 3072) :
    blk0 m c t (ix2 r k) = rows m c (ix2 ⟨t.val % 16 * 512 + r.val, row_lt t r⟩ k) := by
  rw [← entry0 m c]
  show V m c main_v0 (((cfg0.win 0).blk t).view.emb (ix2 r k)) = _
  have e := index0 t
  refine congrArg _ (funext fun a => Fin.ext ?_)
  match a with
  | ⟨0, _⟩ => show win0_0.index t (0 : Fin 2) * 512 + 1 * r.val = _; rw [e]; show t.val % 16 * 512 + 1 * r.val = t.val % 16 * 512 + r.val; omega
  | ⟨1, _⟩ => show win0_0.index t (1 : Fin 2) * 3072 + 1 * k.val = _; rw [e]; show 0 * 3072 + 1 * k.val = k.val; omega
theorem block1 (c : Dev nD) (t : Fin cfg0.N) (r : Fin 3072) (k : Fin 1024) :
    blk1 m c t (ix2 r k) = wt m c (ix2 r ⟨t.val / 16 * 1024 + k.val, col_lt t k⟩) := by
  rw [← entry1 m c]
  show V m c main_v1 (((cfg0.win 1).blk t).view.emb (ix2 r k)) = _
  have e := index1 t
  refine congrArg _ (funext fun a => Fin.ext ?_)
  match a with
  | ⟨0, _⟩ => show win0_1.index t (0 : Fin 2) * 3072 + 1 * r.val = _; rw [e]; show 0 * 3072 + 1 * r.val = r.val; omega
  | ⟨1, _⟩ => show win0_1.index t (1 : Fin 2) * 1024 + 1 * k.val = _; rw [e]; show t.val / 16 * 1024 + 1 * k.val = t.val / 16 * 1024 + k.val; omega
theorem block2 (c : Dev nD) (t : Fin cfg0.N) (r : Fin 512) (k : Fin 1024) :
    blk2 m c t (ix2 r k) = resid m c (ix2 ⟨t.val % 16 * 512 + r.val, row_lt t r⟩ ⟨t.val / 16 * 1024 + k.val, col_lt t k⟩) := by
  rw [← entry2 m c]
  show V m c main_arg0 (((cfg0.win 2).blk t).view.emb (ix2 r k)) = _
  have e := index2 t
  refine congrArg _ (funext fun a => Fin.ext ?_)
  match a with
  | ⟨0, _⟩ => show win0_2.index t (0 : Fin 2) * 512 + 1 * r.val = _; rw [e]; show t.val % 16 * 512 + 1 * r.val = t.val % 16 * 512 + r.val; omega
  | ⟨1, _⟩ => show win0_2.index t (1 : Fin 2) * 1024 + 1 * k.val = _; rw [e]; show t.val / 16 * 1024 + 1 * k.val = t.val / 16 * 1024 + k.val; omega
theorem block3 (c : Dev nD) (t : Fin cfg0.N) (r : Fin 1) (k : Fin 1024) :
    blk3 m c t (ix2 r k) = gain m c (ix1 ⟨t.val / 16 * 1024 + k.val, col_lt t k⟩) := by
  rw [← gain_apply (gain m c) r, ← entry3 m c]
  show V m c main_v2 (((cfg0.win 3).blk t).view.emb (ix2 r k)) = _
  have e := index3 t
  refine congrArg _ (funext fun a => Fin.ext ?_)
  match a with
  | ⟨0, _⟩ => show win0_3.index t (0 : Fin 2) * 1 + 1 * r.val = _; rw [e]; show 0 * 1 + 1 * r.val = r.val; omega
  | ⟨1, _⟩ => show win0_3.index t (1 : Fin 2) * 1024 + 1 * k.val = _; rw [e]; show t.val / 16 * 1024 + 1 * k.val = t.val / 16 * 1024 + k.val; omega

/-- The two results, entry by entry. -/
def total (c : Dev nD) : FVec Ideal S8192x1024 .f32 := fun i => resid m c i + Ideal.ofBits .f32 0x3F000000#32 * ∑ k : Fin 3072, rows m c (ix2 (i 0) k) * wt m c (ix2 k (i 1))
def scaled (c : Dev nD) : FVec Ideal S8192x1024 .bf16 := fun i => normed (fun k => total m c (ix2 (i 0) k)) (gain m c (ix1 (i 1))) (i 1)

/-- There is one block of columns. -/
theorem col_eq (t : Fin cfg0.N) (k : Fin 1024) : (⟨t.val / 16 * 1024 + k.val, col_lt t k⟩ : Fin 1024) = k := Fin.ext (by
  have := t.isLt; have hN : cfg0.N = 16 := N_0; show t.val / 16 * 1024 + k.val = k.val; omega)

theorem body_at (c : Dev nD) (t : Fin cfg0.N) (r : Fin 512) (k : Fin 1024) :
    k0_pay1 (F := Ideal) (blk0 m c t) (blk1 m c t) (blk2 m c t) (ix2 r k) = total m c (ix2 ⟨t.val % 16 * 512 + r.val, row_lt t r⟩ k) := by
  refine (body4_apply (blk0 m c t) (blk1 m c t) (blk2 m c t) (ix2 r k)).trans ?_
  refine congrArg₂ _ ((block2 m c t r k).trans (congrArg (fun q => resid m c (ix2 _ q)) (col_eq t k))) (congrArg _ (Finset.sum_congr rfl fun j _ => congrArg₂ _ (block0 m c t r j) ((block1 m c t j k).trans (congrArg (fun q => wt m c (ix2 j q)) (col_eq t k)))))

theorem body_4 (c : Dev nD) (t : Fin cfg0.N) (y : S512x1024.Idx) :
    k0_pay1 (F := Ideal) (blk0 m c t) (blk1 m c t) (blk2 m c t) y
      = total m c (ix2 ⟨t.val % 16 * 512 + (y 0).val, row_lt t (y 0)⟩ ⟨t.val / 16 * 1024 + (y 1).val, col_lt t (y 1)⟩) := by
  rw [col_eq t (y 1), ← body_at m c t (y 0) (y 1), ← eq_ix2 y]

theorem body_5 (c : Dev nD) (t : Fin cfg0.N) (y : S512x1024.Idx) :
    k0_pay2 (F := Ideal) (blk0 m c t) (blk1 m c t) (blk2 m c t) (blk3 m c t) y
      = scaled m c (ix2 ⟨t.val % 16 * 512 + (y 0).val, row_lt t (y 0)⟩ ⟨t.val / 16 * 1024 + (y 1).val, col_lt t (y 1)⟩) := by
  refine (body5_apply (blk0 m c t) (blk1 m c t) (blk2 m c t) (blk3 m c t) y).trans ?_
  rw [col_eq t (y 1)]
  show _ = normed (fun k => total m c (ix2 ⟨t.val % 16 * 512 + (y 0).val, row_lt t (y 0)⟩ k)) (gain m c (ix1 (y 1))) (y 1)
  rw [show (fun k => k0_pay1 (F := Ideal) (blk0 m c t) (blk1 m c t) (blk2 m c t) (ix2 (y 0) k)) = fun k => total m c (ix2 ⟨t.val % 16 * 512 + (y 0).val, row_lt t (y 0)⟩ k)
    from funext fun k => body_at m c t (y 0) k, block3 m c t 0 (y 1), col_eq t (y 1)]

/-- What a grid point writes back is its block of the sum. -/
theorem flushed_4 (c : Dev nD) (t : Fin cfg0.N) :
    (dats m 0 c).flushed 4 t = ((cfg0.win 4).blk t).view.read (Elt Ideal) (total m c) := by
  rw [flushed4]
  refine (congrArg ((cfg0.win 4).cut (grid0.coords t)) (out_4 (blk0 m c t) (blk1 m c t) (blk2 m c t) (blk3 m c t))).trans ?_
  funext y
  have e := index4 t
  have e0 : ((cfg0.win 4).blk t).view.emb y (0 : Fin 2) = (⟨t.val % 16 * 512 + (y 0).val, row_lt t (y 0)⟩ : Fin 8192) := Fin.ext (by
    show win0_4.index t (0 : Fin 2) * 512 + 1 * (y 0).val = _; rw [e]; show t.val % 16 * 512 + 1 * (y 0).val = t.val % 16 * 512 + (y 0).val; omega)
  have e1 : ((cfg0.win 4).blk t).view.emb y (1 : Fin 2) = (⟨t.val / 16 * 1024 + (y 1).val, col_lt t (y 1)⟩ : Fin 1024) := Fin.ext (by
    show win0_4.index t (1 : Fin 2) * 1024 + 1 * (y 1).val = _; rw [e]; show t.val / 16 * 1024 + 1 * (y 1).val = t.val / 16 * 1024 + (y 1).val; omega)
  show _ = total m c (((cfg0.win 4).blk t).view.emb y)
  rw [eq_ix2 (((cfg0.win 4).blk t).view.emb y), e0, e1]
  exact body_4 m c t y

/-- What a grid point writes back is its block of the normalised rows. -/
theorem flushed_5 (c : Dev nD) (t : Fin cfg0.N) :
    (dats m 0 c).flushed 5 t = ((cfg0.win 5).blk t).view.read (Elt Ideal) (scaled m c) := by
  rw [flushed5]
  refine (congrArg ((cfg0.win 5).cut (grid0.coords t)) (out_5 (blk0 m c t) (blk1 m c t) (blk2 m c t) (blk3 m c t))).trans ?_
  funext y
  have e := index5 t
  have e0 : ((cfg0.win 5).blk t).view.emb y (0 : Fin 2) = (⟨t.val % 16 * 512 + (y 0).val, row_lt t (y 0)⟩ : Fin 8192) := Fin.ext (by
    show win0_5.index t (0 : Fin 2) * 512 + 1 * (y 0).val = _; rw [e]; show t.val % 16 * 512 + 1 * (y 0).val = t.val % 16 * 512 + (y 0).val; omega)
  have e1 : ((cfg0.win 5).blk t).view.emb y (1 : Fin 2) = (⟨t.val / 16 * 1024 + (y 1).val, col_lt t (y 1)⟩ : Fin 1024) := Fin.ext (by
    show win0_5.index t (1 : Fin 2) * 1024 + 1 * (y 1).val = _; rw [e]; show t.val / 16 * 1024 + 1 * (y 1).val = t.val / 16 * 1024 + (y 1).val; omega)
  show _ = scaled m c (((cfg0.win 5).blk t).view.emb y)
  rw [eq_ix2 (((cfg0.win 5).blk t).view.emb y), e0, e1]
  exact body_5 m c t y

/-- Every entry is in the block of the grid point that computes it. -/
theorem covered_4 (i : S8192x1024.Idx) : ∃ t : Fin cfg0.N, (cfg0.win 4).flush t = true ∧ i ∈ ((cfg0.win 4).blk t).view.set := by
  have h0 : (i 0).val < 8192 := (i 0).isLt
  have h1 : (i 1).val < 1024 := (i 1).isLt
  have hN : cfg0.N = 16 := N_0
  obtain ⟨n, hn⟩ : ∃ n, n = (i 1).val / 1024 * 16 + (i 0).val / 512 := ⟨_, rfl⟩
  have ht : n < cfg0.N := by omega
  have d0 : n % 16 = (i 0).val / 512 := by omega
  have d1 : n / 16 = (i 1).val / 1024 := by omega
  refine ⟨⟨n, ht⟩, flush0_4 _, ?_⟩
  show i ∈ ((View.whole main_v3_0).slice (win0_4.rect ⟨n, ht⟩)).set
  rw [View.set_slice_whole, Rect.mem_set_unit]
  have e := index4 ⟨n, ht⟩
  intro a
  match a with
  | ⟨0, _⟩ =>
    show win0_4.index ⟨n, ht⟩ (0 : Fin 2) * 512 ≤ (i 0).val ∧ (i 0).val < win0_4.index ⟨n, ht⟩ (0 : Fin 2) * 512 + 512
    rw [e]; show n % 16 * 512 ≤ (i 0).val ∧ (i 0).val < n % 16 * 512 + 512; rw [d0]; omega
  | ⟨1, _⟩ =>
    show win0_4.index ⟨n, ht⟩ (1 : Fin 2) * 1024 ≤ (i 1).val ∧ (i 1).val < win0_4.index ⟨n, ht⟩ (1 : Fin 2) * 1024 + 1024
    rw [e]; show n / 16 * 1024 ≤ (i 1).val ∧ (i 1).val < n / 16 * 1024 + 1024; rw [d1]; omega

/-- The array after the run: the blocks tile it. -/
theorem final_4 (c : Dev nD) : (dats m 0 c).arrAt 4 cfg0.N = total m c :=
  (dats m 0 c).arrAt_eq_of_cover 4 _ (fun t _ => flushed_4 m c t) covered_4

/-- Every entry is in the block of the grid point that computes it. -/
theorem covered_5 (i : S8192x1024.Idx) : ∃ t : Fin cfg0.N, (cfg0.win 5).flush t = true ∧ i ∈ ((cfg0.win 5).blk t).view.set := by
  have h0 : (i 0).val < 8192 := (i 0).isLt
  have h1 : (i 1).val < 1024 := (i 1).isLt
  have hN : cfg0.N = 16 := N_0
  obtain ⟨n, hn⟩ : ∃ n, n = (i 1).val / 1024 * 16 + (i 0).val / 512 := ⟨_, rfl⟩
  have ht : n < cfg0.N := by omega
  have d0 : n % 16 = (i 0).val / 512 := by omega
  have d1 : n / 16 = (i 1).val / 1024 := by omega
  refine ⟨⟨n, ht⟩, flush0_5 _, ?_⟩
  show i ∈ ((View.whole main_v3_1).slice (win0_5.rect ⟨n, ht⟩)).set
  rw [View.set_slice_whole, Rect.mem_set_unit]
  have e := index5 ⟨n, ht⟩
  intro a
  match a with
  | ⟨0, _⟩ =>
    show win0_5.index ⟨n, ht⟩ (0 : Fin 2) * 512 ≤ (i 0).val ∧ (i 0).val < win0_5.index ⟨n, ht⟩ (0 : Fin 2) * 512 + 512
    rw [e]; show n % 16 * 512 ≤ (i 0).val ∧ (i 0).val < n % 16 * 512 + 512; rw [d0]; omega
  | ⟨1, _⟩ =>
    show win0_5.index ⟨n, ht⟩ (1 : Fin 2) * 1024 ≤ (i 1).val ∧ (i 1).val < win0_5.index ⟨n, ht⟩ (1 : Fin 2) * 1024 + 1024
    rw [e]; show n / 16 * 1024 ≤ (i 1).val ∧ (i 1).val < n / 16 * 1024 + 1024; rw [d1]; omega

/-- The array after the run: the blocks tile it. -/
theorem final_5 (c : Dev nD) : (dats m 0 c).arrAt 5 cfg0.N = scaled m c :=
  (dats m 0 c).arrAt_eq_of_cover 5 _ (fun t _ => flushed_5 m c t) covered_5

end Cert.Kernel14Ideal.Result

namespace Cert.Reference14Ideal.Result

open Cert.Reference14Ideal Cert.Reference14Ideal.Gen
open Idealize.ShloMosaic

/-- The reference's sum at an index. -/
theorem total_apply (x : FVec Ideal S8192x1024 .f32) (a : FVec Ideal S8192x3072 .f32) (w : FVec Ideal S3072x1024 .f32) (i : S8192x1024.Idx) :
    (addf x (mulf (broadcastInDim S8192x1024 ![] bcast_S_S8192x1024 (constant S_ .f32 0x3F000000#32)) (Host.dotGeneral dot_S8192x3072_S3072x1024_S8192x1024_1_0_0_1_n_n none a w)) : FVec Ideal S8192x1024 .f32) i = x i + Ideal.ofBits .f32 0x3F000000#32 * ∑ k : Fin 3072, a (ix2 (i 0) k) * w (ix2 k (i 1)) := by
  pointwise

/-- The reference's normalisation at an index. -/
theorem normed_apply (y : FVec Ideal S8192x1024 .f32) (g : FVec Ideal S1024 .f32) (i : S8192x1024.Idx) :
    (truncf .bf16 (mulf (mulf y (broadcastInDim S8192x1024 ![0, 1] bcast_S8192x1_S8192x1024_0_1 (Host.rsqrt (addf (Host.divf (broadcastInDim S8192x1 ![0] bcast_S8192_S8192x1_0 (Host.reduceAdd (mulf y y) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 g))) bitsLt_bf16_f32 : FVec Ideal S8192x1024 .bf16) i
      = Cert.Kernel14Ideal.Result.normed (fun k => y (ix2 (i 0) k)) (g (ix1 (i 1))) (i 1) := by
  unfold Cert.Kernel14Ideal.Result.normed
  pointwise

end Cert.Reference14Ideal.Result

namespace Cert.Proof.FfnDown

open Idealize.ShloMosaic Idealize.ShloMosaic.TcCoe Idealize.SL.Sem

/-- The kernel terminates without a fault, with its arguments unchanged and its counters at zero. -/
theorem frame_kernel : Cert.quiescent_Kernel14 (hKernel14 := Cert.Kernel14.Gen.facts) := fun m ρ _ => Cert.Kernel14.Gen.frame m ρ

/-- The same of the idealized kernel. -/
theorem frame_kernelIdeal : Cert.quiescent_Kernel14Ideal (hKernel14Ideal := Cert.Kernel14Ideal.Gen.facts) := fun m ρ _ => Cert.Kernel14Ideal.Gen.frame m ρ

/-- The same of the reference. -/
theorem frame_referenceIdeal : Cert.quiescent_Reference14Ideal (hReference14Ideal := Cert.Reference14Ideal.Gen.facts) := fun m ρ _ =>
  (θ_run Cert.Reference14Ideal.defs _ _).mono
    (fun r h => ⟨fun c => (h c).2.2, sem_eq_zero_of_no_sems (by decide) r.2⟩)
    (Cert.Reference14Ideal.Value.run (F := Ideal) m ρ)

/-- Over the extended reals the kernel computes the reference's values. -/
theorem algebraic : Cert.algebraic_Kernel14Ideal_Reference14Ideal (hKernel14Ideal := Cert.Kernel14Ideal.Gen.facts) (hReference14Ideal := Cert.Reference14Ideal.Gen.facts) := by
  intro m ρ m' ρ' _ hagree
  refine ⟨_, _, Cert.Kernel14Ideal.Value.run_blocks (F := Ideal) m ρ, ?_⟩
  refine (θ_run Cert.Reference14Ideal.defs _ _).mono (fun _ h c => ⟨(h c).1.trans ?_, (h c).2.1.trans ?_, (h c).2.2⟩)
    (Cert.Reference14Ideal.Value.run (F := Ideal) m' ρ')
  · rw [(hagree c).1, (hagree c).2.1, (hagree c).2.2.1, Cert.Kernel14Ideal.Result.final_4]
    funext i
    exact Cert.Reference14Ideal.Result.total_apply _ _ _ i
  · rw [(hagree c).1, (hagree c).2.1, (hagree c).2.2.1, (hagree c).2.2.2, Cert.Kernel14Ideal.Result.final_5]
    funext i
    exact (Cert.Reference14Ideal.Result.normed_apply _ _ i).trans (congrArg (fun f => Cert.Kernel14Ideal.Result.normed f _ _) (funext fun k => Cert.Reference14Ideal.Result.total_apply _ _ _ (ix2 (i 0) k)))

end Cert.Proof.FfnDown

end
-- ==== Proof.Mixer.AttnOut.lean ====
/-
  The attention's output projection: the product is added to the residual and the rows are normalised.
-/
module

public import proofs.«01_k».proof.Defs
public import proofs.«01_k».proof.Proof.Gen.Kernel15.Frame
public import proofs.«01_k».proof.Proof.Gen.Kernel15Ideal.Value
public import proofs.«01_k».proof.Proof.Gen.Reference15Ideal.Run
public import Idealize.ShloMosaic.Lib.Quiescent
public import Idealize.ShloMosaic.Lib.Pointwise

@[expose] public section

set_option maxRecDepth 65536

noncomputable section

namespace Cert.Kernel15Ideal.Result

open Cert.Kernel15Ideal Cert.Kernel15Ideal.Gen Cert.Kernel15Ideal.Value
open Idealize.ShloMosaic Idealize.ShloMosaic.TcCoe Idealize.SL.Sem

variable (m : (ℓ : Loc nD τ sig) → Buf (Elt Ideal) ℓ)

/-- The residual, the tokens' rows, the weight and the next normalisation's weight. -/
abbrev resid (c : Dev nD) : FVec Ideal S8192x1024 .f32 := m ((c : Thread nD τ).loc main_arg0)
abbrev rows (c : Dev nD) : FVec Ideal S8192x512 .f32 := m ((c : Thread nD τ).loc main_arg1)
abbrev wt (c : Dev nD) : FVec Ideal S512x1024 .f32 := m ((c : Thread nD τ).loc main_arg2)
abbrev gain (c : Dev nD) : FVec Ideal S1024 .f32 := m ((c : Thread nD τ).loc main_arg3)

/-- The blocks a grid point reads. -/
abbrev blk0 (c : Dev nD) (t : Fin cfg0.N) : FVec Ideal S512x512 .bf16 := iblk m c 0 t
abbrev blk1 (c : Dev nD) (t : Fin cfg0.N) : FVec Ideal S512x1024 .bf16 := iblk m c 1 t
abbrev blk2 (c : Dev nD) (t : Fin cfg0.N) : FVec Ideal S512x1024 .f32 := iblk m c 2 t
abbrev blk3 (c : Dev nD) (t : Fin cfg0.N) : FVec Ideal S1x1024 .f32 := iblk m c 3 t

/-- A row divided by the root of its mean square and multiplied by the weight, at one column. -/
def normed (f : Fin 1024 → EReal) (g : EReal) (k : Fin 1024) : EReal :=
  f k * Ideal.rsqrt (Ideal.div (∑ j : Fin 1024, f j * f j) (Ideal.ofBits .f32 0x44800000#32) + Ideal.ofBits .f32 0x358637BD#32) * g

/-- What the body computes of its blocks: at each place, the residual and a row's product with a column … -/
theorem body4_apply (x : FVec Ideal S512x512 .bf16) (y : FVec Ideal S512x1024 .bf16) (r : FVec Ideal S512x1024 .f32) (i : S512x1024.Idx) :
    k0_pay1 (F := Ideal) x y r i = r i + ∑ k : Fin 512, x (ix2 (i 0) k) * y (ix2 k (i 1)) := by
  pointwise [k0_pay1]

/-- … and the same row normalised. -/
theorem body5_apply (x : FVec Ideal S512x512 .bf16) (y : FVec Ideal S512x1024 .bf16) (r : FVec Ideal S512x1024 .f32) (g : FVec Ideal S1x1024 .f32) (i : S512x1024.Idx) :
    k0_pay2 (F := Ideal) x y r g i = normed (fun k => k0_pay1 (F := Ideal) x y r (ix2 (i 0) k)) (g (ix2 0 (i 1))) (i 1) := by
  generalize hd : k0_pay1 (F := Ideal) x y r = d
  unfold normed
  pointwise [k0_pay2, hd]

/-- The blocks the body leaves are its two stores'. -/
theorem out_4 (x : FVec Ideal S512x512 .bf16) (y : FVec Ideal S512x1024 .bf16) (r : FVec Ideal S512x1024 .f32) (g : FVec Ideal S1x1024 .f32) :
    out0_4 (F := Ideal) x y r g = k0_pay1 (F := Ideal) x y r := by
  have hz : (![0, 0] : Fin 2 → Nat) = fun _ => 0 := funext fun a => by fin_cases a <;> rfl
  unfold out0_4
  rw [View.canon_unit_zero hz]
  simp only [View.ld_unit_zero (S := S512x512) hz, View.ld_unit_zero (S := S512x1024) hz, View.ld_unit_zero (S := S1x1024) hz]

theorem out_5 (x : FVec Ideal S512x512 .bf16) (y : FVec Ideal S512x1024 .bf16) (r : FVec Ideal S512x1024 .f32) (g : FVec Ideal S1x1024 .f32) :
    out0_5 (F := Ideal) x y r g = k0_pay2 (F := Ideal) x y r g := by
  have hz : (![0, 0] : Fin 2 → Nat) = fun _ => 0 := funext fun a => by fin_cases a <;> rfl
  unfold out0_5
  rw [View.canon_unit_zero hz]
  simp only [View.ld_unit_zero (S := S512x512) hz, View.ld_unit_zero (S := S512x1024) hz, View.ld_unit_zero (S := S1x1024) hz]

/-- What the inputs hold when the blocks are fetched: the arguments (the cast of a float is itself). -/
theorem entry0 (c : Dev nD) : V m c main_v0 = rows m c := by
  show StableHlo.after hostOps0 (fun b => m (c, b)) main_v0 = _
  after_results; rfl
theorem entry1 (c : Dev nD) : V m c main_v1 = wt m c := by
  show StableHlo.after hostOps0 (fun b => m (c, b)) main_v1 = _
  after_results; rfl
theorem entry2 (c : Dev nD) : V m c main_arg0 = resid m c := by
  show StableHlo.after hostOps0 (fun b => m (c, b)) main_arg0 = _
  after_results
theorem entry3 (c : Dev nD) : V m c main_v2 = broadcastInDim S1x1024 ![1] bcast_S1024_S1x1024_1 (gain m c) := by
  show StableHlo.after hostOps0 (fun b => m (c, b)) main_v2 = _
  after_results
theorem gain_apply (g : FVec Ideal S1024 .f32) (z : Fin 1) (k : Fin 1024) : broadcastInDim S1x1024 ![1] bcast_S1024_S1x1024_1 g (ix2 z k) = g (ix1 k) := by
  pointwise

/-- Which blocks a grid point reads and writes. -/
theorem index0 : ∀ t : Fin cfg0.N, win0_0.index t = ![t.val % 16, 0] := (by decide +kernel : ∀ t : Fin grid0.N, _)
theorem index1 : ∀ t : Fin cfg0.N, win0_1.index t = ![0, t.val / 16] := (by decide +kernel : ∀ t : Fin grid0.N, _)
theorem index2 : ∀ t : Fin cfg0.N, win0_2.index t = ![t.val % 16, t.val / 16] := (by decide +kernel : ∀ t : Fin grid0.N, _)
theorem index3 : ∀ t : Fin cfg0.N, win0_3.index t = ![0, t.val / 16] := (by decide +kernel : ∀ t : Fin grid0.N, _)
theorem index4 : ∀ t : Fin cfg0.N, win0_4.index t = ![t.val % 16, t.val / 16] := (by decide +kernel : ∀ t : Fin grid0.N, _)
theorem index5 : ∀ t : Fin cfg0.N, win0_5.index t = ![t.val % 16, t.val / 16] := (by decide +kernel : ∀ t : Fin grid0.N, _)

/-- A token of a block is a token of the whole. -/
theorem row_lt (t : Fin cfg0.N) (r : Fin 512) : t.val % 16 * 512 + r.val < 8192 := by omega

/-- A column of a block is a column of the whole. -/
theorem col_lt (t : Fin cfg0.N) (k : Fin 1024) : t.val / 16 * 1024 + k.val < 1024 := by
  have := t.isLt; have hN : cfg0.N = 16 := N_0; omega

/-- The blocks in the arrays' own coordinates. -/
theorem block0 (c : Dev nD) (t : Fin cfg0.N) (r : Fin 512) (k : Fin 512) :
    blk0 m c t (ix2 r k) = rows m c (ix2 ⟨t.val % 16 * 512 + r.val, row_lt t r⟩ k) := by
  rw [← entry0 m c]
  show V m c main_v0 (((cfg0.win 0).blk t).view.emb (ix2 r k)) = _
  have e := index0 t
  refine congrArg _ (funext fun a => Fin.ext ?_)
  match a with
  | ⟨0, _⟩ => show win0_0.index t (0 : Fin 2) * 512 + 1 * r.val = _; rw [e]; show t.val % 16 * 512 + 1 * r.val = t.val % 16 * 512 + r.val; omega
  | ⟨1, _⟩ => show win0_0.index t (1 : Fin 2) * 512 + 1 * k.val = _; rw [e]; show 0 * 512 + 1 * k.val = k.val; omega
theorem block1 (c : Dev nD) (t : Fin cfg0.N) (r : Fin 512) (k : Fin 1024) :
    blk1 m c t (ix2 r k) = wt m c (ix2 r ⟨t.val / 16 * 1024 + k.val, col_lt t k⟩) := by
  rw [← entry1 m c]
  show V m c main_v1 (((cfg0.win 1).blk t).view.emb (ix2 r k)) = _
  have e := index1 t
  refine congrArg _ (funext fun a => Fin.ext ?_)
  match a with
  | ⟨0, _⟩ => show win0_1.index t (0 : Fin 2) * 512 + 1 * r.val = _; rw [e]; show 0 * 512 + 1 * r.val = r.val; omega
  | ⟨1, _⟩ => show win0_1.index t (1 : Fin 2) * 1024 + 1 * k.val = _; rw [e]; show t.val / 16 * 1024 + 1 * k.val = t.val / 16 * 1024 + k.val; omega
theorem block2 (c : Dev nD) (t : Fin cfg0.N) (r : Fin 512) (k : Fin 1024) :
    blk2 m c t (ix2 r k) = resid m c (ix2 ⟨t.val % 16 * 512 + r.val, row_lt t r⟩ ⟨t.val / 16 * 1024 + k.val, col_lt t k⟩) := by
  rw [← entry2 m c]
  show V m c main_arg0 (((cfg0.win 2).blk t).view.emb (ix2 r k)) = _
  have e := index2 t
  refine congrArg _ (funext fun a => Fin.ext ?_)
  match a with
  | ⟨0, _⟩ => show win0_2.index t (0 : Fin 2) * 512 + 1 * r.val = _; rw [e]; show t.val % 16 * 512 + 1 * r.val = t.val % 16 * 512 + r.val; omega
  | ⟨1, _⟩ => show win0_2.index t (1 : Fin 2) * 1024 + 1 * k.val = _; rw [e]; show t.val / 16 * 1024 + 1 * k.val = t.val / 16 * 1024 + k.val; omega
theorem block3 (c : Dev nD) (t : Fin cfg0.N) (r : Fin 1) (k : Fin 1024) :
    blk3 m c t (ix2 r k) = gain m c (ix1 ⟨t.val / 16 * 1024 + k.val, col_lt t k⟩) := by
  rw [← gain_apply (gain m c) r, ← entry3 m c]
  show V m c main_v2 (((cfg0.win 3).blk t).view.emb (ix2 r k)) = _
  have e := index3 t
  refine congrArg _ (funext fun a => Fin.ext ?_)
  match a with
  | ⟨0, _⟩ => show win0_3.index t (0 : Fin 2) * 1 + 1 * r.val = _; rw [e]; show 0 * 1 + 1 * r.val = r.val; omega
  | ⟨1, _⟩ => show win0_3.index t (1 : Fin 2) * 1024 + 1 * k.val = _; rw [e]; show t.val / 16 * 1024 + 1 * k.val = t.val / 16 * 1024 + k.val; omega

/-- The two results, entry by entry. -/
def total (c : Dev nD) : FVec Ideal S8192x1024 .f32 := fun i => resid m c i + ∑ k : Fin 512, rows m c (ix2 (i 0) k) * wt m c (ix2 k (i 1))
def scaled (c : Dev nD) : FVec Ideal S8192x1024 .bf16 := fun i => normed (fun k => total m c (ix2 (i 0) k)) (gain m c (ix1 (i 1))) (i 1)

/-- There is one block of columns. -/
theorem col_eq (t : Fin cfg0.N) (k : Fin 1024) : (⟨t.val / 16 * 1024 + k.val, col_lt t k⟩ : Fin 1024) = k := Fin.ext (by
  have := t.isLt; have hN : cfg0.N = 16 := N_0; show t.val / 16 * 1024 + k.val = k.val; omega)

theorem body_at (c : Dev nD) (t : Fin cfg0.N) (r : Fin 512) (k : Fin 1024) :
    k0_pay1 (F := Ideal) (blk0 m c t) (blk1 m c t) (blk2 m c t) (ix2 r k) = total m c (ix2 ⟨t.val % 16 * 512 + r.val, row_lt t r⟩ k) := by
  refine (body4_apply (blk0 m c t) (blk1 m c t) (blk2 m c t) (ix2 r k)).trans ?_
  refine congrArg₂ _ ((block2 m c t r k).trans (congrArg (fun q => resid m c (ix2 _ q)) (col_eq t k))) (Finset.sum_congr rfl fun j _ => congrArg₂ _ (block0 m c t r j) ((block1 m c t j k).trans (congrArg (fun q => wt m c (ix2 j q)) (col_eq t k))))

theorem body_4 (c : Dev nD) (t : Fin cfg0.N) (y : S512x1024.Idx) :
    k0_pay1 (F := Ideal) (blk0 m c t) (blk1 m c t) (blk2 m c t) y
      = total m c (ix2 ⟨t.val % 16 * 512 + (y 0).val, row_lt t (y 0)⟩ ⟨t.val / 16 * 1024 + (y 1).val, col_lt t (y 1)⟩) := by
  rw [col_eq t (y 1), ← body_at m c t (y 0) (y 1), ← eq_ix2 y]

theorem body_5 (c : Dev nD) (t : Fin cfg0.N) (y : S512x1024.Idx) :
    k0_pay2 (F := Ideal) (blk0 m c t) (blk1 m c t) (blk2 m c t) (blk3 m c t) y
      = scaled m c (ix2 ⟨t.val % 16 * 512 + (y 0).val, row_lt t (y 0)⟩ ⟨t.val / 16 * 1024 + (y 1).val, col_lt t (y 1)⟩) := by
  refine (body5_apply (blk0 m c t) (blk1 m c t) (blk2 m c t) (blk3 m c t) y).trans ?_
  rw [col_eq t (y 1)]
  show _ = normed (fun k => total m c (ix2 ⟨t.val % 16 * 512 + (y 0).val, row_lt t (y 0)⟩ k)) (gain m c (ix1 (y 1))) (y 1)
  rw [show (fun k => k0_pay1 (F := Ideal) (blk0 m c t) (blk1 m c t) (blk2 m c t) (ix2 (y 0) k)) = fun k => total m c (ix2 ⟨t.val % 16 * 512 + (y 0).val, row_lt t (y 0)⟩ k)
    from funext fun k => body_at m c t (y 0) k, block3 m c t 0 (y 1), col_eq t (y 1)]

/-- What a grid point writes back is its block of the sum. -/
theorem flushed_4 (c : Dev nD) (t : Fin cfg0.N) :
    (dats m 0 c).flushed 4 t = ((cfg0.win 4).blk t).view.read (Elt Ideal) (total m c) := by
  rw [flushed4]
  refine (congrArg ((cfg0.win 4).cut (grid0.coords t)) (out_4 (blk0 m c t) (blk1 m c t) (blk2 m c t) (blk3 m c t))).trans ?_
  funext y
  have e := index4 t
  have e0 : ((cfg0.win 4).blk t).view.emb y (0 : Fin 2) = (⟨t.val % 16 * 512 + (y 0).val, row_lt t (y 0)⟩ : Fin 8192) := Fin.ext (by
    show win0_4.index t (0 : Fin 2) * 512 + 1 * (y 0).val = _; rw [e]; show t.val % 16 * 512 + 1 * (y 0).val = t.val % 16 * 512 + (y 0).val; omega)
  have e1 : ((cfg0.win 4).blk t).view.emb y (1 : Fin 2) = (⟨t.val / 16 * 1024 + (y 1).val, col_lt t (y 1)⟩ : Fin 1024) := Fin.ext (by
    show win0_4.index t (1 : Fin 2) * 1024 + 1 * (y 1).val = _; rw [e]; show t.val / 16 * 1024 + 1 * (y 1).val = t.val / 16 * 1024 + (y 1).val; omega)
  show _ = total m c (((cfg0.win 4).blk t).view.emb y)
  rw [eq_ix2 (((cfg0.win 4).blk t).view.emb y), e0, e1]
  exact body_4 m c t y

/-- What a grid point writes back is its block of the normalised rows. -/
theorem flushed_5 (c : Dev nD) (t : Fin cfg0.N) :
    (dats m 0 c).flushed 5 t = ((cfg0.win 5).blk t).view.read (Elt Ideal) (scaled m c) := by
  rw [flushed5]
  refine (congrArg ((cfg0.win 5).cut (grid0.coords t)) (out_5 (blk0 m c t) (blk1 m c t) (blk2 m c t) (blk3 m c t))).trans ?_
  funext y
  have e := index5 t
  have e0 : ((cfg0.win 5).blk t).view.emb y (0 : Fin 2) = (⟨t.val % 16 * 512 + (y 0).val, row_lt t (y 0)⟩ : Fin 8192) := Fin.ext (by
    show win0_5.index t (0 : Fin 2) * 512 + 1 * (y 0).val = _; rw [e]; show t.val % 16 * 512 + 1 * (y 0).val = t.val % 16 * 512 + (y 0).val; omega)
  have e1 : ((cfg0.win 5).blk t).view.emb y (1 : Fin 2) = (⟨t.val / 16 * 1024 + (y 1).val, col_lt t (y 1)⟩ : Fin 1024) := Fin.ext (by
    show win0_5.index t (1 : Fin 2) * 1024 + 1 * (y 1).val = _; rw [e]; show t.val / 16 * 1024 + 1 * (y 1).val = t.val / 16 * 1024 + (y 1).val; omega)
  show _ = scaled m c (((cfg0.win 5).blk t).view.emb y)
  rw [eq_ix2 (((cfg0.win 5).blk t).view.emb y), e0, e1]
  exact body_5 m c t y

/-- Every entry is in the block of the grid point that computes it. -/
theorem covered_4 (i : S8192x1024.Idx) : ∃ t : Fin cfg0.N, (cfg0.win 4).flush t = true ∧ i ∈ ((cfg0.win 4).blk t).view.set := by
  have h0 : (i 0).val < 8192 := (i 0).isLt
  have h1 : (i 1).val < 1024 := (i 1).isLt
  have hN : cfg0.N = 16 := N_0
  obtain ⟨n, hn⟩ : ∃ n, n = (i 1).val / 1024 * 16 + (i 0).val / 512 := ⟨_, rfl⟩
  have ht : n < cfg0.N := by omega
  have d0 : n % 16 = (i 0).val / 512 := by omega
  have d1 : n / 16 = (i 1).val / 1024 := by omega
  refine ⟨⟨n, ht⟩, flush0_4 _, ?_⟩
  show i ∈ ((View.whole main_v3_0).slice (win0_4.rect ⟨n, ht⟩)).set
  rw [View.set_slice_whole, Rect.mem_set_unit]
  have e := index4 ⟨n, ht⟩
  intro a
  match a with
  | ⟨0, _⟩ =>
    show win0_4.index ⟨n, ht⟩ (0 : Fin 2) * 512 ≤ (i 0).val ∧ (i 0).val < win0_4.index ⟨n, ht⟩ (0 : Fin 2) * 512 + 512
    rw [e]; show n % 16 * 512 ≤ (i 0).val ∧ (i 0).val < n % 16 * 512 + 512; rw [d0]; omega
  | ⟨1, _⟩ =>
    show win0_4.index ⟨n, ht⟩ (1 : Fin 2) * 1024 ≤ (i 1).val ∧ (i 1).val < win0_4.index ⟨n, ht⟩ (1 : Fin 2) * 1024 + 1024
    rw [e]; show n / 16 * 1024 ≤ (i 1).val ∧ (i 1).val < n / 16 * 1024 + 1024; rw [d1]; omega

/-- The array after the run: the blocks tile it. -/
theorem final_4 (c : Dev nD) : (dats m 0 c).arrAt 4 cfg0.N = total m c :=
  (dats m 0 c).arrAt_eq_of_cover 4 _ (fun t _ => flushed_4 m c t) covered_4

/-- Every entry is in the block of the grid point that computes it. -/
theorem covered_5 (i : S8192x1024.Idx) : ∃ t : Fin cfg0.N, (cfg0.win 5).flush t = true ∧ i ∈ ((cfg0.win 5).blk t).view.set := by
  have h0 : (i 0).val < 8192 := (i 0).isLt
  have h1 : (i 1).val < 1024 := (i 1).isLt
  have hN : cfg0.N = 16 := N_0
  obtain ⟨n, hn⟩ : ∃ n, n = (i 1).val / 1024 * 16 + (i 0).val / 512 := ⟨_, rfl⟩
  have ht : n < cfg0.N := by omega
  have d0 : n % 16 = (i 0).val / 512 := by omega
  have d1 : n / 16 = (i 1).val / 1024 := by omega
  refine ⟨⟨n, ht⟩, flush0_5 _, ?_⟩
  show i ∈ ((View.whole main_v3_1).slice (win0_5.rect ⟨n, ht⟩)).set
  rw [View.set_slice_whole, Rect.mem_set_unit]
  have e := index5 ⟨n, ht⟩
  intro a
  match a with
  | ⟨0, _⟩ =>
    show win0_5.index ⟨n, ht⟩ (0 : Fin 2) * 512 ≤ (i 0).val ∧ (i 0).val < win0_5.index ⟨n, ht⟩ (0 : Fin 2) * 512 + 512
    rw [e]; show n % 16 * 512 ≤ (i 0).val ∧ (i 0).val < n % 16 * 512 + 512; rw [d0]; omega
  | ⟨1, _⟩ =>
    show win0_5.index ⟨n, ht⟩ (1 : Fin 2) * 1024 ≤ (i 1).val ∧ (i 1).val < win0_5.index ⟨n, ht⟩ (1 : Fin 2) * 1024 + 1024
    rw [e]; show n / 16 * 1024 ≤ (i 1).val ∧ (i 1).val < n / 16 * 1024 + 1024; rw [d1]; omega

/-- The array after the run: the blocks tile it. -/
theorem final_5 (c : Dev nD) : (dats m 0 c).arrAt 5 cfg0.N = scaled m c :=
  (dats m 0 c).arrAt_eq_of_cover 5 _ (fun t _ => flushed_5 m c t) covered_5

end Cert.Kernel15Ideal.Result

namespace Cert.Reference15Ideal.Result

open Cert.Reference15Ideal Cert.Reference15Ideal.Gen
open Idealize.ShloMosaic

/-- The reference's sum at an index. -/
theorem total_apply (x : FVec Ideal S8192x1024 .f32) (a : FVec Ideal S8192x512 .f32) (w : FVec Ideal S512x1024 .f32) (i : S8192x1024.Idx) :
    (addf x (Host.dotGeneral dot_S8192x512_S512x1024_S8192x1024_1_0_0_1_n_n none a w) : FVec Ideal S8192x1024 .f32) i = x i + ∑ k : Fin 512, a (ix2 (i 0) k) * w (ix2 k (i 1)) := by
  pointwise

/-- The reference's normalisation at an index. -/
theorem normed_apply (y : FVec Ideal S8192x1024 .f32) (g : FVec Ideal S1024 .f32) (i : S8192x1024.Idx) :
    (truncf .bf16 (mulf (mulf y (broadcastInDim S8192x1024 ![0, 1] bcast_S8192x1_S8192x1024_0_1 (Host.rsqrt (addf (Host.divf (broadcastInDim S8192x1 ![0] bcast_S8192_S8192x1_0 (Host.reduceAdd (mulf y y) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 g))) bitsLt_bf16_f32 : FVec Ideal S8192x1024 .bf16) i
      = Cert.Kernel15Ideal.Result.normed (fun k => y (ix2 (i 0) k)) (g (ix1 (i 1))) (i 1) := by
  unfold Cert.Kernel15Ideal.Result.normed
  pointwise

end Cert.Reference15Ideal.Result

namespace Cert.Proof.AttnOut

open Idealize.ShloMosaic Idealize.ShloMosaic.TcCoe Idealize.SL.Sem

/-- The kernel terminates without a fault, with its arguments unchanged and its counters at zero. -/
theorem frame_kernel : Cert.quiescent_Kernel15 (hKernel15 := Cert.Kernel15.Gen.facts) := fun m ρ _ => Cert.Kernel15.Gen.frame m ρ

/-- The same of the idealized kernel. -/
theorem frame_kernelIdeal : Cert.quiescent_Kernel15Ideal (hKernel15Ideal := Cert.Kernel15Ideal.Gen.facts) := fun m ρ _ => Cert.Kernel15Ideal.Gen.frame m ρ

/-- The same of the reference. -/
theorem frame_referenceIdeal : Cert.quiescent_Reference15Ideal (hReference15Ideal := Cert.Reference15Ideal.Gen.facts) := fun m ρ _ =>
  (θ_run Cert.Reference15Ideal.defs _ _).mono
    (fun r h => ⟨fun c => (h c).2.2, sem_eq_zero_of_no_sems (by decide) r.2⟩)
    (Cert.Reference15Ideal.Value.run (F := Ideal) m ρ)

/-- Over the extended reals the kernel computes the reference's values. -/
theorem algebraic : Cert.algebraic_Kernel15Ideal_Reference15Ideal (hKernel15Ideal := Cert.Kernel15Ideal.Gen.facts) (hReference15Ideal := Cert.Reference15Ideal.Gen.facts) := by
  intro m ρ m' ρ' _ hagree
  refine ⟨_, _, Cert.Kernel15Ideal.Value.run_blocks (F := Ideal) m ρ, ?_⟩
  refine (θ_run Cert.Reference15Ideal.defs _ _).mono (fun _ h c => ⟨(h c).1.trans ?_, (h c).2.1.trans ?_, (h c).2.2⟩)
    (Cert.Reference15Ideal.Value.run (F := Ideal) m' ρ')
  · rw [(hagree c).1, (hagree c).2.1, (hagree c).2.2.1, Cert.Kernel15Ideal.Result.final_4]
    funext i
    exact Cert.Reference15Ideal.Result.total_apply _ _ _ i
  · rw [(hagree c).1, (hagree c).2.1, (hagree c).2.2.1, (hagree c).2.2.2, Cert.Kernel15Ideal.Result.final_5]
    funext i
    exact (Cert.Reference15Ideal.Result.normed_apply _ _ i).trans (congrArg (fun f => Cert.Kernel15Ideal.Result.normed f _ _) (funext fun k => Cert.Reference15Ideal.Result.total_apply _ _ _ (ix2 (i 0) k)))

end Cert.Proof.AttnOut

end
-- ==== Proof.Mixer.DeltaOut.lean ====
/-
  The delta net's output projection: the product is added to the residual and the rows are normalised.
-/
module

public import proofs.«01_k».proof.Defs
public import proofs.«01_k».proof.Proof.Gen.Kernel16.Frame
public import proofs.«01_k».proof.Proof.Gen.Kernel16Ideal.Value
public import proofs.«01_k».proof.Proof.Gen.Reference16Ideal.Run
public import Idealize.ShloMosaic.Lib.Quiescent
public import Idealize.ShloMosaic.Lib.Pointwise

@[expose] public section

set_option maxRecDepth 65536

noncomputable section

namespace Cert.Kernel16Ideal.Result

open Cert.Kernel16Ideal Cert.Kernel16Ideal.Gen Cert.Kernel16Ideal.Value
open Idealize.ShloMosaic Idealize.ShloMosaic.TcCoe Idealize.SL.Sem

variable (m : (ℓ : Loc nD τ sig) → Buf (Elt Ideal) ℓ)

/-- The residual, the tokens' rows, the weight and the next normalisation's weight. -/
abbrev resid (c : Dev nD) : FVec Ideal S8192x1024 .f32 := m ((c : Thread nD τ).loc main_arg0)
abbrev rows (c : Dev nD) : FVec Ideal S8192x1024 .f32 := m ((c : Thread nD τ).loc main_arg1)
abbrev wt (c : Dev nD) : FVec Ideal S1024x1024 .f32 := m ((c : Thread nD τ).loc main_arg2)
abbrev gain (c : Dev nD) : FVec Ideal S1024 .f32 := m ((c : Thread nD τ).loc main_arg3)

/-- The blocks a grid point reads. -/
abbrev blk0 (c : Dev nD) (t : Fin cfg0.N) : FVec Ideal S512x1024 .bf16 := iblk m c 0 t
abbrev blk1 (c : Dev nD) (t : Fin cfg0.N) : FVec Ideal S1024x1024 .bf16 := iblk m c 1 t
abbrev blk2 (c : Dev nD) (t : Fin cfg0.N) : FVec Ideal S512x1024 .f32 := iblk m c 2 t
abbrev blk3 (c : Dev nD) (t : Fin cfg0.N) : FVec Ideal S1x1024 .f32 := iblk m c 3 t

/-- A row divided by the root of its mean square and multiplied by the weight, at one column. -/
def normed (f : Fin 1024 → EReal) (g : EReal) (k : Fin 1024) : EReal :=
  f k * Ideal.rsqrt (Ideal.div (∑ j : Fin 1024, f j * f j) (Ideal.ofBits .f32 0x44800000#32) + Ideal.ofBits .f32 0x358637BD#32) * g

/-- What the body computes of its blocks: at each place, the residual and a row's product with a column … -/
theorem body4_apply (x : FVec Ideal S512x1024 .bf16) (y : FVec Ideal S1024x1024 .bf16) (r : FVec Ideal S512x1024 .f32) (i : S512x1024.Idx) :
    k0_pay1 (F := Ideal) x y r i = r i + ∑ k : Fin 1024, x (ix2 (i 0) k) * y (ix2 k (i 1)) := by
  pointwise [k0_pay1]

/-- … and the same row normalised. -/
theorem body5_apply (x : FVec Ideal S512x1024 .bf16) (y : FVec Ideal S1024x1024 .bf16) (r : FVec Ideal S512x1024 .f32) (g : FVec Ideal S1x1024 .f32) (i : S512x1024.Idx) :
    k0_pay2 (F := Ideal) x y r g i = normed (fun k => k0_pay1 (F := Ideal) x y r (ix2 (i 0) k)) (g (ix2 0 (i 1))) (i 1) := by
  generalize hd : k0_pay1 (F := Ideal) x y r = d
  unfold normed
  pointwise [k0_pay2, hd]

/-- The blocks the body leaves are its two stores'. -/
theorem out_4 (x : FVec Ideal S512x1024 .bf16) (y : FVec Ideal S1024x1024 .bf16) (r : FVec Ideal S512x1024 .f32) (g : FVec Ideal S1x1024 .f32) :
    out0_4 (F := Ideal) x y r g = k0_pay1 (F := Ideal) x y r := by
  have hz : (![0, 0] : Fin 2 → Nat) = fun _ => 0 := funext fun a => by fin_cases a <;> rfl
  unfold out0_4
  rw [View.canon_unit_zero hz]
  simp only [View.ld_unit_zero (S := S512x1024) hz, View.ld_unit_zero (S := S1024x1024) hz, View.ld_unit_zero (S := S1x1024) hz]

theorem out_5 (x : FVec Ideal S512x1024 .bf16) (y : FVec Ideal S1024x1024 .bf16) (r : FVec Ideal S512x1024 .f32) (g : FVec Ideal S1x1024 .f32) :
    out0_5 (F := Ideal) x y r g = k0_pay2 (F := Ideal) x y r g := by
  have hz : (![0, 0] : Fin 2 → Nat) = fun _ => 0 := funext fun a => by fin_cases a <;> rfl
  unfold out0_5
  rw [View.canon_unit_zero hz]
  simp only [View.ld_unit_zero (S := S512x1024) hz, View.ld_unit_zero (S := S1024x1024) hz, View.ld_unit_zero (S := S1x1024) hz]

/-- What the inputs hold when the blocks are fetched: the arguments (the cast of a float is itself). -/
theorem entry0 (c : Dev nD) : V m c main_v0 = rows m c := by
  show StableHlo.after hostOps0 (fun b => m (c, b)) main_v0 = _
  after_results; rfl
theorem entry1 (c : Dev nD) : V m c main_v1 = wt m c := by
  show StableHlo.after hostOps0 (fun b => m (c, b)) main_v1 = _
  after_results; rfl
theorem entry2 (c : Dev nD) : V m c main_arg0 = resid m c := by
  show StableHlo.after hostOps0 (fun b => m (c, b)) main_arg0 = _
  after_results
theorem entry3 (c : Dev nD) : V m c main_v2 = broadcastInDim S1x1024 ![1] bcast_S1024_S1x1024_1 (gain m c) := by
  show StableHlo.after hostOps0 (fun b => m (c, b)) main_v2 = _
  after_results
theorem gain_apply (g : FVec Ideal S1024 .f32) (z : Fin 1) (k : Fin 1024) : broadcastInDim S1x1024 ![1] bcast_S1024_S1x1024_1 g (ix2 z k) = g (ix1 k) := by
  pointwise

/-- Which blocks a grid point reads and writes. -/
theorem index0 : ∀ t : Fin cfg0.N, win0_0.index t = ![t.val % 16, 0] := (by decide +kernel : ∀ t : Fin grid0.N, _)
theorem index1 : ∀ t : Fin cfg0.N, win0_1.index t = ![0, t.val / 16] := (by decide +kernel : ∀ t : Fin grid0.N, _)
theorem index2 : ∀ t : Fin cfg0.N, win0_2.index t = ![t.val % 16, t.val / 16] := (by decide +kernel : ∀ t : Fin grid0.N, _)
theorem index3 : ∀ t : Fin cfg0.N, win0_3.index t = ![0, t.val / 16] := (by decide +kernel : ∀ t : Fin grid0.N, _)
theorem index4 : ∀ t : Fin cfg0.N, win0_4.index t = ![t.val % 16, t.val / 16] := (by decide +kernel : ∀ t : Fin grid0.N, _)
theorem index5 : ∀ t : Fin cfg0.N, win0_5.index t = ![t.val % 16, t.val / 16] := (by decide +kernel : ∀ t : Fin grid0.N, _)

/-- A token of a block is a token of the whole. -/
theorem row_lt (t : Fin cfg0.N) (r : Fin 512) : t.val % 16 * 512 + r.val < 8192 := by omega

/-- A column of a block is a column of the whole. -/
theorem col_lt (t : Fin cfg0.N) (k : Fin 1024) : t.val / 16 * 1024 + k.val < 1024 := by
  have := t.isLt; have hN : cfg0.N = 16 := N_0; omega

/-- The blocks in the arrays' own coordinates. -/
theorem block0 (c : Dev nD) (t : Fin cfg0.N) (r : Fin 512) (k : Fin 1024) :
    blk0 m c t (ix2 r k) = rows m c (ix2 ⟨t.val % 16 * 512 + r.val, row_lt t r⟩ k) := by
  rw [← entry0 m c]
  show V m c main_v0 (((cfg0.win 0).blk t).view.emb (ix2 r k)) = _
  have e := index0 t
  refine congrArg _ (funext fun a => Fin.ext ?_)
  match a with
  | ⟨0, _⟩ => show win0_0.index t (0 : Fin 2) * 512 + 1 * r.val = _; rw [e]; show t.val % 16 * 512 + 1 * r.val = t.val % 16 * 512 + r.val; omega
  | ⟨1, _⟩ => show win0_0.index t (1 : Fin 2) * 1024 + 1 * k.val = _; rw [e]; show 0 * 1024 + 1 * k.val = k.val; omega
theorem block1 (c : Dev nD) (t : Fin cfg0.N) (r : Fin 1024) (k : Fin 1024) :
    blk1 m c t (ix2 r k) = wt m c (ix2 r ⟨t.val / 16 * 1024 + k.val, col_lt t k⟩) := by
  rw [← entry1 m c]
  show V m c main_v1 (((cfg0.win 1).blk t).view.emb (ix2 r k)) = _
  have e := index1 t
  refine congrArg _ (funext fun a => Fin.ext ?_)
  match a with
  | ⟨0, _⟩ => show win0_1.index t (0 : Fin 2) * 1024 + 1 * r.val = _; rw [e]; show 0 * 1024 + 1 * r.val = r.val; omega
  | ⟨1, _⟩ => show win0_1.index t (1 : Fin 2) * 1024 + 1 * k.val = _; rw [e]; show t.val / 16 * 1024 + 1 * k.val = t.val / 16 * 1024 + k.val; omega
theorem block2 (c : Dev nD) (t : Fin cfg0.N) (r : Fin 512) (k : Fin 1024) :
    blk2 m c t (ix2 r k) = resid m c (ix2 ⟨t.val % 16 * 512 + r.val, row_lt t r⟩ ⟨t.val / 16 * 1024 + k.val, col_lt t k⟩) := by
  rw [← entry2 m c]
  show V m c main_arg0 (((cfg0.win 2).blk t).view.emb (ix2 r k)) = _
  have e := index2 t
  refine congrArg _ (funext fun a => Fin.ext ?_)
  match a with
  | ⟨0, _⟩ => show win0_2.index t (0 : Fin 2) * 512 + 1 * r.val = _; rw [e]; show t.val % 16 * 512 + 1 * r.val = t.val % 16 * 512 + r.val; omega
  | ⟨1, _⟩ => show win0_2.index t (1 : Fin 2) * 1024 + 1 * k.val = _; rw [e]; show t.val / 16 * 1024 + 1 * k.val = t.val / 16 * 1024 + k.val; omega
theorem block3 (c : Dev nD) (t : Fin cfg0.N) (r : Fin 1) (k : Fin 1024) :
    blk3 m c t (ix2 r k) = gain m c (ix1 ⟨t.val / 16 * 1024 + k.val, col_lt t k⟩) := by
  rw [← gain_apply (gain m c) r, ← entry3 m c]
  show V m c main_v2 (((cfg0.win 3).blk t).view.emb (ix2 r k)) = _
  have e := index3 t
  refine congrArg _ (funext fun a => Fin.ext ?_)
  match a with
  | ⟨0, _⟩ => show win0_3.index t (0 : Fin 2) * 1 + 1 * r.val = _; rw [e]; show 0 * 1 + 1 * r.val = r.val; omega
  | ⟨1, _⟩ => show win0_3.index t (1 : Fin 2) * 1024 + 1 * k.val = _; rw [e]; show t.val / 16 * 1024 + 1 * k.val = t.val / 16 * 1024 + k.val; omega

/-- The two results, entry by entry. -/
def total (c : Dev nD) : FVec Ideal S8192x1024 .f32 := fun i => resid m c i + ∑ k : Fin 1024, rows m c (ix2 (i 0) k) * wt m c (ix2 k (i 1))
def scaled (c : Dev nD) : FVec Ideal S8192x1024 .bf16 := fun i => normed (fun k => total m c (ix2 (i 0) k)) (gain m c (ix1 (i 1))) (i 1)

/-- There is one block of columns. -/
theorem col_eq (t : Fin cfg0.N) (k : Fin 1024) : (⟨t.val / 16 * 1024 + k.val, col_lt t k⟩ : Fin 1024) = k := Fin.ext (by
  have := t.isLt; have hN : cfg0.N = 16 := N_0; show t.val / 16 * 1024 + k.val = k.val; omega)

theorem body_at (c : Dev nD) (t : Fin cfg0.N) (r : Fin 512) (k : Fin 1024) :
    k0_pay1 (F := Ideal) (blk0 m c t) (blk1 m c t) (blk2 m c t) (ix2 r k) = total m c (ix2 ⟨t.val % 16 * 512 + r.val, row_lt t r⟩ k) := by
  refine (body4_apply (blk0 m c t) (blk1 m c t) (blk2 m c t) (ix2 r k)).trans ?_
  refine congrArg₂ _ ((block2 m c t r k).trans (congrArg (fun q => resid m c (ix2 _ q)) (col_eq t k))) (Finset.sum_congr rfl fun j _ => congrArg₂ _ (block0 m c t r j) ((block1 m c t j k).trans (congrArg (fun q => wt m c (ix2 j q)) (col_eq t k))))

theorem body_4 (c : Dev nD) (t : Fin cfg0.N) (y : S512x1024.Idx) :
    k0_pay1 (F := Ideal) (blk0 m c t) (blk1 m c t) (blk2 m c t) y
      = total m c (ix2 ⟨t.val % 16 * 512 + (y 0).val, row_lt t (y 0)⟩ ⟨t.val / 16 * 1024 + (y 1).val, col_lt t (y 1)⟩) := by
  rw [col_eq t (y 1), ← body_at m c t (y 0) (y 1), ← eq_ix2 y]

theorem body_5 (c : Dev nD) (t : Fin cfg0.N) (y : S512x1024.Idx) :
    k0_pay2 (F := Ideal) (blk0 m c t) (blk1 m c t) (blk2 m c t) (blk3 m c t) y
      = scaled m c (ix2 ⟨t.val % 16 * 512 + (y 0).val, row_lt t (y 0)⟩ ⟨t.val / 16 * 1024 + (y 1).val, col_lt t (y 1)⟩) := by
  refine (body5_apply (blk0 m c t) (blk1 m c t) (blk2 m c t) (blk3 m c t) y).trans ?_
  rw [col_eq t (y 1)]
  show _ = normed (fun k => total m c (ix2 ⟨t.val % 16 * 512 + (y 0).val, row_lt t (y 0)⟩ k)) (gain m c (ix1 (y 1))) (y 1)
  rw [show (fun k => k0_pay1 (F := Ideal) (blk0 m c t) (blk1 m c t) (blk2 m c t) (ix2 (y 0) k)) = fun k => total m c (ix2 ⟨t.val % 16 * 512 + (y 0).val, row_lt t (y 0)⟩ k)
    from funext fun k => body_at m c t (y 0) k, block3 m c t 0 (y 1), col_eq t (y 1)]

/-- What a grid point writes back is its block of the sum. -/
theorem flushed_4 (c : Dev nD) (t : Fin cfg0.N) :
    (dats m 0 c).flushed 4 t = ((cfg0.win 4).blk t).view.read (Elt Ideal) (total m c) := by
  rw [flushed4]
  refine (congrArg ((cfg0.win 4).cut (grid0.coords t)) (out_4 (blk0 m c t) (blk1 m c t) (blk2 m c t) (blk3 m c t))).trans ?_
  funext y
  have e := index4 t
  have e0 : ((cfg0.win 4).blk t).view.emb y (0 : Fin 2) = (⟨t.val % 16 * 512 + (y 0).val, row_lt t (y 0)⟩ : Fin 8192) := Fin.ext (by
    show win0_4.index t (0 : Fin 2) * 512 + 1 * (y 0).val = _; rw [e]; show t.val % 16 * 512 + 1 * (y 0).val = t.val % 16 * 512 + (y 0).val; omega)
  have e1 : ((cfg0.win 4).blk t).view.emb y (1 : Fin 2) = (⟨t.val / 16 * 1024 + (y 1).val, col_lt t (y 1)⟩ : Fin 1024) := Fin.ext (by
    show win0_4.index t (1 : Fin 2) * 1024 + 1 * (y 1).val = _; rw [e]; show t.val / 16 * 1024 + 1 * (y 1).val = t.val / 16 * 1024 + (y 1).val; omega)
  show _ = total m c (((cfg0.win 4).blk t).view.emb y)
  rw [eq_ix2 (((cfg0.win 4).blk t).view.emb y), e0, e1]
  exact body_4 m c t y

/-- What a grid point writes back is its block of the normalised rows. -/
theorem flushed_5 (c : Dev nD) (t : Fin cfg0.N) :
    (dats m 0 c).flushed 5 t = ((cfg0.win 5).blk t).view.read (Elt Ideal) (scaled m c) := by
  rw [flushed5]
  refine (congrArg ((cfg0.win 5).cut (grid0.coords t)) (out_5 (blk0 m c t) (blk1 m c t) (blk2 m c t) (blk3 m c t))).trans ?_
  funext y
  have e := index5 t
  have e0 : ((cfg0.win 5).blk t).view.emb y (0 : Fin 2) = (⟨t.val % 16 * 512 + (y 0).val, row_lt t (y 0)⟩ : Fin 8192) := Fin.ext (by
    show win0_5.index t (0 : Fin 2) * 512 + 1 * (y 0).val = _; rw [e]; show t.val % 16 * 512 + 1 * (y 0).val = t.val % 16 * 512 + (y 0).val; omega)
  have e1 : ((cfg0.win 5).blk t).view.emb y (1 : Fin 2) = (⟨t.val / 16 * 1024 + (y 1).val, col_lt t (y 1)⟩ : Fin 1024) := Fin.ext (by
    show win0_5.index t (1 : Fin 2) * 1024 + 1 * (y 1).val = _; rw [e]; show t.val / 16 * 1024 + 1 * (y 1).val = t.val / 16 * 1024 + (y 1).val; omega)
  show _ = scaled m c (((cfg0.win 5).blk t).view.emb y)
  rw [eq_ix2 (((cfg0.win 5).blk t).view.emb y), e0, e1]
  exact body_5 m c t y

/-- Every entry is in the block of the grid point that computes it. -/
theorem covered_4 (i : S8192x1024.Idx) : ∃ t : Fin cfg0.N, (cfg0.win 4).flush t = true ∧ i ∈ ((cfg0.win 4).blk t).view.set := by
  have h0 : (i 0).val < 8192 := (i 0).isLt
  have h1 : (i 1).val < 1024 := (i 1).isLt
  have hN : cfg0.N = 16 := N_0
  obtain ⟨n, hn⟩ : ∃ n, n = (i 1).val / 1024 * 16 + (i 0).val / 512 := ⟨_, rfl⟩
  have ht : n < cfg0.N := by omega
  have d0 : n % 16 = (i 0).val / 512 := by omega
  have d1 : n / 16 = (i 1).val / 1024 := by omega
  refine ⟨⟨n, ht⟩, flush0_4 _, ?_⟩
  show i ∈ ((View.whole main_v3_0).slice (win0_4.rect ⟨n, ht⟩)).set
  rw [View.set_slice_whole, Rect.mem_set_unit]
  have e := index4 ⟨n, ht⟩
  intro a
  match a with
  | ⟨0, _⟩ =>
    show win0_4.index ⟨n, ht⟩ (0 : Fin 2) * 512 ≤ (i 0).val ∧ (i 0).val < win0_4.index ⟨n, ht⟩ (0 : Fin 2) * 512 + 512
    rw [e]; show n % 16 * 512 ≤ (i 0).val ∧ (i 0).val < n % 16 * 512 + 512; rw [d0]; omega
  | ⟨1, _⟩ =>
    show win0_4.index ⟨n, ht⟩ (1 : Fin 2) * 1024 ≤ (i 1).val ∧ (i 1).val < win0_4.index ⟨n, ht⟩ (1 : Fin 2) * 1024 + 1024
    rw [e]; show n / 16 * 1024 ≤ (i 1).val ∧ (i 1).val < n / 16 * 1024 + 1024; rw [d1]; omega

/-- The array after the run: the blocks tile it. -/
theorem final_4 (c : Dev nD) : (dats m 0 c).arrAt 4 cfg0.N = total m c :=
  (dats m 0 c).arrAt_eq_of_cover 4 _ (fun t _ => flushed_4 m c t) covered_4

/-- Every entry is in the block of the grid point that computes it. -/
theorem covered_5 (i : S8192x1024.Idx) : ∃ t : Fin cfg0.N, (cfg0.win 5).flush t = true ∧ i ∈ ((cfg0.win 5).blk t).view.set := by
  have h0 : (i 0).val < 8192 := (i 0).isLt
  have h1 : (i 1).val < 1024 := (i 1).isLt
  have hN : cfg0.N = 16 := N_0
  obtain ⟨n, hn⟩ : ∃ n, n = (i 1).val / 1024 * 16 + (i 0).val / 512 := ⟨_, rfl⟩
  have ht : n < cfg0.N := by omega
  have d0 : n % 16 = (i 0).val / 512 := by omega
  have d1 : n / 16 = (i 1).val / 1024 := by omega
  refine ⟨⟨n, ht⟩, flush0_5 _, ?_⟩
  show i ∈ ((View.whole main_v3_1).slice (win0_5.rect ⟨n, ht⟩)).set
  rw [View.set_slice_whole, Rect.mem_set_unit]
  have e := index5 ⟨n, ht⟩
  intro a
  match a with
  | ⟨0, _⟩ =>
    show win0_5.index ⟨n, ht⟩ (0 : Fin 2) * 512 ≤ (i 0).val ∧ (i 0).val < win0_5.index ⟨n, ht⟩ (0 : Fin 2) * 512 + 512
    rw [e]; show n % 16 * 512 ≤ (i 0).val ∧ (i 0).val < n % 16 * 512 + 512; rw [d0]; omega
  | ⟨1, _⟩ =>
    show win0_5.index ⟨n, ht⟩ (1 : Fin 2) * 1024 ≤ (i 1).val ∧ (i 1).val < win0_5.index ⟨n, ht⟩ (1 : Fin 2) * 1024 + 1024
    rw [e]; show n / 16 * 1024 ≤ (i 1).val ∧ (i 1).val < n / 16 * 1024 + 1024; rw [d1]; omega

/-- The array after the run: the blocks tile it. -/
theorem final_5 (c : Dev nD) : (dats m 0 c).arrAt 5 cfg0.N = scaled m c :=
  (dats m 0 c).arrAt_eq_of_cover 5 _ (fun t _ => flushed_5 m c t) covered_5

end Cert.Kernel16Ideal.Result

namespace Cert.Reference16Ideal.Result

open Cert.Reference16Ideal Cert.Reference16Ideal.Gen
open Idealize.ShloMosaic

/-- The reference's sum at an index. -/
theorem total_apply (x : FVec Ideal S8192x1024 .f32) (a : FVec Ideal S8192x1024 .f32) (w : FVec Ideal S1024x1024 .f32) (i : S8192x1024.Idx) :
    (addf x (Host.dotGeneral dot_S8192x1024_S1024x1024_S8192x1024_1_0_0_1_n_n none a w) : FVec Ideal S8192x1024 .f32) i = x i + ∑ k : Fin 1024, a (ix2 (i 0) k) * w (ix2 k (i 1)) := by
  pointwise

/-- The reference's normalisation at an index. -/
theorem normed_apply (y : FVec Ideal S8192x1024 .f32) (g : FVec Ideal S1024 .f32) (i : S8192x1024.Idx) :
    (truncf .bf16 (mulf (mulf y (broadcastInDim S8192x1024 ![0, 1] bcast_S8192x1_S8192x1024_0_1 (Host.rsqrt (addf (Host.divf (broadcastInDim S8192x1 ![0] bcast_S8192_S8192x1_0 (Host.reduceAdd (mulf y y) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 g))) bitsLt_bf16_f32 : FVec Ideal S8192x1024 .bf16) i
      = Cert.Kernel16Ideal.Result.normed (fun k => y (ix2 (i 0) k)) (g (ix1 (i 1))) (i 1) := by
  unfold Cert.Kernel16Ideal.Result.normed
  pointwise

end Cert.Reference16Ideal.Result

namespace Cert.Proof.DeltaOut

open Idealize.ShloMosaic Idealize.ShloMosaic.TcCoe Idealize.SL.Sem

/-- The kernel terminates without a fault, with its arguments unchanged and its counters at zero. -/
theorem frame_kernel : Cert.quiescent_Kernel16 (hKernel16 := Cert.Kernel16.Gen.facts) := fun m ρ _ => Cert.Kernel16.Gen.frame m ρ

/-- The same of the idealized kernel. -/
theorem frame_kernelIdeal : Cert.quiescent_Kernel16Ideal (hKernel16Ideal := Cert.Kernel16Ideal.Gen.facts) := fun m ρ _ => Cert.Kernel16Ideal.Gen.frame m ρ

/-- The same of the reference. -/
theorem frame_referenceIdeal : Cert.quiescent_Reference16Ideal (hReference16Ideal := Cert.Reference16Ideal.Gen.facts) := fun m ρ _ =>
  (θ_run Cert.Reference16Ideal.defs _ _).mono
    (fun r h => ⟨fun c => (h c).2.2, sem_eq_zero_of_no_sems (by decide) r.2⟩)
    (Cert.Reference16Ideal.Value.run (F := Ideal) m ρ)

/-- Over the extended reals the kernel computes the reference's values. -/
theorem algebraic : Cert.algebraic_Kernel16Ideal_Reference16Ideal (hKernel16Ideal := Cert.Kernel16Ideal.Gen.facts) (hReference16Ideal := Cert.Reference16Ideal.Gen.facts) := by
  intro m ρ m' ρ' _ hagree
  refine ⟨_, _, Cert.Kernel16Ideal.Value.run_blocks (F := Ideal) m ρ, ?_⟩
  refine (θ_run Cert.Reference16Ideal.defs _ _).mono (fun _ h c => ⟨(h c).1.trans ?_, (h c).2.1.trans ?_, (h c).2.2⟩)
    (Cert.Reference16Ideal.Value.run (F := Ideal) m' ρ')
  · rw [(hagree c).1, (hagree c).2.1, (hagree c).2.2.1, Cert.Kernel16Ideal.Result.final_4]
    funext i
    exact Cert.Reference16Ideal.Result.total_apply _ _ _ i
  · rw [(hagree c).1, (hagree c).2.1, (hagree c).2.2.1, (hagree c).2.2.2, Cert.Kernel16Ideal.Result.final_5]
    funext i
    exact (Cert.Reference16Ideal.Result.normed_apply _ _ i).trans (congrArg (fun f => Cert.Kernel16Ideal.Result.normed f _ _) (funext fun k => Cert.Reference16Ideal.Result.total_apply _ _ _ (ix2 (i 0) k)))

end Cert.Proof.DeltaOut

end
-- ==== Proof.Mixer.AttnProjection.lean ====
/-
  The attention's projection: a product cut into blocks of 512 tokens and of 1536 columns.
-/
module

public import proofs.«01_k».proof.Defs
public import proofs.«01_k».proof.Proof.Gen.Kernel17.Frame
public import proofs.«01_k».proof.Proof.Gen.Kernel17Ideal.Value
public import proofs.«01_k».proof.Proof.Gen.Reference17Ideal.Run
public import Idealize.ShloMosaic.Lib.Quiescent
public import Idealize.ShloMosaic.Lib.Pointwise

@[expose] public section

set_option maxRecDepth 65536

noncomputable section

namespace Cert.Kernel17Ideal.Result

open Cert.Kernel17Ideal Cert.Kernel17Ideal.Gen Cert.Kernel17Ideal.Value
open Idealize.ShloMosaic Idealize.ShloMosaic.TcCoe Idealize.SL.Sem

variable (m : (ℓ : Loc nD τ sig) → Buf (Elt Ideal) ℓ)

/-- The tokens' rows. -/
abbrev rows (c : Dev nD) : FVec Ideal S8192x1024 .f32 := m ((c : Thread nD τ).loc main_arg0)

/-- The weight. -/
abbrev wt (c : Dev nD) : FVec Ideal S1024x4608 .f32 := m ((c : Thread nD τ).loc main_arg1)

/-- The blocks a grid point reads. -/
abbrev blk0 (c : Dev nD) (t : Fin cfg0.N) : FVec Ideal S512x1024 .bf16 := iblk m c 0 t
abbrev blk1 (c : Dev nD) (t : Fin cfg0.N) : FVec Ideal S1024x1536 .bf16 := iblk m c 1 t

/-- What the body computes of its blocks: at each place, a row's product with a column. -/
theorem body_apply (x : FVec Ideal S512x1024 .bf16) (y : FVec Ideal S1024x1536 .bf16) (i : S512x1536.Idx) :
    k0_pay1 (F := Ideal) x y i = ∑ k : Fin 1024, x (ix2 (i 0) k) * y (ix2 k (i 1)) := by
  pointwise [k0_pay1]

/-- The block the body leaves is its one store's. -/
theorem out_2 (x : FVec Ideal S512x1024 .bf16) (y : FVec Ideal S1024x1536 .bf16) :
    out0_2 (F := Ideal) x y = k0_pay1 (F := Ideal) x y := by
  have hz : (![0, 0] : Fin 2 → Nat) = fun _ => 0 := funext fun a => by fin_cases a <;> rfl
  unfold out0_2
  rw [View.canon_unit_zero hz]
  simp only [View.ld_unit_zero (S := S512x1024) hz, View.ld_unit_zero (S := S1024x1536) hz]

/-- What the inputs hold when the blocks are fetched: the arguments (the cast of a float is itself). -/
theorem entry0 (c : Dev nD) : V m c main_v0 = rows m c := by
  show StableHlo.after hostOps0 (fun b => m (c, b)) main_v0 = _
  after_results; rfl
theorem entry1 (c : Dev nD) : V m c main_v1 = wt m c := by
  show StableHlo.after hostOps0 (fun b => m (c, b)) main_v1 = _
  after_results; rfl

/-- Which blocks a grid point reads and writes. -/
theorem index0 : ∀ t : Fin cfg0.N, win0_0.index t = ![t.val % 16, 0] := (by decide +kernel : ∀ t : Fin grid0.N, _)
theorem index1 : ∀ t : Fin cfg0.N, win0_1.index t = ![0, t.val / 16] := (by decide +kernel : ∀ t : Fin grid0.N, _)
theorem index2 : ∀ t : Fin cfg0.N, win0_2.index t = ![t.val % 16, t.val / 16] := (by decide +kernel : ∀ t : Fin grid0.N, _)

/-- A token of a block is a token of the whole. -/
theorem row_lt (t : Fin cfg0.N) (r : Fin 512) : t.val % 16 * 512 + r.val < 8192 := by omega

/-- A column of a block is a column of the whole. -/
theorem col_lt (t : Fin cfg0.N) (k : Fin 1536) : t.val / 16 * 1536 + k.val < 4608 := by
  have := t.isLt; have hN : cfg0.N = 48 := N_0; omega

/-- The blocks in the arrays' own coordinates. -/
theorem block0 (c : Dev nD) (t : Fin cfg0.N) (r : Fin 512) (k : Fin 1024) :
    blk0 m c t (ix2 r k) = rows m c (ix2 ⟨t.val % 16 * 512 + r.val, row_lt t r⟩ k) := by
  rw [← entry0 m c]
  show V m c main_v0 (((cfg0.win 0).blk t).view.emb (ix2 r k)) = _
  have e := index0 t
  refine congrArg _ (funext fun a => Fin.ext ?_)
  match a with
  | ⟨0, _⟩ => show win0_0.index t (0 : Fin 2) * 512 + 1 * r.val = _; rw [e]; show t.val % 16 * 512 + 1 * r.val = t.val % 16 * 512 + r.val; omega
  | ⟨1, _⟩ => show win0_0.index t (1 : Fin 2) * 1024 + 1 * k.val = _; rw [e]; show 0 * 1024 + 1 * k.val = k.val; omega
theorem block1 (c : Dev nD) (t : Fin cfg0.N) (r : Fin 1024) (k : Fin 1536) :
    blk1 m c t (ix2 r k) = wt m c (ix2 r ⟨t.val / 16 * 1536 + k.val, col_lt t k⟩) := by
  rw [← entry1 m c]
  show V m c main_v1 (((cfg0.win 1).blk t).view.emb (ix2 r k)) = _
  have e := index1 t
  refine congrArg _ (funext fun a => Fin.ext ?_)
  match a with
  | ⟨0, _⟩ => show win0_1.index t (0 : Fin 2) * 1024 + 1 * r.val = _; rw [e]; show 0 * 1024 + 1 * r.val = r.val; omega
  | ⟨1, _⟩ => show win0_1.index t (1 : Fin 2) * 1536 + 1 * k.val = _; rw [e]; show t.val / 16 * 1536 + 1 * k.val = t.val / 16 * 1536 + k.val; omega

/-- The product, entry by entry. -/
def prod (c : Dev nD) : FVec Ideal S8192x4608 .f32 := fun i => ∑ k : Fin 1024, rows m c (ix2 (i 0) k) * wt m c (ix2 k (i 1))

theorem body_2 (c : Dev nD) (t : Fin cfg0.N) (y : S512x1536.Idx) :
    k0_pay1 (F := Ideal) (blk0 m c t) (blk1 m c t) y
      = prod m c (ix2 ⟨t.val % 16 * 512 + (y 0).val, row_lt t (y 0)⟩ ⟨t.val / 16 * 1536 + (y 1).val, col_lt t (y 1)⟩) :=
  (body_apply (blk0 m c t) (blk1 m c t) y).trans
    (Finset.sum_congr rfl fun k _ => congrArg₂ _ (block0 m c t (y 0) k) (block1 m c t k (y 1)))

/-- What a grid point writes back is its block of the product. -/
theorem flushed_2 (c : Dev nD) (t : Fin cfg0.N) :
    (dats m 0 c).flushed 2 t = ((cfg0.win 2).blk t).view.read (Elt Ideal) (prod m c) := by
  rw [flushed2]
  refine (congrArg ((cfg0.win 2).cut (grid0.coords t)) (out_2 (blk0 m c t) (blk1 m c t))).trans ?_
  funext y
  have e := index2 t
  have e0 : ((cfg0.win 2).blk t).view.emb y (0 : Fin 2) = (⟨t.val % 16 * 512 + (y 0).val, row_lt t (y 0)⟩ : Fin 8192) := Fin.ext (by
    show win0_2.index t (0 : Fin 2) * 512 + 1 * (y 0).val = _; rw [e]; show t.val % 16 * 512 + 1 * (y 0).val = t.val % 16 * 512 + (y 0).val; omega)
  have e1 : ((cfg0.win 2).blk t).view.emb y (1 : Fin 2) = (⟨t.val / 16 * 1536 + (y 1).val, col_lt t (y 1)⟩ : Fin 4608) := Fin.ext (by
    show win0_2.index t (1 : Fin 2) * 1536 + 1 * (y 1).val = _; rw [e]; show t.val / 16 * 1536 + 1 * (y 1).val = t.val / 16 * 1536 + (y 1).val; omega)
  show _ = prod m c (((cfg0.win 2).blk t).view.emb y)
  rw [eq_ix2 (((cfg0.win 2).blk t).view.emb y), e0, e1]
  exact body_2 m c t y

/-- Every entry is in the block of the grid point that computes it. -/
theorem covered_2 (i : S8192x4608.Idx) : ∃ t : Fin cfg0.N, (cfg0.win 2).flush t = true ∧ i ∈ ((cfg0.win 2).blk t).view.set := by
  have h0 : (i 0).val < 8192 := (i 0).isLt
  have h1 : (i 1).val < 4608 := (i 1).isLt
  have hN : cfg0.N = 48 := N_0
  obtain ⟨n, hn⟩ : ∃ n, n = (i 1).val / 1536 * 16 + (i 0).val / 512 := ⟨_, rfl⟩
  have ht : n < cfg0.N := by omega
  have d0 : n % 16 = (i 0).val / 512 := by omega
  have d1 : n / 16 = (i 1).val / 1536 := by omega
  refine ⟨⟨n, ht⟩, flush0_2 _, ?_⟩
  show i ∈ ((View.whole main_v2).slice (win0_2.rect ⟨n, ht⟩)).set
  rw [View.set_slice_whole, Rect.mem_set_unit]
  have e := index2 ⟨n, ht⟩
  intro a
  match a with
  | ⟨0, _⟩ =>
    show win0_2.index ⟨n, ht⟩ (0 : Fin 2) * 512 ≤ (i 0).val ∧ (i 0).val < win0_2.index ⟨n, ht⟩ (0 : Fin 2) * 512 + 512
    rw [e]; show n % 16 * 512 ≤ (i 0).val ∧ (i 0).val < n % 16 * 512 + 512; rw [d0]; omega
  | ⟨1, _⟩ =>
    show win0_2.index ⟨n, ht⟩ (1 : Fin 2) * 1536 ≤ (i 1).val ∧ (i 1).val < win0_2.index ⟨n, ht⟩ (1 : Fin 2) * 1536 + 1536
    rw [e]; show n / 16 * 1536 ≤ (i 1).val ∧ (i 1).val < n / 16 * 1536 + 1536; rw [d1]; omega

/-- The array after the run: the blocks tile it. -/
theorem final_2 (c : Dev nD) : (dats m 0 c).arrAt 2 cfg0.N = prod m c :=
  (dats m 0 c).arrAt_eq_of_cover 2 _ (fun t _ => flushed_2 m c t) covered_2

end Cert.Kernel17Ideal.Result

namespace Cert.Reference17Ideal.Result

open Cert.Reference17Ideal Cert.Reference17Ideal.Gen
open Idealize.ShloMosaic

/-- The reference's result at an index. -/
theorem result_apply (x : FVec Ideal S8192x1024 .f32) (w : FVec Ideal S1024x4608 .f32) (i : S8192x4608.Idx) :
    Host.dotGeneral dot_S8192x1024_S1024x4608_S8192x4608_1_0_0_1_n_n none x w i
      = ∑ k : Fin 1024, x (ix2 (i 0) k) * w (ix2 k (i 1)) := by
  pointwise

end Cert.Reference17Ideal.Result

namespace Cert.Proof.AttnProjection

open Idealize.ShloMosaic Idealize.ShloMosaic.TcCoe Idealize.SL.Sem

/-- The kernel terminates without a fault, with its arguments unchanged and its counters at zero. -/
theorem frame_kernel : Cert.quiescent_Kernel17 (hKernel17 := Cert.Kernel17.Gen.facts) := fun m ρ _ => Cert.Kernel17.Gen.frame m ρ

/-- The same of the idealized kernel. -/
theorem frame_kernelIdeal : Cert.quiescent_Kernel17Ideal (hKernel17Ideal := Cert.Kernel17Ideal.Gen.facts) := fun m ρ _ => Cert.Kernel17Ideal.Gen.frame m ρ

/-- The same of the reference. -/
theorem frame_referenceIdeal : Cert.quiescent_Reference17Ideal (hReference17Ideal := Cert.Reference17Ideal.Gen.facts) := fun m ρ _ =>
  (θ_run Cert.Reference17Ideal.defs _ _).mono
    (fun r h => ⟨fun c => (h c).2, sem_eq_zero_of_no_sems (by decide) r.2⟩)
    (Cert.Reference17Ideal.Value.run (F := Ideal) m ρ)

/-- Over the extended reals the kernel computes the reference's values. -/
theorem algebraic : Cert.algebraic_Kernel17Ideal_Reference17Ideal (hKernel17Ideal := Cert.Kernel17Ideal.Gen.facts) (hReference17Ideal := Cert.Reference17Ideal.Gen.facts) := by
  intro m ρ m' ρ' _ hagree
  refine ⟨_, Cert.Kernel17Ideal.Value.run_blocks (F := Ideal) m ρ, ?_⟩
  refine (θ_run Cert.Reference17Ideal.defs _ _).mono (fun _ h c => ⟨(h c).1.trans ?_, (h c).2⟩)
    (Cert.Reference17Ideal.Value.run (F := Ideal) m' ρ')
  · rw [(hagree c).1, (hagree c).2, Cert.Kernel17Ideal.Result.final_2]
    funext i
    exact Cert.Reference17Ideal.Result.result_apply _ _ i

end Cert.Proof.AttnProjection

end
-- ==== Proof.Mixer.DeltaProjection.lean ====
/-
  The delta net's projection: a product cut into blocks of 512 tokens and of 1408 columns.
-/
module

public import proofs.«01_k».proof.Defs
public import proofs.«01_k».proof.Proof.Gen.Kernel18.Frame
public import proofs.«01_k».proof.Proof.Gen.Kernel18Ideal.Value
public import proofs.«01_k».proof.Proof.Gen.Reference18Ideal.Run
public import Idealize.ShloMosaic.Lib.Quiescent
public import Idealize.ShloMosaic.Lib.Pointwise

@[expose] public section

set_option maxRecDepth 65536

noncomputable section

namespace Cert.Kernel18Ideal.Result

open Cert.Kernel18Ideal Cert.Kernel18Ideal.Gen Cert.Kernel18Ideal.Value
open Idealize.ShloMosaic Idealize.ShloMosaic.TcCoe Idealize.SL.Sem

variable (m : (ℓ : Loc nD τ sig) → Buf (Elt Ideal) ℓ)

/-- The tokens' rows. -/
abbrev rows (c : Dev nD) : FVec Ideal S8192x1024 .f32 := m ((c : Thread nD τ).loc main_arg0)

/-- The weight. -/
abbrev wt (c : Dev nD) : FVec Ideal S1024x4224 .f32 := m ((c : Thread nD τ).loc main_arg1)

/-- The blocks a grid point reads. -/
abbrev blk0 (c : Dev nD) (t : Fin cfg0.N) : FVec Ideal S512x1024 .bf16 := iblk m c 0 t
abbrev blk1 (c : Dev nD) (t : Fin cfg0.N) : FVec Ideal S1024x1408 .bf16 := iblk m c 1 t

/-- What the body computes of its blocks: at each place, a row's product with a column. -/
theorem body_apply (x : FVec Ideal S512x1024 .bf16) (y : FVec Ideal S1024x1408 .bf16) (i : S512x1408.Idx) :
    k0_pay1 (F := Ideal) x y i = ∑ k : Fin 1024, x (ix2 (i 0) k) * y (ix2 k (i 1)) := by
  pointwise [k0_pay1]

/-- The block the body leaves is its one store's. -/
theorem out_2 (x : FVec Ideal S512x1024 .bf16) (y : FVec Ideal S1024x1408 .bf16) :
    out0_2 (F := Ideal) x y = k0_pay1 (F := Ideal) x y := by
  have hz : (![0, 0] : Fin 2 → Nat) = fun _ => 0 := funext fun a => by fin_cases a <;> rfl
  unfold out0_2
  rw [View.canon_unit_zero hz]
  simp only [View.ld_unit_zero (S := S512x1024) hz, View.ld_unit_zero (S := S1024x1408) hz]

/-- What the inputs hold when the blocks are fetched: the arguments (the cast of a float is itself). -/
theorem entry0 (c : Dev nD) : V m c main_v0 = rows m c := by
  show StableHlo.after hostOps0 (fun b => m (c, b)) main_v0 = _
  after_results; rfl
theorem entry1 (c : Dev nD) : V m c main_v1 = wt m c := by
  show StableHlo.after hostOps0 (fun b => m (c, b)) main_v1 = _
  after_results; rfl

/-- Which blocks a grid point reads and writes. -/
theorem index0 : ∀ t : Fin cfg0.N, win0_0.index t = ![t.val % 16, 0] := (by decide +kernel : ∀ t : Fin grid0.N, _)
theorem index1 : ∀ t : Fin cfg0.N, win0_1.index t = ![0, t.val / 16] := (by decide +kernel : ∀ t : Fin grid0.N, _)
theorem index2 : ∀ t : Fin cfg0.N, win0_2.index t = ![t.val % 16, t.val / 16] := (by decide +kernel : ∀ t : Fin grid0.N, _)

/-- A token of a block is a token of the whole. -/
theorem row_lt (t : Fin cfg0.N) (r : Fin 512) : t.val % 16 * 512 + r.val < 8192 := by omega

/-- A column of a block is a column of the whole. -/
theorem col_lt (t : Fin cfg0.N) (k : Fin 1408) : t.val / 16 * 1408 + k.val < 4224 := by
  have := t.isLt; have hN : cfg0.N = 48 := N_0; omega

/-- The blocks in the arrays' own coordinates. -/
theorem block0 (c : Dev nD) (t : Fin cfg0.N) (r : Fin 512) (k : Fin 1024) :
    blk0 m c t (ix2 r k) = rows m c (ix2 ⟨t.val % 16 * 512 + r.val, row_lt t r⟩ k) := by
  rw [← entry0 m c]
  show V m c main_v0 (((cfg0.win 0).blk t).view.emb (ix2 r k)) = _
  have e := index0 t
  refine congrArg _ (funext fun a => Fin.ext ?_)
  match a with
  | ⟨0, _⟩ => show win0_0.index t (0 : Fin 2) * 512 + 1 * r.val = _; rw [e]; show t.val % 16 * 512 + 1 * r.val = t.val % 16 * 512 + r.val; omega
  | ⟨1, _⟩ => show win0_0.index t (1 : Fin 2) * 1024 + 1 * k.val = _; rw [e]; show 0 * 1024 + 1 * k.val = k.val; omega
theorem block1 (c : Dev nD) (t : Fin cfg0.N) (r : Fin 1024) (k : Fin 1408) :
    blk1 m c t (ix2 r k) = wt m c (ix2 r ⟨t.val / 16 * 1408 + k.val, col_lt t k⟩) := by
  rw [← entry1 m c]
  show V m c main_v1 (((cfg0.win 1).blk t).view.emb (ix2 r k)) = _
  have e := index1 t
  refine congrArg _ (funext fun a => Fin.ext ?_)
  match a with
  | ⟨0, _⟩ => show win0_1.index t (0 : Fin 2) * 1024 + 1 * r.val = _; rw [e]; show 0 * 1024 + 1 * r.val = r.val; omega
  | ⟨1, _⟩ => show win0_1.index t (1 : Fin 2) * 1408 + 1 * k.val = _; rw [e]; show t.val / 16 * 1408 + 1 * k.val = t.val / 16 * 1408 + k.val; omega

/-- The product, entry by entry. -/
def prod (c : Dev nD) : FVec Ideal S8192x4224 .f32 := fun i => ∑ k : Fin 1024, rows m c (ix2 (i 0) k) * wt m c (ix2 k (i 1))

theorem body_2 (c : Dev nD) (t : Fin cfg0.N) (y : S512x1408.Idx) :
    k0_pay1 (F := Ideal) (blk0 m c t) (blk1 m c t) y
      = prod m c (ix2 ⟨t.val % 16 * 512 + (y 0).val, row_lt t (y 0)⟩ ⟨t.val / 16 * 1408 + (y 1).val, col_lt t (y 1)⟩) :=
  (body_apply (blk0 m c t) (blk1 m c t) y).trans
    (Finset.sum_congr rfl fun k _ => congrArg₂ _ (block0 m c t (y 0) k) (block1 m c t k (y 1)))

/-- What a grid point writes back is its block of the product. -/
theorem flushed_2 (c : Dev nD) (t : Fin cfg0.N) :
    (dats m 0 c).flushed 2 t = ((cfg0.win 2).blk t).view.read (Elt Ideal) (prod m c) := by
  rw [flushed2]
  refine (congrArg ((cfg0.win 2).cut (grid0.coords t)) (out_2 (blk0 m c t) (blk1 m c t))).trans ?_
  funext y
  have e := index2 t
  have e0 : ((cfg0.win 2).blk t).view.emb y (0 : Fin 2) = (⟨t.val % 16 * 512 + (y 0).val, row_lt t (y 0)⟩ : Fin 8192) := Fin.ext (by
    show win0_2.index t (0 : Fin 2) * 512 + 1 * (y 0).val = _; rw [e]; show t.val % 16 * 512 + 1 * (y 0).val = t.val % 16 * 512 + (y 0).val; omega)
  have e1 : ((cfg0.win 2).blk t).view.emb y (1 : Fin 2) = (⟨t.val / 16 * 1408 + (y 1).val, col_lt t (y 1)⟩ : Fin 4224) := Fin.ext (by
    show win0_2.index t (1 : Fin 2) * 1408 + 1 * (y 1).val = _; rw [e]; show t.val / 16 * 1408 + 1 * (y 1).val = t.val / 16 * 1408 + (y 1).val; omega)
  show _ = prod m c (((cfg0.win 2).blk t).view.emb y)
  rw [eq_ix2 (((cfg0.win 2).blk t).view.emb y), e0, e1]
  exact body_2 m c t y

/-- Every entry is in the block of the grid point that computes it. -/
theorem covered_2 (i : S8192x4224.Idx) : ∃ t : Fin cfg0.N, (cfg0.win 2).flush t = true ∧ i ∈ ((cfg0.win 2).blk t).view.set := by
  have h0 : (i 0).val < 8192 := (i 0).isLt
  have h1 : (i 1).val < 4224 := (i 1).isLt
  have hN : cfg0.N = 48 := N_0
  obtain ⟨n, hn⟩ : ∃ n, n = (i 1).val / 1408 * 16 + (i 0).val / 512 := ⟨_, rfl⟩
  have ht : n < cfg0.N := by omega
  have d0 : n % 16 = (i 0).val / 512 := by omega
  have d1 : n / 16 = (i 1).val / 1408 := by omega
  refine ⟨⟨n, ht⟩, flush0_2 _, ?_⟩
  show i ∈ ((View.whole main_v2).slice (win0_2.rect ⟨n, ht⟩)).set
  rw [View.set_slice_whole, Rect.mem_set_unit]
  have e := index2 ⟨n, ht⟩
  intro a
  match a with
  | ⟨0, _⟩ =>
    show win0_2.index ⟨n, ht⟩ (0 : Fin 2) * 512 ≤ (i 0).val ∧ (i 0).val < win0_2.index ⟨n, ht⟩ (0 : Fin 2) * 512 + 512
    rw [e]; show n % 16 * 512 ≤ (i 0).val ∧ (i 0).val < n % 16 * 512 + 512; rw [d0]; omega
  | ⟨1, _⟩ =>
    show win0_2.index ⟨n, ht⟩ (1 : Fin 2) * 1408 ≤ (i 1).val ∧ (i 1).val < win0_2.index ⟨n, ht⟩ (1 : Fin 2) * 1408 + 1408
    rw [e]; show n / 16 * 1408 ≤ (i 1).val ∧ (i 1).val < n / 16 * 1408 + 1408; rw [d1]; omega

/-- The array after the run: the blocks tile it. -/
theorem final_2 (c : Dev nD) : (dats m 0 c).arrAt 2 cfg0.N = prod m c :=
  (dats m 0 c).arrAt_eq_of_cover 2 _ (fun t _ => flushed_2 m c t) covered_2

end Cert.Kernel18Ideal.Result

namespace Cert.Reference18Ideal.Result

open Cert.Reference18Ideal Cert.Reference18Ideal.Gen
open Idealize.ShloMosaic

/-- The reference's result at an index. -/
theorem result_apply (x : FVec Ideal S8192x1024 .f32) (w : FVec Ideal S1024x4224 .f32) (i : S8192x4224.Idx) :
    Host.dotGeneral dot_S8192x1024_S1024x4224_S8192x4224_1_0_0_1_n_n none x w i
      = ∑ k : Fin 1024, x (ix2 (i 0) k) * w (ix2 k (i 1)) := by
  pointwise

end Cert.Reference18Ideal.Result

namespace Cert.Proof.DeltaProjection

open Idealize.ShloMosaic Idealize.ShloMosaic.TcCoe Idealize.SL.Sem

/-- The kernel terminates without a fault, with its arguments unchanged and its counters at zero. -/
theorem frame_kernel : Cert.quiescent_Kernel18 (hKernel18 := Cert.Kernel18.Gen.facts) := fun m ρ _ => Cert.Kernel18.Gen.frame m ρ

/-- The same of the idealized kernel. -/
theorem frame_kernelIdeal : Cert.quiescent_Kernel18Ideal (hKernel18Ideal := Cert.Kernel18Ideal.Gen.facts) := fun m ρ _ => Cert.Kernel18Ideal.Gen.frame m ρ

/-- The same of the reference. -/
theorem frame_referenceIdeal : Cert.quiescent_Reference18Ideal (hReference18Ideal := Cert.Reference18Ideal.Gen.facts) := fun m ρ _ =>
  (θ_run Cert.Reference18Ideal.defs _ _).mono
    (fun r h => ⟨fun c => (h c).2, sem_eq_zero_of_no_sems (by decide) r.2⟩)
    (Cert.Reference18Ideal.Value.run (F := Ideal) m ρ)

/-- Over the extended reals the kernel computes the reference's values. -/
theorem algebraic : Cert.algebraic_Kernel18Ideal_Reference18Ideal (hKernel18Ideal := Cert.Kernel18Ideal.Gen.facts) (hReference18Ideal := Cert.Reference18Ideal.Gen.facts) := by
  intro m ρ m' ρ' _ hagree
  refine ⟨_, Cert.Kernel18Ideal.Value.run_blocks (F := Ideal) m ρ, ?_⟩
  refine (θ_run Cert.Reference18Ideal.defs _ _).mono (fun _ h c => ⟨(h c).1.trans ?_, (h c).2⟩)
    (Cert.Reference18Ideal.Value.run (F := Ideal) m' ρ')
  · rw [(hagree c).1, (hagree c).2, Cert.Kernel18Ideal.Result.final_2]
    funext i
    exact Cert.Reference18Ideal.Result.result_apply _ _ i

end Cert.Proof.DeltaProjection

end
-- ==== Proof.Mixer.FfnUp.lean ====
/-
  The feed-forward block's gate and up projections and the gated product, 512 tokens and 1536 columns at a time.
-/
module

public import proofs.«01_k».proof.Defs
public import proofs.«01_k».proof.Proof.Gen.Kernel19.Frame
public import proofs.«01_k».proof.Proof.Gen.Kernel19Ideal.Value
public import proofs.«01_k».proof.Proof.Gen.Reference19Ideal.Run
public import proofs.«01_k».proof.Proof.Consts
public import proofs.«01_k».proof.Proof.Ffn.Gates
public import Idealize.ShloMosaic.Lib.Quiescent
public import Idealize.ShloMosaic.Lib.Pointwise

@[expose] public section

set_option maxRecDepth 65536

noncomputable section

namespace Cert.Kernel19Ideal.Result

open Cert.Kernel19Ideal Cert.Kernel19Ideal.Gen Cert.Kernel19Ideal.Value
open Idealize.ShloMosaic Idealize.ShloMosaic.TcCoe Idealize.SL.Sem

variable (m : (ℓ : Loc nD τ sig) → Buf (Elt Ideal) ℓ)

/-- The tokens' rows, the gate's weight and the up projection's. -/
abbrev rows (c : Dev nD) : FVec Ideal S8192x1024 .f32 := m ((c : Thread nD τ).loc main_arg0)
abbrev wgate (c : Dev nD) : FVec Ideal S1024x3072 .f32 := m ((c : Thread nD τ).loc main_arg1)
abbrev wup (c : Dev nD) : FVec Ideal S1024x3072 .f32 := m ((c : Thread nD τ).loc main_arg2)

/-- The blocks a grid point reads. -/
abbrev blk0 (c : Dev nD) (t : Fin cfg0.N) : FVec Ideal S512x1024 .bf16 := iblk m c 0 t
abbrev blk1 (c : Dev nD) (t : Fin cfg0.N) : FVec Ideal S1024x1536 .bf16 := iblk m c 1 t
abbrev blk2 (c : Dev nD) (t : Fin cfg0.N) : FVec Ideal S1024x1536 .bf16 := iblk m c 2 t

/-- The two products in a block. -/
theorem gate_apply (x : FVec Ideal S512x1024 .bf16) (y : FVec Ideal S1024x1536 .bf16) (i : S512x1536.Idx) :
    k0_pay2 (F := Ideal) x y i = ∑ k : Fin 1024, x (ix2 (i 0) k) * y (ix2 k (i 1)) := by
  pointwise [k0_pay2, k0_pay1]
theorem up_apply (x : FVec Ideal S512x1024 .bf16) (z : FVec Ideal S1024x1536 .bf16) (i : S512x1536.Idx) :
    k0_pay3 (F := Ideal) x z i = ∑ k : Fin 1024, x (ix2 (i 0) k) * z (ix2 k (i 1)) := by
  pointwise [k0_pay3, k0_pay1]

/-- What the body computes of its blocks: the two products and the gated product. -/
theorem body3_apply (x : FVec Ideal S512x1024 .bf16) (y : FVec Ideal S1024x1536 .bf16) (i : S512x1536.Idx) :
    k0_pay4 (F := Ideal) x y i = ∑ k : Fin 1024, x (ix2 (i 0) k) * y (ix2 k (i 1)) := by
  rw [← gate_apply]
  generalize hd : k0_pay2 (F := Ideal) x y = d
  pointwise [k0_pay4, hd]
theorem body4_apply (x : FVec Ideal S512x1024 .bf16) (z : FVec Ideal S1024x1536 .bf16) (i : S512x1536.Idx) :
    k0_pay5 (F := Ideal) x z i = ∑ k : Fin 1024, x (ix2 (i 0) k) * z (ix2 k (i 1)) := by
  rw [← up_apply]
  generalize hd : k0_pay3 (F := Ideal) x z = d
  pointwise [k0_pay5, hd]
theorem body5_apply (x : FVec Ideal S512x1024 .bf16) (y z : FVec Ideal S1024x1536 .bf16) (i : S512x1536.Idx) :
    k0_pay6 (F := Ideal) x y z i = (∑ k : Fin 1024, x (ix2 (i 0) k) * y (ix2 k (i 1))) * Ideal.logistic (∑ k : Fin 1024, x (ix2 (i 0) k) * y (ix2 k (i 1)))
      * ∑ k : Fin 1024, x (ix2 (i 0) k) * z (ix2 k (i 1)) := by
  rw [← gate_apply, ← up_apply, ← Logistic.value_eq, ← Consts.half]
  generalize hd : k0_pay2 (F := Ideal) x y = d
  generalize he : k0_pay3 (F := Ideal) x z = e
  pointwise [k0_pay6, hd, he]

/-- The blocks the body leaves are its three stores'. -/
theorem out_3 (x : FVec Ideal S512x1024 .bf16) (y : FVec Ideal S1024x1536 .bf16) (z : FVec Ideal S1024x1536 .bf16) :
    out0_3 (F := Ideal) x y z = k0_pay4 (F := Ideal) x y := by
  have hz : (![0, 0] : Fin 2 → Nat) = fun _ => 0 := funext fun a => by fin_cases a <;> rfl
  unfold out0_3
  rw [View.canon_unit_zero hz]
  simp only [View.ld_unit_zero (S := S512x1024) hz, View.ld_unit_zero (S := S1024x1536) hz]

theorem out_4 (x : FVec Ideal S512x1024 .bf16) (y : FVec Ideal S1024x1536 .bf16) (z : FVec Ideal S1024x1536 .bf16) :
    out0_4 (F := Ideal) x y z = k0_pay5 (F := Ideal) x z := by
  have hz : (![0, 0] : Fin 2 → Nat) = fun _ => 0 := funext fun a => by fin_cases a <;> rfl
  unfold out0_4
  rw [View.canon_unit_zero hz]
  simp only [View.ld_unit_zero (S := S512x1024) hz, View.ld_unit_zero (S := S1024x1536) hz]

theorem out_5 (x : FVec Ideal S512x1024 .bf16) (y : FVec Ideal S1024x1536 .bf16) (z : FVec Ideal S1024x1536 .bf16) :
    out0_5 (F := Ideal) x y z = k0_pay6 (F := Ideal) x y z := by
  have hz : (![0, 0] : Fin 2 → Nat) = fun _ => 0 := funext fun a => by fin_cases a <;> rfl
  unfold out0_5
  rw [View.canon_unit_zero hz]
  simp only [View.ld_unit_zero (S := S512x1024) hz, View.ld_unit_zero (S := S1024x1536) hz]

/-- What the inputs hold when the blocks are fetched: the arguments (the cast of a float is itself). -/
theorem entry0 (c : Dev nD) : V m c main_v0 = rows m c := by
  show StableHlo.after hostOps0 (fun b => m (c, b)) main_v0 = _
  after_results; rfl
theorem entry1 (c : Dev nD) : V m c main_v1 = wgate m c := by
  show StableHlo.after hostOps0 (fun b => m (c, b)) main_v1 = _
  after_results; rfl
theorem entry2 (c : Dev nD) : V m c main_v2 = wup m c := by
  show StableHlo.after hostOps0 (fun b => m (c, b)) main_v2 = _
  after_results; rfl

/-- Which blocks a grid point reads and writes. -/
theorem index0 : ∀ t : Fin cfg0.N, win0_0.index t = ![t.val % 16, 0] := (by decide +kernel : ∀ t : Fin grid0.N, _)
theorem index1 : ∀ t : Fin cfg0.N, win0_1.index t = ![0, t.val / 16] := (by decide +kernel : ∀ t : Fin grid0.N, _)
theorem index2 : ∀ t : Fin cfg0.N, win0_2.index t = ![0, t.val / 16] := (by decide +kernel : ∀ t : Fin grid0.N, _)
theorem index3 : ∀ t : Fin cfg0.N, win0_3.index t = ![t.val % 16, t.val / 16] := (by decide +kernel : ∀ t : Fin grid0.N, _)
theorem index4 : ∀ t : Fin cfg0.N, win0_4.index t = ![t.val % 16, t.val / 16] := (by decide +kernel : ∀ t : Fin grid0.N, _)
theorem index5 : ∀ t : Fin cfg0.N, win0_5.index t = ![t.val % 16, t.val / 16] := (by decide +kernel : ∀ t : Fin grid0.N, _)

/-- A token of a block is a token of the whole. -/
theorem row_lt (t : Fin cfg0.N) (r : Fin 512) : t.val % 16 * 512 + r.val < 8192 := by omega

/-- A column of a block is a column of the whole. -/
theorem col_lt (t : Fin cfg0.N) (k : Fin 1536) : t.val / 16 * 1536 + k.val < 3072 := by
  have := t.isLt; have hN : cfg0.N = 32 := N_0; omega

/-- The blocks in the arrays' own coordinates. -/
theorem block0 (c : Dev nD) (t : Fin cfg0.N) (r : Fin 512) (k : Fin 1024) :
    blk0 m c t (ix2 r k) = rows m c (ix2 ⟨t.val % 16 * 512 + r.val, row_lt t r⟩ k) := by
  rw [← entry0 m c]
  show V m c main_v0 (((cfg0.win 0).blk t).view.emb (ix2 r k)) = _
  have e := index0 t
  refine congrArg _ (funext fun a => Fin.ext ?_)
  match a with
  | ⟨0, _⟩ => show win0_0.index t (0 : Fin 2) * 512 + 1 * r.val = _; rw [e]; show t.val % 16 * 512 + 1 * r.val = t.val % 16 * 512 + r.val; omega
  | ⟨1, _⟩ => show win0_0.index t (1 : Fin 2) * 1024 + 1 * k.val = _; rw [e]; show 0 * 1024 + 1 * k.val = k.val; omega
theorem block1 (c : Dev nD) (t : Fin cfg0.N) (r : Fin 1024) (k : Fin 1536) :
    blk1 m c t (ix2 r k) = wgate m c (ix2 r ⟨t.val / 16 * 1536 + k.val, col_lt t k⟩) := by
  rw [← entry1 m c]
  show V m c main_v1 (((cfg0.win 1).blk t).view.emb (ix2 r k)) = _
  have e := index1 t
  refine congrArg _ (funext fun a => Fin.ext ?_)
  match a with
  | ⟨0, _⟩ => show win0_1.index t (0 : Fin 2) * 1024 + 1 * r.val = _; rw [e]; show 0 * 1024 + 1 * r.val = r.val; omega
  | ⟨1, _⟩ => show win0_1.index t (1 : Fin 2) * 1536 + 1 * k.val = _; rw [e]; show t.val / 16 * 1536 + 1 * k.val = t.val / 16 * 1536 + k.val; omega
theorem block2 (c : Dev nD) (t : Fin cfg0.N) (r : Fin 1024) (k : Fin 1536) :
    blk2 m c t (ix2 r k) = wup m c (ix2 r ⟨t.val / 16 * 1536 + k.val, col_lt t k⟩) := by
  rw [← entry2 m c]
  show V m c main_v2 (((cfg0.win 2).blk t).view.emb (ix2 r k)) = _
  have e := index2 t
  refine congrArg _ (funext fun a => Fin.ext ?_)
  match a with
  | ⟨0, _⟩ => show win0_2.index t (0 : Fin 2) * 1024 + 1 * r.val = _; rw [e]; show 0 * 1024 + 1 * r.val = r.val; omega
  | ⟨1, _⟩ => show win0_2.index t (1 : Fin 2) * 1536 + 1 * k.val = _; rw [e]; show t.val / 16 * 1536 + 1 * k.val = t.val / 16 * 1536 + k.val; omega

/-- The results, entry by entry. -/
def gate (c : Dev nD) : FVec Ideal S8192x3072 .bf16 := fun i => ∑ k : Fin 1024, rows m c (ix2 (i 0) k) * wgate m c (ix2 k (i 1))
def up (c : Dev nD) : FVec Ideal S8192x3072 .bf16 := fun i => ∑ k : Fin 1024, rows m c (ix2 (i 0) k) * wup m c (ix2 k (i 1))
def gated (c : Dev nD) : FVec Ideal S8192x3072 .bf16 := fun i => gate m c i * Ideal.logistic (gate m c i) * up m c i

theorem gate_block (c : Dev nD) (t : Fin cfg0.N) (y : S512x1536.Idx) :
    (∑ k : Fin 1024, blk0 m c t (ix2 (y 0) k) * blk1 m c t (ix2 k (y 1))) = gate m c (ix2 ⟨t.val % 16 * 512 + (y 0).val, row_lt t (y 0)⟩ ⟨t.val / 16 * 1536 + (y 1).val, col_lt t (y 1)⟩) :=
  Finset.sum_congr rfl fun k _ => congrArg₂ _ (block0 m c t (y 0) k) (block1 m c t k (y 1))
theorem up_block (c : Dev nD) (t : Fin cfg0.N) (y : S512x1536.Idx) :
    (∑ k : Fin 1024, blk0 m c t (ix2 (y 0) k) * blk2 m c t (ix2 k (y 1))) = up m c (ix2 ⟨t.val % 16 * 512 + (y 0).val, row_lt t (y 0)⟩ ⟨t.val / 16 * 1536 + (y 1).val, col_lt t (y 1)⟩) :=
  Finset.sum_congr rfl fun k _ => congrArg₂ _ (block0 m c t (y 0) k) (block2 m c t k (y 1))

theorem body_3 (c : Dev nD) (t : Fin cfg0.N) (y : S512x1536.Idx) : k0_pay4 (F := Ideal) (blk0 m c t) (blk1 m c t) y = gate m c (ix2 ⟨t.val % 16 * 512 + (y 0).val, row_lt t (y 0)⟩ ⟨t.val / 16 * 1536 + (y 1).val, col_lt t (y 1)⟩) :=
  (body3_apply (blk0 m c t) (blk1 m c t) y).trans (gate_block m c t y)
theorem body_4 (c : Dev nD) (t : Fin cfg0.N) (y : S512x1536.Idx) : k0_pay5 (F := Ideal) (blk0 m c t) (blk2 m c t) y = up m c (ix2 ⟨t.val % 16 * 512 + (y 0).val, row_lt t (y 0)⟩ ⟨t.val / 16 * 1536 + (y 1).val, col_lt t (y 1)⟩) :=
  (body4_apply (blk0 m c t) (blk2 m c t) y).trans (up_block m c t y)
theorem body_5 (c : Dev nD) (t : Fin cfg0.N) (y : S512x1536.Idx) : k0_pay6 (F := Ideal) (blk0 m c t) (blk1 m c t) (blk2 m c t) y = gated m c (ix2 ⟨t.val % 16 * 512 + (y 0).val, row_lt t (y 0)⟩ ⟨t.val / 16 * 1536 + (y 1).val, col_lt t (y 1)⟩) := by
  refine (body5_apply (blk0 m c t) (blk1 m c t) (blk2 m c t) y).trans ?_
  rw [gate_block m c t y, up_block m c t y]
  rfl

/-- What a grid point writes back is its block of the gate. -/
theorem flushed_3 (c : Dev nD) (t : Fin cfg0.N) :
    (dats m 0 c).flushed 3 t = ((cfg0.win 3).blk t).view.read (Elt Ideal) (gate m c) := by
  rw [flushed3]
  refine (congrArg ((cfg0.win 3).cut (grid0.coords t)) (out_3 (blk0 m c t) (blk1 m c t) (blk2 m c t))).trans ?_
  funext y
  have e := index3 t
  have e0 : ((cfg0.win 3).blk t).view.emb y (0 : Fin 2) = (⟨t.val % 16 * 512 + (y 0).val, row_lt t (y 0)⟩ : Fin 8192) := Fin.ext (by
    show win0_3.index t (0 : Fin 2) * 512 + 1 * (y 0).val = _; rw [e]; show t.val % 16 * 512 + 1 * (y 0).val = t.val % 16 * 512 + (y 0).val; omega)
  have e1 : ((cfg0.win 3).blk t).view.emb y (1 : Fin 2) = (⟨t.val / 16 * 1536 + (y 1).val, col_lt t (y 1)⟩ : Fin 3072) := Fin.ext (by
    show win0_3.index t (1 : Fin 2) * 1536 + 1 * (y 1).val = _; rw [e]; show t.val / 16 * 1536 + 1 * (y 1).val = t.val / 16 * 1536 + (y 1).val; omega)
  show _ = gate m c (((cfg0.win 3).blk t).view.emb y)
  rw [eq_ix2 (((cfg0.win 3).blk t).view.emb y), e0, e1]
  exact body_3 m c t y

/-- Every entry is in the block of the grid point that computes it. -/
theorem covered_3 (i : S8192x3072.Idx) : ∃ t : Fin cfg0.N, (cfg0.win 3).flush t = true ∧ i ∈ ((cfg0.win 3).blk t).view.set := by
  have h0 : (i 0).val < 8192 := (i 0).isLt
  have h1 : (i 1).val < 3072 := (i 1).isLt
  have hN : cfg0.N = 32 := N_0
  obtain ⟨n, hn⟩ : ∃ n, n = (i 1).val / 1536 * 16 + (i 0).val / 512 := ⟨_, rfl⟩
  have ht : n < cfg0.N := by omega
  have d0 : n % 16 = (i 0).val / 512 := by omega
  have d1 : n / 16 = (i 1).val / 1536 := by omega
  refine ⟨⟨n, ht⟩, flush0_3 _, ?_⟩
  show i ∈ ((View.whole main_v3_0).slice (win0_3.rect ⟨n, ht⟩)).set
  rw [View.set_slice_whole, Rect.mem_set_unit]
  have e := index3 ⟨n, ht⟩
  intro a
  match a with
  | ⟨0, _⟩ =>
    show win0_3.index ⟨n, ht⟩ (0 : Fin 2) * 512 ≤ (i 0).val ∧ (i 0).val < win0_3.index ⟨n, ht⟩ (0 : Fin 2) * 512 + 512
    rw [e]; show n % 16 * 512 ≤ (i 0).val ∧ (i 0).val < n % 16 * 512 + 512; rw [d0]; omega
  | ⟨1, _⟩ =>
    show win0_3.index ⟨n, ht⟩ (1 : Fin 2) * 1536 ≤ (i 1).val ∧ (i 1).val < win0_3.index ⟨n, ht⟩ (1 : Fin 2) * 1536 + 1536
    rw [e]; show n / 16 * 1536 ≤ (i 1).val ∧ (i 1).val < n / 16 * 1536 + 1536; rw [d1]; omega

/-- The array after the run: the blocks tile it. -/
theorem final_3 (c : Dev nD) : (dats m 0 c).arrAt 3 cfg0.N = gate m c :=
  (dats m 0 c).arrAt_eq_of_cover 3 _ (fun t _ => flushed_3 m c t) covered_3

/-- What a grid point writes back is its block of the up projection. -/
theorem flushed_4 (c : Dev nD) (t : Fin cfg0.N) :
    (dats m 0 c).flushed 4 t = ((cfg0.win 4).blk t).view.read (Elt Ideal) (up m c) := by
  rw [flushed4]
  refine (congrArg ((cfg0.win 4).cut (grid0.coords t)) (out_4 (blk0 m c t) (blk1 m c t) (blk2 m c t))).trans ?_
  funext y
  have e := index4 t
  have e0 : ((cfg0.win 4).blk t).view.emb y (0 : Fin 2) = (⟨t.val % 16 * 512 + (y 0).val, row_lt t (y 0)⟩ : Fin 8192) := Fin.ext (by
    show win0_4.index t (0 : Fin 2) * 512 + 1 * (y 0).val = _; rw [e]; show t.val % 16 * 512 + 1 * (y 0).val = t.val % 16 * 512 + (y 0).val; omega)
  have e1 : ((cfg0.win 4).blk t).view.emb y (1 : Fin 2) = (⟨t.val / 16 * 1536 + (y 1).val, col_lt t (y 1)⟩ : Fin 3072) := Fin.ext (by
    show win0_4.index t (1 : Fin 2) * 1536 + 1 * (y 1).val = _; rw [e]; show t.val / 16 * 1536 + 1 * (y 1).val = t.val / 16 * 1536 + (y 1).val; omega)
  show _ = up m c (((cfg0.win 4).blk t).view.emb y)
  rw [eq_ix2 (((cfg0.win 4).blk t).view.emb y), e0, e1]
  exact body_4 m c t y

/-- Every entry is in the block of the grid point that computes it. -/
theorem covered_4 (i : S8192x3072.Idx) : ∃ t : Fin cfg0.N, (cfg0.win 4).flush t = true ∧ i ∈ ((cfg0.win 4).blk t).view.set := by
  have h0 : (i 0).val < 8192 := (i 0).isLt
  have h1 : (i 1).val < 3072 := (i 1).isLt
  have hN : cfg0.N = 32 := N_0
  obtain ⟨n, hn⟩ : ∃ n, n = (i 1).val / 1536 * 16 + (i 0).val / 512 := ⟨_, rfl⟩
  have ht : n < cfg0.N := by omega
  have d0 : n % 16 = (i 0).val / 512 := by omega
  have d1 : n / 16 = (i 1).val / 1536 := by omega
  refine ⟨⟨n, ht⟩, flush0_4 _, ?_⟩
  show i ∈ ((View.whole main_v3_1).slice (win0_4.rect ⟨n, ht⟩)).set
  rw [View.set_slice_whole, Rect.mem_set_unit]
  have e := index4 ⟨n, ht⟩
  intro a
  match a with
  | ⟨0, _⟩ =>
    show win0_4.index ⟨n, ht⟩ (0 : Fin 2) * 512 ≤ (i 0).val ∧ (i 0).val < win0_4.index ⟨n, ht⟩ (0 : Fin 2) * 512 + 512
    rw [e]; show n % 16 * 512 ≤ (i 0).val ∧ (i 0).val < n % 16 * 512 + 512; rw [d0]; omega
  | ⟨1, _⟩ =>
    show win0_4.index ⟨n, ht⟩ (1 : Fin 2) * 1536 ≤ (i 1).val ∧ (i 1).val < win0_4.index ⟨n, ht⟩ (1 : Fin 2) * 1536 + 1536
    rw [e]; show n / 16 * 1536 ≤ (i 1).val ∧ (i 1).val < n / 16 * 1536 + 1536; rw [d1]; omega

/-- The array after the run: the blocks tile it. -/
theorem final_4 (c : Dev nD) : (dats m 0 c).arrAt 4 cfg0.N = up m c :=
  (dats m 0 c).arrAt_eq_of_cover 4 _ (fun t _ => flushed_4 m c t) covered_4

/-- What a grid point writes back is its block of the gated product. -/
theorem flushed_5 (c : Dev nD) (t : Fin cfg0.N) :
    (dats m 0 c).flushed 5 t = ((cfg0.win 5).blk t).view.read (Elt Ideal) (gated m c) := by
  rw [flushed5]
  refine (congrArg ((cfg0.win 5).cut (grid0.coords t)) (out_5 (blk0 m c t) (blk1 m c t) (blk2 m c t))).trans ?_
  funext y
  have e := index5 t
  have e0 : ((cfg0.win 5).blk t).view.emb y (0 : Fin 2) = (⟨t.val % 16 * 512 + (y 0).val, row_lt t (y 0)⟩ : Fin 8192) := Fin.ext (by
    show win0_5.index t (0 : Fin 2) * 512 + 1 * (y 0).val = _; rw [e]; show t.val % 16 * 512 + 1 * (y 0).val = t.val % 16 * 512 + (y 0).val; omega)
  have e1 : ((cfg0.win 5).blk t).view.emb y (1 : Fin 2) = (⟨t.val / 16 * 1536 + (y 1).val, col_lt t (y 1)⟩ : Fin 3072) := Fin.ext (by
    show win0_5.index t (1 : Fin 2) * 1536 + 1 * (y 1).val = _; rw [e]; show t.val / 16 * 1536 + 1 * (y 1).val = t.val / 16 * 1536 + (y 1).val; omega)
  show _ = gated m c (((cfg0.win 5).blk t).view.emb y)
  rw [eq_ix2 (((cfg0.win 5).blk t).view.emb y), e0, e1]
  exact body_5 m c t y

/-- Every entry is in the block of the grid point that computes it. -/
theorem covered_5 (i : S8192x3072.Idx) : ∃ t : Fin cfg0.N, (cfg0.win 5).flush t = true ∧ i ∈ ((cfg0.win 5).blk t).view.set := by
  have h0 : (i 0).val < 8192 := (i 0).isLt
  have h1 : (i 1).val < 3072 := (i 1).isLt
  have hN : cfg0.N = 32 := N_0
  obtain ⟨n, hn⟩ : ∃ n, n = (i 1).val / 1536 * 16 + (i 0).val / 512 := ⟨_, rfl⟩
  have ht : n < cfg0.N := by omega
  have d0 : n % 16 = (i 0).val / 512 := by omega
  have d1 : n / 16 = (i 1).val / 1536 := by omega
  refine ⟨⟨n, ht⟩, flush0_5 _, ?_⟩
  show i ∈ ((View.whole main_v3_2).slice (win0_5.rect ⟨n, ht⟩)).set
  rw [View.set_slice_whole, Rect.mem_set_unit]
  have e := index5 ⟨n, ht⟩
  intro a
  match a with
  | ⟨0, _⟩ =>
    show win0_5.index ⟨n, ht⟩ (0 : Fin 2) * 512 ≤ (i 0).val ∧ (i 0).val < win0_5.index ⟨n, ht⟩ (0 : Fin 2) * 512 + 512
    rw [e]; show n % 16 * 512 ≤ (i 0).val ∧ (i 0).val < n % 16 * 512 + 512; rw [d0]; omega
  | ⟨1, _⟩ =>
    show win0_5.index ⟨n, ht⟩ (1 : Fin 2) * 1536 ≤ (i 1).val ∧ (i 1).val < win0_5.index ⟨n, ht⟩ (1 : Fin 2) * 1536 + 1536
    rw [e]; show n / 16 * 1536 ≤ (i 1).val ∧ (i 1).val < n / 16 * 1536 + 1536; rw [d1]; omega

/-- The array after the run: the blocks tile it. -/
theorem final_5 (c : Dev nD) : (dats m 0 c).arrAt 5 cfg0.N = gated m c :=
  (dats m 0 c).arrAt_eq_of_cover 5 _ (fun t _ => flushed_5 m c t) covered_5

end Cert.Kernel19Ideal.Result

namespace Cert.Reference19Ideal.Result

open Cert.Reference19Ideal Cert.Reference19Ideal.Gen
open Idealize.ShloMosaic

/-- The reference's two products at an index. -/
theorem prod_apply (h : FVec Ideal S8192x1024 .f32) (w : FVec Ideal S1024x3072 .f32) (i : S8192x3072.Idx) :
    (truncf .bf16 (Host.dotGeneral dot_S8192x1024_S1024x3072_S8192x3072_1_0_0_1_n_n none h w) bitsLt_bf16_f32 : FVec Ideal S8192x3072 .bf16) i = ∑ k : Fin 1024, h (ix2 (i 0) k) * w (ix2 k (i 1)) := by
  pointwise

/-- The reference's gated product at an index, of the two products. -/
theorem gated_apply (g u : FVec Ideal S8192x3072 .f32) (i : S8192x3072.Idx) :
    (truncf .bf16 (mulf (mulf g (Host.divf (broadcastInDim S8192x3072 ![] bcast_S_S8192x3072 (constant S_ .f32 0x3F800000#32)) (addf (broadcastInDim S8192x3072 ![] bcast_S_S8192x3072 (constant S_ .f32 0x3F800000#32)) (Host.exp (Host.negf g))))) u) bitsLt_bf16_f32 : FVec Ideal S8192x3072 .bf16) i
      = g i * Ideal.logistic (g i) * u i := by
  unfold Ideal.logistic
  pointwise

end Cert.Reference19Ideal.Result

namespace Cert.Proof.FfnUp

open Idealize.ShloMosaic Idealize.ShloMosaic.TcCoe Idealize.SL.Sem

/-- The kernel terminates without a fault, with its arguments unchanged and its counters at zero. -/
theorem frame_kernel : Cert.quiescent_Kernel19 (hKernel19 := Cert.Kernel19.Gen.facts) := fun m ρ _ => Cert.Kernel19.Gen.frame m ρ

/-- The same of the idealized kernel. -/
theorem frame_kernelIdeal : Cert.quiescent_Kernel19Ideal (hKernel19Ideal := Cert.Kernel19Ideal.Gen.facts) := fun m ρ _ => Cert.Kernel19Ideal.Gen.frame m ρ

/-- The same of the reference. -/
theorem frame_referenceIdeal : Cert.quiescent_Reference19Ideal (hReference19Ideal := Cert.Reference19Ideal.Gen.facts) := fun m ρ _ =>
  (θ_run Cert.Reference19Ideal.defs _ _).mono
    (fun r h => ⟨fun c => (h c).2.2.2, sem_eq_zero_of_no_sems (by decide) r.2⟩)
    (Cert.Reference19Ideal.Value.run (F := Ideal) m ρ)

/-- Over the extended reals the kernel computes the reference's values. -/
theorem algebraic : Cert.algebraic_Kernel19Ideal_Reference19Ideal (hKernel19Ideal := Cert.Kernel19Ideal.Gen.facts) (hReference19Ideal := Cert.Reference19Ideal.Gen.facts) := by
  intro m ρ m' ρ' _ hagree
  refine ⟨_, _, _, Cert.Kernel19Ideal.Value.run_blocks (F := Ideal) m ρ, ?_⟩
  refine (θ_run Cert.Reference19Ideal.defs _ _).mono (fun _ h c => ⟨(h c).1.trans ?_, (h c).2.1.trans ?_, (h c).2.2.1.trans ?_, (h c).2.2.2⟩)
    (Cert.Reference19Ideal.Value.run (F := Ideal) m' ρ')
  · rw [(hagree c).1, (hagree c).2.1, Cert.Kernel19Ideal.Result.final_3]
    funext i
    exact Cert.Reference19Ideal.Result.prod_apply _ _ i
  · rw [(hagree c).1, (hagree c).2.2, Cert.Kernel19Ideal.Result.final_4]
    funext i
    exact Cert.Reference19Ideal.Result.prod_apply _ _ i
  · rw [(hagree c).1, (hagree c).2.1, (hagree c).2.2, Cert.Kernel19Ideal.Result.final_5]
    funext i
    exact (Cert.Reference19Ideal.Result.gated_apply _ _ i).trans (congrArg₂ (fun a b => a * Ideal.logistic a * b) (Cert.Reference19Ideal.Result.prod_apply _ _ i) (Cert.Reference19Ideal.Result.prod_apply _ _ i))

end Cert.Proof.FfnUp

end
-- ==== Proof.Mixer.FfnDownLast.lean ====
/-
  The last feed-forward block's down projection: half of the product is added to the residual.
-/
module

public import proofs.«01_k».proof.Defs
public import proofs.«01_k».proof.Proof.Gen.Kernel20.Frame
public import proofs.«01_k».proof.Proof.Gen.Kernel20Ideal.Value
public import proofs.«01_k».proof.Proof.Gen.Reference20Ideal.Run
public import Idealize.ShloMosaic.Lib.Quiescent
public import Idealize.ShloMosaic.Lib.Pointwise

@[expose] public section

set_option maxRecDepth 65536

noncomputable section

namespace Cert.Kernel20Ideal.Result

open Cert.Kernel20Ideal Cert.Kernel20Ideal.Gen Cert.Kernel20Ideal.Value
open Idealize.ShloMosaic Idealize.ShloMosaic.TcCoe Idealize.SL.Sem

variable (m : (ℓ : Loc nD τ sig) → Buf (Elt Ideal) ℓ)

/-- The residual, the tokens' rows and the weight. -/
abbrev resid (c : Dev nD) : FVec Ideal S8192x1024 .f32 := m ((c : Thread nD τ).loc main_arg0)
abbrev rows (c : Dev nD) : FVec Ideal S8192x3072 .f32 := m ((c : Thread nD τ).loc main_arg1)
abbrev wt (c : Dev nD) : FVec Ideal S3072x1024 .f32 := m ((c : Thread nD τ).loc main_arg2)

/-- The blocks a grid point reads. -/
abbrev blk0 (c : Dev nD) (t : Fin cfg0.N) : FVec Ideal S512x3072 .bf16 := iblk m c 0 t
abbrev blk1 (c : Dev nD) (t : Fin cfg0.N) : FVec Ideal S3072x1024 .bf16 := iblk m c 1 t
abbrev blk2 (c : Dev nD) (t : Fin cfg0.N) : FVec Ideal S512x1024 .f32 := iblk m c 2 t

/-- What the body computes of its blocks: at each place, the residual and half of a row's product with a column. -/
theorem body_apply (x : FVec Ideal S512x3072 .bf16) (y : FVec Ideal S3072x1024 .bf16) (r : FVec Ideal S512x1024 .f32) (i : S512x1024.Idx) :
    k0_pay1 (F := Ideal) x y r i = r i + Ideal.ofBits .f32 0x3F000000#32 * ∑ k : Fin 3072, x (ix2 (i 0) k) * y (ix2 k (i 1)) := by
  pointwise [k0_pay1]

/-- The block the body leaves is its one store's. -/
theorem out_3 (x : FVec Ideal S512x3072 .bf16) (y : FVec Ideal S3072x1024 .bf16) (r : FVec Ideal S512x1024 .f32) :
    out0_3 (F := Ideal) x y r = k0_pay1 (F := Ideal) x y r := by
  have hz : (![0, 0] : Fin 2 → Nat) = fun _ => 0 := funext fun a => by fin_cases a <;> rfl
  unfold out0_3
  rw [View.canon_unit_zero hz]
  simp only [View.ld_unit_zero (S := S512x3072) hz, View.ld_unit_zero (S := S3072x1024) hz, View.ld_unit_zero (S := S512x1024) hz]

/-- What the inputs hold when the blocks are fetched: the arguments (the cast of a float is itself). -/
theorem entry0 (c : Dev nD) : V m c main_v0 = rows m c := by
  show StableHlo.after hostOps0 (fun b => m (c, b)) main_v0 = _
  after_results; rfl
theorem entry1 (c : Dev nD) : V m c main_v1 = wt m c := by
  show StableHlo.after hostOps0 (fun b => m (c, b)) main_v1 = _
  after_results; rfl
theorem entry2 (c : Dev nD) : V m c main_arg0 = resid m c := by
  show StableHlo.after hostOps0 (fun b => m (c, b)) main_arg0 = _
  after_results

/-- Which blocks a grid point reads and writes. -/
theorem index0 : ∀ t : Fin cfg0.N, win0_0.index t = ![t.val % 16, 0] := (by decide +kernel : ∀ t : Fin grid0.N, _)
theorem index1 : ∀ t : Fin cfg0.N, win0_1.index t = ![0, t.val / 16] := (by decide +kernel : ∀ t : Fin grid0.N, _)
theorem index2 : ∀ t : Fin cfg0.N, win0_2.index t = ![t.val % 16, t.val / 16] := (by decide +kernel : ∀ t : Fin grid0.N, _)
theorem index3 : ∀ t : Fin cfg0.N, win0_3.index t = ![t.val % 16, t.val / 16] := (by decide +kernel : ∀ t : Fin grid0.N, _)

/-- A token of a block is a token of the whole. -/
theorem row_lt (t : Fin cfg0.N) (r : Fin 512) : t.val % 16 * 512 + r.val < 8192 := by omega

/-- A column of a block is a column of the whole. -/
theorem col_lt (t : Fin cfg0.N) (k : Fin 1024) : t.val / 16 * 1024 + k.val < 1024 := by
  have := t.isLt; have hN : cfg0.N = 16 := N_0; omega

/-- The blocks in the arrays' own coordinates. -/
theorem block0 (c : Dev nD) (t : Fin cfg0.N) (r : Fin 512) (k : Fin 3072) :
    blk0 m c t (ix2 r k) = rows m c (ix2 ⟨t.val % 16 * 512 + r.val, row_lt t r⟩ k) := by
  rw [← entry0 m c]
  show V m c main_v0 (((cfg0.win 0).blk t).view.emb (ix2 r k)) = _
  have e := index0 t
  refine congrArg _ (funext fun a => Fin.ext ?_)
  match a with
  | ⟨0, _⟩ => show win0_0.index t (0 : Fin 2) * 512 + 1 * r.val = _; rw [e]; show t.val % 16 * 512 + 1 * r.val = t.val % 16 * 512 + r.val; omega
  | ⟨1, _⟩ => show win0_0.index t (1 : Fin 2) * 3072 + 1 * k.val = _; rw [e]; show 0 * 3072 + 1 * k.val = k.val; omega
theorem block1 (c : Dev nD) (t : Fin cfg0.N) (r : Fin 3072) (k : Fin 1024) :
    blk1 m c t (ix2 r k) = wt m c (ix2 r ⟨t.val / 16 * 1024 + k.val, col_lt t k⟩) := by
  rw [← entry1 m c]
  show V m c main_v1 (((cfg0.win 1).blk t).view.emb (ix2 r k)) = _
  have e := index1 t
  refine congrArg _ (funext fun a => Fin.ext ?_)
  match a with
  | ⟨0, _⟩ => show win0_1.index t (0 : Fin 2) * 3072 + 1 * r.val = _; rw [e]; show 0 * 3072 + 1 * r.val = r.val; omega
  | ⟨1, _⟩ => show win0_1.index t (1 : Fin 2) * 1024 + 1 * k.val = _; rw [e]; show t.val / 16 * 1024 + 1 * k.val = t.val / 16 * 1024 + k.val; omega
theorem block2 (c : Dev nD) (t : Fin cfg0.N) (r : Fin 512) (k : Fin 1024) :
    blk2 m c t (ix2 r k) = resid m c (ix2 ⟨t.val % 16 * 512 + r.val, row_lt t r⟩ ⟨t.val / 16 * 1024 + k.val, col_lt t k⟩) := by
  rw [← entry2 m c]
  show V m c main_arg0 (((cfg0.win 2).blk t).view.emb (ix2 r k)) = _
  have e := index2 t
  refine congrArg _ (funext fun a => Fin.ext ?_)
  match a with
  | ⟨0, _⟩ => show win0_2.index t (0 : Fin 2) * 512 + 1 * r.val = _; rw [e]; show t.val % 16 * 512 + 1 * r.val = t.val % 16 * 512 + r.val; omega
  | ⟨1, _⟩ => show win0_2.index t (1 : Fin 2) * 1024 + 1 * k.val = _; rw [e]; show t.val / 16 * 1024 + 1 * k.val = t.val / 16 * 1024 + k.val; omega

/-- The result, entry by entry. -/
def total (c : Dev nD) : FVec Ideal S8192x1024 .f32 := fun i => resid m c i + Ideal.ofBits .f32 0x3F000000#32 * ∑ k : Fin 3072, rows m c (ix2 (i 0) k) * wt m c (ix2 k (i 1))

theorem body_3 (c : Dev nD) (t : Fin cfg0.N) (y : S512x1024.Idx) :
    k0_pay1 (F := Ideal) (blk0 m c t) (blk1 m c t) (blk2 m c t) y
      = total m c (ix2 ⟨t.val % 16 * 512 + (y 0).val, row_lt t (y 0)⟩ ⟨t.val / 16 * 1024 + (y 1).val, col_lt t (y 1)⟩) := by
  refine (body_apply (blk0 m c t) (blk1 m c t) (blk2 m c t) y).trans ?_
  exact congrArg₂ _ ((congrArg (blk2 m c t) (eq_ix2 y)).trans (block2 m c t (y 0) (y 1)))
    (congrArg _ (Finset.sum_congr rfl fun k _ => congrArg₂ _ (block0 m c t (y 0) k) (block1 m c t k (y 1))))

/-- What a grid point writes back is its block of the sum. -/
theorem flushed_3 (c : Dev nD) (t : Fin cfg0.N) :
    (dats m 0 c).flushed 3 t = ((cfg0.win 3).blk t).view.read (Elt Ideal) (total m c) := by
  rw [flushed3]
  refine (congrArg ((cfg0.win 3).cut (grid0.coords t)) (out_3 (blk0 m c t) (blk1 m c t) (blk2 m c t))).trans ?_
  funext y
  have e := index3 t
  have e0 : ((cfg0.win 3).blk t).view.emb y (0 : Fin 2) = (⟨t.val % 16 * 512 + (y 0).val, row_lt t (y 0)⟩ : Fin 8192) := Fin.ext (by
    show win0_3.index t (0 : Fin 2) * 512 + 1 * (y 0).val = _; rw [e]; show t.val % 16 * 512 + 1 * (y 0).val = t.val % 16 * 512 + (y 0).val; omega)
  have e1 : ((cfg0.win 3).blk t).view.emb y (1 : Fin 2) = (⟨t.val / 16 * 1024 + (y 1).val, col_lt t (y 1)⟩ : Fin 1024) := Fin.ext (by
    show win0_3.index t (1 : Fin 2) * 1024 + 1 * (y 1).val = _; rw [e]; show t.val / 16 * 1024 + 1 * (y 1).val = t.val / 16 * 1024 + (y 1).val; omega)
  show _ = total m c (((cfg0.win 3).blk t).view.emb y)
  rw [eq_ix2 (((cfg0.win 3).blk t).view.emb y), e0, e1]
  exact body_3 m c t y

/-- Every entry is in the block of the grid point that computes it. -/
theorem covered_3 (i : S8192x1024.Idx) : ∃ t : Fin cfg0.N, (cfg0.win 3).flush t = true ∧ i ∈ ((cfg0.win 3).blk t).view.set := by
  have h0 : (i 0).val < 8192 := (i 0).isLt
  have h1 : (i 1).val < 1024 := (i 1).isLt
  have hN : cfg0.N = 16 := N_0
  obtain ⟨n, hn⟩ : ∃ n, n = (i 1).val / 1024 * 16 + (i 0).val / 512 := ⟨_, rfl⟩
  have ht : n < cfg0.N := by omega
  have d0 : n % 16 = (i 0).val / 512 := by omega
  have d1 : n / 16 = (i 1).val / 1024 := by omega
  refine ⟨⟨n, ht⟩, flush0_3 _, ?_⟩
  show i ∈ ((View.whole main_v2).slice (win0_3.rect ⟨n, ht⟩)).set
  rw [View.set_slice_whole, Rect.mem_set_unit]
  have e := index3 ⟨n, ht⟩
  intro a
  match a with
  | ⟨0, _⟩ =>
    show win0_3.index ⟨n, ht⟩ (0 : Fin 2) * 512 ≤ (i 0).val ∧ (i 0).val < win0_3.index ⟨n, ht⟩ (0 : Fin 2) * 512 + 512
    rw [e]; show n % 16 * 512 ≤ (i 0).val ∧ (i 0).val < n % 16 * 512 + 512; rw [d0]; omega
  | ⟨1, _⟩ =>
    show win0_3.index ⟨n, ht⟩ (1 : Fin 2) * 1024 ≤ (i 1).val ∧ (i 1).val < win0_3.index ⟨n, ht⟩ (1 : Fin 2) * 1024 + 1024
    rw [e]; show n / 16 * 1024 ≤ (i 1).val ∧ (i 1).val < n / 16 * 1024 + 1024; rw [d1]; omega

/-- The array after the run: the blocks tile it. -/
theorem final_3 (c : Dev nD) : (dats m 0 c).arrAt 3 cfg0.N = total m c :=
  (dats m 0 c).arrAt_eq_of_cover 3 _ (fun t _ => flushed_3 m c t) covered_3

end Cert.Kernel20Ideal.Result

namespace Cert.Reference20Ideal.Result

open Cert.Reference20Ideal Cert.Reference20Ideal.Gen
open Idealize.ShloMosaic

/-- The reference's sum at an index. -/
theorem total_apply (x : FVec Ideal S8192x1024 .f32) (a : FVec Ideal S8192x3072 .f32) (w : FVec Ideal S3072x1024 .f32) (i : S8192x1024.Idx) :
    (addf x (mulf (broadcastInDim S8192x1024 ![] bcast_S_S8192x1024 (constant S_ .f32 0x3F000000#32)) (Host.dotGeneral dot_S8192x3072_S3072x1024_S8192x1024_1_0_0_1_n_n none a w)) : FVec Ideal S8192x1024 .f32) i = x i + Ideal.ofBits .f32 0x3F000000#32 * ∑ k : Fin 3072, a (ix2 (i 0) k) * w (ix2 k (i 1)) := by
  pointwise

end Cert.Reference20Ideal.Result

namespace Cert.Proof.FfnDownLast

open Idealize.ShloMosaic Idealize.ShloMosaic.TcCoe Idealize.SL.Sem

/-- The kernel terminates without a fault, with its arguments unchanged and its counters at zero. -/
theorem frame_kernel : Cert.quiescent_Kernel20 (hKernel20 := Cert.Kernel20.Gen.facts) := fun m ρ _ => Cert.Kernel20.Gen.frame m ρ

/-- The same of the idealized kernel. -/
theorem frame_kernelIdeal : Cert.quiescent_Kernel20Ideal (hKernel20Ideal := Cert.Kernel20Ideal.Gen.facts) := fun m ρ _ => Cert.Kernel20Ideal.Gen.frame m ρ

/-- The same of the reference. -/
theorem frame_referenceIdeal : Cert.quiescent_Reference20Ideal (hReference20Ideal := Cert.Reference20Ideal.Gen.facts) := fun m ρ _ =>
  (θ_run Cert.Reference20Ideal.defs _ _).mono
    (fun r h => ⟨fun c => (h c).2, sem_eq_zero_of_no_sems (by decide) r.2⟩)
    (Cert.Reference20Ideal.Value.run (F := Ideal) m ρ)

/-- Over the extended reals the kernel computes the reference's values. -/
theorem algebraic : Cert.algebraic_Kernel20Ideal_Reference20Ideal (hKernel20Ideal := Cert.Kernel20Ideal.Gen.facts) (hReference20Ideal := Cert.Reference20Ideal.Gen.facts) := by
  intro m ρ m' ρ' _ hagree
  refine ⟨_, Cert.Kernel20Ideal.Value.run_blocks (F := Ideal) m ρ, ?_⟩
  refine (θ_run Cert.Reference20Ideal.defs _ _).mono (fun _ h c => ⟨(h c).1.trans ?_, (h c).2⟩)
    (Cert.Reference20Ideal.Value.run (F := Ideal) m' ρ')
  · rw [(hagree c).1, (hagree c).2.1, (hagree c).2.2, Cert.Kernel20Ideal.Result.final_3]
    funext i
    exact Cert.Reference20Ideal.Result.total_apply _ _ _ i

end Cert.Proof.FfnDownLast

end
-- ==== Proof.Mixer.NormGrad.lean ====
/-
  The gradient of a root-mean-square normalisation. A grid point takes 512 rows: it adds their gradients to the residual's,
  writes half of the sums in the narrower format too, and adds the rows' share of the weight's gradient to one block
  that all sixteen points keep. The sum over the sixteen blocks of rows is the sum over all rows.
-/
module

public import proofs.«01_k».proof.Defs
public import proofs.«01_k».proof.Proof.Gen.Kernel21.Frame
public import proofs.«01_k».proof.Proof.Gen.Kernel21Ideal.Value
public import proofs.«01_k».proof.Proof.Gen.Reference21Ideal.Run
public import Idealize.ShloMosaic.Lib.Quiescent
public import Idealize.ShloMosaic.Lib.Pointwise

@[expose] public section

set_option maxRecDepth 65536

noncomputable section

namespace Cert.Kernel21Ideal.Result

open Cert.Kernel21Ideal Cert.Kernel21Ideal.Gen Cert.Kernel21Ideal.Value
open Idealize.ShloMosaic Idealize.ShloMosaic.TcCoe Idealize.SL.Sem

variable (m : (ℓ : Loc nD τ sig) → Buf (Elt Ideal) ℓ)

/-- The rows, the weight, the gradient of the normalised rows and the gradient added to. -/
abbrev rows (c : Dev nD) : FVec Ideal S8192x1024 .f32 := m ((c : Thread nD τ).loc main_arg0)
abbrev gain (c : Dev nD) : FVec Ideal S1024 .f32 := m ((c : Thread nD τ).loc main_arg1)
abbrev ct (c : Dev nD) : FVec Ideal S8192x1024 .f32 := m ((c : Thread nD τ).loc main_arg2)
abbrev resid (c : Dev nD) : FVec Ideal S8192x1024 .f32 := m ((c : Thread nD τ).loc main_arg3)

/-- The blocks a grid point reads. -/
abbrev blk0 (c : Dev nD) (t : Fin cfg0.N) : FVec Ideal S512x1024 .f32 := iblk m c 0 t
abbrev blk1 (c : Dev nD) (t : Fin cfg0.N) : FVec Ideal S1x1024 .f32 := iblk m c 1 t
abbrev blk2 (c : Dev nD) (t : Fin cfg0.N) : FVec Ideal S512x1024 .f32 := iblk m c 2 t
abbrev blk3 (c : Dev nD) (t : Fin cfg0.N) : FVec Ideal S512x1024 .f32 := iblk m c 3 t

/-- A row's mean square, a little added. -/
def mean (f : Fin 1024 → EReal) : EReal := Ideal.div (∑ j : Fin 1024, f j * f j) (Ideal.ofBits .f32 0x44800000#32) + Ideal.ofBits .f32 0x358637BD#32

/-- Half of what the mean square's gradient adds at each entry of the row, over the entry itself. -/
def slope (f g d : Fin 1024 → EReal) : EReal :=
  Ideal.div ((∑ j : Fin 1024, f j * (d j * g j)) * (Ideal.ofBits .f32 0xBF000000#32 * Ideal.div (Ideal.rsqrt (mean f)) (mean f))) (Ideal.ofBits .f32 0x44800000#32)

/-- A row's gradient at one entry. -/
def rowGrad (f g d : Fin 1024 → EReal) (k : Fin 1024) : EReal :=
  d k * g k * Ideal.rsqrt (mean f) + (f k * slope f g d + slope f g d * f k)

theorem mean_apply (x : FVec Ideal S512x1024 .f32) (i : S512x1.Idx) : k0_pay4 (F := Ideal) x i = mean (fun j => x (ix2 (i 0) j)) := by
  unfold mean
  pointwise [k0_pay4]

theorem root_apply (x : FVec Ideal S512x1024 .f32) (i : S512x1.Idx) : k0_pay5 (F := Ideal) x i = Ideal.rsqrt (mean (fun j => x (ix2 (i 0) j))) := by
  rw [← mean_apply]
  generalize hq : k0_pay4 (F := Ideal) x = q
  pointwise [k0_pay5, hq]

/-- What the body computes of its blocks: the residual's gradient and a row's gradient … -/
theorem body4_apply (x : FVec Ideal S512x1024 .f32) (g : FVec Ideal S1x1024 .f32) (d r : FVec Ideal S512x1024 .f32) (i : S512x1024.Idx) :
    k0_pay7 (F := Ideal) x g d r i = r i + rowGrad (fun j => x (ix2 (i 0) j)) (fun j => g (ix2 0 j)) (fun j => d (ix2 (i 0) j)) (i 1) := by
  have e4 : mean (fun j => x (ix2 (i 0) j)) = k0_pay4 (F := Ideal) x (ix2 (i 0) 0) := (mean_apply x (ix2 (i 0) 0)).symm
  have e5 : Ideal.rsqrt (k0_pay4 (F := Ideal) x (ix2 (i 0) 0)) = k0_pay5 (F := Ideal) x (ix2 (i 0) 0) := by rw [← e4]; exact (root_apply x (ix2 (i 0) 0)).symm
  unfold rowGrad slope
  rw [e4, e5]
  generalize hq : k0_pay4 (F := Ideal) x = q
  generalize hr : k0_pay5 (F := Ideal) x = p
  rw [← add_assoc (d _ * _ * _)]
  pointwise [k0_pay7, hq, hr]
  simp only [Fin.sum_univ_one]

/-- … half of it … -/
theorem body5_apply (y : FVec Ideal S512x1024 .f32) (i : S512x1024.Idx) :
    k0_pay1 (F := Ideal) y i = Ideal.ofBits .f32 0x3F000000#32 * y i := by
  pointwise [k0_pay1]

/-- … the rows' share of the weight's gradient … -/
theorem share_apply (x d : FVec Ideal S512x1024 .f32) (i : S1x1024.Idx) :
    k0_pay6 (F := Ideal) x d i = ∑ k : Fin 512, x (ix2 k (i 1)) * Ideal.rsqrt (mean (fun j => x (ix2 k j))) * d (ix2 k (i 1)) := by
  have e : ∀ k : Fin 512, Ideal.rsqrt (mean (fun j => x (ix2 k j))) = k0_pay5 (F := Ideal) x (ix2 k 0) := fun k => (root_apply x (ix2 k 0)).symm
  simp only [e]
  generalize hr : k0_pay5 (F := Ideal) x = p
  pointwise [k0_pay6, hr]

/-- … zero, and the sum of what the block held and the share. -/
theorem zero_apply (i : S1x1024.Idx) : k0_pay2 (F := Ideal) i = 0 := by
  pointwise [k0_pay2]

theorem step_apply (v acc : FVec Ideal S1x1024 .f32) (i : S1x1024.Idx) : k0_pay3 (F := Ideal) v acc i = acc i + v i := by
  pointwise [k0_pay3]

theorem hz : (![0, 0] : Fin 2 → Nat) = fun _ => 0 := funext fun a => by fin_cases a <;> rfl

section
variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1x1024 .f32) (harg7 : arg7.IsWhole)
  (x : FVec Ideal S512x1024 .f32) (g : FVec Ideal S1x1024 .f32) (d r : FVec Ideal S512x1024 .f32) (acc : FVec Ideal S1x1024 .f32)

/-- What the body leaves in its three outputs, at the first point and at the later ones. -/
theorem out_A_4 (hc0 : cond0_0 i) :
    out0_A_4 (F := Ideal) c i arg1 harg1 arg2 harg2 arg3 harg3 arg4 harg4 arg5 harg5 arg6 harg6 arg7 harg7 hc0 x g d r = k0_pay7 (F := Ideal) x g d r := by
  unfold out0_A_4
  rw [View.read_writes_eq_canon _ _ _ (cover0_A_4 (F := Ideal) c i arg1 harg1 arg2 harg2 arg3 harg3 arg4 harg4 arg5 harg5 arg6 harg6 arg7 harg7 hc0 x g d r)]
  unfold kernelRun0_A
  dsimp only
  try sl_unfold_words
  rw [View.canon_unit_zero (S := S512x1024) hz]
  simp only [View.readAt_eq_ld, harg1.read_unread, harg2.read_unread, harg3.read_unread, harg4.read_unread, harg5.read_unread, harg6.read_unread, harg7.read_unread, View.ld_unit_zero (S := S512x1024) hz, View.ld_unit_zero (S := S1x1024) hz, shapeCast_self]

theorem out_A_5 (hc0 : cond0_0 i) :
    out0_A_5 (F := Ideal) c i arg1 harg1 arg2 harg2 arg3 harg3 arg4 harg4 arg5 harg5 arg6 harg6 arg7 harg7 hc0 x g d r = k0_pay1 (F := Ideal) (k0_pay7 (F := Ideal) x g d r) := by
  unfold out0_A_5
  rw [View.read_writes_eq_canon _ _ _ (cover0_A_5 (F := Ideal) c i arg1 harg1 arg2 harg2 arg3 harg3 arg4 harg4 arg5 harg5 arg6 harg6 arg7 harg7 hc0 x g d r)]
  unfold kernelRun0_A
  dsimp only
  try sl_unfold_words
  rw [View.canon_unit_zero (S := S512x1024) hz]
  simp only [View.readAt_eq_ld, harg1.read_unread, harg2.read_unread, harg3.read_unread, harg4.read_unread, harg5.read_unread, harg6.read_unread, harg7.read_unread, View.ld_unit_zero (S := S512x1024) hz, View.ld_unit_zero (S := S1x1024) hz, shapeCast_self]

theorem out_A_6 (hc0 : cond0_0 i) :
    out0_A_6 (F := Ideal) c i arg1 harg1 arg2 harg2 arg3 harg3 arg4 harg4 arg5 harg5 arg6 harg6 arg7 harg7 hc0 x g d r = k0_pay3 (F := Ideal) (k0_pay6 (F := Ideal) x d) (k0_pay2 (F := Ideal)) := by
  unfold out0_A_6
  rw [View.read_writes_eq_canon _ _ _ (cover0_A_6 (F := Ideal) c i arg1 harg1 arg2 harg2 arg3 harg3 arg4 harg4 arg5 harg5 arg6 harg6 arg7 harg7 hc0 x g d r)]
  unfold kernelRun0_A
  dsimp only
  try sl_unfold_words
  rw [View.canon_cons_unit_zero (S := S1x1024) hz, View.readCov_unit_zero (S := S1x1024) _ hz]
  simp only [View.readAt_eq_ld, harg1.read_unread, harg2.read_unread, harg3.read_unread, harg4.read_unread, harg5.read_unread, harg6.read_unread, harg7.read_unread, View.ld_unit_zero (S := S512x1024) hz, View.ld_unit_zero (S := S1x1024) hz, shapeCast_self]

theorem out_B_4 (hc0 : ¬cond0_0 i) :
    out0_B_4 (F := Ideal) c i arg1 harg1 arg2 harg2 arg3 harg3 arg4 harg4 arg5 harg5 arg6 harg6 arg7 harg7 hc0 x g d r acc = k0_pay7 (F := Ideal) x g d r := by
  unfold out0_B_4
  rw [View.read_writes_eq_canon _ _ _ (cover0_B_4 (F := Ideal) c i arg1 harg1 arg2 harg2 arg3 harg3 arg4 harg4 arg5 harg5 arg6 harg6 arg7 harg7 hc0 x g d r acc)]
  unfold kernelRun0_B
  dsimp only
  try sl_unfold_words
  rw [View.canon_unit_zero (S := S512x1024) hz]
  simp only [View.readAt_eq_ld, harg1.read_unread, harg2.read_unread, harg3.read_unread, harg4.read_unread, harg5.read_unread, harg6.read_unread, harg7.read_unread, View.ld_unit_zero (S := S512x1024) hz, View.ld_unit_zero (S := S1x1024) hz, shapeCast_self]

theorem out_B_5 (hc0 : ¬cond0_0 i) :
    out0_B_5 (F := Ideal) c i arg1 harg1 arg2 harg2 arg3 harg3 arg4 harg4 arg5 harg5 arg6 harg6 arg7 harg7 hc0 x g d r acc = k0_pay1 (F := Ideal) (k0_pay7 (F := Ideal) x g d r) := by
  unfold out0_B_5
  rw [View.read_writes_eq_canon _ _ _ (cover0_B_5 (F := Ideal) c i arg1 harg1 arg2 harg2 arg3 harg3 arg4 harg4 arg5 harg5 arg6 harg6 arg7 harg7 hc0 x g d r acc)]
  unfold kernelRun0_B
  dsimp only
  try sl_unfold_words
  rw [View.canon_unit_zero (S := S512x1024) hz]
  simp only [View.readAt_eq_ld, harg1.read_unread, harg2.read_unread, harg3.read_unread, harg4.read_unread, harg5.read_unread, harg6.read_unread, harg7.read_unread, View.ld_unit_zero (S := S512x1024) hz, View.ld_unit_zero (S := S1x1024) hz, shapeCast_self]

theorem out_B_6 (hc0 : ¬cond0_0 i) :
    out0_B_6 (F := Ideal) c i arg1 harg1 arg2 harg2 arg3 harg3 arg4 harg4 arg5 harg5 arg6 harg6 arg7 harg7 hc0 x g d r acc = k0_pay3 (F := Ideal) (k0_pay6 (F := Ideal) x d) acc := by
  unfold out0_B_6
  rw [View.read_writes_eq_canon _ _ _ (cover0_B_6 (F := Ideal) c i arg1 harg1 arg2 harg2 arg3 harg3 arg4 harg4 arg5 harg5 arg6 harg6 arg7 harg7 hc0 x g d r acc)]
  unfold kernelRun0_B
  dsimp only
  try sl_unfold_words
  rw [View.canon_unit_zero (S := S1x1024) hz]
  simp only [View.readAt_eq_ld, harg1.read_unread, harg2.read_unread, harg3.read_unread, harg4.read_unread, harg5.read_unread, harg6.read_unread, harg7.read_unread, View.ld_unit_zero (S := S512x1024) hz, View.ld_unit_zero (S := S1x1024) hz, shapeCast_self]

end

/-- What the inputs hold when the blocks are fetched: the arguments. -/
theorem entry0 (c : Dev nD) : V m c main_arg0 = rows m c := by
  show StableHlo.after hostOps0 (fun b => m (c, b)) main_arg0 = _
  after_results
theorem entry2 (c : Dev nD) : V m c main_arg2 = ct m c := by
  show StableHlo.after hostOps0 (fun b => m (c, b)) main_arg2 = _
  after_results
theorem entry3 (c : Dev nD) : V m c main_arg3 = resid m c := by
  show StableHlo.after hostOps0 (fun b => m (c, b)) main_arg3 = _
  after_results
theorem entry1 (c : Dev nD) : V m c main_v0 = broadcastInDim S1x1024 ![1] bcast_S1024_S1x1024_1 (gain m c) := by
  show StableHlo.after hostOps0 (fun b => m (c, b)) main_v0 = _
  after_results
theorem gain_apply (g : FVec Ideal S1024 .f32) (z : Fin 1) (k : Fin 1024) : broadcastInDim S1x1024 ![1] bcast_S1024_S1x1024_1 g (ix2 z k) = g (ix1 k) := by
  pointwise

/-- Which blocks a grid point reads and writes. -/
theorem index0 : ∀ t : Fin cfg0.N, win0_0.index t = ![t.val % 16, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val % 16, 0] := (by decide +kernel : ∀ t : Fin grid0.N, _)
theorem index3 : ∀ t : Fin cfg0.N, win0_3.index t = ![t.val % 16, 0] := (by decide +kernel : ∀ t : Fin grid0.N, _)
theorem index4 : ∀ t : Fin cfg0.N, win0_4.index t = ![t.val % 16, t.val / 16] := (by decide +kernel : ∀ t : Fin grid0.N, _)
theorem index5 : ∀ t : Fin cfg0.N, win0_5.index t = ![t.val % 16, t.val / 16] := (by decide +kernel : ∀ t : Fin grid0.N, _)
theorem index6 : ∀ t : Fin cfg0.N, win0_6.index t = ![0, 0] := (by decide +kernel : ∀ t : Fin grid0.N, _)

/-- A token of a block is a token of the whole. -/
theorem row_lt (t : Fin cfg0.N) (r : Fin 512) : t.val % 16 * 512 + r.val < 8192 := by omega

/-- A column of a block is a column of the whole. -/
theorem col_lt (t : Fin cfg0.N) (k : Fin 1024) : t.val / 16 * 1024 + k.val < 1024 := by
  have := t.isLt; have hN : cfg0.N = 16 := N_0; omega

/-- The blocks in the arrays' own coordinates. -/
theorem block0 (c : Dev nD) (t : Fin cfg0.N) (r : Fin 512) (k : Fin 1024) :
    blk0 m c t (ix2 r k) = rows m c (ix2 ⟨t.val % 16 * 512 + r.val, row_lt t r⟩ k) := by
  rw [← entry0 m c]
  show V m c main_arg0 (((cfg0.win 0).blk t).view.emb (ix2 r k)) = _
  have e := index0 t
  refine congrArg _ (funext fun a => Fin.ext ?_)
  match a with
  | ⟨0, _⟩ => show win0_0.index t (0 : Fin 2) * 512 + 1 * r.val = _; rw [e]; show t.val % 16 * 512 + 1 * r.val = t.val % 16 * 512 + r.val; omega
  | ⟨1, _⟩ => show win0_0.index t (1 : Fin 2) * 1024 + 1 * k.val = _; rw [e]; show 0 * 1024 + 1 * k.val = k.val; omega
theorem block1 (c : Dev nD) (t : Fin cfg0.N) (r : Fin 1) (k : Fin 1024) :
    blk1 m c t (ix2 r k) = gain m c (ix1 k) := by
  rw [← gain_apply (gain m c) r, ← entry1 m c]
  show V m c main_v0 (((cfg0.win 1).blk t).view.emb (ix2 r k)) = _
  have e := index1 t
  refine congrArg _ (funext fun a => Fin.ext ?_)
  match a with
  | ⟨0, _⟩ => show win0_1.index t (0 : Fin 2) * 1 + 1 * r.val = _; rw [e]; show 0 * 1 + 1 * r.val = r.val; omega
  | ⟨1, _⟩ => show win0_1.index t (1 : Fin 2) * 1024 + 1 * k.val = _; rw [e]; show 0 * 1024 + 1 * k.val = k.val; omega
theorem block2 (c : Dev nD) (t : Fin cfg0.N) (r : Fin 512) (k : Fin 1024) :
    blk2 m c t (ix2 r k) = ct m c (ix2 ⟨t.val % 16 * 512 + r.val, row_lt t r⟩ k) := by
  rw [← entry2 m c]
  show V m c main_arg2 (((cfg0.win 2).blk t).view.emb (ix2 r k)) = _
  have e := index2 t
  refine congrArg _ (funext fun a => Fin.ext ?_)
  match a with
  | ⟨0, _⟩ => show win0_2.index t (0 : Fin 2) * 512 + 1 * r.val = _; rw [e]; show t.val % 16 * 512 + 1 * r.val = t.val % 16 * 512 + r.val; omega
  | ⟨1, _⟩ => show win0_2.index t (1 : Fin 2) * 1024 + 1 * k.val = _; rw [e]; show 0 * 1024 + 1 * k.val = k.val; omega
theorem block3 (c : Dev nD) (t : Fin cfg0.N) (r : Fin 512) (k : Fin 1024) :
    blk3 m c t (ix2 r k) = resid m c (ix2 ⟨t.val % 16 * 512 + r.val, row_lt t r⟩ k) := by
  rw [← entry3 m c]
  show V m c main_arg3 (((cfg0.win 3).blk t).view.emb (ix2 r k)) = _
  have e := index3 t
  refine congrArg _ (funext fun a => Fin.ext ?_)
  match a with
  | ⟨0, _⟩ => show win0_3.index t (0 : Fin 2) * 512 + 1 * r.val = _; rw [e]; show t.val % 16 * 512 + 1 * r.val = t.val % 16 * 512 + r.val; omega
  | ⟨1, _⟩ => show win0_3.index t (1 : Fin 2) * 1024 + 1 * k.val = _; rw [e]; show 0 * 1024 + 1 * k.val = k.val; omega

/-- The three results, entry by entry. -/
def total (c : Dev nD) : FVec Ideal S8192x1024 .f32 := fun i =>
  resid m c i + rowGrad (fun j => rows m c (ix2 (i 0) j)) (fun j => gain m c (ix1 j)) (fun j => ct m c (ix2 (i 0) j)) (i 1)
def half (c : Dev nD) : FVec Ideal S8192x1024 .bf16 := fun i => Ideal.ofBits .f32 0x3F000000#32 * total m c i
def wgrad (c : Dev nD) : FVec Ideal S1x1024 .f32 := fun i =>
  ∑ k : Fin 8192, rows m c (ix2 k (i 1)) * Ideal.rsqrt (mean (fun j => rows m c (ix2 k j))) * ct m c (ix2 k (i 1))

/-- There is one block of columns. -/
theorem col_eq (t : Fin cfg0.N) (k : Fin 1024) : (⟨t.val / 16 * 1024 + k.val, col_lt t k⟩ : Fin 1024) = k := Fin.ext (by
  have := t.isLt; have hN : cfg0.N = 16 := N_0; show t.val / 16 * 1024 + k.val = k.val; omega)

theorem body_4 (c : Dev nD) (t : Fin cfg0.N) (y : S512x1024.Idx) :
    k0_pay7 (F := Ideal) (blk0 m c t) (blk1 m c t) (blk2 m c t) (blk3 m c t) y
      = total m c (ix2 ⟨t.val % 16 * 512 + (y 0).val, row_lt t (y 0)⟩ ⟨t.val / 16 * 1024 + (y 1).val, col_lt t (y 1)⟩) := by
  refine (body4_apply (blk0 m c t) (blk1 m c t) (blk2 m c t) (blk3 m c t) y).trans ?_
  rw [col_eq t (y 1)]
  refine congrArg₂ _ ((congrArg (blk3 m c t) (eq_ix2 y)).trans (block3 m c t (y 0) (y 1))) ?_
  have ex : (fun j => blk0 m c t (ix2 (y 0) j)) = fun j => rows m c (ix2 ⟨t.val % 16 * 512 + (y 0).val, row_lt t (y 0)⟩ j) := funext fun j => block0 m c t (y 0) j
  have eg : (fun j => blk1 m c t (ix2 0 j)) = fun j => gain m c (ix1 j) := funext fun j => block1 m c t 0 j
  have ed : (fun j => blk2 m c t (ix2 (y 0) j)) = fun j => ct m c (ix2 ⟨t.val % 16 * 512 + (y 0).val, row_lt t (y 0)⟩ j) := funext fun j => block2 m c t (y 0) j
  rw [ex, eg, ed]
  rfl

theorem body_5 (c : Dev nD) (t : Fin cfg0.N) (y : S512x1024.Idx) :
    k0_pay1 (F := Ideal) (k0_pay7 (F := Ideal) (blk0 m c t) (blk1 m c t) (blk2 m c t) (blk3 m c t)) y
      = half m c (ix2 ⟨t.val % 16 * 512 + (y 0).val, row_lt t (y 0)⟩ ⟨t.val / 16 * 1024 + (y 1).val, col_lt t (y 1)⟩) :=
  (body5_apply _ y).trans (congrArg _ (body_4 m c t y))

/-- What the two rows' outputs hold after a grid point. -/
theorem out_4 (c : Dev nD) (t : Fin cfg0.N) :
    (outsAt0 m c t.val t.isLt).1 = k0_pay7 (F := Ideal) (blk0 m c t) (blk1 m c t) (blk2 m c t) (blk3 m c t) := by
  by_cases h : t.val % 16 = 0
  · have e := out_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) ((hcond0_0 t).mpr h)
    simp only [outsAt0_A m c t h]; exact e
  · have e := out_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) ((outsAt0 m c (t.val - 1) (Nat.lt_of_le_of_lt (Nat.sub_le _ _) t.isLt)).2.2) (fun e => h ((hcond0_0 t).mp e))
    simp only [outsAt0_B m c t h]; exact e

theorem out_5 (c : Dev nD) (t : Fin cfg0.N) :
    (outsAt0 m c t.val t.isLt).2.1 = k0_pay1 (F := Ideal) (k0_pay7 (F := Ideal) (blk0 m c t) (blk1 m c t) (blk2 m c t) (blk3 m c t)) := by
  by_cases h : t.val % 16 = 0
  · have e := out_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) ((hcond0_0 t).mpr h)
    simp only [outsAt0_A m c t h]; exact e
  · have e := out_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) ((outsAt0 m c (t.val - 1) (Nat.lt_of_le_of_lt (Nat.sub_le _ _) t.isLt)).2.2) (fun e => h ((hcond0_0 t).mp e))
    simp only [outsAt0_B m c t h]; exact e

/-- What a grid point writes back is its block of the sum. -/
theorem flushed_4 (c : Dev nD) (t : Fin cfg0.N) :
    (dats m 0 c).flushed 4 t = ((cfg0.win 4).blk t).view.read (Elt Ideal) (total m c) := by
  rw [flushed4]
  refine (congrArg ((cfg0.win 4).cut (grid0.coords t)) (out_4 m c t)).trans ?_
  funext y
  have e := index4 t
  have e0 : ((cfg0.win 4).blk t).view.emb y (0 : Fin 2) = (⟨t.val % 16 * 512 + (y 0).val, row_lt t (y 0)⟩ : Fin 8192) := Fin.ext (by
    show win0_4.index t (0 : Fin 2) * 512 + 1 * (y 0).val = _; rw [e]; show t.val % 16 * 512 + 1 * (y 0).val = t.val % 16 * 512 + (y 0).val; omega)
  have e1 : ((cfg0.win 4).blk t).view.emb y (1 : Fin 2) = (⟨t.val / 16 * 1024 + (y 1).val, col_lt t (y 1)⟩ : Fin 1024) := Fin.ext (by
    show win0_4.index t (1 : Fin 2) * 1024 + 1 * (y 1).val = _; rw [e]; show t.val / 16 * 1024 + 1 * (y 1).val = t.val / 16 * 1024 + (y 1).val; omega)
  show _ = total m c (((cfg0.win 4).blk t).view.emb y)
  rw [eq_ix2 (((cfg0.win 4).blk t).view.emb y), e0, e1]
  exact body_4 m c t y

/-- Every entry is in the block of the grid point that computes it. -/
theorem covered_4 (i : S8192x1024.Idx) : ∃ t : Fin cfg0.N, (cfg0.win 4).flush t = true ∧ i ∈ ((cfg0.win 4).blk t).view.set := by
  have h0 : (i 0).val < 8192 := (i 0).isLt
  have h1 : (i 1).val < 1024 := (i 1).isLt
  have hN : cfg0.N = 16 := N_0
  obtain ⟨n, hn⟩ : ∃ n, n = (i 1).val / 1024 * 16 + (i 0).val / 512 := ⟨_, rfl⟩
  have ht : n < cfg0.N := by omega
  have d0 : n % 16 = (i 0).val / 512 := by omega
  have d1 : n / 16 = (i 1).val / 1024 := by omega
  refine ⟨⟨n, ht⟩, flush0_4 _, ?_⟩
  show i ∈ ((View.whole main_v1_0).slice (win0_4.rect ⟨n, ht⟩)).set
  rw [View.set_slice_whole, Rect.mem_set_unit]
  have e := index4 ⟨n, ht⟩
  intro a
  match a with
  | ⟨0, _⟩ =>
    show win0_4.index ⟨n, ht⟩ (0 : Fin 2) * 512 ≤ (i 0).val ∧ (i 0).val < win0_4.index ⟨n, ht⟩ (0 : Fin 2) * 512 + 512
    rw [e]; show n % 16 * 512 ≤ (i 0).val ∧ (i 0).val < n % 16 * 512 + 512; rw [d0]; omega
  | ⟨1, _⟩ =>
    show win0_4.index ⟨n, ht⟩ (1 : Fin 2) * 1024 ≤ (i 1).val ∧ (i 1).val < win0_4.index ⟨n, ht⟩ (1 : Fin 2) * 1024 + 1024
    rw [e]; show n / 16 * 1024 ≤ (i 1).val ∧ (i 1).val < n / 16 * 1024 + 1024; rw [d1]; omega

/-- The array after the run: the blocks tile it. -/
theorem final_4 (c : Dev nD) : (dats m 0 c).arrAt 4 cfg0.N = total m c :=
  (dats m 0 c).arrAt_eq_of_cover 4 _ (fun t _ => flushed_4 m c t) covered_4

/-- What a grid point writes back is its block of half the sum. -/
theorem flushed_5 (c : Dev nD) (t : Fin cfg0.N) :
    (dats m 0 c).flushed 5 t = ((cfg0.win 5).blk t).view.read (Elt Ideal) (half m c) := by
  rw [flushed5]
  refine (congrArg ((cfg0.win 5).cut (grid0.coords t)) (out_5 m c t)).trans ?_
  funext y
  have e := index5 t
  have e0 : ((cfg0.win 5).blk t).view.emb y (0 : Fin 2) = (⟨t.val % 16 * 512 + (y 0).val, row_lt t (y 0)⟩ : Fin 8192) := Fin.ext (by
    show win0_5.index t (0 : Fin 2) * 512 + 1 * (y 0).val = _; rw [e]; show t.val % 16 * 512 + 1 * (y 0).val = t.val % 16 * 512 + (y 0).val; omega)
  have e1 : ((cfg0.win 5).blk t).view.emb y (1 : Fin 2) = (⟨t.val / 16 * 1024 + (y 1).val, col_lt t (y 1)⟩ : Fin 1024) := Fin.ext (by
    show win0_5.index t (1 : Fin 2) * 1024 + 1 * (y 1).val = _; rw [e]; show t.val / 16 * 1024 + 1 * (y 1).val = t.val / 16 * 1024 + (y 1).val; omega)
  show _ = half m c (((cfg0.win 5).blk t).view.emb y)
  rw [eq_ix2 (((cfg0.win 5).blk t).view.emb y), e0, e1]
  exact body_5 m c t y

/-- Every entry is in the block of the grid point that computes it. -/
theorem covered_5 (i : S8192x1024.Idx) : ∃ t : Fin cfg0.N, (cfg0.win 5).flush t = true ∧ i ∈ ((cfg0.win 5).blk t).view.set := by
  have h0 : (i 0).val < 8192 := (i 0).isLt
  have h1 : (i 1).val < 1024 := (i 1).isLt
  have hN : cfg0.N = 16 := N_0
  obtain ⟨n, hn⟩ : ∃ n, n = (i 1).val / 1024 * 16 + (i 0).val / 512 := ⟨_, rfl⟩
  have ht : n < cfg0.N := by omega
  have d0 : n % 16 = (i 0).val / 512 := by omega
  have d1 : n / 16 = (i 1).val / 1024 := by omega
  refine ⟨⟨n, ht⟩, flush0_5 _, ?_⟩
  show i ∈ ((View.whole main_v1_1).slice (win0_5.rect ⟨n, ht⟩)).set
  rw [View.set_slice_whole, Rect.mem_set_unit]
  have e := index5 ⟨n, ht⟩
  intro a
  match a with
  | ⟨0, _⟩ =>
    show win0_5.index ⟨n, ht⟩ (0 : Fin 2) * 512 ≤ (i 0).val ∧ (i 0).val < win0_5.index ⟨n, ht⟩ (0 : Fin 2) * 512 + 512
    rw [e]; show n % 16 * 512 ≤ (i 0).val ∧ (i 0).val < n % 16 * 512 + 512; rw [d0]; omega
  | ⟨1, _⟩ =>
    show win0_5.index ⟨n, ht⟩ (1 : Fin 2) * 1024 ≤ (i 1).val ∧ (i 1).val < win0_5.index ⟨n, ht⟩ (1 : Fin 2) * 1024 + 1024
    rw [e]; show n / 16 * 1024 ≤ (i 1).val ∧ (i 1).val < n / 16 * 1024 + 1024; rw [d1]; omega

/-- The array after the run: the blocks tile it. -/
theorem final_5 (c : Dev nD) : (dats m 0 c).arrAt 5 cfg0.N = half m c :=
  (dats m 0 c).arrAt_eq_of_cover 5 _ (fun t _ => flushed_5 m c t) covered_5

/-- What the first point leaves in the weight's gradient's block, and what a later point makes of it. -/
def reset6 (c : Dev nD) (n : ℕ) (h : n < cfg0.N) : FVec Ideal S1x1024 .f32 :=
  k0_pay3 (F := Ideal) (k0_pay6 (F := Ideal) (blk0 m c ⟨n, h⟩) (blk2 m c ⟨n, h⟩)) (k0_pay2 (F := Ideal))
def step6 (c : Dev nD) (n : ℕ) (h : n < cfg0.N) (acc : FVec Ideal S1x1024 .f32) : FVec Ideal S1x1024 .f32 :=
  k0_pay3 (F := Ideal) (k0_pay6 (F := Ideal) (blk0 m c ⟨n, h⟩) (blk2 m c ⟨n, h⟩)) acc

theorem out_6 (c : Dev nD) (t : Fin cfg0.N) :
    (outsAt0 m c t.val t.isLt).2.2 = Pipeline.accAt (reset6 m c) (step6 m c) (16 * (t.val / 16)) (t.val % 16)
      (by have h1 := t.isLt; have h2 := Nat.div_add_mod t.val 16; omega) :=
  Pipeline.eq_accAt_of_mod (fun n h => (outsAt0 m c n h).2.2) 16 (reset6 m c) (step6 m c)
    (fun n h hn => by
      have e := out_A_6 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (iblk m c 0 ⟨n, h⟩) (iblk m c 1 ⟨n, h⟩) (iblk m c 2 ⟨n, h⟩) (iblk m c 3 ⟨n, h⟩) ((hcond0_0 ⟨n, h⟩).mpr hn)
      have o := congrArg (fun q => q.2.2) (outsAt0_A m c ⟨n, h⟩ hn)
      simp only at o
      exact o.trans e)
    (fun n h hn => by
      have e := out_B_6 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (iblk m c 0 ⟨n + 1, h⟩) (iblk m c 1 ⟨n + 1, h⟩) (iblk m c 2 ⟨n + 1, h⟩) (iblk m c 3 ⟨n + 1, h⟩) ((outsAt0 m c n (Nat.lt_of_succ_lt h)).2.2) (fun e => hn ((hcond0_0 ⟨n + 1, h⟩).mp e))
      have o := congrArg (fun q => q.2.2) (outsAt0_B m c ⟨n + 1, h⟩ hn)
      simp only at o
      exact o.trans e)
    (by decide) t.val t.isLt _

/-- What grid point `n` adds at a column: its rows' share. -/
def part (c : Dev nD) (n : ℕ) (i : S1x1024.Idx) : EReal :=
  if h : n < cfg0.N then k0_pay6 (F := Ideal) (blk0 m c ⟨n, h⟩) (blk2 m c ⟨n, h⟩) i else 0

/-- The block written back is the sum of what its sixteen grid points add. -/
theorem sum_parts (c : Dev nD) (b : ℕ) (h : b + 15 < cfg0.N) (i : S1x1024.Idx) :
    Pipeline.accAt (reset6 m c) (step6 m c) b 15 h i = ∑ s ∈ Finset.range 16, part m c (b + s) i := by
  refine (Pipeline.accAt_add_apply (β := EReal) (reset6 m c) (step6 m c) (fun _ => 0) (part m c) b 15 ?_ ?_ 15 le_rfl h i).trans (zero_add _)
  · intro hb i
    unfold part; rw [dif_pos hb]
    exact (step_apply _ _ i).trans (by rw [zero_apply])
  · intro n hn acc i _ _
    unfold part; rw [dif_pos hn]
    exact step_apply _ _ i

/-- The sum of the shares is the sum over all rows. -/
theorem parts_eq (c : Dev nD) (i : S1x1024.Idx) : ∑ s ∈ Finset.range 16, part m c (0 + s) i = wgrad m c i := by
  have hN : cfg0.N = 16 := N_0
  unfold wgrad
  rw [Finset.sum_range, Fin.sum_univ_tiles (N := 8192) 16 512 rfl]
  refine Finset.sum_congr rfl fun s _ => ?_
  have hs : s.val < 16 := s.isLt
  have h : 0 + s.val < cfg0.N := by omega
  unfold part; rw [dif_pos h, share_apply]
  refine Finset.sum_congr rfl fun k _ => ?_
  have er : ∀ h' : s.val * 512 + k.val < 8192, (⟨(⟨0 + s.val, h⟩ : Fin cfg0.N).val % 16 * 512 + k.val, row_lt ⟨0 + s.val, h⟩ k⟩ : Fin 8192) = ⟨s.val * 512 + k.val, h'⟩ :=
    fun h' => Fin.ext (by show (0 + s.val) % 16 * 512 + k.val = s.val * 512 + k.val; omega)
  have e0 : ∀ (h' : s.val * 512 + k.val < 8192) (j : Fin 1024), blk0 m c ⟨0 + s.val, h⟩ (ix2 k j) = rows m c (ix2 ⟨s.val * 512 + k.val, h'⟩ j) :=
    fun h' j => (block0 m c ⟨0 + s.val, h⟩ k j).trans (congrArg (fun q => rows m c (ix2 q j)) (er h'))
  have e2 : ∀ (h' : s.val * 512 + k.val < 8192) (j : Fin 1024), blk2 m c ⟨0 + s.val, h⟩ (ix2 k j) = ct m c (ix2 ⟨s.val * 512 + k.val, h'⟩ j) :=
    fun h' j => (block2 m c ⟨0 + s.val, h⟩ k j).trans (congrArg (fun q => ct m c (ix2 q j)) (er h'))
  refine congrArg₂ _ (congrArg₂ _ (e0 _ (i 1)) (congrArg (fun f => Ideal.rsqrt (mean f)) (funext fun j => e0 _ j))) (e2 _ (i 1))

/-- What the last point writes back is the weight's gradient. -/
theorem flushed_6 (c : Dev nD) (t : Fin cfg0.N) (hf : (cfg0.win 6).flush t = true) :
    (dats m 0 c).flushed 6 t = ((cfg0.win 6).blk t).view.read (Elt Ideal) (wgrad m c) := by
  have hN : cfg0.N = 16 := N_0
  have hm : t.val % 16 = 15 := (flush0_6 t).mp hf
  have hb : 16 * (t.val / 16) = 0 := by have := t.isLt; omega
  have hv : ∀ (b j : ℕ) (h : b + j < cfg0.N), b = 0 → j = 15 → ∀ i, Pipeline.accAt (reset6 m c) (step6 m c) b j h i = wgrad m c i := by
    intro b j h eb ej i
    subst eb; subst ej
    rw [sum_parts, parts_eq]
  rw [flushed6, out_6]
  funext y
  have e := index6 t
  have e1 : ((cfg0.win 6).blk t).view.emb y = (y : S1x1024.Idx) := by
    funext a; apply Fin.ext
    match a with
    | ⟨0, _⟩ => show win0_6.index t (0 : Fin 2) * 1 + 1 * (y 0).val = _; rw [e]; show 0 * 1 + 1 * (y 0).val = (y 0).val; omega
    | ⟨1, _⟩ => show win0_6.index t (1 : Fin 2) * 1024 + 1 * (y 1).val = _; rw [e]; show 0 * 1024 + 1 * (y 1).val = (y 1).val; omega
  show _ = wgrad m c (((cfg0.win 6).blk t).view.emb y)
  rw [e1]
  exact hv _ _ _ hb hm y

/-- The last point's block is the whole of the result. -/
theorem covered_6 (i : S1x1024.Idx) : ∃ t : Fin cfg0.N, (cfg0.win 6).flush t = true ∧ i ∈ ((cfg0.win 6).blk t).view.set := by
  have h0 : (i 0).val < 1 := (i 0).isLt
  have h1 : (i 1).val < 1024 := (i 1).isLt
  have hN : cfg0.N = 16 := N_0
  have ht : 15 < cfg0.N := by omega
  refine ⟨⟨15, ht⟩, (flush0_6 _).mpr rfl, ?_⟩
  show i ∈ ((View.whole main_v1_2).slice (win0_6.rect ⟨15, ht⟩)).set
  rw [View.set_slice_whole, Rect.mem_set_unit]
  have e := index6 ⟨15, ht⟩
  intro a
  match a with
  | ⟨0, _⟩ =>
    show win0_6.index ⟨15, ht⟩ (0 : Fin 2) * 1 ≤ (i 0).val ∧ (i 0).val < win0_6.index ⟨15, ht⟩ (0 : Fin 2) * 1 + 1
    rw [e]; show 0 * 1 ≤ (i 0).val ∧ (i 0).val < 0 * 1 + 1; omega
  | ⟨1, _⟩ =>
    show win0_6.index ⟨15, ht⟩ (1 : Fin 2) * 1024 ≤ (i 1).val ∧ (i 1).val < win0_6.index ⟨15, ht⟩ (1 : Fin 2) * 1024 + 1024
    rw [e]; show 0 * 1024 ≤ (i 1).val ∧ (i 1).val < 0 * 1024 + 1024; omega

theorem final_6 (c : Dev nD) : (dats m 0 c).arrAt 6 cfg0.N = wgrad m c :=
  (dats m 0 c).arrAt_eq_of_cover 6 _ (fun t hf => flushed_6 m c t hf) covered_6

end Cert.Kernel21Ideal.Result

namespace Cert.Reference21Ideal.Result

open Cert.Reference21Ideal Cert.Reference21Ideal.Gen
open Idealize.ShloMosaic

/-- The reference's mean square at an index. -/
theorem mean_apply (x : FVec Ideal S8192x1024 .f32) (i : S8192x1.Idx) :
    ((addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))) : FVec Ideal S8192x1 .f32) i = Cert.Kernel21Ideal.Result.mean (fun j => x (ix2 (i 0) j)) := by
  unfold Cert.Kernel21Ideal.Result.mean
  pointwise

/-- The share of the mean square's gradient. -/
theorem slope_apply (x : FVec Ideal S8192x1024 .f32) (g : FVec Ideal S1024 .f32) (d : FVec Ideal S8192x1024 .f32) (i : S8192.Idx) :
    ((Host.reduceAdd (Host.divf (mulf (shapeCast S8192x1 (Host.reduceAdd (mulf x (mulf d (broadcastInDim S8192x1024 ![0, 1] bcast_S1x1024_S8192x1024_0_1 (broadcastInDim S1x1024 ![1] bcast_S1024_S1x1024_1 g)))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_) : FVec Ideal S8192 .f32) i = Cert.Kernel21Ideal.Result.slope (fun j => x (ix2 (i 0) j)) (fun j => g (ix1 j)) (fun j => d (ix2 (i 0) j)) := by
  have h : ((addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))) : FVec Ideal S8192x1 .f32) (ix2 (i 0) 0) = Cert.Kernel21Ideal.Result.mean (fun j => x (ix2 (i 0) j)) := mean_apply x (ix2 (i 0) 0)
  unfold Cert.Kernel21Ideal.Result.slope
  rw [← h]
  generalize ((addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))) : FVec Ideal S8192x1 .f32) = q
  pointwise
  exact Fin.sum_univ_one _

/-- The reference's gradient at an index. -/
theorem total_apply (x : FVec Ideal S8192x1024 .f32) (g : FVec Ideal S1024 .f32) (d r : FVec Ideal S8192x1024 .f32) (i : S8192x1024.Idx) :
    (addf r (addf (addf (mulf (mulf d (broadcastInDim S8192x1024 ![0, 1] bcast_S1x1024_S8192x1024_0_1 (broadcastInDim S1x1024 ![1] bcast_S1024_S1x1024_1 g))) (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (mulf x (broadcastInDim S8192x1024 ![0] bcast_S8192_S8192x1024_0 (Host.reduceAdd (Host.divf (mulf (shapeCast S8192x1 (Host.reduceAdd (mulf x (mulf d (broadcastInDim S8192x1024 ![0, 1] bcast_S1x1024_S8192x1024_0_1 (broadcastInDim S1x1024 ![1] bcast_S1024_S1x1024_1 g)))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)))) (mulf (broadcastInDim S8192x1024 ![0] bcast_S8192_S8192x1024_0 (Host.reduceAdd (Host.divf (mulf (shapeCast S8192x1 (Host.reduceAdd (mulf x (mulf d (broadcastInDim S8192x1024 ![0, 1] bcast_S1x1024_S8192x1024_0_1 (broadcastInDim S1x1024 ![1] bcast_S1024_S1x1024_1 g)))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)) x)) : FVec Ideal S8192x1024 .f32) i = r i + Cert.Kernel21Ideal.Result.rowGrad (fun j => x (ix2 (i 0) j)) (fun j => g (ix1 j)) (fun j => d (ix2 (i 0) j)) (i 1) := by
  have h : ((addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))) : FVec Ideal S8192x1 .f32) (ix2 (i 0) 0) = Cert.Kernel21Ideal.Result.mean (fun j => x (ix2 (i 0) j)) := mean_apply x (ix2 (i 0) 0)
  have h2 : ((Host.reduceAdd (Host.divf (mulf (shapeCast S8192x1 (Host.reduceAdd (mulf x (mulf d (broadcastInDim S8192x1024 ![0, 1] bcast_S1x1024_S8192x1024_0_1 (broadcastInDim S1x1024 ![1] bcast_S1024_S1x1024_1 g)))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_) : FVec Ideal S8192 .f32) (ix1 (i 0)) = Cert.Kernel21Ideal.Result.slope (fun j => x (ix2 (i 0) j)) (fun j => g (ix1 j)) (fun j => d (ix2 (i 0) j)) := slope_apply x g d (ix1 (i 0))
  unfold Cert.Kernel21Ideal.Result.rowGrad
  rw [← h, ← h2]
  generalize ((Host.reduceAdd (Host.divf (mulf (shapeCast S8192x1 (Host.reduceAdd (mulf x (mulf d (broadcastInDim S8192x1024 ![0, 1] bcast_S1x1024_S8192x1024_0_1 (broadcastInDim S1x1024 ![1] bcast_S1024_S1x1024_1 g)))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_) : FVec Ideal S8192 .f32) = p
  generalize ((addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))) : FVec Ideal S8192x1 .f32) = q
  rw [← add_assoc (d _ * _ * _)]
  pointwise

/-- Half of it. -/
theorem half_apply (y : FVec Ideal S8192x1024 .f32) (i : S8192x1024.Idx) :
    (truncf .bf16 (mulf (broadcastInDim S8192x1024 ![] bcast_S_S8192x1024 (constant S_ .f32 0x3F000000#32)) y) bitsLt_bf16_f32 : FVec Ideal S8192x1024 .bf16) i
      = Ideal.ofBits .f32 0x3F000000#32 * y i := by
  pointwise

/-- The reference's weight gradient at an index. -/
theorem wgrad_apply (x d : FVec Ideal S8192x1024 .f32) (i : S1x1024.Idx) :
    (broadcastInDim S1x1024 ![1] bcast_S1024_S1x1024_1 (Host.reduceAdd (shapeCast S1x1024 (Host.reduceAdd (mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) d) (constant S_ .f32 0x00000000#32) reducesTo_S8192x1024_S1024_d0 h_S_) shapeCasts_S1024_S1x1024) (constant S_ .f32 0x00000000#32) reducesTo_S1x1024_S1024_d0 h_S_) : FVec Ideal S1x1024 .f32) i = ∑ k : Fin 8192, x (ix2 k (i 1)) * Ideal.rsqrt (Cert.Kernel21Ideal.Result.mean (fun j => x (ix2 k j))) * d (ix2 k (i 1)) := by
  have h : ∀ k : Fin 8192, Cert.Kernel21Ideal.Result.mean (fun j => x (ix2 k j)) = ((addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))) : FVec Ideal S8192x1 .f32) (ix2 k 0) := fun k => (mean_apply x (ix2 k 0)).symm
  simp only [h]
  generalize ((addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))) : FVec Ideal S8192x1 .f32) = q
  pointwise
  exact Fin.sum_univ_one _

end Cert.Reference21Ideal.Result

namespace Cert.Proof.NormGrad

open Idealize.ShloMosaic Idealize.ShloMosaic.TcCoe Idealize.SL.Sem

/-- The kernel terminates without a fault, with its arguments unchanged and its counters at zero. -/
theorem frame_kernel : Cert.quiescent_Kernel21 (hKernel21 := Cert.Kernel21.Gen.facts) := fun m ρ _ => Cert.Kernel21.Gen.frame m ρ

/-- The same of the idealized kernel. -/
theorem frame_kernelIdeal : Cert.quiescent_Kernel21Ideal (hKernel21Ideal := Cert.Kernel21Ideal.Gen.facts) := fun m ρ _ => Cert.Kernel21Ideal.Gen.frame m ρ

/-- The same of the reference. -/
theorem frame_referenceIdeal : Cert.quiescent_Reference21Ideal (hReference21Ideal := Cert.Reference21Ideal.Gen.facts) := fun m ρ _ =>
  (θ_run Cert.Reference21Ideal.defs _ _).mono
    (fun r h => ⟨fun c => (h c).2.2.2, sem_eq_zero_of_no_sems (by decide) r.2⟩)
    (Cert.Reference21Ideal.Value.run (F := Ideal) m ρ)

/-- Over the extended reals the kernel computes the reference's values. -/
theorem algebraic : Cert.algebraic_Kernel21Ideal_Reference21Ideal (hKernel21Ideal := Cert.Kernel21Ideal.Gen.facts) (hReference21Ideal := Cert.Reference21Ideal.Gen.facts) := by
  intro m ρ m' ρ' _ hagree
  refine ⟨_, _, _, Cert.Kernel21Ideal.Value.run_blocks (F := Ideal) m ρ, ?_⟩
  refine (θ_run Cert.Reference21Ideal.defs _ _).mono (fun _ h c => ⟨(h c).1.trans ?_, (h c).2.1.trans ?_, (h c).2.2.1.trans ?_, (h c).2.2.2⟩)
    (Cert.Reference21Ideal.Value.run (F := Ideal) m' ρ')
  · rw [(hagree c).1, (hagree c).2.1, (hagree c).2.2.1, (hagree c).2.2.2, Cert.Kernel21Ideal.Result.final_4]
    funext i
    exact Cert.Reference21Ideal.Result.total_apply _ _ _ _ i
  · rw [Cert.Reference21Ideal.Value.res_main_v39, (hagree c).1, (hagree c).2.1, (hagree c).2.2.1, (hagree c).2.2.2, Cert.Kernel21Ideal.Result.final_5]
    funext i
    exact (Cert.Reference21Ideal.Result.half_apply _ i).trans (congrArg _ (Cert.Reference21Ideal.Result.total_apply _ _ _ _ i))
  · rw [(hagree c).1, (hagree c).2.2.1, Cert.Kernel21Ideal.Result.final_6]
    funext i
    exact Cert.Reference21Ideal.Result.wgrad_apply _ _ i

end Cert.Proof.NormGrad

end
-- ==== Proof.Mixer.Norm.lean ====
/-
  The root-mean-square normalisation of the rows, 512 rows at a time.
-/
module

public import proofs.«01_k».proof.Defs
public import proofs.«01_k».proof.Proof.Gen.Kernel22.Frame
public import proofs.«01_k».proof.Proof.Gen.Kernel22Ideal.Value
public import proofs.«01_k».proof.Proof.Gen.Reference22Ideal.Run
public import Idealize.ShloMosaic.Lib.Quiescent
public import Idealize.ShloMosaic.Lib.Pointwise

@[expose] public section

set_option maxRecDepth 65536

noncomputable section

namespace Cert.Kernel22Ideal.Result

open Cert.Kernel22Ideal Cert.Kernel22Ideal.Gen Cert.Kernel22Ideal.Value
open Idealize.ShloMosaic Idealize.ShloMosaic.TcCoe Idealize.SL.Sem

variable (m : (ℓ : Loc nD τ sig) → Buf (Elt Ideal) ℓ)

/-- The rows and the weight. -/
abbrev rows (c : Dev nD) : FVec Ideal S8192x1024 .f32 := m ((c : Thread nD τ).loc main_arg0)
abbrev gain (c : Dev nD) : FVec Ideal S1024 .f32 := m ((c : Thread nD τ).loc main_arg1)

/-- The blocks a grid point reads. -/
abbrev blk0 (c : Dev nD) (t : Fin cfg0.N) : FVec Ideal S512x1024 .f32 := iblk m c 0 t
abbrev blk1 (c : Dev nD) (t : Fin cfg0.N) : FVec Ideal S1x1024 .f32 := iblk m c 1 t

/-- A row divided by the root of its mean square and multiplied by the weight, at one column. -/
def normed (f : Fin 1024 → EReal) (g : EReal) (k : Fin 1024) : EReal :=
  f k * Ideal.rsqrt (Ideal.div (∑ j : Fin 1024, f j * f j) (Ideal.ofBits .f32 0x44800000#32) + Ideal.ofBits .f32 0x358637BD#32) * g

/-- What the body computes of its blocks. -/
theorem body_apply (x : FVec Ideal S512x1024 .f32) (g : FVec Ideal S1x1024 .f32) (i : S512x1024.Idx) :
    k0_pay1 (F := Ideal) x g i = normed (fun k => x (ix2 (i 0) k)) (g (ix2 0 (i 1))) (i 1) := by
  unfold normed
  pointwise [k0_pay1]

/-- The block the body leaves is its one store's. -/
theorem out_2 (x : FVec Ideal S512x1024 .f32) (g : FVec Ideal S1x1024 .f32) :
    out0_2 (F := Ideal) x g = k0_pay1 (F := Ideal) x g := by
  have hz : (![0, 0] : Fin 2 → Nat) = fun _ => 0 := funext fun a => by fin_cases a <;> rfl
  unfold out0_2
  rw [View.canon_unit_zero hz]
  simp only [View.ld_unit_zero (S := S512x1024) hz, View.ld_unit_zero (S := S1x1024) hz]

/-- What the inputs hold when the blocks are fetched: the arguments. -/
theorem entry0 (c : Dev nD) : V m c main_arg0 = rows m c := by
  show StableHlo.after hostOps0 (fun b => m (c, b)) main_arg0 = _
  after_results
theorem entry1 (c : Dev nD) : V m c main_v0 = broadcastInDim S1x1024 ![1] bcast_S1024_S1x1024_1 (gain m c) := by
  show StableHlo.after hostOps0 (fun b => m (c, b)) main_v0 = _
  after_results
theorem gain_apply (g : FVec Ideal S1024 .f32) (z : Fin 1) (k : Fin 1024) : broadcastInDim S1x1024 ![1] bcast_S1024_S1x1024_1 g (ix2 z k) = g (ix1 k) := by
  pointwise

/-- Which blocks a grid point reads and writes. -/
theorem index0 : ∀ t : Fin cfg0.N, win0_0.index t = ![t.val % 16, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val % 16, t.val / 16] := (by decide +kernel : ∀ t : Fin grid0.N, _)

/-- A token of a block is a token of the whole. -/
theorem row_lt (t : Fin cfg0.N) (r : Fin 512) : t.val % 16 * 512 + r.val < 8192 := by omega

/-- A column of a block is a column of the whole. -/
theorem col_lt (t : Fin cfg0.N) (k : Fin 1024) : t.val / 16 * 1024 + k.val < 1024 := by
  have := t.isLt; have hN : cfg0.N = 16 := N_0; omega

/-- The blocks in the arrays' own coordinates. -/
theorem block0 (c : Dev nD) (t : Fin cfg0.N) (r : Fin 512) (k : Fin 1024) :
    blk0 m c t (ix2 r k) = rows m c (ix2 ⟨t.val % 16 * 512 + r.val, row_lt t r⟩ k) := by
  rw [← entry0 m c]
  show V m c main_arg0 (((cfg0.win 0).blk t).view.emb (ix2 r k)) = _
  have e := index0 t
  refine congrArg _ (funext fun a => Fin.ext ?_)
  match a with
  | ⟨0, _⟩ => show win0_0.index t (0 : Fin 2) * 512 + 1 * r.val = _; rw [e]; show t.val % 16 * 512 + 1 * r.val = t.val % 16 * 512 + r.val; omega
  | ⟨1, _⟩ => show win0_0.index t (1 : Fin 2) * 1024 + 1 * k.val = _; rw [e]; show 0 * 1024 + 1 * k.val = k.val; omega
theorem block1 (c : Dev nD) (t : Fin cfg0.N) (r : Fin 1) (k : Fin 1024) :
    blk1 m c t (ix2 r k) = gain m c (ix1 k) := by
  rw [← gain_apply (gain m c) r, ← entry1 m c]
  show V m c main_v0 (((cfg0.win 1).blk t).view.emb (ix2 r k)) = _
  have e := index1 t
  refine congrArg _ (funext fun a => Fin.ext ?_)
  match a with
  | ⟨0, _⟩ => show win0_1.index t (0 : Fin 2) * 1 + 1 * r.val = _; rw [e]; show 0 * 1 + 1 * r.val = r.val; omega
  | ⟨1, _⟩ => show win0_1.index t (1 : Fin 2) * 1024 + 1 * k.val = _; rw [e]; show 0 * 1024 + 1 * k.val = k.val; omega

/-- The result, entry by entry. -/
def scaled (c : Dev nD) : FVec Ideal S8192x1024 .bf16 := fun i => normed (fun k => rows m c (ix2 (i 0) k)) (gain m c (ix1 (i 1))) (i 1)

/-- There is one block of columns. -/
theorem col_eq (t : Fin cfg0.N) (k : Fin 1024) : (⟨t.val / 16 * 1024 + k.val, col_lt t k⟩ : Fin 1024) = k := Fin.ext (by
  have := t.isLt; have hN : cfg0.N = 16 := N_0; show t.val / 16 * 1024 + k.val = k.val; omega)

theorem body_2 (c : Dev nD) (t : Fin cfg0.N) (y : S512x1024.Idx) :
    k0_pay1 (F := Ideal) (blk0 m c t) (blk1 m c t) y = scaled m c (ix2 ⟨t.val % 16 * 512 + (y 0).val, row_lt t (y 0)⟩ ⟨t.val / 16 * 1024 + (y 1).val, col_lt t (y 1)⟩) := by
  refine (body_apply (blk0 m c t) (blk1 m c t) y).trans ?_
  rw [col_eq t (y 1)]
  have ex : (fun k => blk0 m c t (ix2 (y 0) k)) = fun k => rows m c (ix2 ⟨t.val % 16 * 512 + (y 0).val, row_lt t (y 0)⟩ k) := funext fun k => block0 m c t (y 0) k
  rw [ex, block1 m c t 0 (y 1)]
  rfl

/-- What a grid point writes back is its block of the normalised rows. -/
theorem flushed_2 (c : Dev nD) (t : Fin cfg0.N) :
    (dats m 0 c).flushed 2 t = ((cfg0.win 2).blk t).view.read (Elt Ideal) (scaled m c) := by
  rw [flushed2]
  refine (congrArg ((cfg0.win 2).cut (grid0.coords t)) (out_2 (blk0 m c t) (blk1 m c t))).trans ?_
  funext y
  have e := index2 t
  have e0 : ((cfg0.win 2).blk t).view.emb y (0 : Fin 2) = (⟨t.val % 16 * 512 + (y 0).val, row_lt t (y 0)⟩ : Fin 8192) := Fin.ext (by
    show win0_2.index t (0 : Fin 2) * 512 + 1 * (y 0).val = _; rw [e]; show t.val % 16 * 512 + 1 * (y 0).val = t.val % 16 * 512 + (y 0).val; omega)
  have e1 : ((cfg0.win 2).blk t).view.emb y (1 : Fin 2) = (⟨t.val / 16 * 1024 + (y 1).val, col_lt t (y 1)⟩ : Fin 1024) := Fin.ext (by
    show win0_2.index t (1 : Fin 2) * 1024 + 1 * (y 1).val = _; rw [e]; show t.val / 16 * 1024 + 1 * (y 1).val = t.val / 16 * 1024 + (y 1).val; omega)
  show _ = scaled m c (((cfg0.win 2).blk t).view.emb y)
  rw [eq_ix2 (((cfg0.win 2).blk t).view.emb y), e0, e1]
  exact body_2 m c t y

/-- Every entry is in the block of the grid point that computes it. -/
theorem covered_2 (i : S8192x1024.Idx) : ∃ t : Fin cfg0.N, (cfg0.win 2).flush t = true ∧ i ∈ ((cfg0.win 2).blk t).view.set := by
  have h0 : (i 0).val < 8192 := (i 0).isLt
  have h1 : (i 1).val < 1024 := (i 1).isLt
  have hN : cfg0.N = 16 := N_0
  obtain ⟨n, hn⟩ : ∃ n, n = (i 1).val / 1024 * 16 + (i 0).val / 512 := ⟨_, rfl⟩
  have ht : n < cfg0.N := by omega
  have d0 : n % 16 = (i 0).val / 512 := by omega
  have d1 : n / 16 = (i 1).val / 1024 := by omega
  refine ⟨⟨n, ht⟩, flush0_2 _, ?_⟩
  show i ∈ ((View.whole main_v1).slice (win0_2.rect ⟨n, ht⟩)).set
  rw [View.set_slice_whole, Rect.mem_set_unit]
  have e := index2 ⟨n, ht⟩
  intro a
  match a with
  | ⟨0, _⟩ =>
    show win0_2.index ⟨n, ht⟩ (0 : Fin 2) * 512 ≤ (i 0).val ∧ (i 0).val < win0_2.index ⟨n, ht⟩ (0 : Fin 2) * 512 + 512
    rw [e]; show n % 16 * 512 ≤ (i 0).val ∧ (i 0).val < n % 16 * 512 + 512; rw [d0]; omega
  | ⟨1, _⟩ =>
    show win0_2.index ⟨n, ht⟩ (1 : Fin 2) * 1024 ≤ (i 1).val ∧ (i 1).val < win0_2.index ⟨n, ht⟩ (1 : Fin 2) * 1024 + 1024
    rw [e]; show n / 16 * 1024 ≤ (i 1).val ∧ (i 1).val < n / 16 * 1024 + 1024; rw [d1]; omega

/-- The array after the run: the blocks tile it. -/
theorem final_2 (c : Dev nD) : (dats m 0 c).arrAt 2 cfg0.N = scaled m c :=
  (dats m 0 c).arrAt_eq_of_cover 2 _ (fun t _ => flushed_2 m c t) covered_2

end Cert.Kernel22Ideal.Result

namespace Cert.Reference22Ideal.Result

open Cert.Reference22Ideal Cert.Reference22Ideal.Gen
open Idealize.ShloMosaic

/-- The reference's normalisation at an index. -/
theorem normed_apply (x : FVec Ideal S8192x1024 .f32) (g : FVec Ideal S1024 .f32) (i : S8192x1024.Idx) :
    (truncf .bf16 (mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 g))) bitsLt_bf16_f32 : FVec Ideal S8192x1024 .bf16) i = Cert.Kernel22Ideal.Result.normed (fun k => x (ix2 (i 0) k)) (g (ix1 (i 1))) (i 1) := by
  unfold Cert.Kernel22Ideal.Result.normed
  pointwise

end Cert.Reference22Ideal.Result

namespace Cert.Proof.Norm

open Idealize.ShloMosaic Idealize.ShloMosaic.TcCoe Idealize.SL.Sem

/-- The kernel terminates without a fault, with its arguments unchanged and its counters at zero. -/
theorem frame_kernel : Cert.quiescent_Kernel22 (hKernel22 := Cert.Kernel22.Gen.facts) := fun m ρ _ => Cert.Kernel22.Gen.frame m ρ

/-- The same of the idealized kernel. -/
theorem frame_kernelIdeal : Cert.quiescent_Kernel22Ideal (hKernel22Ideal := Cert.Kernel22Ideal.Gen.facts) := fun m ρ _ => Cert.Kernel22Ideal.Gen.frame m ρ

/-- The same of the reference. -/
theorem frame_referenceIdeal : Cert.quiescent_Reference22Ideal (hReference22Ideal := Cert.Reference22Ideal.Gen.facts) := fun m ρ _ =>
  (θ_run Cert.Reference22Ideal.defs _ _).mono
    (fun r h => ⟨fun c => (h c).2, sem_eq_zero_of_no_sems (by decide) r.2⟩)
    (Cert.Reference22Ideal.Value.run (F := Ideal) m ρ)

/-- Over the extended reals the kernel computes the reference's values. -/
theorem algebraic : Cert.algebraic_Kernel22Ideal_Reference22Ideal (hKernel22Ideal := Cert.Kernel22Ideal.Gen.facts) (hReference22Ideal := Cert.Reference22Ideal.Gen.facts) := by
  intro m ρ m' ρ' _ hagree
  refine ⟨_, Cert.Kernel22Ideal.Value.run_blocks (F := Ideal) m ρ, ?_⟩
  refine (θ_run Cert.Reference22Ideal.defs _ _).mono (fun _ h c => ⟨(h c).1.trans ?_, (h c).2⟩)
    (Cert.Reference22Ideal.Value.run (F := Ideal) m' ρ')
  · rw [(hagree c).1, (hagree c).2, Cert.Kernel22Ideal.Result.final_2]
    funext i
    exact Cert.Reference22Ideal.Result.normed_apply _ _ i

end Cert.Proof.Norm

end
-- ==== Proof.Mixer.ConvForward.lean ====
/-
  The convolution along the sequence: at each position the four last rows by four weights of their column.
-/
module

public import proofs.«01_k».proof.Defs
public import proofs.«01_k».proof.Proof.Gen.Kernel24.Frame
public import proofs.«01_k».proof.Proof.Gen.Kernel24Ideal.Value
public import proofs.«01_k».proof.Proof.Gen.Reference24Ideal.Run
public import Idealize.ShloMosaic.Lib.Quiescent
public import Idealize.ShloMosaic.Lib.Pointwise
public import Idealize.ShloMosaic.Lib.WordCmp

@[expose] public section

set_option maxRecDepth 65536

noncomputable section

namespace Cert.Kernel24Ideal.Result

open Cert.Kernel24Ideal Cert.Kernel24Ideal.Gen Cert.Kernel24Ideal.Value
open Idealize.ShloMosaic Idealize.ShloMosaic.TcCoe Idealize.SL.Sem

variable (m : (ℓ : Loc nD τ sig) → Buf (Elt Ideal) ℓ)

/-- The sequences and the weights. -/
abbrev rows (c : Dev nD) : FVec Ideal S4x2048x4224 .f32 := m ((c : Thread nD τ).loc main_arg0)
abbrev wts (c : Dev nD) : FVec Ideal S4x3072 .f32 := m ((c : Thread nD τ).loc main_arg1)

/-- The entry `k` rows before a row, zero before the first. -/
def back (f : Fin 2048 → EReal) (k : Nat) (r : Fin 2048) : EReal := if k ≤ r.val then f ⟨r.val - k, by omega⟩ else 0

/-- One column's convolution at one row. -/
def conv (f : Fin 2048 → EReal) (w : Fin 4 → EReal) (r : Fin 2048) : EReal :=
  f r * w 3 + back f 1 r * w 2 + back f 2 r * w 1 + back f 3 r * w 0

/-- The rotated column with its first rows cleared. -/
theorem rotated (f : Fin 2048 → EReal) (r : Fin 2048) (k : Nat) (hk : k < 2048) (h : (r.val + 2048 - k) % 2048 < 2048) :
    Scalar.select (IntOp.cmpi .sge (BitVec.ofNat 32 r.val) (BitVec.ofNat 32 k)) (f ⟨(r.val + 2048 - k) % 2048, h⟩) 0 = back f k r := by
  have hr := r.isLt
  rw [WordCmp.cmpi_sge_ofNat (w := 32) (by omega) (by omega)]
  unfold back Scalar.select
  by_cases hle : k ≤ r.val
  · rw [if_pos hle, decide_eq_true hle]
    exact congrArg f (Fin.ext (by show (r.val + 2048 - k) % 2048 = r.val - k; omega))
  · rw [if_neg hle, decide_eq_false hle]
    rfl

/-- What the body computes of its blocks. -/
theorem body_at (x : FVec Ideal S1x2048x512 .f32) (w : FVec Ideal S4x512 .f32) (r : Fin 2048) (k : Fin 512) :
    k0_pay1 (F := Ideal) x w (ix3 0 r k) = conv (fun r => x (ix3 0 r k)) (fun j => w (ix2 j k)) r := by
  unfold conv
  rw [← rotated _ r 1 (by omega) (Nat.mod_lt _ (by omega)), ← rotated _ r 2 (by omega) (Nat.mod_lt _ (by omega)), ← rotated _ r 3 (by omega) (Nat.mod_lt _ (by omega))]
  pointwise [k0_pay1]

theorem body_apply (x : FVec Ideal S1x2048x512 .f32) (w : FVec Ideal S4x512 .f32) (i : S1x2048x512.Idx) :
    k0_pay1 (F := Ideal) x w i = conv (fun r => x (ix3 0 r (i 2))) (fun k => w (ix2 k (i 2))) (i 1) :=
  (congrArg (k0_pay1 (F := Ideal) x w) ((eq_ix3 i).trans (congrArg (fun z => ix3 z (i 1) (i 2)) (Subsingleton.elim (α := Fin 1) (i 0) 0)))).trans (body_at x w (i 1) (i 2))

theorem hz3 : (![0, 0, 0] : Fin 3 → Nat) = fun _ => 0 := funext fun a => by fin_cases a <;> rfl
theorem hz2 : (![0, 0] : Fin 2 → Nat) = fun _ => 0 := funext fun a => by fin_cases a <;> rfl

/-- The block the body leaves is its one store's. -/
theorem out_A_2 (c : Dev nD) (i : grid0.Coords) (arg2 : Memref sig .tc .vmem S1x2048x512 .f32) (harg2 : arg2.IsWhole) (arg3 : Memref sig .tc .vmem S4x512 .f32) (harg3 : arg3.IsWhole) (arg4 : Memref sig .tc .vmem S1x2048x512 .f32) (harg4 : arg4.IsWhole)
    (x : FVec Ideal S1x2048x512 .f32) (w : FVec Ideal S4x512 .f32) :
    out0_A_2 (F := Ideal) c i arg2 harg2 arg3 harg3 arg4 harg4 x w = k0_pay1 (F := Ideal) x w := by
  unfold out0_A_2
  rw [View.read_writes_eq_canon _ _ _ (cover0_A_2 (F := Ideal) c i arg2 harg2 arg3 harg3 arg4 harg4 x w)]
  unfold kernelRun0_A
  dsimp only
  try sl_unfold_words
  rw [View.canon_unit_zero (S := S1x2048x512) hz3]
  simp only [View.readAt_eq_ld, harg2.read_unread, harg3.read_unread, harg4.read_unread, View.ld_unit_zero (S := S1x2048x512) hz3, View.ld_unit_zero (S := S4x512) hz2, shapeCast_self]

/-- What the inputs hold when the blocks are fetched: the arguments. -/
theorem entry0 (c : Dev nD) : V m c main_arg0 = rows m c := rfl
theorem entry1 (c : Dev nD) : V m c main_arg1 = wts m c := rfl

/-- Which blocks a grid point reads and writes. -/
theorem index0 : ∀ t : Fin cfg0.N, win0_0.index t = ![t.val / 6, 0, t.val % 6] := (by decide +kernel : ∀ t : Fin grid0.N, _)
theorem index1 : ∀ t : Fin cfg0.N, win0_1.index t = ![0, t.val % 6] := (by decide +kernel : ∀ t : Fin grid0.N, _)
theorem index2 : ∀ t : Fin cfg0.N, win0_2.index t = ![t.val / 6, 0, t.val % 6] := (by decide +kernel : ∀ t : Fin grid0.N, _)

theorem seq_lt (t : Fin cfg0.N) : t.val / 6 < 4 := by have := t.isLt; have hN : cfg0.N = 24 := N_0; omega
theorem col_lt (t : Fin cfg0.N) (k : Fin 512) : t.val % 6 * 512 + k.val < 3072 := by omega

/-- The blocks in the arrays' own coordinates. -/
theorem block0 (c : Dev nD) (t : Fin cfg0.N) (z : Fin 1) (r : Fin 2048) (k : Fin 512) :
    (X0_0 m c t : FVec Ideal S1x2048x512 .f32) (ix3 z r k) = rows m c (ix3 ⟨t.val / 6, seq_lt t⟩ r ⟨t.val % 6 * 512 + k.val, Nat.lt_trans (col_lt t k) (by decide)⟩) := by
  rw [← entry0 m c]
  unfold X0_0 Pipeline.Window.fill
  rw [dif_pos (moved0_0 t (ix3 z r k))]
  show V m c main_arg0 (((cfg0.win 0).blk t).view.emb _) = _
  have e := index0 t
  refine congrArg _ (funext fun a => Fin.ext ?_)
  match a with
  | ⟨0, _⟩ => show win0_0.index t (0 : Fin 3) * 1 + 1 * z.val = _; rw [e]; show t.val / 6 * 1 + 1 * z.val = t.val / 6; omega
  | ⟨1, _⟩ => show win0_0.index t (1 : Fin 3) * 2048 + 1 * r.val = _; rw [e]; show 0 * 2048 + 1 * r.val = r.val; omega
  | ⟨2, _⟩ => show win0_0.index t (2 : Fin 3) * 512 + 1 * k.val = _; rw [e]; show t.val % 6 * 512 + 1 * k.val = t.val % 6 * 512 + k.val; omega
theorem block1 (c : Dev nD) (t : Fin cfg0.N) (r : Fin 4) (k : Fin 512) :
    (iblk m c 1 t : FVec Ideal S4x512 .f32) (ix2 r k) = wts m c (ix2 r ⟨t.val % 6 * 512 + k.val, col_lt t k⟩) := by
  rw [← entry1 m c]
  show V m c main_arg1 (((cfg0.win 1).blk t).view.emb (ix2 r k)) = _
  have e := index1 t
  refine congrArg _ (funext fun a => Fin.ext ?_)
  match a with
  | ⟨0, _⟩ => show win0_1.index t (0 : Fin 2) * 4 + 1 * r.val = _; rw [e]; show 0 * 4 + 1 * r.val = r.val; omega
  | ⟨1, _⟩ => show win0_1.index t (1 : Fin 2) * 512 + 1 * k.val = _; rw [e]; show t.val % 6 * 512 + 1 * k.val = t.val % 6 * 512 + k.val; omega

/-- The result, entry by entry. -/
def result (c : Dev nD) : FVec Ideal S4x2048x3072 .f32 := fun i =>
  conv (fun r => rows m c (ix3 (i 0) r ⟨(i 2).val, Nat.lt_trans (i 2).isLt (by decide)⟩)) (fun k => wts m c (ix2 k (i 2))) (i 1)

theorem body_2 (c : Dev nD) (t : Fin cfg0.N) (y : S1x2048x512.Idx) :
    k0_pay1 (F := Ideal) (X0_0 m c t) (iblk m c 1 t) y = result m c (ix3 ⟨t.val / 6, seq_lt t⟩ (y 1) ⟨t.val % 6 * 512 + (y 2).val, col_lt t (y 2)⟩) := by
  refine (body_apply (X0_0 m c t) (iblk m c 1 t) y).trans ?_
  have ex : (fun r => (X0_0 m c t : FVec Ideal S1x2048x512 .f32) (ix3 0 r (y 2))) = fun r => rows m c (ix3 ⟨t.val / 6, seq_lt t⟩ r ⟨t.val % 6 * 512 + (y 2).val, Nat.lt_trans (col_lt t (y 2)) (by decide)⟩) :=
    funext fun r => block0 m c t 0 r (y 2)
  have ew : (fun k => (iblk m c 1 t : FVec Ideal S4x512 .f32) (ix2 k (y 2))) = fun k => wts m c (ix2 k ⟨t.val % 6 * 512 + (y 2).val, col_lt t (y 2)⟩) :=
    funext fun k => block1 m c t k (y 2)
  rw [ex, ew]
  rfl

/-- What a grid point writes back is its block of the result. -/
theorem flushed_2 (c : Dev nD) (t : Fin cfg0.N) :
    (dats m 0 c).flushed 2 t = ((cfg0.win 2).blk t).view.read (Elt Ideal) (result m c) := by
  rw [flushed2_A]
  refine (congrArg ((cfg0.win 2).cut (grid0.coords t)) (out_A_2 c (grid0.coords t) (ms0_0 t) (hs0_0 t) (ms0_1 t) (hs0_1 t) (ms0_2 t) (hs0_2 t) (X0_0 m c t) (iblk m c 1 t))).trans ?_
  funext y
  have e := index2 t
  have e0 : ((cfg0.win 2).blk t).view.emb y (0 : Fin 3) = (⟨t.val / 6, seq_lt t⟩ : Fin 4) := Fin.ext (by
    have h : (y 0).val < 1 := (y 0).isLt
    show win0_2.index t (0 : Fin 3) * 1 + 1 * (y 0).val = _; rw [e]; show t.val / 6 * 1 + 1 * (y 0).val = t.val / 6; omega)
  have e1 : ((cfg0.win 2).blk t).view.emb y (1 : Fin 3) = (⟨(y 1).val, (y 1).isLt⟩ : Fin 2048) := Fin.ext (by
    show win0_2.index t (1 : Fin 3) * 2048 + 1 * (y 1).val = _; rw [e]; show 0 * 2048 + 1 * (y 1).val = (y 1).val; omega)
  have e2 : ((cfg0.win 2).blk t).view.emb y (2 : Fin 3) = (⟨t.val % 6 * 512 + (y 2).val, col_lt t (y 2)⟩ : Fin 3072) := Fin.ext (by
    show win0_2.index t (2 : Fin 3) * 512 + 1 * (y 2).val = _; rw [e]; show t.val % 6 * 512 + 1 * (y 2).val = t.val % 6 * 512 + (y 2).val; omega)
  show _ = result m c (((cfg0.win 2).blk t).view.emb y)
  rw [eq_ix3 (((cfg0.win 2).blk t).view.emb y), e0, e1, e2]
  exact body_2 m c t y

/-- Every entry is in the block of the grid point that computes it. -/
theorem covered_2 (i : S4x2048x3072.Idx) : ∃ t : Fin cfg0.N, (cfg0.win 2).flush t = true ∧ i ∈ ((cfg0.win 2).blk t).view.set := by
  have h0 : (i 0).val < 4 := (i 0).isLt
  have h1 : (i 1).val < 2048 := (i 1).isLt
  have h2 : (i 2).val < 3072 := (i 2).isLt
  have hN : cfg0.N = 24 := N_0
  obtain ⟨n, hn⟩ : ∃ n, n = (i 0).val * 6 + (i 2).val / 512 := ⟨_, rfl⟩
  have ht : n < cfg0.N := by omega
  have d0 : n / 6 = (i 0).val := by omega
  have d2 : n % 6 = (i 2).val / 512 := by omega
  refine ⟨⟨n, ht⟩, flush0_2 _, ?_⟩
  show i ∈ ((View.whole main_v0).slice (win0_2.rect ⟨n, ht⟩)).set
  rw [View.set_slice_whole, Rect.mem_set_unit]
  have e := index2 ⟨n, ht⟩
  intro a
  match a with
  | ⟨0, _⟩ =>
    show win0_2.index ⟨n, ht⟩ (0 : Fin 3) * 1 ≤ (i 0).val ∧ (i 0).val < win0_2.index ⟨n, ht⟩ (0 : Fin 3) * 1 + 1
    rw [e]; show n / 6 * 1 ≤ (i 0).val ∧ (i 0).val < n / 6 * 1 + 1; rw [d0]; omega
  | ⟨1, _⟩ =>
    show win0_2.index ⟨n, ht⟩ (1 : Fin 3) * 2048 ≤ (i 1).val ∧ (i 1).val < win0_2.index ⟨n, ht⟩ (1 : Fin 3) * 2048 + 2048
    rw [e]; show 0 * 2048 ≤ (i 1).val ∧ (i 1).val < 0 * 2048 + 2048; omega
  | ⟨2, _⟩ =>
    show win0_2.index ⟨n, ht⟩ (2 : Fin 3) * 512 ≤ (i 2).val ∧ (i 2).val < win0_2.index ⟨n, ht⟩ (2 : Fin 3) * 512 + 512
    rw [e]; show n % 6 * 512 ≤ (i 2).val ∧ (i 2).val < n % 6 * 512 + 512; rw [d2]; omega

/-- The array after the run: the blocks tile it. -/
theorem final_2 (c : Dev nD) : (dats m 0 c).arrAt 2 cfg0.N = result m c :=
  (dats m 0 c).arrAt_eq_of_cover 2 _ (fun t _ => flushed_2 m c t) covered_2

end Cert.Kernel24Ideal.Result

namespace Cert.Reference24Ideal.Result

open Cert.Reference24Ideal Cert.Reference24Ideal.Gen
open Idealize.ShloMosaic
open Cert.Kernel24Ideal.Result (back conv)

/-- The padded sequence from one of its first rows on. -/
theorem shift (o : Nat) (ho : o ≤ 3) (hs : S4x2051x3072.Slices ![0, o, 0] S4x2048x3072) (x : FVec Ideal S4x2048x4224 .f32) (b : Fin 4) (r : Fin 2048) (k : Fin 3072) :
    (extractStridedSlice S4x2048x3072 ![0, o, 0] (concatenate S4x2051x3072 1 [⟨S4x3x3072, (broadcastInDim S4x3x3072 ![] bcast_S_S4x3x3072 (constant S_ .f32 0x00000000#32))⟩, ⟨S4x2048x3072, (extractStridedSlice S4x2048x3072 ![0, 0, 0] x slices_S4x2048x4224_S4x2048x3072_0_0_0)⟩] concatenates_S4x3x3072_S4x2048x3072_S4x2051x3072_d1) hs : FVec Ideal S4x2048x3072 .f32) (ix3 b r k)
      = back (fun r => x (ix3 b r ⟨k.val, Nat.lt_trans k.isLt (by decide)⟩)) (3 - o) r := by
  unfold back
  pointwise
  by_cases h : 3 - o ≤ r.val
  · rw [dif_neg (by omega), if_pos h]
    exact congrArg (fun q => x (ix3 b q ⟨k.val, Nat.lt_trans k.isLt (by decide)⟩)) (Fin.ext (by show o + r.val - 3 = r.val - (3 - o); omega))
  · rw [dif_pos (by omega), if_neg h]

/-- One of the weights, at every row. -/
theorem weight (o : Fin 4) (hs : S4x3072.Slices ![o.val, 0] S1x3072) (w : FVec Ideal S4x3072 .f32) (i : S4x2048x3072.Idx) :
    (broadcastInDim S4x2048x3072 ![0, 1, 2] bcast_S1x1x3072_S4x2048x3072_0_1_2 (broadcastInDim S1x1x3072 ![2] bcast_S3072_S1x1x3072_2 (shapeCast _ (extractStridedSlice S1x3072 ![o.val, 0] w hs) shapeCasts_S1x3072_S3072)) : FVec Ideal S4x2048x3072 .f32) i = w (ix2 o (i 2)) := by
  pointwise

/-- The sum of four products of arrays, from zero, at an index. -/
theorem gather {A0 B0 A1 B1 A2 B2 A3 B3 : FVec Ideal S4x2048x3072 .f32} {i : S4x2048x3072.Idx} {c0 d0 c1 d1 c2 d2 c3 d3 : EReal} (h0 : A0 i = c0) (k0 : B0 i = d0) (h1 : A1 i = c1) (k1 : B1 i = d1)
    (h2 : A2 i = c2) (k2 : B2 i = d2) (h3 : A3 i = c3) (k3 : B3 i = d3) :
    (addf (addf (addf (addf (broadcastInDim S4x2048x3072 ![] bcast_S_S4x2048x3072 (constant S_ .f32 0x00000000#32)) (mulf A0 B0)) (mulf A1 B1)) (mulf A2 B2)) (mulf A3 B3) : FVec Ideal S4x2048x3072 .f32) i = d3 * c3 + d2 * c2 + d1 * c1 + d0 * c0 := by
  have hz : (broadcastInDim S4x2048x3072 ![] bcast_S_S4x2048x3072 (constant (F := Ideal) S_ .f32 0x00000000#32) : FVec Ideal S4x2048x3072 .f32) i = 0 := by pointwise
  subst h0 k0 h1 k1 h2 k2 h3 k3
  show (_ + A0 i * B0 i + A1 i * B1 i + A2 i * B2 i + A3 i * B3 i : EReal) = _
  rw [hz, zero_add, mul_comm (A0 i), mul_comm (A1 i), mul_comm (A2 i), mul_comm (A3 i)]
  abel

end Cert.Reference24Ideal.Result

namespace Cert.Proof.ConvForward

open Idealize.ShloMosaic Idealize.ShloMosaic.TcCoe Idealize.SL.Sem
open Cert.Reference24Ideal.Result

/-- The kernel terminates without a fault, with its arguments unchanged and its counters at zero. -/
theorem frame_kernel : Cert.quiescent_Kernel24 (hKernel24 := Cert.Kernel24.Gen.facts) := fun m ρ _ => Cert.Kernel24.Gen.frame m ρ

/-- The same of the idealized kernel. -/
theorem frame_kernelIdeal : Cert.quiescent_Kernel24Ideal (hKernel24Ideal := Cert.Kernel24Ideal.Gen.facts) := fun m ρ _ => Cert.Kernel24Ideal.Gen.frame m ρ

/-- The same of the reference. -/
theorem frame_referenceIdeal : Cert.quiescent_Reference24Ideal (hReference24Ideal := Cert.Reference24Ideal.Gen.facts) := fun m ρ _ =>
  (θ_run Cert.Reference24Ideal.defs _ _).mono
    (fun r h => ⟨fun c => (h c).2, sem_eq_zero_of_no_sems (by decide) r.2⟩)
    (Cert.Reference24Ideal.Value.run (F := Ideal) m ρ)

/-- Over the extended reals the kernel computes the reference's values. -/
theorem algebraic : Cert.algebraic_Kernel24Ideal_Reference24Ideal (hKernel24Ideal := Cert.Kernel24Ideal.Gen.facts) (hReference24Ideal := Cert.Reference24Ideal.Gen.facts) := by
  intro m ρ m' ρ' _ hagree
  refine ⟨_, Cert.Kernel24Ideal.Value.run_blocks (F := Ideal) m ρ, ?_⟩
  refine (θ_run Cert.Reference24Ideal.defs _ _).mono (fun _ h c => ⟨(h c).1.trans ?_, (h c).2⟩)
    (Cert.Reference24Ideal.Value.run (F := Ideal) m' ρ')
  · rw [(hagree c).1, (hagree c).2, Cert.Kernel24Ideal.Result.final_2]
    funext i
    have es := fun (o : Nat) ho hs => shift o ho hs (Cert.Kernel24Ideal.Result.rows m c) (i 0) (i 1) (i 2)
    have ew := fun (o : Fin 4) hs => weight o hs (Cert.Kernel24Ideal.Result.wts m c) (ix3 (i 0) (i 1) (i 2))
    refine (congrArg _ (eq_ix3 i)).trans ((gather (ew 0 _) (es 0 (by omega) _) (ew 1 _) (es 1 (by omega) _) (ew 2 _) (es 2 (by omega) _) (ew 3 _) (es 3 (by omega) _)).trans ?_)
    exact congrArg (· * _ + _ + _ + _) (if_pos (Nat.zero_le _))

end Cert.Proof.ConvForward

end
-- ==== Proof.Mixer.ConvBackward.lean ====
/-
  The gradients of the convolution along the sequence: each row's from the four rows that read it, and the four weights'.
-/
module

public import proofs.«01_k».proof.Proof.Gen.Kernel23.Frame
public import proofs.«01_k».proof.Proof.Gen.Kernel23Ideal.Value
public import proofs.«01_k».proof.Proof.Gen.Reference23Ideal.Run
public import proofs.«01_k».proof.Proof.Mixer.ConvForward

@[expose] public section

set_option maxRecDepth 65536

noncomputable section

namespace Cert.Kernel23Ideal.Result

open Cert.Kernel23Ideal Cert.Kernel23Ideal.Gen Cert.Kernel23Ideal.Value
open Idealize.ShloMosaic Idealize.ShloMosaic.TcCoe Idealize.SL.Sem
open Cert.Kernel24Ideal.Result (back rotated hz2 hz3)

variable (m : (ℓ : Loc nD τ sig) → Buf (Elt Ideal) ℓ)

/-- The sequences, the weights and the cotangent. -/
abbrev rows (c : Dev nD) : FVec Ideal S4x2048x4224 .f32 := m ((c : Thread nD τ).loc main_arg0)
abbrev wts (c : Dev nD) : FVec Ideal S4x1024 .f32 := m ((c : Thread nD τ).loc main_arg1)
abbrev ct (c : Dev nD) : FVec Ideal S4x2048x1024 .f32 := m ((c : Thread nD τ).loc main_arg2)

/-- The entry `k` rows after a row, zero after the last. -/
def ahead (f : Fin 2048 → EReal) (k : Nat) (r : Fin 2048) : EReal := if h : r.val + k < 2048 then f ⟨r.val + k, h⟩ else 0

/-- One column's gradient at one row. -/
def tap (d : Fin 2048 → EReal) (w : Fin 4 → EReal) (r : Fin 2048) : EReal :=
  d r * w 3 + ahead (fun r => d r * w 2) 1 r + ahead (fun r => d r * w 1) 2 r + ahead (fun r => d r * w 0) 3 r

/-- One sequence's share of one weight's gradient. -/
def part (d f : Fin 2048 → EReal) (j : Fin 4) : EReal := ∑ r, d r * back f (3 - j.val) r

/-- The rotated column with its last rows cleared. -/
theorem turned (f : Fin 2048 → EReal) (r : Fin 2048) (k n : Nat) (hn : n + k = 2048) (hk : 0 < k) (h : (r.val + 2048 - n) % 2048 < 2048) :
    Scalar.select (IntOp.cmpi .slt (BitVec.ofNat 32 r.val) (BitVec.ofNat 32 n)) (f ⟨(r.val + 2048 - n) % 2048, h⟩) 0 = ahead f k r := by
  have hr := r.isLt
  rw [WordCmp.cmpi_slt_ofNat (w := 32) (by omega) (by omega)]
  unfold ahead Scalar.select
  by_cases hle : r.val < n
  · rw [dif_pos (by omega), decide_eq_true hle]
    exact congrArg f (Fin.ext (by show (r.val + 2048 - n) % 2048 = r.val + k; omega))
  · rw [dif_neg (by omega), decide_eq_false hle]
    rfl

theorem weighed (a : EReal) (f : Fin 2048 → EReal) (r : Fin 2048) (k : Nat) (hk : k < 2048) (h : (r.val + 2048 - k) % 2048 < 2048) :
    Scalar.select (IntOp.cmpi .sge (BitVec.ofNat 32 r.val) (BitVec.ofNat 32 k)) (a * f ⟨(r.val + 2048 - k) % 2048, h⟩) 0 = a * back f k r := by
  rw [rotated (fun s => a * f s) r k hk h]
  unfold back
  by_cases hle : k ≤ r.val
  · rw [if_pos hle, if_pos hle]
  · rw [if_neg hle, if_neg hle, mul_zero]

/-- What the body computes of its blocks. -/
abbrev bx (w : FVec Ideal S4x512 .f32) (d : FVec Ideal S1x2048x512 .f32) : FVec Ideal S1x2048x512 .bf16 :=
  k0_pay7 (F := Ideal) w (k0_pay2 (F := Ideal) d) (k0_pay4 (F := Ideal) w d) (k0_pay6 (F := Ideal) w d)
abbrev bw (x d : FVec Ideal S1x2048x512 .f32) (acc : FVec Ideal S4x512 .f32) : FVec Ideal S4x512 .f32 :=
  k0_pay9 (F := Ideal) (k0_pay1 (F := Ideal) x) (k0_pay2 (F := Ideal) d) (k0_pay3 (F := Ideal) x d) (k0_pay5 (F := Ideal) x d) acc

theorem bx_at (w : FVec Ideal S4x512 .f32) (d : FVec Ideal S1x2048x512 .f32) (r : Fin 2048) (k : Fin 512) :
    bx w d (ix3 0 r k) = tap (fun r => d (ix3 0 r k)) (fun j => w (ix2 j k)) r := by
  unfold tap
  rw [← turned _ r 1 2047 rfl (by omega) (Nat.mod_lt _ (by omega)), ← turned _ r 2 2046 rfl (by omega) (Nat.mod_lt _ (by omega)), ← turned _ r 3 2045 rfl (by omega) (Nat.mod_lt _ (by omega))]
  pointwise [k0_pay2, k0_pay4, k0_pay6, k0_pay7]

theorem bx_apply (w : FVec Ideal S4x512 .f32) (d : FVec Ideal S1x2048x512 .f32) (i : S1x2048x512.Idx) :
    bx w d i = tap (fun r => d (ix3 0 r (i 2))) (fun j => w (ix2 j (i 2))) (i 1) :=
  (congrArg (bx w d) ((eq_ix3 i).trans (congrArg (fun z => ix3 z (i 1) (i 2)) (Subsingleton.elim (α := Fin 1) (i 0) 0)))).trans (bx_at w d (i 1) (i 2))

theorem bw_at (x d : FVec Ideal S1x2048x512 .f32) (acc : FVec Ideal S4x512 .f32) (j : Fin 4) (k : Fin 512) :
    bw x d acc (ix2 j k) = acc (ix2 j k) + part (fun r => d (ix3 0 r k)) (fun r => x (ix3 0 r k)) j := by
  match j with
  | 0 =>
    pointwise [k0_pay1, k0_pay2, k0_pay3, k0_pay5, k0_pay9]
    exact congrArg (acc (ix2 0 k) + ·) (Finset.sum_congr rfl fun r _ => weighed _ (fun r => x (ix3 0 r k)) r 3 (by omega) _)
  | 1 =>
    pointwise [k0_pay1, k0_pay2, k0_pay3, k0_pay5, k0_pay9]
    exact congrArg (acc (ix2 1 k) + ·) (Finset.sum_congr rfl fun r _ => weighed _ (fun r => x (ix3 0 r k)) r 2 (by omega) _)
  | 2 =>
    pointwise [k0_pay1, k0_pay2, k0_pay3, k0_pay5, k0_pay9]
    exact congrArg (acc (ix2 2 k) + ·) (Finset.sum_congr rfl fun r _ => weighed _ (fun r => x (ix3 0 r k)) r 1 (by omega) _)
  | 3 =>
    pointwise [k0_pay1, k0_pay2, k0_pay3, k0_pay5, k0_pay9]
    exact congrArg (acc (ix2 3 k) + ·) (Finset.sum_congr rfl fun r _ => congrArg (d (ix3 0 r k) * ·) (if_pos (Nat.zero_le _)).symm)

theorem bw_apply (x d : FVec Ideal S1x2048x512 .f32) (acc : FVec Ideal S4x512 .f32) (i : S4x512.Idx) :
    bw x d acc i = acc i + part (fun r => d (ix3 0 r (i 1))) (fun r => x (ix3 0 r (i 1))) (i 0) := by
  rw [eq_ix2 i]; exact bw_at x d acc (i 0) (i 1)

theorem zero_apply (i : S4x512.Idx) : k0_pay8 (F := Ideal) i = 0 := by
  pointwise [k0_pay8]

section
variable (c : Dev nD) (i : grid0.Coords) (arg2 : Memref sig .tc .vmem S1x2048x512 .f32) (harg2 : arg2.IsWhole) (arg3 : Memref sig .tc .vmem S4x512 .f32) (harg3 : arg3.IsWhole) (arg4 : Memref sig .tc .vmem S1x2048x512 .f32) (harg4 : arg4.IsWhole) (arg5 : Memref sig .tc .vmem S1x2048x512 .bf16) (harg5 : arg5.IsWhole) (arg6 : Memref sig .tc .vmem S4x512 .f32) (harg6 : arg6.IsWhole)
  (x : FVec Ideal S1x2048x512 .f32) (w : FVec Ideal S4x512 .f32) (d : FVec Ideal S1x2048x512 .f32) (acc : FVec Ideal S4x512 .f32)

/-- What the body leaves in its two outputs, at a column's first point and at its later ones. -/
theorem out_A_3 (hc0 : cond0_0 i) : out0_A_3 (F := Ideal) c i arg2 harg2 arg3 harg3 arg4 harg4 arg5 harg5 arg6 harg6 hc0 x w d = bx w d := by
  unfold out0_A_3
  rw [View.read_writes_eq_canon _ _ _ (cover0_A_3 (F := Ideal) c i arg2 harg2 arg3 harg3 arg4 harg4 arg5 harg5 arg6 harg6 hc0 x w d)]
  unfold kernelRun0_A
  dsimp only
  try sl_unfold_words
  rw [View.canon_unit_zero (S := S1x2048x512) hz3]
  simp only [View.readAt_eq_ld, harg2.read_unread, harg3.read_unread, harg4.read_unread, harg5.read_unread, harg6.read_unread, View.ld_unit_zero (S := S1x2048x512) hz3, View.ld_unit_zero (S := S4x512) hz2, shapeCast_self]

theorem out_A_4 (hc0 : cond0_0 i) : out0_A_4 (F := Ideal) c i arg2 harg2 arg3 harg3 arg4 harg4 arg5 harg5 arg6 harg6 hc0 x w d = bw x d (k0_pay8 (F := Ideal)) := by
  unfold out0_A_4
  rw [View.read_writes_eq_canon _ _ _ (cover0_A_4 (F := Ideal) c i arg2 harg2 arg3 harg3 arg4 harg4 arg5 harg5 arg6 harg6 hc0 x w d)]
  unfold kernelRun0_A
  dsimp only
  try sl_unfold_words
  rw [View.canon_cons_unit_zero (S := S4x512) hz2, View.readCov_unit_zero (S := S4x512) _ hz2]
  simp only [View.readAt_eq_ld, harg2.read_unread, harg3.read_unread, harg4.read_unread, harg5.read_unread, harg6.read_unread, View.ld_unit_zero (S := S1x2048x512) hz3, View.ld_unit_zero (S := S4x512) hz2, shapeCast_self]

theorem out_B_3 (hc0 : ¬cond0_0 i) : out0_B_3 (F := Ideal) c i arg2 harg2 arg3 harg3 arg4 harg4 arg5 harg5 arg6 harg6 hc0 x w d acc = bx w d := by
  unfold out0_B_3
  rw [View.read_writes_eq_canon _ _ _ (cover0_B_3 (F := Ideal) c i arg2 harg2 arg3 harg3 arg4 harg4 arg5 harg5 arg6 harg6 hc0 x w d acc)]
  unfold kernelRun0_B
  dsimp only
  try sl_unfold_words
  rw [View.canon_unit_zero (S := S1x2048x512) hz3]
  simp only [View.readAt_eq_ld, harg2.read_unread, harg3.read_unread, harg4.read_unread, harg5.read_unread, harg6.read_unread, View.ld_unit_zero (S := S1x2048x512) hz3, View.ld_unit_zero (S := S4x512) hz2, shapeCast_self]

theorem out_B_4 (hc0 : ¬cond0_0 i) : out0_B_4 (F := Ideal) c i arg2 harg2 arg3 harg3 arg4 harg4 arg5 harg5 arg6 harg6 hc0 x w d acc = bw x d acc := by
  unfold out0_B_4
  rw [View.read_writes_eq_canon _ _ _ (cover0_B_4 (F := Ideal) c i arg2 harg2 arg3 harg3 arg4 harg4 arg5 harg5 arg6 harg6 hc0 x w d acc)]
  unfold kernelRun0_B
  dsimp only
  try sl_unfold_words
  rw [View.canon_unit_zero (S := S4x512) hz2]
  simp only [View.readAt_eq_ld, harg2.read_unread, harg3.read_unread, harg4.read_unread, harg5.read_unread, harg6.read_unread, View.ld_unit_zero (S := S1x2048x512) hz3, View.ld_unit_zero (S := S4x512) hz2, shapeCast_self]

end

/-- The blocks a grid point reads, and which they are. -/
abbrev blk0 (c : Dev nD) (t : Fin cfg0.N) : FVec Ideal S1x2048x512 .f32 := X0_0 m c t
abbrev blk1 (c : Dev nD) (t : Fin cfg0.N) : FVec Ideal S4x512 .f32 := iblk m c 1 t
abbrev blk2 (c : Dev nD) (t : Fin cfg0.N) : FVec Ideal S1x2048x512 .f32 := iblk m c 2 t

theorem index0 : ∀ t : Fin cfg0.N, win0_0.index t = ![t.val % 4, 0, t.val / 4] := (by decide +kernel : ∀ t : Fin grid0.N, _)
theorem index1 : ∀ t : Fin cfg0.N, win0_1.index t = ![0, t.val / 4] := (by decide +kernel : ∀ t : Fin grid0.N, _)
theorem index2 : ∀ t : Fin cfg0.N, win0_2.index t = ![t.val % 4, 0, t.val / 4] := (by decide +kernel : ∀ t : Fin grid0.N, _)
theorem index3 : ∀ t : Fin cfg0.N, win0_3.index t = ![t.val % 4, 0, t.val / 4] := (by decide +kernel : ∀ t : Fin grid0.N, _)
theorem index4 : ∀ t : Fin cfg0.N, win0_4.index t = ![0, t.val / 4] := (by decide +kernel : ∀ t : Fin grid0.N, _)

theorem seq_lt (t : Fin cfg0.N) : t.val % 4 < 4 := by omega
theorem col_lt (t : Fin cfg0.N) (k : Fin 512) : t.val / 4 * 512 + k.val < 1024 := by have := t.isLt; have hN : cfg0.N = 8 := N_0; omega

theorem block0 (c : Dev nD) (t : Fin cfg0.N) (z : Fin 1) (r : Fin 2048) (k : Fin 512) :
    blk0 m c t (ix3 z r k) = rows m c (ix3 ⟨t.val % 4, seq_lt t⟩ r ⟨t.val / 4 * 512 + k.val, Nat.lt_trans (col_lt t k) (by decide)⟩) := by
  unfold blk0 X0_0 Pipeline.Window.fill
  rw [dif_pos (moved0_0 t (ix3 z r k))]
  show V m c main_arg0 (((cfg0.win 0).blk t).view.emb _) = _
  have e := index0 t
  refine congrArg (rows m c) (funext fun a => Fin.ext ?_)
  match a with
  | ⟨0, _⟩ => show win0_0.index t (0 : Fin 3) * 1 + 1 * z.val = _; rw [e]; show t.val % 4 * 1 + 1 * z.val = t.val % 4; omega
  | ⟨1, _⟩ => show win0_0.index t (1 : Fin 3) * 2048 + 1 * r.val = _; rw [e]; show 0 * 2048 + 1 * r.val = r.val; omega
  | ⟨2, _⟩ => show win0_0.index t (2 : Fin 3) * 512 + 1 * k.val = _; rw [e]; show t.val / 4 * 512 + 1 * k.val = t.val / 4 * 512 + k.val; omega
theorem block1 (c : Dev nD) (t : Fin cfg0.N) (r : Fin 4) (k : Fin 512) :
    blk1 m c t (ix2 r k) = wts m c (ix2 r ⟨t.val / 4 * 512 + k.val, col_lt t k⟩) := by
  show V m c main_arg1 (((cfg0.win 1).blk t).view.emb (ix2 r k)) = _
  have e := index1 t
  refine congrArg (wts m c) (funext fun a => Fin.ext ?_)
  match a with
  | ⟨0, _⟩ => show win0_1.index t (0 : Fin 2) * 4 + 1 * r.val = _; rw [e]; show 0 * 4 + 1 * r.val = r.val; omega
  | ⟨1, _⟩ => show win0_1.index t (1 : Fin 2) * 512 + 1 * k.val = _; rw [e]; show t.val / 4 * 512 + 1 * k.val = t.val / 4 * 512 + k.val; omega
theorem block2 (c : Dev nD) (t : Fin cfg0.N) (z : Fin 1) (r : Fin 2048) (k : Fin 512) :
    blk2 m c t (ix3 z r k) = ct m c (ix3 ⟨t.val % 4, seq_lt t⟩ r ⟨t.val / 4 * 512 + k.val, col_lt t k⟩) := by
  show V m c main_arg2 (((cfg0.win 2).blk t).view.emb (ix3 z r k)) = _
  have e := index2 t
  refine congrArg (ct m c) (funext fun a => Fin.ext ?_)
  match a with
  | ⟨0, _⟩ => show win0_2.index t (0 : Fin 3) * 1 + 1 * z.val = _; rw [e]; show t.val % 4 * 1 + 1 * z.val = t.val % 4; omega
  | ⟨1, _⟩ => show win0_2.index t (1 : Fin 3) * 2048 + 1 * r.val = _; rw [e]; show 0 * 2048 + 1 * r.val = r.val; omega
  | ⟨2, _⟩ => show win0_2.index t (2 : Fin 3) * 512 + 1 * k.val = _; rw [e]; show t.val / 4 * 512 + 1 * k.val = t.val / 4 * 512 + k.val; omega

/-- The two results, entry by entry. -/
def xgrad (c : Dev nD) : FVec Ideal S4x2048x1024 .bf16 := fun i =>
  tap (fun r => ct m c (ix3 (i 0) r (i 2))) (fun j => wts m c (ix2 j (i 2))) (i 1)
def wgrad (c : Dev nD) : FVec Ideal S4x1024 .f32 := fun i =>
  ∑ b : Fin 4, part (fun r => ct m c (ix3 b r (i 1))) (fun r => rows m c (ix3 b r ⟨(i 1).val, Nat.lt_trans (i 1).isLt (by decide)⟩)) (i 0)

/-- The rows' gradient's block after a grid point. -/
theorem out_3 (c : Dev nD) (t : Fin cfg0.N) : (outsAt0 m c t.val t.isLt).1 = bx (blk1 m c t) (blk2 m c t) := by
  by_cases h : t.val % 4 = 0
  · have e := out_A_3 c (grid0.coords t) (ms0_0 t) (hs0_0 t) (ms0_1 t) (hs0_1 t) (ms0_2 t) (hs0_2 t) (ms0_3 t) (hs0_3 t) (ms0_4 t) (hs0_4 t) (blk0 m c t) (blk1 m c t) (blk2 m c t) ((hcond0_0 t).mpr h)
    simp only [outsAt0_A m c t h]; exact e
  · have e := out_B_3 c (grid0.coords t) (ms0_0 t) (hs0_0 t) (ms0_1 t) (hs0_1 t) (ms0_2 t) (hs0_2 t) (ms0_3 t) (hs0_3 t) (ms0_4 t) (hs0_4 t) (blk0 m c t) (blk1 m c t) (blk2 m c t) ((outsAt0 m c (t.val - 1) (Nat.lt_of_le_of_lt (Nat.sub_le _ _) t.isLt)).2) (fun e => h ((hcond0_0 t).mp e))
    simp only [outsAt0_B m c t h]; exact e

/-- What a grid point writes back is its block of the rows' gradient. -/
theorem flushed_3 (c : Dev nD) (t : Fin cfg0.N) :
    (dats m 0 c).flushed 3 t = ((cfg0.win 3).blk t).view.read (Elt Ideal) (xgrad m c) := by
  rw [flushed3]
  refine (congrArg ((cfg0.win 3).cut (grid0.coords t)) (out_3 m c t)).trans ?_
  funext y
  have e := index3 t
  have e0 : ((cfg0.win 3).blk t).view.emb y (0 : Fin 3) = (⟨t.val % 4, seq_lt t⟩ : Fin 4) := Fin.ext (by
    have h : (y 0).val < 1 := (y 0).isLt
    show win0_3.index t (0 : Fin 3) * 1 + 1 * (y 0).val = _; rw [e]; show t.val % 4 * 1 + 1 * (y 0).val = t.val % 4; omega)
  have e1 : ((cfg0.win 3).blk t).view.emb y (1 : Fin 3) = (⟨(y 1).val, (y 1).isLt⟩ : Fin 2048) := Fin.ext (by
    show win0_3.index t (1 : Fin 3) * 2048 + 1 * (y 1).val = _; rw [e]; show 0 * 2048 + 1 * (y 1).val = (y 1).val; omega)
  have e2 : ((cfg0.win 3).blk t).view.emb y (2 : Fin 3) = (⟨t.val / 4 * 512 + (y 2).val, col_lt t (y 2)⟩ : Fin 1024) := Fin.ext (by
    show win0_3.index t (2 : Fin 3) * 512 + 1 * (y 2).val = _; rw [e]; show t.val / 4 * 512 + 1 * (y 2).val = t.val / 4 * 512 + (y 2).val; omega)
  show _ = xgrad m c (((cfg0.win 3).blk t).view.emb y)
  rw [eq_ix3 (((cfg0.win 3).blk t).view.emb y), e0, e1, e2]
  refine (bx_apply (blk1 m c t) (blk2 m c t) y).trans ?_
  have ed := funext fun r => block2 m c t 0 r (y 2)
  have ew := funext fun j => block1 m c t j (y 2)
  rw [ed, ew]
  rfl

theorem covered_3 (i : S4x2048x1024.Idx) : ∃ t : Fin cfg0.N, (cfg0.win 3).flush t = true ∧ i ∈ ((cfg0.win 3).blk t).view.set := by
  have h0 : (i 0).val < 4 := (i 0).isLt
  have h1 : (i 1).val < 2048 := (i 1).isLt
  have h2 : (i 2).val < 1024 := (i 2).isLt
  have hN : cfg0.N = 8 := N_0
  obtain ⟨n, hn⟩ : ∃ n, n = (i 2).val / 512 * 4 + (i 0).val := ⟨_, rfl⟩
  have ht : n < cfg0.N := by omega
  refine ⟨⟨n, ht⟩, flush0_3 _, ?_⟩
  show i ∈ ((View.whole main_v0_0).slice (win0_3.rect ⟨n, ht⟩)).set
  rw [View.set_slice_whole, Rect.mem_set_unit]
  have e := index3 ⟨n, ht⟩
  intro a
  match a with
  | ⟨0, _⟩ =>
    show win0_3.index ⟨n, ht⟩ (0 : Fin 3) * 1 ≤ (i 0).val ∧ (i 0).val < win0_3.index ⟨n, ht⟩ (0 : Fin 3) * 1 + 1
    rw [e]; show n % 4 * 1 ≤ (i 0).val ∧ (i 0).val < n % 4 * 1 + 1; omega
  | ⟨1, _⟩ =>
    show win0_3.index ⟨n, ht⟩ (1 : Fin 3) * 2048 ≤ (i 1).val ∧ (i 1).val < win0_3.index ⟨n, ht⟩ (1 : Fin 3) * 2048 + 2048
    rw [e]; show 0 * 2048 ≤ (i 1).val ∧ (i 1).val < 0 * 2048 + 2048; omega
  | ⟨2, _⟩ =>
    show win0_3.index ⟨n, ht⟩ (2 : Fin 3) * 512 ≤ (i 2).val ∧ (i 2).val < win0_3.index ⟨n, ht⟩ (2 : Fin 3) * 512 + 512
    rw [e]; show n / 4 * 512 ≤ (i 2).val ∧ (i 2).val < n / 4 * 512 + 512; omega

theorem final_3 (c : Dev nD) : (dats m 0 c).arrAt 3 cfg0.N = xgrad m c :=
  (dats m 0 c).arrAt_eq_of_cover 3 _ (fun t _ => flushed_3 m c t) covered_3

/-- What a column's first point leaves in the weights' gradient's block, and what a later point makes of it. -/
def reset4 (c : Dev nD) (n : ℕ) (h : n < cfg0.N) : FVec Ideal S4x512 .f32 := bw (blk0 m c ⟨n, h⟩) (blk2 m c ⟨n, h⟩) (k0_pay8 (F := Ideal))
def step4 (c : Dev nD) (n : ℕ) (h : n < cfg0.N) (acc : FVec Ideal S4x512 .f32) : FVec Ideal S4x512 .f32 := bw (blk0 m c ⟨n, h⟩) (blk2 m c ⟨n, h⟩) acc

theorem out_4 (c : Dev nD) (t : Fin cfg0.N) :
    (outsAt0 m c t.val t.isLt).2 = Pipeline.accAt (reset4 m c) (step4 m c) (4 * (t.val / 4)) (t.val % 4)
      (by have h1 := t.isLt; have h2 := Nat.div_add_mod t.val 4; omega) :=
  Pipeline.eq_accAt_of_mod (fun n h => (outsAt0 m c n h).2) 4 (reset4 m c) (step4 m c)
    (fun n h hn => by
      have e := out_A_4 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (blk0 m c ⟨n, h⟩) (blk1 m c ⟨n, h⟩) (blk2 m c ⟨n, h⟩) ((hcond0_0 ⟨n, h⟩).mpr hn)
      have o := congrArg (fun q => q.2) (outsAt0_A m c ⟨n, h⟩ hn)
      simp only at o
      exact o.trans e)
    (fun n h hn => by
      have e := out_B_4 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (blk0 m c ⟨n + 1, h⟩) (blk1 m c ⟨n + 1, h⟩) (blk2 m c ⟨n + 1, h⟩) ((outsAt0 m c n (Nat.lt_of_succ_lt h)).2) (fun e => hn ((hcond0_0 ⟨n + 1, h⟩).mp e))
      have o := congrArg (fun q => q.2) (outsAt0_B m c ⟨n + 1, h⟩ hn)
      simp only at o
      exact o.trans e)
    (by decide) t.val t.isLt _

/-- What grid point `n` adds at an entry: its sequence's share. -/
def adds (c : Dev nD) (n : ℕ) (i : S4x512.Idx) : EReal :=
  if h : n < cfg0.N then part (fun r => blk2 m c ⟨n, h⟩ (ix3 0 r (i 1))) (fun r => blk0 m c ⟨n, h⟩ (ix3 0 r (i 1))) (i 0) else 0

theorem sum_adds (c : Dev nD) (b : ℕ) (h : b + 3 < cfg0.N) (i : S4x512.Idx) :
    Pipeline.accAt (reset4 m c) (step4 m c) b 3 h i = ∑ s ∈ Finset.range 4, adds m c (b + s) i := by
  refine (Pipeline.accAt_add_apply (β := EReal) (reset4 m c) (step4 m c) (fun _ => 0) (adds m c) b 3 ?_ ?_ 3 le_rfl h i).trans (zero_add _)
  · intro hb i
    unfold adds; rw [dif_pos hb]
    exact (bw_apply _ _ _ i).trans (by rw [zero_apply])
  · intro n hn acc i _ _
    unfold adds; rw [dif_pos hn]
    exact bw_apply _ _ _ i

/-- The four sequences' shares make the gradient. -/
theorem adds_eq (c : Dev nD) (q : ℕ) (hq : q < 2) (i : S4x512.Idx) :
    ∑ s ∈ Finset.range 4, adds m c (4 * q + s) i = wgrad m c (ix2 (i 0) ⟨q * 512 + (i 1).val, by have h : (i 1).val < 512 := (i 1).isLt; omega⟩) := by
  have hN : cfg0.N = 8 := N_0
  unfold wgrad
  rw [Finset.sum_range]
  refine Finset.sum_congr rfl fun s _ => ?_
  have hs : s.val < 4 := s.isLt
  have h : 4 * q + s.val < cfg0.N := by omega
  unfold adds; rw [dif_pos h]
  have d0 : (4 * q + s.val) % 4 = s.val := by omega
  have d1 : (4 * q + s.val) / 4 = q := by omega
  refine congrArg₂ (fun d f => part d f (i 0)) (funext fun r => (block2 m c ⟨4 * q + s.val, h⟩ 0 r (i 1)).trans ?_) (funext fun r => (block0 m c ⟨4 * q + s.val, h⟩ 0 r (i 1)).trans ?_)
  · exact congrArg₂ (fun a b => ct m c (ix3 a r b)) (Fin.ext d0) (Fin.ext (congrArg (· * 512 + (i 1).val) d1))
  · exact congrArg₂ (fun a b => rows m c (ix3 a r b)) (Fin.ext d0) (Fin.ext (congrArg (· * 512 + (i 1).val) d1))

/-- What a column's last point writes back is its block of the weights' gradient. -/
theorem flushed_4 (c : Dev nD) (t : Fin cfg0.N) (hf : (cfg0.win 4).flush t = true) :
    (dats m 0 c).flushed 4 t = ((cfg0.win 4).blk t).view.read (Elt Ideal) (wgrad m c) := by
  have hN : cfg0.N = 8 := N_0
  have hm : t.val % 4 = 3 := (flush0_4 t).mp hf
  have hq : t.val / 4 < 2 := by have := t.isLt; omega
  have hv : ∀ (j : ℕ) (h : 4 * (t.val / 4) + j < cfg0.N), j = 3 → ∀ i : S4x512.Idx, Pipeline.accAt (reset4 m c) (step4 m c) (4 * (t.val / 4)) j h i = wgrad m c (ix2 (i 0) ⟨t.val / 4 * 512 + (i 1).val, col_lt t (i 1)⟩) := by
    intro j h ej i
    subst ej
    rw [sum_adds, adds_eq m c _ hq]
  rw [flushed4, out_4]
  funext y
  have e := index4 t
  have e0 : ((cfg0.win 4).blk t).view.emb y (0 : Fin 2) = (⟨(y 0).val, (y 0).isLt⟩ : Fin 4) := Fin.ext (by
    show win0_4.index t (0 : Fin 2) * 4 + 1 * (y 0).val = _; rw [e]; show 0 * 4 + 1 * (y 0).val = (y 0).val; omega)
  have e1 : ((cfg0.win 4).blk t).view.emb y (1 : Fin 2) = (⟨t.val / 4 * 512 + (y 1).val, col_lt t (y 1)⟩ : Fin 1024) := Fin.ext (by
    show win0_4.index t (1 : Fin 2) * 512 + 1 * (y 1).val = _; rw [e]; show t.val / 4 * 512 + 1 * (y 1).val = t.val / 4 * 512 + (y 1).val; omega)
  show _ = wgrad m c (((cfg0.win 4).blk t).view.emb y)
  rw [eq_ix2 (((cfg0.win 4).blk t).view.emb y), e0, e1]
  exact hv _ _ hm y

theorem covered_4 (i : S4x1024.Idx) : ∃ t : Fin cfg0.N, (cfg0.win 4).flush t = true ∧ i ∈ ((cfg0.win 4).blk t).view.set := by
  have h0 : (i 0).val < 4 := (i 0).isLt
  have h1 : (i 1).val < 1024 := (i 1).isLt
  have hN : cfg0.N = 8 := N_0
  obtain ⟨n, hn⟩ : ∃ n, n = (i 1).val / 512 * 4 + 3 := ⟨_, rfl⟩
  have ht : n < cfg0.N := by omega
  refine ⟨⟨n, ht⟩, (flush0_4 _).mpr (by show n % 4 = 3; omega), ?_⟩
  show i ∈ ((View.whole main_v0_1).slice (win0_4.rect ⟨n, ht⟩)).set
  rw [View.set_slice_whole, Rect.mem_set_unit]
  have e := index4 ⟨n, ht⟩
  intro a
  match a with
  | ⟨0, _⟩ =>
    show win0_4.index ⟨n, ht⟩ (0 : Fin 2) * 4 ≤ (i 0).val ∧ (i 0).val < win0_4.index ⟨n, ht⟩ (0 : Fin 2) * 4 + 4
    rw [e]; show 0 * 4 ≤ (i 0).val ∧ (i 0).val < 0 * 4 + 4; omega
  | ⟨1, _⟩ =>
    show win0_4.index ⟨n, ht⟩ (1 : Fin 2) * 512 ≤ (i 1).val ∧ (i 1).val < win0_4.index ⟨n, ht⟩ (1 : Fin 2) * 512 + 512
    rw [e]; show n / 4 * 512 ≤ (i 1).val ∧ (i 1).val < n / 4 * 512 + 512; omega

theorem final_4 (c : Dev nD) : (dats m 0 c).arrAt 4 cfg0.N = wgrad m c :=
  (dats m 0 c).arrAt_eq_of_cover 4 _ (fun t hf => flushed_4 m c t hf) covered_4

end Cert.Kernel23Ideal.Result

namespace Cert.Reference23Ideal.Result

open Cert.Reference23Ideal Cert.Reference23Ideal.Gen
open Idealize.ShloMosaic
open Cert.Kernel24Ideal.Result (back)
open Cert.Kernel23Ideal.Result (ahead)

/-- A sum over the first two axes. -/
theorem sum_two {n0 n1 n2 : Nat} (h : (⟨3, ![n0, n1, n2]⟩ : Shape).ReducesTo [0, 1] ⟨1, ![n2]⟩) (v : (⟨3, ![n0, n1, n2]⟩ : Shape).Idx → EReal) (z : EReal) (k : Fin n2) :
    Ideal.hostReduceAdd h v z (ix1 k) = z + ∑ a : Fin n0, ∑ b : Fin n1, v (ix3 a b k) := by
  unfold Ideal.hostReduceAdd
  rw [Finset.sum_filter_eq_sum_of_fiber _ (fun p : Fin n0 × Fin n1 => ix3 p.1 p.2 k) (fun _ _ e => Prod.ext (congrFun e 0) (congrFun e 1)) ?_ v, Fintype.sum_prod_type]
  intro i
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨k, rfl⟩
    funext b
    match b with
    | ⟨0, _⟩ => rfl

theorem sums (d s : FVec Ideal S4x2048x1024 .f32) (k : Fin 1024) :
    (Host.reduceAdd (shapeCast _ (Host.reduceAdd (mulf (shapeCast _ d shapeCasts_S4x2048x1024_S4x2048x1024) s) (constant S_ .f32 0x00000000#32) reducesTo_S4x2048x1024_S1024_d0_1 h_S_) shapeCasts_S1024_S1x1x1024) (constant S_ .f32 0x00000000#32) reducesTo_S1x1x1024_S1024_d0_1 h_S_ : FVec Ideal S1024 .f32) (ix1 k)
      = ∑ b, ∑ r, d (ix3 b r k) * s (ix3 b r k) := by
  rw [Host.reduceAdd_apply, Ideal.hostReduceAdd_def, sum_two]
  pointwise
  rw [sum_two]
  pointwise
  exact (Fin.sum_univ_one _).trans (Fin.sum_univ_one _)

/-- The padded sequence from one of its first rows on. -/
theorem shift (o : Nat) (ho : o ≤ 3) (hs : S4x2051x1024.Slices ![0, o, 0] S4x2048x1024) (x : FVec Ideal S4x2048x4224 .f32) (b : Fin 4) (r : Fin 2048) (k : Fin 1024) :
    (extractStridedSlice S4x2048x1024 ![0, o, 0] (concatenate S4x2051x1024 1 [⟨S4x3x1024, (broadcastInDim S4x3x1024 ![] bcast_S_S4x3x1024 (constant S_ .f32 0x00000000#32))⟩, ⟨S4x2048x1024, (extractStridedSlice S4x2048x1024 ![0, 0, 0] x slices_S4x2048x4224_S4x2048x1024_0_0_0)⟩] concatenates_S4x3x1024_S4x2048x1024_S4x2051x1024_d1) hs : FVec Ideal S4x2048x1024 .f32) (ix3 b r k)
      = back (fun r => x (ix3 b r ⟨k.val, Nat.lt_trans k.isLt (by decide)⟩)) (3 - o) r := by
  unfold back
  pointwise
  by_cases h : 3 - o ≤ r.val
  · rw [dif_neg (by omega), if_pos h]
    exact congrArg (fun q => x (ix3 b q ⟨k.val, Nat.lt_trans k.isLt (by decide)⟩)) (Fin.ext (by show o + r.val - 3 = r.val - (3 - o); omega))
  · rw [dif_pos (by omega), if_neg h]

/-- Four rows, each padded to its place, added. -/
theorem placed {A B C D : FVec Ideal S1024 .f32} {g : Fin 4 → EReal} {k : Fin 1024} (h3 : A (ix1 k) = g 3) (h2 : B (ix1 k) = g 2) (h1 : C (ix1 k) = g 1) (h0 : D (ix1 k) = g 0) (j : Fin 4) :
    (addf (addf (addf (pad S4x1024 ![3, 0] ![0, 0] ![0, 0] (broadcastInDim S1x1024 ![1] bcast_S1024_S1x1024_1 A) (constant S_ .f32 0x00000000#32) pads_S1x1024_S4x1024_300_000 h_S_) (pad S4x1024 ![2, 0] ![1, 0] ![0, 0] (broadcastInDim S1x1024 ![1] bcast_S1024_S1x1024_1 B) (constant S_ .f32 0x00000000#32) pads_S1x1024_S4x1024_210_000 h_S_)) (pad S4x1024 ![1, 0] ![2, 0] ![0, 0] (broadcastInDim S1x1024 ![1] bcast_S1024_S1x1024_1 C) (constant S_ .f32 0x00000000#32) pads_S1x1024_S4x1024_120_000 h_S_)) (pad S4x1024 ![0, 0] ![3, 0] ![0, 0] (broadcastInDim S1x1024 ![1] bcast_S1024_S1x1024_1 D) (constant S_ .f32 0x00000000#32) pads_S1x1024_S4x1024_030_000 h_S_) : FVec Ideal S4x1024 .f32) (ix2 j k) = g j := by
  match j with
  | 0 => rw [← h0]; pointwise
  | 1 => rw [← h1]; pointwise
  | 2 => rw [← h2]; pointwise
  | 3 => rw [← h3]; pointwise

theorem lifted (f : Fin 2048 → EReal) (p k : Nat) (r : Fin 2048) (hk : p + k = 3) :
    (if h : p ≤ 3 + r.val ∧ 3 + r.val - p < 2048 then f ⟨3 + r.val - p, h.2⟩ else 0) = ahead f k r := by
  unfold ahead
  by_cases h : r.val + k < 2048
  · rw [dif_pos (by omega), dif_pos h]
    exact congrArg f (Fin.ext (by show 3 + r.val - p = r.val + k; omega))
  · rw [dif_neg (by omega), dif_neg h]

/-- Four arrays, each padded to its place, added, without the three first rows. -/
theorem shifted (A B C D : FVec Ideal S4x2048x1024 .f32) (a : Fin 4) (r : Fin 2048) (k : Fin 1024) :
    (truncf .bf16 (extractStridedSlice S4x2048x1024 ![0, 3, 0] (addf (addf (addf (pad S4x2051x1024 ![0, 3, 0] ![0, 0, 0] ![0, 0, 0] A (constant S_ .f32 0x00000000#32) pads_S4x2048x1024_S4x2051x1024_000_300_000 h_S_) (pad S4x2051x1024 ![0, 2, 0] ![0, 1, 0] ![0, 0, 0] B (constant S_ .f32 0x00000000#32) pads_S4x2048x1024_S4x2051x1024_000_210_000 h_S_)) (pad S4x2051x1024 ![0, 1, 0] ![0, 2, 0] ![0, 0, 0] C (constant S_ .f32 0x00000000#32) pads_S4x2048x1024_S4x2051x1024_000_120_000 h_S_)) (pad S4x2051x1024 ![0, 0, 0] ![0, 3, 0] ![0, 0, 0] D (constant S_ .f32 0x00000000#32) pads_S4x2048x1024_S4x2051x1024_000_030_000 h_S_)) slices_S4x2051x1024_S4x2048x1024_0_3_0) bitsLt_bf16_f32 : FVec Ideal S4x2048x1024 .bf16) (ix3 a r k)
      = A (ix3 a r k) + ahead (fun r => B (ix3 a r k)) 1 r + ahead (fun r => C (ix3 a r k)) 2 r + ahead (fun r => D (ix3 a r k)) 3 r := by
  rw [← lifted _ 2 1 _ rfl, ← lifted _ 1 2 _ rfl, ← lifted _ 0 3 _ rfl]
  pointwise

theorem weight (o : Fin 4) (hs : S4x1024.Slices ![o.val, 0] S1x1024) (w : FVec Ideal S4x1024 .f32) (d : FVec Ideal S4x2048x1024 .f32) (i : S4x2048x1024.Idx) :
    (mulf (broadcastInDim S4x2048x1024 ![0, 1, 2] bcast_S1x1x1024_S4x2048x1024_0_1_2 (broadcastInDim S1x1x1024 ![2] bcast_S1024_S1x1x1024_2 (shapeCast _ (extractStridedSlice S1x1024 ![o.val, 0] w hs) shapeCasts_S1x1024_S1024))) (shapeCast _ d shapeCasts_S4x2048x1024_S4x2048x1024) : FVec Ideal S4x2048x1024 .f32) i
      = d (ix3 (i 0) (i 1) (i 2)) * w (ix2 o (i 2)) := by
  rw [mul_comm]
  pointwise

end Cert.Reference23Ideal.Result

namespace Cert.Proof.ConvBackward

open Idealize.ShloMosaic Idealize.ShloMosaic.TcCoe Idealize.SL.Sem
open Cert.Reference23Ideal.Result
open Cert.Kernel23Ideal.Result (rows wts ct ahead part final_3 final_4)

theorem frame_kernel : Cert.quiescent_Kernel23 (hKernel23 := Cert.Kernel23.Gen.facts) := fun m ρ _ => Cert.Kernel23.Gen.frame m ρ

theorem frame_kernelIdeal : Cert.quiescent_Kernel23Ideal (hKernel23Ideal := Cert.Kernel23Ideal.Gen.facts) := fun m ρ _ => Cert.Kernel23Ideal.Gen.frame m ρ

theorem frame_referenceIdeal : Cert.quiescent_Reference23Ideal (hReference23Ideal := Cert.Reference23Ideal.Gen.facts) := fun m ρ _ =>
  (θ_run Cert.Reference23Ideal.defs _ _).mono
    (fun r h => ⟨fun c => (h c).2.2, sem_eq_zero_of_no_sems (by decide) r.2⟩)
    (Cert.Reference23Ideal.Value.run (F := Ideal) m ρ)

/-- Over the extended reals the kernel computes the reference's values. -/
theorem algebraic : Cert.algebraic_Kernel23Ideal_Reference23Ideal (hKernel23Ideal := Cert.Kernel23Ideal.Gen.facts) (hReference23Ideal := Cert.Reference23Ideal.Gen.facts) := by
  intro m ρ m' ρ' _ hagree
  refine ⟨_, _, Cert.Kernel23Ideal.Value.run_blocks (F := Ideal) m ρ, ?_⟩
  refine (θ_run Cert.Reference23Ideal.defs _ _).mono (fun _ h c => ⟨(h c).1.trans ?_, (h c).2.1.trans ?_, (h c).2.2⟩)
    (Cert.Reference23Ideal.Value.run (F := Ideal) m' ρ')
  · rw [(hagree c).2.1, (hagree c).2.2, final_3]
    funext i
    refine (congrArg _ (eq_ix3 i)).trans ((shifted _ _ _ _ (i 0) (i 1) (i 2)).trans ?_)
    have ew := fun (o : Fin 4) hs r => weight o hs (wts m c) (ct m c) (ix3 (i 0) r (i 2))
    exact congrArg₂ _ (congrArg₂ _ (congrArg₂ _ (ew 3 _ (i 1)) (congrArg (ahead · 1 _) (funext fun r => ew 2 _ r)))
      (congrArg (ahead · 2 _) (funext fun r => ew 1 _ r))) (congrArg (ahead · 3 _) (funext fun r => ew 0 _ r))
  · rw [(hagree c).1, (hagree c).2.2, final_4]
    funext i
    have es := fun (o : Nat) ho hs b r => congrArg (ct m c (ix3 b r (i 1)) * ·) (shift o ho hs (rows m c) b r (i 1))
    refine (congrArg _ (eq_ix2 i)).trans (placed (g := fun j => ∑ b : Fin 4, part (fun r => ct m c (ix3 b r (i 1))) (fun r => rows m c (ix3 b r ⟨(i 1).val, Nat.lt_trans (i 1).isLt (by decide)⟩)) j) ?_ ?_ ?_ ?_ (i 0))
    · exact (sums _ _ (i 1)).trans (Finset.sum_congr rfl fun b _ => Finset.sum_congr rfl fun r _ => es 3 (by omega) _ b r)
    · exact (sums _ _ (i 1)).trans (Finset.sum_congr rfl fun b _ => Finset.sum_congr rfl fun r _ => es 2 (by omega) _ b r)
    · exact (sums _ _ (i 1)).trans (Finset.sum_congr rfl fun b _ => Finset.sum_congr rfl fun r _ => es 1 (by omega) _ b r)
    · exact (sums _ _ (i 1)).trans (Finset.sum_congr rfl fun b _ => Finset.sum_congr rfl fun r _ => es 0 (by omega) _ b r)

end Cert.Proof.ConvBackward

end
-- ==== Proof.Mixer.SumAdamw.lean ====
/-
  The optimiser's step of one weight: the chips' parts of its gradient summed, and AdamW with that sum.
-/
module

public import proofs.«01_k».proof.Defs
public import proofs.«01_k».proof.Proof.Gen.Kernel25.Frame
public import proofs.«01_k».proof.Proof.Gen.Kernel25Ideal.Value
public import proofs.«01_k».proof.Proof.Gen.Reference25Ideal.Run
public import Idealize.ShloMosaic.Lib.Quiescent
public import Idealize.ShloMosaic.Lib.Pointwise

@[expose] public section

set_option maxRecDepth 65536

noncomputable section

namespace Cert.Kernel25Ideal.Result

open Cert.Kernel25Ideal Cert.Kernel25Ideal.Gen Cert.Kernel25Ideal.Value
open Idealize.ShloMosaic Idealize.ShloMosaic.TcCoe Idealize.SL.Sem

variable (m : (ℓ : Loc nD τ sig) → Buf (Elt Ideal) ℓ)

/-- An array of the weight's shape. -/
abbrev Arr := FVec Ideal S8x1024x352 .f32

/-- The parts of the gradient, the weight and its two moments. -/
abbrev parts (c : Dev nD) : FVec Ideal S4x8x1024x384 .f32 := m ((c : Thread nD τ).loc main_arg0)
abbrev weight (c : Dev nD) : Arr := m ((c : Thread nD τ).loc main_arg1)
abbrev mean (c : Dev nD) : Arr := m ((c : Thread nD τ).loc main_arg2)
abbrev square (c : Dev nD) : Arr := m ((c : Thread nD τ).loc main_arg3)

/-- The sum of the parts, the new moments and the change of the weight, at one entry. -/
def total (p : Fin 4 → EReal) : EReal := p 0 + p 1 + p 2 + p 3
def newMean (g a : EReal) : EReal := Ideal.ofBits .f32 0x3F666666#32 * a + Ideal.ofBits .f32 0x3DCCCCCD#32 * g
def newSquare (g v : EReal) : EReal := Ideal.ofBits .f32 0x3F7FBE77#32 * v + Ideal.ofBits .f32 0x3A83126F#32 * (g * g)
def change (w a v : EReal) : EReal :=
  Ideal.ofBits .f32 0xBA83126F#32 * (Ideal.div (Ideal.div a (Ideal.ofBits .f32 0x3F26BD02#32)) (Ideal.sqrt (Ideal.div v (Ideal.ofBits .f32 0x3C231ACC#32)) + Ideal.ofBits .f32 0x322BCC77#32) + Ideal.ofBits .f32 0x3C23D70A#32 * w)

/-- A weight's column among the parts' columns. -/
abbrev wide (k : Fin 352) : Fin 384 := ⟨k.val, Nat.lt_trans k.isLt (by decide)⟩

/-- The part of a block a load reads. -/
theorem load_apply (x : Vec Ideal S4x1x256x384 .bf16) (k : Fin 4) (off : Fin 4 → Nat) (inb : ∀ a, off a + S1x1x256x384.size a ≤ S4x1x256x384.size a) (h : off = ![k.val, 0, 0, 0]) (r : Fin 256) (z : Fin 384) :
    (View.ld x (Rect.unit (s := S4x1x256x384) off S1x1x256x384.size inb) : Vec Ideal S1x1x256x384 .bf16) (ix4 0 0 r z) = x (ix4 k 0 r z) := by
  subst h
  refine congrArg x (funext fun a => Fin.ext ?_)
  match a with
  | ⟨0, _⟩ => show k.val + 1 * 0 = k.val; omega
  | ⟨1, _⟩ => show 0 + 1 * 0 = 0; omega
  | ⟨2, _⟩ => show 0 + 1 * r.val = r.val; omega
  | ⟨3, _⟩ => show 0 + 1 * z.val = z.val; omega

section
variable (x0 : FVec Ideal S4x1x256x384 .bf16) (x1 x2 x3 : FVec Ideal S1x256x352 .f32) (p0 p1 p2 p3 : FVec Ideal S1x1x256x384 .bf16) (y : S1x256x352.Idx)

/-- The block's sum of the parts. -/
def sumOf : EReal := total fun k => x0 (ix4 k 0 (y 1) (wide (y 2)))

/-- What the body computes of its loads. -/
theorem pay_sum : k0_pay2 (F := Ideal) (k0_pay6 p0 p1 p2 p3) y =
    p0 (ix4 0 0 (y 1) (wide (y 2))) + p1 (ix4 0 0 (y 1) (wide (y 2))) + p2 (ix4 0 0 (y 1) (wide (y 2))) + p3 (ix4 0 0 (y 1) (wide (y 2))) := by
  pointwise [k0_pay2, k0_pay6]
theorem pay_mean : k0_pay4 (F := Ideal) (k0_pay8 p0 p1 p2 p3 x2) y = newMean (k0_pay2 (F := Ideal) (k0_pay6 p0 p1 p2 p3) y) (x2 y) := by
  unfold newMean
  pointwise [k0_pay4, k0_pay8, k0_pay2]
theorem pay_square : k0_pay5 (F := Ideal) (k0_pay9 x3) (k0_pay10 p0 p1 p2 p3) y = newSquare (k0_pay2 (F := Ideal) (k0_pay6 p0 p1 p2 p3) y) (x3 y) := by
  unfold newSquare
  pointwise [k0_pay5, k0_pay1, k0_pay9, k0_pay10, k0_pay2]
theorem pay_change (a v s : FVec Ideal S256x352 .f32) : k0_pay3 (F := Ideal) (k0_pay7 x1) a v s y = change (x1 y) (k0_pay4 (F := Ideal) a y) (k0_pay5 (F := Ideal) v s y) := by
  unfold change
  pointwise [k0_pay3, k0_pay7, k0_pay4, k0_pay5]

theorem hz : (![0, 0, 0] : Fin 3 → Nat) = fun _ => 0 := funext fun a => by fin_cases a <;> rfl

/-- The blocks the body leaves. -/
theorem loads : k0_pay2 (F := Ideal) (k0_pay6 (View.ld x0 r0_0) (View.ld x0 r0_1) (View.ld x0 r0_2) (View.ld x0 r0_3)) y = sumOf x0 y := by
  unfold sumOf total
  rw [pay_sum]
  exact congrArg₂ (· + ·) (congrArg₂ (· + ·) (congrArg₂ (· + ·) (load_apply x0 0 _ _ rfl _ _) (load_apply x0 1 _ _ rfl _ _)) (load_apply x0 2 _ _ rfl _ _)) (load_apply x0 3 _ _ rfl _ _)
theorem out_4 : out0_4 (F := Ideal) x0 x1 x2 x3 y = sumOf x0 y := by
  unfold out0_4
  rw [View.canon_unit_zero hz, loads]
theorem out_6 : out0_6 (F := Ideal) x0 x1 x2 x3 y = newMean (sumOf x0 y) (x2 y) := by
  unfold out0_6 k0_pay11
  rw [View.canon_unit_zero hz, pay_mean, loads, View.ld_unit_zero (S := S1x256x352) hz]
theorem out_7 : out0_7 (F := Ideal) x0 x1 x2 x3 y = newSquare (sumOf x0 y) (x3 y) := by
  unfold out0_7 k0_pay12 k0_pay13
  rw [View.canon_unit_zero hz, pay_square, loads, View.ld_unit_zero (S := S1x256x352) hz]
theorem out_5 : out0_5 (F := Ideal) x0 x1 x2 x3 y = change (x1 y) (newMean (sumOf x0 y) (x2 y)) (newSquare (sumOf x0 y) (x3 y)) := by
  rw [← out_6 x0 x1 x2 x3 y, ← out_7 x0 x1 x2 x3 y]
  unfold out0_5 out0_6 out0_7
  rw [View.canon_unit_zero hz, View.canon_unit_zero hz, View.canon_unit_zero hz, pay_change, View.ld_unit_zero (S := S1x256x352) hz]

end

/-- What the inputs hold when the blocks are fetched: the arguments, the parts rounded. -/
theorem entry0 (c : Dev nD) : V m c main_v0 = truncf .bf16 (parts m c) bitsLt_bf16_f32 := by
  show StableHlo.after hostOps0 (fun b => m (c, b)) main_v0 = _
  after_results

/-- Which blocks a grid point reads and writes; all windows but the first go the same way. -/
theorem index0 : ∀ t : Fin cfg0.N, win0_0.index t = ![0, t.val / 4, t.val % 4, 0] := (by decide +kernel : ∀ t : Fin grid0.N, _)
theorem index1 : ∀ t : Fin cfg0.N, win0_1.index t = ![t.val / 4, t.val % 4, 0] := (by decide +kernel : ∀ t : Fin grid0.N, _)

theorem layer_lt (t : Fin cfg0.N) : t.val / 4 < 8 := by have := t.isLt; have hN : cfg0.N = 32 := N_0; omega
theorem row_lt (t : Fin cfg0.N) (r : Fin 256) : t.val % 4 * 256 + r.val < 1024 := by omega

variable (c : Dev nD) (t : Fin cfg0.N) (y : S1x256x352.Idx)

/-- Where an entry of a grid point's block lies in the array. -/
abbrev spot : S8x1024x352.Idx := ix3 ⟨t.val / 4, layer_lt t⟩ ⟨t.val % 4 * 256 + (y 1).val, row_lt t (y 1)⟩ (y 2)

theorem eq_spot (e : Fin 3 → Nat) (he : e = ![t.val / 4, t.val % 4, 0]) (j : S8x1024x352.Idx)
    (h0 : (j 0).val = e 0 * 1 + 1 * (y 0).val) (h1 : (j 1).val = e 1 * 256 + 1 * (y 1).val) (h2 : (j 2).val = e 2 * 352 + 1 * (y 2).val) : j = spot t y := by
  subst he
  have hy : (y 0).val < 1 := (y 0).isLt
  have h0' : (j 0).val = t.val / 4 * 1 + 1 * (y 0).val := h0
  have h1' : (j 1).val = t.val % 4 * 256 + 1 * (y 1).val := h1
  have h2' : (j 2).val = 0 * 352 + 1 * (y 2).val := h2
  refine funext fun a => Fin.ext ?_
  match a with
  | ⟨0, _⟩ => show (j 0).val = t.val / 4; omega
  | ⟨1, _⟩ => show (j 1).val = t.val % 4 * 256 + (y 1).val; omega
  | ⟨2, _⟩ => show (j 2).val = (y 2).val; omega

/-- The blocks in the arrays' own coordinates. -/
theorem block0 (k : Fin 4) (z : Fin 384) :
    (iblk m c 0 t : FVec Ideal S4x1x256x384 .bf16) (ix4 k 0 (y 1) z) = parts m c (ix4 k (spot t y 0) (spot t y 1) z) := by
  refine Eq.trans ?_ (congrFun (entry0 m c) (ix4 k (spot t y 0) (spot t y 1) z))
  show V m c main_v0 (((cfg0.win 0).blk t).view.emb (ix4 k 0 (y 1) z)) = _
  have e := index0 t
  refine congrArg _ (funext fun a => Fin.ext ?_)
  match a with
  | ⟨0, _⟩ => show win0_0.index t (0 : Fin 4) * 4 + 1 * k.val = _; rw [e]; show 0 * 4 + 1 * k.val = k.val; omega
  | ⟨1, _⟩ => show win0_0.index t (1 : Fin 4) * 1 + 1 * 0 = _; rw [e]; show t.val / 4 * 1 + 1 * 0 = t.val / 4; omega
  | ⟨2, _⟩ => show win0_0.index t (2 : Fin 4) * 256 + 1 * (y 1).val = _; rw [e]; show t.val % 4 * 256 + 1 * (y 1).val = t.val % 4 * 256 + (y 1).val; omega
  | ⟨3, _⟩ => show win0_0.index t (3 : Fin 4) * 384 + 1 * z.val = _; rw [e]; show 0 * 384 + 1 * z.val = z.val; omega
theorem block1 : (iblk m c 1 t : FVec Ideal S1x256x352 .f32) y = weight m c (spot t y) := by
  refine Eq.trans ?_ (congrFun (V_main_arg1 m c) (spot t y))
  exact congrArg (V m c main_arg1) (eq_spot t y _ (index1 t) _ rfl rfl rfl)
theorem block2 : (iblk m c 2 t : FVec Ideal S1x256x352 .f32) y = mean m c (spot t y) := by
  refine Eq.trans ?_ (congrFun (V_main_arg2 m c) (spot t y))
  exact congrArg (V m c main_arg2) (eq_spot t y _ (index1 t) _ rfl rfl rfl)
theorem block3 : (iblk m c 3 t : FVec Ideal S1x256x352 .f32) y = square m c (spot t y) := by
  refine Eq.trans ?_ (congrFun (V_main_arg3 m c) (spot t y))
  exact congrArg (V m c main_arg3) (eq_spot t y _ (index1 t) _ rfl rfl rfl)

/-- The four results, entry by entry. -/
def gradient : Arr := fun i => total fun k => parts m c (ix4 k (i 0) (i 1) (wide (i 2)))
def nextMean : Arr := fun i => newMean (gradient m c i) (mean m c i)
def nextSquare : Arr := fun i => newSquare (gradient m c i) (square m c i)
def delta : Arr := fun i => change (weight m c i) (nextMean m c i) (nextSquare m c i)

theorem sum_block : sumOf (iblk m c 0 t) y = gradient m c (spot t y) :=
  congrArg total (funext fun k => block0 m c t y k (wide (y 2)))

/-- Every entry is in the block of one grid point. -/
theorem inside (i : S8x1024x352.Idx) : ∃ t : Fin cfg0.N, ∀ (e : Fin 3 → Nat) (inb), e = ![t.val / 4, t.val % 4, 0] →
    i ∈ ((View.whole main_v1_0).slice (Rect.unit (fun a => e a * S1x256x352.size a) S1x256x352.size inb)).set := by
  have h0 : (i 0).val < 8 := (i 0).isLt
  have h1 : (i 1).val < 1024 := (i 1).isLt
  have h2 : (i 2).val < 352 := (i 2).isLt
  have hN : cfg0.N = 32 := N_0
  obtain ⟨n, hn⟩ : ∃ n, n = (i 0).val * 4 + (i 1).val / 256 := ⟨_, rfl⟩
  refine ⟨⟨n, by omega⟩, fun e inb he => ?_⟩
  subst he
  rw [View.set_slice_whole, Rect.mem_set_unit]
  intro a
  match a with
  | ⟨0, _⟩ => show n / 4 * 1 ≤ (i 0).val ∧ (i 0).val < n / 4 * 1 + 1; omega
  | ⟨1, _⟩ => show n % 4 * 256 ≤ (i 1).val ∧ (i 1).val < n % 4 * 256 + 256; omega
  | ⟨2, _⟩ => show 0 * 352 ≤ (i 2).val ∧ (i 2).val < 0 * 352 + 352; omega

/-- The arrays after the run: what the grid points write back is their blocks of the results, and these tile the arrays. -/
theorem final_4 : (dats m 0 c).arrAt 4 cfg0.N = gradient m c :=
  (dats m 0 c).arrAt_eq_of_cover 4 _ (fun t _ => by
    rw [flushed4]
    funext y
    refine (out_4 _ _ _ _ y).trans ?_
    rw [sum_block m c t y]
    exact (congrArg (gradient m c) (eq_spot t y _ (index1 t) _ rfl rfl rfl)).symm) (fun i => by
    obtain ⟨t, ht⟩ := inside i
    exact ⟨t, flush0_4 t, ht _ _ (index1 t)⟩)
theorem final_5 : (dats m 0 c).arrAt 5 cfg0.N = delta m c :=
  (dats m 0 c).arrAt_eq_of_cover 5 _ (fun t _ => by
    rw [flushed5]
    funext y
    refine (out_5 _ _ _ _ y).trans ?_
    rw [sum_block m c t y, block1 m c t y, block2 m c t y, block3 m c t y]
    exact (congrArg (delta m c) (eq_spot t y _ (index1 t) _ rfl rfl rfl)).symm) (fun i => by
    obtain ⟨t, ht⟩ := inside i
    exact ⟨t, flush0_5 t, ht _ _ (index1 t)⟩)
theorem final_6 : (dats m 0 c).arrAt 6 cfg0.N = nextMean m c :=
  (dats m 0 c).arrAt_eq_of_cover 6 _ (fun t _ => by
    rw [flushed6]
    funext y
    refine (out_6 _ _ _ _ y).trans ?_
    rw [sum_block m c t y, block2 m c t y]
    exact (congrArg (nextMean m c) (eq_spot t y _ (index1 t) _ rfl rfl rfl)).symm) (fun i => by
    obtain ⟨t, ht⟩ := inside i
    exact ⟨t, flush0_6 t, ht _ _ (index1 t)⟩)
theorem final_7 : (dats m 0 c).arrAt 7 cfg0.N = nextSquare m c :=
  (dats m 0 c).arrAt_eq_of_cover 7 _ (fun t _ => by
    rw [flushed7]
    funext y
    refine (out_7 _ _ _ _ y).trans ?_
    rw [sum_block m c t y, block3 m c t y]
    exact (congrArg (nextSquare m c) (eq_spot t y _ (index1 t) _ rfl rfl rfl)).symm) (fun i => by
    obtain ⟨t, ht⟩ := inside i
    exact ⟨t, flush0_7 t, ht _ _ (index1 t)⟩)

end Cert.Kernel25Ideal.Result

namespace Cert.Reference25Ideal.Result

open Cert.Reference25Ideal Cert.Reference25Ideal.Gen
open Idealize.ShloMosaic
open Cert.Kernel25Ideal.Result (total newMean newSquare change wide)

/-- A number at every entry. -/
abbrev num (b : BitVec 32) : FVec Ideal S8x1024x352 .f32 := broadcastInDim S8x1024x352 ![] bcast_S_S8x1024x352 (constant S_ .f32 b)

/-- The reference's four results at an index. -/
theorem sum_apply (p : FVec Ideal S4x8x1024x384 .f32) (i : S8x1024x352.Idx) :
    (extractStridedSlice S8x1024x352 ![0, 0, 0] (Host.reduceAdd p (constant S_ .f32 0x00000000#32) reducesTo_S4x8x1024x384_S8x1024x384_d0 h_S_) slices_S8x1024x384_S8x1024x352_0_0_0 : FVec Ideal S8x1024x352 .f32) i = total fun k => p (ix4 k (i 0) (i 1) (wide (i 2))) := by
  unfold total
  rw [← Fin.sum_univ_four fun k => p (ix4 k (i 0) (i 1) (wide (i 2)))]
  pointwise
theorem mean_apply (g a : FVec Ideal S8x1024x352 .f32) (i : S8x1024x352.Idx) : (addf (mulf (num 0x3F666666#32) a) (mulf (num 0x3DCCCCCD#32) g) : FVec Ideal S8x1024x352 .f32) i = newMean (g i) (a i) := by
  unfold newMean
  pointwise
theorem square_apply (g v : FVec Ideal S8x1024x352 .f32) (i : S8x1024x352.Idx) : (addf (mulf (num 0x3F7FBE77#32) v) (mulf (num 0x3A83126F#32) (mulf g g)) : FVec Ideal S8x1024x352 .f32) i = newSquare (g i) (v i) := by
  unfold newSquare
  pointwise
theorem change_apply (w a v : FVec Ideal S8x1024x352 .f32) (i : S8x1024x352.Idx) : (mulf (num 0xBA83126F#32) (addf (Host.divf (Host.divf a (num 0x3F26BD02#32)) (addf (Host.sqrt (Host.divf v (num 0x3C231ACC#32))) (num 0x322BCC77#32))) (mulf (num 0x3C23D70A#32) w)) : FVec Ideal S8x1024x352 .f32) i = change (w i) (a i) (v i) := by
  unfold change
  pointwise

end Cert.Reference25Ideal.Result

namespace Cert.Proof.SumAdamw

open Idealize.ShloMosaic Idealize.ShloMosaic.TcCoe Idealize.SL.Sem
open Cert.Reference25Ideal.Result

/-- The kernel terminates without a fault, with its arguments unchanged and its counters at zero. -/
theorem frame_kernel : Cert.quiescent_Kernel25 (hKernel25 := Cert.Kernel25.Gen.facts) := fun m ρ _ => Cert.Kernel25.Gen.frame m ρ

/-- The same of the idealized kernel. -/
theorem frame_kernelIdeal : Cert.quiescent_Kernel25Ideal (hKernel25Ideal := Cert.Kernel25Ideal.Gen.facts) := fun m ρ _ => Cert.Kernel25Ideal.Gen.frame m ρ

/-- The same of the reference. -/
theorem frame_referenceIdeal : Cert.quiescent_Reference25Ideal (hReference25Ideal := Cert.Reference25Ideal.Gen.facts) := fun m ρ _ =>
  (θ_run Cert.Reference25Ideal.defs _ _).mono
    (fun r h => ⟨fun c => (h c).2.2.2.2, sem_eq_zero_of_no_sems (by decide) r.2⟩)
    (Cert.Reference25Ideal.Value.run (F := Ideal) m ρ)

/-- Over the extended reals the kernel computes the reference's values. -/
theorem algebraic : Cert.algebraic_Kernel25Ideal_Reference25Ideal (hKernel25Ideal := Cert.Kernel25Ideal.Gen.facts) (hReference25Ideal := Cert.Reference25Ideal.Gen.facts) := by
  intro m ρ m' ρ' _ hagree
  refine ⟨_, _, _, _, Cert.Kernel25Ideal.Value.run_blocks (F := Ideal) m ρ, ?_⟩
  refine (θ_run Cert.Reference25Ideal.defs _ _).mono (fun _ h c => ⟨(h c).1.trans ?_, (h c).2.1.trans ?_, (h c).2.2.1.trans ?_, (h c).2.2.2.1.trans ?_, (h c).2.2.2.2⟩)
    (Cert.Reference25Ideal.Value.run (F := Ideal) m' ρ')
  · rw [(hagree c).1, Cert.Kernel25Ideal.Result.final_4]
    exact funext fun i => sum_apply _ i
  · rw [(hagree c).1, (hagree c).2.1, (hagree c).2.2.1, (hagree c).2.2.2, Cert.Kernel25Ideal.Result.final_5]
    refine funext fun i => (change_apply _ _ _ i).trans ?_
    rw [mean_apply, square_apply, sum_apply]
    rfl
  · rw [(hagree c).1, (hagree c).2.2.1, Cert.Kernel25Ideal.Result.final_6]
    refine funext fun i => (mean_apply _ _ i).trans ?_
    rw [sum_apply]
    rfl
  · rw [(hagree c).1, (hagree c).2.2.2, Cert.Kernel25Ideal.Result.final_7]
    refine funext fun i => (square_apply _ _ i).trans ?_
    rw [sum_apply]
    rfl

end Cert.Proof.SumAdamw

end
-- ==== Proof.lean ====
/-
  The certificate. Of the attention's gradient, of the feed-forward block and its gradients, of the products of both mixers
  and their gradients, of the norm and its gradient, of the convolution and its gradients, and of the sum of a weight's
  gradient with the optimiser's step: the kernels and the references run to their end, leave their arguments unchanged and every counter at zero, the idealized kernels differ from the kernels in
  a named constant at most, and the kernels compute the references' values over the extended reals.
-/
module

public import proofs.«01_k».proof.Defs
public import proofs.«01_k».proof.Proof.Attn.Printed
public import proofs.«01_k».proof.Proof.Gen.ReferenceIdeal.Run
public import proofs.«01_k».proof.Proof.Value.Result
public import proofs.«01_k».proof.Proof.Ffn.Gates
public import proofs.«01_k».proof.Proof.Ffn.DownWeight
public import proofs.«01_k».proof.Proof.Ffn.Input
public import proofs.«01_k».proof.Proof.Ffn.GateWeight
public import proofs.«01_k».proof.Proof.Mixer.AttnInWeight
public import proofs.«01_k».proof.Proof.Mixer.DeltaInWeight
public import proofs.«01_k».proof.Proof.Mixer.AttnOutWeight
public import proofs.«01_k».proof.Proof.Mixer.DeltaOutWeight
public import proofs.«01_k».proof.Proof.Mixer.AttnInput
public import proofs.«01_k».proof.Proof.Mixer.DeltaInput
public import proofs.«01_k».proof.Proof.Mixer.AttnMerged
public import proofs.«01_k».proof.Proof.Mixer.DeltaOutput
public import proofs.«01_k».proof.Proof.Mixer.FfnDown
public import proofs.«01_k».proof.Proof.Mixer.AttnOut
public import proofs.«01_k».proof.Proof.Mixer.DeltaOut
public import proofs.«01_k».proof.Proof.Mixer.AttnProjection
public import proofs.«01_k».proof.Proof.Mixer.DeltaProjection
public import proofs.«01_k».proof.Proof.Mixer.FfnUp
public import proofs.«01_k».proof.Proof.Mixer.FfnDownLast
public import proofs.«01_k».proof.Proof.Mixer.NormGrad
public import proofs.«01_k».proof.Proof.Mixer.Norm
public import proofs.«01_k».proof.Proof.Mixer.ConvBackward
public import proofs.«01_k».proof.Proof.Mixer.ConvForward
public import proofs.«01_k».proof.Proof.Mixer.SumAdamw
public import Idealize.ShloMosaic.Lib.Quiescent

@[expose] public section

noncomputable section

namespace Cert.Proof

open Idealize.ShloMosaic Idealize.SL.Sem

/-- The kernel terminates without a fault, with its arguments unchanged and its counters at zero. -/
theorem frame_kernel : Cert.quiescent_Kernel := Cert.Kernel.Attn.frame

/-- The same of the idealized kernel. -/
theorem frame_kernelIdeal : Cert.quiescent_KernelIdeal := fun m ρ _ => Cert.KernelIdeal.Attn.frame m ρ

/-- The same of the reference, which runs on the host and declares no semaphore. -/
theorem frame_referenceIdeal : Cert.quiescent_ReferenceIdeal := fun m ρ _ =>
  (θ_run Cert.ReferenceIdeal.defs _ _).mono
    (fun r h => ⟨fun c => (h c).2.2.2.2, sem_eq_zero_of_no_sems (by decide) r.2⟩)
    (Cert.ReferenceIdeal.Value.run (F := Ideal) m ρ)

/-- The idealized kernel's frame, stated with the precondition. -/
theorem frame_kernelIdeal_finite : Cert.quiescent_KernelIdeal_pre_finite (hPre_finite := Attention.factsFinite) :=
  fun m ρ _ => Cert.KernelIdeal.Attn.frame m ρ

/-- The reference's frame, stated with the precondition. -/
theorem frame_referenceIdeal_finite : Cert.quiescent_ReferenceIdeal_pre_finite (hPre_finite := Attention.factsFinite) :=
  fun m ρ _ => frame_referenceIdeal m ρ trivial

/-- The idealized kernel is the kernel with its mask value named: the name stands for minus infinity. -/
theorem preserves : Cert.preserves_Kernel_KernelIdeal :=
  IdealRules.named_const.statement Cert.KernelIdeal.κ "mask" .f32 0xF149F2CA#32 ⊥ rfl

/-- The certificate's claims together. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Attention.factsFinite,
    frame_kernel, frame_kernelIdeal, frame_kernelIdeal_finite, frame_referenceIdeal, frame_referenceIdeal_finite,
    Gates.frame_kernel, Gates.frame_kernelIdeal, Gates.frame_referenceIdeal,
    DownWeight.frame_kernel, DownWeight.frame_kernelIdeal, DownWeight.frame_referenceIdeal,
    Input.frame_kernel, Input.frame_kernelIdeal, Input.frame_referenceIdeal,
    GateWeight.frame_kernel, GateWeight.frame_kernelIdeal, GateWeight.frame_referenceIdeal,
    AttnInWeight.frame_kernel, AttnInWeight.frame_kernelIdeal, AttnInWeight.frame_referenceIdeal,
    DeltaInWeight.frame_kernel, DeltaInWeight.frame_kernelIdeal, DeltaInWeight.frame_referenceIdeal,
    AttnOutWeight.frame_kernel, AttnOutWeight.frame_kernelIdeal, AttnOutWeight.frame_referenceIdeal,
    DeltaOutWeight.frame_kernel, DeltaOutWeight.frame_kernelIdeal, DeltaOutWeight.frame_referenceIdeal,
    AttnInput.frame_kernel, AttnInput.frame_kernelIdeal, AttnInput.frame_referenceIdeal,
    DeltaInput.frame_kernel, DeltaInput.frame_kernelIdeal, DeltaInput.frame_referenceIdeal,
    AttnMerged.frame_kernel, AttnMerged.frame_kernelIdeal, AttnMerged.frame_referenceIdeal,
    DeltaOutput.frame_kernel, DeltaOutput.frame_kernelIdeal, DeltaOutput.frame_referenceIdeal,
    FfnDown.frame_kernel, FfnDown.frame_kernelIdeal, FfnDown.frame_referenceIdeal,
    AttnOut.frame_kernel, AttnOut.frame_kernelIdeal, AttnOut.frame_referenceIdeal,
    DeltaOut.frame_kernel, DeltaOut.frame_kernelIdeal, DeltaOut.frame_referenceIdeal,
    AttnProjection.frame_kernel, AttnProjection.frame_kernelIdeal, AttnProjection.frame_referenceIdeal,
    DeltaProjection.frame_kernel, DeltaProjection.frame_kernelIdeal, DeltaProjection.frame_referenceIdeal,
    FfnUp.frame_kernel, FfnUp.frame_kernelIdeal, FfnUp.frame_referenceIdeal,
    FfnDownLast.frame_kernel, FfnDownLast.frame_kernelIdeal, FfnDownLast.frame_referenceIdeal,
    NormGrad.frame_kernel, NormGrad.frame_kernelIdeal, NormGrad.frame_referenceIdeal,
    Norm.frame_kernel, Norm.frame_kernelIdeal, Norm.frame_referenceIdeal,
    ConvBackward.frame_kernel, ConvBackward.frame_kernelIdeal, ConvBackward.frame_referenceIdeal,
    ConvForward.frame_kernel, ConvForward.frame_kernelIdeal, ConvForward.frame_referenceIdeal,
    SumAdamw.frame_kernel, SumAdamw.frame_kernelIdeal, SumAdamw.frame_referenceIdeal,
    preserves, Attention.algebraic,
    trivial, Gates.algebraic, trivial, DownWeight.algebraic, trivial, Input.algebraic, trivial, GateWeight.algebraic,
    trivial, AttnInWeight.algebraic,
    trivial, DeltaInWeight.algebraic,
    trivial, AttnOutWeight.algebraic,
    trivial, DeltaOutWeight.algebraic,
    trivial, AttnInput.algebraic,
    trivial, DeltaInput.algebraic,
    trivial, AttnMerged.algebraic,
    trivial, DeltaOutput.algebraic,
    trivial, FfnDown.algebraic,
    trivial, AttnOut.algebraic,
    trivial, DeltaOut.algebraic,
    trivial, AttnProjection.algebraic,
    trivial, DeltaProjection.algebraic,
    trivial, FfnUp.algebraic,
    trivial, FfnDownLast.algebraic,
    trivial, NormGrad.algebraic,
    trivial, Norm.algebraic,
    trivial, ConvBackward.algebraic,
    trivial, ConvForward.algebraic,
    trivial, SumAdamw.algebraic⟩

end Cert.Proof

end
